-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))).2.2 = (fun _ => 1#1)

def Pre_Cout (m : (ℓ : Loc Cert.Cout.nD Cert.Cout.τ Cert.Cout.sig) → Buf (Elt Bits) ℓ) : Prop :=
  True

def Pre_CoutIdeal (m : (ℓ : Loc Cert.CoutIdeal.nD Cert.CoutIdeal.τ Cert.CoutIdeal.sig) → Buf (Elt Ideal) ℓ) : Prop :=
  True

def Pre_CoutIdeal_cout_finite [hPre_cout_finite : Cert.Pre_cout_finite.Facts] (m : (ℓ : Loc Cert.CoutIdeal.nD Cert.CoutIdeal.τ Cert.CoutIdeal.sig) → Buf (Elt Ideal) ℓ) : Prop :=
  ∀ c : Dev Cert.CoutIdeal.nD,
    (Cert.Pre_cout_finite.fn (F := Ideal) (m ((c.tc : Thread Cert.CoutIdeal.nD Cert.CoutIdeal.τ).loc Cert.CoutIdeal.main_arg0)) (m ((c.tc : Thread Cert.CoutIdeal.nD Cert.CoutIdeal.τ).loc Cert.CoutIdeal.main_arg1)) (m ((c.tc : Thread Cert.CoutIdeal.nD Cert.CoutIdeal.τ).loc Cert.CoutIdeal.main_arg2)) (m ((c.tc : Thread Cert.CoutIdeal.nD Cert.CoutIdeal.τ).loc Cert.CoutIdeal.main_arg3)) (m ((c.tc : Thread Cert.CoutIdeal.nD Cert.CoutIdeal.τ).loc Cert.CoutIdeal.main_arg4))).1 = (fun _ => 1#1)
    ∧ (Cert.Pre_cout_finite.fn (F := Ideal) (m ((c.tc : Thread Cert.CoutIdeal.nD Cert.CoutIdeal.τ).loc Cert.CoutIdeal.main_arg0)) (m ((c.tc : Thread Cert.CoutIdeal.nD Cert.CoutIdeal.τ).loc Cert.CoutIdeal.main_arg1)) (m ((c.tc : Thread Cert.CoutIdeal.nD Cert.CoutIdeal.τ).loc Cert.CoutIdeal.main_arg2)) (m ((c.tc : Thread Cert.CoutIdeal.nD Cert.CoutIdeal.τ).loc Cert.CoutIdeal.main_arg3)) (m ((c.tc : Thread Cert.CoutIdeal.nD Cert.CoutIdeal.τ).loc Cert.CoutIdeal.main_arg4))).2.1 = (fun _ => 1#1)
    ∧ (Cert.Pre_cout_finite.fn (F := Ideal) (m ((c.tc : Thread Cert.CoutIdeal.nD Cert.CoutIdeal.τ).loc Cert.CoutIdeal.main_arg0)) (m ((c.tc : Thread Cert.CoutIdeal.nD Cert.CoutIdeal.τ).loc Cert.CoutIdeal.main_arg1)) (m ((c.tc : Thread Cert.CoutIdeal.nD Cert.CoutIdeal.τ).loc Cert.CoutIdeal.main_arg2)) (m ((c.tc : Thread Cert.CoutIdeal.nD Cert.CoutIdeal.τ).loc Cert.CoutIdeal.main_arg3)) (m ((c.tc : Thread Cert.CoutIdeal.nD Cert.CoutIdeal.τ).loc Cert.CoutIdeal.main_arg4))).2.2.1 = (fun _ => 1#1)
    ∧ (Cert.Pre_cout_finite.fn (F := Ideal) (m ((c.tc : Thread Cert.CoutIdeal.nD Cert.CoutIdeal.τ).loc Cert.CoutIdeal.main_arg0)) (m ((c.tc : Thread Cert.CoutIdeal.nD Cert.CoutIdeal.τ).loc Cert.CoutIdeal.main_arg1)) (m ((c.tc : Thread Cert.CoutIdeal.nD Cert.CoutIdeal.τ).loc Cert.CoutIdeal.main_arg2)) (m ((c.tc : Thread Cert.CoutIdeal.nD Cert.CoutIdeal.τ).loc Cert.CoutIdeal.main_arg3)) (m ((c.tc : Thread Cert.CoutIdeal.nD Cert.CoutIdeal.τ).loc Cert.CoutIdeal.main_arg4))).2.2.2.1 = (fun _ => 1#1)
    ∧ (Cert.Pre_cout_finite.fn (F := Ideal) (m ((c.tc : Thread Cert.CoutIdeal.nD Cert.CoutIdeal.τ).loc Cert.CoutIdeal.main_arg0)) (m ((c.tc : Thread Cert.CoutIdeal.nD Cert.CoutIdeal.τ).loc Cert.CoutIdeal.main_arg1)) (m ((c.tc : Thread Cert.CoutIdeal.nD Cert.CoutIdeal.τ).loc Cert.CoutIdeal.main_arg2)) (m ((c.tc : Thread Cert.CoutIdeal.nD Cert.CoutIdeal.τ).loc Cert.CoutIdeal.main_arg3)) (m ((c.tc : Thread Cert.CoutIdeal.nD Cert.CoutIdeal.τ).loc Cert.CoutIdeal.main_arg4))).2.2.2.2 = (fun _ => 1#1)

def Pre_CoutRefIdeal (m : (ℓ : Loc Cert.CoutRefIdeal.nD Cert.CoutRefIdeal.τ Cert.CoutRefIdeal.sig) → Buf (Elt Ideal) ℓ) : Prop :=
  True

def Pre_CoutRefIdeal_cout_finite [hPre_cout_finite : Cert.Pre_cout_finite.Facts] (m : (ℓ : Loc Cert.CoutRefIdeal.nD Cert.CoutRefIdeal.τ Cert.CoutRefIdeal.sig) → Buf (Elt Ideal) ℓ) : Prop :=
  ∀ c : Dev Cert.CoutRefIdeal.nD,
    (Cert.Pre_cout_finite.fn (F := Ideal) (m ((c.tc : Thread Cert.CoutRefIdeal.nD Cert.CoutRefIdeal.τ).loc Cert.CoutRefIdeal.main_arg0)) (m ((c.tc : Thread Cert.CoutRefIdeal.nD Cert.CoutRefIdeal.τ).loc Cert.CoutRefIdeal.main_arg1)) (m ((c.tc : Thread Cert.CoutRefIdeal.nD Cert.CoutRefIdeal.τ).loc Cert.CoutRefIdeal.main_arg2)) (m ((c.tc : Thread Cert.CoutRefIdeal.nD Cert.CoutRefIdeal.τ).loc Cert.CoutRefIdeal.main_arg3)) (m ((c.tc : Thread Cert.CoutRefIdeal.nD Cert.CoutRefIdeal.τ).loc Cert.CoutRefIdeal.main_arg4))).1 = (fun _ => 1#1)
    ∧ (Cert.Pre_cout_finite.fn (F := Ideal) (m ((c.tc : Thread Cert.CoutRefIdeal.nD Cert.CoutRefIdeal.τ).loc Cert.CoutRefIdeal.main_arg0)) (m ((c.tc : Thread Cert.CoutRefIdeal.nD Cert.CoutRefIdeal.τ).loc Cert.CoutRefIdeal.main_arg1)) (m ((c.tc : Thread Cert.CoutRefIdeal.nD Cert.CoutRefIdeal.τ).loc Cert.CoutRefIdeal.main_arg2)) (m ((c.tc : Thread Cert.CoutRefIdeal.nD Cert.CoutRefIdeal.τ).loc Cert.CoutRefIdeal.main_arg3)) (m ((c.tc : Thread Cert.CoutRefIdeal.nD Cert.CoutRefIdeal.τ).loc Cert.CoutRefIdeal.main_arg4))).2.1 = (fun _ => 1#1)
    ∧ (Cert.Pre_cout_finite.fn (F := Ideal) (m ((c.tc : Thread Cert.CoutRefIdeal.nD Cert.CoutRefIdeal.τ).loc Cert.CoutRefIdeal.main_arg0)) (m ((c.tc : Thread Cert.CoutRefIdeal.nD Cert.CoutRefIdeal.τ).loc Cert.CoutRefIdeal.main_arg1)) (m ((c.tc : Thread Cert.CoutRefIdeal.nD Cert.CoutRefIdeal.τ).loc Cert.CoutRefIdeal.main_arg2)) (m ((c.tc : Thread Cert.CoutRefIdeal.nD Cert.CoutRefIdeal.τ).loc Cert.CoutRefIdeal.main_arg3)) (m ((c.tc : Thread Cert.CoutRefIdeal.nD Cert.CoutRefIdeal.τ).loc Cert.CoutRefIdeal.main_arg4))).2.2.1 = (fun _ => 1#1)
    ∧ (Cert.Pre_cout_finite.fn (F := Ideal) (m ((c.tc : Thread Cert.CoutRefIdeal.nD Cert.CoutRefIdeal.τ).loc Cert.CoutRefIdeal.main_arg0)) (m ((c.tc : Thread Cert.CoutRefIdeal.nD Cert.CoutRefIdeal.τ).loc Cert.CoutRefIdeal.main_arg1)) (m ((c.tc : Thread Cert.CoutRefIdeal.nD Cert.CoutRefIdeal.τ).loc Cert.CoutRefIdeal.main_arg2)) (m ((c.tc : Thread Cert.CoutRefIdeal.nD Cert.CoutRefIdeal.τ).loc Cert.CoutRefIdeal.main_arg3)) (m ((c.tc : Thread Cert.CoutRefIdeal.nD Cert.CoutRefIdeal.τ).loc Cert.CoutRefIdeal.main_arg4))).2.2.2.1 = (fun _ => 1#1)
    ∧ (Cert.Pre_cout_finite.fn (F := Ideal) (m ((c.tc : Thread Cert.CoutRefIdeal.nD Cert.CoutRefIdeal.τ).loc Cert.CoutRefIdeal.main_arg0)) (m ((c.tc : Thread Cert.CoutRefIdeal.nD Cert.CoutRefIdeal.τ).loc Cert.CoutRefIdeal.main_arg1)) (m ((c.tc : Thread Cert.CoutRefIdeal.nD Cert.CoutRefIdeal.τ).loc Cert.CoutRefIdeal.main_arg2)) (m ((c.tc : Thread Cert.CoutRefIdeal.nD Cert.CoutRefIdeal.τ).loc Cert.CoutRefIdeal.main_arg3)) (m ((c.tc : Thread Cert.CoutRefIdeal.nD Cert.CoutRefIdeal.τ).loc Cert.CoutRefIdeal.main_arg4))).2.2.2.2 = (fun _ => 1#1)

def Pre_Grp (m : (ℓ : Loc Cert.Grp.nD Cert.Grp.τ Cert.Grp.sig) → Buf (Elt Bits) ℓ) : Prop :=
  True

def Pre_GrpIdeal (m : (ℓ : Loc Cert.GrpIdeal.nD Cert.GrpIdeal.τ Cert.GrpIdeal.sig) → Buf (Elt Ideal) ℓ) : Prop :=
  True

def Pre_GrpRefIdeal (m : (ℓ : Loc Cert.GrpRefIdeal.nD Cert.GrpRefIdeal.τ Cert.GrpRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2 = (fun _ => 1#1)

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.2 = (fun _ => 1#1)

def Pre_Cmid (m : (ℓ : Loc Cert.Cmid.nD Cert.Cmid.τ Cert.Cmid.sig) → Buf (Elt Bits) ℓ) : Prop :=
  True

def Pre_CmidIdeal (m : (ℓ : Loc Cert.CmidIdeal.nD Cert.CmidIdeal.τ Cert.CmidIdeal.sig) → Buf (Elt Ideal) ℓ) : Prop :=
  True

def Pre_CmidRefIdeal (m : (ℓ : Loc Cert.CmidRefIdeal.nD Cert.CmidRefIdeal.τ Cert.CmidRefIdeal.sig) → Buf (Elt Ideal) ℓ) : Prop :=
  True

def Pre_Cmidf (m : (ℓ : Loc Cert.Cmidf.nD Cert.Cmidf.τ Cert.Cmidf.sig) → Buf (Elt Bits) ℓ) : Prop :=
  True

def Pre_CmidfIdeal (m : (ℓ : Loc Cert.CmidfIdeal.nD Cert.CmidfIdeal.τ Cert.CmidfIdeal.sig) → Buf (Elt Ideal) ℓ) : Prop :=
  True

def Pre_CmidfRefIdeal (m : (ℓ : Loc Cert.CmidfRefIdeal.nD Cert.CmidfRefIdeal.τ Cert.CmidfRefIdeal.sig) → Buf (Elt Ideal) ℓ) : Prop :=
  True

def Pre_Col (m : (ℓ : Loc Cert.Col.nD Cert.Col.τ Cert.Col.sig) → Buf (Elt Bits) ℓ) : Prop :=
  True

def Pre_ColIdeal (m : (ℓ : Loc Cert.ColIdeal.nD Cert.ColIdeal.τ Cert.ColIdeal.sig) → Buf (Elt Ideal) ℓ) : Prop :=
  True

def Pre_ColRefIdeal (m : (ℓ : Loc Cert.ColRefIdeal.nD Cert.ColRefIdeal.τ Cert.ColRefIdeal.sig) → Buf (Elt Ideal) ℓ) : Prop :=
  True

def Pre_Poolf (m : (ℓ : Loc Cert.Poolf.nD Cert.Poolf.τ Cert.Poolf.sig) → Buf (Elt Bits) ℓ) : Prop :=
  True

def Pre_PoolfIdeal (m : (ℓ : Loc Cert.PoolfIdeal.nD Cert.PoolfIdeal.τ Cert.PoolfIdeal.sig) → Buf (Elt Ideal) ℓ) : Prop :=
  True

def Pre_PoolfIdeal_poolf_finite [hPre_poolf_finite : Cert.Pre_poolf_finite.Facts] (m : (ℓ : Loc Cert.PoolfIdeal.nD Cert.PoolfIdeal.τ Cert.PoolfIdeal.sig) → Buf (Elt Ideal) ℓ) : Prop :=
  ∀ c : Dev Cert.PoolfIdeal.nD,
    (Cert.Pre_poolf_finite.fn (F := Ideal) (m ((c.tc : Thread Cert.PoolfIdeal.nD Cert.PoolfIdeal.τ).loc Cert.PoolfIdeal.main_arg0)) (m ((c.tc : Thread Cert.PoolfIdeal.nD Cert.PoolfIdeal.τ).loc Cert.PoolfIdeal.main_arg1)) (m ((c.tc : Thread Cert.PoolfIdeal.nD Cert.PoolfIdeal.τ).loc Cert.PoolfIdeal.main_arg2)) (m ((c.tc : Thread Cert.PoolfIdeal.nD Cert.PoolfIdeal.τ).loc Cert.PoolfIdeal.main_arg3))).1 = (fun _ => 1#1)
    ∧ (Cert.Pre_poolf_finite.fn (F := Ideal) (m ((c.tc : Thread Cert.PoolfIdeal.nD Cert.PoolfIdeal.τ).loc Cert.PoolfIdeal.main_arg0)) (m ((c.tc : Thread Cert.PoolfIdeal.nD Cert.PoolfIdeal.τ).loc Cert.PoolfIdeal.main_arg1)) (m ((c.tc : Thread Cert.PoolfIdeal.nD Cert.PoolfIdeal.τ).loc Cert.PoolfIdeal.main_arg2)) (m ((c.tc : Thread Cert.PoolfIdeal.nD Cert.PoolfIdeal.τ).loc Cert.PoolfIdeal.main_arg3))).2 = (fun _ => 1#1)

def Pre_PoolfRefIdeal (m : (ℓ : Loc Cert.PoolfRefIdeal.nD Cert.PoolfRefIdeal.τ Cert.PoolfRefIdeal.sig) → Buf (Elt Ideal) ℓ) : Prop :=
  True

def Pre_PoolfRefIdeal_poolf_finite [hPre_poolf_finite : Cert.Pre_poolf_finite.Facts] (m : (ℓ : Loc Cert.PoolfRefIdeal.nD Cert.PoolfRefIdeal.τ Cert.PoolfRefIdeal.sig) → Buf (Elt Ideal) ℓ) : Prop :=
  ∀ c : Dev Cert.PoolfRefIdeal.nD,
    (Cert.Pre_poolf_finite.fn (F := Ideal) (m ((c.tc : Thread Cert.PoolfRefIdeal.nD Cert.PoolfRefIdeal.τ).loc Cert.PoolfRefIdeal.main_arg0)) (m ((c.tc : Thread Cert.PoolfRefIdeal.nD Cert.PoolfRefIdeal.τ).loc Cert.PoolfRefIdeal.main_arg1)) (m ((c.tc : Thread Cert.PoolfRefIdeal.nD Cert.PoolfRefIdeal.τ).loc Cert.PoolfRefIdeal.main_arg2)) (m ((c.tc : Thread Cert.PoolfRefIdeal.nD Cert.PoolfRefIdeal.τ).loc Cert.PoolfRefIdeal.main_arg3))).1 = (fun _ => 1#1)
    ∧ (Cert.Pre_poolf_finite.fn (F := Ideal) (m ((c.tc : Thread Cert.PoolfRefIdeal.nD Cert.PoolfRefIdeal.τ).loc Cert.PoolfRefIdeal.main_arg0)) (m ((c.tc : Thread Cert.PoolfRefIdeal.nD Cert.PoolfRefIdeal.τ).loc Cert.PoolfRefIdeal.main_arg1)) (m ((c.tc : Thread Cert.PoolfRefIdeal.nD Cert.PoolfRefIdeal.τ).loc Cert.PoolfRefIdeal.main_arg2)) (m ((c.tc : Thread Cert.PoolfRefIdeal.nD Cert.PoolfRefIdeal.τ).loc Cert.PoolfRefIdeal.main_arg3))).2 = (fun _ => 1#1)

def Pre_Sconvf (m : (ℓ : Loc Cert.Sconvf.nD Cert.Sconvf.τ Cert.Sconvf.sig) → Buf (Elt Bits) ℓ) : Prop :=
  True

def Pre_SconvfIdeal (m : (ℓ : Loc Cert.SconvfIdeal.nD Cert.SconvfIdeal.τ Cert.SconvfIdeal.sig) → Buf (Elt Ideal) ℓ) : Prop :=
  True

def Pre_SconvfRefIdeal (m : (ℓ : Loc Cert.SconvfRefIdeal.nD Cert.SconvfRefIdeal.τ Cert.SconvfRefIdeal.sig) → Buf (Elt Ideal) ℓ) : Prop :=
  True

def Pre_Normin (m : (ℓ : Loc Cert.Normin.nD Cert.Normin.τ Cert.Normin.sig) → Buf (Elt Bits) ℓ) : Prop :=
  True

def Pre_NorminIdeal (m : (ℓ : Loc Cert.NorminIdeal.nD Cert.NorminIdeal.τ Cert.NorminIdeal.sig) → Buf (Elt Ideal) ℓ) : Prop :=
  True

def Pre_NorminIdeal_normin_finite [hPre_normin_finite : Cert.Pre_normin_finite.Facts] (m : (ℓ : Loc Cert.NorminIdeal.nD Cert.NorminIdeal.τ Cert.NorminIdeal.sig) → Buf (Elt Ideal) ℓ) : Prop :=
  ∀ c : Dev Cert.NorminIdeal.nD,
    (Cert.Pre_normin_finite.fn (F := Ideal) (m ((c.tc : Thread Cert.NorminIdeal.nD Cert.NorminIdeal.τ).loc Cert.NorminIdeal.main_arg0)) (m ((c.tc : Thread Cert.NorminIdeal.nD Cert.NorminIdeal.τ).loc Cert.NorminIdeal.main_arg1)) (m ((c.tc : Thread Cert.NorminIdeal.nD Cert.NorminIdeal.τ).loc Cert.NorminIdeal.main_arg2)) (m ((c.tc : Thread Cert.NorminIdeal.nD Cert.NorminIdeal.τ).loc Cert.NorminIdeal.main_arg3)) (m ((c.tc : Thread Cert.NorminIdeal.nD Cert.NorminIdeal.τ).loc Cert.NorminIdeal.main_arg4))).1 = (fun _ => 1#1)
    ∧ (Cert.Pre_normin_finite.fn (F := Ideal) (m ((c.tc : Thread Cert.NorminIdeal.nD Cert.NorminIdeal.τ).loc Cert.NorminIdeal.main_arg0)) (m ((c.tc : Thread Cert.NorminIdeal.nD Cert.NorminIdeal.τ).loc Cert.NorminIdeal.main_arg1)) (m ((c.tc : Thread Cert.NorminIdeal.nD Cert.NorminIdeal.τ).loc Cert.NorminIdeal.main_arg2)) (m ((c.tc : Thread Cert.NorminIdeal.nD Cert.NorminIdeal.τ).loc Cert.NorminIdeal.main_arg3)) (m ((c.tc : Thread Cert.NorminIdeal.nD Cert.NorminIdeal.τ).loc Cert.NorminIdeal.main_arg4))).2.1 = (fun _ => 1#1)
    ∧ (Cert.Pre_normin_finite.fn (F := Ideal) (m ((c.tc : Thread Cert.NorminIdeal.nD Cert.NorminIdeal.τ).loc Cert.NorminIdeal.main_arg0)) (m ((c.tc : Thread Cert.NorminIdeal.nD Cert.NorminIdeal.τ).loc Cert.NorminIdeal.main_arg1)) (m ((c.tc : Thread Cert.NorminIdeal.nD Cert.NorminIdeal.τ).loc Cert.NorminIdeal.main_arg2)) (m ((c.tc : Thread Cert.NorminIdeal.nD Cert.NorminIdeal.τ).loc Cert.NorminIdeal.main_arg3)) (m ((c.tc : Thread Cert.NorminIdeal.nD Cert.NorminIdeal.τ).loc Cert.NorminIdeal.main_arg4))).2.2.1 = (fun _ => 1#1)
    ∧ (Cert.Pre_normin_finite.fn (F := Ideal) (m ((c.tc : Thread Cert.NorminIdeal.nD Cert.NorminIdeal.τ).loc Cert.NorminIdeal.main_arg0)) (m ((c.tc : Thread Cert.NorminIdeal.nD Cert.NorminIdeal.τ).loc Cert.NorminIdeal.main_arg1)) (m ((c.tc : Thread Cert.NorminIdeal.nD Cert.NorminIdeal.τ).loc Cert.NorminIdeal.main_arg2)) (m ((c.tc : Thread Cert.NorminIdeal.nD Cert.NorminIdeal.τ).loc Cert.NorminIdeal.main_arg3)) (m ((c.tc : Thread Cert.NorminIdeal.nD Cert.NorminIdeal.τ).loc Cert.NorminIdeal.main_arg4))).2.2.2 = (fun _ => 1#1)

def Pre_NorminRefIdeal (m : (ℓ : Loc Cert.NorminRefIdeal.nD Cert.NorminRefIdeal.τ Cert.NorminRefIdeal.sig) → Buf (Elt Ideal) ℓ) : Prop :=
  True

def Pre_NorminRefIdeal_normin_finite [hPre_normin_finite : Cert.Pre_normin_finite.Facts] (m : (ℓ : Loc Cert.NorminRefIdeal.nD Cert.NorminRefIdeal.τ Cert.NorminRefIdeal.sig) → Buf (Elt Ideal) ℓ) : Prop :=
  ∀ c : Dev Cert.NorminRefIdeal.nD,
    (Cert.Pre_normin_finite.fn (F := Ideal) (m ((c.tc : Thread Cert.NorminRefIdeal.nD Cert.NorminRefIdeal.τ).loc Cert.NorminRefIdeal.main_arg0)) (m ((c.tc : Thread Cert.NorminRefIdeal.nD Cert.NorminRefIdeal.τ).loc Cert.NorminRefIdeal.main_arg1)) (m ((c.tc : Thread Cert.NorminRefIdeal.nD Cert.NorminRefIdeal.τ).loc Cert.NorminRefIdeal.main_arg2)) (m ((c.tc : Thread Cert.NorminRefIdeal.nD Cert.NorminRefIdeal.τ).loc Cert.NorminRefIdeal.main_arg3)) (m ((c.tc : Thread Cert.NorminRefIdeal.nD Cert.NorminRefIdeal.τ).loc Cert.NorminRefIdeal.main_arg4))).1 = (fun _ => 1#1)
    ∧ (Cert.Pre_normin_finite.fn (F := Ideal) (m ((c.tc : Thread Cert.NorminRefIdeal.nD Cert.NorminRefIdeal.τ).loc Cert.NorminRefIdeal.main_arg0)) (m ((c.tc : Thread Cert.NorminRefIdeal.nD Cert.NorminRefIdeal.τ).loc Cert.NorminRefIdeal.main_arg1)) (m ((c.tc : Thread Cert.NorminRefIdeal.nD Cert.NorminRefIdeal.τ).loc Cert.NorminRefIdeal.main_arg2)) (m ((c.tc : Thread Cert.NorminRefIdeal.nD Cert.NorminRefIdeal.τ).loc Cert.NorminRefIdeal.main_arg3)) (m ((c.tc : Thread Cert.NorminRefIdeal.nD Cert.NorminRefIdeal.τ).loc Cert.NorminRefIdeal.main_arg4))).2.1 = (fun _ => 1#1)
    ∧ (Cert.Pre_normin_finite.fn (F := Ideal) (m ((c.tc : Thread Cert.NorminRefIdeal.nD Cert.NorminRefIdeal.τ).loc Cert.NorminRefIdeal.main_arg0)) (m ((c.tc : Thread Cert.NorminRefIdeal.nD Cert.NorminRefIdeal.τ).loc Cert.NorminRefIdeal.main_arg1)) (m ((c.tc : Thread Cert.NorminRefIdeal.nD Cert.NorminRefIdeal.τ).loc Cert.NorminRefIdeal.main_arg2)) (m ((c.tc : Thread Cert.NorminRefIdeal.nD Cert.NorminRefIdeal.τ).loc Cert.NorminRefIdeal.main_arg3)) (m ((c.tc : Thread Cert.NorminRefIdeal.nD Cert.NorminRefIdeal.τ).loc Cert.NorminRefIdeal.main_arg4))).2.2.1 = (fun _ => 1#1)
    ∧ (Cert.Pre_normin_finite.fn (F := Ideal) (m ((c.tc : Thread Cert.NorminRefIdeal.nD Cert.NorminRefIdeal.τ).loc Cert.NorminRefIdeal.main_arg0)) (m ((c.tc : Thread Cert.NorminRefIdeal.nD Cert.NorminRefIdeal.τ).loc Cert.NorminRefIdeal.main_arg1)) (m ((c.tc : Thread Cert.NorminRefIdeal.nD Cert.NorminRefIdeal.τ).loc Cert.NorminRefIdeal.main_arg2)) (m ((c.tc : Thread Cert.NorminRefIdeal.nD Cert.NorminRefIdeal.τ).loc Cert.NorminRefIdeal.main_arg3)) (m ((c.tc : Thread Cert.NorminRefIdeal.nD Cert.NorminRefIdeal.τ).loc Cert.NorminRefIdeal.main_arg4))).2.2.2 = (fun _ => 1#1)

def Pre_Normpw (m : (ℓ : Loc Cert.Normpw.nD Cert.Normpw.τ Cert.Normpw.sig) → Buf (Elt Bits) ℓ) : Prop :=
  True

def Pre_NormpwIdeal (m : (ℓ : Loc Cert.NormpwIdeal.nD Cert.NormpwIdeal.τ Cert.NormpwIdeal.sig) → Buf (Elt Ideal) ℓ) : Prop :=
  True

def Pre_NormpwIdeal_normpw_finite [hPre_normpw_finite : Cert.Pre_normpw_finite.Facts] (m : (ℓ : Loc Cert.NormpwIdeal.nD Cert.NormpwIdeal.τ Cert.NormpwIdeal.sig) → Buf (Elt Ideal) ℓ) : Prop :=
  ∀ c : Dev Cert.NormpwIdeal.nD,
    (Cert.Pre_normpw_finite.fn (F := Ideal) (m ((c.tc : Thread Cert.NormpwIdeal.nD Cert.NormpwIdeal.τ).loc Cert.NormpwIdeal.main_arg0)) (m ((c.tc : Thread Cert.NormpwIdeal.nD Cert.NormpwIdeal.τ).loc Cert.NormpwIdeal.main_arg1)) (m ((c.tc : Thread Cert.NormpwIdeal.nD Cert.NormpwIdeal.τ).loc Cert.NormpwIdeal.main_arg2)) (m ((c.tc : Thread Cert.NormpwIdeal.nD Cert.NormpwIdeal.τ).loc Cert.NormpwIdeal.main_arg3)) (m ((c.tc : Thread Cert.NormpwIdeal.nD Cert.NormpwIdeal.τ).loc Cert.NormpwIdeal.main_arg4))).1 = (fun _ => 1#1)
    ∧ (Cert.Pre_normpw_finite.fn (F := Ideal) (m ((c.tc : Thread Cert.NormpwIdeal.nD Cert.NormpwIdeal.τ).loc Cert.NormpwIdeal.main_arg0)) (m ((c.tc : Thread Cert.NormpwIdeal.nD Cert.NormpwIdeal.τ).loc Cert.NormpwIdeal.main_arg1)) (m ((c.tc : Thread Cert.NormpwIdeal.nD Cert.NormpwIdeal.τ).loc Cert.NormpwIdeal.main_arg2)) (m ((c.tc : Thread Cert.NormpwIdeal.nD Cert.NormpwIdeal.τ).loc Cert.NormpwIdeal.main_arg3)) (m ((c.tc : Thread Cert.NormpwIdeal.nD Cert.NormpwIdeal.τ).loc Cert.NormpwIdeal.main_arg4))).2.1 = (fun _ => 1#1)
    ∧ (Cert.Pre_normpw_finite.fn (F := Ideal) (m ((c.tc : Thread Cert.NormpwIdeal.nD Cert.NormpwIdeal.τ).loc Cert.NormpwIdeal.main_arg0)) (m ((c.tc : Thread Cert.NormpwIdeal.nD Cert.NormpwIdeal.τ).loc Cert.NormpwIdeal.main_arg1)) (m ((c.tc : Thread Cert.NormpwIdeal.nD Cert.NormpwIdeal.τ).loc Cert.NormpwIdeal.main_arg2)) (m ((c.tc : Thread Cert.NormpwIdeal.nD Cert.NormpwIdeal.τ).loc Cert.NormpwIdeal.main_arg3)) (m ((c.tc : Thread Cert.NormpwIdeal.nD Cert.NormpwIdeal.τ).loc Cert.NormpwIdeal.main_arg4))).2.2.1 = (fun _ => 1#1)
    ∧ (Cert.Pre_normpw_finite.fn (F := Ideal) (m ((c.tc : Thread Cert.NormpwIdeal.nD Cert.NormpwIdeal.τ).loc Cert.NormpwIdeal.main_arg0)) (m ((c.tc : Thread Cert.NormpwIdeal.nD Cert.NormpwIdeal.τ).loc Cert.NormpwIdeal.main_arg1)) (m ((c.tc : Thread Cert.NormpwIdeal.nD Cert.NormpwIdeal.τ).loc Cert.NormpwIdeal.main_arg2)) (m ((c.tc : Thread Cert.NormpwIdeal.nD Cert.NormpwIdeal.τ).loc Cert.NormpwIdeal.main_arg3)) (m ((c.tc : Thread Cert.NormpwIdeal.nD Cert.NormpwIdeal.τ).loc Cert.NormpwIdeal.main_arg4))).2.2.2 = (fun _ => 1#1)

def Pre_NormpwRefIdeal (m : (ℓ : Loc Cert.NormpwRefIdeal.nD Cert.NormpwRefIdeal.τ Cert.NormpwRefIdeal.sig) → Buf (Elt Ideal) ℓ) : Prop :=
  True

def Pre_NormpwRefIdeal_normpw_finite [hPre_normpw_finite : Cert.Pre_normpw_finite.Facts] (m : (ℓ : Loc Cert.NormpwRefIdeal.nD Cert.NormpwRefIdeal.τ Cert.NormpwRefIdeal.sig) → Buf (Elt Ideal) ℓ) : Prop :=
  ∀ c : Dev Cert.NormpwRefIdeal.nD,
    (Cert.Pre_normpw_finite.fn (F := Ideal) (m ((c.tc : Thread Cert.NormpwRefIdeal.nD Cert.NormpwRefIdeal.τ).loc Cert.NormpwRefIdeal.main_arg0)) (m ((c.tc : Thread Cert.NormpwRefIdeal.nD Cert.NormpwRefIdeal.τ).loc Cert.NormpwRefIdeal.main_arg1)) (m ((c.tc : Thread Cert.NormpwRefIdeal.nD Cert.NormpwRefIdeal.τ).loc Cert.NormpwRefIdeal.main_arg2)) (m ((c.tc : Thread Cert.NormpwRefIdeal.nD Cert.NormpwRefIdeal.τ).loc Cert.NormpwRefIdeal.main_arg3)) (m ((c.tc : Thread Cert.NormpwRefIdeal.nD Cert.NormpwRefIdeal.τ).loc Cert.NormpwRefIdeal.main_arg4))).1 = (fun _ => 1#1)
    ∧ (Cert.Pre_normpw_finite.fn (F := Ideal) (m ((c.tc : Thread Cert.NormpwRefIdeal.nD Cert.NormpwRefIdeal.τ).loc Cert.NormpwRefIdeal.main_arg0)) (m ((c.tc : Thread Cert.NormpwRefIdeal.nD Cert.NormpwRefIdeal.τ).loc Cert.NormpwRefIdeal.main_arg1)) (m ((c.tc : Thread Cert.NormpwRefIdeal.nD Cert.NormpwRefIdeal.τ).loc Cert.NormpwRefIdeal.main_arg2)) (m ((c.tc : Thread Cert.NormpwRefIdeal.nD Cert.NormpwRefIdeal.τ).loc Cert.NormpwRefIdeal.main_arg3)) (m ((c.tc : Thread Cert.NormpwRefIdeal.nD Cert.NormpwRefIdeal.τ).loc Cert.NormpwRefIdeal.main_arg4))).2.1 = (fun _ => 1#1)
    ∧ (Cert.Pre_normpw_finite.fn (F := Ideal) (m ((c.tc : Thread Cert.NormpwRefIdeal.nD Cert.NormpwRefIdeal.τ).loc Cert.NormpwRefIdeal.main_arg0)) (m ((c.tc : Thread Cert.NormpwRefIdeal.nD Cert.NormpwRefIdeal.τ).loc Cert.NormpwRefIdeal.main_arg1)) (m ((c.tc : Thread Cert.NormpwRefIdeal.nD Cert.NormpwRefIdeal.τ).loc Cert.NormpwRefIdeal.main_arg2)) (m ((c.tc : Thread Cert.NormpwRefIdeal.nD Cert.NormpwRefIdeal.τ).loc Cert.NormpwRefIdeal.main_arg3)) (m ((c.tc : Thread Cert.NormpwRefIdeal.nD Cert.NormpwRefIdeal.τ).loc Cert.NormpwRefIdeal.main_arg4))).2.2.1 = (fun _ => 1#1)
    ∧ (Cert.Pre_normpw_finite.fn (F := Ideal) (m ((c.tc : Thread Cert.NormpwRefIdeal.nD Cert.NormpwRefIdeal.τ).loc Cert.NormpwRefIdeal.main_arg0)) (m ((c.tc : Thread Cert.NormpwRefIdeal.nD Cert.NormpwRefIdeal.τ).loc Cert.NormpwRefIdeal.main_arg1)) (m ((c.tc : Thread Cert.NormpwRefIdeal.nD Cert.NormpwRefIdeal.τ).loc Cert.NormpwRefIdeal.main_arg2)) (m ((c.tc : Thread Cert.NormpwRefIdeal.nD Cert.NormpwRefIdeal.τ).loc Cert.NormpwRefIdeal.main_arg3)) (m ((c.tc : Thread Cert.NormpwRefIdeal.nD Cert.NormpwRefIdeal.τ).loc Cert.NormpwRefIdeal.main_arg4))).2.2.2 = (fun _ => 1#1)

def Pre_Colb (m : (ℓ : Loc Cert.Colb.nD Cert.Colb.τ Cert.Colb.sig) → Buf (Elt Bits) ℓ) : Prop :=
  True

def Pre_ColbIdeal (m : (ℓ : Loc Cert.ColbIdeal.nD Cert.ColbIdeal.τ Cert.ColbIdeal.sig) → Buf (Elt Ideal) ℓ) : Prop :=
  True

def Pre_ColbRefIdeal (m : (ℓ : Loc Cert.ColbRefIdeal.nD Cert.ColbRefIdeal.τ Cert.ColbRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Cout [hCout : Cert.Cout.Facts] : Prop :=
  ∀ (m : (ℓ : Loc Cert.Cout.nD Cert.Cout.τ Cert.Cout.sig) → Buf (Elt Bits) ℓ) (g : Dev Cert.Cout.nD → PrngReg), Pre_Cout m →
    θ_run (Cert.Cout.defs (F := Bits)) (onTc (τ := Cert.Cout.τ) (Cert.Cout.main (F := Bits))) ⟨m, fun _ => 0, g⟩ (fun r => (∀ c : Dev Cert.Cout.nD,
      r.2.mem ((c.tc : Thread Cert.Cout.nD Cert.Cout.τ).loc Cert.Cout.main_arg0) = m ((c.tc : Thread Cert.Cout.nD Cert.Cout.τ).loc Cert.Cout.main_arg0)
      ∧ r.2.mem ((c.tc : Thread Cert.Cout.nD Cert.Cout.τ).loc Cert.Cout.main_arg1) = m ((c.tc : Thread Cert.Cout.nD Cert.Cout.τ).loc Cert.Cout.main_arg1)
      ∧ r.2.mem ((c.tc : Thread Cert.Cout.nD Cert.Cout.τ).loc Cert.Cout.main_arg2) = m ((c.tc : Thread Cert.Cout.nD Cert.Cout.τ).loc Cert.Cout.main_arg2)
      ∧ r.2.mem ((c.tc : Thread Cert.Cout.nD Cert.Cout.τ).loc Cert.Cout.main_arg3) = m ((c.tc : Thread Cert.Cout.nD Cert.Cout.τ).loc Cert.Cout.main_arg3)
      ∧ r.2.mem ((c.tc : Thread Cert.Cout.nD Cert.Cout.τ).loc Cert.Cout.main_arg4) = m ((c.tc : Thread Cert.Cout.nD Cert.Cout.τ).loc Cert.Cout.main_arg4))
      ∧ r.2.sem = fun _ => 0)

def quiescent_CoutIdeal [hCoutIdeal : Cert.CoutIdeal.Facts] : Prop :=
  ∀ (m : (ℓ : Loc Cert.CoutIdeal.nD Cert.CoutIdeal.τ Cert.CoutIdeal.sig) → Buf (Elt Ideal) ℓ) (g : Dev Cert.CoutIdeal.nD → PrngReg), Pre_CoutIdeal m →
    θ_run (Cert.CoutIdeal.defs (F := Ideal)) (onTc (τ := Cert.CoutIdeal.τ) (Cert.CoutIdeal.main (F := Ideal))) ⟨m, fun _ => 0, g⟩ (fun r => (∀ c : Dev Cert.CoutIdeal.nD,
      r.2.mem ((c.tc : Thread Cert.CoutIdeal.nD Cert.CoutIdeal.τ).loc Cert.CoutIdeal.main_arg0) = m ((c.tc : Thread Cert.CoutIdeal.nD Cert.CoutIdeal.τ).loc Cert.CoutIdeal.main_arg0)
      ∧ r.2.mem ((c.tc : Thread Cert.CoutIdeal.nD Cert.CoutIdeal.τ).loc Cert.CoutIdeal.main_arg1) = m ((c.tc : Thread Cert.CoutIdeal.nD Cert.CoutIdeal.τ).loc Cert.CoutIdeal.main_arg1)
      ∧ r.2.mem ((c.tc : Thread Cert.CoutIdeal.nD Cert.CoutIdeal.τ).loc Cert.CoutIdeal.main_arg2) = m ((c.tc : Thread Cert.CoutIdeal.nD Cert.CoutIdeal.τ).loc Cert.CoutIdeal.main_arg2)
      ∧ r.2.mem ((c.tc : Thread Cert.CoutIdeal.nD Cert.CoutIdeal.τ).loc Cert.CoutIdeal.main_arg3) = m ((c.tc : Thread Cert.CoutIdeal.nD Cert.CoutIdeal.τ).loc Cert.CoutIdeal.main_arg3)
      ∧ r.2.mem ((c.tc : Thread Cert.CoutIdeal.nD Cert.CoutIdeal.τ).loc Cert.CoutIdeal.main_arg4) = m ((c.tc : Thread Cert.CoutIdeal.nD Cert.CoutIdeal.τ).loc Cert.CoutIdeal.main_arg4))
      ∧ r.2.sem = fun _ => 0)

def quiescent_CoutIdeal_pre_cout_finite [hCoutIdeal : Cert.CoutIdeal.Facts] [hPre_cout_finite : Cert.Pre_cout_finite.Facts] : Prop :=
  ∀ (m : (ℓ : Loc Cert.CoutIdeal.nD Cert.CoutIdeal.τ Cert.CoutIdeal.sig) → Buf (Elt Ideal) ℓ) (g : Dev Cert.CoutIdeal.nD → PrngReg), Pre_CoutIdeal_cout_finite m →
    θ_run (Cert.CoutIdeal.defs (F := Ideal)) (onTc (τ := Cert.CoutIdeal.τ) (Cert.CoutIdeal.main (F := Ideal))) ⟨m, fun _ => 0, g⟩ (fun r => (∀ c : Dev Cert.CoutIdeal.nD,
      r.2.mem ((c.tc : Thread Cert.CoutIdeal.nD Cert.CoutIdeal.τ).loc Cert.CoutIdeal.main_arg0) = m ((c.tc : Thread Cert.CoutIdeal.nD Cert.CoutIdeal.τ).loc Cert.CoutIdeal.main_arg0)
      ∧ r.2.mem ((c.tc : Thread Cert.CoutIdeal.nD Cert.CoutIdeal.τ).loc Cert.CoutIdeal.main_arg1) = m ((c.tc : Thread Cert.CoutIdeal.nD Cert.CoutIdeal.τ).loc Cert.CoutIdeal.main_arg1)
      ∧ r.2.mem ((c.tc : Thread Cert.CoutIdeal.nD Cert.CoutIdeal.τ).loc Cert.CoutIdeal.main_arg2) = m ((c.tc : Thread Cert.CoutIdeal.nD Cert.CoutIdeal.τ).loc Cert.CoutIdeal.main_arg2)
      ∧ r.2.mem ((c.tc : Thread Cert.CoutIdeal.nD Cert.CoutIdeal.τ).loc Cert.CoutIdeal.main_arg3) = m ((c.tc : Thread Cert.CoutIdeal.nD Cert.CoutIdeal.τ).loc Cert.CoutIdeal.main_arg3)
      ∧ r.2.mem ((c.tc : Thread Cert.CoutIdeal.nD Cert.CoutIdeal.τ).loc Cert.CoutIdeal.main_arg4) = m ((c.tc : Thread Cert.CoutIdeal.nD Cert.CoutIdeal.τ).loc Cert.CoutIdeal.main_arg4))
      ∧ r.2.sem = fun _ => 0)

def quiescent_CoutRefIdeal [hCoutRefIdeal : Cert.CoutRefIdeal.Facts] : Prop :=
  ∀ (m : (ℓ : Loc Cert.CoutRefIdeal.nD Cert.CoutRefIdeal.τ Cert.CoutRefIdeal.sig) → Buf (Elt Ideal) ℓ) (g : Dev Cert.CoutRefIdeal.nD → PrngReg), Pre_CoutRefIdeal m →
    θ_run (Cert.CoutRefIdeal.defs (F := Ideal)) (onTc (τ := Cert.CoutRefIdeal.τ) (Cert.CoutRefIdeal.main (F := Ideal))) ⟨m, fun _ => 0, g⟩ (fun r => (∀ c : Dev Cert.CoutRefIdeal.nD,
      r.2.mem ((c.tc : Thread Cert.CoutRefIdeal.nD Cert.CoutRefIdeal.τ).loc Cert.CoutRefIdeal.main_arg0) = m ((c.tc : Thread Cert.CoutRefIdeal.nD Cert.CoutRefIdeal.τ).loc Cert.CoutRefIdeal.main_arg0)
      ∧ r.2.mem ((c.tc : Thread Cert.CoutRefIdeal.nD Cert.CoutRefIdeal.τ).loc Cert.CoutRefIdeal.main_arg1) = m ((c.tc : Thread Cert.CoutRefIdeal.nD Cert.CoutRefIdeal.τ).loc Cert.CoutRefIdeal.main_arg1)
      ∧ r.2.mem ((c.tc : Thread Cert.CoutRefIdeal.nD Cert.CoutRefIdeal.τ).loc Cert.CoutRefIdeal.main_arg2) = m ((c.tc : Thread Cert.CoutRefIdeal.nD Cert.CoutRefIdeal.τ).loc Cert.CoutRefIdeal.main_arg2)
      ∧ r.2.mem ((c.tc : Thread Cert.CoutRefIdeal.nD Cert.CoutRefIdeal.τ).loc Cert.CoutRefIdeal.main_arg3) = m ((c.tc : Thread Cert.CoutRefIdeal.nD Cert.CoutRefIdeal.τ).loc Cert.CoutRefIdeal.main_arg3)
      ∧ r.2.mem ((c.tc : Thread Cert.CoutRefIdeal.nD Cert.CoutRefIdeal.τ).loc Cert.CoutRefIdeal.main_arg4) = m ((c.tc : Thread Cert.CoutRefIdeal.nD Cert.CoutRefIdeal.τ).loc Cert.CoutRefIdeal.main_arg4))
      ∧ r.2.sem = fun _ => 0)

def quiescent_CoutRefIdeal_pre_cout_finite [hCoutRefIdeal : Cert.CoutRefIdeal.Facts] [hPre_cout_finite : Cert.Pre_cout_finite.Facts] : Prop :=
  ∀ (m : (ℓ : Loc Cert.CoutRefIdeal.nD Cert.CoutRefIdeal.τ Cert.CoutRefIdeal.sig) → Buf (Elt Ideal) ℓ) (g : Dev Cert.CoutRefIdeal.nD → PrngReg), Pre_CoutRefIdeal_cout_finite m →
    θ_run (Cert.CoutRefIdeal.defs (F := Ideal)) (onTc (τ := Cert.CoutRefIdeal.τ) (Cert.CoutRefIdeal.main (F := Ideal))) ⟨m, fun _ => 0, g⟩ (fun r => (∀ c : Dev Cert.CoutRefIdeal.nD,
      r.2.mem ((c.tc : Thread Cert.CoutRefIdeal.nD Cert.CoutRefIdeal.τ).loc Cert.CoutRefIdeal.main_arg0) = m ((c.tc : Thread Cert.CoutRefIdeal.nD Cert.CoutRefIdeal.τ).loc Cert.CoutRefIdeal.main_arg0)
      ∧ r.2.mem ((c.tc : Thread Cert.CoutRefIdeal.nD Cert.CoutRefIdeal.τ).loc Cert.CoutRefIdeal.main_arg1) = m ((c.tc : Thread Cert.CoutRefIdeal.nD Cert.CoutRefIdeal.τ).loc Cert.CoutRefIdeal.main_arg1)
      ∧ r.2.mem ((c.tc : Thread Cert.CoutRefIdeal.nD Cert.CoutRefIdeal.τ).loc Cert.CoutRefIdeal.main_arg2) = m ((c.tc : Thread Cert.CoutRefIdeal.nD Cert.CoutRefIdeal.τ).loc Cert.CoutRefIdeal.main_arg2)
      ∧ r.2.mem ((c.tc : Thread Cert.CoutRefIdeal.nD Cert.CoutRefIdeal.τ).loc Cert.CoutRefIdeal.main_arg3) = m ((c.tc : Thread Cert.CoutRefIdeal.nD Cert.CoutRefIdeal.τ).loc Cert.CoutRefIdeal.main_arg3)
      ∧ r.2.mem ((c.tc : Thread Cert.CoutRefIdeal.nD Cert.CoutRefIdeal.τ).loc Cert.CoutRefIdeal.main_arg4) = m ((c.tc : Thread Cert.CoutRefIdeal.nD Cert.CoutRefIdeal.τ).loc Cert.CoutRefIdeal.main_arg4))
      ∧ r.2.sem = fun _ => 0)

def quiescent_Grp [hGrp : Cert.Grp.Facts] : Prop :=
  ∀ (m : (ℓ : Loc Cert.Grp.nD Cert.Grp.τ Cert.Grp.sig) → Buf (Elt Bits) ℓ) (g : Dev Cert.Grp.nD → PrngReg), Pre_Grp m →
    θ_run (Cert.Grp.defs (F := Bits)) (onTc (τ := Cert.Grp.τ) (Cert.Grp.main (F := Bits))) ⟨m, fun _ => 0, g⟩ (fun r => (∀ c : Dev Cert.Grp.nD,
      r.2.mem ((c.tc : Thread Cert.Grp.nD Cert.Grp.τ).loc Cert.Grp.main_arg0) = m ((c.tc : Thread Cert.Grp.nD Cert.Grp.τ).loc Cert.Grp.main_arg0)
      ∧ r.2.mem ((c.tc : Thread Cert.Grp.nD Cert.Grp.τ).loc Cert.Grp.main_arg1) = m ((c.tc : Thread Cert.Grp.nD Cert.Grp.τ).loc Cert.Grp.main_arg1)
      ∧ r.2.mem ((c.tc : Thread Cert.Grp.nD Cert.Grp.τ).loc Cert.Grp.main_arg2) = m ((c.tc : Thread Cert.Grp.nD Cert.Grp.τ).loc Cert.Grp.main_arg2)
      ∧ r.2.mem ((c.tc : Thread Cert.Grp.nD Cert.Grp.τ).loc Cert.Grp.main_arg3) = m ((c.tc : Thread Cert.Grp.nD Cert.Grp.τ).loc Cert.Grp.main_arg3))
      ∧ r.2.sem = fun _ => 0)

def quiescent_GrpIdeal [hGrpIdeal : Cert.GrpIdeal.Facts] : Prop :=
  ∀ (m : (ℓ : Loc Cert.GrpIdeal.nD Cert.GrpIdeal.τ Cert.GrpIdeal.sig) → Buf (Elt Ideal) ℓ) (g : Dev Cert.GrpIdeal.nD → PrngReg), Pre_GrpIdeal m →
    θ_run (Cert.GrpIdeal.defs (F := Ideal)) (onTc (τ := Cert.GrpIdeal.τ) (Cert.GrpIdeal.main (F := Ideal))) ⟨m, fun _ => 0, g⟩ (fun r => (∀ c : Dev Cert.GrpIdeal.nD,
      r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
      ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
      ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2)
      ∧ r.2.mem ((c.tc : Thread Cert.GrpIdeal.nD Cert.GrpIdeal.τ).loc Cert.GrpIdeal.main_arg3) = m ((c.tc : Thread Cert.GrpIdeal.nD Cert.GrpIdeal.τ).loc Cert.GrpIdeal.main_arg3))
      ∧ r.2.sem = fun _ => 0)

def quiescent_GrpRefIdeal [hGrpRefIdeal : Cert.GrpRefIdeal.Facts] : Prop :=
  ∀ (m : (ℓ : Loc Cert.GrpRefIdeal.nD Cert.GrpRefIdeal.τ Cert.GrpRefIdeal.sig) → Buf (Elt Ideal) ℓ) (g : Dev Cert.GrpRefIdeal.nD → PrngReg), Pre_GrpRefIdeal m →
    θ_run (Cert.GrpRefIdeal.defs (F := Ideal)) (onTc (τ := Cert.GrpRefIdeal.τ) (Cert.GrpRefIdeal.main (F := Ideal))) ⟨m, fun _ => 0, g⟩ (fun r => (∀ c : Dev Cert.GrpRefIdeal.nD,
      r.2.mem ((c.tc : Thread Cert.GrpRefIdeal.nD Cert.GrpRefIdeal.τ).loc Cert.GrpRefIdeal.main_arg0) = m ((c.tc : Thread Cert.GrpRefIdeal.nD Cert.GrpRefIdeal.τ).loc Cert.GrpRefIdeal.main_arg0)
      ∧ r.2.mem ((c.tc : Thread Cert.GrpRefIdeal.nD Cert.GrpRefIdeal.τ).loc Cert.GrpRefIdeal.main_arg1) = m ((c.tc : Thread Cert.GrpRefIdeal.nD Cert.GrpRefIdeal.τ).loc Cert.GrpRefIdeal.main_arg1)
      ∧ r.2.mem ((c.tc : Thread Cert.GrpRefIdeal.nD Cert.GrpRefIdeal.τ).loc Cert.GrpRefIdeal.main_arg2) = m ((c.tc : Thread Cert.GrpRefIdeal.nD Cert.GrpRefIdeal.τ).loc Cert.GrpRefIdeal.main_arg2)
      ∧ r.2.mem ((c.tc : Thread Cert.GrpRefIdeal.nD Cert.GrpRefIdeal.τ).loc Cert.GrpRefIdeal.main_arg3) = m ((c.tc : Thread Cert.GrpRefIdeal.nD Cert.GrpRefIdeal.τ).loc Cert.GrpRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Cmid [hCmid : Cert.Cmid.Facts] : Prop :=
  ∀ (m : (ℓ : Loc Cert.Cmid.nD Cert.Cmid.τ Cert.Cmid.sig) → Buf (Elt Bits) ℓ) (g : Dev Cert.Cmid.nD → PrngReg), Pre_Cmid m →
    θ_run (Cert.Cmid.defs (F := Bits)) (onTc (τ := Cert.Cmid.τ) (Cert.Cmid.main (F := Bits))) ⟨m, fun _ => 0, g⟩ (fun r => (∀ c : Dev Cert.Cmid.nD,
      r.2.mem ((c.tc : Thread Cert.Cmid.nD Cert.Cmid.τ).loc Cert.Cmid.main_arg0) = m ((c.tc : Thread Cert.Cmid.nD Cert.Cmid.τ).loc Cert.Cmid.main_arg0)
      ∧ r.2.mem ((c.tc : Thread Cert.Cmid.nD Cert.Cmid.τ).loc Cert.Cmid.main_arg1) = m ((c.tc : Thread Cert.Cmid.nD Cert.Cmid.τ).loc Cert.Cmid.main_arg1)
      ∧ r.2.mem ((c.tc : Thread Cert.Cmid.nD Cert.Cmid.τ).loc Cert.Cmid.main_arg2) = m ((c.tc : Thread Cert.Cmid.nD Cert.Cmid.τ).loc Cert.Cmid.main_arg2))
      ∧ r.2.sem = fun _ => 0)

def quiescent_CmidIdeal [hCmidIdeal : Cert.CmidIdeal.Facts] : Prop :=
  ∀ (m : (ℓ : Loc Cert.CmidIdeal.nD Cert.CmidIdeal.τ Cert.CmidIdeal.sig) → Buf (Elt Ideal) ℓ) (g : Dev Cert.CmidIdeal.nD → PrngReg), Pre_CmidIdeal m →
    θ_run (Cert.CmidIdeal.defs (F := Ideal)) (onTc (τ := Cert.CmidIdeal.τ) (Cert.CmidIdeal.main (F := Ideal))) ⟨m, fun _ => 0, g⟩ (fun r => (∀ c : Dev Cert.CmidIdeal.nD,
      r.2.mem ((c.tc : Thread Cert.CmidIdeal.nD Cert.CmidIdeal.τ).loc Cert.CmidIdeal.main_arg0) = m ((c.tc : Thread Cert.CmidIdeal.nD Cert.CmidIdeal.τ).loc Cert.CmidIdeal.main_arg0)
      ∧ r.2.mem ((c.tc : Thread Cert.CmidIdeal.nD Cert.CmidIdeal.τ).loc Cert.CmidIdeal.main_arg1) = m ((c.tc : Thread Cert.CmidIdeal.nD Cert.CmidIdeal.τ).loc Cert.CmidIdeal.main_arg1)
      ∧ r.2.mem ((c.tc : Thread Cert.CmidIdeal.nD Cert.CmidIdeal.τ).loc Cert.CmidIdeal.main_arg2) = m ((c.tc : Thread Cert.CmidIdeal.nD Cert.CmidIdeal.τ).loc Cert.CmidIdeal.main_arg2))
      ∧ r.2.sem = fun _ => 0)

def quiescent_CmidRefIdeal [hCmidRefIdeal : Cert.CmidRefIdeal.Facts] : Prop :=
  ∀ (m : (ℓ : Loc Cert.CmidRefIdeal.nD Cert.CmidRefIdeal.τ Cert.CmidRefIdeal.sig) → Buf (Elt Ideal) ℓ) (g : Dev Cert.CmidRefIdeal.nD → PrngReg), Pre_CmidRefIdeal m →
    θ_run (Cert.CmidRefIdeal.defs (F := Ideal)) (onTc (τ := Cert.CmidRefIdeal.τ) (Cert.CmidRefIdeal.main (F := Ideal))) ⟨m, fun _ => 0, g⟩ (fun r => (∀ c : Dev Cert.CmidRefIdeal.nD,
      r.2.mem ((c.tc : Thread Cert.CmidRefIdeal.nD Cert.CmidRefIdeal.τ).loc Cert.CmidRefIdeal.main_arg0) = m ((c.tc : Thread Cert.CmidRefIdeal.nD Cert.CmidRefIdeal.τ).loc Cert.CmidRefIdeal.main_arg0)
      ∧ r.2.mem ((c.tc : Thread Cert.CmidRefIdeal.nD Cert.CmidRefIdeal.τ).loc Cert.CmidRefIdeal.main_arg1) = m ((c.tc : Thread Cert.CmidRefIdeal.nD Cert.CmidRefIdeal.τ).loc Cert.CmidRefIdeal.main_arg1)
      ∧ r.2.mem ((c.tc : Thread Cert.CmidRefIdeal.nD Cert.CmidRefIdeal.τ).loc Cert.CmidRefIdeal.main_arg2) = m ((c.tc : Thread Cert.CmidRefIdeal.nD Cert.CmidRefIdeal.τ).loc Cert.CmidRefIdeal.main_arg2))
      ∧ r.2.sem = fun _ => 0)

def quiescent_Cmidf [hCmidf : Cert.Cmidf.Facts] : Prop :=
  ∀ (m : (ℓ : Loc Cert.Cmidf.nD Cert.Cmidf.τ Cert.Cmidf.sig) → Buf (Elt Bits) ℓ) (g : Dev Cert.Cmidf.nD → PrngReg), Pre_Cmidf m →
    θ_run (Cert.Cmidf.defs (F := Bits)) (onTc (τ := Cert.Cmidf.τ) (Cert.Cmidf.main (F := Bits))) ⟨m, fun _ => 0, g⟩ (fun r => (∀ c : Dev Cert.Cmidf.nD,
      r.2.mem ((c.tc : Thread Cert.Cmidf.nD Cert.Cmidf.τ).loc Cert.Cmidf.main_arg0) = m ((c.tc : Thread Cert.Cmidf.nD Cert.Cmidf.τ).loc Cert.Cmidf.main_arg0)
      ∧ r.2.mem ((c.tc : Thread Cert.Cmidf.nD Cert.Cmidf.τ).loc Cert.Cmidf.main_arg1) = m ((c.tc : Thread Cert.Cmidf.nD Cert.Cmidf.τ).loc Cert.Cmidf.main_arg1)
      ∧ r.2.mem ((c.tc : Thread Cert.Cmidf.nD Cert.Cmidf.τ).loc Cert.Cmidf.main_arg2) = m ((c.tc : Thread Cert.Cmidf.nD Cert.Cmidf.τ).loc Cert.Cmidf.main_arg2)
      ∧ r.2.mem ((c.tc : Thread Cert.Cmidf.nD Cert.Cmidf.τ).loc Cert.Cmidf.main_arg3) = m ((c.tc : Thread Cert.Cmidf.nD Cert.Cmidf.τ).loc Cert.Cmidf.main_arg3)
      ∧ r.2.mem ((c.tc : Thread Cert.Cmidf.nD Cert.Cmidf.τ).loc Cert.Cmidf.main_arg4) = m ((c.tc : Thread Cert.Cmidf.nD Cert.Cmidf.τ).loc Cert.Cmidf.main_arg4))
      ∧ r.2.sem = fun _ => 0)

def quiescent_CmidfIdeal [hCmidfIdeal : Cert.CmidfIdeal.Facts] : Prop :=
  ∀ (m : (ℓ : Loc Cert.CmidfIdeal.nD Cert.CmidfIdeal.τ Cert.CmidfIdeal.sig) → Buf (Elt Ideal) ℓ) (g : Dev Cert.CmidfIdeal.nD → PrngReg), Pre_CmidfIdeal m →
    θ_run (Cert.CmidfIdeal.defs (F := Ideal)) (onTc (τ := Cert.CmidfIdeal.τ) (Cert.CmidfIdeal.main (F := Ideal))) ⟨m, fun _ => 0, g⟩ (fun r => (∀ c : Dev Cert.CmidfIdeal.nD,
      r.2.mem ((c.tc : Thread Cert.CmidfIdeal.nD Cert.CmidfIdeal.τ).loc Cert.CmidfIdeal.main_arg0) = m ((c.tc : Thread Cert.CmidfIdeal.nD Cert.CmidfIdeal.τ).loc Cert.CmidfIdeal.main_arg0)
      ∧ r.2.mem ((c.tc : Thread Cert.CmidfIdeal.nD Cert.CmidfIdeal.τ).loc Cert.CmidfIdeal.main_arg1) = m ((c.tc : Thread Cert.CmidfIdeal.nD Cert.CmidfIdeal.τ).loc Cert.CmidfIdeal.main_arg1)
      ∧ r.2.mem ((c.tc : Thread Cert.CmidfIdeal.nD Cert.CmidfIdeal.τ).loc Cert.CmidfIdeal.main_arg2) = m ((c.tc : Thread Cert.CmidfIdeal.nD Cert.CmidfIdeal.τ).loc Cert.CmidfIdeal.main_arg2)
      ∧ r.2.mem ((c.tc : Thread Cert.CmidfIdeal.nD Cert.CmidfIdeal.τ).loc Cert.CmidfIdeal.main_arg3) = m ((c.tc : Thread Cert.CmidfIdeal.nD Cert.CmidfIdeal.τ).loc Cert.CmidfIdeal.main_arg3)
      ∧ r.2.mem ((c.tc : Thread Cert.CmidfIdeal.nD Cert.CmidfIdeal.τ).loc Cert.CmidfIdeal.main_arg4) = m ((c.tc : Thread Cert.CmidfIdeal.nD Cert.CmidfIdeal.τ).loc Cert.CmidfIdeal.main_arg4))
      ∧ r.2.sem = fun _ => 0)

def quiescent_CmidfRefIdeal [hCmidfRefIdeal : Cert.CmidfRefIdeal.Facts] : Prop :=
  ∀ (m : (ℓ : Loc Cert.CmidfRefIdeal.nD Cert.CmidfRefIdeal.τ Cert.CmidfRefIdeal.sig) → Buf (Elt Ideal) ℓ) (g : Dev Cert.CmidfRefIdeal.nD → PrngReg), Pre_CmidfRefIdeal m →
    θ_run (Cert.CmidfRefIdeal.defs (F := Ideal)) (onTc (τ := Cert.CmidfRefIdeal.τ) (Cert.CmidfRefIdeal.main (F := Ideal))) ⟨m, fun _ => 0, g⟩ (fun r => (∀ c : Dev Cert.CmidfRefIdeal.nD,
      r.2.mem ((c.tc : Thread Cert.CmidfRefIdeal.nD Cert.CmidfRefIdeal.τ).loc Cert.CmidfRefIdeal.main_arg0) = m ((c.tc : Thread Cert.CmidfRefIdeal.nD Cert.CmidfRefIdeal.τ).loc Cert.CmidfRefIdeal.main_arg0)
      ∧ r.2.mem ((c.tc : Thread Cert.CmidfRefIdeal.nD Cert.CmidfRefIdeal.τ).loc Cert.CmidfRefIdeal.main_arg1) = m ((c.tc : Thread Cert.CmidfRefIdeal.nD Cert.CmidfRefIdeal.τ).loc Cert.CmidfRefIdeal.main_arg1)
      ∧ r.2.mem ((c.tc : Thread Cert.CmidfRefIdeal.nD Cert.CmidfRefIdeal.τ).loc Cert.CmidfRefIdeal.main_arg2) = m ((c.tc : Thread Cert.CmidfRefIdeal.nD Cert.CmidfRefIdeal.τ).loc Cert.CmidfRefIdeal.main_arg2)
      ∧ r.2.mem ((c.tc : Thread Cert.CmidfRefIdeal.nD Cert.CmidfRefIdeal.τ).loc Cert.CmidfRefIdeal.main_arg3) = m ((c.tc : Thread Cert.CmidfRefIdeal.nD Cert.CmidfRefIdeal.τ).loc Cert.CmidfRefIdeal.main_arg3)
      ∧ r.2.mem ((c.tc : Thread Cert.CmidfRefIdeal.nD Cert.CmidfRefIdeal.τ).loc Cert.CmidfRefIdeal.main_arg4) = m ((c.tc : Thread Cert.CmidfRefIdeal.nD Cert.CmidfRefIdeal.τ).loc Cert.CmidfRefIdeal.main_arg4))
      ∧ r.2.sem = fun _ => 0)

def quiescent_Col [hCol : Cert.Col.Facts] : Prop :=
  ∀ (m : (ℓ : Loc Cert.Col.nD Cert.Col.τ Cert.Col.sig) → Buf (Elt Bits) ℓ) (g : Dev Cert.Col.nD → PrngReg), Pre_Col m →
    θ_run (Cert.Col.defs (F := Bits)) (onTc (τ := Cert.Col.τ) (Cert.Col.main (F := Bits))) ⟨m, fun _ => 0, g⟩ (fun r => (∀ c : Dev Cert.Col.nD,
      r.2.mem ((c.tc : Thread Cert.Col.nD Cert.Col.τ).loc Cert.Col.main_arg0) = m ((c.tc : Thread Cert.Col.nD Cert.Col.τ).loc Cert.Col.main_arg0)
      ∧ r.2.mem ((c.tc : Thread Cert.Col.nD Cert.Col.τ).loc Cert.Col.main_arg1) = m ((c.tc : Thread Cert.Col.nD Cert.Col.τ).loc Cert.Col.main_arg1)
      ∧ r.2.mem ((c.tc : Thread Cert.Col.nD Cert.Col.τ).loc Cert.Col.main_arg2) = m ((c.tc : Thread Cert.Col.nD Cert.Col.τ).loc Cert.Col.main_arg2))
      ∧ r.2.sem = fun _ => 0)

def quiescent_ColIdeal [hColIdeal : Cert.ColIdeal.Facts] : Prop :=
  ∀ (m : (ℓ : Loc Cert.ColIdeal.nD Cert.ColIdeal.τ Cert.ColIdeal.sig) → Buf (Elt Ideal) ℓ) (g : Dev Cert.ColIdeal.nD → PrngReg), Pre_ColIdeal m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2))
      ∧ r.2.sem = fun _ => 0)

def quiescent_ColRefIdeal [hColRefIdeal : Cert.ColRefIdeal.Facts] : Prop :=
  ∀ (m : (ℓ : Loc Cert.ColRefIdeal.nD Cert.ColRefIdeal.τ Cert.ColRefIdeal.sig) → Buf (Elt Ideal) ℓ) (g : Dev Cert.ColRefIdeal.nD → PrngReg), Pre_ColRefIdeal m →
    θ_run (Cert.ColRefIdeal.defs (F := Ideal)) (onTc (τ := Cert.ColRefIdeal.τ) (Cert.ColRefIdeal.main (F := Ideal))) ⟨m, fun _ => 0, g⟩ (fun r => (∀ c : Dev Cert.ColRefIdeal.nD,
      r.2.mem ((c.tc : Thread Cert.ColRefIdeal.nD Cert.ColRefIdeal.τ).loc Cert.ColRefIdeal.main_arg0) = m ((c.tc : Thread Cert.ColRefIdeal.nD Cert.ColRefIdeal.τ).loc Cert.ColRefIdeal.main_arg0)
      ∧ r.2.mem ((c.tc : Thread Cert.ColRefIdeal.nD Cert.ColRefIdeal.τ).loc Cert.ColRefIdeal.main_arg1) = m ((c.tc : Thread Cert.ColRefIdeal.nD Cert.ColRefIdeal.τ).loc Cert.ColRefIdeal.main_arg1)
      ∧ r.2.mem ((c.tc : Thread Cert.ColRefIdeal.nD Cert.ColRefIdeal.τ).loc Cert.ColRefIdeal.main_arg2) = m ((c.tc : Thread Cert.ColRefIdeal.nD Cert.ColRefIdeal.τ).loc Cert.ColRefIdeal.main_arg2))
      ∧ r.2.sem = fun _ => 0)

def quiescent_Poolf [hPoolf : Cert.Poolf.Facts] : Prop :=
  ∀ (m : (ℓ : Loc Cert.Poolf.nD Cert.Poolf.τ Cert.Poolf.sig) → Buf (Elt Bits) ℓ) (g : Dev Cert.Poolf.nD → PrngReg), Pre_Poolf m →
    θ_run (Cert.Poolf.defs (F := Bits)) (onTc (τ := Cert.Poolf.τ) (Cert.Poolf.main (F := Bits))) ⟨m, fun _ => 0, g⟩ (fun r => (∀ c : Dev Cert.Poolf.nD,
      r.2.mem ((c.tc : Thread Cert.Poolf.nD Cert.Poolf.τ).loc Cert.Poolf.main_arg0) = m ((c.tc : Thread Cert.Poolf.nD Cert.Poolf.τ).loc Cert.Poolf.main_arg0)
      ∧ r.2.mem ((c.tc : Thread Cert.Poolf.nD Cert.Poolf.τ).loc Cert.Poolf.main_arg1) = m ((c.tc : Thread Cert.Poolf.nD Cert.Poolf.τ).loc Cert.Poolf.main_arg1)
      ∧ r.2.mem ((c.tc : Thread Cert.Poolf.nD Cert.Poolf.τ).loc Cert.Poolf.main_arg2) = m ((c.tc : Thread Cert.Poolf.nD Cert.Poolf.τ).loc Cert.Poolf.main_arg2)
      ∧ r.2.mem ((c.tc : Thread Cert.Poolf.nD Cert.Poolf.τ).loc Cert.Poolf.main_arg3) = m ((c.tc : Thread Cert.Poolf.nD Cert.Poolf.τ).loc Cert.Poolf.main_arg3))
      ∧ r.2.sem = fun _ => 0)

def quiescent_PoolfIdeal [hPoolfIdeal : Cert.PoolfIdeal.Facts] : Prop :=
  ∀ (m : (ℓ : Loc Cert.PoolfIdeal.nD Cert.PoolfIdeal.τ Cert.PoolfIdeal.sig) → Buf (Elt Ideal) ℓ) (g : Dev Cert.PoolfIdeal.nD → PrngReg), Pre_PoolfIdeal m →
    θ_run (Cert.PoolfIdeal.defs (F := Ideal)) (onTc (τ := Cert.PoolfIdeal.τ) (Cert.PoolfIdeal.main (F := Ideal))) ⟨m, fun _ => 0, g⟩ (fun r => (∀ c : Dev Cert.PoolfIdeal.nD,
      r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
      ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
      ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2)
      ∧ r.2.mem ((c.tc : Thread Cert.PoolfIdeal.nD Cert.PoolfIdeal.τ).loc Cert.PoolfIdeal.main_arg3) = m ((c.tc : Thread Cert.PoolfIdeal.nD Cert.PoolfIdeal.τ).loc Cert.PoolfIdeal.main_arg3))
      ∧ r.2.sem = fun _ => 0)

def quiescent_PoolfIdeal_pre_poolf_finite [hPoolfIdeal : Cert.PoolfIdeal.Facts] [hPre_poolf_finite : Cert.Pre_poolf_finite.Facts] : Prop :=
  ∀ (m : (ℓ : Loc Cert.PoolfIdeal.nD Cert.PoolfIdeal.τ Cert.PoolfIdeal.sig) → Buf (Elt Ideal) ℓ) (g : Dev Cert.PoolfIdeal.nD → PrngReg), Pre_PoolfIdeal_poolf_finite m →
    θ_run (Cert.PoolfIdeal.defs (F := Ideal)) (onTc (τ := Cert.PoolfIdeal.τ) (Cert.PoolfIdeal.main (F := Ideal))) ⟨m, fun _ => 0, g⟩ (fun r => (∀ c : Dev Cert.PoolfIdeal.nD,
      r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
      ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
      ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2)
      ∧ r.2.mem ((c.tc : Thread Cert.PoolfIdeal.nD Cert.PoolfIdeal.τ).loc Cert.PoolfIdeal.main_arg3) = m ((c.tc : Thread Cert.PoolfIdeal.nD Cert.PoolfIdeal.τ).loc Cert.PoolfIdeal.main_arg3))
      ∧ r.2.sem = fun _ => 0)

def quiescent_PoolfRefIdeal [hPoolfRefIdeal : Cert.PoolfRefIdeal.Facts] : Prop :=
  ∀ (m : (ℓ : Loc Cert.PoolfRefIdeal.nD Cert.PoolfRefIdeal.τ Cert.PoolfRefIdeal.sig) → Buf (Elt Ideal) ℓ) (g : Dev Cert.PoolfRefIdeal.nD → PrngReg), Pre_PoolfRefIdeal m →
    θ_run (Cert.PoolfRefIdeal.defs (F := Ideal)) (onTc (τ := Cert.PoolfRefIdeal.τ) (Cert.PoolfRefIdeal.main (F := Ideal))) ⟨m, fun _ => 0, g⟩ (fun r => (∀ c : Dev Cert.PoolfRefIdeal.nD,
      r.2.mem ((c.tc : Thread Cert.PoolfRefIdeal.nD Cert.PoolfRefIdeal.τ).loc Cert.PoolfRefIdeal.main_arg0) = m ((c.tc : Thread Cert.PoolfRefIdeal.nD Cert.PoolfRefIdeal.τ).loc Cert.PoolfRefIdeal.main_arg0)
      ∧ r.2.mem ((c.tc : Thread Cert.PoolfRefIdeal.nD Cert.PoolfRefIdeal.τ).loc Cert.PoolfRefIdeal.main_arg1) = m ((c.tc : Thread Cert.PoolfRefIdeal.nD Cert.PoolfRefIdeal.τ).loc Cert.PoolfRefIdeal.main_arg1)
      ∧ r.2.mem ((c.tc : Thread Cert.PoolfRefIdeal.nD Cert.PoolfRefIdeal.τ).loc Cert.PoolfRefIdeal.main_arg2) = m ((c.tc : Thread Cert.PoolfRefIdeal.nD Cert.PoolfRefIdeal.τ).loc Cert.PoolfRefIdeal.main_arg2)
      ∧ r.2.mem ((c.tc : Thread Cert.PoolfRefIdeal.nD Cert.PoolfRefIdeal.τ).loc Cert.PoolfRefIdeal.main_arg3) = m ((c.tc : Thread Cert.PoolfRefIdeal.nD Cert.PoolfRefIdeal.τ).loc Cert.PoolfRefIdeal.main_arg3))
      ∧ r.2.sem = fun _ => 0)

def quiescent_PoolfRefIdeal_pre_poolf_finite [hPoolfRefIdeal : Cert.PoolfRefIdeal.Facts] [hPre_poolf_finite : Cert.Pre_poolf_finite.Facts] : Prop :=
  ∀ (m : (ℓ : Loc Cert.PoolfRefIdeal.nD Cert.PoolfRefIdeal.τ Cert.PoolfRefIdeal.sig) → Buf (Elt Ideal) ℓ) (g : Dev Cert.PoolfRefIdeal.nD → PrngReg), Pre_PoolfRefIdeal_poolf_finite m →
    θ_run (Cert.PoolfRefIdeal.defs (F := Ideal)) (onTc (τ := Cert.PoolfRefIdeal.τ) (Cert.PoolfRefIdeal.main (F := Ideal))) ⟨m, fun _ => 0, g⟩ (fun r => (∀ c : Dev Cert.PoolfRefIdeal.nD,
      r.2.mem ((c.tc : Thread Cert.PoolfRefIdeal.nD Cert.PoolfRefIdeal.τ).loc Cert.PoolfRefIdeal.main_arg0) = m ((c.tc : Thread Cert.PoolfRefIdeal.nD Cert.PoolfRefIdeal.τ).loc Cert.PoolfRefIdeal.main_arg0)
      ∧ r.2.mem ((c.tc : Thread Cert.PoolfRefIdeal.nD Cert.PoolfRefIdeal.τ).loc Cert.PoolfRefIdeal.main_arg1) = m ((c.tc : Thread Cert.PoolfRefIdeal.nD Cert.PoolfRefIdeal.τ).loc Cert.PoolfRefIdeal.main_arg1)
      ∧ r.2.mem ((c.tc : Thread Cert.PoolfRefIdeal.nD Cert.PoolfRefIdeal.τ).loc Cert.PoolfRefIdeal.main_arg2) = m ((c.tc : Thread Cert.PoolfRefIdeal.nD Cert.PoolfRefIdeal.τ).loc Cert.PoolfRefIdeal.main_arg2)
      ∧ r.2.mem ((c.tc : Thread Cert.PoolfRefIdeal.nD Cert.PoolfRefIdeal.τ).loc Cert.PoolfRefIdeal.main_arg3) = m ((c.tc : Thread Cert.PoolfRefIdeal.nD Cert.PoolfRefIdeal.τ).loc Cert.PoolfRefIdeal.main_arg3))
      ∧ r.2.sem = fun _ => 0)

def quiescent_Sconvf [hSconvf : Cert.Sconvf.Facts] : Prop :=
  ∀ (m : (ℓ : Loc Cert.Sconvf.nD Cert.Sconvf.τ Cert.Sconvf.sig) → Buf (Elt Bits) ℓ) (g : Dev Cert.Sconvf.nD → PrngReg), Pre_Sconvf m →
    θ_run (Cert.Sconvf.defs (F := Bits)) (onTc (τ := Cert.Sconvf.τ) (Cert.Sconvf.main (F := Bits))) ⟨m, fun _ => 0, g⟩ (fun r => (∀ c : Dev Cert.Sconvf.nD,
      r.2.mem ((c.tc : Thread Cert.Sconvf.nD Cert.Sconvf.τ).loc Cert.Sconvf.main_arg0) = m ((c.tc : Thread Cert.Sconvf.nD Cert.Sconvf.τ).loc Cert.Sconvf.main_arg0)
      ∧ r.2.mem ((c.tc : Thread Cert.Sconvf.nD Cert.Sconvf.τ).loc Cert.Sconvf.main_arg1) = m ((c.tc : Thread Cert.Sconvf.nD Cert.Sconvf.τ).loc Cert.Sconvf.main_arg1))
      ∧ r.2.sem = fun _ => 0)

def quiescent_SconvfIdeal [hSconvfIdeal : Cert.SconvfIdeal.Facts] : Prop :=
  ∀ (m : (ℓ : Loc Cert.SconvfIdeal.nD Cert.SconvfIdeal.τ Cert.SconvfIdeal.sig) → Buf (Elt Ideal) ℓ) (g : Dev Cert.SconvfIdeal.nD → PrngReg), Pre_SconvfIdeal m →
    θ_run (Cert.SconvfIdeal.defs (F := Ideal)) (onTc (τ := Cert.SconvfIdeal.τ) (Cert.SconvfIdeal.main (F := Ideal))) ⟨m, fun _ => 0, g⟩ (fun r => (∀ c : Dev Cert.SconvfIdeal.nD,
      r.2.mem ((c.tc : Thread Cert.SconvfIdeal.nD Cert.SconvfIdeal.τ).loc Cert.SconvfIdeal.main_arg0) = m ((c.tc : Thread Cert.SconvfIdeal.nD Cert.SconvfIdeal.τ).loc Cert.SconvfIdeal.main_arg0)
      ∧ r.2.mem ((c.tc : Thread Cert.SconvfIdeal.nD Cert.SconvfIdeal.τ).loc Cert.SconvfIdeal.main_arg1) = m ((c.tc : Thread Cert.SconvfIdeal.nD Cert.SconvfIdeal.τ).loc Cert.SconvfIdeal.main_arg1))
      ∧ r.2.sem = fun _ => 0)

def quiescent_SconvfRefIdeal [hSconvfRefIdeal : Cert.SconvfRefIdeal.Facts] : Prop :=
  ∀ (m : (ℓ : Loc Cert.SconvfRefIdeal.nD Cert.SconvfRefIdeal.τ Cert.SconvfRefIdeal.sig) → Buf (Elt Ideal) ℓ) (g : Dev Cert.SconvfRefIdeal.nD → PrngReg), Pre_SconvfRefIdeal m →
    θ_run (Cert.SconvfRefIdeal.defs (F := Ideal)) (onTc (τ := Cert.SconvfRefIdeal.τ) (Cert.SconvfRefIdeal.main (F := Ideal))) ⟨m, fun _ => 0, g⟩ (fun r => (∀ c : Dev Cert.SconvfRefIdeal.nD,
      r.2.mem ((c.tc : Thread Cert.SconvfRefIdeal.nD Cert.SconvfRefIdeal.τ).loc Cert.SconvfRefIdeal.main_arg0) = m ((c.tc : Thread Cert.SconvfRefIdeal.nD Cert.SconvfRefIdeal.τ).loc Cert.SconvfRefIdeal.main_arg0)
      ∧ r.2.mem ((c.tc : Thread Cert.SconvfRefIdeal.nD Cert.SconvfRefIdeal.τ).loc Cert.SconvfRefIdeal.main_arg1) = m ((c.tc : Thread Cert.SconvfRefIdeal.nD Cert.SconvfRefIdeal.τ).loc Cert.SconvfRefIdeal.main_arg1))
      ∧ r.2.sem = fun _ => 0)

def quiescent_Normin [hNormin : Cert.Normin.Facts] : Prop :=
  ∀ (m : (ℓ : Loc Cert.Normin.nD Cert.Normin.τ Cert.Normin.sig) → Buf (Elt Bits) ℓ) (g : Dev Cert.Normin.nD → PrngReg), Pre_Normin m →
    θ_run (Cert.Normin.defs (F := Bits)) (onTc (τ := Cert.Normin.τ) (Cert.Normin.main (F := Bits))) ⟨m, fun _ => 0, g⟩ (fun r => (∀ c : Dev Cert.Normin.nD,
      r.2.mem ((c.tc : Thread Cert.Normin.nD Cert.Normin.τ).loc Cert.Normin.main_arg0) = m ((c.tc : Thread Cert.Normin.nD Cert.Normin.τ).loc Cert.Normin.main_arg0)
      ∧ r.2.mem ((c.tc : Thread Cert.Normin.nD Cert.Normin.τ).loc Cert.Normin.main_arg1) = m ((c.tc : Thread Cert.Normin.nD Cert.Normin.τ).loc Cert.Normin.main_arg1)
      ∧ r.2.mem ((c.tc : Thread Cert.Normin.nD Cert.Normin.τ).loc Cert.Normin.main_arg2) = m ((c.tc : Thread Cert.Normin.nD Cert.Normin.τ).loc Cert.Normin.main_arg2)
      ∧ r.2.mem ((c.tc : Thread Cert.Normin.nD Cert.Normin.τ).loc Cert.Normin.main_arg3) = m ((c.tc : Thread Cert.Normin.nD Cert.Normin.τ).loc Cert.Normin.main_arg3)
      ∧ r.2.mem ((c.tc : Thread Cert.Normin.nD Cert.Normin.τ).loc Cert.Normin.main_arg4) = m ((c.tc : Thread Cert.Normin.nD Cert.Normin.τ).loc Cert.Normin.main_arg4))
      ∧ r.2.sem = fun _ => 0)

def quiescent_NorminIdeal [hNorminIdeal : Cert.NorminIdeal.Facts] : Prop :=
  ∀ (m : (ℓ : Loc Cert.NorminIdeal.nD Cert.NorminIdeal.τ Cert.NorminIdeal.sig) → Buf (Elt Ideal) ℓ) (g : Dev Cert.NorminIdeal.nD → PrngReg), Pre_NorminIdeal m →
    θ_run (Cert.NorminIdeal.defs (F := Ideal)) (onTc (τ := Cert.NorminIdeal.τ) (Cert.NorminIdeal.main (F := Ideal))) ⟨m, fun _ => 0, g⟩ (fun r => (∀ c : Dev Cert.NorminIdeal.nD,
      r.2.mem ((c.tc : Thread Cert.NorminIdeal.nD Cert.NorminIdeal.τ).loc Cert.NorminIdeal.main_arg0) = m ((c.tc : Thread Cert.NorminIdeal.nD Cert.NorminIdeal.τ).loc Cert.NorminIdeal.main_arg0)
      ∧ r.2.mem ((c.tc : Thread Cert.NorminIdeal.nD Cert.NorminIdeal.τ).loc Cert.NorminIdeal.main_arg1) = m ((c.tc : Thread Cert.NorminIdeal.nD Cert.NorminIdeal.τ).loc Cert.NorminIdeal.main_arg1)
      ∧ r.2.mem ((c.tc : Thread Cert.NorminIdeal.nD Cert.NorminIdeal.τ).loc Cert.NorminIdeal.main_arg2) = m ((c.tc : Thread Cert.NorminIdeal.nD Cert.NorminIdeal.τ).loc Cert.NorminIdeal.main_arg2)
      ∧ r.2.mem ((c.tc : Thread Cert.NorminIdeal.nD Cert.NorminIdeal.τ).loc Cert.NorminIdeal.main_arg3) = m ((c.tc : Thread Cert.NorminIdeal.nD Cert.NorminIdeal.τ).loc Cert.NorminIdeal.main_arg3)
      ∧ r.2.mem ((c.tc : Thread Cert.NorminIdeal.nD Cert.NorminIdeal.τ).loc Cert.NorminIdeal.main_arg4) = m ((c.tc : Thread Cert.NorminIdeal.nD Cert.NorminIdeal.τ).loc Cert.NorminIdeal.main_arg4))
      ∧ r.2.sem = fun _ => 0)

def quiescent_NorminIdeal_pre_normin_finite [hNorminIdeal : Cert.NorminIdeal.Facts] [hPre_normin_finite : Cert.Pre_normin_finite.Facts] : Prop :=
  ∀ (m : (ℓ : Loc Cert.NorminIdeal.nD Cert.NorminIdeal.τ Cert.NorminIdeal.sig) → Buf (Elt Ideal) ℓ) (g : Dev Cert.NorminIdeal.nD → PrngReg), Pre_NorminIdeal_normin_finite m →
    θ_run (Cert.NorminIdeal.defs (F := Ideal)) (onTc (τ := Cert.NorminIdeal.τ) (Cert.NorminIdeal.main (F := Ideal))) ⟨m, fun _ => 0, g⟩ (fun r => (∀ c : Dev Cert.NorminIdeal.nD,
      r.2.mem ((c.tc : Thread Cert.NorminIdeal.nD Cert.NorminIdeal.τ).loc Cert.NorminIdeal.main_arg0) = m ((c.tc : Thread Cert.NorminIdeal.nD Cert.NorminIdeal.τ).loc Cert.NorminIdeal.main_arg0)
      ∧ r.2.mem ((c.tc : Thread Cert.NorminIdeal.nD Cert.NorminIdeal.τ).loc Cert.NorminIdeal.main_arg1) = m ((c.tc : Thread Cert.NorminIdeal.nD Cert.NorminIdeal.τ).loc Cert.NorminIdeal.main_arg1)
      ∧ r.2.mem ((c.tc : Thread Cert.NorminIdeal.nD Cert.NorminIdeal.τ).loc Cert.NorminIdeal.main_arg2) = m ((c.tc : Thread Cert.NorminIdeal.nD Cert.NorminIdeal.τ).loc Cert.NorminIdeal.main_arg2)
      ∧ r.2.mem ((c.tc : Thread Cert.NorminIdeal.nD Cert.NorminIdeal.τ).loc Cert.NorminIdeal.main_arg3) = m ((c.tc : Thread Cert.NorminIdeal.nD Cert.NorminIdeal.τ).loc Cert.NorminIdeal.main_arg3)
      ∧ r.2.mem ((c.tc : Thread Cert.NorminIdeal.nD Cert.NorminIdeal.τ).loc Cert.NorminIdeal.main_arg4) = m ((c.tc : Thread Cert.NorminIdeal.nD Cert.NorminIdeal.τ).loc Cert.NorminIdeal.main_arg4))
      ∧ r.2.sem = fun _ => 0)

def quiescent_NorminRefIdeal [hNorminRefIdeal : Cert.NorminRefIdeal.Facts] : Prop :=
  ∀ (m : (ℓ : Loc Cert.NorminRefIdeal.nD Cert.NorminRefIdeal.τ Cert.NorminRefIdeal.sig) → Buf (Elt Ideal) ℓ) (g : Dev Cert.NorminRefIdeal.nD → PrngReg), Pre_NorminRefIdeal m →
    θ_run (Cert.NorminRefIdeal.defs (F := Ideal)) (onTc (τ := Cert.NorminRefIdeal.τ) (Cert.NorminRefIdeal.main (F := Ideal))) ⟨m, fun _ => 0, g⟩ (fun r => (∀ c : Dev Cert.NorminRefIdeal.nD,
      r.2.mem ((c.tc : Thread Cert.NorminRefIdeal.nD Cert.NorminRefIdeal.τ).loc Cert.NorminRefIdeal.main_arg0) = m ((c.tc : Thread Cert.NorminRefIdeal.nD Cert.NorminRefIdeal.τ).loc Cert.NorminRefIdeal.main_arg0)
      ∧ r.2.mem ((c.tc : Thread Cert.NorminRefIdeal.nD Cert.NorminRefIdeal.τ).loc Cert.NorminRefIdeal.main_arg1) = m ((c.tc : Thread Cert.NorminRefIdeal.nD Cert.NorminRefIdeal.τ).loc Cert.NorminRefIdeal.main_arg1)
      ∧ r.2.mem ((c.tc : Thread Cert.NorminRefIdeal.nD Cert.NorminRefIdeal.τ).loc Cert.NorminRefIdeal.main_arg2) = m ((c.tc : Thread Cert.NorminRefIdeal.nD Cert.NorminRefIdeal.τ).loc Cert.NorminRefIdeal.main_arg2)
      ∧ r.2.mem ((c.tc : Thread Cert.NorminRefIdeal.nD Cert.NorminRefIdeal.τ).loc Cert.NorminRefIdeal.main_arg3) = m ((c.tc : Thread Cert.NorminRefIdeal.nD Cert.NorminRefIdeal.τ).loc Cert.NorminRefIdeal.main_arg3)
      ∧ r.2.mem ((c.tc : Thread Cert.NorminRefIdeal.nD Cert.NorminRefIdeal.τ).loc Cert.NorminRefIdeal.main_arg4) = m ((c.tc : Thread Cert.NorminRefIdeal.nD Cert.NorminRefIdeal.τ).loc Cert.NorminRefIdeal.main_arg4))
      ∧ r.2.sem = fun _ => 0)

def quiescent_NorminRefIdeal_pre_normin_finite [hNorminRefIdeal : Cert.NorminRefIdeal.Facts] [hPre_normin_finite : Cert.Pre_normin_finite.Facts] : Prop :=
  ∀ (m : (ℓ : Loc Cert.NorminRefIdeal.nD Cert.NorminRefIdeal.τ Cert.NorminRefIdeal.sig) → Buf (Elt Ideal) ℓ) (g : Dev Cert.NorminRefIdeal.nD → PrngReg), Pre_NorminRefIdeal_normin_finite m →
    θ_run (Cert.NorminRefIdeal.defs (F := Ideal)) (onTc (τ := Cert.NorminRefIdeal.τ) (Cert.NorminRefIdeal.main (F := Ideal))) ⟨m, fun _ => 0, g⟩ (fun r => (∀ c : Dev Cert.NorminRefIdeal.nD,
      r.2.mem ((c.tc : Thread Cert.NorminRefIdeal.nD Cert.NorminRefIdeal.τ).loc Cert.NorminRefIdeal.main_arg0) = m ((c.tc : Thread Cert.NorminRefIdeal.nD Cert.NorminRefIdeal.τ).loc Cert.NorminRefIdeal.main_arg0)
      ∧ r.2.mem ((c.tc : Thread Cert.NorminRefIdeal.nD Cert.NorminRefIdeal.τ).loc Cert.NorminRefIdeal.main_arg1) = m ((c.tc : Thread Cert.NorminRefIdeal.nD Cert.NorminRefIdeal.τ).loc Cert.NorminRefIdeal.main_arg1)
      ∧ r.2.mem ((c.tc : Thread Cert.NorminRefIdeal.nD Cert.NorminRefIdeal.τ).loc Cert.NorminRefIdeal.main_arg2) = m ((c.tc : Thread Cert.NorminRefIdeal.nD Cert.NorminRefIdeal.τ).loc Cert.NorminRefIdeal.main_arg2)
      ∧ r.2.mem ((c.tc : Thread Cert.NorminRefIdeal.nD Cert.NorminRefIdeal.τ).loc Cert.NorminRefIdeal.main_arg3) = m ((c.tc : Thread Cert.NorminRefIdeal.nD Cert.NorminRefIdeal.τ).loc Cert.NorminRefIdeal.main_arg3)
      ∧ r.2.mem ((c.tc : Thread Cert.NorminRefIdeal.nD Cert.NorminRefIdeal.τ).loc Cert.NorminRefIdeal.main_arg4) = m ((c.tc : Thread Cert.NorminRefIdeal.nD Cert.NorminRefIdeal.τ).loc Cert.NorminRefIdeal.main_arg4))
      ∧ r.2.sem = fun _ => 0)

def quiescent_Normpw [hNormpw : Cert.Normpw.Facts] : Prop :=
  ∀ (m : (ℓ : Loc Cert.Normpw.nD Cert.Normpw.τ Cert.Normpw.sig) → Buf (Elt Bits) ℓ) (g : Dev Cert.Normpw.nD → PrngReg), Pre_Normpw m →
    θ_run (Cert.Normpw.defs (F := Bits)) (onTc (τ := Cert.Normpw.τ) (Cert.Normpw.main (F := Bits))) ⟨m, fun _ => 0, g⟩ (fun r => (∀ c : Dev Cert.Normpw.nD,
      r.2.mem ((c.tc : Thread Cert.Normpw.nD Cert.Normpw.τ).loc Cert.Normpw.main_arg0) = m ((c.tc : Thread Cert.Normpw.nD Cert.Normpw.τ).loc Cert.Normpw.main_arg0)
      ∧ r.2.mem ((c.tc : Thread Cert.Normpw.nD Cert.Normpw.τ).loc Cert.Normpw.main_arg1) = m ((c.tc : Thread Cert.Normpw.nD Cert.Normpw.τ).loc Cert.Normpw.main_arg1)
      ∧ r.2.mem ((c.tc : Thread Cert.Normpw.nD Cert.Normpw.τ).loc Cert.Normpw.main_arg2) = m ((c.tc : Thread Cert.Normpw.nD Cert.Normpw.τ).loc Cert.Normpw.main_arg2)
      ∧ r.2.mem ((c.tc : Thread Cert.Normpw.nD Cert.Normpw.τ).loc Cert.Normpw.main_arg3) = m ((c.tc : Thread Cert.Normpw.nD Cert.Normpw.τ).loc Cert.Normpw.main_arg3)
      ∧ r.2.mem ((c.tc : Thread Cert.Normpw.nD Cert.Normpw.τ).loc Cert.Normpw.main_arg4) = m ((c.tc : Thread Cert.Normpw.nD Cert.Normpw.τ).loc Cert.Normpw.main_arg4))
      ∧ r.2.sem = fun _ => 0)

def quiescent_NormpwIdeal [hNormpwIdeal : Cert.NormpwIdeal.Facts] : Prop :=
  ∀ (m : (ℓ : Loc Cert.NormpwIdeal.nD Cert.NormpwIdeal.τ Cert.NormpwIdeal.sig) → Buf (Elt Ideal) ℓ) (g : Dev Cert.NormpwIdeal.nD → PrngReg), Pre_NormpwIdeal m →
    θ_run (Cert.NormpwIdeal.defs (F := Ideal)) (onTc (τ := Cert.NormpwIdeal.τ) (Cert.NormpwIdeal.main (F := Ideal))) ⟨m, fun _ => 0, g⟩ (fun r => (∀ c : Dev Cert.NormpwIdeal.nD,
      r.2.mem ((c.tc : Thread Cert.NormpwIdeal.nD Cert.NormpwIdeal.τ).loc Cert.NormpwIdeal.main_arg0) = m ((c.tc : Thread Cert.NormpwIdeal.nD Cert.NormpwIdeal.τ).loc Cert.NormpwIdeal.main_arg0)
      ∧ r.2.mem ((c.tc : Thread Cert.NormpwIdeal.nD Cert.NormpwIdeal.τ).loc Cert.NormpwIdeal.main_arg1) = m ((c.tc : Thread Cert.NormpwIdeal.nD Cert.NormpwIdeal.τ).loc Cert.NormpwIdeal.main_arg1)
      ∧ r.2.mem ((c.tc : Thread Cert.NormpwIdeal.nD Cert.NormpwIdeal.τ).loc Cert.NormpwIdeal.main_arg2) = m ((c.tc : Thread Cert.NormpwIdeal.nD Cert.NormpwIdeal.τ).loc Cert.NormpwIdeal.main_arg2)
      ∧ r.2.mem ((c.tc : Thread Cert.NormpwIdeal.nD Cert.NormpwIdeal.τ).loc Cert.NormpwIdeal.main_arg3) = m ((c.tc : Thread Cert.NormpwIdeal.nD Cert.NormpwIdeal.τ).loc Cert.NormpwIdeal.main_arg3)
      ∧ r.2.mem ((c.tc : Thread Cert.NormpwIdeal.nD Cert.NormpwIdeal.τ).loc Cert.NormpwIdeal.main_arg4) = m ((c.tc : Thread Cert.NormpwIdeal.nD Cert.NormpwIdeal.τ).loc Cert.NormpwIdeal.main_arg4))
      ∧ r.2.sem = fun _ => 0)

def quiescent_NormpwIdeal_pre_normpw_finite [hNormpwIdeal : Cert.NormpwIdeal.Facts] [hPre_normpw_finite : Cert.Pre_normpw_finite.Facts] : Prop :=
  ∀ (m : (ℓ : Loc Cert.NormpwIdeal.nD Cert.NormpwIdeal.τ Cert.NormpwIdeal.sig) → Buf (Elt Ideal) ℓ) (g : Dev Cert.NormpwIdeal.nD → PrngReg), Pre_NormpwIdeal_normpw_finite m →
    θ_run (Cert.NormpwIdeal.defs (F := Ideal)) (onTc (τ := Cert.NormpwIdeal.τ) (Cert.NormpwIdeal.main (F := Ideal))) ⟨m, fun _ => 0, g⟩ (fun r => (∀ c : Dev Cert.NormpwIdeal.nD,
      r.2.mem ((c.tc : Thread Cert.NormpwIdeal.nD Cert.NormpwIdeal.τ).loc Cert.NormpwIdeal.main_arg0) = m ((c.tc : Thread Cert.NormpwIdeal.nD Cert.NormpwIdeal.τ).loc Cert.NormpwIdeal.main_arg0)
      ∧ r.2.mem ((c.tc : Thread Cert.NormpwIdeal.nD Cert.NormpwIdeal.τ).loc Cert.NormpwIdeal.main_arg1) = m ((c.tc : Thread Cert.NormpwIdeal.nD Cert.NormpwIdeal.τ).loc Cert.NormpwIdeal.main_arg1)
      ∧ r.2.mem ((c.tc : Thread Cert.NormpwIdeal.nD Cert.NormpwIdeal.τ).loc Cert.NormpwIdeal.main_arg2) = m ((c.tc : Thread Cert.NormpwIdeal.nD Cert.NormpwIdeal.τ).loc Cert.NormpwIdeal.main_arg2)
      ∧ r.2.mem ((c.tc : Thread Cert.NormpwIdeal.nD Cert.NormpwIdeal.τ).loc Cert.NormpwIdeal.main_arg3) = m ((c.tc : Thread Cert.NormpwIdeal.nD Cert.NormpwIdeal.τ).loc Cert.NormpwIdeal.main_arg3)
      ∧ r.2.mem ((c.tc : Thread Cert.NormpwIdeal.nD Cert.NormpwIdeal.τ).loc Cert.NormpwIdeal.main_arg4) = m ((c.tc : Thread Cert.NormpwIdeal.nD Cert.NormpwIdeal.τ).loc Cert.NormpwIdeal.main_arg4))
      ∧ r.2.sem = fun _ => 0)

def quiescent_NormpwRefIdeal [hNormpwRefIdeal : Cert.NormpwRefIdeal.Facts] : Prop :=
  ∀ (m : (ℓ : Loc Cert.NormpwRefIdeal.nD Cert.NormpwRefIdeal.τ Cert.NormpwRefIdeal.sig) → Buf (Elt Ideal) ℓ) (g : Dev Cert.NormpwRefIdeal.nD → PrngReg), Pre_NormpwRefIdeal m →
    θ_run (Cert.NormpwRefIdeal.defs (F := Ideal)) (onTc (τ := Cert.NormpwRefIdeal.τ) (Cert.NormpwRefIdeal.main (F := Ideal))) ⟨m, fun _ => 0, g⟩ (fun r => (∀ c : Dev Cert.NormpwRefIdeal.nD,
      r.2.mem ((c.tc : Thread Cert.NormpwRefIdeal.nD Cert.NormpwRefIdeal.τ).loc Cert.NormpwRefIdeal.main_arg0) = m ((c.tc : Thread Cert.NormpwRefIdeal.nD Cert.NormpwRefIdeal.τ).loc Cert.NormpwRefIdeal.main_arg0)
      ∧ r.2.mem ((c.tc : Thread Cert.NormpwRefIdeal.nD Cert.NormpwRefIdeal.τ).loc Cert.NormpwRefIdeal.main_arg1) = m ((c.tc : Thread Cert.NormpwRefIdeal.nD Cert.NormpwRefIdeal.τ).loc Cert.NormpwRefIdeal.main_arg1)
      ∧ r.2.mem ((c.tc : Thread Cert.NormpwRefIdeal.nD Cert.NormpwRefIdeal.τ).loc Cert.NormpwRefIdeal.main_arg2) = m ((c.tc : Thread Cert.NormpwRefIdeal.nD Cert.NormpwRefIdeal.τ).loc Cert.NormpwRefIdeal.main_arg2)
      ∧ r.2.mem ((c.tc : Thread Cert.NormpwRefIdeal.nD Cert.NormpwRefIdeal.τ).loc Cert.NormpwRefIdeal.main_arg3) = m ((c.tc : Thread Cert.NormpwRefIdeal.nD Cert.NormpwRefIdeal.τ).loc Cert.NormpwRefIdeal.main_arg3)
      ∧ r.2.mem ((c.tc : Thread Cert.NormpwRefIdeal.nD Cert.NormpwRefIdeal.τ).loc Cert.NormpwRefIdeal.main_arg4) = m ((c.tc : Thread Cert.NormpwRefIdeal.nD Cert.NormpwRefIdeal.τ).loc Cert.NormpwRefIdeal.main_arg4))
      ∧ r.2.sem = fun _ => 0)

def quiescent_NormpwRefIdeal_pre_normpw_finite [hNormpwRefIdeal : Cert.NormpwRefIdeal.Facts] [hPre_normpw_finite : Cert.Pre_normpw_finite.Facts] : Prop :=
  ∀ (m : (ℓ : Loc Cert.NormpwRefIdeal.nD Cert.NormpwRefIdeal.τ Cert.NormpwRefIdeal.sig) → Buf (Elt Ideal) ℓ) (g : Dev Cert.NormpwRefIdeal.nD → PrngReg), Pre_NormpwRefIdeal_normpw_finite m →
    θ_run (Cert.NormpwRefIdeal.defs (F := Ideal)) (onTc (τ := Cert.NormpwRefIdeal.τ) (Cert.NormpwRefIdeal.main (F := Ideal))) ⟨m, fun _ => 0, g⟩ (fun r => (∀ c : Dev Cert.NormpwRefIdeal.nD,
      r.2.mem ((c.tc : Thread Cert.NormpwRefIdeal.nD Cert.NormpwRefIdeal.τ).loc Cert.NormpwRefIdeal.main_arg0) = m ((c.tc : Thread Cert.NormpwRefIdeal.nD Cert.NormpwRefIdeal.τ).loc Cert.NormpwRefIdeal.main_arg0)
      ∧ r.2.mem ((c.tc : Thread Cert.NormpwRefIdeal.nD Cert.NormpwRefIdeal.τ).loc Cert.NormpwRefIdeal.main_arg1) = m ((c.tc : Thread Cert.NormpwRefIdeal.nD Cert.NormpwRefIdeal.τ).loc Cert.NormpwRefIdeal.main_arg1)
      ∧ r.2.mem ((c.tc : Thread Cert.NormpwRefIdeal.nD Cert.NormpwRefIdeal.τ).loc Cert.NormpwRefIdeal.main_arg2) = m ((c.tc : Thread Cert.NormpwRefIdeal.nD Cert.NormpwRefIdeal.τ).loc Cert.NormpwRefIdeal.main_arg2)
      ∧ r.2.mem ((c.tc : Thread Cert.NormpwRefIdeal.nD Cert.NormpwRefIdeal.τ).loc Cert.NormpwRefIdeal.main_arg3) = m ((c.tc : Thread Cert.NormpwRefIdeal.nD Cert.NormpwRefIdeal.τ).loc Cert.NormpwRefIdeal.main_arg3)
      ∧ r.2.mem ((c.tc : Thread Cert.NormpwRefIdeal.nD Cert.NormpwRefIdeal.τ).loc Cert.NormpwRefIdeal.main_arg4) = m ((c.tc : Thread Cert.NormpwRefIdeal.nD Cert.NormpwRefIdeal.τ).loc Cert.NormpwRefIdeal.main_arg4))
      ∧ r.2.sem = fun _ => 0)

def quiescent_Colb [hColb : Cert.Colb.Facts] : Prop :=
  ∀ (m : (ℓ : Loc Cert.Colb.nD Cert.Colb.τ Cert.Colb.sig) → Buf (Elt Bits) ℓ) (g : Dev Cert.Colb.nD → PrngReg), Pre_Colb m →
    θ_run (Cert.Colb.defs (F := Bits)) (onTc (τ := Cert.Colb.τ) (Cert.Colb.main (F := Bits))) ⟨m, fun _ => 0, g⟩ (fun r => (∀ c : Dev Cert.Colb.nD,
      r.2.mem ((c.tc : Thread Cert.Colb.nD Cert.Colb.τ).loc Cert.Colb.main_arg0) = m ((c.tc : Thread Cert.Colb.nD Cert.Colb.τ).loc Cert.Colb.main_arg0)
      ∧ r.2.mem ((c.tc : Thread Cert.Colb.nD Cert.Colb.τ).loc Cert.Colb.main_arg1) = m ((c.tc : Thread Cert.Colb.nD Cert.Colb.τ).loc Cert.Colb.main_arg1)
      ∧ r.2.mem ((c.tc : Thread Cert.Colb.nD Cert.Colb.τ).loc Cert.Colb.main_arg2) = m ((c.tc : Thread Cert.Colb.nD Cert.Colb.τ).loc Cert.Colb.main_arg2)
      ∧ r.2.mem ((c.tc : Thread Cert.Colb.nD Cert.Colb.τ).loc Cert.Colb.main_arg3) = m ((c.tc : Thread Cert.Colb.nD Cert.Colb.τ).loc Cert.Colb.main_arg3))
      ∧ r.2.sem = fun _ => 0)

def quiescent_ColbIdeal [hColbIdeal : Cert.ColbIdeal.Facts] : Prop :=
  ∀ (m : (ℓ : Loc Cert.ColbIdeal.nD Cert.ColbIdeal.τ Cert.ColbIdeal.sig) → Buf (Elt Ideal) ℓ) (g : Dev Cert.ColbIdeal.nD → PrngReg), Pre_ColbIdeal m →
    θ_run (Cert.ColbIdeal.defs (F := Ideal)) (onTc (τ := Cert.ColbIdeal.τ) (Cert.ColbIdeal.main (F := Ideal))) ⟨m, fun _ => 0, g⟩ (fun r => (∀ c : Dev Cert.ColbIdeal.nD,
      r.2.mem ((c.tc : Thread Cert.ColbIdeal.nD Cert.ColbIdeal.τ).loc Cert.ColbIdeal.main_arg0) = m ((c.tc : Thread Cert.ColbIdeal.nD Cert.ColbIdeal.τ).loc Cert.ColbIdeal.main_arg0)
      ∧ r.2.mem ((c.tc : Thread Cert.ColbIdeal.nD Cert.ColbIdeal.τ).loc Cert.ColbIdeal.main_arg1) = m ((c.tc : Thread Cert.ColbIdeal.nD Cert.ColbIdeal.τ).loc Cert.ColbIdeal.main_arg1)
      ∧ r.2.mem ((c.tc : Thread Cert.ColbIdeal.nD Cert.ColbIdeal.τ).loc Cert.ColbIdeal.main_arg2) = m ((c.tc : Thread Cert.ColbIdeal.nD Cert.ColbIdeal.τ).loc Cert.ColbIdeal.main_arg2)
      ∧ r.2.mem ((c.tc : Thread Cert.ColbIdeal.nD Cert.ColbIdeal.τ).loc Cert.ColbIdeal.main_arg3) = m ((c.tc : Thread Cert.ColbIdeal.nD Cert.ColbIdeal.τ).loc Cert.ColbIdeal.main_arg3))
      ∧ r.2.sem = fun _ => 0)

def quiescent_ColbRefIdeal [hColbRefIdeal : Cert.ColbRefIdeal.Facts] : Prop :=
  ∀ (m : (ℓ : Loc Cert.ColbRefIdeal.nD Cert.ColbRefIdeal.τ Cert.ColbRefIdeal.sig) → Buf (Elt Ideal) ℓ) (g : Dev Cert.ColbRefIdeal.nD → PrngReg), Pre_ColbRefIdeal m →
    θ_run (Cert.ColbRefIdeal.defs (F := Ideal)) (onTc (τ := Cert.ColbRefIdeal.τ) (Cert.ColbRefIdeal.main (F := Ideal))) ⟨m, fun _ => 0, g⟩ (fun r => (∀ c : Dev Cert.ColbRefIdeal.nD,
      r.2.mem ((c.tc : Thread Cert.ColbRefIdeal.nD Cert.ColbRefIdeal.τ).loc Cert.ColbRefIdeal.main_arg0) = m ((c.tc : Thread Cert.ColbRefIdeal.nD Cert.ColbRefIdeal.τ).loc Cert.ColbRefIdeal.main_arg0)
      ∧ r.2.mem ((c.tc : Thread Cert.ColbRefIdeal.nD Cert.ColbRefIdeal.τ).loc Cert.ColbRefIdeal.main_arg1) = m ((c.tc : Thread Cert.ColbRefIdeal.nD Cert.ColbRefIdeal.τ).loc Cert.ColbRefIdeal.main_arg1)
      ∧ r.2.mem ((c.tc : Thread Cert.ColbRefIdeal.nD Cert.ColbRefIdeal.τ).loc Cert.ColbRefIdeal.main_arg2) = m ((c.tc : Thread Cert.ColbRefIdeal.nD Cert.ColbRefIdeal.τ).loc Cert.ColbRefIdeal.main_arg2)
      ∧ r.2.mem ((c.tc : Thread Cert.ColbRefIdeal.nD Cert.ColbRefIdeal.τ).loc Cert.ColbRefIdeal.main_arg3) = m ((c.tc : Thread Cert.ColbRefIdeal.nD Cert.ColbRefIdeal.τ).loc Cert.ColbRefIdeal.main_arg3))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v19)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v19) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Cout_CoutIdeal : Prop :=
  True

def algebraic_CoutIdeal_CoutRefIdeal_pre_cout_finite [hCoutIdeal : Cert.CoutIdeal.Facts] [hCoutRefIdeal : Cert.CoutRefIdeal.Facts] [hPre_cout_finite : Cert.Pre_cout_finite.Facts] : Prop :=
  ∀ (m : (ℓ : Loc Cert.CoutIdeal.nD Cert.CoutIdeal.τ Cert.CoutIdeal.sig) → Buf (Elt Ideal) ℓ) (g : Dev Cert.CoutIdeal.nD → PrngReg)
    (m' : (ℓ : Loc Cert.CoutRefIdeal.nD Cert.CoutRefIdeal.τ Cert.CoutRefIdeal.sig) → Buf (Elt Ideal) ℓ) (g' : Dev Cert.CoutRefIdeal.nD → PrngReg), Pre_CoutIdeal_cout_finite m →
    (∀ c : Dev Cert.CoutIdeal.nD,
      m' ((c.tc : Thread Cert.CoutRefIdeal.nD Cert.CoutRefIdeal.τ).loc Cert.CoutRefIdeal.main_arg0) = m ((c.tc : Thread Cert.CoutIdeal.nD Cert.CoutIdeal.τ).loc Cert.CoutIdeal.main_arg0)
      ∧ m' ((c.tc : Thread Cert.CoutRefIdeal.nD Cert.CoutRefIdeal.τ).loc Cert.CoutRefIdeal.main_arg1) = m ((c.tc : Thread Cert.CoutIdeal.nD Cert.CoutIdeal.τ).loc Cert.CoutIdeal.main_arg1)
      ∧ m' ((c.tc : Thread Cert.CoutRefIdeal.nD Cert.CoutRefIdeal.τ).loc Cert.CoutRefIdeal.main_arg2) = m ((c.tc : Thread Cert.CoutIdeal.nD Cert.CoutIdeal.τ).loc Cert.CoutIdeal.main_arg2)
      ∧ m' ((c.tc : Thread Cert.CoutRefIdeal.nD Cert.CoutRefIdeal.τ).loc Cert.CoutRefIdeal.main_arg3) = m ((c.tc : Thread Cert.CoutIdeal.nD Cert.CoutIdeal.τ).loc Cert.CoutIdeal.main_arg3)
      ∧ m' ((c.tc : Thread Cert.CoutRefIdeal.nD Cert.CoutRefIdeal.τ).loc Cert.CoutRefIdeal.main_arg4) = m ((c.tc : Thread Cert.CoutIdeal.nD Cert.CoutIdeal.τ).loc Cert.CoutIdeal.main_arg4)) →
    ∃ (v0 : (c : Dev Cert.CoutIdeal.nD) → Buf (Elt Ideal) ((c.tc : Thread Cert.CoutIdeal.nD Cert.CoutIdeal.τ).loc Cert.CoutIdeal.main_v3_0)) (v1 : (c : Dev Cert.CoutIdeal.nD) → Buf (Elt Ideal) ((c.tc : Thread Cert.CoutIdeal.nD Cert.CoutIdeal.τ).loc Cert.CoutIdeal.main_v3_1)) (v2 : (c : Dev Cert.CoutIdeal.nD) → Buf (Elt Ideal) ((c.tc : Thread Cert.CoutIdeal.nD Cert.CoutIdeal.τ).loc Cert.CoutIdeal.main_v3_2)) (v3 : (c : Dev Cert.CoutIdeal.nD) → Buf (Elt Ideal) ((c.tc : Thread Cert.CoutIdeal.nD Cert.CoutIdeal.τ).loc Cert.CoutIdeal.main_v3_3)),
      θ_run (Cert.CoutIdeal.defs (F := Ideal)) (onTc (τ := Cert.CoutIdeal.τ) (Cert.CoutIdeal.main (F := Ideal))) ⟨m, fun _ => 0, g⟩ (fun r => ∀ c : Dev Cert.CoutIdeal.nD,
          r.2.mem ((c.tc : Thread Cert.CoutIdeal.nD Cert.CoutIdeal.τ).loc Cert.CoutIdeal.main_v3_0) = v0 c
          ∧ r.2.mem ((c.tc : Thread Cert.CoutIdeal.nD Cert.CoutIdeal.τ).loc Cert.CoutIdeal.main_v3_1) = v1 c
          ∧ r.2.mem ((c.tc : Thread Cert.CoutIdeal.nD Cert.CoutIdeal.τ).loc Cert.CoutIdeal.main_v3_2) = v2 c
          ∧ r.2.mem ((c.tc : Thread Cert.CoutIdeal.nD Cert.CoutIdeal.τ).loc Cert.CoutIdeal.main_v3_3) = v3 c
          ∧ r.2.mem ((c.tc : Thread Cert.CoutIdeal.nD Cert.CoutIdeal.τ).loc Cert.CoutIdeal.main_arg0) = m ((c.tc : Thread Cert.CoutIdeal.nD Cert.CoutIdeal.τ).loc Cert.CoutIdeal.main_arg0)
          ∧ r.2.mem ((c.tc : Thread Cert.CoutIdeal.nD Cert.CoutIdeal.τ).loc Cert.CoutIdeal.main_arg1) = m ((c.tc : Thread Cert.CoutIdeal.nD Cert.CoutIdeal.τ).loc Cert.CoutIdeal.main_arg1)
          ∧ r.2.mem ((c.tc : Thread Cert.CoutIdeal.nD Cert.CoutIdeal.τ).loc Cert.CoutIdeal.main_arg2) = m ((c.tc : Thread Cert.CoutIdeal.nD Cert.CoutIdeal.τ).loc Cert.CoutIdeal.main_arg2)
          ∧ r.2.mem ((c.tc : Thread Cert.CoutIdeal.nD Cert.CoutIdeal.τ).loc Cert.CoutIdeal.main_arg3) = m ((c.tc : Thread Cert.CoutIdeal.nD Cert.CoutIdeal.τ).loc Cert.CoutIdeal.main_arg3)
          ∧ r.2.mem ((c.tc : Thread Cert.CoutIdeal.nD Cert.CoutIdeal.τ).loc Cert.CoutIdeal.main_arg4) = m ((c.tc : Thread Cert.CoutIdeal.nD Cert.CoutIdeal.τ).loc Cert.CoutIdeal.main_arg4))
      ∧ θ_run (Cert.CoutRefIdeal.defs (F := Ideal)) (onTc (τ := Cert.CoutRefIdeal.τ) (Cert.CoutRefIdeal.main (F := Ideal))) ⟨m', fun _ => 0, g'⟩ (fun r => ∀ c : Dev Cert.CoutRefIdeal.nD,
          r.2.mem ((c.tc : Thread Cert.CoutRefIdeal.nD Cert.CoutRefIdeal.τ).loc Cert.CoutRefIdeal.main_v67) = v0 c
          ∧ r.2.mem ((c.tc : Thread Cert.CoutRefIdeal.nD Cert.CoutRefIdeal.τ).loc Cert.CoutRefIdeal.main_v68) = v1 c
          ∧ r.2.mem ((c.tc : Thread Cert.CoutRefIdeal.nD Cert.CoutRefIdeal.τ).loc Cert.CoutRefIdeal.main_v69) = v2 c
          ∧ r.2.mem ((c.tc : Thread Cert.CoutRefIdeal.nD Cert.CoutRefIdeal.τ).loc Cert.CoutRefIdeal.main_v70) = v3 c
          ∧ r.2.mem ((c.tc : Thread Cert.CoutRefIdeal.nD Cert.CoutRefIdeal.τ).loc Cert.CoutRefIdeal.main_arg0) = m' ((c.tc : Thread Cert.CoutRefIdeal.nD Cert.CoutRefIdeal.τ).loc Cert.CoutRefIdeal.main_arg0)
          ∧ r.2.mem ((c.tc : Thread Cert.CoutRefIdeal.nD Cert.CoutRefIdeal.τ).loc Cert.CoutRefIdeal.main_arg1) = m' ((c.tc : Thread Cert.CoutRefIdeal.nD Cert.CoutRefIdeal.τ).loc Cert.CoutRefIdeal.main_arg1)
          ∧ r.2.mem ((c.tc : Thread Cert.CoutRefIdeal.nD Cert.CoutRefIdeal.τ).loc Cert.CoutRefIdeal.main_arg2) = m' ((c.tc : Thread Cert.CoutRefIdeal.nD Cert.CoutRefIdeal.τ).loc Cert.CoutRefIdeal.main_arg2)
          ∧ r.2.mem ((c.tc : Thread Cert.CoutRefIdeal.nD Cert.CoutRefIdeal.τ).loc Cert.CoutRefIdeal.main_arg3) = m' ((c.tc : Thread Cert.CoutRefIdeal.nD Cert.CoutRefIdeal.τ).loc Cert.CoutRefIdeal.main_arg3)
          ∧ r.2.mem ((c.tc : Thread Cert.CoutRefIdeal.nD Cert.CoutRefIdeal.τ).loc Cert.CoutRefIdeal.main_arg4) = m' ((c.tc : Thread Cert.CoutRefIdeal.nD Cert.CoutRefIdeal.τ).loc Cert.CoutRefIdeal.main_arg4))

def preserves_Grp_GrpIdeal : Prop :=
  True

def algebraic_GrpIdeal_GrpRefIdeal [hGrpIdeal : Cert.GrpIdeal.Facts] [hGrpRefIdeal : Cert.GrpRefIdeal.Facts] : Prop :=
  ∀ (m : (ℓ : Loc Cert.GrpIdeal.nD Cert.GrpIdeal.τ Cert.GrpIdeal.sig) → Buf (Elt Ideal) ℓ) (g : Dev Cert.GrpIdeal.nD → PrngReg)
    (m' : (ℓ : Loc Cert.GrpRefIdeal.nD Cert.GrpRefIdeal.τ Cert.GrpRefIdeal.sig) → Buf (Elt Ideal) ℓ) (g' : Dev Cert.GrpRefIdeal.nD → PrngReg), Pre_GrpIdeal m →
    (∀ c : Dev Cert.GrpIdeal.nD,
      m' ((c.tc : Thread Cert.GrpRefIdeal.nD Cert.GrpRefIdeal.τ).loc Cert.GrpRefIdeal.main_arg0) = m ((c.tc : Thread Cert.GrpIdeal.nD Cert.GrpIdeal.τ).loc Cert.GrpIdeal.main_arg0)
      ∧ m' ((c.tc : Thread Cert.GrpRefIdeal.nD Cert.GrpRefIdeal.τ).loc Cert.GrpRefIdeal.main_arg1) = m ((c.tc : Thread Cert.GrpIdeal.nD Cert.GrpIdeal.τ).loc Cert.GrpIdeal.main_arg1)
      ∧ m' ((c.tc : Thread Cert.GrpRefIdeal.nD Cert.GrpRefIdeal.τ).loc Cert.GrpRefIdeal.main_arg2) = m ((c.tc : Thread Cert.GrpIdeal.nD Cert.GrpIdeal.τ).loc Cert.GrpIdeal.main_arg2)
      ∧ m' ((c.tc : Thread Cert.GrpRefIdeal.nD Cert.GrpRefIdeal.τ).loc Cert.GrpRefIdeal.main_arg3) = m ((c.tc : Thread Cert.GrpIdeal.nD Cert.GrpIdeal.τ).loc Cert.GrpIdeal.main_arg3)) →
    ∃ (v0 : (c : Dev Cert.GrpIdeal.nD) → Buf (Elt Ideal) ((c.tc : Thread Cert.GrpIdeal.nD Cert.GrpIdeal.τ).loc Cert.GrpIdeal.main_v9_0)) (v1 : (c : Dev Cert.GrpIdeal.nD) → Buf (Elt Ideal) ((c.tc : Thread Cert.GrpIdeal.nD Cert.GrpIdeal.τ).loc Cert.GrpIdeal.main_v9_1)) (v2 : (c : Dev Cert.GrpIdeal.nD) → Buf (Elt Ideal) ((c.tc : Thread Cert.GrpIdeal.nD Cert.GrpIdeal.τ).loc Cert.GrpIdeal.main_v9_2)),
      θ_run (Cert.GrpIdeal.defs (F := Ideal)) (onTc (τ := Cert.GrpIdeal.τ) (Cert.GrpIdeal.main (F := Ideal))) ⟨m, fun _ => 0, g⟩ (fun r => ∀ c : Dev Cert.GrpIdeal.nD,
          r.2.mem ((c.tc : Thread Cert.GrpIdeal.nD Cert.GrpIdeal.τ).loc Cert.GrpIdeal.main_v9_0) = v0 c
          ∧ r.2.mem ((c.tc : Thread Cert.GrpIdeal.nD Cert.GrpIdeal.τ).loc Cert.GrpIdeal.main_v9_1) = v1 c
          ∧ r.2.mem ((c.tc : Thread Cert.GrpIdeal.nD Cert.GrpIdeal.τ).loc Cert.GrpIdeal.main_v9_2) = v2 c
          ∧ r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
          ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
          ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2)
          ∧ r.2.mem ((c.tc : Thread Cert.GrpIdeal.nD Cert.GrpIdeal.τ).loc Cert.GrpIdeal.main_arg3) = m ((c.tc : Thread Cert.GrpIdeal.nD Cert.GrpIdeal.τ).loc Cert.GrpIdeal.main_arg3))
      ∧ θ_run (Cert.GrpRefIdeal.defs (F := Ideal)) (onTc (τ := Cert.GrpRefIdeal.τ) (Cert.GrpRefIdeal.main (F := Ideal))) ⟨m', fun _ => 0, g'⟩ (fun r => ∀ c : Dev Cert.GrpRefIdeal.nD,
          r.2.mem ((c.tc : Thread Cert.GrpRefIdeal.nD Cert.GrpRefIdeal.τ).loc Cert.GrpRefIdeal.main_v19) = v0 c
          ∧ r.2.mem ((c.tc : Thread Cert.GrpRefIdeal.nD Cert.GrpRefIdeal.τ).loc Cert.GrpRefIdeal.main_v18) = v1 c
          ∧ r.2.mem ((c.tc : Thread Cert.GrpRefIdeal.nD Cert.GrpRefIdeal.τ).loc Cert.GrpRefIdeal.main_v20) = v2 c
          ∧ r.2.mem ((c.tc : Thread Cert.GrpRefIdeal.nD Cert.GrpRefIdeal.τ).loc Cert.GrpRefIdeal.main_arg0) = m' ((c.tc : Thread Cert.GrpRefIdeal.nD Cert.GrpRefIdeal.τ).loc Cert.GrpRefIdeal.main_arg0)
          ∧ r.2.mem ((c.tc : Thread Cert.GrpRefIdeal.nD Cert.GrpRefIdeal.τ).loc Cert.GrpRefIdeal.main_arg1) = m' ((c.tc : Thread Cert.GrpRefIdeal.nD Cert.GrpRefIdeal.τ).loc Cert.GrpRefIdeal.main_arg1)
          ∧ r.2.mem ((c.tc : Thread Cert.GrpRefIdeal.nD Cert.GrpRefIdeal.τ).loc Cert.GrpRefIdeal.main_arg2) = m' ((c.tc : Thread Cert.GrpRefIdeal.nD Cert.GrpRefIdeal.τ).loc Cert.GrpRefIdeal.main_arg2)
          ∧ r.2.mem ((c.tc : Thread Cert.GrpRefIdeal.nD Cert.GrpRefIdeal.τ).loc Cert.GrpRefIdeal.main_arg3) = m' ((c.tc : Thread Cert.GrpRefIdeal.nD Cert.GrpRefIdeal.τ).loc Cert.GrpRefIdeal.main_arg3))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v1_0)) (v1 : (c : Dev Cert.PoolIdeal.nD) → Buf (Elt Ideal) ((c.tc : Thread Cert.PoolIdeal.nD Cert.PoolIdeal.τ).loc Cert.PoolIdeal.main_v1_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1_0) = v0 c
          ∧ r.2.mem ((c.tc : Thread Cert.PoolIdeal.nD Cert.PoolIdeal.τ).loc Cert.PoolIdeal.main_v1_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v158) = v0 c
          ∧ r.2.mem ((c.tc : Thread Cert.PoolRefIdeal.nD Cert.PoolRefIdeal.τ).loc Cert.PoolRefIdeal.main_v159) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v1_0)) (v1 : (c : Dev Cert.SconvIdeal.nD) → Buf (Elt Ideal) ((c.tc : Thread Cert.SconvIdeal.nD Cert.SconvIdeal.τ).loc Cert.SconvIdeal.main_v2)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v1_0) = v0 c
          ∧ r.2.mem ((c.tc : Thread Cert.SconvIdeal.nD Cert.SconvIdeal.τ).loc Cert.SconvIdeal.main_v2) = v1 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v68) = v0 c
          ∧ r.2.mem ((c.tc : Thread Cert.SconvRefIdeal.nD Cert.SconvRefIdeal.τ).loc Cert.SconvRefIdeal.main_v62) = v1 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v17) = v0 c
          ∧ r.2.mem ((c.tc : Thread Cert.UpRefIdeal.nD Cert.UpRefIdeal.τ).loc Cert.UpRefIdeal.main_v19) = v1 c
          ∧ r.2.mem ((c.tc : Thread Cert.UpRefIdeal.nD Cert.UpRefIdeal.τ).loc Cert.UpRefIdeal.main_v20) = v2 c
          ∧ r.2.mem ((c.tc : Thread Cert.UpRefIdeal.nD Cert.UpRefIdeal.τ).loc Cert.UpRefIdeal.main_v22) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Cmid_CmidIdeal : Prop :=
  True

def algebraic_CmidIdeal_CmidRefIdeal [hCmidIdeal : Cert.CmidIdeal.Facts] [hCmidRefIdeal : Cert.CmidRefIdeal.Facts] : Prop :=
  ∀ (m : (ℓ : Loc Cert.CmidIdeal.nD Cert.CmidIdeal.τ Cert.CmidIdeal.sig) → Buf (Elt Ideal) ℓ) (g : Dev Cert.CmidIdeal.nD → PrngReg)
    (m' : (ℓ : Loc Cert.CmidRefIdeal.nD Cert.CmidRefIdeal.τ Cert.CmidRefIdeal.sig) → Buf (Elt Ideal) ℓ) (g' : Dev Cert.CmidRefIdeal.nD → PrngReg), Pre_CmidIdeal m →
    (∀ c : Dev Cert.CmidIdeal.nD,
      m' ((c.tc : Thread Cert.CmidRefIdeal.nD Cert.CmidRefIdeal.τ).loc Cert.CmidRefIdeal.main_arg0) = m ((c.tc : Thread Cert.CmidIdeal.nD Cert.CmidIdeal.τ).loc Cert.CmidIdeal.main_arg0)
      ∧ m' ((c.tc : Thread Cert.CmidRefIdeal.nD Cert.CmidRefIdeal.τ).loc Cert.CmidRefIdeal.main_arg1) = m ((c.tc : Thread Cert.CmidIdeal.nD Cert.CmidIdeal.τ).loc Cert.CmidIdeal.main_arg1)
      ∧ m' ((c.tc : Thread Cert.CmidRefIdeal.nD Cert.CmidRefIdeal.τ).loc Cert.CmidRefIdeal.main_arg2) = m ((c.tc : Thread Cert.CmidIdeal.nD Cert.CmidIdeal.τ).loc Cert.CmidIdeal.main_arg2)) →
    ∃ (v0 : (c : Dev Cert.CmidIdeal.nD) → Buf (Elt Ideal) ((c.tc : Thread Cert.CmidIdeal.nD Cert.CmidIdeal.τ).loc Cert.CmidIdeal.main_v2)) (v1 : (c : Dev Cert.CmidIdeal.nD) → Buf (Elt Ideal) ((c.tc : Thread Cert.CmidIdeal.nD Cert.CmidIdeal.τ).loc Cert.CmidIdeal.main_v1_1)) (v2 : (c : Dev Cert.CmidIdeal.nD) → Buf (Elt Ideal) ((c.tc : Thread Cert.CmidIdeal.nD Cert.CmidIdeal.τ).loc Cert.CmidIdeal.main_v1_2)) (v3 : (c : Dev Cert.CmidIdeal.nD) → Buf (Elt Ideal) ((c.tc : Thread Cert.CmidIdeal.nD Cert.CmidIdeal.τ).loc Cert.CmidIdeal.main_v1_3)),
      θ_run (Cert.CmidIdeal.defs (F := Ideal)) (onTc (τ := Cert.CmidIdeal.τ) (Cert.CmidIdeal.main (F := Ideal))) ⟨m, fun _ => 0, g⟩ (fun r => ∀ c : Dev Cert.CmidIdeal.nD,
          r.2.mem ((c.tc : Thread Cert.CmidIdeal.nD Cert.CmidIdeal.τ).loc Cert.CmidIdeal.main_v2) = v0 c
          ∧ r.2.mem ((c.tc : Thread Cert.CmidIdeal.nD Cert.CmidIdeal.τ).loc Cert.CmidIdeal.main_v1_1) = v1 c
          ∧ r.2.mem ((c.tc : Thread Cert.CmidIdeal.nD Cert.CmidIdeal.τ).loc Cert.CmidIdeal.main_v1_2) = v2 c
          ∧ r.2.mem ((c.tc : Thread Cert.CmidIdeal.nD Cert.CmidIdeal.τ).loc Cert.CmidIdeal.main_v1_3) = v3 c
          ∧ r.2.mem ((c.tc : Thread Cert.CmidIdeal.nD Cert.CmidIdeal.τ).loc Cert.CmidIdeal.main_arg0) = m ((c.tc : Thread Cert.CmidIdeal.nD Cert.CmidIdeal.τ).loc Cert.CmidIdeal.main_arg0)
          ∧ r.2.mem ((c.tc : Thread Cert.CmidIdeal.nD Cert.CmidIdeal.τ).loc Cert.CmidIdeal.main_arg1) = m ((c.tc : Thread Cert.CmidIdeal.nD Cert.CmidIdeal.τ).loc Cert.CmidIdeal.main_arg1)
          ∧ r.2.mem ((c.tc : Thread Cert.CmidIdeal.nD Cert.CmidIdeal.τ).loc Cert.CmidIdeal.main_arg2) = m ((c.tc : Thread Cert.CmidIdeal.nD Cert.CmidIdeal.τ).loc Cert.CmidIdeal.main_arg2))
      ∧ θ_run (Cert.CmidRefIdeal.defs (F := Ideal)) (onTc (τ := Cert.CmidRefIdeal.τ) (Cert.CmidRefIdeal.main (F := Ideal))) ⟨m', fun _ => 0, g'⟩ (fun r => ∀ c : Dev Cert.CmidRefIdeal.nD,
          r.2.mem ((c.tc : Thread Cert.CmidRefIdeal.nD Cert.CmidRefIdeal.τ).loc Cert.CmidRefIdeal.main_v589) = v0 c
          ∧ r.2.mem ((c.tc : Thread Cert.CmidRefIdeal.nD Cert.CmidRefIdeal.τ).loc Cert.CmidRefIdeal.main_v593) = v1 c
          ∧ r.2.mem ((c.tc : Thread Cert.CmidRefIdeal.nD Cert.CmidRefIdeal.τ).loc Cert.CmidRefIdeal.main_v594) = v2 c
          ∧ r.2.mem ((c.tc : Thread Cert.CmidRefIdeal.nD Cert.CmidRefIdeal.τ).loc Cert.CmidRefIdeal.main_v595) = v3 c
          ∧ r.2.mem ((c.tc : Thread Cert.CmidRefIdeal.nD Cert.CmidRefIdeal.τ).loc Cert.CmidRefIdeal.main_arg0) = m' ((c.tc : Thread Cert.CmidRefIdeal.nD Cert.CmidRefIdeal.τ).loc Cert.CmidRefIdeal.main_arg0)
          ∧ r.2.mem ((c.tc : Thread Cert.CmidRefIdeal.nD Cert.CmidRefIdeal.τ).loc Cert.CmidRefIdeal.main_arg1) = m' ((c.tc : Thread Cert.CmidRefIdeal.nD Cert.CmidRefIdeal.τ).loc Cert.CmidRefIdeal.main_arg1)
          ∧ r.2.mem ((c.tc : Thread Cert.CmidRefIdeal.nD Cert.CmidRefIdeal.τ).loc Cert.CmidRefIdeal.main_arg2) = m' ((c.tc : Thread Cert.CmidRefIdeal.nD Cert.CmidRefIdeal.τ).loc Cert.CmidRefIdeal.main_arg2))

def preserves_Cmidf_CmidfIdeal : Prop :=
  True

def algebraic_CmidfIdeal_CmidfRefIdeal [hCmidfIdeal : Cert.CmidfIdeal.Facts] [hCmidfRefIdeal : Cert.CmidfRefIdeal.Facts] : Prop :=
  ∀ (m : (ℓ : Loc Cert.CmidfIdeal.nD Cert.CmidfIdeal.τ Cert.CmidfIdeal.sig) → Buf (Elt Ideal) ℓ) (g : Dev Cert.CmidfIdeal.nD → PrngReg)
    (m' : (ℓ : Loc Cert.CmidfRefIdeal.nD Cert.CmidfRefIdeal.τ Cert.CmidfRefIdeal.sig) → Buf (Elt Ideal) ℓ) (g' : Dev Cert.CmidfRefIdeal.nD → PrngReg), Pre_CmidfIdeal m →
    (∀ c : Dev Cert.CmidfIdeal.nD,
      m' ((c.tc : Thread Cert.CmidfRefIdeal.nD Cert.CmidfRefIdeal.τ).loc Cert.CmidfRefIdeal.main_arg0) = m ((c.tc : Thread Cert.CmidfIdeal.nD Cert.CmidfIdeal.τ).loc Cert.CmidfIdeal.main_arg0)
      ∧ m' ((c.tc : Thread Cert.CmidfRefIdeal.nD Cert.CmidfRefIdeal.τ).loc Cert.CmidfRefIdeal.main_arg1) = m ((c.tc : Thread Cert.CmidfIdeal.nD Cert.CmidfIdeal.τ).loc Cert.CmidfIdeal.main_arg1)
      ∧ m' ((c.tc : Thread Cert.CmidfRefIdeal.nD Cert.CmidfRefIdeal.τ).loc Cert.CmidfRefIdeal.main_arg2) = m ((c.tc : Thread Cert.CmidfIdeal.nD Cert.CmidfIdeal.τ).loc Cert.CmidfIdeal.main_arg2)
      ∧ m' ((c.tc : Thread Cert.CmidfRefIdeal.nD Cert.CmidfRefIdeal.τ).loc Cert.CmidfRefIdeal.main_arg3) = m ((c.tc : Thread Cert.CmidfIdeal.nD Cert.CmidfIdeal.τ).loc Cert.CmidfIdeal.main_arg3)
      ∧ m' ((c.tc : Thread Cert.CmidfRefIdeal.nD Cert.CmidfRefIdeal.τ).loc Cert.CmidfRefIdeal.main_arg4) = m ((c.tc : Thread Cert.CmidfIdeal.nD Cert.CmidfIdeal.τ).loc Cert.CmidfIdeal.main_arg4)) →
    ∃ (v0 : (c : Dev Cert.CmidfIdeal.nD) → Buf (Elt Ideal) ((c.tc : Thread Cert.CmidfIdeal.nD Cert.CmidfIdeal.τ).loc Cert.CmidfIdeal.main_v5)) (v1 : (c : Dev Cert.CmidfIdeal.nD) → Buf (Elt Ideal) ((c.tc : Thread Cert.CmidfIdeal.nD Cert.CmidfIdeal.τ).loc Cert.CmidfIdeal.main_v4_1)),
      θ_run (Cert.CmidfIdeal.defs (F := Ideal)) (onTc (τ := Cert.CmidfIdeal.τ) (Cert.CmidfIdeal.main (F := Ideal))) ⟨m, fun _ => 0, g⟩ (fun r => ∀ c : Dev Cert.CmidfIdeal.nD,
          r.2.mem ((c.tc : Thread Cert.CmidfIdeal.nD Cert.CmidfIdeal.τ).loc Cert.CmidfIdeal.main_v5) = v0 c
          ∧ r.2.mem ((c.tc : Thread Cert.CmidfIdeal.nD Cert.CmidfIdeal.τ).loc Cert.CmidfIdeal.main_v4_1) = v1 c
          ∧ r.2.mem ((c.tc : Thread Cert.CmidfIdeal.nD Cert.CmidfIdeal.τ).loc Cert.CmidfIdeal.main_arg0) = m ((c.tc : Thread Cert.CmidfIdeal.nD Cert.CmidfIdeal.τ).loc Cert.CmidfIdeal.main_arg0)
          ∧ r.2.mem ((c.tc : Thread Cert.CmidfIdeal.nD Cert.CmidfIdeal.τ).loc Cert.CmidfIdeal.main_arg1) = m ((c.tc : Thread Cert.CmidfIdeal.nD Cert.CmidfIdeal.τ).loc Cert.CmidfIdeal.main_arg1)
          ∧ r.2.mem ((c.tc : Thread Cert.CmidfIdeal.nD Cert.CmidfIdeal.τ).loc Cert.CmidfIdeal.main_arg2) = m ((c.tc : Thread Cert.CmidfIdeal.nD Cert.CmidfIdeal.τ).loc Cert.CmidfIdeal.main_arg2)
          ∧ r.2.mem ((c.tc : Thread Cert.CmidfIdeal.nD Cert.CmidfIdeal.τ).loc Cert.CmidfIdeal.main_arg3) = m ((c.tc : Thread Cert.CmidfIdeal.nD Cert.CmidfIdeal.τ).loc Cert.CmidfIdeal.main_arg3)
          ∧ r.2.mem ((c.tc : Thread Cert.CmidfIdeal.nD Cert.CmidfIdeal.τ).loc Cert.CmidfIdeal.main_arg4) = m ((c.tc : Thread Cert.CmidfIdeal.nD Cert.CmidfIdeal.τ).loc Cert.CmidfIdeal.main_arg4))
      ∧ θ_run (Cert.CmidfRefIdeal.defs (F := Ideal)) (onTc (τ := Cert.CmidfRefIdeal.τ) (Cert.CmidfRefIdeal.main (F := Ideal))) ⟨m', fun _ => 0, g'⟩ (fun r => ∀ c : Dev Cert.CmidfRefIdeal.nD,
          r.2.mem ((c.tc : Thread Cert.CmidfRefIdeal.nD Cert.CmidfRefIdeal.τ).loc Cert.CmidfRefIdeal.main_v254) = v0 c
          ∧ r.2.mem ((c.tc : Thread Cert.CmidfRefIdeal.nD Cert.CmidfRefIdeal.τ).loc Cert.CmidfRefIdeal.main_v231) = v1 c
          ∧ r.2.mem ((c.tc : Thread Cert.CmidfRefIdeal.nD Cert.CmidfRefIdeal.τ).loc Cert.CmidfRefIdeal.main_arg0) = m' ((c.tc : Thread Cert.CmidfRefIdeal.nD Cert.CmidfRefIdeal.τ).loc Cert.CmidfRefIdeal.main_arg0)
          ∧ r.2.mem ((c.tc : Thread Cert.CmidfRefIdeal.nD Cert.CmidfRefIdeal.τ).loc Cert.CmidfRefIdeal.main_arg1) = m' ((c.tc : Thread Cert.CmidfRefIdeal.nD Cert.CmidfRefIdeal.τ).loc Cert.CmidfRefIdeal.main_arg1)
          ∧ r.2.mem ((c.tc : Thread Cert.CmidfRefIdeal.nD Cert.CmidfRefIdeal.τ).loc Cert.CmidfRefIdeal.main_arg2) = m' ((c.tc : Thread Cert.CmidfRefIdeal.nD Cert.CmidfRefIdeal.τ).loc Cert.CmidfRefIdeal.main_arg2)
          ∧ r.2.mem ((c.tc : Thread Cert.CmidfRefIdeal.nD Cert.CmidfRefIdeal.τ).loc Cert.CmidfRefIdeal.main_arg3) = m' ((c.tc : Thread Cert.CmidfRefIdeal.nD Cert.CmidfRefIdeal.τ).loc Cert.CmidfRefIdeal.main_arg3)
          ∧ r.2.mem ((c.tc : Thread Cert.CmidfRefIdeal.nD Cert.CmidfRefIdeal.τ).loc Cert.CmidfRefIdeal.main_arg4) = m' ((c.tc : Thread Cert.CmidfRefIdeal.nD Cert.CmidfRefIdeal.τ).loc Cert.CmidfRefIdeal.main_arg4))

def preserves_Col_ColIdeal : Prop :=
  True

def algebraic_ColIdeal_ColRefIdeal [hColIdeal : Cert.ColIdeal.Facts] [hColRefIdeal : Cert.ColRefIdeal.Facts] : Prop :=
  ∀ (m : (ℓ : Loc Cert.ColIdeal.nD Cert.ColIdeal.τ Cert.ColIdeal.sig) → Buf (Elt Ideal) ℓ) (g : Dev Cert.ColIdeal.nD → PrngReg)
    (m' : (ℓ : Loc Cert.ColRefIdeal.nD Cert.ColRefIdeal.τ Cert.ColRefIdeal.sig) → Buf (Elt Ideal) ℓ) (g' : Dev Cert.ColRefIdeal.nD → PrngReg), Pre_ColIdeal m →
    (∀ c : Dev Cert.ColIdeal.nD,
      m' ((c.tc : Thread Cert.ColRefIdeal.nD Cert.ColRefIdeal.τ).loc Cert.ColRefIdeal.main_arg0) = m ((c.tc : Thread Cert.ColIdeal.nD Cert.ColIdeal.τ).loc Cert.ColIdeal.main_arg0)
      ∧ m' ((c.tc : Thread Cert.ColRefIdeal.nD Cert.ColRefIdeal.τ).loc Cert.ColRefIdeal.main_arg1) = m ((c.tc : Thread Cert.ColIdeal.nD Cert.ColIdeal.τ).loc Cert.ColIdeal.main_arg1)
      ∧ m' ((c.tc : Thread Cert.ColRefIdeal.nD Cert.ColRefIdeal.τ).loc Cert.ColRefIdeal.main_arg2) = m ((c.tc : Thread Cert.ColIdeal.nD Cert.ColIdeal.τ).loc Cert.ColIdeal.main_arg2)) →
    ∃ (v0 : (c : Dev Cert.ColIdeal.nD) → Buf (Elt Ideal) ((c.tc : Thread Cert.ColIdeal.nD Cert.ColIdeal.τ).loc Cert.ColIdeal.main_v4_0)) (v1 : (c : Dev Cert.ColIdeal.nD) → Buf (Elt Ideal) ((c.tc : Thread Cert.ColIdeal.nD Cert.ColIdeal.τ).loc Cert.ColIdeal.main_v4_1)),
      θ_run (Cert.ColIdeal.defs (F := Ideal)) (onTc (τ := Cert.ColIdeal.τ) (Cert.ColIdeal.main (F := Ideal))) ⟨m, fun _ => 0, g⟩ (fun r => ∀ c : Dev Cert.ColIdeal.nD,
          r.2.mem ((c.tc : Thread Cert.ColIdeal.nD Cert.ColIdeal.τ).loc Cert.ColIdeal.main_v4_0) = v0 c
          ∧ r.2.mem ((c.tc : Thread Cert.ColIdeal.nD Cert.ColIdeal.τ).loc Cert.ColIdeal.main_v4_1) = v1 c
          ∧ r.2.mem ((c.tc : Thread Cert.ColIdeal.nD Cert.ColIdeal.τ).loc Cert.ColIdeal.main_arg0) = m ((c.tc : Thread Cert.ColIdeal.nD Cert.ColIdeal.τ).loc Cert.ColIdeal.main_arg0)
          ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
          ∧ r.2.mem ((c.tc : Thread Cert.ColIdeal.nD Cert.ColIdeal.τ).loc Cert.ColIdeal.main_arg2) = m ((c.tc : Thread Cert.ColIdeal.nD Cert.ColIdeal.τ).loc Cert.ColIdeal.main_arg2))
      ∧ θ_run (Cert.ColRefIdeal.defs (F := Ideal)) (onTc (τ := Cert.ColRefIdeal.τ) (Cert.ColRefIdeal.main (F := Ideal))) ⟨m', fun _ => 0, g'⟩ (fun r => ∀ c : Dev Cert.ColRefIdeal.nD,
          r.2.mem ((c.tc : Thread Cert.ColRefIdeal.nD Cert.ColRefIdeal.τ).loc Cert.ColRefIdeal.main_v13) = v0 c
          ∧ r.2.mem ((c.tc : Thread Cert.ColRefIdeal.nD Cert.ColRefIdeal.τ).loc Cert.ColRefIdeal.main_v15) = v1 c
          ∧ r.2.mem ((c.tc : Thread Cert.ColRefIdeal.nD Cert.ColRefIdeal.τ).loc Cert.ColRefIdeal.main_arg0) = m' ((c.tc : Thread Cert.ColRefIdeal.nD Cert.ColRefIdeal.τ).loc Cert.ColRefIdeal.main_arg0)
          ∧ r.2.mem ((c.tc : Thread Cert.ColRefIdeal.nD Cert.ColRefIdeal.τ).loc Cert.ColRefIdeal.main_arg1) = m' ((c.tc : Thread Cert.ColRefIdeal.nD Cert.ColRefIdeal.τ).loc Cert.ColRefIdeal.main_arg1)
          ∧ r.2.mem ((c.tc : Thread Cert.ColRefIdeal.nD Cert.ColRefIdeal.τ).loc Cert.ColRefIdeal.main_arg2) = m' ((c.tc : Thread Cert.ColRefIdeal.nD Cert.ColRefIdeal.τ).loc Cert.ColRefIdeal.main_arg2))

def preserves_Poolf_PoolfIdeal : Prop :=
  True

def algebraic_PoolfIdeal_PoolfRefIdeal_pre_poolf_finite [hPoolfIdeal : Cert.PoolfIdeal.Facts] [hPoolfRefIdeal : Cert.PoolfRefIdeal.Facts] [hPre_poolf_finite : Cert.Pre_poolf_finite.Facts] : Prop :=
  ∀ (m : (ℓ : Loc Cert.PoolfIdeal.nD Cert.PoolfIdeal.τ Cert.PoolfIdeal.sig) → Buf (Elt Ideal) ℓ) (g : Dev Cert.PoolfIdeal.nD → PrngReg)
    (m' : (ℓ : Loc Cert.PoolfRefIdeal.nD Cert.PoolfRefIdeal.τ Cert.PoolfRefIdeal.sig) → Buf (Elt Ideal) ℓ) (g' : Dev Cert.PoolfRefIdeal.nD → PrngReg), Pre_PoolfIdeal_poolf_finite m →
    (∀ c : Dev Cert.PoolfIdeal.nD,
      m' ((c.tc : Thread Cert.PoolfRefIdeal.nD Cert.PoolfRefIdeal.τ).loc Cert.PoolfRefIdeal.main_arg0) = m ((c.tc : Thread Cert.PoolfIdeal.nD Cert.PoolfIdeal.τ).loc Cert.PoolfIdeal.main_arg0)
      ∧ m' ((c.tc : Thread Cert.PoolfRefIdeal.nD Cert.PoolfRefIdeal.τ).loc Cert.PoolfRefIdeal.main_arg1) = m ((c.tc : Thread Cert.PoolfIdeal.nD Cert.PoolfIdeal.τ).loc Cert.PoolfIdeal.main_arg1)
      ∧ m' ((c.tc : Thread Cert.PoolfRefIdeal.nD Cert.PoolfRefIdeal.τ).loc Cert.PoolfRefIdeal.main_arg2) = m ((c.tc : Thread Cert.PoolfIdeal.nD Cert.PoolfIdeal.τ).loc Cert.PoolfIdeal.main_arg2)
      ∧ m' ((c.tc : Thread Cert.PoolfRefIdeal.nD Cert.PoolfRefIdeal.τ).loc Cert.PoolfRefIdeal.main_arg3) = m ((c.tc : Thread Cert.PoolfIdeal.nD Cert.PoolfIdeal.τ).loc Cert.PoolfIdeal.main_arg3)) →
    ∃ (v0 : (c : Dev Cert.PoolfIdeal.nD) → Buf (Elt Ideal) ((c.tc : Thread Cert.PoolfIdeal.nD Cert.PoolfIdeal.τ).loc Cert.PoolfIdeal.main_v3_0)) (v1 : (c : Dev Cert.PoolfIdeal.nD) → Buf (Elt Ideal) ((c.tc : Thread Cert.PoolfIdeal.nD Cert.PoolfIdeal.τ).loc Cert.PoolfIdeal.main_v3_1)),
      θ_run (Cert.PoolfIdeal.defs (F := Ideal)) (onTc (τ := Cert.PoolfIdeal.τ) (Cert.PoolfIdeal.main (F := Ideal))) ⟨m, fun _ => 0, g⟩ (fun r => ∀ c : Dev Cert.PoolfIdeal.nD,
          r.2.mem ((c.tc : Thread Cert.PoolfIdeal.nD Cert.PoolfIdeal.τ).loc Cert.PoolfIdeal.main_v3_0) = v0 c
          ∧ r.2.mem ((c.tc : Thread Cert.PoolfIdeal.nD Cert.PoolfIdeal.τ).loc Cert.PoolfIdeal.main_v3_1) = v1 c
          ∧ r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
          ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
          ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2)
          ∧ r.2.mem ((c.tc : Thread Cert.PoolfIdeal.nD Cert.PoolfIdeal.τ).loc Cert.PoolfIdeal.main_arg3) = m ((c.tc : Thread Cert.PoolfIdeal.nD Cert.PoolfIdeal.τ).loc Cert.PoolfIdeal.main_arg3))
      ∧ θ_run (Cert.PoolfRefIdeal.defs (F := Ideal)) (onTc (τ := Cert.PoolfRefIdeal.τ) (Cert.PoolfRefIdeal.main (F := Ideal))) ⟨m', fun _ => 0, g'⟩ (fun r => ∀ c : Dev Cert.PoolfRefIdeal.nD,
          r.2.mem ((c.tc : Thread Cert.PoolfRefIdeal.nD Cert.PoolfRefIdeal.τ).loc Cert.PoolfRefIdeal.main_v86) = v0 c
          ∧ r.2.mem ((c.tc : Thread Cert.PoolfRefIdeal.nD Cert.PoolfRefIdeal.τ).loc Cert.PoolfRefIdeal.main_v87) = v1 c
          ∧ r.2.mem ((c.tc : Thread Cert.PoolfRefIdeal.nD Cert.PoolfRefIdeal.τ).loc Cert.PoolfRefIdeal.main_arg0) = m' ((c.tc : Thread Cert.PoolfRefIdeal.nD Cert.PoolfRefIdeal.τ).loc Cert.PoolfRefIdeal.main_arg0)
          ∧ r.2.mem ((c.tc : Thread Cert.PoolfRefIdeal.nD Cert.PoolfRefIdeal.τ).loc Cert.PoolfRefIdeal.main_arg1) = m' ((c.tc : Thread Cert.PoolfRefIdeal.nD Cert.PoolfRefIdeal.τ).loc Cert.PoolfRefIdeal.main_arg1)
          ∧ r.2.mem ((c.tc : Thread Cert.PoolfRefIdeal.nD Cert.PoolfRefIdeal.τ).loc Cert.PoolfRefIdeal.main_arg2) = m' ((c.tc : Thread Cert.PoolfRefIdeal.nD Cert.PoolfRefIdeal.τ).loc Cert.PoolfRefIdeal.main_arg2)
          ∧ r.2.mem ((c.tc : Thread Cert.PoolfRefIdeal.nD Cert.PoolfRefIdeal.τ).loc Cert.PoolfRefIdeal.main_arg3) = m' ((c.tc : Thread Cert.PoolfRefIdeal.nD Cert.PoolfRefIdeal.τ).loc Cert.PoolfRefIdeal.main_arg3))

def preserves_Sconvf_SconvfIdeal : Prop :=
  True

def algebraic_SconvfIdeal_SconvfRefIdeal [hSconvfIdeal : Cert.SconvfIdeal.Facts] [hSconvfRefIdeal : Cert.SconvfRefIdeal.Facts] : Prop :=
  ∀ (m : (ℓ : Loc Cert.SconvfIdeal.nD Cert.SconvfIdeal.τ Cert.SconvfIdeal.sig) → Buf (Elt Ideal) ℓ) (g : Dev Cert.SconvfIdeal.nD → PrngReg)
    (m' : (ℓ : Loc Cert.SconvfRefIdeal.nD Cert.SconvfRefIdeal.τ Cert.SconvfRefIdeal.sig) → Buf (Elt Ideal) ℓ) (g' : Dev Cert.SconvfRefIdeal.nD → PrngReg), Pre_SconvfIdeal m →
    (∀ c : Dev Cert.SconvfIdeal.nD,
      m' ((c.tc : Thread Cert.SconvfRefIdeal.nD Cert.SconvfRefIdeal.τ).loc Cert.SconvfRefIdeal.main_arg0) = m ((c.tc : Thread Cert.SconvfIdeal.nD Cert.SconvfIdeal.τ).loc Cert.SconvfIdeal.main_arg0)
      ∧ m' ((c.tc : Thread Cert.SconvfRefIdeal.nD Cert.SconvfRefIdeal.τ).loc Cert.SconvfRefIdeal.main_arg1) = m ((c.tc : Thread Cert.SconvfIdeal.nD Cert.SconvfIdeal.τ).loc Cert.SconvfIdeal.main_arg1)) →
    ∃ (v0 : (c : Dev Cert.SconvfIdeal.nD) → Buf (Elt Ideal) ((c.tc : Thread Cert.SconvfIdeal.nD Cert.SconvfIdeal.τ).loc Cert.SconvfIdeal.main_v2)),
      θ_run (Cert.SconvfIdeal.defs (F := Ideal)) (onTc (τ := Cert.SconvfIdeal.τ) (Cert.SconvfIdeal.main (F := Ideal))) ⟨m, fun _ => 0, g⟩ (fun r => ∀ c : Dev Cert.SconvfIdeal.nD,
          r.2.mem ((c.tc : Thread Cert.SconvfIdeal.nD Cert.SconvfIdeal.τ).loc Cert.SconvfIdeal.main_v2) = v0 c
          ∧ r.2.mem ((c.tc : Thread Cert.SconvfIdeal.nD Cert.SconvfIdeal.τ).loc Cert.SconvfIdeal.main_arg0) = m ((c.tc : Thread Cert.SconvfIdeal.nD Cert.SconvfIdeal.τ).loc Cert.SconvfIdeal.main_arg0)
          ∧ r.2.mem ((c.tc : Thread Cert.SconvfIdeal.nD Cert.SconvfIdeal.τ).loc Cert.SconvfIdeal.main_arg1) = m ((c.tc : Thread Cert.SconvfIdeal.nD Cert.SconvfIdeal.τ).loc Cert.SconvfIdeal.main_arg1))
      ∧ θ_run (Cert.SconvfRefIdeal.defs (F := Ideal)) (onTc (τ := Cert.SconvfRefIdeal.τ) (Cert.SconvfRefIdeal.main (F := Ideal))) ⟨m', fun _ => 0, g'⟩ (fun r => ∀ c : Dev Cert.SconvfRefIdeal.nD,
          r.2.mem ((c.tc : Thread Cert.SconvfRefIdeal.nD Cert.SconvfRefIdeal.τ).loc Cert.SconvfRefIdeal.main_v28) = v0 c
          ∧ r.2.mem ((c.tc : Thread Cert.SconvfRefIdeal.nD Cert.SconvfRefIdeal.τ).loc Cert.SconvfRefIdeal.main_arg0) = m' ((c.tc : Thread Cert.SconvfRefIdeal.nD Cert.SconvfRefIdeal.τ).loc Cert.SconvfRefIdeal.main_arg0)
          ∧ r.2.mem ((c.tc : Thread Cert.SconvfRefIdeal.nD Cert.SconvfRefIdeal.τ).loc Cert.SconvfRefIdeal.main_arg1) = m' ((c.tc : Thread Cert.SconvfRefIdeal.nD Cert.SconvfRefIdeal.τ).loc Cert.SconvfRefIdeal.main_arg1))

def preserves_Normin_NorminIdeal : Prop :=
  True

def algebraic_NorminIdeal_NorminRefIdeal_pre_normin_finite [hNorminIdeal : Cert.NorminIdeal.Facts] [hNorminRefIdeal : Cert.NorminRefIdeal.Facts] [hPre_normin_finite : Cert.Pre_normin_finite.Facts] : Prop :=
  ∀ (m : (ℓ : Loc Cert.NorminIdeal.nD Cert.NorminIdeal.τ Cert.NorminIdeal.sig) → Buf (Elt Ideal) ℓ) (g : Dev Cert.NorminIdeal.nD → PrngReg)
    (m' : (ℓ : Loc Cert.NorminRefIdeal.nD Cert.NorminRefIdeal.τ Cert.NorminRefIdeal.sig) → Buf (Elt Ideal) ℓ) (g' : Dev Cert.NorminRefIdeal.nD → PrngReg), Pre_NorminIdeal_normin_finite m →
    (∀ c : Dev Cert.NorminIdeal.nD,
      m' ((c.tc : Thread Cert.NorminRefIdeal.nD Cert.NorminRefIdeal.τ).loc Cert.NorminRefIdeal.main_arg0) = m ((c.tc : Thread Cert.NorminIdeal.nD Cert.NorminIdeal.τ).loc Cert.NorminIdeal.main_arg0)
      ∧ m' ((c.tc : Thread Cert.NorminRefIdeal.nD Cert.NorminRefIdeal.τ).loc Cert.NorminRefIdeal.main_arg1) = m ((c.tc : Thread Cert.NorminIdeal.nD Cert.NorminIdeal.τ).loc Cert.NorminIdeal.main_arg1)
      ∧ m' ((c.tc : Thread Cert.NorminRefIdeal.nD Cert.NorminRefIdeal.τ).loc Cert.NorminRefIdeal.main_arg2) = m ((c.tc : Thread Cert.NorminIdeal.nD Cert.NorminIdeal.τ).loc Cert.NorminIdeal.main_arg2)
      ∧ m' ((c.tc : Thread Cert.NorminRefIdeal.nD Cert.NorminRefIdeal.τ).loc Cert.NorminRefIdeal.main_arg3) = m ((c.tc : Thread Cert.NorminIdeal.nD Cert.NorminIdeal.τ).loc Cert.NorminIdeal.main_arg3)
      ∧ m' ((c.tc : Thread Cert.NorminRefIdeal.nD Cert.NorminRefIdeal.τ).loc Cert.NorminRefIdeal.main_arg4) = m ((c.tc : Thread Cert.NorminIdeal.nD Cert.NorminIdeal.τ).loc Cert.NorminIdeal.main_arg4)) →
    ∃ (v0 : (c : Dev Cert.NorminIdeal.nD) → Buf (Elt Ideal) ((c.tc : Thread Cert.NorminIdeal.nD Cert.NorminIdeal.τ).loc Cert.NorminIdeal.main_v5_0)) (v1 : (c : Dev Cert.NorminIdeal.nD) → Buf (Elt Ideal) ((c.tc : Thread Cert.NorminIdeal.nD Cert.NorminIdeal.τ).loc Cert.NorminIdeal.main_v5_1)),
      θ_run (Cert.NorminIdeal.defs (F := Ideal)) (onTc (τ := Cert.NorminIdeal.τ) (Cert.NorminIdeal.main (F := Ideal))) ⟨m, fun _ => 0, g⟩ (fun r => ∀ c : Dev Cert.NorminIdeal.nD,
          r.2.mem ((c.tc : Thread Cert.NorminIdeal.nD Cert.NorminIdeal.τ).loc Cert.NorminIdeal.main_v5_0) = v0 c
          ∧ r.2.mem ((c.tc : Thread Cert.NorminIdeal.nD Cert.NorminIdeal.τ).loc Cert.NorminIdeal.main_v5_1) = v1 c
          ∧ r.2.mem ((c.tc : Thread Cert.NorminIdeal.nD Cert.NorminIdeal.τ).loc Cert.NorminIdeal.main_arg0) = m ((c.tc : Thread Cert.NorminIdeal.nD Cert.NorminIdeal.τ).loc Cert.NorminIdeal.main_arg0)
          ∧ r.2.mem ((c.tc : Thread Cert.NorminIdeal.nD Cert.NorminIdeal.τ).loc Cert.NorminIdeal.main_arg1) = m ((c.tc : Thread Cert.NorminIdeal.nD Cert.NorminIdeal.τ).loc Cert.NorminIdeal.main_arg1)
          ∧ r.2.mem ((c.tc : Thread Cert.NorminIdeal.nD Cert.NorminIdeal.τ).loc Cert.NorminIdeal.main_arg2) = m ((c.tc : Thread Cert.NorminIdeal.nD Cert.NorminIdeal.τ).loc Cert.NorminIdeal.main_arg2)
          ∧ r.2.mem ((c.tc : Thread Cert.NorminIdeal.nD Cert.NorminIdeal.τ).loc Cert.NorminIdeal.main_arg3) = m ((c.tc : Thread Cert.NorminIdeal.nD Cert.NorminIdeal.τ).loc Cert.NorminIdeal.main_arg3)
          ∧ r.2.mem ((c.tc : Thread Cert.NorminIdeal.nD Cert.NorminIdeal.τ).loc Cert.NorminIdeal.main_arg4) = m ((c.tc : Thread Cert.NorminIdeal.nD Cert.NorminIdeal.τ).loc Cert.NorminIdeal.main_arg4))
      ∧ θ_run (Cert.NorminRefIdeal.defs (F := Ideal)) (onTc (τ := Cert.NorminRefIdeal.τ) (Cert.NorminRefIdeal.main (F := Ideal))) ⟨m', fun _ => 0, g'⟩ (fun r => ∀ c : Dev Cert.NorminRefIdeal.nD,
          r.2.mem ((c.tc : Thread Cert.NorminRefIdeal.nD Cert.NorminRefIdeal.τ).loc Cert.NorminRefIdeal.main_v38) = v0 c
          ∧ r.2.mem ((c.tc : Thread Cert.NorminRefIdeal.nD Cert.NorminRefIdeal.τ).loc Cert.NorminRefIdeal.main_v39) = v1 c
          ∧ r.2.mem ((c.tc : Thread Cert.NorminRefIdeal.nD Cert.NorminRefIdeal.τ).loc Cert.NorminRefIdeal.main_arg0) = m' ((c.tc : Thread Cert.NorminRefIdeal.nD Cert.NorminRefIdeal.τ).loc Cert.NorminRefIdeal.main_arg0)
          ∧ r.2.mem ((c.tc : Thread Cert.NorminRefIdeal.nD Cert.NorminRefIdeal.τ).loc Cert.NorminRefIdeal.main_arg1) = m' ((c.tc : Thread Cert.NorminRefIdeal.nD Cert.NorminRefIdeal.τ).loc Cert.NorminRefIdeal.main_arg1)
          ∧ r.2.mem ((c.tc : Thread Cert.NorminRefIdeal.nD Cert.NorminRefIdeal.τ).loc Cert.NorminRefIdeal.main_arg2) = m' ((c.tc : Thread Cert.NorminRefIdeal.nD Cert.NorminRefIdeal.τ).loc Cert.NorminRefIdeal.main_arg2)
          ∧ r.2.mem ((c.tc : Thread Cert.NorminRefIdeal.nD Cert.NorminRefIdeal.τ).loc Cert.NorminRefIdeal.main_arg3) = m' ((c.tc : Thread Cert.NorminRefIdeal.nD Cert.NorminRefIdeal.τ).loc Cert.NorminRefIdeal.main_arg3)
          ∧ r.2.mem ((c.tc : Thread Cert.NorminRefIdeal.nD Cert.NorminRefIdeal.τ).loc Cert.NorminRefIdeal.main_arg4) = m' ((c.tc : Thread Cert.NorminRefIdeal.nD Cert.NorminRefIdeal.τ).loc Cert.NorminRefIdeal.main_arg4))

def preserves_Normpw_NormpwIdeal : Prop :=
  True

def algebraic_NormpwIdeal_NormpwRefIdeal_pre_normpw_finite [hNormpwIdeal : Cert.NormpwIdeal.Facts] [hNormpwRefIdeal : Cert.NormpwRefIdeal.Facts] [hPre_normpw_finite : Cert.Pre_normpw_finite.Facts] : Prop :=
  ∀ (m : (ℓ : Loc Cert.NormpwIdeal.nD Cert.NormpwIdeal.τ Cert.NormpwIdeal.sig) → Buf (Elt Ideal) ℓ) (g : Dev Cert.NormpwIdeal.nD → PrngReg)
    (m' : (ℓ : Loc Cert.NormpwRefIdeal.nD Cert.NormpwRefIdeal.τ Cert.NormpwRefIdeal.sig) → Buf (Elt Ideal) ℓ) (g' : Dev Cert.NormpwRefIdeal.nD → PrngReg), Pre_NormpwIdeal_normpw_finite m →
    (∀ c : Dev Cert.NormpwIdeal.nD,
      m' ((c.tc : Thread Cert.NormpwRefIdeal.nD Cert.NormpwRefIdeal.τ).loc Cert.NormpwRefIdeal.main_arg0) = m ((c.tc : Thread Cert.NormpwIdeal.nD Cert.NormpwIdeal.τ).loc Cert.NormpwIdeal.main_arg0)
      ∧ m' ((c.tc : Thread Cert.NormpwRefIdeal.nD Cert.NormpwRefIdeal.τ).loc Cert.NormpwRefIdeal.main_arg1) = m ((c.tc : Thread Cert.NormpwIdeal.nD Cert.NormpwIdeal.τ).loc Cert.NormpwIdeal.main_arg1)
      ∧ m' ((c.tc : Thread Cert.NormpwRefIdeal.nD Cert.NormpwRefIdeal.τ).loc Cert.NormpwRefIdeal.main_arg2) = m ((c.tc : Thread Cert.NormpwIdeal.nD Cert.NormpwIdeal.τ).loc Cert.NormpwIdeal.main_arg2)
      ∧ m' ((c.tc : Thread Cert.NormpwRefIdeal.nD Cert.NormpwRefIdeal.τ).loc Cert.NormpwRefIdeal.main_arg3) = m ((c.tc : Thread Cert.NormpwIdeal.nD Cert.NormpwIdeal.τ).loc Cert.NormpwIdeal.main_arg3)
      ∧ m' ((c.tc : Thread Cert.NormpwRefIdeal.nD Cert.NormpwRefIdeal.τ).loc Cert.NormpwRefIdeal.main_arg4) = m ((c.tc : Thread Cert.NormpwIdeal.nD Cert.NormpwIdeal.τ).loc Cert.NormpwIdeal.main_arg4)) →
    ∃ (v0 : (c : Dev Cert.NormpwIdeal.nD) → Buf (Elt Ideal) ((c.tc : Thread Cert.NormpwIdeal.nD Cert.NormpwIdeal.τ).loc Cert.NormpwIdeal.main_v5_0)) (v1 : (c : Dev Cert.NormpwIdeal.nD) → Buf (Elt Ideal) ((c.tc : Thread Cert.NormpwIdeal.nD Cert.NormpwIdeal.τ).loc Cert.NormpwIdeal.main_v5_1)),
      θ_run (Cert.NormpwIdeal.defs (F := Ideal)) (onTc (τ := Cert.NormpwIdeal.τ) (Cert.NormpwIdeal.main (F := Ideal))) ⟨m, fun _ => 0, g⟩ (fun r => ∀ c : Dev Cert.NormpwIdeal.nD,
          r.2.mem ((c.tc : Thread Cert.NormpwIdeal.nD Cert.NormpwIdeal.τ).loc Cert.NormpwIdeal.main_v5_0) = v0 c
          ∧ r.2.mem ((c.tc : Thread Cert.NormpwIdeal.nD Cert.NormpwIdeal.τ).loc Cert.NormpwIdeal.main_v5_1) = v1 c
          ∧ r.2.mem ((c.tc : Thread Cert.NormpwIdeal.nD Cert.NormpwIdeal.τ).loc Cert.NormpwIdeal.main_arg0) = m ((c.tc : Thread Cert.NormpwIdeal.nD Cert.NormpwIdeal.τ).loc Cert.NormpwIdeal.main_arg0)
          ∧ r.2.mem ((c.tc : Thread Cert.NormpwIdeal.nD Cert.NormpwIdeal.τ).loc Cert.NormpwIdeal.main_arg1) = m ((c.tc : Thread Cert.NormpwIdeal.nD Cert.NormpwIdeal.τ).loc Cert.NormpwIdeal.main_arg1)
          ∧ r.2.mem ((c.tc : Thread Cert.NormpwIdeal.nD Cert.NormpwIdeal.τ).loc Cert.NormpwIdeal.main_arg2) = m ((c.tc : Thread Cert.NormpwIdeal.nD Cert.NormpwIdeal.τ).loc Cert.NormpwIdeal.main_arg2)
          ∧ r.2.mem ((c.tc : Thread Cert.NormpwIdeal.nD Cert.NormpwIdeal.τ).loc Cert.NormpwIdeal.main_arg3) = m ((c.tc : Thread Cert.NormpwIdeal.nD Cert.NormpwIdeal.τ).loc Cert.NormpwIdeal.main_arg3)
          ∧ r.2.mem ((c.tc : Thread Cert.NormpwIdeal.nD Cert.NormpwIdeal.τ).loc Cert.NormpwIdeal.main_arg4) = m ((c.tc : Thread Cert.NormpwIdeal.nD Cert.NormpwIdeal.τ).loc Cert.NormpwIdeal.main_arg4))
      ∧ θ_run (Cert.NormpwRefIdeal.defs (F := Ideal)) (onTc (τ := Cert.NormpwRefIdeal.τ) (Cert.NormpwRefIdeal.main (F := Ideal))) ⟨m', fun _ => 0, g'⟩ (fun r => ∀ c : Dev Cert.NormpwRefIdeal.nD,
          r.2.mem ((c.tc : Thread Cert.NormpwRefIdeal.nD Cert.NormpwRefIdeal.τ).loc Cert.NormpwRefIdeal.main_v38) = v0 c
          ∧ r.2.mem ((c.tc : Thread Cert.NormpwRefIdeal.nD Cert.NormpwRefIdeal.τ).loc Cert.NormpwRefIdeal.main_v39) = v1 c
          ∧ r.2.mem ((c.tc : Thread Cert.NormpwRefIdeal.nD Cert.NormpwRefIdeal.τ).loc Cert.NormpwRefIdeal.main_arg0) = m' ((c.tc : Thread Cert.NormpwRefIdeal.nD Cert.NormpwRefIdeal.τ).loc Cert.NormpwRefIdeal.main_arg0)
          ∧ r.2.mem ((c.tc : Thread Cert.NormpwRefIdeal.nD Cert.NormpwRefIdeal.τ).loc Cert.NormpwRefIdeal.main_arg1) = m' ((c.tc : Thread Cert.NormpwRefIdeal.nD Cert.NormpwRefIdeal.τ).loc Cert.NormpwRefIdeal.main_arg1)
          ∧ r.2.mem ((c.tc : Thread Cert.NormpwRefIdeal.nD Cert.NormpwRefIdeal.τ).loc Cert.NormpwRefIdeal.main_arg2) = m' ((c.tc : Thread Cert.NormpwRefIdeal.nD Cert.NormpwRefIdeal.τ).loc Cert.NormpwRefIdeal.main_arg2)
          ∧ r.2.mem ((c.tc : Thread Cert.NormpwRefIdeal.nD Cert.NormpwRefIdeal.τ).loc Cert.NormpwRefIdeal.main_arg3) = m' ((c.tc : Thread Cert.NormpwRefIdeal.nD Cert.NormpwRefIdeal.τ).loc Cert.NormpwRefIdeal.main_arg3)
          ∧ r.2.mem ((c.tc : Thread Cert.NormpwRefIdeal.nD Cert.NormpwRefIdeal.τ).loc Cert.NormpwRefIdeal.main_arg4) = m' ((c.tc : Thread Cert.NormpwRefIdeal.nD Cert.NormpwRefIdeal.τ).loc Cert.NormpwRefIdeal.main_arg4))

def preserves_Colb_ColbIdeal : Prop :=
  True

def algebraic_ColbIdeal_ColbRefIdeal [hColbIdeal : Cert.ColbIdeal.Facts] [hColbRefIdeal : Cert.ColbRefIdeal.Facts] : Prop :=
  ∀ (m : (ℓ : Loc Cert.ColbIdeal.nD Cert.ColbIdeal.τ Cert.ColbIdeal.sig) → Buf (Elt Ideal) ℓ) (g : Dev Cert.ColbIdeal.nD → PrngReg)
    (m' : (ℓ : Loc Cert.ColbRefIdeal.nD Cert.ColbRefIdeal.τ Cert.ColbRefIdeal.sig) → Buf (Elt Ideal) ℓ) (g' : Dev Cert.ColbRefIdeal.nD → PrngReg), Pre_ColbIdeal m →
    (∀ c : Dev Cert.ColbIdeal.nD,
      m' ((c.tc : Thread Cert.ColbRefIdeal.nD Cert.ColbRefIdeal.τ).loc Cert.ColbRefIdeal.main_arg0) = m ((c.tc : Thread Cert.ColbIdeal.nD Cert.ColbIdeal.τ).loc Cert.ColbIdeal.main_arg0)
      ∧ m' ((c.tc : Thread Cert.ColbRefIdeal.nD Cert.ColbRefIdeal.τ).loc Cert.ColbRefIdeal.main_arg1) = m ((c.tc : Thread Cert.ColbIdeal.nD Cert.ColbIdeal.τ).loc Cert.ColbIdeal.main_arg1)
      ∧ m' ((c.tc : Thread Cert.ColbRefIdeal.nD Cert.ColbRefIdeal.τ).loc Cert.ColbRefIdeal.main_arg2) = m ((c.tc : Thread Cert.ColbIdeal.nD Cert.ColbIdeal.τ).loc Cert.ColbIdeal.main_arg2)
      ∧ m' ((c.tc : Thread Cert.ColbRefIdeal.nD Cert.ColbRefIdeal.τ).loc Cert.ColbRefIdeal.main_arg3) = m ((c.tc : Thread Cert.ColbIdeal.nD Cert.ColbIdeal.τ).loc Cert.ColbIdeal.main_arg3)) →
    ∃ (v0 : (c : Dev Cert.ColbIdeal.nD) → Buf (Elt Ideal) ((c.tc : Thread Cert.ColbIdeal.nD Cert.ColbIdeal.τ).loc Cert.ColbIdeal.main_v5_0)) (v1 : (c : Dev Cert.ColbIdeal.nD) → Buf (Elt Ideal) ((c.tc : Thread Cert.ColbIdeal.nD Cert.ColbIdeal.τ).loc Cert.ColbIdeal.main_v5_1)),
      θ_run (Cert.ColbIdeal.defs (F := Ideal)) (onTc (τ := Cert.ColbIdeal.τ) (Cert.ColbIdeal.main (F := Ideal))) ⟨m, fun _ => 0, g⟩ (fun r => ∀ c : Dev Cert.ColbIdeal.nD,
          r.2.mem ((c.tc : Thread Cert.ColbIdeal.nD Cert.ColbIdeal.τ).loc Cert.ColbIdeal.main_v5_0) = v0 c
          ∧ r.2.mem ((c.tc : Thread Cert.ColbIdeal.nD Cert.ColbIdeal.τ).loc Cert.ColbIdeal.main_v5_1) = v1 c
          ∧ r.2.mem ((c.tc : Thread Cert.ColbIdeal.nD Cert.ColbIdeal.τ).loc Cert.ColbIdeal.main_arg0) = m ((c.tc : Thread Cert.ColbIdeal.nD Cert.ColbIdeal.τ).loc Cert.ColbIdeal.main_arg0)
          ∧ r.2.mem ((c.tc : Thread Cert.ColbIdeal.nD Cert.ColbIdeal.τ).loc Cert.ColbIdeal.main_arg1) = m ((c.tc : Thread Cert.ColbIdeal.nD Cert.ColbIdeal.τ).loc Cert.ColbIdeal.main_arg1)
          ∧ r.2.mem ((c.tc : Thread Cert.ColbIdeal.nD Cert.ColbIdeal.τ).loc Cert.ColbIdeal.main_arg2) = m ((c.tc : Thread Cert.ColbIdeal.nD Cert.ColbIdeal.τ).loc Cert.ColbIdeal.main_arg2)
          ∧ r.2.mem ((c.tc : Thread Cert.ColbIdeal.nD Cert.ColbIdeal.τ).loc Cert.ColbIdeal.main_arg3) = m ((c.tc : Thread Cert.ColbIdeal.nD Cert.ColbIdeal.τ).loc Cert.ColbIdeal.main_arg3))
      ∧ θ_run (Cert.ColbRefIdeal.defs (F := Ideal)) (onTc (τ := Cert.ColbRefIdeal.τ) (Cert.ColbRefIdeal.main (F := Ideal))) ⟨m', fun _ => 0, g'⟩ (fun r => ∀ c : Dev Cert.ColbRefIdeal.nD,
          r.2.mem ((c.tc : Thread Cert.ColbRefIdeal.nD Cert.ColbRefIdeal.τ).loc Cert.ColbRefIdeal.main_v13) = v0 c
          ∧ r.2.mem ((c.tc : Thread Cert.ColbRefIdeal.nD Cert.ColbRefIdeal.τ).loc Cert.ColbRefIdeal.main_v18) = v1 c
          ∧ r.2.mem ((c.tc : Thread Cert.ColbRefIdeal.nD Cert.ColbRefIdeal.τ).loc Cert.ColbRefIdeal.main_arg0) = m' ((c.tc : Thread Cert.ColbRefIdeal.nD Cert.ColbRefIdeal.τ).loc Cert.ColbRefIdeal.main_arg0)
          ∧ r.2.mem ((c.tc : Thread Cert.ColbRefIdeal.nD Cert.ColbRefIdeal.τ).loc Cert.ColbRefIdeal.main_arg1) = m' ((c.tc : Thread Cert.ColbRefIdeal.nD Cert.ColbRefIdeal.τ).loc Cert.ColbRefIdeal.main_arg1)
          ∧ r.2.mem ((c.tc : Thread Cert.ColbRefIdeal.nD Cert.ColbRefIdeal.τ).loc Cert.ColbRefIdeal.main_arg2) = m' ((c.tc : Thread Cert.ColbRefIdeal.nD Cert.ColbRefIdeal.τ).loc Cert.ColbRefIdeal.main_arg2)
          ∧ r.2.mem ((c.tc : Thread Cert.ColbRefIdeal.nD Cert.ColbRefIdeal.τ).loc Cert.ColbRefIdeal.main_arg3) = m' ((c.tc : Thread Cert.ColbRefIdeal.nD Cert.ColbRefIdeal.τ).loc Cert.ColbRefIdeal.main_arg3))

def Claim : Prop :=
  ∃ (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hCout : Cert.Cout.Facts) (hCoutIdeal : Cert.CoutIdeal.Facts) (hCoutRefIdeal : Cert.CoutRefIdeal.Facts) (hGrp : Cert.Grp.Facts) (hGrpIdeal : Cert.GrpIdeal.Facts) (hGrpRefIdeal : Cert.GrpRefIdeal.Facts) (hPool : Cert.Pool.Facts) (hPoolIdeal : Cert.PoolIdeal.Facts) (hPoolRefIdeal : Cert.PoolRefIdeal.Facts) (hSconv : Cert.Sconv.Facts) (hSconvIdeal : Cert.SconvIdeal.Facts) (hSconvRefIdeal : Cert.SconvRefIdeal.Facts) (hUp : Cert.Up.Facts) (hUpIdeal : Cert.UpIdeal.Facts) (hUpRefIdeal : Cert.UpRefIdeal.Facts) (hCmid : Cert.Cmid.Facts) (hCmidIdeal : Cert.CmidIdeal.Facts) (hCmidRefIdeal : Cert.CmidRefIdeal.Facts) (hCmidf : Cert.Cmidf.Facts) (hCmidfIdeal : Cert.CmidfIdeal.Facts) (hCmidfRefIdeal : Cert.CmidfRefIdeal.Facts) (hCol : Cert.Col.Facts) (hColIdeal : Cert.ColIdeal.Facts) (hColRefIdeal : Cert.ColRefIdeal.Facts) (hPoolf : Cert.Poolf.Facts) (hPoolfIdeal : Cert.PoolfIdeal.Facts) (hPoolfRefIdeal : Cert.PoolfRefIdeal.Facts) (hSconvf : Cert.Sconvf.Facts) (hSconvfIdeal : Cert.SconvfIdeal.Facts) (hSconvfRefIdeal : Cert.SconvfRefIdeal.Facts) (hNormin : Cert.Normin.Facts) (hNorminIdeal : Cert.NorminIdeal.Facts) (hNorminRefIdeal : Cert.NorminRefIdeal.Facts) (hNormpw : Cert.Normpw.Facts) (hNormpwIdeal : Cert.NormpwIdeal.Facts) (hNormpwRefIdeal : Cert.NormpwRefIdeal.Facts) (hColb : Cert.Colb.Facts) (hColbIdeal : Cert.ColbIdeal.Facts) (hColbRefIdeal : Cert.ColbRefIdeal.Facts) (hPre_loss_finite : Cert.Pre_loss_finite.Facts) (hPre_norm_finite : Cert.Pre_norm_finite.Facts) (hPre_gate_finite : Cert.Pre_gate_finite.Facts) (hPre_cout_finite : Cert.Pre_cout_finite.Facts) (hPre_pool_finite : Cert.Pre_pool_finite.Facts) (hPre_up_finite : Cert.Pre_up_finite.Facts) (hPre_poolf_finite : Cert.Pre_poolf_finite.Facts) (hPre_normin_finite : Cert.Pre_normin_finite.Facts) (hPre_normpw_finite : Cert.Pre_normpw_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Cout (hCout := hCout)
    ∧ quiescent_CoutIdeal (hCoutIdeal := hCoutIdeal)
    ∧ quiescent_CoutIdeal_pre_cout_finite (hCoutIdeal := hCoutIdeal) (hPre_cout_finite := hPre_cout_finite)
    ∧ quiescent_CoutRefIdeal (hCoutRefIdeal := hCoutRefIdeal)
    ∧ quiescent_CoutRefIdeal_pre_cout_finite (hCoutRefIdeal := hCoutRefIdeal) (hPre_cout_finite := hPre_cout_finite)
    ∧ quiescent_Grp (hGrp := hGrp)
    ∧ quiescent_GrpIdeal (hGrpIdeal := hGrpIdeal)
    ∧ quiescent_GrpRefIdeal (hGrpRefIdeal := hGrpRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Sconv (hSconv := hSconv)
    ∧ quiescent_SconvIdeal (hSconvIdeal := hSconvIdeal)
    ∧ quiescent_SconvRefIdeal (hSconvRefIdeal := hSconvRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Cmid (hCmid := hCmid)
    ∧ quiescent_CmidIdeal (hCmidIdeal := hCmidIdeal)
    ∧ quiescent_CmidRefIdeal (hCmidRefIdeal := hCmidRefIdeal)
    ∧ quiescent_Cmidf (hCmidf := hCmidf)
    ∧ quiescent_CmidfIdeal (hCmidfIdeal := hCmidfIdeal)
    ∧ quiescent_CmidfRefIdeal (hCmidfRefIdeal := hCmidfRefIdeal)
    ∧ quiescent_Col (hCol := hCol)
    ∧ quiescent_ColIdeal (hColIdeal := hColIdeal)
    ∧ quiescent_ColRefIdeal (hColRefIdeal := hColRefIdeal)
    ∧ quiescent_Poolf (hPoolf := hPoolf)
    ∧ quiescent_PoolfIdeal (hPoolfIdeal := hPoolfIdeal)
    ∧ quiescent_PoolfIdeal_pre_poolf_finite (hPoolfIdeal := hPoolfIdeal) (hPre_poolf_finite := hPre_poolf_finite)
    ∧ quiescent_PoolfRefIdeal (hPoolfRefIdeal := hPoolfRefIdeal)
    ∧ quiescent_PoolfRefIdeal_pre_poolf_finite (hPoolfRefIdeal := hPoolfRefIdeal) (hPre_poolf_finite := hPre_poolf_finite)
    ∧ quiescent_Sconvf (hSconvf := hSconvf)
    ∧ quiescent_SconvfIdeal (hSconvfIdeal := hSconvfIdeal)
    ∧ quiescent_SconvfRefIdeal (hSconvfRefIdeal := hSconvfRefIdeal)
    ∧ quiescent_Normin (hNormin := hNormin)
    ∧ quiescent_NorminIdeal (hNorminIdeal := hNorminIdeal)
    ∧ quiescent_NorminIdeal_pre_normin_finite (hNorminIdeal := hNorminIdeal) (hPre_normin_finite := hPre_normin_finite)
    ∧ quiescent_NorminRefIdeal (hNorminRefIdeal := hNorminRefIdeal)
    ∧ quiescent_NorminRefIdeal_pre_normin_finite (hNorminRefIdeal := hNorminRefIdeal) (hPre_normin_finite := hPre_normin_finite)
    ∧ quiescent_Normpw (hNormpw := hNormpw)
    ∧ quiescent_NormpwIdeal (hNormpwIdeal := hNormpwIdeal)
    ∧ quiescent_NormpwIdeal_pre_normpw_finite (hNormpwIdeal := hNormpwIdeal) (hPre_normpw_finite := hPre_normpw_finite)
    ∧ quiescent_NormpwRefIdeal (hNormpwRefIdeal := hNormpwRefIdeal)
    ∧ quiescent_NormpwRefIdeal_pre_normpw_finite (hNormpwRefIdeal := hNormpwRefIdeal) (hPre_normpw_finite := hPre_normpw_finite)
    ∧ quiescent_Colb (hColb := hColb)
    ∧ quiescent_ColbIdeal (hColbIdeal := hColbIdeal)
    ∧ quiescent_ColbRefIdeal (hColbRefIdeal := hColbRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Cout_CoutIdeal
    ∧ algebraic_CoutIdeal_CoutRefIdeal_pre_cout_finite (hCoutIdeal := hCoutIdeal) (hCoutRefIdeal := hCoutRefIdeal) (hPre_cout_finite := hPre_cout_finite)
    ∧ preserves_Grp_GrpIdeal
    ∧ algebraic_GrpIdeal_GrpRefIdeal (hGrpIdeal := hGrpIdeal) (hGrpRefIdeal := hGrpRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Sconv_SconvIdeal
    ∧ algebraic_SconvIdeal_SconvRefIdeal (hSconvIdeal := hSconvIdeal) (hSconvRefIdeal := hSconvRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_Cmid_CmidIdeal
    ∧ algebraic_CmidIdeal_CmidRefIdeal (hCmidIdeal := hCmidIdeal) (hCmidRefIdeal := hCmidRefIdeal)
    ∧ preserves_Cmidf_CmidfIdeal
    ∧ algebraic_CmidfIdeal_CmidfRefIdeal (hCmidfIdeal := hCmidfIdeal) (hCmidfRefIdeal := hCmidfRefIdeal)
    ∧ preserves_Col_ColIdeal
    ∧ algebraic_ColIdeal_ColRefIdeal (hColIdeal := hColIdeal) (hColRefIdeal := hColRefIdeal)
    ∧ preserves_Poolf_PoolfIdeal
    ∧ algebraic_PoolfIdeal_PoolfRefIdeal_pre_poolf_finite (hPoolfIdeal := hPoolfIdeal) (hPoolfRefIdeal := hPoolfRefIdeal) (hPre_poolf_finite := hPre_poolf_finite)
    ∧ preserves_Sconvf_SconvfIdeal
    ∧ algebraic_SconvfIdeal_SconvfRefIdeal (hSconvfIdeal := hSconvfIdeal) (hSconvfRefIdeal := hSconvfRefIdeal)
    ∧ preserves_Normin_NorminIdeal
    ∧ algebraic_NorminIdeal_NorminRefIdeal_pre_normin_finite (hNorminIdeal := hNorminIdeal) (hNorminRefIdeal := hNorminRefIdeal) (hPre_normin_finite := hPre_normin_finite)
    ∧ preserves_Normpw_NormpwIdeal
    ∧ algebraic_NormpwIdeal_NormpwRefIdeal_pre_normpw_finite (hNormpwIdeal := hNormpwIdeal) (hNormpwRefIdeal := hNormpwRefIdeal) (hPre_normpw_finite := hPre_normpw_finite)
    ∧ preserves_Colb_ColbIdeal
    ∧ algebraic_ColbIdeal_ColbRefIdeal (hColbIdeal := hColbIdeal) (hColbRefIdeal := hColbRefIdeal)
-- ==== Pre_cout_finite.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S1024 .f32) (main_arg2 : FVec F S1024 .f32) (main_arg3 : FVec F S1024x1024 .f32) (main_arg4 : FVec F S4096x1024 .f32) : IVec S4096x1024 1 × IVec S1024 1 × IVec S1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_gate_finite.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S2816x1024 .f32) (main_arg2 : FVec F S4096x1024 .f32) : IVec S4096x5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_norm_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024x5632 .f32) (main_arg3 : FVec F S4096x1024 .f32) (main_arg4 : FVec F S4096x5632 .f32) : IVec S4096x1024 1 × IVec S1024 1 × IVec S1024x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x5632 .f32 := Host.absf main_arg4
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  (main_v2, main_v5, main_v8, main_v11)
-- ==== Pre_normin_finite.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S4096x3072 : S_.BroadcastsInDim S4096x3072 (![] : Fin 0 → Fin S4096x3072.rank)

variable [Facts]

def fn {F : FTy → Type} [FloatOps F] (main_arg0 : FVec F S4096x1024 .f32) (main_arg1 : FVec F S1024 .f32) (main_arg2 : FVec F S1024x3072 .f32) (main_arg3 : FVec F S4096x1024 .f32) (main_arg4 : FVec F S4096x3072 .f32) : IVec S4096x1024 1 × IVec S1024 1 × IVec S1024x3072 1 × IVec S4096x3072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S4096x3072 .f32 := Host.absf main_arg4
  let main_cst_2 : FVec F S_ .f32 := constant S_ .f32 0x7F800000#32
  let main_v10 : FVec F S4096x3072 .f32 := broadcastInDim S4096x3072 ![] bcast_S_S4096x3072 main_cst_2
  let main_v11 : IVec S4096x3072 1 := cmpf .olt main_v9 main_v10
  (main_v2, main_v5, main_v8, main_v11)
-- ==== Pre_normpw_finite.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1024 .f32) (main_arg2 : FVec F S1024x2048 .f32) (main_arg3 : FVec F S4096x1024 .f32) (main_arg4 : FVec F S4096x2048 .f32) : IVec S4096x1024 1 × IVec S1024 1 × IVec S1024x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S4096x2048 .f32 := Host.absf main_arg4
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_pool_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) (main_arg3 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_poolf_finite.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4x256x256 .f32) (main_arg3 : FVec F S1024 .f32) : IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Pre_up_finite.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S4096x1024 .f32) (main_arg1 : FVec F S1024 .f32) (main_arg2 : FVec F S1024x5632 .f32) : IVec S4096x1024 1 × IVec S1024 1 × IVec S1024x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  (main_v2, main_v5, main_v8)
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v57 : BitVec 32 := Scalar.extui v0
  let c0_i32_22 : BitVec 32 := 0#32
  let v58 : BitVec 1 := Scalar.cmpi .ne v57 c0_i32_22
  v58

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v59 : BitVec 1 := Scalar.xori v0 v_true
  let v60 : BitVec 32 := Scalar.extui v59
  let c0_i32_23 : BitVec 32 := 0#32
  let v61 : BitVec 1 := Scalar.cmpi .ne v60 c0_i32_23
  v61

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_24 : BitVec 32 := 0#32
  let v63 : BitVec 1 := Scalar.cmpi .ne v62 c0_i32_24
  v63

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v64 : BitVec 1 := Scalar.xori v0 true_25
  let v65 : BitVec 32 := Scalar.extui v64
  let c0_i32_26 : BitVec 32 := 0#32
  let v66 : BitVec 1 := Scalar.cmpi .ne v65 c0_i32_26
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x5632, .bf16⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_30 : BitVec 32 := 0#32
  let v56 : BitVec 1 := Scalar.cmpi .ne v55 c0_i32_30
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Gate.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 27
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S2816x1024, .bf16⟩
  | .hbm, ⟨26, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Cout.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v63 : BitVec 32 := Scalar.extui v0
  let c0_i32_25 : BitVec 32 := 0#32
  let v64 : BitVec 1 := Scalar.cmpi .ne v63 c0_i32_25
  v64

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v65 : BitVec 1 := Scalar.xori v0 v_true
  let v66 : BitVec 32 := Scalar.extui v65
  let c0_i32_26 : BitVec 32 := 0#32
  let v67 : BitVec 1 := Scalar.cmpi .ne v66 c0_i32_26
  v67

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_28 : BitVec 32 := 0#32
  let v71 : BitVec 1 := Scalar.cmpi .ne v70 c0_i32_28
  v71

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v72 : BitVec 1 := Scalar.xori v0 true_29
  let v73 : BitVec 32 := Scalar.extui v72
  let c0_i32_30 : BitVec 32 := 0#32
  let v74 : BitVec 1 := Scalar.cmpi .ne v73 c0_i32_30
  v74

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v77 : BitVec 32 := Scalar.extui v0
  let c0_i32_32 : BitVec 32 := 0#32
  let v78 : BitVec 1 := Scalar.cmpi .ne v77 c0_i32_32
  v78

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v79 : BitVec 1 := Scalar.xori v0 true_33
  let v80 : BitVec 32 := Scalar.extui v79
  let c0_i32_34 : BitVec 32 := 0#32
  let v81 : BitVec 1 := Scalar.cmpi .ne v80 c0_i32_34
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== CoutRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S1x1024, .f32⟩
  | .hbm, ⟨109, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_cst_14 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== Grp.lean ====
abbrev S4096x1024 : Shape := ⟨2, ![4096, 1024]⟩
abbrev S4x256x256 : Shape := ⟨3, ![4, 256, 256]⟩
abbrev S1024 : Shape := ⟨1, ![1024]⟩
abbrev S4x4x64x256 : Shape := ⟨4, ![4, 4, 64, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 16
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S4096x1024, .f32⟩
  | .hbm, ⟨4, _⟩ => ⟨S4x256x256, .bf16⟩
  | .hbm, ⟨5, _⟩ => ⟨S4x4x64x256, .bf16⟩
  | .hbm, ⟨6, _⟩ => ⟨S4x4x64x256, .bf16⟩
  | .hbm, ⟨7, _⟩ => ⟨S4x256x256, .bf16⟩
  | .hbm, ⟨8, _⟩ => ⟨S4x4x64x256, .bf16⟩
  | .hbm, ⟨9, _⟩ => ⟨S4x4x64x256, .bf16⟩
  | .hbm, ⟨10, _⟩ => ⟨S4x256x256, .bf16⟩
  | .hbm, ⟨11, _⟩ => ⟨S4096x1024, .bf16⟩
  | .hbm, ⟨12, _⟩ => ⟨S1x1024, .f32⟩
  | .hbm, ⟨13, _⟩ => ⟨S4096x1024, .f32⟩
  | .hbm, ⟨14, _⟩ => ⟨S4x256x256, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S4x256x256, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v23 : BitVec 32 := Scalar.extui v0
  let c0_i32_16 : BitVec 32 := 0#32
  let v24 : BitVec 1 := Scalar.cmpi .ne v23 c0_i32_16
  v24

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_17 : BitVec 1 := 1#1
  let v25 : BitVec 1 := Scalar.xori v0 true_17
  let v26 : BitVec 32 := Scalar.extui v25
  let c0_i32_19 : BitVec 32 := 0#32
  let v27 : BitVec 1 := Scalar.cmpi .ne v26 c0_i32_19
  v27

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v50 : BitVec 32 := Scalar.extui v0
  let c0_i32_36 : BitVec 32 := 0#32
  let v51 : BitVec 1 := Scalar.cmpi .ne v50 c0_i32_36
  v51

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_37 : BitVec 1 := 1#1
  let v52 : BitVec 1 := Scalar.xori v0 true_37
  let v53 : BitVec 32 := Scalar.extui v52
  let c0_i32_39 : BitVec 32 := 0#32
  let v54 : BitVec 1 := Scalar.cmpi .ne v53 c0_i32_39
  v54

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v77 : BitVec 32 := Scalar.extui v0
  let c0_i32_56 : BitVec 32 := 0#32
  let v78 : BitVec 1 := Scalar.cmpi .ne v77 c0_i32_56
  v78

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v79 : BitVec 1 := Scalar.xori v0 true_57
  let v80 : BitVec 32 := Scalar.extui v79
  let c0_i32_59 : BitVec 32 := 0#32
  let v81 : BitVec 1 := Scalar.cmpi .ne v80 c0_i32_59
  v81

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v104 : BitVec 32 := Scalar.extui v0
  let c0_i32_76 : BitVec 32 := 0#32
  let v105 : BitVec 1 := Scalar.cmpi .ne v104 c0_i32_76
  v105

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_77 : BitVec 1 := 1#1
  let v106 : BitVec 1 := Scalar.xori v0 true_77
  let v107 : BitVec 32 := Scalar.extui v106
  let c0_i32_79 : BitVec 32 := 0#32
  let v108 : BitVec 1 := Scalar.cmpi .ne v107 c0_i32_79
  v108

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v17 : BitVec 32 := Scalar.extui v0
  let c0_i32_12 : BitVec 32 := 0#32
  let v18 : BitVec 1 := Scalar.cmpi .ne v17 c0_i32_12
  v18

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v19 : BitVec 1 := Scalar.xori v0 v_true
  let v20 : BitVec 32 := Scalar.extui v19
  let c0_i32_13 : BitVec 32 := 0#32
  let v21 : BitVec 1 := Scalar.cmpi .ne v20 c0_i32_13
  v21

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_32 : BitVec 32 := 0#32
  let v45 : BitVec 1 := Scalar.cmpi .ne v44 c0_i32_32
  v45

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v46 : BitVec 1 := Scalar.xori v0 true_33
  let v47 : BitVec 32 := Scalar.extui v46
  let c0_i32_34 : BitVec 32 := 0#32
  let v48 : BitVec 1 := Scalar.cmpi .ne v47 c0_i32_34
  v48

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v71 : BitVec 32 := Scalar.extui v0
  let c0_i32_52 : BitVec 32 := 0#32
  let v72 : BitVec 1 := Scalar.cmpi .ne v71 c0_i32_52
  v72

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_53 : BitVec 1 := 1#1
  let v73 : BitVec 1 := Scalar.xori v0 true_53
  let v74 : BitVec 32 := Scalar.extui v73
  let c0_i32_54 : BitVec 32 := 0#32
  let v75 : BitVec 1 := Scalar.cmpi .ne v74 c0_i32_54
  v75

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v98 : BitVec 32 := Scalar.extui v0
  let c0_i32_72 : BitVec 32 := 0#32
  let v99 : BitVec 1 := Scalar.cmpi .ne v98 c0_i32_72
  v99

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_73 : BitVec 1 := 1#1
  let v100 : BitVec 1 := Scalar.xori v0 true_73
  let v101 : BitVec 32 := Scalar.extui v100
  let c0_i32_74 : BitVec 32 := 0#32
  let v102 : BitVec 1 := Scalar.cmpi .ne v101 c0_i32_74
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GrpRefIdeal.lean ====
abbrev S4096x1024 : Shape := ⟨2, ![4096, 1024]⟩
abbrev S4x256x256 : Shape := ⟨3, ![4, 256, 256]⟩
abbrev S1024 : Shape := ⟨1, ![1024]⟩
abbrev S4096x4x256 : Shape := ⟨3, ![4096, 4, 256]⟩
abbrev S4x256x4096 : Shape := ⟨3, ![4, 256, 4096]⟩
abbrev S1x1024 : Shape := ⟨2, ![1, 1024]⟩
abbrev S_ : Shape := ⟨0, ![]⟩
abbrev S4x4096x256 : Shape := ⟨3, ![4, 4096, 256]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S4096x1024, .f32⟩
  | .hbm, ⟨4, _⟩ => ⟨S4096x4x256, .f32⟩
  | .hbm, ⟨5, _⟩ => ⟨S4x256x4096, .f32⟩
  | .hbm, ⟨6, _⟩ => ⟨S4096x4x256, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S4096x4x256, .f32⟩
  | .hbm, ⟨20, _⟩ => ⟨S4x256x4096, .f32⟩
  | .hbm, ⟨21, _⟩ => ⟨S4x4096x256, .f32⟩
  | .hbm, ⟨22, _⟩ => ⟨S4096x4x256, .f32⟩
  | .hbm, ⟨23, _⟩ => ⟨S4x256x256, .f32⟩
  | .hbm, ⟨24, _⟩ => ⟨S4x256x256, .f32⟩
  | .hbm, ⟨25, _⟩ => ⟨S4096x1024, .f32⟩
  | .hbm, ⟨26, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Pool.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S512x1 : Shape := ⟨2, ![512, 1]⟩
abbrev S16x256 : Shape := ⟨2, ![16, 256]⟩
abbrev S16x1 : Shape := ⟨2, ![16, 1]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S528x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v248 : BitVec 1 := Scalar.cmpi .eq arg0 c0_i32
  let v249 : BitVec 32 := Scalar.extui v248
  let c0_i32_129 : BitVec 32 := 0#32
  let v250 : BitVec 1 := Scalar.cmpi .ne v249 c0_i32_129
  v250

def k0_cond2 (i : grid0.Coords) : BitVec 1 :=
  let arg0 : BitVec 32 := BitVec.ofNat 32 (i 0).val
  let c0_i32 : BitVec 32 := 0#32
  let v248 : BitVec 1 := Scalar.cmpi .eq arg0 c0_i32
  let v_true : BitVec 1 := 1#1
  let v251 : BitVec 1 := Scalar.xori v248 v_true
  let v252 : BitVec 32 := Scalar.extui v251
  let c0_i32_130 : BitVec 32 := 0#32
  let v253 : BitVec 1 := Scalar.cmpi .ne v252 c0_i32_130
  v253

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩

abbrev nBuf : Space → Nat
  | .hbm => 201
  | .vmem => 0
  | .smem => 0
  | _ => 0

abbrev hbmTy0_0 (i : Nat) : BufTy := match i % 128 with
  | 0 => ⟨S4096x1024, .f32⟩
  | 1 => ⟨S1024, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x4x256, .f32⟩
  | 25 => ⟨S_, .f32⟩
  | 26 => ⟨S_, .f32⟩
  | 27 => ⟨S4096x4x256, .f32⟩
  | 28 => ⟨S4096, .i32⟩
  | 29 => ⟨S4096x1x256, .f32⟩
  | 30 => ⟨S4096x256, .f32⟩
  | 31 => ⟨S_, .f32⟩
  | 32 => ⟨S2x256, .f32⟩
  | 33 => ⟨S4098x256, .f32⟩
  | 34 => ⟨S_, .f32⟩
  | 35 => ⟨S2x256, .f32⟩
  | 36 => ⟨S4096x256, .f32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S4096, .f32⟩
  | 44 => ⟨S4096x1, .f32⟩
  | 45 => ⟨S4096x256, .f32⟩
  | 46 => ⟨S4096x256, .f32⟩
  | 47 => ⟨S4096x256, .f32⟩
  | 48 => ⟨S4096x1x256, .f32⟩
  | 49 => ⟨S4096x256, .f32⟩
  | 50 => ⟨S_, .f32⟩
  | 51 => ⟨S4x256, .f32⟩
  | 52 => ⟨S4100x256, .f32⟩
  | 53 => ⟨S_, .f32⟩
  | 54 => ⟨S4x256, .f32⟩
  | 55 => ⟨S4096x256, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S4096x1, .f32⟩
  | 64 => ⟨S4096x256, .f32⟩
  | 65 => ⟨S4096x256, .f32⟩
  | 66 => ⟨S4096x256, .f32⟩
  | 67 => ⟨S4096x1x256, .f32⟩
  | 68 => ⟨S4096x256, .f32⟩
  | 69 => ⟨S_, .f32⟩
  | 70 => ⟨S8x256, .f32⟩
  | 71 => ⟨S4104x256, .f32⟩
  | 72 => ⟨S_, .f32⟩
  | 73 => ⟨S8x256, .f32⟩
  | 74 => ⟨S4096x256, .f32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .f32⟩
  | 82 => ⟨S4096x1, .f32⟩
  | 83 => ⟨S4096x256, .f32⟩
  | 84 => ⟨S4096x256, .f32⟩
  | 85 => ⟨S4096x256, .f32⟩
  | 86 => ⟨S4096x1x256, .f32⟩
  | 87 => ⟨S4096x256, .f32⟩
  | 88 => ⟨S_, .f32⟩
  | 89 => ⟨S16x256, .f32⟩
  | 90 => ⟨S4112x256, .f32⟩
  | 91 => ⟨S_, .f32⟩
  | 92 => ⟨S16x256, .f32⟩
  | 93 => ⟨S4096x256, .f32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .f32⟩
  | 101 => ⟨S4096x1, .f32⟩
  | 102 => ⟨S4096x256, .f32⟩
  | 103 => ⟨S4096x256, .f32⟩
  | 104 => ⟨S4096x256, .f32⟩
  | 105 => ⟨S4096x1x256, .f32⟩
  | 106 => ⟨S4096x1x256, .f32⟩
  | 107 => ⟨S4096x1x256, .f32⟩
  | 108 => ⟨S4096x1x256, .f32⟩
  | 109 => ⟨S4096x4x256, .f32⟩
  | 110 => ⟨S4096x4x256, .f32⟩
  | 111 => ⟨S4096x1024, .f32⟩
  | 112 => ⟨S4096x4x256, .f32⟩
  | 113 => ⟨S4096x4x256, .f32⟩
  | 114 => ⟨S4096x1x256, .f32⟩
  | 115 => ⟨S4096x256, .f32⟩
  | 116 => ⟨S4096x1x256, .f32⟩
  | 117 => ⟨S4096x256, .f32⟩
  | 118 => ⟨S4096x1x256, .f32⟩
  | 119 => ⟨S4096x256, .f32⟩
  | 120 => ⟨S4096x1x256, .f32⟩
  | 121 => ⟨S4096x256, .f32⟩
  | 122 => ⟨S4096x256, .f32⟩
  | 123 => ⟨S4096x256, .f32⟩
  | 124 => ⟨S4096x256, .f32⟩
  | 125 => ⟨S_, .f32⟩
  | 126 => ⟨S4112x256, .f32⟩
  | 127 => ⟨S16x256, .f32⟩
  | _ => ⟨S4096x1024, .f32⟩

abbrev hbmTy0_1 (i : Nat) : BufTy := match i % 128 with
  | 0 => ⟨S4096x256, .f32⟩
  | 1 => ⟨S4096x256, .f32⟩
  | 2 => ⟨S4096x1x256, .f32⟩
  | 3 => ⟨S_, .f32⟩
  | 4 => ⟨S4096x4x256, .f32⟩
  | 5 => ⟨S4096x256, .f32⟩
  | 6 => ⟨S4096x256, .f32⟩
  | 7 => ⟨S4096x256, .f32⟩
  | 8 => ⟨S_, .f32⟩
  | 9 => ⟨S4104x256, .f32⟩
  | 10 => ⟨S8x256, .f32⟩
  | 11 => ⟨S4096x256, .f32⟩
  | 12 => ⟨S4096x256, .f32⟩
  | 13 => ⟨S4096x1x256, .f32⟩
  | 14 => ⟨S_, .f32⟩
  | 15 => ⟨S4096x4x256, .f32⟩
  | 16 => ⟨S4096x4x256, .f32⟩
  | 17 => ⟨S4096x256, .f32⟩
  | 18 => ⟨S4096x256, .f32⟩
  | 19 => ⟨S4096x256, .f32⟩
  | 20 => ⟨S_, .f32⟩
  | 21 => ⟨S4100x256, .f32⟩
  | 22 => ⟨S4x256, .f32⟩
  | 23 => ⟨S4096x256, .f32⟩
  | 24 => ⟨S4096x256, .f32⟩
  | 25 => ⟨S4096x1x256, .f32⟩
  | 26 => ⟨S_, .f32⟩
  | 27 => ⟨S4096x4x256, .f32⟩
  | 28 => ⟨S4096x4x256, .f32⟩
  | 29 => ⟨S4096x256, .f32⟩
  | 30 => ⟨S4096x256, .f32⟩
  | 31 => ⟨S4096x256, .f32⟩
  | 32 => ⟨S_, .f32⟩
  | 33 => ⟨S4098x256, .f32⟩
  | 34 => ⟨S2x256, .f32⟩
  | 35 => ⟨S4096x256, .f32⟩
  | 36 => ⟨S4096x256, .f32⟩
  | 37 => ⟨S4096x1x256, .f32⟩
  | 38 => ⟨S_, .f32⟩
  | 39 => ⟨S4096x4x256, .f32⟩
  | 40 => ⟨S4096x4x256, .f32⟩
  | 41 => ⟨S_, .f32⟩
  | 42 => ⟨S_, .f32⟩
  | 43 => ⟨S4096x4x256, .f32⟩
  | 44 => ⟨S4096x4x256, .f32⟩
  | 45 => ⟨S4096x1024, .f32⟩
  | 46 => ⟨S4096x1024, .f32⟩
  | 47 => ⟨S_, .f32⟩
  | 48 => ⟨S1024, .f32⟩
  | 49 => ⟨S1x1024, .f32⟩
  | 50 => ⟨S4096x1024, .f32⟩
  | 51 => ⟨S4096x1024, .f32⟩
  | 52 => ⟨S_, .f32⟩
  | 53 => ⟨S1024, .f32⟩
  | 54 => ⟨S4096x1024, .f32⟩
  | 55 => ⟨S_, .f32⟩
  | 56 => ⟨S4096, .f32⟩
  | 57 => ⟨S4096x1, .f32⟩
  | 58 => ⟨S4096x1024, .f32⟩
  | 59 => ⟨S4096x1024, .f32⟩
  | 60 => ⟨S4096x1024, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_call0_cst : Ref sig .tc := ⟨.hbm, 25, rfl⟩
abbrev main_call0_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_c_16 : Ref sig .tc := ⟨.hbm, 94, rfl⟩
abbrev main_v70 : Ref sig .tc := ⟨.hbm, 95, rfl⟩
abbrev main_v71 : Ref sig .tc := ⟨.hbm, 96, rfl⟩
abbrev main_c_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_19 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_20 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_21 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_23 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_24 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_25 : Ref sig .tc := ⟨.hbm, 166, rfl⟩
abbrev main_v133 : Ref sig .tc := ⟨.hbm, 167, rfl⟩
abbrev main_v134 : Ref sig .tc := ⟨.hbm, 168, rfl⟩
abbrev main_call1_call0_cst : Ref sig .tc := ⟨.hbm, 169, rfl⟩
abbrev main_call1_call0_v0 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_26 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_27 : Ref sig .tc := ⟨.hbm, 180, rfl⟩
abbrev main_v143 : Ref sig .tc := ⟨.hbm, 181, rfl⟩
abbrev main_v144 : Ref sig .tc := ⟨.hbm, 182, rfl⟩
abbrev main_cst_28 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_29 : Ref sig .tc := ⟨.hbm, 190, rfl⟩
abbrev main_v151 : Ref sig .tc := ⟨.hbm, 191, rfl⟩
abbrev main_v152 : Ref sig .tc := ⟨.hbm, 192, rfl⟩
abbrev main_cst_30 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩

abbrev nD : Nat := 1
abbrev τ : Topo := Topo.v7x

variable {F : FTy → Type} [FloatOps F]
-- ==== Sconv.lean ====
abbrev S4096x3072 : Shape := ⟨2, ![4096, 3072]⟩
abbrev S3x1024 : Shape := ⟨2, ![3, 1024]⟩
abbrev S4096x1024 : Shape := ⟨2, ![4096, 1024]⟩
abbrev S8x1024 : Shape := ⟨2, ![8, 1024]⟩
abbrev S256x1024 : Shape := ⟨2, ![256, 1024]⟩
abbrev S256x3072 : Shape := ⟨2, ![256, 3072]⟩
abbrev S16x3072 : Shape := ⟨2, ![16, 3072]⟩
abbrev S8x272x1024 : Shape := ⟨3, ![8, 272, 1024]⟩
abbrev S8x264x1024 : Shape := ⟨3, ![8, 264, 1024]⟩
abbrev S16x1024 : Shape := ⟨2, ![16, 1024]⟩
abbrev S1x272x1024 : Shape := ⟨3, ![1, 272, 1024]⟩
abbrev S272x1024 : Shape := ⟨2, ![272, 1024]⟩
abbrev S1x264x1024 : Shape := ⟨3, ![1, 264, 1024]⟩
abbrev S264x1024 : Shape := ⟨2, ![264, 1024]⟩
abbrev S1x256x1024 : Shape := ⟨3, ![1, 256, 1024]⟩
abbrev S1x8x1024 : Shape := ⟨3, ![1, 8, 1024]⟩
abbrev S8x512 : Shape := ⟨2, ![8, 512]⟩
abbrev S1x32x512 : Shape := ⟨3, ![1, 32, 512]⟩
abbrev S32x512 : Shape := ⟨2, ![32, 512]⟩
abbrev S1x512 : Shape := ⟨2, ![1, 512]⟩
abbrev S512 : Shape := ⟨1, ![512]⟩

abbrev nBuf : Space → Nat
  | .hbm => 7
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x3072, .bf16⟩
  | .hbm, ⟨4, _⟩ => ⟨S4096x3072, .bf16⟩
  | .hbm, ⟨5, _⟩ => ⟨S8x1024, .f32⟩
  | .hbm, ⟨6, _⟩ => ⟨S3x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x3072, .bf16⟩
  | .local _ .vmem, ⟨5, _⟩ => ⟨S256x3072, .bf16⟩
  | .local _ .vmem, ⟨6, _⟩ => ⟨S16x3072, .bf16⟩
  | .local _ .vmem, ⟨7, _⟩ => ⟨S16x3072, .bf16⟩
  | .local _ .vmem, ⟨8, _⟩ => ⟨S16x3072, .bf16⟩
  | .local _ .vmem, ⟨9, _⟩ => ⟨S16x3072, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S8x272x1024, .f32⟩
  | .local _ .vmem, ⟨15, _⟩ => ⟨S8x264x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_51 : BitVec 32 := 0#32
  let c2_i32 : BitVec 32 := 2#32
  let v71 : BitVec 32 := Scalar.addi c0_i32_51 c2_i32
  let c1_i32 : BitVec 32 := 1#32
  ⟨c0_i32_51, v71, c1_i32⟩
def k0_mult1 (k0_t1 : Fin k0_t1_loop.trips) : BitVec 32 :=
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  v72
def k0_mult2 (k0_t1 : Fin k0_t1_loop.trips) : BitVec 32 :=
  let c1024_i32 : BitVec 32 := 1024#32
  let c0_i32_51 : BitVec 32 := 0#32
  let c1_i32 : BitVec 32 := 1#32
  let arg11 : BitVec 32 := Scf.iv c0_i32_51 c1_i32 k0_t1
  let c512_i32_53 : BitVec 32 := 512#32
  let v74 : BitVec 32 := Scalar.muli arg11 c512_i32_53
  let v75 : BitVec 32 := Scalar.addi c1024_i32 v74
  v75
def k0_mult3 (k0_t1 : Fin k0_t1_loop.trips) : BitVec 32 :=
  let c2048_i32 : BitVec 32 := 2048#32
  let c0_i32_51 : BitVec 32 := 0#32
  let c1_i32 : BitVec 32 := 1#32
  let arg11 : BitVec 32 := Scf.iv c0_i32_51 c1_i32 k0_t1
  let c512_i32_54 : BitVec 32 := 512#32
  let v77 : BitVec 32 := Scalar.muli arg11 c512_i32_54
  let v78 : BitVec 32 := Scalar.addi c2048_i32 v77
  v78
@[reducible] def k0_t2_loop : Scf.Loop 32 :=
  let c0_i32_55 : BitVec 32 := 0#32
  let c8_i32 : BitVec 32 := 8#32
  let v80 : BitVec 32 := Scalar.addi c0_i32_55 c8_i32
  let c1_i32_56 : BitVec 32 := 1#32
  ⟨c0_i32_55, v80, c1_i32_56⟩
def k0_mult4 (k0_t2 : Fin k0_t2_loop.trips) : BitVec 32 :=
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  v106
def k0_mult5 (k0_t2 : Fin k0_t2_loop.trips) : BitVec 32 :=
  let c8_i32_67 : BitVec 32 := 8#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v108 : BitVec 32 := Scalar.addi c8_i32_67 v107
  v108
def k0_off1 (k0_t1 : Fin k0_t1_loop.trips) (k0_t2 : Fin k0_t2_loop.trips) : Fin 3 → Nat :=
  let c6_68 : Index := 6#32
  let c8_i32_67 : BitVec 32 := 8#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v108 : BitVec 32 := Scalar.addi c8_i32_67 v107
  let v109 : BitVec 32 := v108
  let v110 : Index := Scalar.indexCast v109
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v111 : Index := Scalar.indexCast v73
  ![6, v110.toNat, v111.toNat]
def k0_mult6 (k0_t2 : Fin k0_t2_loop.trips) : BitVec 32 :=
  let c8_i32_69 : BitVec 32 := 8#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v114 : BitVec 32 := Scalar.addi c8_i32_69 v107
  v114
def k0_off2 (k0_t1 : Fin k0_t1_loop.trips) (k0_t2 : Fin k0_t2_loop.trips) : Fin 3 → Nat :=
  let c7_70 : Index := 7#32
  let c8_i32_69 : BitVec 32 := 8#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v114 : BitVec 32 := Scalar.addi c8_i32_69 v107
  let v115 : BitVec 32 := v114
  let v116 : Index := Scalar.indexCast v115
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v117 : Index := Scalar.indexCast v73
  ![7, v116.toNat, v117.toNat]
def k0_mult7 (k0_t2 : Fin k0_t2_loop.trips) : BitVec 32 :=
  let c16_i32 : BitVec 32 := 16#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v120 : BitVec 32 := Scalar.addi c16_i32 v107
  v120
def k0_off3 (k0_t1 : Fin k0_t1_loop.trips) (k0_t2 : Fin k0_t2_loop.trips) : Fin 3 → Nat :=
  let c0_71 : Index := 0#32
  let c16_i32 : BitVec 32 := 16#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v120 : BitVec 32 := Scalar.addi c16_i32 v107
  let v121 : BitVec 32 := v120
  let v122 : Index := Scalar.indexCast v121
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v123 : Index := Scalar.indexCast v73
  ![0, v122.toNat, v123.toNat]
def k0_off4 (k0_t1 : Fin k0_t1_loop.trips) (k0_t2 : Fin k0_t2_loop.trips) : Fin 2 → Nat :=
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v126 : Index := Scalar.indexCast v107
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v127 : Index := Scalar.indexCast v73
  ![v126.toNat, v127.toNat]
def k0_off5 (k0_t1 : Fin k0_t1_loop.trips) : Fin 2 → Nat :=
  let c0_72 : Index := 0#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v129 : Index := Scalar.indexCast v73
  ![0, v129.toNat]
def k0_off6 (k0_t1 : Fin k0_t1_loop.trips) : Fin 2 → Nat :=
  let c1_73 : Index := 1#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v133 : Index := Scalar.indexCast v73
  ![1, v133.toNat]
def k0_off7 (k0_t1 : Fin k0_t1_loop.trips) : Fin 2 → Nat :=
  let c2_74 : Index := 2#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v137 : Index := Scalar.indexCast v73
  ![2, v137.toNat]
def k0_off8 (k0_t1 : Fin k0_t1_loop.trips) (k0_t2 : Fin k0_t2_loop.trips) : Fin 2 → Nat :=
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v145 : Index := Scalar.indexCast v107
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v146 : Index := Scalar.indexCast v73
  ![v145.toNat, v146.toNat]
def k0_mult8 (k0_t2 : Fin k0_t2_loop.trips) : BitVec 32 :=
  let c0_i32_75 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v148 : BitVec 32 := Scalar.addi c0_i32_75 v107
  v148
def k0_off9 (k0_t1 : Fin k0_t1_loop.trips) (k0_t2 : Fin k0_t2_loop.trips) : Fin 3 → Nat :=
  let c2_76 : Index := 2#32
  let c0_i32_75 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v148 : BitVec 32 := Scalar.addi c0_i32_75 v107
  let v149 : BitVec 32 := v148
  let v150 : Index := Scalar.indexCast v149
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v151 : Index := Scalar.indexCast v73
  ![2, v150.toNat, v151.toNat]
def k0_mult9 (k0_t2 : Fin k0_t2_loop.trips) : BitVec 32 :=
  let c0_i32_77 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v154 : BitVec 32 := Scalar.addi c0_i32_77 v107
  v154
def k0_off10 (k0_t1 : Fin k0_t1_loop.trips) (k0_t2 : Fin k0_t2_loop.trips) : Fin 3 → Nat :=
  let c1_78 : Index := 1#32
  let c0_i32_77 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v154 : BitVec 32 := Scalar.addi c0_i32_77 v107
  let v155 : BitVec 32 := v154
  let v156 : Index := Scalar.indexCast v155
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v157 : Index := Scalar.indexCast v73
  ![1, v156.toNat, v157.toNat]
def k0_mult10 (k0_t2 : Fin k0_t2_loop.trips) : BitVec 32 :=
  let c0_i32_79 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v160 : BitVec 32 := Scalar.addi c0_i32_79 v107
  v160
def k0_off11 (k0_t1 : Fin k0_t1_loop.trips) (k0_t2 : Fin k0_t2_loop.trips) : Fin 3 → Nat :=
  let c0_80 : Index := 0#32
  let c0_i32_79 : BitVec 32 := 0#32
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v160 : BitVec 32 := Scalar.addi c0_i32_79 v107
  let v161 : BitVec 32 := v160
  let v162 : Index := Scalar.indexCast v161
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v163 : Index := Scalar.indexCast v73
  ![0, v162.toNat, v163.toNat]
def k0_off12 (k0_t1 : Fin k0_t1_loop.trips) (k0_t2 : Fin k0_t2_loop.trips) (c2048_i32 : BitVec 32) : Fin 2 → Nat :=
  let c0_i32_55 : BitVec 32 := 0#32
  let c1_i32_56 : BitVec 32 := 1#32
  let arg12 : BitVec 32 := Scf.iv c0_i32_55 c1_i32_56 k0_t2
  let c32_i32 : BitVec 32 := 32#32
  let v106 : BitVec 32 := Scalar.muli arg12 c32_i32
  let v107 : BitVec 32 := v106
  let v180 : Index := Scalar.indexCast v107
  let c0_i32_51 : BitVec 32 := 0#32
  let c1_i32 : BitVec 32 := 1#32
  let arg11 : BitVec 32 := Scf.iv c0_i32_51 c1_i32 k0_t1
  let c512_i32_54 : BitVec 32 := 512#32
  let v77 : BitVec 32 := Scalar.muli arg11 c512_i32_54
  let v78 : BitVec 32 := Scalar.addi c2048_i32 v77
  let v79 : BitVec 32 := v78
  let v181 : Index := Scalar.indexCast v79
  ![v180.toNat, v181.toNat]
def k0_off13 (k0_t1 : Fin k0_t1_loop.trips) : Fin 2 → Nat :=
  let c0_58 : Index := 0#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v82 : Index := Scalar.indexCast v73
  ![0, v82.toNat]
def k0_off14 (k0_t1 : Fin k0_t1_loop.trips) : Fin 2 → Nat :=
  let c1_61 : Index := 1#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v90 : Index := Scalar.indexCast v73
  ![1, v90.toNat]
def k0_off15 (k0_t1 : Fin k0_t1_loop.trips) : Fin 2 → Nat :=
  let c2_64 : Index := 2#32
  let c0_i32_51 : BitVec 32 := 0#32
  let c1_i32 : BitVec 32 := 1#32
  let arg11 : BitVec 32 := Scf.iv c0_i32_51 c1_i32 k0_t1
  let c512_i32 : BitVec 32 := 512#32
  let v72 : BitVec 32 := Scalar.muli arg11 c512_i32
  let v73 : BitVec 32 := v72
  let v98 : Index := Scalar.indexCast v73
  ![2, v98.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SconvRefIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S4098x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S4098x1024, .f32⟩
  | .hbm, ⟨61, _⟩ => ⟨S4098x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S4098x1024, .f32⟩
  | .hbm, ⟨76, _⟩ => ⟨S4098x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x3072, .f32⟩
  | .hbm, ⟨86, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Up.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S512x1024, .bf16⟩
  | .local _ .vmem, ⟨8, _⟩ => ⟨S512x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .bf16⟩
  | .hbm, ⟨36, _⟩ => ⟨S4096x2816, .f32⟩
  | .hbm, ⟨37, _⟩ => ⟨S4096x2816, .bf16⟩
  | .hbm, ⟨38, _⟩ => ⟨S4096x2816, .bf16⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v16_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v16_1 : Ref sig .tc := ⟨.hbm, 33, rfl⟩
abbrev main_v16_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== Cmid.lean ====
abbrev S4096x2048 : Shape := ⟨2, ![4096, 2048]⟩
abbrev S31x1024 : Shape := ⟨2, ![31, 1024]⟩
abbrev S4096x1024 : Shape := ⟨2, ![4096, 1024]⟩
abbrev S32x1024 : Shape := ⟨2, ![32, 1024]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S32x2048 : Shape := ⟨2, ![32, 2048]⟩
abbrev S8x288x1024 : Shape := ⟨3, ![8, 288, 1024]⟩
abbrev S1x288x1024 : Shape := ⟨3, ![1, 288, 1024]⟩
abbrev S288x1024 : Shape := ⟨2, ![288, 1024]⟩
abbrev S1x280x1024 : Shape := ⟨3, ![1, 280, 1024]⟩
abbrev S280x1024 : Shape := ⟨2, ![280, 1024]⟩
abbrev S1x256x1024 : Shape := ⟨3, ![1, 256, 1024]⟩
abbrev S1x32x1024 : Shape := ⟨3, ![1, 32, 1024]⟩
abbrev S8x512 : Shape := ⟨2, ![8, 512]⟩
abbrev S1x512 : Shape := ⟨2, ![1, 512]⟩
abbrev S1x32x512 : Shape := ⟨3, ![1, 32, 512]⟩
abbrev S32x512 : Shape := ⟨2, ![32, 512]⟩
abbrev S512 : Shape := ⟨1, ![512]⟩
abbrev S1x8x512 : Shape := ⟨3, ![1, 8, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S31x1024, .f32⟩
  | .hbm, ⟨2, _⟩ => ⟨S4096x1024, .f32⟩
  | .hbm, ⟨3, _⟩ => ⟨S4096x2048, .bf16⟩
  | .hbm, ⟨4, _⟩ => ⟨S4096x2048, .bf16⟩
  | .hbm, ⟨5, _⟩ => ⟨S32x1024, .f32⟩
  | .hbm, ⟨6, _⟩ => ⟨S1x1024, .f32⟩
  | .hbm, ⟨7, _⟩ => ⟨S1x2048, .f32⟩
  | .hbm, ⟨8, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x2048, .bf16⟩
  | .local _ .vmem, ⟨5, _⟩ => ⟨S256x2048, .bf16⟩
  | .local _ .vmem, ⟨6, _⟩ => ⟨S32x2048, .bf16⟩
  | .local _ .vmem, ⟨7, _⟩ => ⟨S32x2048, .bf16⟩
  | .local _ .vmem, ⟨8, _⟩ => ⟨S31x1024, .f32⟩
  | .local _ .vmem, ⟨9, _⟩ => ⟨S256x2048, .bf16⟩
  | .local _ .vmem, ⟨10, _⟩ => ⟨S256x2048, .bf16⟩
  | .local _ .vmem, ⟨11, _⟩ => ⟨S32x1024, .f32⟩
  | .local _ .vmem, ⟨12, _⟩ => ⟨S1x1024, .f32⟩
  | .local _ .vmem, ⟨13, _⟩ => ⟨S1x2048, .f32⟩
  | .local _ .vmem, ⟨14, _⟩ => ⟨S8x288x1024, .f32⟩
  | .local _ .vmem, ⟨15, _⟩ => ⟨S8x288x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_105 : BitVec 32 := 0#32
  let c2_i32 : BitVec 32 := 2#32
  let v114 : BitVec 32 := Scalar.addi c0_i32_105 c2_i32
  let c1_i32 : BitVec 32 := 1#32
  ⟨c0_i32_105, v114, c1_i32⟩
def k0_mult1 (k0_t1 : Fin k0_t1_loop.trips) : BitVec 32 :=
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  v115
def k0_mult2 (k0_t1 : Fin k0_t1_loop.trips) : BitVec 32 :=
  let c1024_i32 : BitVec 32 := 1024#32
  let c0_i32_105 : BitVec 32 := 0#32
  let c1_i32 : BitVec 32 := 1#32
  let arg12 : BitVec 32 := Scf.iv c0_i32_105 c1_i32 k0_t1
  let c512_i32_107 : BitVec 32 := 512#32
  let v117 : BitVec 32 := Scalar.muli arg12 c512_i32_107
  let v118 : BitVec 32 := Scalar.addi c1024_i32 v117
  v118
@[reducible] def k0_t2_loop : Scf.Loop 32 :=
  let c0_i32_108 : BitVec 32 := 0#32
  let c8_i32 : BitVec 32 := 8#32
  let v120 : BitVec 32 := Scalar.addi c0_i32_108 c8_i32
  let c1_i32_109 : BitVec 32 := 1#32
  ⟨c0_i32_108, v120, c1_i32_109⟩
def k0_mult3 (k0_t2 : Fin k0_t2_loop.trips) : BitVec 32 :=
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  v402
def k0_off1 (k0_t1 : Fin k0_t1_loop.trips) : Fin 2 → Nat :=
  let c0_206 : Index := 0#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v404 : Index := Scalar.indexCast v116
  ![0, v404.toNat]
def k0_mult4 (k0_t2 : Fin k0_t2_loop.trips) : BitVec 32 :=
  let c24_i32 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v406 : BitVec 32 := Scalar.addi c24_i32 v403
  v406
def k0_off2 (k0_t1 : Fin k0_t1_loop.trips) (k0_t2 : Fin k0_t2_loop.trips) (c24_i32 : BitVec 32) : Fin 3 → Nat :=
  let c6_207 : Index := 6#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v406 : BitVec 32 := Scalar.addi c24_i32 v403
  let v407 : BitVec 32 := v406
  let v408 : Index := Scalar.indexCast v407
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v409 : Index := Scalar.indexCast v116
  ![6, v408.toNat, v409.toNat]
def k0_off3 (k0_t1 : Fin k0_t1_loop.trips) : Fin 2 → Nat :=
  let c1_208 : Index := 1#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v414 : Index := Scalar.indexCast v116
  ![1, v414.toNat]
def k0_mult5 (k0_t2 : Fin k0_t2_loop.trips) : BitVec 32 :=
  let c24_i32_209 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v416 : BitVec 32 := Scalar.addi c24_i32_209 v403
  v416
def k0_off4 (k0_t1 : Fin k0_t1_loop.trips) (k0_t2 : Fin k0_t2_loop.trips) (c24_i32_209 : BitVec 32) : Fin 3 → Nat :=
  let c5_210 : Index := 5#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v416 : BitVec 32 := Scalar.addi c24_i32_209 v403
  let v417 : BitVec 32 := v416
  let v418 : Index := Scalar.indexCast v417
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v419 : Index := Scalar.indexCast v116
  ![5, v418.toNat, v419.toNat]
def k0_off5 (k0_t1 : Fin k0_t1_loop.trips) : Fin 2 → Nat :=
  let c2_211 : Index := 2#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v425 : Index := Scalar.indexCast v116
  ![2, v425.toNat]
def k0_mult6 (k0_t2 : Fin k0_t2_loop.trips) : BitVec 32 :=
  let c24_i32_212 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v427 : BitVec 32 := Scalar.addi c24_i32_212 v403
  v427
def k0_off6 (k0_t1 : Fin k0_t1_loop.trips) (k0_t2 : Fin k0_t2_loop.trips) (c24_i32_212 : BitVec 32) : Fin 3 → Nat :=
  let c4_213 : Index := 4#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v427 : BitVec 32 := Scalar.addi c24_i32_212 v403
  let v428 : BitVec 32 := v427
  let v429 : Index := Scalar.indexCast v428
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v430 : Index := Scalar.indexCast v116
  ![4, v429.toNat, v430.toNat]
def k0_off7 (k0_t1 : Fin k0_t1_loop.trips) : Fin 2 → Nat :=
  let c3_214 : Index := 3#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v436 : Index := Scalar.indexCast v116
  ![3, v436.toNat]
def k0_mult7 (k0_t2 : Fin k0_t2_loop.trips) : BitVec 32 :=
  let c24_i32_215 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v438 : BitVec 32 := Scalar.addi c24_i32_215 v403
  v438
def k0_off8 (k0_t1 : Fin k0_t1_loop.trips) (k0_t2 : Fin k0_t2_loop.trips) (c24_i32_215 : BitVec 32) : Fin 3 → Nat :=
  let c3_216 : Index := 3#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v438 : BitVec 32 := Scalar.addi c24_i32_215 v403
  let v439 : BitVec 32 := v438
  let v440 : Index := Scalar.indexCast v439
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v441 : Index := Scalar.indexCast v116
  ![3, v440.toNat, v441.toNat]
def k0_off9 (k0_t1 : Fin k0_t1_loop.trips) : Fin 2 → Nat :=
  let c4_217 : Index := 4#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v447 : Index := Scalar.indexCast v116
  ![4, v447.toNat]
def k0_mult8 (k0_t2 : Fin k0_t2_loop.trips) : BitVec 32 :=
  let c24_i32_218 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v449 : BitVec 32 := Scalar.addi c24_i32_218 v403
  v449
def k0_off10 (k0_t1 : Fin k0_t1_loop.trips) (k0_t2 : Fin k0_t2_loop.trips) (c24_i32_218 : BitVec 32) : Fin 3 → Nat :=
  let c2_219 : Index := 2#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v449 : BitVec 32 := Scalar.addi c24_i32_218 v403
  let v450 : BitVec 32 := v449
  let v451 : Index := Scalar.indexCast v450
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v452 : Index := Scalar.indexCast v116
  ![2, v451.toNat, v452.toNat]
def k0_off11 (k0_t1 : Fin k0_t1_loop.trips) : Fin 2 → Nat :=
  let c5_220 : Index := 5#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v458 : Index := Scalar.indexCast v116
  ![5, v458.toNat]
def k0_mult9 (k0_t2 : Fin k0_t2_loop.trips) : BitVec 32 :=
  let c24_i32_221 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v460 : BitVec 32 := Scalar.addi c24_i32_221 v403
  v460
def k0_off12 (k0_t1 : Fin k0_t1_loop.trips) (k0_t2 : Fin k0_t2_loop.trips) (c24_i32_221 : BitVec 32) : Fin 3 → Nat :=
  let c1_222 : Index := 1#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v460 : BitVec 32 := Scalar.addi c24_i32_221 v403
  let v461 : BitVec 32 := v460
  let v462 : Index := Scalar.indexCast v461
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v463 : Index := Scalar.indexCast v116
  ![1, v462.toNat, v463.toNat]
def k0_off13 (k0_t1 : Fin k0_t1_loop.trips) : Fin 2 → Nat :=
  let c6_223 : Index := 6#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v469 : Index := Scalar.indexCast v116
  ![6, v469.toNat]
def k0_mult10 (k0_t2 : Fin k0_t2_loop.trips) : BitVec 32 :=
  let c24_i32_224 : BitVec 32 := 24#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v471 : BitVec 32 := Scalar.addi c24_i32_224 v403
  v471
def k0_off14 (k0_t1 : Fin k0_t1_loop.trips) (k0_t2 : Fin k0_t2_loop.trips) (c24_i32_224 : BitVec 32) : Fin 3 → Nat :=
  let c0_225 : Index := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v471 : BitVec 32 := Scalar.addi c24_i32_224 v403
  let v472 : BitVec 32 := v471
  let v473 : Index := Scalar.indexCast v472
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v474 : Index := Scalar.indexCast v116
  ![0, v473.toNat, v474.toNat]
def k0_off15 (k0_t1 : Fin k0_t1_loop.trips) : Fin 2 → Nat :=
  let c7_226 : Index := 7#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v480 : Index := Scalar.indexCast v116
  ![7, v480.toNat]
def k0_mult11 (k0_t2 : Fin k0_t2_loop.trips) : BitVec 32 :=
  let c16_i32 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v482 : BitVec 32 := Scalar.addi c16_i32 v403
  v482
def k0_off16 (k0_t1 : Fin k0_t1_loop.trips) (k0_t2 : Fin k0_t2_loop.trips) (c16_i32 : BitVec 32) : Fin 3 → Nat :=
  let c7_227 : Index := 7#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v482 : BitVec 32 := Scalar.addi c16_i32 v403
  let v483 : BitVec 32 := v482
  let v484 : Index := Scalar.indexCast v483
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v485 : Index := Scalar.indexCast v116
  ![7, v484.toNat, v485.toNat]
def k0_off17 (k0_t1 : Fin k0_t1_loop.trips) : Fin 2 → Nat :=
  let c8_228 : Index := 8#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v491 : Index := Scalar.indexCast v116
  ![8, v491.toNat]
def k0_mult12 (k0_t2 : Fin k0_t2_loop.trips) : BitVec 32 :=
  let c16_i32_229 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v493 : BitVec 32 := Scalar.addi c16_i32_229 v403
  v493
def k0_off18 (k0_t1 : Fin k0_t1_loop.trips) : Fin 2 → Nat :=
  let c9_231 : Index := 9#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v502 : Index := Scalar.indexCast v116
  ![9, v502.toNat]
def k0_mult13 (k0_t2 : Fin k0_t2_loop.trips) : BitVec 32 :=
  let c16_i32_232 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v504 : BitVec 32 := Scalar.addi c16_i32_232 v403
  v504
def k0_off19 (k0_t1 : Fin k0_t1_loop.trips) : Fin 2 → Nat :=
  let c10_234 : Index := 10#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v513 : Index := Scalar.indexCast v116
  ![10, v513.toNat]
def k0_mult14 (k0_t2 : Fin k0_t2_loop.trips) : BitVec 32 :=
  let c16_i32_235 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v515 : BitVec 32 := Scalar.addi c16_i32_235 v403
  v515
def k0_off20 (k0_t1 : Fin k0_t1_loop.trips) : Fin 2 → Nat :=
  let c11_237 : Index := 11#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v524 : Index := Scalar.indexCast v116
  ![11, v524.toNat]
def k0_mult15 (k0_t2 : Fin k0_t2_loop.trips) : BitVec 32 :=
  let c16_i32_238 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v526 : BitVec 32 := Scalar.addi c16_i32_238 v403
  v526
def k0_off21 (k0_t1 : Fin k0_t1_loop.trips) : Fin 2 → Nat :=
  let c12_240 : Index := 12#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v535 : Index := Scalar.indexCast v116
  ![12, v535.toNat]
def k0_mult16 (k0_t2 : Fin k0_t2_loop.trips) : BitVec 32 :=
  let c16_i32_241 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v537 : BitVec 32 := Scalar.addi c16_i32_241 v403
  v537
def k0_off22 (k0_t1 : Fin k0_t1_loop.trips) : Fin 2 → Nat :=
  let c13_243 : Index := 13#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v546 : Index := Scalar.indexCast v116
  ![13, v546.toNat]
def k0_mult17 (k0_t2 : Fin k0_t2_loop.trips) : BitVec 32 :=
  let c16_i32_244 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v548 : BitVec 32 := Scalar.addi c16_i32_244 v403
  v548
def k0_off23 (k0_t1 : Fin k0_t1_loop.trips) : Fin 2 → Nat :=
  let c14_246 : Index := 14#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v557 : Index := Scalar.indexCast v116
  ![14, v557.toNat]
def k0_mult18 (k0_t2 : Fin k0_t2_loop.trips) : BitVec 32 :=
  let c16_i32_247 : BitVec 32 := 16#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v559 : BitVec 32 := Scalar.addi c16_i32_247 v403
  v559
def k0_off24 (k0_t1 : Fin k0_t1_loop.trips) : Fin 2 → Nat :=
  let c15_249 : Index := 15#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v568 : Index := Scalar.indexCast v116
  ![15, v568.toNat]
def k0_mult19 (k0_t2 : Fin k0_t2_loop.trips) : BitVec 32 :=
  let c8_i32_250 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v570 : BitVec 32 := Scalar.addi c8_i32_250 v403
  v570
def k0_off25 (k0_t1 : Fin k0_t1_loop.trips) : Fin 2 → Nat :=
  let c16_252 : Index := 16#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v579 : Index := Scalar.indexCast v116
  ![16, v579.toNat]
def k0_mult20 (k0_t2 : Fin k0_t2_loop.trips) : BitVec 32 :=
  let c8_i32_253 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v581 : BitVec 32 := Scalar.addi c8_i32_253 v403
  v581
def k0_off26 (k0_t1 : Fin k0_t1_loop.trips) : Fin 2 → Nat :=
  let c17_255 : Index := 17#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v590 : Index := Scalar.indexCast v116
  ![17, v590.toNat]
def k0_mult21 (k0_t2 : Fin k0_t2_loop.trips) : BitVec 32 :=
  let c8_i32_256 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v592 : BitVec 32 := Scalar.addi c8_i32_256 v403
  v592
def k0_off27 (k0_t1 : Fin k0_t1_loop.trips) : Fin 2 → Nat :=
  let c18_258 : Index := 18#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v601 : Index := Scalar.indexCast v116
  ![18, v601.toNat]
def k0_mult22 (k0_t2 : Fin k0_t2_loop.trips) : BitVec 32 :=
  let c8_i32_259 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v603 : BitVec 32 := Scalar.addi c8_i32_259 v403
  v603
def k0_off28 (k0_t1 : Fin k0_t1_loop.trips) : Fin 2 → Nat :=
  let c19_261 : Index := 19#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v612 : Index := Scalar.indexCast v116
  ![19, v612.toNat]
def k0_mult23 (k0_t2 : Fin k0_t2_loop.trips) : BitVec 32 :=
  let c8_i32_262 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v614 : BitVec 32 := Scalar.addi c8_i32_262 v403
  v614
def k0_off29 (k0_t1 : Fin k0_t1_loop.trips) : Fin 2 → Nat :=
  let c20_264 : Index := 20#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v623 : Index := Scalar.indexCast v116
  ![20, v623.toNat]
def k0_mult24 (k0_t2 : Fin k0_t2_loop.trips) : BitVec 32 :=
  let c8_i32_265 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v625 : BitVec 32 := Scalar.addi c8_i32_265 v403
  v625
def k0_off30 (k0_t1 : Fin k0_t1_loop.trips) : Fin 2 → Nat :=
  let c21_267 : Index := 21#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v634 : Index := Scalar.indexCast v116
  ![21, v634.toNat]
def k0_mult25 (k0_t2 : Fin k0_t2_loop.trips) : BitVec 32 :=
  let c8_i32_268 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v636 : BitVec 32 := Scalar.addi c8_i32_268 v403
  v636
def k0_off31 (k0_t1 : Fin k0_t1_loop.trips) : Fin 2 → Nat :=
  let c22_270 : Index := 22#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v645 : Index := Scalar.indexCast v116
  ![22, v645.toNat]
def k0_mult26 (k0_t2 : Fin k0_t2_loop.trips) : BitVec 32 :=
  let c8_i32_271 : BitVec 32 := 8#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v647 : BitVec 32 := Scalar.addi c8_i32_271 v403
  v647
def k0_off32 (k0_t1 : Fin k0_t1_loop.trips) : Fin 2 → Nat :=
  let c23_273 : Index := 23#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v656 : Index := Scalar.indexCast v116
  ![23, v656.toNat]
def k0_mult27 (k0_t2 : Fin k0_t2_loop.trips) : BitVec 32 :=
  let c0_i32_274 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v658 : BitVec 32 := Scalar.addi c0_i32_274 v403
  v658
def k0_off33 (k0_t1 : Fin k0_t1_loop.trips) : Fin 2 → Nat :=
  let c24_276 : Index := 24#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v667 : Index := Scalar.indexCast v116
  ![24, v667.toNat]
def k0_mult28 (k0_t2 : Fin k0_t2_loop.trips) : BitVec 32 :=
  let c0_i32_277 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v669 : BitVec 32 := Scalar.addi c0_i32_277 v403
  v669
def k0_off34 (k0_t1 : Fin k0_t1_loop.trips) : Fin 2 → Nat :=
  let c25_279 : Index := 25#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v678 : Index := Scalar.indexCast v116
  ![25, v678.toNat]
def k0_mult29 (k0_t2 : Fin k0_t2_loop.trips) : BitVec 32 :=
  let c0_i32_280 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v680 : BitVec 32 := Scalar.addi c0_i32_280 v403
  v680
def k0_off35 (k0_t1 : Fin k0_t1_loop.trips) : Fin 2 → Nat :=
  let c26_282 : Index := 26#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v689 : Index := Scalar.indexCast v116
  ![26, v689.toNat]
def k0_mult30 (k0_t2 : Fin k0_t2_loop.trips) : BitVec 32 :=
  let c0_i32_283 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v691 : BitVec 32 := Scalar.addi c0_i32_283 v403
  v691
def k0_off36 (k0_t1 : Fin k0_t1_loop.trips) : Fin 2 → Nat :=
  let c27_285 : Index := 27#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v700 : Index := Scalar.indexCast v116
  ![27, v700.toNat]
def k0_mult31 (k0_t2 : Fin k0_t2_loop.trips) : BitVec 32 :=
  let c0_i32_286 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v702 : BitVec 32 := Scalar.addi c0_i32_286 v403
  v702
def k0_off37 (k0_t1 : Fin k0_t1_loop.trips) : Fin 2 → Nat :=
  let c28_288 : Index := 28#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v711 : Index := Scalar.indexCast v116
  ![28, v711.toNat]
def k0_mult32 (k0_t2 : Fin k0_t2_loop.trips) : BitVec 32 :=
  let c0_i32_289 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v713 : BitVec 32 := Scalar.addi c0_i32_289 v403
  v713
def k0_off38 (k0_t1 : Fin k0_t1_loop.trips) : Fin 2 → Nat :=
  let c29_291 : Index := 29#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v722 : Index := Scalar.indexCast v116
  ![29, v722.toNat]
def k0_mult33 (k0_t2 : Fin k0_t2_loop.trips) : BitVec 32 :=
  let c0_i32_292 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v724 : BitVec 32 := Scalar.addi c0_i32_292 v403
  v724
def k0_off39 (k0_t1 : Fin k0_t1_loop.trips) : Fin 2 → Nat :=
  let c30_294 : Index := 30#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v733 : Index := Scalar.indexCast v116
  ![30, v733.toNat]
def k0_mult34 (k0_t2 : Fin k0_t2_loop.trips) : BitVec 32 :=
  let c0_i32_295 : BitVec 32 := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v735 : BitVec 32 := Scalar.addi c0_i32_295 v403
  v735
def k0_off40 (k0_t1 : Fin k0_t1_loop.trips) (k0_t2 : Fin k0_t2_loop.trips) : Fin 2 → Nat :=
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v744 : Index := Scalar.indexCast v403
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v745 : Index := Scalar.indexCast v116
  ![v744.toNat, v745.toNat]
def k0_off41 (k0_t1 : Fin k0_t1_loop.trips) (k0_t2 : Fin k0_t2_loop.trips) : Fin 2 → Nat :=
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v749 : Index := Scalar.indexCast v403
  let c1024_i32 : BitVec 32 := 1024#32
  let c0_i32_105 : BitVec 32 := 0#32
  let c1_i32 : BitVec 32 := 1#32
  let arg12 : BitVec 32 := Scf.iv c0_i32_105 c1_i32 k0_t1
  let c512_i32_107 : BitVec 32 := 512#32
  let v117 : BitVec 32 := Scalar.muli arg12 c512_i32_107
  let v118 : BitVec 32 := Scalar.addi c1024_i32 v117
  let v119 : BitVec 32 := v118
  let v750 : Index := Scalar.indexCast v119
  ![v749.toNat, v750.toNat]
def k0_off42 (k0_t1 : Fin k0_t1_loop.trips) (k0_t2 : Fin k0_t2_loop.trips) : Fin 3 → Nat :=
  let c0_298 : Index := 0#32
  let c0_i32_108 : BitVec 32 := 0#32
  let c1_i32_109 : BitVec 32 := 1#32
  let arg13 : BitVec 32 := Scf.iv c0_i32_108 c1_i32_109 k0_t2
  let c32_i32 : BitVec 32 := 32#32
  let v402 : BitVec 32 := Scalar.muli arg13 c32_i32
  let v403 : BitVec 32 := v402
  let v785 : Index := Scalar.indexCast v403
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v786 : Index := Scalar.indexCast v116
  ![0, v785.toNat, v786.toNat]
def k0_off43 (k0_t1 : Fin k0_t1_loop.trips) : Fin 2 → Nat :=
  let c0_111 : Index := 0#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v122 : Index := Scalar.indexCast v116
  ![0, v122.toNat]
def k0_off44 (k0_t1 : Fin k0_t1_loop.trips) : Fin 2 → Nat :=
  let c0_114 : Index := 0#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v130 : Index := Scalar.indexCast v116
  ![0, v130.toNat]
def k0_off45 (k0_t1 : Fin k0_t1_loop.trips) : Fin 2 → Nat :=
  let c0_117 : Index := 0#32
  let c1024_i32 : BitVec 32 := 1024#32
  let c0_i32_105 : BitVec 32 := 0#32
  let c1_i32 : BitVec 32 := 1#32
  let arg12 : BitVec 32 := Scf.iv c0_i32_105 c1_i32 k0_t1
  let c512_i32_107 : BitVec 32 := 512#32
  let v117 : BitVec 32 := Scalar.muli arg12 c512_i32_107
  let v118 : BitVec 32 := Scalar.addi c1024_i32 v117
  let v119 : BitVec 32 := v118
  let v138 : Index := Scalar.indexCast v119
  ![0, v138.toNat]
@[reducible] def k0_t3_loop : Scf.Loop 32 :=
  let c0_i32_120 : BitVec 32 := 0#32
  let c8_i32_121 : BitVec 32 := 8#32
  let v146 : BitVec 32 := Scalar.addi c0_i32_120 c8_i32_121
  let c1_i32_122 : BitVec 32 := 1#32
  ⟨c0_i32_120, v146, c1_i32_122⟩
def k0_mult35 (k0_t3 : Fin k0_t3_loop.trips) : BitVec 32 :=
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  v403
def k0_off46 (k0_t1 : Fin k0_t1_loop.trips) (k0_t3 : Fin k0_t3_loop.trips) (c0_i32_206 : BitVec 32) : Fin 3 → Nat :=
  let c0_207 : Index := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v405 : Index := Scalar.indexCast v404
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v406 : Index := Scalar.indexCast v116
  ![0, v405.toNat, v406.toNat]
def k0_mult36 (k0_t3 : Fin k0_t3_loop.trips) : BitVec 32 :=
  let c0_i32_208 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v409 : BitVec 32 := Scalar.addi c0_i32_208 v404
  v409
def k0_off47 (k0_t1 : Fin k0_t1_loop.trips) (k0_t3 : Fin k0_t3_loop.trips) (c0_i32_206 : BitVec 32) : Fin 3 → Nat :=
  let c2_209 : Index := 2#32
  let c0_i32_208 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v409 : BitVec 32 := Scalar.addi c0_i32_208 v404
  let v410 : BitVec 32 := v409
  let v411 : Index := Scalar.indexCast v410
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v412 : Index := Scalar.indexCast v116
  ![2, v411.toNat, v412.toNat]
def k0_mult37 (k0_t3 : Fin k0_t3_loop.trips) : BitVec 32 :=
  let c0_i32_210 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v417 : BitVec 32 := Scalar.addi c0_i32_210 v404
  v417
def k0_off48 (k0_t1 : Fin k0_t1_loop.trips) (k0_t3 : Fin k0_t3_loop.trips) (c0_i32_206 : BitVec 32) : Fin 3 → Nat :=
  let c3_211 : Index := 3#32
  let c0_i32_210 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v417 : BitVec 32 := Scalar.addi c0_i32_210 v404
  let v418 : BitVec 32 := v417
  let v419 : Index := Scalar.indexCast v418
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v420 : Index := Scalar.indexCast v116
  ![3, v419.toNat, v420.toNat]
def k0_mult38 (k0_t3 : Fin k0_t3_loop.trips) : BitVec 32 :=
  let c0_i32_212 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v425 : BitVec 32 := Scalar.addi c0_i32_212 v404
  v425
def k0_off49 (k0_t1 : Fin k0_t1_loop.trips) (k0_t3 : Fin k0_t3_loop.trips) (c0_i32_206 : BitVec 32) : Fin 3 → Nat :=
  let c4_213 : Index := 4#32
  let c0_i32_212 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v425 : BitVec 32 := Scalar.addi c0_i32_212 v404
  let v426 : BitVec 32 := v425
  let v427 : Index := Scalar.indexCast v426
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v428 : Index := Scalar.indexCast v116
  ![4, v427.toNat, v428.toNat]
def k0_mult39 (k0_t3 : Fin k0_t3_loop.trips) : BitVec 32 :=
  let c0_i32_214 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v433 : BitVec 32 := Scalar.addi c0_i32_214 v404
  v433
def k0_off50 (k0_t1 : Fin k0_t1_loop.trips) (k0_t3 : Fin k0_t3_loop.trips) (c0_i32_206 : BitVec 32) : Fin 3 → Nat :=
  let c5_215 : Index := 5#32
  let c0_i32_214 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v433 : BitVec 32 := Scalar.addi c0_i32_214 v404
  let v434 : BitVec 32 := v433
  let v435 : Index := Scalar.indexCast v434
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v436 : Index := Scalar.indexCast v116
  ![5, v435.toNat, v436.toNat]
def k0_mult40 (k0_t3 : Fin k0_t3_loop.trips) : BitVec 32 :=
  let c0_i32_216 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v441 : BitVec 32 := Scalar.addi c0_i32_216 v404
  v441
def k0_off51 (k0_t1 : Fin k0_t1_loop.trips) (k0_t3 : Fin k0_t3_loop.trips) (c0_i32_206 : BitVec 32) : Fin 3 → Nat :=
  let c6_217 : Index := 6#32
  let c0_i32_216 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v441 : BitVec 32 := Scalar.addi c0_i32_216 v404
  let v442 : BitVec 32 := v441
  let v443 : Index := Scalar.indexCast v442
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v444 : Index := Scalar.indexCast v116
  ![6, v443.toNat, v444.toNat]
def k0_mult41 (k0_t3 : Fin k0_t3_loop.trips) : BitVec 32 :=
  let c0_i32_218 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v449 : BitVec 32 := Scalar.addi c0_i32_218 v404
  v449
def k0_off52 (k0_t1 : Fin k0_t1_loop.trips) (k0_t3 : Fin k0_t3_loop.trips) (c0_i32_206 : BitVec 32) : Fin 3 → Nat :=
  let c7_219 : Index := 7#32
  let c0_i32_218 : BitVec 32 := 0#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v449 : BitVec 32 := Scalar.addi c0_i32_218 v404
  let v450 : BitVec 32 := v449
  let v451 : Index := Scalar.indexCast v450
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v452 : Index := Scalar.indexCast v116
  ![7, v451.toNat, v452.toNat]
def k0_mult42 (k0_t3 : Fin k0_t3_loop.trips) : BitVec 32 :=
  let c8_i32_220 : BitVec 32 := 8#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v457 : BitVec 32 := Scalar.addi c8_i32_220 v404
  v457
def k0_off53 (k0_t1 : Fin k0_t1_loop.trips) (k0_t3 : Fin k0_t3_loop.trips) (c0_i32_206 : BitVec 32) : Fin 3 → Nat :=
  let c0_221 : Index := 0#32
  let c8_i32_220 : BitVec 32 := 8#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v457 : BitVec 32 := Scalar.addi c8_i32_220 v404
  let v458 : BitVec 32 := v457
  let v459 : Index := Scalar.indexCast v458
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v460 : Index := Scalar.indexCast v116
  ![0, v459.toNat, v460.toNat]
def k0_mult43 (k0_t3 : Fin k0_t3_loop.trips) : BitVec 32 :=
  let c8_i32_222 : BitVec 32 := 8#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v465 : BitVec 32 := Scalar.addi c8_i32_222 v404
  v465
def k0_off54 (k0_t1 : Fin k0_t1_loop.trips) (k0_t3 : Fin k0_t3_loop.trips) (c0_i32_206 : BitVec 32) : Fin 3 → Nat :=
  let c1_223 : Index := 1#32
  let c8_i32_222 : BitVec 32 := 8#32
  let c0_i32_120 : BitVec 32 := 0#32
  let c1_i32_122 : BitVec 32 := 1#32
  let arg13 : BitVec 32 := Scf.iv c0_i32_120 c1_i32_122 k0_t3
  let c32_i32 : BitVec 32 := 32#32
  let v402 : BitVec 32 := Scalar.muli arg13 c32_i32
  let v403 : BitVec 32 := Scalar.addi v402 c0_i32_206
  let v404 : BitVec 32 := v403
  let v465 : BitVec 32 := Scalar.addi c8_i32_222 v404
  let v466 : BitVec 32 := v465
  let v467 : Index := Scalar.indexCast v466
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v468 : Index := Scalar.indexCast v116
  ![1, v467.toNat, v468.toNat]
def k0_mult44 (k0_t3 : Fin k0_t3_loop.trips) : BitVec 32 :=
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  v474
def k0_mult45 (k0_t3 : Fin k0_t3_loop.trips) : BitVec 32 :=
  let c0_i32_227 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v480 : BitVec 32 := Scalar.addi c0_i32_227 v475
  v480
def k0_mult46 (k0_t3 : Fin k0_t3_loop.trips) : BitVec 32 :=
  let c0_i32_229 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v488 : BitVec 32 := Scalar.addi c0_i32_229 v475
  v488
def k0_mult47 (k0_t3 : Fin k0_t3_loop.trips) : BitVec 32 :=
  let c0_i32_231 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v496 : BitVec 32 := Scalar.addi c0_i32_231 v475
  v496
def k0_mult48 (k0_t3 : Fin k0_t3_loop.trips) : BitVec 32 :=
  let c0_i32_233 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v504 : BitVec 32 := Scalar.addi c0_i32_233 v475
  v504
def k0_mult49 (k0_t3 : Fin k0_t3_loop.trips) : BitVec 32 :=
  let c0_i32_235 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v512 : BitVec 32 := Scalar.addi c0_i32_235 v475
  v512
def k0_mult50 (k0_t3 : Fin k0_t3_loop.trips) : BitVec 32 :=
  let c0_i32_237 : BitVec 32 := 0#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v520 : BitVec 32 := Scalar.addi c0_i32_237 v475
  v520
def k0_mult51 (k0_t3 : Fin k0_t3_loop.trips) : BitVec 32 :=
  let c8_i32_239 : BitVec 32 := 8#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v528 : BitVec 32 := Scalar.addi c8_i32_239 v475
  v528
def k0_mult52 (k0_t3 : Fin k0_t3_loop.trips) : BitVec 32 :=
  let c8_i32_241 : BitVec 32 := 8#32
  let c0_i32_120 : BitVec 32 := 0#32
  let c1_i32_122 : BitVec 32 := 1#32
  let arg13 : BitVec 32 := Scf.iv c0_i32_120 c1_i32_122 k0_t3
  let c32_i32_224 : BitVec 32 := 32#32
  let v473 : BitVec 32 := Scalar.muli arg13 c32_i32_224
  let c8_i32_225 : BitVec 32 := 8#32
  let v474 : BitVec 32 := Scalar.addi v473 c8_i32_225
  let v475 : BitVec 32 := v474
  let v536 : BitVec 32 := Scalar.addi c8_i32_241 v475
  v536
def k0_mult53 (k0_t3 : Fin k0_t3_loop.trips) : BitVec 32 :=
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  v545
def k0_mult54 (k0_t3 : Fin k0_t3_loop.trips) : BitVec 32 :=
  let c0_i32_245 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v551 : BitVec 32 := Scalar.addi c0_i32_245 v546
  v551
def k0_mult55 (k0_t3 : Fin k0_t3_loop.trips) : BitVec 32 :=
  let c0_i32_247 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v559 : BitVec 32 := Scalar.addi c0_i32_247 v546
  v559
def k0_mult56 (k0_t3 : Fin k0_t3_loop.trips) : BitVec 32 :=
  let c0_i32_249 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v567 : BitVec 32 := Scalar.addi c0_i32_249 v546
  v567
def k0_mult57 (k0_t3 : Fin k0_t3_loop.trips) : BitVec 32 :=
  let c0_i32_251 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v575 : BitVec 32 := Scalar.addi c0_i32_251 v546
  v575
def k0_mult58 (k0_t3 : Fin k0_t3_loop.trips) : BitVec 32 :=
  let c0_i32_253 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v583 : BitVec 32 := Scalar.addi c0_i32_253 v546
  v583
def k0_mult59 (k0_t3 : Fin k0_t3_loop.trips) : BitVec 32 :=
  let c0_i32_255 : BitVec 32 := 0#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v591 : BitVec 32 := Scalar.addi c0_i32_255 v546
  v591
def k0_mult60 (k0_t3 : Fin k0_t3_loop.trips) : BitVec 32 :=
  let c8_i32_257 : BitVec 32 := 8#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v599 : BitVec 32 := Scalar.addi c8_i32_257 v546
  v599
def k0_mult61 (k0_t3 : Fin k0_t3_loop.trips) : BitVec 32 :=
  let c8_i32_259 : BitVec 32 := 8#32
  let c0_i32_120 : BitVec 32 := 0#32
  let c1_i32_122 : BitVec 32 := 1#32
  let arg13 : BitVec 32 := Scf.iv c0_i32_120 c1_i32_122 k0_t3
  let c32_i32_243 : BitVec 32 := 32#32
  let v544 : BitVec 32 := Scalar.muli arg13 c32_i32_243
  let c16_i32 : BitVec 32 := 16#32
  let v545 : BitVec 32 := Scalar.addi v544 c16_i32
  let v546 : BitVec 32 := v545
  let v607 : BitVec 32 := Scalar.addi c8_i32_259 v546
  v607
def k0_mult62 (k0_t3 : Fin k0_t3_loop.trips) : BitVec 32 :=
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  v616
def k0_mult63 (k0_t3 : Fin k0_t3_loop.trips) : BitVec 32 :=
  let c0_i32_263 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v622 : BitVec 32 := Scalar.addi c0_i32_263 v617
  v622
def k0_mult64 (k0_t3 : Fin k0_t3_loop.trips) : BitVec 32 :=
  let c0_i32_265 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v630 : BitVec 32 := Scalar.addi c0_i32_265 v617
  v630
def k0_mult65 (k0_t3 : Fin k0_t3_loop.trips) : BitVec 32 :=
  let c0_i32_267 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v638 : BitVec 32 := Scalar.addi c0_i32_267 v617
  v638
def k0_mult66 (k0_t3 : Fin k0_t3_loop.trips) : BitVec 32 :=
  let c0_i32_269 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v646 : BitVec 32 := Scalar.addi c0_i32_269 v617
  v646
def k0_mult67 (k0_t3 : Fin k0_t3_loop.trips) : BitVec 32 :=
  let c0_i32_271 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v654 : BitVec 32 := Scalar.addi c0_i32_271 v617
  v654
def k0_mult68 (k0_t3 : Fin k0_t3_loop.trips) : BitVec 32 :=
  let c0_i32_273 : BitVec 32 := 0#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v662 : BitVec 32 := Scalar.addi c0_i32_273 v617
  v662
def k0_mult69 (k0_t3 : Fin k0_t3_loop.trips) : BitVec 32 :=
  let c8_i32_275 : BitVec 32 := 8#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v670 : BitVec 32 := Scalar.addi c8_i32_275 v617
  v670
def k0_mult70 (k0_t3 : Fin k0_t3_loop.trips) : BitVec 32 :=
  let c8_i32_277 : BitVec 32 := 8#32
  let c0_i32_120 : BitVec 32 := 0#32
  let c1_i32_122 : BitVec 32 := 1#32
  let arg13 : BitVec 32 := Scf.iv c0_i32_120 c1_i32_122 k0_t3
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v678 : BitVec 32 := Scalar.addi c8_i32_277 v617
  v678
def k0_off55 (k0_t1 : Fin k0_t1_loop.trips) : Fin 2 → Nat :=
  let c0_124 : Index := 0#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v148 : Index := Scalar.indexCast v116
  ![0, v148.toNat]
def k0_off56 (k0_t1 : Fin k0_t1_loop.trips) : Fin 2 → Nat :=
  let c1_127 : Index := 1#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v156 : Index := Scalar.indexCast v116
  ![1, v156.toNat]
def k0_off57 (k0_t1 : Fin k0_t1_loop.trips) : Fin 2 → Nat :=
  let c2_130 : Index := 2#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v164 : Index := Scalar.indexCast v116
  ![2, v164.toNat]
def k0_off58 (k0_t1 : Fin k0_t1_loop.trips) : Fin 2 → Nat :=
  let c3_133 : Index := 3#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v172 : Index := Scalar.indexCast v116
  ![3, v172.toNat]
def k0_off59 (k0_t1 : Fin k0_t1_loop.trips) : Fin 2 → Nat :=
  let c4_136 : Index := 4#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v180 : Index := Scalar.indexCast v116
  ![4, v180.toNat]
def k0_off60 (k0_t1 : Fin k0_t1_loop.trips) : Fin 2 → Nat :=
  let c5_139 : Index := 5#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v188 : Index := Scalar.indexCast v116
  ![5, v188.toNat]
def k0_off61 (k0_t1 : Fin k0_t1_loop.trips) : Fin 2 → Nat :=
  let c6_142 : Index := 6#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v196 : Index := Scalar.indexCast v116
  ![6, v196.toNat]
def k0_off62 (k0_t1 : Fin k0_t1_loop.trips) : Fin 2 → Nat :=
  let c7_145 : Index := 7#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v204 : Index := Scalar.indexCast v116
  ![7, v204.toNat]
@[reducible] def k0_t4_loop : Scf.Loop 32 :=
  let c0_i32_148 : BitVec 32 := 0#32
  let c8_i32_149 : BitVec 32 := 8#32
  let v212 : BitVec 32 := Scalar.addi c0_i32_148 c8_i32_149
  let c1_i32_150 : BitVec 32 := 1#32
  ⟨c0_i32_148, v212, c1_i32_150⟩
def k0_mult71 (k0_t4 : Fin k0_t4_loop.trips) : BitVec 32 :=
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  v403
def k0_off63 (k0_t1 : Fin k0_t1_loop.trips) (k0_t4 : Fin k0_t4_loop.trips) (c0_i32_206 : BitVec 32) : Fin 3 → Nat :=
  let c0_207 : Index := 0#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v405 : Index := Scalar.indexCast v404
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v406 : Index := Scalar.indexCast v116
  ![0, v405.toNat, v406.toNat]
def k0_mult72 (k0_t4 : Fin k0_t4_loop.trips) : BitVec 32 :=
  let c8_i32_208 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v409 : BitVec 32 := Scalar.addi c8_i32_208 v404
  v409
def k0_off64 (k0_t1 : Fin k0_t1_loop.trips) (k0_t4 : Fin k0_t4_loop.trips) (c0_i32_206 : BitVec 32) : Fin 3 → Nat :=
  let c2_209 : Index := 2#32
  let c8_i32_208 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v409 : BitVec 32 := Scalar.addi c8_i32_208 v404
  let v410 : BitVec 32 := v409
  let v411 : Index := Scalar.indexCast v410
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v412 : Index := Scalar.indexCast v116
  ![2, v411.toNat, v412.toNat]
def k0_mult73 (k0_t4 : Fin k0_t4_loop.trips) : BitVec 32 :=
  let c8_i32_210 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v417 : BitVec 32 := Scalar.addi c8_i32_210 v404
  v417
def k0_off65 (k0_t1 : Fin k0_t1_loop.trips) (k0_t4 : Fin k0_t4_loop.trips) (c0_i32_206 : BitVec 32) : Fin 3 → Nat :=
  let c3_211 : Index := 3#32
  let c8_i32_210 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v417 : BitVec 32 := Scalar.addi c8_i32_210 v404
  let v418 : BitVec 32 := v417
  let v419 : Index := Scalar.indexCast v418
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v420 : Index := Scalar.indexCast v116
  ![3, v419.toNat, v420.toNat]
def k0_mult74 (k0_t4 : Fin k0_t4_loop.trips) : BitVec 32 :=
  let c8_i32_212 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v425 : BitVec 32 := Scalar.addi c8_i32_212 v404
  v425
def k0_off66 (k0_t1 : Fin k0_t1_loop.trips) (k0_t4 : Fin k0_t4_loop.trips) (c0_i32_206 : BitVec 32) : Fin 3 → Nat :=
  let c4_213 : Index := 4#32
  let c8_i32_212 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v425 : BitVec 32 := Scalar.addi c8_i32_212 v404
  let v426 : BitVec 32 := v425
  let v427 : Index := Scalar.indexCast v426
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v428 : Index := Scalar.indexCast v116
  ![4, v427.toNat, v428.toNat]
def k0_mult75 (k0_t4 : Fin k0_t4_loop.trips) : BitVec 32 :=
  let c8_i32_214 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v433 : BitVec 32 := Scalar.addi c8_i32_214 v404
  v433
def k0_off67 (k0_t1 : Fin k0_t1_loop.trips) (k0_t4 : Fin k0_t4_loop.trips) (c0_i32_206 : BitVec 32) : Fin 3 → Nat :=
  let c5_215 : Index := 5#32
  let c8_i32_214 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v433 : BitVec 32 := Scalar.addi c8_i32_214 v404
  let v434 : BitVec 32 := v433
  let v435 : Index := Scalar.indexCast v434
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v436 : Index := Scalar.indexCast v116
  ![5, v435.toNat, v436.toNat]
def k0_mult76 (k0_t4 : Fin k0_t4_loop.trips) : BitVec 32 :=
  let c8_i32_216 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v441 : BitVec 32 := Scalar.addi c8_i32_216 v404
  v441
def k0_off68 (k0_t1 : Fin k0_t1_loop.trips) (k0_t4 : Fin k0_t4_loop.trips) (c0_i32_206 : BitVec 32) : Fin 3 → Nat :=
  let c6_217 : Index := 6#32
  let c8_i32_216 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v441 : BitVec 32 := Scalar.addi c8_i32_216 v404
  let v442 : BitVec 32 := v441
  let v443 : Index := Scalar.indexCast v442
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v444 : Index := Scalar.indexCast v116
  ![6, v443.toNat, v444.toNat]
def k0_mult77 (k0_t4 : Fin k0_t4_loop.trips) : BitVec 32 :=
  let c8_i32_218 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v449 : BitVec 32 := Scalar.addi c8_i32_218 v404
  v449
def k0_off69 (k0_t1 : Fin k0_t1_loop.trips) (k0_t4 : Fin k0_t4_loop.trips) (c0_i32_206 : BitVec 32) : Fin 3 → Nat :=
  let c7_219 : Index := 7#32
  let c8_i32_218 : BitVec 32 := 8#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v449 : BitVec 32 := Scalar.addi c8_i32_218 v404
  let v450 : BitVec 32 := v449
  let v451 : Index := Scalar.indexCast v450
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v452 : Index := Scalar.indexCast v116
  ![7, v451.toNat, v452.toNat]
def k0_mult78 (k0_t4 : Fin k0_t4_loop.trips) : BitVec 32 :=
  let c16_i32 : BitVec 32 := 16#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v457 : BitVec 32 := Scalar.addi c16_i32 v404
  v457
def k0_off70 (k0_t1 : Fin k0_t1_loop.trips) (k0_t4 : Fin k0_t4_loop.trips) (c0_i32_206 : BitVec 32) : Fin 3 → Nat :=
  let c0_220 : Index := 0#32
  let c16_i32 : BitVec 32 := 16#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v457 : BitVec 32 := Scalar.addi c16_i32 v404
  let v458 : BitVec 32 := v457
  let v459 : Index := Scalar.indexCast v458
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v460 : Index := Scalar.indexCast v116
  ![0, v459.toNat, v460.toNat]
def k0_mult79 (k0_t4 : Fin k0_t4_loop.trips) : BitVec 32 :=
  let c16_i32_221 : BitVec 32 := 16#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v465 : BitVec 32 := Scalar.addi c16_i32_221 v404
  v465
def k0_off71 (k0_t1 : Fin k0_t1_loop.trips) (k0_t4 : Fin k0_t4_loop.trips) (c0_i32_206 : BitVec 32) : Fin 3 → Nat :=
  let c1_222 : Index := 1#32
  let c16_i32_221 : BitVec 32 := 16#32
  let c0_i32_148 : BitVec 32 := 0#32
  let c1_i32_150 : BitVec 32 := 1#32
  let arg13 : BitVec 32 := Scf.iv c0_i32_148 c1_i32_150 k0_t4
  let c32_i32 : BitVec 32 := 32#32
  let v402 : BitVec 32 := Scalar.muli arg13 c32_i32
  let v403 : BitVec 32 := Scalar.addi v402 c0_i32_206
  let v404 : BitVec 32 := v403
  let v465 : BitVec 32 := Scalar.addi c16_i32_221 v404
  let v466 : BitVec 32 := v465
  let v467 : Index := Scalar.indexCast v466
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v468 : Index := Scalar.indexCast v116
  ![1, v467.toNat, v468.toNat]
def k0_mult80 (k0_t4 : Fin k0_t4_loop.trips) : BitVec 32 :=
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  v474
def k0_mult81 (k0_t4 : Fin k0_t4_loop.trips) : BitVec 32 :=
  let c8_i32_226 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v480 : BitVec 32 := Scalar.addi c8_i32_226 v475
  v480
def k0_mult82 (k0_t4 : Fin k0_t4_loop.trips) : BitVec 32 :=
  let c8_i32_228 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v488 : BitVec 32 := Scalar.addi c8_i32_228 v475
  v488
def k0_mult83 (k0_t4 : Fin k0_t4_loop.trips) : BitVec 32 :=
  let c8_i32_230 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v496 : BitVec 32 := Scalar.addi c8_i32_230 v475
  v496
def k0_mult84 (k0_t4 : Fin k0_t4_loop.trips) : BitVec 32 :=
  let c8_i32_232 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v504 : BitVec 32 := Scalar.addi c8_i32_232 v475
  v504
def k0_mult85 (k0_t4 : Fin k0_t4_loop.trips) : BitVec 32 :=
  let c8_i32_234 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v512 : BitVec 32 := Scalar.addi c8_i32_234 v475
  v512
def k0_mult86 (k0_t4 : Fin k0_t4_loop.trips) : BitVec 32 :=
  let c8_i32_236 : BitVec 32 := 8#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v520 : BitVec 32 := Scalar.addi c8_i32_236 v475
  v520
def k0_mult87 (k0_t4 : Fin k0_t4_loop.trips) : BitVec 32 :=
  let c16_i32_238 : BitVec 32 := 16#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v528 : BitVec 32 := Scalar.addi c16_i32_238 v475
  v528
def k0_mult88 (k0_t4 : Fin k0_t4_loop.trips) : BitVec 32 :=
  let c16_i32_240 : BitVec 32 := 16#32
  let c0_i32_148 : BitVec 32 := 0#32
  let c1_i32_150 : BitVec 32 := 1#32
  let arg13 : BitVec 32 := Scf.iv c0_i32_148 c1_i32_150 k0_t4
  let c32_i32_223 : BitVec 32 := 32#32
  let v473 : BitVec 32 := Scalar.muli arg13 c32_i32_223
  let c8_i32_224 : BitVec 32 := 8#32
  let v474 : BitVec 32 := Scalar.addi v473 c8_i32_224
  let v475 : BitVec 32 := v474
  let v536 : BitVec 32 := Scalar.addi c16_i32_240 v475
  v536
def k0_mult89 (k0_t4 : Fin k0_t4_loop.trips) : BitVec 32 :=
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  v545
def k0_mult90 (k0_t4 : Fin k0_t4_loop.trips) : BitVec 32 :=
  let c8_i32_245 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v551 : BitVec 32 := Scalar.addi c8_i32_245 v546
  v551
def k0_mult91 (k0_t4 : Fin k0_t4_loop.trips) : BitVec 32 :=
  let c8_i32_247 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v559 : BitVec 32 := Scalar.addi c8_i32_247 v546
  v559
def k0_mult92 (k0_t4 : Fin k0_t4_loop.trips) : BitVec 32 :=
  let c8_i32_249 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v567 : BitVec 32 := Scalar.addi c8_i32_249 v546
  v567
def k0_mult93 (k0_t4 : Fin k0_t4_loop.trips) : BitVec 32 :=
  let c8_i32_251 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v575 : BitVec 32 := Scalar.addi c8_i32_251 v546
  v575
def k0_mult94 (k0_t4 : Fin k0_t4_loop.trips) : BitVec 32 :=
  let c8_i32_253 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v583 : BitVec 32 := Scalar.addi c8_i32_253 v546
  v583
def k0_mult95 (k0_t4 : Fin k0_t4_loop.trips) : BitVec 32 :=
  let c8_i32_255 : BitVec 32 := 8#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v591 : BitVec 32 := Scalar.addi c8_i32_255 v546
  v591
def k0_mult96 (k0_t4 : Fin k0_t4_loop.trips) : BitVec 32 :=
  let c16_i32_257 : BitVec 32 := 16#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v599 : BitVec 32 := Scalar.addi c16_i32_257 v546
  v599
def k0_mult97 (k0_t4 : Fin k0_t4_loop.trips) : BitVec 32 :=
  let c16_i32_259 : BitVec 32 := 16#32
  let c0_i32_148 : BitVec 32 := 0#32
  let c1_i32_150 : BitVec 32 := 1#32
  let arg13 : BitVec 32 := Scf.iv c0_i32_148 c1_i32_150 k0_t4
  let c32_i32_242 : BitVec 32 := 32#32
  let v544 : BitVec 32 := Scalar.muli arg13 c32_i32_242
  let c16_i32_243 : BitVec 32 := 16#32
  let v545 : BitVec 32 := Scalar.addi v544 c16_i32_243
  let v546 : BitVec 32 := v545
  let v607 : BitVec 32 := Scalar.addi c16_i32_259 v546
  v607
def k0_mult98 (k0_t4 : Fin k0_t4_loop.trips) : BitVec 32 :=
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  v616
def k0_mult99 (k0_t4 : Fin k0_t4_loop.trips) : BitVec 32 :=
  let c8_i32_263 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v622 : BitVec 32 := Scalar.addi c8_i32_263 v617
  v622
def k0_mult100 (k0_t4 : Fin k0_t4_loop.trips) : BitVec 32 :=
  let c8_i32_265 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v630 : BitVec 32 := Scalar.addi c8_i32_265 v617
  v630
def k0_mult101 (k0_t4 : Fin k0_t4_loop.trips) : BitVec 32 :=
  let c8_i32_267 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v638 : BitVec 32 := Scalar.addi c8_i32_267 v617
  v638
def k0_mult102 (k0_t4 : Fin k0_t4_loop.trips) : BitVec 32 :=
  let c8_i32_269 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v646 : BitVec 32 := Scalar.addi c8_i32_269 v617
  v646
def k0_mult103 (k0_t4 : Fin k0_t4_loop.trips) : BitVec 32 :=
  let c8_i32_271 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v654 : BitVec 32 := Scalar.addi c8_i32_271 v617
  v654
def k0_mult104 (k0_t4 : Fin k0_t4_loop.trips) : BitVec 32 :=
  let c8_i32_273 : BitVec 32 := 8#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v662 : BitVec 32 := Scalar.addi c8_i32_273 v617
  v662
def k0_mult105 (k0_t4 : Fin k0_t4_loop.trips) : BitVec 32 :=
  let c16_i32_275 : BitVec 32 := 16#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v670 : BitVec 32 := Scalar.addi c16_i32_275 v617
  v670
def k0_mult106 (k0_t4 : Fin k0_t4_loop.trips) : BitVec 32 :=
  let c16_i32_277 : BitVec 32 := 16#32
  let c0_i32_148 : BitVec 32 := 0#32
  let c1_i32_150 : BitVec 32 := 1#32
  let arg13 : BitVec 32 := Scf.iv c0_i32_148 c1_i32_150 k0_t4
  let c32_i32_261 : BitVec 32 := 32#32
  let v615 : BitVec 32 := Scalar.muli arg13 c32_i32_261
  let c24_i32 : BitVec 32 := 24#32
  let v616 : BitVec 32 := Scalar.addi v615 c24_i32
  let v617 : BitVec 32 := v616
  let v678 : BitVec 32 := Scalar.addi c16_i32_277 v617
  v678
def k0_off72 (k0_t1 : Fin k0_t1_loop.trips) : Fin 2 → Nat :=
  let c8 : Index := 8#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v214 : Index := Scalar.indexCast v116
  ![8, v214.toNat]
def k0_off73 (k0_t1 : Fin k0_t1_loop.trips) : Fin 2 → Nat :=
  let c9 : Index := 9#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v222 : Index := Scalar.indexCast v116
  ![9, v222.toNat]
def k0_off74 (k0_t1 : Fin k0_t1_loop.trips) : Fin 2 → Nat :=
  let c10 : Index := 10#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v230 : Index := Scalar.indexCast v116
  ![10, v230.toNat]
def k0_off75 (k0_t1 : Fin k0_t1_loop.trips) : Fin 2 → Nat :=
  let c11 : Index := 11#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v238 : Index := Scalar.indexCast v116
  ![11, v238.toNat]
def k0_off76 (k0_t1 : Fin k0_t1_loop.trips) : Fin 2 → Nat :=
  let c12 : Index := 12#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v246 : Index := Scalar.indexCast v116
  ![12, v246.toNat]
def k0_off77 (k0_t1 : Fin k0_t1_loop.trips) : Fin 2 → Nat :=
  let c13 : Index := 13#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v254 : Index := Scalar.indexCast v116
  ![13, v254.toNat]
def k0_off78 (k0_t1 : Fin k0_t1_loop.trips) : Fin 2 → Nat :=
  let c14 : Index := 14#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v262 : Index := Scalar.indexCast v116
  ![14, v262.toNat]
def k0_off79 (k0_t1 : Fin k0_t1_loop.trips) : Fin 2 → Nat :=
  let c15 : Index := 15#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v270 : Index := Scalar.indexCast v116
  ![15, v270.toNat]
@[reducible] def k0_t5_loop : Scf.Loop 32 :=
  let c0_i32_168 : BitVec 32 := 0#32
  let c8_i32_169 : BitVec 32 := 8#32
  let v278 : BitVec 32 := Scalar.addi c0_i32_168 c8_i32_169
  let c1_i32_170 : BitVec 32 := 1#32
  ⟨c0_i32_168, v278, c1_i32_170⟩
def k0_mult107 (k0_t5 : Fin k0_t5_loop.trips) : BitVec 32 :=
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  v403
def k0_off80 (k0_t1 : Fin k0_t1_loop.trips) (k0_t5 : Fin k0_t5_loop.trips) (c0_i32_206 : BitVec 32) : Fin 3 → Nat :=
  let c0_207 : Index := 0#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v405 : Index := Scalar.indexCast v404
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v406 : Index := Scalar.indexCast v116
  ![0, v405.toNat, v406.toNat]
def k0_mult108 (k0_t5 : Fin k0_t5_loop.trips) : BitVec 32 :=
  let c16_i32 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v409 : BitVec 32 := Scalar.addi c16_i32 v404
  v409
def k0_off81 (k0_t1 : Fin k0_t1_loop.trips) (k0_t5 : Fin k0_t5_loop.trips) (c0_i32_206 : BitVec 32) : Fin 3 → Nat :=
  let c2_208 : Index := 2#32
  let c16_i32 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v409 : BitVec 32 := Scalar.addi c16_i32 v404
  let v410 : BitVec 32 := v409
  let v411 : Index := Scalar.indexCast v410
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v412 : Index := Scalar.indexCast v116
  ![2, v411.toNat, v412.toNat]
def k0_mult109 (k0_t5 : Fin k0_t5_loop.trips) : BitVec 32 :=
  let c16_i32_209 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v417 : BitVec 32 := Scalar.addi c16_i32_209 v404
  v417
def k0_off82 (k0_t1 : Fin k0_t1_loop.trips) (k0_t5 : Fin k0_t5_loop.trips) (c0_i32_206 : BitVec 32) : Fin 3 → Nat :=
  let c3_210 : Index := 3#32
  let c16_i32_209 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v417 : BitVec 32 := Scalar.addi c16_i32_209 v404
  let v418 : BitVec 32 := v417
  let v419 : Index := Scalar.indexCast v418
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v420 : Index := Scalar.indexCast v116
  ![3, v419.toNat, v420.toNat]
def k0_mult110 (k0_t5 : Fin k0_t5_loop.trips) : BitVec 32 :=
  let c16_i32_211 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v425 : BitVec 32 := Scalar.addi c16_i32_211 v404
  v425
def k0_off83 (k0_t1 : Fin k0_t1_loop.trips) (k0_t5 : Fin k0_t5_loop.trips) (c0_i32_206 : BitVec 32) : Fin 3 → Nat :=
  let c4_212 : Index := 4#32
  let c16_i32_211 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v425 : BitVec 32 := Scalar.addi c16_i32_211 v404
  let v426 : BitVec 32 := v425
  let v427 : Index := Scalar.indexCast v426
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v428 : Index := Scalar.indexCast v116
  ![4, v427.toNat, v428.toNat]
def k0_mult111 (k0_t5 : Fin k0_t5_loop.trips) : BitVec 32 :=
  let c16_i32_213 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v433 : BitVec 32 := Scalar.addi c16_i32_213 v404
  v433
def k0_off84 (k0_t1 : Fin k0_t1_loop.trips) (k0_t5 : Fin k0_t5_loop.trips) (c0_i32_206 : BitVec 32) : Fin 3 → Nat :=
  let c5_214 : Index := 5#32
  let c16_i32_213 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v433 : BitVec 32 := Scalar.addi c16_i32_213 v404
  let v434 : BitVec 32 := v433
  let v435 : Index := Scalar.indexCast v434
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v436 : Index := Scalar.indexCast v116
  ![5, v435.toNat, v436.toNat]
def k0_mult112 (k0_t5 : Fin k0_t5_loop.trips) : BitVec 32 :=
  let c16_i32_215 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v441 : BitVec 32 := Scalar.addi c16_i32_215 v404
  v441
def k0_off85 (k0_t1 : Fin k0_t1_loop.trips) (k0_t5 : Fin k0_t5_loop.trips) (c0_i32_206 : BitVec 32) : Fin 3 → Nat :=
  let c6_216 : Index := 6#32
  let c16_i32_215 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v441 : BitVec 32 := Scalar.addi c16_i32_215 v404
  let v442 : BitVec 32 := v441
  let v443 : Index := Scalar.indexCast v442
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v444 : Index := Scalar.indexCast v116
  ![6, v443.toNat, v444.toNat]
def k0_mult113 (k0_t5 : Fin k0_t5_loop.trips) : BitVec 32 :=
  let c16_i32_217 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v449 : BitVec 32 := Scalar.addi c16_i32_217 v404
  v449
def k0_off86 (k0_t1 : Fin k0_t1_loop.trips) (k0_t5 : Fin k0_t5_loop.trips) (c0_i32_206 : BitVec 32) : Fin 3 → Nat :=
  let c7_218 : Index := 7#32
  let c16_i32_217 : BitVec 32 := 16#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v449 : BitVec 32 := Scalar.addi c16_i32_217 v404
  let v450 : BitVec 32 := v449
  let v451 : Index := Scalar.indexCast v450
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v452 : Index := Scalar.indexCast v116
  ![7, v451.toNat, v452.toNat]
def k0_mult114 (k0_t5 : Fin k0_t5_loop.trips) : BitVec 32 :=
  let c24_i32 : BitVec 32 := 24#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v457 : BitVec 32 := Scalar.addi c24_i32 v404
  v457
def k0_off87 (k0_t1 : Fin k0_t1_loop.trips) (k0_t5 : Fin k0_t5_loop.trips) (c0_i32_206 : BitVec 32) : Fin 3 → Nat :=
  let c0_219 : Index := 0#32
  let c24_i32 : BitVec 32 := 24#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v457 : BitVec 32 := Scalar.addi c24_i32 v404
  let v458 : BitVec 32 := v457
  let v459 : Index := Scalar.indexCast v458
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v460 : Index := Scalar.indexCast v116
  ![0, v459.toNat, v460.toNat]
def k0_mult115 (k0_t5 : Fin k0_t5_loop.trips) : BitVec 32 :=
  let c24_i32_220 : BitVec 32 := 24#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v465 : BitVec 32 := Scalar.addi c24_i32_220 v404
  v465
def k0_off88 (k0_t1 : Fin k0_t1_loop.trips) (k0_t5 : Fin k0_t5_loop.trips) (c0_i32_206 : BitVec 32) : Fin 3 → Nat :=
  let c1_221 : Index := 1#32
  let c24_i32_220 : BitVec 32 := 24#32
  let c0_i32_168 : BitVec 32 := 0#32
  let c1_i32_170 : BitVec 32 := 1#32
  let arg13 : BitVec 32 := Scf.iv c0_i32_168 c1_i32_170 k0_t5
  let c32_i32 : BitVec 32 := 32#32
  let v402 : BitVec 32 := Scalar.muli arg13 c32_i32
  let v403 : BitVec 32 := Scalar.addi v402 c0_i32_206
  let v404 : BitVec 32 := v403
  let v465 : BitVec 32 := Scalar.addi c24_i32_220 v404
  let v466 : BitVec 32 := v465
  let v467 : Index := Scalar.indexCast v466
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v468 : Index := Scalar.indexCast v116
  ![1, v467.toNat, v468.toNat]
def k0_mult116 (k0_t5 : Fin k0_t5_loop.trips) : BitVec 32 :=
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  v474
def k0_mult117 (k0_t5 : Fin k0_t5_loop.trips) : BitVec 32 :=
  let c16_i32_225 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v480 : BitVec 32 := Scalar.addi c16_i32_225 v475
  v480
def k0_mult118 (k0_t5 : Fin k0_t5_loop.trips) : BitVec 32 :=
  let c16_i32_227 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v488 : BitVec 32 := Scalar.addi c16_i32_227 v475
  v488
def k0_mult119 (k0_t5 : Fin k0_t5_loop.trips) : BitVec 32 :=
  let c16_i32_229 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v496 : BitVec 32 := Scalar.addi c16_i32_229 v475
  v496
def k0_mult120 (k0_t5 : Fin k0_t5_loop.trips) : BitVec 32 :=
  let c16_i32_231 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v504 : BitVec 32 := Scalar.addi c16_i32_231 v475
  v504
def k0_mult121 (k0_t5 : Fin k0_t5_loop.trips) : BitVec 32 :=
  let c16_i32_233 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v512 : BitVec 32 := Scalar.addi c16_i32_233 v475
  v512
def k0_mult122 (k0_t5 : Fin k0_t5_loop.trips) : BitVec 32 :=
  let c16_i32_235 : BitVec 32 := 16#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v520 : BitVec 32 := Scalar.addi c16_i32_235 v475
  v520
def k0_mult123 (k0_t5 : Fin k0_t5_loop.trips) : BitVec 32 :=
  let c24_i32_237 : BitVec 32 := 24#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v528 : BitVec 32 := Scalar.addi c24_i32_237 v475
  v528
def k0_mult124 (k0_t5 : Fin k0_t5_loop.trips) : BitVec 32 :=
  let c24_i32_239 : BitVec 32 := 24#32
  let c0_i32_168 : BitVec 32 := 0#32
  let c1_i32_170 : BitVec 32 := 1#32
  let arg13 : BitVec 32 := Scf.iv c0_i32_168 c1_i32_170 k0_t5
  let c32_i32_222 : BitVec 32 := 32#32
  let v473 : BitVec 32 := Scalar.muli arg13 c32_i32_222
  let c8_i32_223 : BitVec 32 := 8#32
  let v474 : BitVec 32 := Scalar.addi v473 c8_i32_223
  let v475 : BitVec 32 := v474
  let v536 : BitVec 32 := Scalar.addi c24_i32_239 v475
  v536
def k0_mult125 (k0_t5 : Fin k0_t5_loop.trips) : BitVec 32 :=
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  v545
def k0_mult126 (k0_t5 : Fin k0_t5_loop.trips) : BitVec 32 :=
  let c16_i32_244 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v551 : BitVec 32 := Scalar.addi c16_i32_244 v546
  v551
def k0_mult127 (k0_t5 : Fin k0_t5_loop.trips) : BitVec 32 :=
  let c16_i32_246 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v559 : BitVec 32 := Scalar.addi c16_i32_246 v546
  v559
def k0_mult128 (k0_t5 : Fin k0_t5_loop.trips) : BitVec 32 :=
  let c16_i32_248 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v567 : BitVec 32 := Scalar.addi c16_i32_248 v546
  v567
def k0_mult129 (k0_t5 : Fin k0_t5_loop.trips) : BitVec 32 :=
  let c16_i32_250 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v575 : BitVec 32 := Scalar.addi c16_i32_250 v546
  v575
def k0_mult130 (k0_t5 : Fin k0_t5_loop.trips) : BitVec 32 :=
  let c16_i32_252 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v583 : BitVec 32 := Scalar.addi c16_i32_252 v546
  v583
def k0_mult131 (k0_t5 : Fin k0_t5_loop.trips) : BitVec 32 :=
  let c16_i32_254 : BitVec 32 := 16#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v591 : BitVec 32 := Scalar.addi c16_i32_254 v546
  v591
def k0_mult132 (k0_t5 : Fin k0_t5_loop.trips) : BitVec 32 :=
  let c24_i32_256 : BitVec 32 := 24#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v599 : BitVec 32 := Scalar.addi c24_i32_256 v546
  v599
def k0_mult133 (k0_t5 : Fin k0_t5_loop.trips) : BitVec 32 :=
  let c24_i32_258 : BitVec 32 := 24#32
  let c0_i32_168 : BitVec 32 := 0#32
  let c1_i32_170 : BitVec 32 := 1#32
  let arg13 : BitVec 32 := Scf.iv c0_i32_168 c1_i32_170 k0_t5
  let c32_i32_241 : BitVec 32 := 32#32
  let v544 : BitVec 32 := Scalar.muli arg13 c32_i32_241
  let c16_i32_242 : BitVec 32 := 16#32
  let v545 : BitVec 32 := Scalar.addi v544 c16_i32_242
  let v546 : BitVec 32 := v545
  let v607 : BitVec 32 := Scalar.addi c24_i32_258 v546
  v607
def k0_mult134 (k0_t5 : Fin k0_t5_loop.trips) : BitVec 32 :=
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  v616
def k0_mult135 (k0_t5 : Fin k0_t5_loop.trips) : BitVec 32 :=
  let c16_i32_263 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v622 : BitVec 32 := Scalar.addi c16_i32_263 v617
  v622
def k0_mult136 (k0_t5 : Fin k0_t5_loop.trips) : BitVec 32 :=
  let c16_i32_265 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v630 : BitVec 32 := Scalar.addi c16_i32_265 v617
  v630
def k0_mult137 (k0_t5 : Fin k0_t5_loop.trips) : BitVec 32 :=
  let c16_i32_267 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v638 : BitVec 32 := Scalar.addi c16_i32_267 v617
  v638
def k0_mult138 (k0_t5 : Fin k0_t5_loop.trips) : BitVec 32 :=
  let c16_i32_269 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v646 : BitVec 32 := Scalar.addi c16_i32_269 v617
  v646
def k0_mult139 (k0_t5 : Fin k0_t5_loop.trips) : BitVec 32 :=
  let c16_i32_271 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v654 : BitVec 32 := Scalar.addi c16_i32_271 v617
  v654
def k0_mult140 (k0_t5 : Fin k0_t5_loop.trips) : BitVec 32 :=
  let c16_i32_273 : BitVec 32 := 16#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v662 : BitVec 32 := Scalar.addi c16_i32_273 v617
  v662
def k0_mult141 (k0_t5 : Fin k0_t5_loop.trips) : BitVec 32 :=
  let c24_i32_275 : BitVec 32 := 24#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v670 : BitVec 32 := Scalar.addi c24_i32_275 v617
  v670
def k0_mult142 (k0_t5 : Fin k0_t5_loop.trips) : BitVec 32 :=
  let c24_i32_277 : BitVec 32 := 24#32
  let c0_i32_168 : BitVec 32 := 0#32
  let c1_i32_170 : BitVec 32 := 1#32
  let arg13 : BitVec 32 := Scf.iv c0_i32_168 c1_i32_170 k0_t5
  let c32_i32_260 : BitVec 32 := 32#32
  let v615 : BitVec 32 := Scalar.muli arg13 c32_i32_260
  let c24_i32_261 : BitVec 32 := 24#32
  let v616 : BitVec 32 := Scalar.addi v615 c24_i32_261
  let v617 : BitVec 32 := v616
  let v678 : BitVec 32 := Scalar.addi c24_i32_277 v617
  v678
def k0_off89 (k0_t1 : Fin k0_t1_loop.trips) : Fin 2 → Nat :=
  let c16 : Index := 16#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v280 : Index := Scalar.indexCast v116
  ![16, v280.toNat]
def k0_off90 (k0_t1 : Fin k0_t1_loop.trips) : Fin 2 → Nat :=
  let c17 : Index := 17#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v288 : Index := Scalar.indexCast v116
  ![17, v288.toNat]
def k0_off91 (k0_t1 : Fin k0_t1_loop.trips) : Fin 2 → Nat :=
  let c18 : Index := 18#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v296 : Index := Scalar.indexCast v116
  ![18, v296.toNat]
def k0_off92 (k0_t1 : Fin k0_t1_loop.trips) : Fin 2 → Nat :=
  let c19 : Index := 19#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v304 : Index := Scalar.indexCast v116
  ![19, v304.toNat]
def k0_off93 (k0_t1 : Fin k0_t1_loop.trips) : Fin 2 → Nat :=
  let c20 : Index := 20#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v312 : Index := Scalar.indexCast v116
  ![20, v312.toNat]
def k0_off94 (k0_t1 : Fin k0_t1_loop.trips) : Fin 2 → Nat :=
  let c21 : Index := 21#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v320 : Index := Scalar.indexCast v116
  ![21, v320.toNat]
def k0_off95 (k0_t1 : Fin k0_t1_loop.trips) : Fin 2 → Nat :=
  let c22 : Index := 22#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v328 : Index := Scalar.indexCast v116
  ![22, v328.toNat]
def k0_off96 (k0_t1 : Fin k0_t1_loop.trips) : Fin 2 → Nat :=
  let c23 : Index := 23#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v336 : Index := Scalar.indexCast v116
  ![23, v336.toNat]
@[reducible] def k0_t6_loop : Scf.Loop 32 :=
  let c0_i32_188 : BitVec 32 := 0#32
  let c8_i32_189 : BitVec 32 := 8#32
  let v344 : BitVec 32 := Scalar.addi c0_i32_188 c8_i32_189
  let c1_i32_190 : BitVec 32 := 1#32
  ⟨c0_i32_188, v344, c1_i32_190⟩
def k0_mult143 (k0_t6 : Fin k0_t6_loop.trips) : BitVec 32 :=
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  v403
def k0_off97 (k0_t1 : Fin k0_t1_loop.trips) (k0_t6 : Fin k0_t6_loop.trips) (c0_i32_206 : BitVec 32) : Fin 3 → Nat :=
  let c0_207 : Index := 0#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v405 : Index := Scalar.indexCast v404
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v406 : Index := Scalar.indexCast v116
  ![0, v405.toNat, v406.toNat]
def k0_mult144 (k0_t6 : Fin k0_t6_loop.trips) : BitVec 32 :=
  let c24_i32 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v409 : BitVec 32 := Scalar.addi c24_i32 v404
  v409
def k0_off98 (k0_t1 : Fin k0_t1_loop.trips) (k0_t6 : Fin k0_t6_loop.trips) (c0_i32_206 : BitVec 32) : Fin 3 → Nat :=
  let c2_208 : Index := 2#32
  let c24_i32 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v409 : BitVec 32 := Scalar.addi c24_i32 v404
  let v410 : BitVec 32 := v409
  let v411 : Index := Scalar.indexCast v410
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v412 : Index := Scalar.indexCast v116
  ![2, v411.toNat, v412.toNat]
def k0_mult145 (k0_t6 : Fin k0_t6_loop.trips) : BitVec 32 :=
  let c24_i32_209 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v417 : BitVec 32 := Scalar.addi c24_i32_209 v404
  v417
def k0_off99 (k0_t1 : Fin k0_t1_loop.trips) (k0_t6 : Fin k0_t6_loop.trips) (c0_i32_206 : BitVec 32) : Fin 3 → Nat :=
  let c3_210 : Index := 3#32
  let c24_i32_209 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v417 : BitVec 32 := Scalar.addi c24_i32_209 v404
  let v418 : BitVec 32 := v417
  let v419 : Index := Scalar.indexCast v418
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v420 : Index := Scalar.indexCast v116
  ![3, v419.toNat, v420.toNat]
def k0_mult146 (k0_t6 : Fin k0_t6_loop.trips) : BitVec 32 :=
  let c24_i32_211 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v425 : BitVec 32 := Scalar.addi c24_i32_211 v404
  v425
def k0_off100 (k0_t1 : Fin k0_t1_loop.trips) (k0_t6 : Fin k0_t6_loop.trips) (c0_i32_206 : BitVec 32) : Fin 3 → Nat :=
  let c4_212 : Index := 4#32
  let c24_i32_211 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v425 : BitVec 32 := Scalar.addi c24_i32_211 v404
  let v426 : BitVec 32 := v425
  let v427 : Index := Scalar.indexCast v426
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v428 : Index := Scalar.indexCast v116
  ![4, v427.toNat, v428.toNat]
def k0_mult147 (k0_t6 : Fin k0_t6_loop.trips) : BitVec 32 :=
  let c24_i32_213 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v433 : BitVec 32 := Scalar.addi c24_i32_213 v404
  v433
def k0_off101 (k0_t1 : Fin k0_t1_loop.trips) (k0_t6 : Fin k0_t6_loop.trips) (c0_i32_206 : BitVec 32) : Fin 3 → Nat :=
  let c5_214 : Index := 5#32
  let c24_i32_213 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v433 : BitVec 32 := Scalar.addi c24_i32_213 v404
  let v434 : BitVec 32 := v433
  let v435 : Index := Scalar.indexCast v434
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v436 : Index := Scalar.indexCast v116
  ![5, v435.toNat, v436.toNat]
def k0_mult148 (k0_t6 : Fin k0_t6_loop.trips) : BitVec 32 :=
  let c24_i32_215 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v441 : BitVec 32 := Scalar.addi c24_i32_215 v404
  v441
def k0_off102 (k0_t1 : Fin k0_t1_loop.trips) (k0_t6 : Fin k0_t6_loop.trips) (c0_i32_206 : BitVec 32) : Fin 3 → Nat :=
  let c6_216 : Index := 6#32
  let c24_i32_215 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v441 : BitVec 32 := Scalar.addi c24_i32_215 v404
  let v442 : BitVec 32 := v441
  let v443 : Index := Scalar.indexCast v442
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v444 : Index := Scalar.indexCast v116
  ![6, v443.toNat, v444.toNat]
def k0_mult149 (k0_t6 : Fin k0_t6_loop.trips) : BitVec 32 :=
  let c24_i32_217 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v449 : BitVec 32 := Scalar.addi c24_i32_217 v404
  v449
def k0_off103 (k0_t1 : Fin k0_t1_loop.trips) (k0_t6 : Fin k0_t6_loop.trips) (c0_i32_206 : BitVec 32) : Fin 3 → Nat :=
  let c7_218 : Index := 7#32
  let c24_i32_217 : BitVec 32 := 24#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v449 : BitVec 32 := Scalar.addi c24_i32_217 v404
  let v450 : BitVec 32 := v449
  let v451 : Index := Scalar.indexCast v450
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v452 : Index := Scalar.indexCast v116
  ![7, v451.toNat, v452.toNat]
def k0_mult150 (k0_t6 : Fin k0_t6_loop.trips) : BitVec 32 :=
  let c32_i32_219 : BitVec 32 := 32#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let c0_i32_206 : BitVec 32 := 0#32
  let v403 : BitVec 32 := Scalar.addi v402 c0_i32_206
  let v404 : BitVec 32 := v403
  let v457 : BitVec 32 := Scalar.addi c32_i32_219 v404
  v457
def k0_off104 (k0_t1 : Fin k0_t1_loop.trips) (k0_t6 : Fin k0_t6_loop.trips) (c0_i32_206 : BitVec 32) : Fin 3 → Nat :=
  let c0_220 : Index := 0#32
  let c32_i32_219 : BitVec 32 := 32#32
  let c0_i32_188 : BitVec 32 := 0#32
  let c1_i32_190 : BitVec 32 := 1#32
  let arg13 : BitVec 32 := Scf.iv c0_i32_188 c1_i32_190 k0_t6
  let c32_i32 : BitVec 32 := 32#32
  let v402 : BitVec 32 := Scalar.muli arg13 c32_i32
  let v403 : BitVec 32 := Scalar.addi v402 c0_i32_206
  let v404 : BitVec 32 := v403
  let v457 : BitVec 32 := Scalar.addi c32_i32_219 v404
  let v458 : BitVec 32 := v457
  let v459 : Index := Scalar.indexCast v458
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v460 : Index := Scalar.indexCast v116
  ![0, v459.toNat, v460.toNat]
def k0_mult151 (k0_t6 : Fin k0_t6_loop.trips) : BitVec 32 :=
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  v466
def k0_mult152 (k0_t6 : Fin k0_t6_loop.trips) : BitVec 32 :=
  let c24_i32_224 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v472 : BitVec 32 := Scalar.addi c24_i32_224 v467
  v472
def k0_mult153 (k0_t6 : Fin k0_t6_loop.trips) : BitVec 32 :=
  let c24_i32_226 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v480 : BitVec 32 := Scalar.addi c24_i32_226 v467
  v480
def k0_mult154 (k0_t6 : Fin k0_t6_loop.trips) : BitVec 32 :=
  let c24_i32_228 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v488 : BitVec 32 := Scalar.addi c24_i32_228 v467
  v488
def k0_mult155 (k0_t6 : Fin k0_t6_loop.trips) : BitVec 32 :=
  let c24_i32_230 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v496 : BitVec 32 := Scalar.addi c24_i32_230 v467
  v496
def k0_mult156 (k0_t6 : Fin k0_t6_loop.trips) : BitVec 32 :=
  let c24_i32_232 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v504 : BitVec 32 := Scalar.addi c24_i32_232 v467
  v504
def k0_mult157 (k0_t6 : Fin k0_t6_loop.trips) : BitVec 32 :=
  let c24_i32_234 : BitVec 32 := 24#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v512 : BitVec 32 := Scalar.addi c24_i32_234 v467
  v512
def k0_mult158 (k0_t6 : Fin k0_t6_loop.trips) : BitVec 32 :=
  let c32_i32_236 : BitVec 32 := 32#32
  let c0_i32_188 : BitVec 32 := 0#32
  let c1_i32_190 : BitVec 32 := 1#32
  let arg13 : BitVec 32 := Scf.iv c0_i32_188 c1_i32_190 k0_t6
  let c32_i32_221 : BitVec 32 := 32#32
  let v465 : BitVec 32 := Scalar.muli arg13 c32_i32_221
  let c8_i32_222 : BitVec 32 := 8#32
  let v466 : BitVec 32 := Scalar.addi v465 c8_i32_222
  let v467 : BitVec 32 := v466
  let v520 : BitVec 32 := Scalar.addi c32_i32_236 v467
  v520
def k0_mult159 (k0_t6 : Fin k0_t6_loop.trips) : BitVec 32 :=
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  v529
def k0_mult160 (k0_t6 : Fin k0_t6_loop.trips) : BitVec 32 :=
  let c24_i32_240 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v535 : BitVec 32 := Scalar.addi c24_i32_240 v530
  v535
def k0_mult161 (k0_t6 : Fin k0_t6_loop.trips) : BitVec 32 :=
  let c24_i32_242 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v543 : BitVec 32 := Scalar.addi c24_i32_242 v530
  v543
def k0_mult162 (k0_t6 : Fin k0_t6_loop.trips) : BitVec 32 :=
  let c24_i32_244 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v551 : BitVec 32 := Scalar.addi c24_i32_244 v530
  v551
def k0_mult163 (k0_t6 : Fin k0_t6_loop.trips) : BitVec 32 :=
  let c24_i32_246 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v559 : BitVec 32 := Scalar.addi c24_i32_246 v530
  v559
def k0_mult164 (k0_t6 : Fin k0_t6_loop.trips) : BitVec 32 :=
  let c24_i32_248 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v567 : BitVec 32 := Scalar.addi c24_i32_248 v530
  v567
def k0_mult165 (k0_t6 : Fin k0_t6_loop.trips) : BitVec 32 :=
  let c24_i32_250 : BitVec 32 := 24#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v575 : BitVec 32 := Scalar.addi c24_i32_250 v530
  v575
def k0_mult166 (k0_t6 : Fin k0_t6_loop.trips) : BitVec 32 :=
  let c32_i32_252 : BitVec 32 := 32#32
  let c0_i32_188 : BitVec 32 := 0#32
  let c1_i32_190 : BitVec 32 := 1#32
  let arg13 : BitVec 32 := Scf.iv c0_i32_188 c1_i32_190 k0_t6
  let c32_i32_238 : BitVec 32 := 32#32
  let v528 : BitVec 32 := Scalar.muli arg13 c32_i32_238
  let c16_i32 : BitVec 32 := 16#32
  let v529 : BitVec 32 := Scalar.addi v528 c16_i32
  let v530 : BitVec 32 := v529
  let v583 : BitVec 32 := Scalar.addi c32_i32_252 v530
  v583
def k0_mult167 (k0_t6 : Fin k0_t6_loop.trips) : BitVec 32 :=
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  v592
def k0_mult168 (k0_t6 : Fin k0_t6_loop.trips) : BitVec 32 :=
  let c24_i32_257 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v598 : BitVec 32 := Scalar.addi c24_i32_257 v593
  v598
def k0_mult169 (k0_t6 : Fin k0_t6_loop.trips) : BitVec 32 :=
  let c24_i32_259 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v606 : BitVec 32 := Scalar.addi c24_i32_259 v593
  v606
def k0_mult170 (k0_t6 : Fin k0_t6_loop.trips) : BitVec 32 :=
  let c24_i32_261 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v614 : BitVec 32 := Scalar.addi c24_i32_261 v593
  v614
def k0_mult171 (k0_t6 : Fin k0_t6_loop.trips) : BitVec 32 :=
  let c24_i32_263 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v622 : BitVec 32 := Scalar.addi c24_i32_263 v593
  v622
def k0_mult172 (k0_t6 : Fin k0_t6_loop.trips) : BitVec 32 :=
  let c24_i32_265 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v630 : BitVec 32 := Scalar.addi c24_i32_265 v593
  v630
def k0_mult173 (k0_t6 : Fin k0_t6_loop.trips) : BitVec 32 :=
  let c24_i32_267 : BitVec 32 := 24#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v638 : BitVec 32 := Scalar.addi c24_i32_267 v593
  v638
def k0_mult174 (k0_t6 : Fin k0_t6_loop.trips) : BitVec 32 :=
  let c32_i32_269 : BitVec 32 := 32#32
  let c0_i32_188 : BitVec 32 := 0#32
  let c1_i32_190 : BitVec 32 := 1#32
  let arg13 : BitVec 32 := Scf.iv c0_i32_188 c1_i32_190 k0_t6
  let c32_i32_254 : BitVec 32 := 32#32
  let v591 : BitVec 32 := Scalar.muli arg13 c32_i32_254
  let c24_i32_255 : BitVec 32 := 24#32
  let v592 : BitVec 32 := Scalar.addi v591 c24_i32_255
  let v593 : BitVec 32 := v592
  let v646 : BitVec 32 := Scalar.addi c32_i32_269 v593
  v646
def k0_off105 (k0_t1 : Fin k0_t1_loop.trips) : Fin 2 → Nat :=
  let c24 : Index := 24#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v346 : Index := Scalar.indexCast v116
  ![24, v346.toNat]
def k0_off106 (k0_t1 : Fin k0_t1_loop.trips) : Fin 2 → Nat :=
  let c25 : Index := 25#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v354 : Index := Scalar.indexCast v116
  ![25, v354.toNat]
def k0_off107 (k0_t1 : Fin k0_t1_loop.trips) : Fin 2 → Nat :=
  let c26 : Index := 26#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v362 : Index := Scalar.indexCast v116
  ![26, v362.toNat]
def k0_off108 (k0_t1 : Fin k0_t1_loop.trips) : Fin 2 → Nat :=
  let c27 : Index := 27#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v370 : Index := Scalar.indexCast v116
  ![27, v370.toNat]
def k0_off109 (k0_t1 : Fin k0_t1_loop.trips) : Fin 2 → Nat :=
  let c28 : Index := 28#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v378 : Index := Scalar.indexCast v116
  ![28, v378.toNat]
def k0_off110 (k0_t1 : Fin k0_t1_loop.trips) : Fin 2 → Nat :=
  let c29 : Index := 29#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v386 : Index := Scalar.indexCast v116
  ![29, v386.toNat]
def k0_off111 (k0_t1 : Fin k0_t1_loop.trips) : Fin 2 → Nat :=
  let c30 : Index := 30#32
  let c0_i32_105 : BitVec 32 := 0#32
  let c1_i32 : BitVec 32 := 1#32
  let arg12 : BitVec 32 := Scf.iv c0_i32_105 c1_i32 k0_t1
  let c512_i32 : BitVec 32 := 512#32
  let v115 : BitVec 32 := Scalar.muli arg12 c512_i32
  let v116 : BitVec 32 := v115
  let v394 : Index := Scalar.indexCast v116
  ![30, v394.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== CmidRefIdeal.lean ====
abbrev S4096x2048 : Shape := ⟨2, ![4096, 2048]⟩
abbrev S31x1024 : Shape := ⟨2, ![31, 1024]⟩
abbrev S4096x1024 : Shape := ⟨2, ![4096, 1024]⟩
abbrev S_ : Shape := ⟨0, ![]⟩
abbrev S2048 : Shape := ⟨1, ![2048]⟩
abbrev S1024 : Shape := ⟨1, ![1024]⟩
abbrev S1x2048 : Shape := ⟨2, ![1, 2048]⟩
abbrev S30x1024 : Shape := ⟨2, ![30, 1024]⟩
abbrev S4126x1024 : Shape := ⟨2, ![4126, 1024]⟩
abbrev S1x1024 : Shape := ⟨2, ![1, 1024]⟩
abbrev S32x1024 : Shape := ⟨2, ![32, 1024]⟩

abbrev nBuf : Space → Nat
  | .hbm => 737
  | .vmem => 0
  | .smem => 0
  | _ => 0

abbrev hbmTy0_0 (i : Nat) : BufTy := match i % 128 with
  | 0 => ⟨S4096x2048, .f32⟩
  | 1 => ⟨S31x1024, .f32⟩
  | 2 => ⟨S4096x1024, .f32⟩
  | 3 => ⟨S_, .f32⟩
  | 4 => ⟨S2048, .f32⟩
  | 5 => ⟨S_, .f32⟩
  | 6 => ⟨S1024, .f32⟩
  | 7 => ⟨S1x2048, .f32⟩
  | 8 => ⟨S4096x2048, .f32⟩
  | 9 => ⟨S4096x2048, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S30x1024, .f32⟩
  | 27 => ⟨S4126x1024, .f32⟩
  | 28 => ⟨S_, .f32⟩
  | 29 => ⟨S30x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S4096x2048, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S_, .f32⟩
  | 126 => ⟨S1024, .f32⟩
  | 127 => ⟨S1x1024, .f32⟩
  | _ => ⟨S4096x2048, .f32⟩

abbrev hbmTy0_2 (i : Nat) : BufTy := match i % 128 with
  | 0 => ⟨S_, .f32⟩
  | 1 => ⟨S1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S_, .f32⟩
  | 11 => ⟨S4126x1024, .f32⟩
  | 12 => ⟨S1x1024, .f32⟩
  | 13 => ⟨S_, .f32⟩
  | 14 => ⟨S31x1024, .f32⟩
  | 15 => ⟨S4096x1024, .f32⟩
  | 16 => ⟨S4096x1024, .f32⟩
  | 17 => ⟨S4096x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S_, .f32⟩
  | 24 => ⟨S4126x1024, .f32⟩
  | 25 => ⟨S4126x1024, .f32⟩
  | 26 => ⟨S1x1024, .f32⟩
  | 27 => ⟨S_, .f32⟩
  | 28 => ⟨S31x1024, .f32⟩
  | 29 => ⟨S31x1024, .f32⟩
  | 30 => ⟨S4096x1024, .f32⟩
  | 31 => ⟨S4096x1024, .f32⟩
  | 32 => ⟨S4096x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S_, .f32⟩
  | 39 => ⟨S4126x1024, .f32⟩
  | 40 => ⟨S4126x1024, .f32⟩
  | 41 => ⟨S1x1024, .f32⟩
  | 42 => ⟨S_, .f32⟩
  | 43 => ⟨S31x1024, .f32⟩
  | 44 => ⟨S31x1024, .f32⟩
  | 45 => ⟨S4096x1024, .f32⟩
  | 46 => ⟨S4096x1024, .f32⟩
  | 47 => ⟨S4096x1024, .f32⟩
  | 48 => ⟨S_, .f32⟩
  | 49 => ⟨S1024, .f32⟩
  | 50 => ⟨S1x1024, .f32⟩
  | 51 => ⟨S_, .f32⟩
  | 52 => ⟨S1024, .f32⟩
  | 53 => ⟨S_, .f32⟩
  | 54 => ⟨S4126x1024, .f32⟩
  | 55 => ⟨S4126x1024, .f32⟩
  | 56 => ⟨S1x1024, .f32⟩
  | 57 => ⟨S_, .f32⟩
  | 58 => ⟨S31x1024, .f32⟩
  | 59 => ⟨S31x1024, .f32⟩
  | 60 => ⟨S4096x1024, .f32⟩
  | 61 => ⟨S4096x1024, .f32⟩
  | 62 => ⟨S4096x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S_, .f32⟩
  | 69 => ⟨S4126x1024, .f32⟩
  | 70 => ⟨S4126x1024, .f32⟩
  | 71 => ⟨S1x1024, .f32⟩
  | 72 => ⟨S_, .f32⟩
  | 73 => ⟨S31x1024, .f32⟩
  | 74 => ⟨S31x1024, .f32⟩
  | 75 => ⟨S4096x1024, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S_, .f32⟩
  | 84 => ⟨S4126x1024, .f32⟩
  | 85 => ⟨S4126x1024, .f32⟩
  | 86 => ⟨S1x1024, .f32⟩
  | 87 => ⟨S_, .f32⟩
  | 88 => ⟨S31x1024, .f32⟩
  | 89 => ⟨S31x1024, .f32⟩
  | 90 => ⟨S4096x1024, .f32⟩
  | 91 => ⟨S4096x1024, .f32⟩
  | 92 => ⟨S4096x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S_, .f32⟩
  | 99 => ⟨S4126x1024, .f32⟩
  | 100 => ⟨S4126x1024, .f32⟩
  | 101 => ⟨S1x1024, .f32⟩
  | 102 => ⟨S_, .f32⟩
  | 103 => ⟨S31x1024, .f32⟩
  | 104 => ⟨S31x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S_, .f32⟩
  | 114 => ⟨S4126x1024, .f32⟩
  | 115 => ⟨S4126x1024, .f32⟩
  | 116 => ⟨S1x1024, .f32⟩
  | 117 => ⟨S_, .f32⟩
  | 118 => ⟨S31x1024, .f32⟩
  | 119 => ⟨S31x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S_, .f32⟩
  | 127 => ⟨S1024, .f32⟩
  | _ => ⟨S4096x2048, .f32⟩

abbrev hbmTy0_3 (i : Nat) : BufTy := match i % 128 with
  | 0 => ⟨S_, .f32⟩
  | 1 => ⟨S4126x1024, .f32⟩
  | 2 => ⟨S4126x1024, .f32⟩
  | 3 => ⟨S1x1024, .f32⟩
  | 4 => ⟨S_, .f32⟩
  | 5 => ⟨S31x1024, .f32⟩
  | 6 => ⟨S31x1024, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S_, .f32⟩
  | 16 => ⟨S4126x1024, .f32⟩
  | 17 => ⟨S4126x1024, .f32⟩
  | 18 => ⟨S1x1024, .f32⟩
  | 19 => ⟨S_, .f32⟩
  | 20 => ⟨S31x1024, .f32⟩
  | 21 => ⟨S31x1024, .f32⟩
  | 22 => ⟨S4096x1024, .f32⟩
  | 23 => ⟨S4096x1024, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S_, .f32⟩
  | 31 => ⟨S4126x1024, .f32⟩
  | 32 => ⟨S4126x1024, .f32⟩
  | 33 => ⟨S1x1024, .f32⟩
  | 34 => ⟨S_, .f32⟩
  | 35 => ⟨S31x1024, .f32⟩
  | 36 => ⟨S31x1024, .f32⟩
  | 37 => ⟨S4096x1024, .f32⟩
  | 38 => ⟨S4096x1024, .f32⟩
  | 39 => ⟨S4096x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S_, .f32⟩
  | 46 => ⟨S4126x1024, .f32⟩
  | 47 => ⟨S4126x1024, .f32⟩
  | 48 => ⟨S1x1024, .f32⟩
  | 49 => ⟨S_, .f32⟩
  | 50 => ⟨S31x1024, .f32⟩
  | 51 => ⟨S31x1024, .f32⟩
  | 52 => ⟨S4096x1024, .f32⟩
  | 53 => ⟨S4096x1024, .f32⟩
  | 54 => ⟨S4096x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S_, .f32⟩
  | 61 => ⟨S4126x1024, .f32⟩
  | 62 => ⟨S4126x1024, .f32⟩
  | 63 => ⟨S1x1024, .f32⟩
  | 64 => ⟨S_, .f32⟩
  | 65 => ⟨S31x1024, .f32⟩
  | 66 => ⟨S31x1024, .f32⟩
  | 67 => ⟨S4096x1024, .f32⟩
  | 68 => ⟨S4096x1024, .f32⟩
  | 69 => ⟨S4096x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S_, .f32⟩
  | 76 => ⟨S4126x1024, .f32⟩
  | 77 => ⟨S4126x1024, .f32⟩
  | 78 => ⟨S1x1024, .f32⟩
  | 79 => ⟨S_, .f32⟩
  | 80 => ⟨S31x1024, .f32⟩
  | 81 => ⟨S31x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S_, .f32⟩
  | 91 => ⟨S4126x1024, .f32⟩
  | 92 => ⟨S4126x1024, .f32⟩
  | 93 => ⟨S1x1024, .f32⟩
  | 94 => ⟨S_, .f32⟩
  | 95 => ⟨S31x1024, .f32⟩
  | 96 => ⟨S31x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S_, .f32⟩
  | 106 => ⟨S4126x1024, .f32⟩
  | 107 => ⟨S4126x1024, .f32⟩
  | 108 => ⟨S1x1024, .f32⟩
  | 109 => ⟨S_, .f32⟩
  | 110 => ⟨S31x1024, .f32⟩
  | 111 => ⟨S31x1024, .f32⟩
  | 112 => ⟨S4096x1024, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S_, .f32⟩
  | 121 => ⟨S4126x1024, .f32⟩
  | 122 => ⟨S4126x1024, .f32⟩
  | 123 => ⟨S1x1024, .f32⟩
  | 124 => ⟨S_, .f32⟩
  | 125 => ⟨S31x1024, .f32⟩
  | 126 => ⟨S31x1024, .f32⟩
  | 127 => ⟨S4096x1024, .f32⟩
  | _ => ⟨S4096x2048, .f32⟩

abbrev hbmTy0_4 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S_, .f32⟩
  | 6 => ⟨S1024, .f32⟩
  | 7 => ⟨S_, .f32⟩
  | 8 => ⟨S4126x1024, .f32⟩
  | 9 => ⟨S4126x1024, .f32⟩
  | 10 => ⟨S1x1024, .f32⟩
  | 11 => ⟨S_, .f32⟩
  | 12 => ⟨S31x1024, .f32⟩
  | 13 => ⟨S31x1024, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S_, .f32⟩
  | 21 => ⟨S1024, .f32⟩
  | 22 => ⟨S_, .f32⟩
  | 23 => ⟨S4126x1024, .f32⟩
  | 24 => ⟨S4126x1024, .f32⟩
  | 25 => ⟨S1x1024, .f32⟩
  | 26 => ⟨S_, .f32⟩
  | 27 => ⟨S31x1024, .f32⟩
  | 28 => ⟨S31x1024, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S_, .f32⟩
  | 38 => ⟨S4126x1024, .f32⟩
  | 39 => ⟨S4126x1024, .f32⟩
  | 40 => ⟨S1x1024, .f32⟩
  | 41 => ⟨S_, .f32⟩
  | 42 => ⟨S31x1024, .f32⟩
  | 43 => ⟨S31x1024, .f32⟩
  | 44 => ⟨S4096x1024, .f32⟩
  | 45 => ⟨S4096x1024, .f32⟩
  | 46 => ⟨S4096x1024, .f32⟩
  | 47 => ⟨S_, .f32⟩
  | 48 => ⟨S1024, .f32⟩
  | 49 => ⟨S1x1024, .f32⟩
  | 50 => ⟨S_, .f32⟩
  | 51 => ⟨S1024, .f32⟩
  | 52 => ⟨S_, .f32⟩
  | 53 => ⟨S4126x1024, .f32⟩
  | 54 => ⟨S4126x1024, .f32⟩
  | 55 => ⟨S1x1024, .f32⟩
  | 56 => ⟨S_, .f32⟩
  | 57 => ⟨S31x1024, .f32⟩
  | 58 => ⟨S31x1024, .f32⟩
  | 59 => ⟨S4096x1024, .f32⟩
  | 60 => ⟨S4096x1024, .f32⟩
  | 61 => ⟨S4096x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S_, .f32⟩
  | 68 => ⟨S4126x1024, .f32⟩
  | 69 => ⟨S4126x1024, .f32⟩
  | 70 => ⟨S1x1024, .f32⟩
  | 71 => ⟨S_, .f32⟩
  | 72 => ⟨S31x1024, .f32⟩
  | 73 => ⟨S31x1024, .f32⟩
  | 74 => ⟨S4096x1024, .f32⟩
  | 75 => ⟨S4096x1024, .f32⟩
  | 76 => ⟨S4096x1024, .f32⟩
  | 77 => ⟨S_, .f32⟩
  | 78 => ⟨S1024, .f32⟩
  | 79 => ⟨S1x1024, .f32⟩
  | 80 => ⟨S_, .f32⟩
  | 81 => ⟨S1024, .f32⟩
  | 82 => ⟨S_, .f32⟩
  | 83 => ⟨S4126x1024, .f32⟩
  | 84 => ⟨S4126x1024, .f32⟩
  | 85 => ⟨S1x1024, .f32⟩
  | 86 => ⟨S_, .f32⟩
  | 87 => ⟨S31x1024, .f32⟩
  | 88 => ⟨S31x1024, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S_, .f32⟩
  | 98 => ⟨S4126x1024, .f32⟩
  | 99 => ⟨S4126x1024, .f32⟩
  | 100 => ⟨S1x1024, .f32⟩
  | 101 => ⟨S_, .f32⟩
  | 102 => ⟨S31x1024, .f32⟩
  | 103 => ⟨S31x1024, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S_, .f32⟩
  | 113 => ⟨S4126x1024, .f32⟩
  | 114 => ⟨S4126x1024, .f32⟩
  | 115 => ⟨S1x1024, .f32⟩
  | 116 => ⟨S_, .f32⟩
  | 117 => ⟨S31x1024, .f32⟩
  | 118 => ⟨S31x1024, .f32⟩
  | 119 => ⟨S4096x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S_, .f32⟩
  | _ => ⟨S4096x2048, .f32⟩

abbrev hbmTy0_5 (i : Nat) : BufTy := match i % 128 with
  | 0 => ⟨S4126x1024, .f32⟩
  | 1 => ⟨S4126x1024, .f32⟩
  | 2 => ⟨S1x1024, .f32⟩
  | 3 => ⟨S_, .f32⟩
  | 4 => ⟨S31x1024, .f32⟩
  | 5 => ⟨S31x1024, .f32⟩
  | 6 => ⟨S4096x1024, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S_, .f32⟩
  | 15 => ⟨S4126x1024, .f32⟩
  | 16 => ⟨S4126x1024, .f32⟩
  | 17 => ⟨S1x1024, .f32⟩
  | 18 => ⟨S_, .f32⟩
  | 19 => ⟨S31x1024, .f32⟩
  | 20 => ⟨S31x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S_, .f32⟩
  | 30 => ⟨S4126x1024, .f32⟩
  | 31 => ⟨S4126x1024, .f32⟩
  | 32 => ⟨S1x1024, .f32⟩
  | 33 => ⟨S_, .f32⟩
  | 34 => ⟨S31x1024, .f32⟩
  | 35 => ⟨S31x1024, .f32⟩
  | 36 => ⟨S4096x1024, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S_, .f32⟩
  | 43 => ⟨S1024, .f32⟩
  | 44 => ⟨S_, .f32⟩
  | 45 => ⟨S4126x1024, .f32⟩
  | 46 => ⟨S4126x1024, .f32⟩
  | 47 => ⟨S1x1024, .f32⟩
  | 48 => ⟨S_, .f32⟩
  | 49 => ⟨S31x1024, .f32⟩
  | 50 => ⟨S31x1024, .f32⟩
  | 51 => ⟨S4096x1024, .f32⟩
  | 52 => ⟨S4096x1024, .f32⟩
  | 53 => ⟨S4096x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S_, .f32⟩
  | 60 => ⟨S4126x1024, .f32⟩
  | 61 => ⟨S4126x1024, .f32⟩
  | 62 => ⟨S1x1024, .f32⟩
  | 63 => ⟨S_, .f32⟩
  | 64 => ⟨S31x1024, .f32⟩
  | 65 => ⟨S31x1024, .f32⟩
  | 66 => ⟨S4096x1024, .f32⟩
  | 67 => ⟨S4096x1024, .f32⟩
  | 68 => ⟨S4096x1024, .f32⟩
  | 69 => ⟨S_, .f32⟩
  | 70 => ⟨S1024, .f32⟩
  | 71 => ⟨S1x1024, .f32⟩
  | 72 => ⟨S_, .f32⟩
  | 73 => ⟨S1024, .f32⟩
  | 74 => ⟨S_, .f32⟩
  | 75 => ⟨S4126x1024, .f32⟩
  | 76 => ⟨S4126x1024, .f32⟩
  | 77 => ⟨S1x1024, .f32⟩
  | 78 => ⟨S_, .f32⟩
  | 79 => ⟨S31x1024, .f32⟩
  | 80 => ⟨S31x1024, .f32⟩
  | 81 => ⟨S30x1024, .f32⟩
  | 82 => ⟨S4096x1024, .f32⟩
  | 83 => ⟨S4096x1024, .f32⟩
  | 84 => ⟨S4096x1024, .f32⟩
  | 85 => ⟨S4096x1024, .f32⟩
  | 86 => ⟨S4096x2048, .f32⟩
  | 87 => ⟨S_, .f32⟩
  | 88 => ⟨S2048, .f32⟩
  | 89 => ⟨S1x2048, .f32⟩
  | 90 => ⟨S_, .f32⟩
  | 91 => ⟨S2048, .f32⟩
  | 92 => ⟨S_, .i32⟩
  | 93 => ⟨S_, .f32⟩
  | 94 => ⟨S32x1024, .f32⟩
  | 95 => ⟨S1x1024, .f32⟩
  | 96 => ⟨S1x2048, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_13 : Ref sig .tc := ⟨.hbm, 274, rfl⟩
abbrev main_v257 : Ref sig .tc := ⟨.hbm, 275, rfl⟩
abbrev main_v258 : Ref sig .tc := ⟨.hbm, 276, rfl⟩
abbrev main_cst_14 : Ref sig .tc := ⟨.hbm, 277, rfl⟩
abbrev main_v259 : Ref sig .tc := ⟨.hbm, 278, rfl⟩
abbrev main_cst_15 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_cst_16 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_cst_17 : Ref sig .tc := ⟨.hbm, 289, rfl⟩
abbrev main_v268 : Ref sig .tc := ⟨.hbm, 290, rfl⟩
abbrev main_v269 : Ref sig .tc := ⟨.hbm, 291, rfl⟩
abbrev main_cst_18 : Ref sig .tc := ⟨.hbm, 292, rfl⟩
abbrev main_v270 : Ref sig .tc := ⟨.hbm, 293, rfl⟩
abbrev main_cst_19 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_cst_20 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_cst_21 : Ref sig .tc := ⟨.hbm, 304, rfl⟩
abbrev main_v279 : Ref sig .tc := ⟨.hbm, 305, rfl⟩
abbrev main_v280 : Ref sig .tc := ⟨.hbm, 306, rfl⟩
abbrev main_cst_22 : Ref sig .tc := ⟨.hbm, 307, rfl⟩
abbrev main_v281 : Ref sig .tc := ⟨.hbm, 308, rfl⟩
abbrev main_cst_23 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_cst_24 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_cst_25 : Ref sig .tc := ⟨.hbm, 319, rfl⟩
abbrev main_v290 : Ref sig .tc := ⟨.hbm, 320, rfl⟩
abbrev main_v291 : Ref sig .tc := ⟨.hbm, 321, rfl⟩
abbrev main_cst_26 : Ref sig .tc := ⟨.hbm, 322, rfl⟩
abbrev main_v292 : Ref sig .tc := ⟨.hbm, 323, rfl⟩
abbrev main_cst_27 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_cst_28 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_cst_29 : Ref sig .tc := ⟨.hbm, 334, rfl⟩
abbrev main_v301 : Ref sig .tc := ⟨.hbm, 335, rfl⟩
abbrev main_v302 : Ref sig .tc := ⟨.hbm, 336, rfl⟩
abbrev main_cst_30 : Ref sig .tc := ⟨.hbm, 337, rfl⟩
abbrev main_v303 : Ref sig .tc := ⟨.hbm, 338, rfl⟩
abbrev main_cst_31 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_cst_32 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_cst_33 : Ref sig .tc := ⟨.hbm, 349, rfl⟩
abbrev main_v312 : Ref sig .tc := ⟨.hbm, 350, rfl⟩
abbrev main_v313 : Ref sig .tc := ⟨.hbm, 351, rfl⟩
abbrev main_cst_34 : Ref sig .tc := ⟨.hbm, 352, rfl⟩
abbrev main_v314 : Ref sig .tc := ⟨.hbm, 353, rfl⟩
abbrev main_cst_35 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_cst_36 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_37 : Ref sig .tc := ⟨.hbm, 364, rfl⟩
abbrev main_v323 : Ref sig .tc := ⟨.hbm, 365, rfl⟩
abbrev main_v324 : Ref sig .tc := ⟨.hbm, 366, rfl⟩
abbrev main_cst_38 : Ref sig .tc := ⟨.hbm, 367, rfl⟩
abbrev main_v325 : Ref sig .tc := ⟨.hbm, 368, rfl⟩
abbrev main_cst_39 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_cst_40 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_cst_41 : Ref sig .tc := ⟨.hbm, 379, rfl⟩
abbrev main_v334 : Ref sig .tc := ⟨.hbm, 380, rfl⟩
abbrev main_v335 : Ref sig .tc := ⟨.hbm, 381, rfl⟩
abbrev main_cst_42 : Ref sig .tc := ⟨.hbm, 382, rfl⟩
abbrev main_v336 : Ref sig .tc := ⟨.hbm, 383, rfl⟩
abbrev main_cst_43 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_cst_44 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_cst_45 : Ref sig .tc := ⟨.hbm, 394, rfl⟩
abbrev main_v345 : Ref sig .tc := ⟨.hbm, 395, rfl⟩
abbrev main_v346 : Ref sig .tc := ⟨.hbm, 396, rfl⟩
abbrev main_cst_46 : Ref sig .tc := ⟨.hbm, 397, rfl⟩
abbrev main_v347 : Ref sig .tc := ⟨.hbm, 398, rfl⟩
abbrev main_cst_47 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_cst_48 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_cst_49 : Ref sig .tc := ⟨.hbm, 409, rfl⟩
abbrev main_v356 : Ref sig .tc := ⟨.hbm, 410, rfl⟩
abbrev main_v357 : Ref sig .tc := ⟨.hbm, 411, rfl⟩
abbrev main_cst_50 : Ref sig .tc := ⟨.hbm, 412, rfl⟩
abbrev main_v358 : Ref sig .tc := ⟨.hbm, 413, rfl⟩
abbrev main_cst_51 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_cst_52 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_cst_53 : Ref sig .tc := ⟨.hbm, 424, rfl⟩
abbrev main_v367 : Ref sig .tc := ⟨.hbm, 425, rfl⟩
abbrev main_v368 : Ref sig .tc := ⟨.hbm, 426, rfl⟩
abbrev main_cst_54 : Ref sig .tc := ⟨.hbm, 427, rfl⟩
abbrev main_v369 : Ref sig .tc := ⟨.hbm, 428, rfl⟩
abbrev main_cst_55 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_cst_56 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_cst_57 : Ref sig .tc := ⟨.hbm, 439, rfl⟩
abbrev main_v378 : Ref sig .tc := ⟨.hbm, 440, rfl⟩
abbrev main_v379 : Ref sig .tc := ⟨.hbm, 441, rfl⟩
abbrev main_cst_58 : Ref sig .tc := ⟨.hbm, 442, rfl⟩
abbrev main_v380 : Ref sig .tc := ⟨.hbm, 443, rfl⟩
abbrev main_cst_59 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_cst_60 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_cst_61 : Ref sig .tc := ⟨.hbm, 454, rfl⟩
abbrev main_v389 : Ref sig .tc := ⟨.hbm, 455, rfl⟩
abbrev main_v390 : Ref sig .tc := ⟨.hbm, 456, rfl⟩
abbrev main_cst_62 : Ref sig .tc := ⟨.hbm, 457, rfl⟩
abbrev main_v391 : Ref sig .tc := ⟨.hbm, 458, rfl⟩
abbrev main_cst_63 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_cst_64 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_cst_65 : Ref sig .tc := ⟨.hbm, 469, rfl⟩
abbrev main_v400 : Ref sig .tc := ⟨.hbm, 470, rfl⟩
abbrev main_v401 : Ref sig .tc := ⟨.hbm, 471, rfl⟩
abbrev main_cst_66 : Ref sig .tc := ⟨.hbm, 472, rfl⟩
abbrev main_v402 : Ref sig .tc := ⟨.hbm, 473, rfl⟩
abbrev main_cst_67 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_cst_68 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_cst_69 : Ref sig .tc := ⟨.hbm, 484, rfl⟩
abbrev main_v411 : Ref sig .tc := ⟨.hbm, 485, rfl⟩
abbrev main_v412 : Ref sig .tc := ⟨.hbm, 486, rfl⟩
abbrev main_cst_70 : Ref sig .tc := ⟨.hbm, 487, rfl⟩
abbrev main_v413 : Ref sig .tc := ⟨.hbm, 488, rfl⟩
abbrev main_cst_71 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_cst_72 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_cst_73 : Ref sig .tc := ⟨.hbm, 499, rfl⟩
abbrev main_v422 : Ref sig .tc := ⟨.hbm, 500, rfl⟩
abbrev main_v423 : Ref sig .tc := ⟨.hbm, 501, rfl⟩
abbrev main_cst_74 : Ref sig .tc := ⟨.hbm, 502, rfl⟩
abbrev main_v424 : Ref sig .tc := ⟨.hbm, 503, rfl⟩
abbrev main_cst_75 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_cst_76 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_cst_77 : Ref sig .tc := ⟨.hbm, 514, rfl⟩
abbrev main_v433 : Ref sig .tc := ⟨.hbm, 515, rfl⟩
abbrev main_v434 : Ref sig .tc := ⟨.hbm, 516, rfl⟩
abbrev main_cst_78 : Ref sig .tc := ⟨.hbm, 517, rfl⟩
abbrev main_v435 : Ref sig .tc := ⟨.hbm, 518, rfl⟩
abbrev main_cst_79 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_cst_80 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_cst_81 : Ref sig .tc := ⟨.hbm, 529, rfl⟩
abbrev main_v444 : Ref sig .tc := ⟨.hbm, 530, rfl⟩
abbrev main_v445 : Ref sig .tc := ⟨.hbm, 531, rfl⟩
abbrev main_cst_82 : Ref sig .tc := ⟨.hbm, 532, rfl⟩
abbrev main_v446 : Ref sig .tc := ⟨.hbm, 533, rfl⟩
abbrev main_cst_83 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_cst_84 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_cst_85 : Ref sig .tc := ⟨.hbm, 544, rfl⟩
abbrev main_v455 : Ref sig .tc := ⟨.hbm, 545, rfl⟩
abbrev main_v456 : Ref sig .tc := ⟨.hbm, 546, rfl⟩
abbrev main_cst_86 : Ref sig .tc := ⟨.hbm, 547, rfl⟩
abbrev main_v457 : Ref sig .tc := ⟨.hbm, 548, rfl⟩
abbrev main_cst_87 : Ref sig .tc := ⟨.hbm, 549, rfl⟩
abbrev main_v458 : Ref sig .tc := ⟨.hbm, 550, rfl⟩
abbrev main_v459 : Ref sig .tc := ⟨.hbm, 551, rfl⟩
abbrev main_v460 : Ref sig .tc := ⟨.hbm, 552, rfl⟩
abbrev main_cst_88 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_cst_89 : Ref sig .tc := ⟨.hbm, 559, rfl⟩
abbrev main_v466 : Ref sig .tc := ⟨.hbm, 560, rfl⟩
abbrev main_v467 : Ref sig .tc := ⟨.hbm, 561, rfl⟩
abbrev main_cst_90 : Ref sig .tc := ⟨.hbm, 562, rfl⟩
abbrev main_v468 : Ref sig .tc := ⟨.hbm, 563, rfl⟩
abbrev main_cst_91 : Ref sig .tc := ⟨.hbm, 564, rfl⟩
abbrev main_v469 : Ref sig .tc := ⟨.hbm, 565, rfl⟩
abbrev main_v470 : Ref sig .tc := ⟨.hbm, 566, rfl⟩
abbrev main_v471 : Ref sig .tc := ⟨.hbm, 567, rfl⟩
abbrev main_cst_92 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_cst_93 : Ref sig .tc := ⟨.hbm, 574, rfl⟩
abbrev main_v477 : Ref sig .tc := ⟨.hbm, 575, rfl⟩
abbrev main_v478 : Ref sig .tc := ⟨.hbm, 576, rfl⟩
abbrev main_cst_94 : Ref sig .tc := ⟨.hbm, 577, rfl⟩
abbrev main_v479 : Ref sig .tc := ⟨.hbm, 578, rfl⟩
abbrev main_cst_95 : Ref sig .tc := ⟨.hbm, 579, rfl⟩
abbrev main_v480 : Ref sig .tc := ⟨.hbm, 580, rfl⟩
abbrev main_v481 : Ref sig .tc := ⟨.hbm, 581, rfl⟩
abbrev main_v482 : Ref sig .tc := ⟨.hbm, 582, rfl⟩
abbrev main_cst_96 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_cst_97 : Ref sig .tc := ⟨.hbm, 589, rfl⟩
abbrev main_v488 : Ref sig .tc := ⟨.hbm, 590, rfl⟩
abbrev main_v489 : Ref sig .tc := ⟨.hbm, 591, rfl⟩
abbrev main_cst_98 : Ref sig .tc := ⟨.hbm, 592, rfl⟩
abbrev main_v490 : Ref sig .tc := ⟨.hbm, 593, rfl⟩
abbrev main_cst_99 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_cst_100 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_cst_101 : Ref sig .tc := ⟨.hbm, 604, rfl⟩
abbrev main_v499 : Ref sig .tc := ⟨.hbm, 605, rfl⟩
abbrev main_v500 : Ref sig .tc := ⟨.hbm, 606, rfl⟩
abbrev main_cst_102 : Ref sig .tc := ⟨.hbm, 607, rfl⟩
abbrev main_v501 : Ref sig .tc := ⟨.hbm, 608, rfl⟩
abbrev main_cst_103 : Ref sig .tc := ⟨.hbm, 609, rfl⟩
abbrev main_v502 : Ref sig .tc := ⟨.hbm, 610, rfl⟩
abbrev main_v503 : Ref sig .tc := ⟨.hbm, 611, rfl⟩
abbrev main_v504 : Ref sig .tc := ⟨.hbm, 612, rfl⟩
abbrev main_cst_104 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_cst_105 : Ref sig .tc := ⟨.hbm, 619, rfl⟩
abbrev main_v510 : Ref sig .tc := ⟨.hbm, 620, rfl⟩
abbrev main_v511 : Ref sig .tc := ⟨.hbm, 621, rfl⟩
abbrev main_cst_106 : Ref sig .tc := ⟨.hbm, 622, rfl⟩
abbrev main_v512 : Ref sig .tc := ⟨.hbm, 623, rfl⟩
abbrev main_cst_107 : Ref sig .tc := ⟨.hbm, 624, rfl⟩
abbrev main_v513 : Ref sig .tc := ⟨.hbm, 625, rfl⟩
abbrev main_v514 : Ref sig .tc := ⟨.hbm, 626, rfl⟩
abbrev main_v515 : Ref sig .tc := ⟨.hbm, 627, rfl⟩
abbrev main_cst_108 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_cst_109 : Ref sig .tc := ⟨.hbm, 634, rfl⟩
abbrev main_v521 : Ref sig .tc := ⟨.hbm, 635, rfl⟩
abbrev main_v522 : Ref sig .tc := ⟨.hbm, 636, rfl⟩
abbrev main_cst_110 : Ref sig .tc := ⟨.hbm, 637, rfl⟩
abbrev main_v523 : Ref sig .tc := ⟨.hbm, 638, rfl⟩
abbrev main_cst_111 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_cst_112 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_cst_113 : Ref sig .tc := ⟨.hbm, 649, rfl⟩
abbrev main_v532 : Ref sig .tc := ⟨.hbm, 650, rfl⟩
abbrev main_v533 : Ref sig .tc := ⟨.hbm, 651, rfl⟩
abbrev main_cst_114 : Ref sig .tc := ⟨.hbm, 652, rfl⟩
abbrev main_v534 : Ref sig .tc := ⟨.hbm, 653, rfl⟩
abbrev main_cst_115 : Ref sig .tc := ⟨.hbm, 654, rfl⟩
abbrev main_v535 : Ref sig .tc := ⟨.hbm, 655, rfl⟩
abbrev main_v536 : Ref sig .tc := ⟨.hbm, 656, rfl⟩
abbrev main_v537 : Ref sig .tc := ⟨.hbm, 657, rfl⟩
abbrev main_cst_116 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_cst_117 : Ref sig .tc := ⟨.hbm, 664, rfl⟩
abbrev main_v543 : Ref sig .tc := ⟨.hbm, 665, rfl⟩
abbrev main_v544 : Ref sig .tc := ⟨.hbm, 666, rfl⟩
abbrev main_cst_118 : Ref sig .tc := ⟨.hbm, 667, rfl⟩
abbrev main_v545 : Ref sig .tc := ⟨.hbm, 668, rfl⟩
abbrev main_cst_119 : Ref sig .tc := ⟨.hbm, 669, rfl⟩
abbrev main_v546 : Ref sig .tc := ⟨.hbm, 670, rfl⟩
abbrev main_v547 : Ref sig .tc := ⟨.hbm, 671, rfl⟩
abbrev main_v548 : Ref sig .tc := ⟨.hbm, 672, rfl⟩
abbrev main_cst_120 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_cst_121 : Ref sig .tc := ⟨.hbm, 679, rfl⟩
abbrev main_v554 : Ref sig .tc := ⟨.hbm, 680, rfl⟩
abbrev main_v555 : Ref sig .tc := ⟨.hbm, 681, rfl⟩
abbrev main_cst_122 : Ref sig .tc := ⟨.hbm, 682, rfl⟩
abbrev main_v556 : Ref sig .tc := ⟨.hbm, 683, rfl⟩
abbrev main_cst_123 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_cst_124 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_cst_125 : Ref sig .tc := ⟨.hbm, 694, rfl⟩
abbrev main_v565 : Ref sig .tc := ⟨.hbm, 695, rfl⟩
abbrev main_v566 : Ref sig .tc := ⟨.hbm, 696, rfl⟩
abbrev main_cst_126 : Ref sig .tc := ⟨.hbm, 697, rfl⟩
abbrev main_v567 : Ref sig .tc := ⟨.hbm, 698, rfl⟩
abbrev main_cst_127 : Ref sig .tc := ⟨.hbm, 699, rfl⟩
abbrev main_v568 : Ref sig .tc := ⟨.hbm, 700, rfl⟩
abbrev main_v569 : Ref sig .tc := ⟨.hbm, 701, rfl⟩
abbrev main_v570 : Ref sig .tc := ⟨.hbm, 702, rfl⟩
abbrev main_cst_128 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_cst_129 : Ref sig .tc := ⟨.hbm, 709, rfl⟩
abbrev main_v576 : Ref sig .tc := ⟨.hbm, 710, rfl⟩
abbrev main_v577 : Ref sig .tc := ⟨.hbm, 711, rfl⟩
abbrev main_cst_130 : Ref sig .tc := ⟨.hbm, 712, rfl⟩
abbrev main_v578 : Ref sig .tc := ⟨.hbm, 713, rfl⟩
abbrev main_cst_131 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_cst_132 : Ref sig .tc := ⟨.hbm, 718, rfl⟩
abbrev main_v582 : Ref sig .tc := ⟨.hbm, 719, rfl⟩
abbrev main_v583 : Ref sig .tc := ⟨.hbm, 720, rfl⟩
abbrev main_v584 : Ref sig .tc := ⟨.hbm, 721, rfl⟩
abbrev main_v585 : Ref sig .tc := ⟨.hbm, 722, rfl⟩
abbrev main_v586 : Ref sig .tc := ⟨.hbm, 723, rfl⟩
abbrev main_v587 : Ref sig .tc := ⟨.hbm, 724, rfl⟩
abbrev main_v588 : Ref sig .tc := ⟨.hbm, 725, rfl⟩
abbrev main_v589 : Ref sig .tc := ⟨.hbm, 726, rfl⟩
abbrev main_cst_133 : Ref sig .tc := ⟨.hbm, 727, rfl⟩
abbrev main_v590 : Ref sig .tc := ⟨.hbm, 728, rfl⟩
abbrev main_v591 : Ref sig .tc := ⟨.hbm, 729, rfl⟩
abbrev main_cst_134 : Ref sig .tc := ⟨.hbm, 730, rfl⟩
abbrev main_v592 : Ref sig .tc := ⟨.hbm, 731, rfl⟩
abbrev main_c : Ref sig .tc := ⟨.hbm, 732, rfl⟩
abbrev main_call0_v0 : Ref sig .tc := ⟨.hbm, 733, rfl⟩
abbrev main_v593 : Ref sig .tc := ⟨.hbm, 734, rfl⟩
abbrev main_v594 : Ref sig .tc := ⟨.hbm, 735, rfl⟩
abbrev main_v595 : Ref sig .tc := ⟨.hbm, 736, rfl⟩

abbrev nD : Nat := 1
abbrev τ : Topo := Topo.v7x

variable {F : FTy → Type} [FloatOps F]
-- ==== Cmidf.lean ====
abbrev S4096x2048 : Shape := ⟨2, ![4096, 2048]⟩
abbrev S31x1024 : Shape := ⟨2, ![31, 1024]⟩
abbrev S1024 : Shape := ⟨1, ![1024]⟩
abbrev S1x1024 : Shape := ⟨2, ![1, 1024]⟩
abbrev S4096x1024 : Shape := ⟨2, ![4096, 1024]⟩
abbrev S256x2048 : Shape := ⟨2, ![256, 2048]⟩
abbrev S32x2048 : Shape := ⟨2, ![32, 2048]⟩
abbrev S256x1024 : Shape := ⟨2, ![256, 1024]⟩
abbrev S8x288x1024 : Shape := ⟨3, ![8, 288, 1024]⟩
abbrev S32x1024 : Shape := ⟨2, ![32, 1024]⟩
abbrev S1x288x1024 : Shape := ⟨3, ![1, 288, 1024]⟩
abbrev S288x1024 : Shape := ⟨2, ![288, 1024]⟩
abbrev S1x280x1024 : Shape := ⟨3, ![1, 280, 1024]⟩
abbrev S280x1024 : Shape := ⟨2, ![280, 1024]⟩
abbrev S1x512 : Shape := ⟨2, ![1, 512]⟩
abbrev S1x32x512 : Shape := ⟨3, ![1, 32, 512]⟩
abbrev S32x512 : Shape := ⟨2, ![32, 512]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x2048, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S32x2048, .bf16⟩
  | .local _ .vmem, ⟨3, _⟩ => ⟨S32x2048, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S8x288x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_50 : BitVec 32 := 0#32
  let c16_i32 : BitVec 32 := 16#32
  let v64 : BitVec 32 := Scalar.addi c0_i32_50 c16_i32
  let c1_i32 : BitVec 32 := 1#32
  ⟨c0_i32_50, v64, c1_i32⟩
def k0_mult1 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  v112
def k0_mult2 (k0_t1 : Fin k0_t1_loop.trips) : BitVec 32 :=
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  v124
def k0_off1 (k0_t1 : Fin k0_t1_loop.trips) : Fin 2 → Nat :=
  let c0_77 : Index := 0#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v126 : Index := Scalar.indexCast v113
  ![0, v126.toNat]
def k0_off2 (k0_t1 : Fin k0_t1_loop.trips) : Fin 2 → Nat :=
  let c0_78 : Index := 0#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v129 : Index := Scalar.indexCast v113
  ![0, v129.toNat]
def k0_mult3 (k0_t1 : Fin k0_t1_loop.trips) : BitVec 32 :=
  let c0_i32_79 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v131 : BitVec 32 := Scalar.addi c0_i32_79 v125
  v131
def k0_off3 (k0_t1 : Fin k0_t1_loop.trips) (c0_i32_79 : BitVec 32) : Fin 3 → Nat :=
  let c2_80 : Index := 2#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v131 : BitVec 32 := Scalar.addi c0_i32_79 v125
  let v132 : BitVec 32 := v131
  let v133 : Index := Scalar.indexCast v132
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v134 : Index := Scalar.indexCast v113
  ![2, v133.toNat, v134.toNat]
def k0_off4 (k0_t1 : Fin k0_t1_loop.trips) : Fin 2 → Nat :=
  let c1_81 : Index := 1#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v139 : Index := Scalar.indexCast v113
  ![1, v139.toNat]
def k0_mult4 (k0_t1 : Fin k0_t1_loop.trips) : BitVec 32 :=
  let c0_i32_82 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v141 : BitVec 32 := Scalar.addi c0_i32_82 v125
  v141
def k0_off5 (k0_t1 : Fin k0_t1_loop.trips) (c0_i32_82 : BitVec 32) : Fin 3 → Nat :=
  let c3_83 : Index := 3#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v141 : BitVec 32 := Scalar.addi c0_i32_82 v125
  let v142 : BitVec 32 := v141
  let v143 : Index := Scalar.indexCast v142
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v144 : Index := Scalar.indexCast v113
  ![3, v143.toNat, v144.toNat]
def k0_off6 (k0_t1 : Fin k0_t1_loop.trips) : Fin 2 → Nat :=
  let c2_84 : Index := 2#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v150 : Index := Scalar.indexCast v113
  ![2, v150.toNat]
def k0_mult5 (k0_t1 : Fin k0_t1_loop.trips) : BitVec 32 :=
  let c0_i32_85 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v152 : BitVec 32 := Scalar.addi c0_i32_85 v125
  v152
def k0_off7 (k0_t1 : Fin k0_t1_loop.trips) (c0_i32_85 : BitVec 32) : Fin 3 → Nat :=
  let c4_86 : Index := 4#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v152 : BitVec 32 := Scalar.addi c0_i32_85 v125
  let v153 : BitVec 32 := v152
  let v154 : Index := Scalar.indexCast v153
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v155 : Index := Scalar.indexCast v113
  ![4, v154.toNat, v155.toNat]
def k0_off8 (k0_t1 : Fin k0_t1_loop.trips) : Fin 2 → Nat :=
  let c3_87 : Index := 3#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v161 : Index := Scalar.indexCast v113
  ![3, v161.toNat]
def k0_mult6 (k0_t1 : Fin k0_t1_loop.trips) : BitVec 32 :=
  let c0_i32_88 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v163 : BitVec 32 := Scalar.addi c0_i32_88 v125
  v163
def k0_off9 (k0_t1 : Fin k0_t1_loop.trips) (c0_i32_88 : BitVec 32) : Fin 3 → Nat :=
  let c5_89 : Index := 5#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v163 : BitVec 32 := Scalar.addi c0_i32_88 v125
  let v164 : BitVec 32 := v163
  let v165 : Index := Scalar.indexCast v164
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v166 : Index := Scalar.indexCast v113
  ![5, v165.toNat, v166.toNat]
def k0_off10 (k0_t1 : Fin k0_t1_loop.trips) : Fin 2 → Nat :=
  let c4_90 : Index := 4#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v172 : Index := Scalar.indexCast v113
  ![4, v172.toNat]
def k0_mult7 (k0_t1 : Fin k0_t1_loop.trips) : BitVec 32 :=
  let c0_i32_91 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v174 : BitVec 32 := Scalar.addi c0_i32_91 v125
  v174
def k0_off11 (k0_t1 : Fin k0_t1_loop.trips) (c0_i32_91 : BitVec 32) : Fin 3 → Nat :=
  let c6_92 : Index := 6#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v174 : BitVec 32 := Scalar.addi c0_i32_91 v125
  let v175 : BitVec 32 := v174
  let v176 : Index := Scalar.indexCast v175
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v177 : Index := Scalar.indexCast v113
  ![6, v176.toNat, v177.toNat]
def k0_off12 (k0_t1 : Fin k0_t1_loop.trips) : Fin 2 → Nat :=
  let c5_93 : Index := 5#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v183 : Index := Scalar.indexCast v113
  ![5, v183.toNat]
def k0_mult8 (k0_t1 : Fin k0_t1_loop.trips) : BitVec 32 :=
  let c0_i32_94 : BitVec 32 := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v185 : BitVec 32 := Scalar.addi c0_i32_94 v125
  v185
def k0_off13 (k0_t1 : Fin k0_t1_loop.trips) (c0_i32_94 : BitVec 32) : Fin 3 → Nat :=
  let c7_95 : Index := 7#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v185 : BitVec 32 := Scalar.addi c0_i32_94 v125
  let v186 : BitVec 32 := v185
  let v187 : Index := Scalar.indexCast v186
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v188 : Index := Scalar.indexCast v113
  ![7, v187.toNat, v188.toNat]
def k0_off14 (k0_t1 : Fin k0_t1_loop.trips) : Fin 2 → Nat :=
  let c6_96 : Index := 6#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v194 : Index := Scalar.indexCast v113
  ![6, v194.toNat]
def k0_mult9 (k0_t1 : Fin k0_t1_loop.trips) : BitVec 32 :=
  let c8_i32_97 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v196 : BitVec 32 := Scalar.addi c8_i32_97 v125
  v196
def k0_off15 (k0_t1 : Fin k0_t1_loop.trips) (c8_i32_97 : BitVec 32) : Fin 3 → Nat :=
  let c0_98 : Index := 0#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v196 : BitVec 32 := Scalar.addi c8_i32_97 v125
  let v197 : BitVec 32 := v196
  let v198 : Index := Scalar.indexCast v197
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v199 : Index := Scalar.indexCast v113
  ![0, v198.toNat, v199.toNat]
def k0_off16 (k0_t1 : Fin k0_t1_loop.trips) : Fin 2 → Nat :=
  let c7_99 : Index := 7#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v205 : Index := Scalar.indexCast v113
  ![7, v205.toNat]
def k0_mult10 (k0_t1 : Fin k0_t1_loop.trips) : BitVec 32 :=
  let c8_i32_100 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v207 : BitVec 32 := Scalar.addi c8_i32_100 v125
  v207
def k0_off17 (k0_t1 : Fin k0_t1_loop.trips) (c8_i32_100 : BitVec 32) : Fin 3 → Nat :=
  let c1_101 : Index := 1#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v207 : BitVec 32 := Scalar.addi c8_i32_100 v125
  let v208 : BitVec 32 := v207
  let v209 : Index := Scalar.indexCast v208
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v210 : Index := Scalar.indexCast v113
  ![1, v209.toNat, v210.toNat]
def k0_off18 (k0_t1 : Fin k0_t1_loop.trips) : Fin 2 → Nat :=
  let c8 : Index := 8#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v216 : Index := Scalar.indexCast v113
  ![8, v216.toNat]
def k0_mult11 (k0_t1 : Fin k0_t1_loop.trips) : BitVec 32 :=
  let c8_i32_102 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v218 : BitVec 32 := Scalar.addi c8_i32_102 v125
  v218
def k0_off19 (k0_t1 : Fin k0_t1_loop.trips) : Fin 2 → Nat :=
  let c9 : Index := 9#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v227 : Index := Scalar.indexCast v113
  ![9, v227.toNat]
def k0_mult12 (k0_t1 : Fin k0_t1_loop.trips) : BitVec 32 :=
  let c8_i32_104 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v229 : BitVec 32 := Scalar.addi c8_i32_104 v125
  v229
def k0_off20 (k0_t1 : Fin k0_t1_loop.trips) : Fin 2 → Nat :=
  let c10 : Index := 10#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v238 : Index := Scalar.indexCast v113
  ![10, v238.toNat]
def k0_mult13 (k0_t1 : Fin k0_t1_loop.trips) : BitVec 32 :=
  let c8_i32_106 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v240 : BitVec 32 := Scalar.addi c8_i32_106 v125
  v240
def k0_off21 (k0_t1 : Fin k0_t1_loop.trips) : Fin 2 → Nat :=
  let c11 : Index := 11#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v249 : Index := Scalar.indexCast v113
  ![11, v249.toNat]
def k0_mult14 (k0_t1 : Fin k0_t1_loop.trips) : BitVec 32 :=
  let c8_i32_108 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v251 : BitVec 32 := Scalar.addi c8_i32_108 v125
  v251
def k0_off22 (k0_t1 : Fin k0_t1_loop.trips) : Fin 2 → Nat :=
  let c12 : Index := 12#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v260 : Index := Scalar.indexCast v113
  ![12, v260.toNat]
def k0_mult15 (k0_t1 : Fin k0_t1_loop.trips) : BitVec 32 :=
  let c8_i32_110 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v262 : BitVec 32 := Scalar.addi c8_i32_110 v125
  v262
def k0_off23 (k0_t1 : Fin k0_t1_loop.trips) : Fin 2 → Nat :=
  let c13 : Index := 13#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v271 : Index := Scalar.indexCast v113
  ![13, v271.toNat]
def k0_mult16 (k0_t1 : Fin k0_t1_loop.trips) : BitVec 32 :=
  let c8_i32_112 : BitVec 32 := 8#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v273 : BitVec 32 := Scalar.addi c8_i32_112 v125
  v273
def k0_off24 (k0_t1 : Fin k0_t1_loop.trips) : Fin 2 → Nat :=
  let c14 : Index := 14#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v282 : Index := Scalar.indexCast v113
  ![14, v282.toNat]
def k0_mult17 (k0_t1 : Fin k0_t1_loop.trips) : BitVec 32 :=
  let c16_i32_114 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v284 : BitVec 32 := Scalar.addi c16_i32_114 v125
  v284
def k0_off25 (k0_t1 : Fin k0_t1_loop.trips) : Fin 2 → Nat :=
  let c15 : Index := 15#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v293 : Index := Scalar.indexCast v113
  ![15, v293.toNat]
def k0_mult18 (k0_t1 : Fin k0_t1_loop.trips) : BitVec 32 :=
  let c16_i32_116 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v295 : BitVec 32 := Scalar.addi c16_i32_116 v125
  v295
def k0_off26 (k0_t1 : Fin k0_t1_loop.trips) : Fin 2 → Nat :=
  let c16 : Index := 16#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v304 : Index := Scalar.indexCast v113
  ![16, v304.toNat]
def k0_mult19 (k0_t1 : Fin k0_t1_loop.trips) : BitVec 32 :=
  let c16_i32_118 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v306 : BitVec 32 := Scalar.addi c16_i32_118 v125
  v306
def k0_off27 (k0_t1 : Fin k0_t1_loop.trips) : Fin 2 → Nat :=
  let c17 : Index := 17#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v315 : Index := Scalar.indexCast v113
  ![17, v315.toNat]
def k0_mult20 (k0_t1 : Fin k0_t1_loop.trips) : BitVec 32 :=
  let c16_i32_120 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v317 : BitVec 32 := Scalar.addi c16_i32_120 v125
  v317
def k0_off28 (k0_t1 : Fin k0_t1_loop.trips) : Fin 2 → Nat :=
  let c18 : Index := 18#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v326 : Index := Scalar.indexCast v113
  ![18, v326.toNat]
def k0_mult21 (k0_t1 : Fin k0_t1_loop.trips) : BitVec 32 :=
  let c16_i32_122 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v328 : BitVec 32 := Scalar.addi c16_i32_122 v125
  v328
def k0_off29 (k0_t1 : Fin k0_t1_loop.trips) : Fin 2 → Nat :=
  let c19 : Index := 19#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v337 : Index := Scalar.indexCast v113
  ![19, v337.toNat]
def k0_mult22 (k0_t1 : Fin k0_t1_loop.trips) : BitVec 32 :=
  let c16_i32_124 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v339 : BitVec 32 := Scalar.addi c16_i32_124 v125
  v339
def k0_off30 (k0_t1 : Fin k0_t1_loop.trips) : Fin 2 → Nat :=
  let c20 : Index := 20#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v348 : Index := Scalar.indexCast v113
  ![20, v348.toNat]
def k0_mult23 (k0_t1 : Fin k0_t1_loop.trips) : BitVec 32 :=
  let c16_i32_126 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v350 : BitVec 32 := Scalar.addi c16_i32_126 v125
  v350
def k0_off31 (k0_t1 : Fin k0_t1_loop.trips) : Fin 2 → Nat :=
  let c21 : Index := 21#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v359 : Index := Scalar.indexCast v113
  ![21, v359.toNat]
def k0_mult24 (k0_t1 : Fin k0_t1_loop.trips) : BitVec 32 :=
  let c16_i32_128 : BitVec 32 := 16#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v361 : BitVec 32 := Scalar.addi c16_i32_128 v125
  v361
def k0_off32 (k0_t1 : Fin k0_t1_loop.trips) : Fin 2 → Nat :=
  let c22 : Index := 22#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v370 : Index := Scalar.indexCast v113
  ![22, v370.toNat]
def k0_mult25 (k0_t1 : Fin k0_t1_loop.trips) : BitVec 32 :=
  let c24_i32 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v372 : BitVec 32 := Scalar.addi c24_i32 v125
  v372
def k0_off33 (k0_t1 : Fin k0_t1_loop.trips) : Fin 2 → Nat :=
  let c23 : Index := 23#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v381 : Index := Scalar.indexCast v113
  ![23, v381.toNat]
def k0_mult26 (k0_t1 : Fin k0_t1_loop.trips) : BitVec 32 :=
  let c24_i32_131 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v383 : BitVec 32 := Scalar.addi c24_i32_131 v125
  v383
def k0_off34 (k0_t1 : Fin k0_t1_loop.trips) : Fin 2 → Nat :=
  let c24 : Index := 24#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v392 : Index := Scalar.indexCast v113
  ![24, v392.toNat]
def k0_mult27 (k0_t1 : Fin k0_t1_loop.trips) : BitVec 32 :=
  let c24_i32_133 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v394 : BitVec 32 := Scalar.addi c24_i32_133 v125
  v394
def k0_off35 (k0_t1 : Fin k0_t1_loop.trips) : Fin 2 → Nat :=
  let c25 : Index := 25#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v403 : Index := Scalar.indexCast v113
  ![25, v403.toNat]
def k0_mult28 (k0_t1 : Fin k0_t1_loop.trips) : BitVec 32 :=
  let c24_i32_135 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v405 : BitVec 32 := Scalar.addi c24_i32_135 v125
  v405
def k0_off36 (k0_t1 : Fin k0_t1_loop.trips) : Fin 2 → Nat :=
  let c26 : Index := 26#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v414 : Index := Scalar.indexCast v113
  ![26, v414.toNat]
def k0_mult29 (k0_t1 : Fin k0_t1_loop.trips) : BitVec 32 :=
  let c24_i32_137 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v416 : BitVec 32 := Scalar.addi c24_i32_137 v125
  v416
def k0_off37 (k0_t1 : Fin k0_t1_loop.trips) : Fin 2 → Nat :=
  let c27 : Index := 27#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v425 : Index := Scalar.indexCast v113
  ![27, v425.toNat]
def k0_mult30 (k0_t1 : Fin k0_t1_loop.trips) : BitVec 32 :=
  let c24_i32_139 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v427 : BitVec 32 := Scalar.addi c24_i32_139 v125
  v427
def k0_off38 (k0_t1 : Fin k0_t1_loop.trips) : Fin 2 → Nat :=
  let c28 : Index := 28#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v436 : Index := Scalar.indexCast v113
  ![28, v436.toNat]
def k0_mult31 (k0_t1 : Fin k0_t1_loop.trips) : BitVec 32 :=
  let c24_i32_141 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v438 : BitVec 32 := Scalar.addi c24_i32_141 v125
  v438
def k0_off39 (k0_t1 : Fin k0_t1_loop.trips) : Fin 2 → Nat :=
  let c29 : Index := 29#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v447 : Index := Scalar.indexCast v113
  ![29, v447.toNat]
def k0_mult32 (k0_t1 : Fin k0_t1_loop.trips) : BitVec 32 :=
  let c24_i32_143 : BitVec 32 := 24#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v449 : BitVec 32 := Scalar.addi c24_i32_143 v125
  v449
def k0_off40 (k0_t1 : Fin k0_t1_loop.trips) : Fin 2 → Nat :=
  let c30 : Index := 30#32
  let c0_i32_50 : BitVec 32 := 0#32
  let c1_i32 : BitVec 32 := 1#32
  let arg10 : BitVec 32 := Scf.iv c0_i32_50 c1_i32 k0_t1
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v458 : Index := Scalar.indexCast v113
  ![30, v458.toNat]
def k0_mult33 (k0_t1 : Fin k0_t1_loop.trips) : BitVec 32 :=
  let c32_i32_145 : BitVec 32 := 32#32
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v460 : BitVec 32 := Scalar.addi c32_i32_145 v125
  v460
def k0_off41 (k0_t1 : Fin k0_t1_loop.trips) : Fin 2 → Nat :=
  let c0_i32_50 : BitVec 32 := 0#32
  let c1_i32 : BitVec 32 := 1#32
  let arg10 : BitVec 32 := Scf.iv c0_i32_50 c1_i32 k0_t1
  let c8_i32_71 : BitVec 32 := 8#32
  let c0_i32_72 : BitVec 32 := 0#32
  let v114 : BitVec 1 := Scalar.cmpi .eq c8_i32_71 c0_i32_72
  let c1_i32_73 : BitVec 32 := 1#32
  let v115 : BitVec 32 := Scalar.select v114 c1_i32_73 c8_i32_71
  let v116 : BitVec 32 := Scalar.remsi arg10 v115
  let c0_i32_75 : BitVec 32 := 0#32
  let v118 : BitVec 1 := Scalar.cmpi .slt v116 c0_i32_75
  let c0_i32_76 : BitVec 32 := 0#32
  let v119 : BitVec 1 := Scalar.cmpi .slt v115 c0_i32_76
  let v120 : BitVec 1 := Scalar.xori v118 v119
  let c0_i32_74 : BitVec 32 := 0#32
  let v117 : BitVec 1 := Scalar.cmpi .ne v116 c0_i32_74
  let v121 : BitVec 1 := Scalar.andi v120 v117
  let v122 : BitVec 32 := Scalar.addi v116 v115
  let v123 : BitVec 32 := Scalar.select v121 v122 v116
  let c32_i32 : BitVec 32 := 32#32
  let v124 : BitVec 32 := Scalar.muli v123 c32_i32
  let v125 : BitVec 32 := v124
  let v471 : Index := Scalar.indexCast v125
  let c0_i32_65 : BitVec 32 := 0#32
  let v96 : BitVec 1 := Scalar.cmpi .sgt arg10 c0_i32_65
  let v97 : BitVec 32 := Scalar.extui v96
  let c0_i32_66 : BitVec 32 := 0#32
  let v98 : BitVec 1 := Scalar.cmpi .slt arg10 c0_i32_66
  let v99 : BitVec 32 := Scalar.extui v98
  let v100 : BitVec 32 := Scalar.subi v97 v99
  let c8_i32 : BitVec 32 := 8#32
  let c0_i32_67 : BitVec 32 := 0#32
  let v101 : BitVec 1 := Scalar.cmpi .sgt c8_i32 c0_i32_67
  let v102 : BitVec 32 := Scalar.extui v101
  let c0_i32_68 : BitVec 32 := 0#32
  let v103 : BitVec 1 := Scalar.cmpi .slt c8_i32 c0_i32_68
  let v104 : BitVec 32 := Scalar.extui v103
  let v105 : BitVec 32 := Scalar.subi v102 v104
  let v106 : BitVec 1 := Scalar.cmpi .ne v100 v105
  let v107 : BitVec 32 := Scalar.remsi arg10 c8_i32
  let c0_i32_69 : BitVec 32 := 0#32
  let v108 : BitVec 1 := Scalar.cmpi .ne v107 c0_i32_69
  let v109 : BitVec 1 := Scalar.andi v106 v108
  let v95 : BitVec 32 := Scalar.divsi arg10 c8_i32
  let c1_i32_70 : BitVec 32 := 1#32
  let v110 : BitVec 32 := Scalar.subi v95 c1_i32_70
  let v111 : BitVec 32 := Scalar.select v109 v110 v95
  let c512_i32 : BitVec 32 := 512#32
  let v112 : BitVec 32 := Scalar.muli v111 c512_i32
  let v113 : BitVec 32 := v112
  let v472 : Index := Scalar.indexCast v113
  ![v471.toNat, v472.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CmidfRefIdeal.lean ====
abbrev S4096x2048 : Shape := ⟨2, ![4096, 2048]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 277
  | .vmem => 0
  | .smem => 0
  | _ => 0

abbrev hbmTy0_0 (i : Nat) : BufTy := match i % 128 with
  | 0 => ⟨S4096x2048, .f32⟩
  | 1 => ⟨S31x1024, .f32⟩
  | 2 => ⟨S1024, .f32⟩
  | 3 => ⟨S1024, .f32⟩
  | 4 => ⟨S1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S30x1024, .f32⟩
  | 18 => ⟨S4126x1024, .f32⟩
  | 19 => ⟨S1x1024, .f32⟩
  | 20 => ⟨S1024, .f32⟩
  | 21 => ⟨S4096x1024, .f32⟩
  | 22 => ⟨S1x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S4096x1024, .f32⟩
  | 80 => ⟨S1x1024, .f32⟩
  | 81 => ⟨S4096x1024, .f32⟩
  | 82 => ⟨S4096x1024, .f32⟩
  | 83 => ⟨S4096x1024, .f32⟩
  | 84 => ⟨S1x1024, .f32⟩
  | 85 => ⟨S1024, .f32⟩
  | 86 => ⟨S4096x1024, .f32⟩
  | 87 => ⟨S1x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S4096x1024, .f32⟩
  | 94 => ⟨S1x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S1x1024, .f32⟩
  | 106 => ⟨S1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S1x1024, .f32⟩
  | 113 => ⟨S1024, .f32⟩
  | 114 => ⟨S4096x1024, .f32⟩
  | 115 => ⟨S1x1024, .f32⟩
  | 116 => ⟨S4096x1024, .f32⟩
  | 117 => ⟨S4096x1024, .f32⟩
  | 118 => ⟨S4096x1024, .f32⟩
  | 119 => ⟨S1x1024, .f32⟩
  | 120 => ⟨S1024, .f32⟩
  | 121 => ⟨S4096x1024, .f32⟩
  | 122 => ⟨S1x1024, .f32⟩
  | 123 => ⟨S4096x1024, .f32⟩
  | 124 => ⟨S4096x1024, .f32⟩
  | 125 => ⟨S4096x1024, .f32⟩
  | 126 => ⟨S1x1024, .f32⟩
  | 127 => ⟨S1024, .f32⟩
  | _ => ⟨S4096x2048, .f32⟩

abbrev hbmTy0_1 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S4096x1024, .f32⟩
  | 5 => ⟨S1x1024, .f32⟩
  | 6 => ⟨S1024, .f32⟩
  | 7 => ⟨S4096x1024, .f32⟩
  | 8 => ⟨S1x1024, .f32⟩
  | 9 => ⟨S4096x1024, .f32⟩
  | 10 => ⟨S4096x1024, .f32⟩
  | 11 => ⟨S4096x1024, .f32⟩
  | 12 => ⟨S1x1024, .f32⟩
  | 13 => ⟨S1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S1x1024, .f32⟩
  | 20 => ⟨S1024, .f32⟩
  | 21 => ⟨S4096x1024, .f32⟩
  | 22 => ⟨S1x1024, .f32⟩
  | 23 => ⟨S4096x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S4096x1024, .f32⟩
  | 112 => ⟨S4096x1024, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x1024, .f32⟩
  | 120 => ⟨S4096x1024, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x2048, .f32⟩

abbrev hbmTy0_2 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x1024, .f32⟩
  | 5 => ⟨S4096x1024, .f32⟩
  | 6 => ⟨S1x1024, .f32⟩
  | 7 => ⟨S4096x1024, .f32⟩
  | 8 => ⟨S4096x1024, .f32⟩
  | 9 => ⟨S1x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_cst_7 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v254 : Ref sig .tc := ⟨.hbm, 276, rfl⟩

abbrev nD : Nat := 1
abbrev τ : Topo := Topo.v7x

variable {F : FTy → Type} [FloatOps F]
-- ==== Col.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1024x4x768, .bf16⟩
  | .hbm, ⟨6, _⟩ => ⟨S4x1024x768, .bf16⟩
  | .hbm, ⟨7, _⟩ => ⟨S4096x1024, .bf16⟩
  | .hbm, ⟨8, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ColRefIdeal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x3072, .f32⟩
  | .hbm, ⟨21, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Poolf.lean ====
abbrev S4096x1024 : Shape := ⟨2, ![4096, 1024]⟩
abbrev S1024 : Shape := ⟨1, ![1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1x1024, .f32⟩
  | .hbm, ⟨5, _⟩ => ⟨S4x256x256, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S528x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolfRefIdeal.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4x256x4096 : Shape := ⟨3, ![4, 256, 4096]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4x256, .f32⟩
  | .hbm, ⟨21, _⟩ => ⟨S_, .f32⟩
  | .hbm, ⟨22, _⟩ => ⟨S_, .f32⟩
  | .hbm, ⟨23, _⟩ => ⟨S4096x4x256, .f32⟩
  | .hbm, ⟨24, _⟩ => ⟨S4096, .i32⟩
  | .hbm, ⟨25, _⟩ => ⟨S4096x1x256, .f32⟩
  | .hbm, ⟨26, _⟩ => ⟨S4096x256, .f32⟩
  | .hbm, ⟨27, _⟩ => ⟨S_, .f32⟩
  | .hbm, ⟨28, _⟩ => ⟨S2x256, .f32⟩
  | .hbm, ⟨29, _⟩ => ⟨S4098x256, .f32⟩
  | .hbm, ⟨30, _⟩ => ⟨S4096x256, .f32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x1x256, .f32⟩
  | .hbm, ⟨43, _⟩ => ⟨S4096x256, .f32⟩
  | .hbm, ⟨44, _⟩ => ⟨S_, .f32⟩
  | .hbm, ⟨45, _⟩ => ⟨S4x256, .f32⟩
  | .hbm, ⟨46, _⟩ => ⟨S4100x256, .f32⟩
  | .hbm, ⟨47, _⟩ => ⟨S4096x256, .f32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x1x256, .f32⟩
  | .hbm, ⟨60, _⟩ => ⟨S4096x256, .f32⟩
  | .hbm, ⟨61, _⟩ => ⟨S_, .f32⟩
  | .hbm, ⟨62, _⟩ => ⟨S8x256, .f32⟩
  | .hbm, ⟨63, _⟩ => ⟨S4104x256, .f32⟩
  | .hbm, ⟨64, _⟩ => ⟨S4096x256, .f32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .f32⟩
  | .hbm, ⟨72, _⟩ => ⟨S4096x1, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x1x256, .f32⟩
  | .hbm, ⟨77, _⟩ => ⟨S4096x256, .f32⟩
  | .hbm, ⟨78, _⟩ => ⟨S_, .f32⟩
  | .hbm, ⟨79, _⟩ => ⟨S16x256, .f32⟩
  | .hbm, ⟨80, _⟩ => ⟨S4112x256, .f32⟩
  | .hbm, ⟨81, _⟩ => ⟨S4096x256, .f32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .f32⟩
  | .hbm, ⟨89, _⟩ => ⟨S4096x1, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x1x256, .f32⟩
  | .hbm, ⟨94, _⟩ => ⟨S4096x1x256, .f32⟩
  | .hbm, ⟨95, _⟩ => ⟨S4096x1x256, .f32⟩
  | .hbm, ⟨96, _⟩ => ⟨S4096x1x256, .f32⟩
  | .hbm, ⟨97, _⟩ => ⟨S4096x4x256, .f32⟩
  | .hbm, ⟨98, _⟩ => ⟨S4096x4x256, .f32⟩
  | .hbm, ⟨99, _⟩ => ⟨S4096x1024, .f32⟩
  | .hbm, ⟨100, _⟩ => ⟨S4096x4x256, .f32⟩
  | .hbm, ⟨101, _⟩ => ⟨S4x256x4096, .f32⟩
  | .hbm, ⟨102, _⟩ => ⟨S4096x4x256, .f32⟩
  | .hbm, ⟨103, _⟩ => ⟨S4096x1024, .f32⟩
  | .hbm, ⟨104, _⟩ => ⟨S1x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_11 : Ref sig .tc := ⟨.hbm, 82, rfl⟩
abbrev main_v63 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Sconvf.lean ====
abbrev S4096x3072 : Shape := ⟨2, ![4096, 3072]⟩
abbrev S3x1024 : Shape := ⟨2, ![3, 1024]⟩
abbrev S4096x1024 : Shape := ⟨2, ![4096, 1024]⟩
abbrev S256x3072 : Shape := ⟨2, ![256, 3072]⟩
abbrev S16x3072 : Shape := ⟨2, ![16, 3072]⟩
abbrev S256x1024 : Shape := ⟨2, ![256, 1024]⟩
abbrev S8x272x1024 : Shape := ⟨3, ![8, 272, 1024]⟩
abbrev S16x1024 : Shape := ⟨2, ![16, 1024]⟩
abbrev S1x272x1024 : Shape := ⟨3, ![1, 272, 1024]⟩
abbrev S272x1024 : Shape := ⟨2, ![272, 1024]⟩
abbrev S1x264x1024 : Shape := ⟨3, ![1, 264, 1024]⟩
abbrev S264x1024 : Shape := ⟨2, ![264, 1024]⟩
abbrev S1x32x512 : Shape := ⟨3, ![1, 32, 512]⟩
abbrev S32x512 : Shape := ⟨2, ![32, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x3072, .bf16⟩
  | .hbm, ⟨3, _⟩ => ⟨S4096x1024, .bf16⟩
  | .hbm, ⟨4, _⟩ => ⟨S4096x1024, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | .local _ .vmem, ⟨7, _⟩ => ⟨S8x272x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_24 : BitVec 32 := 0#32
  let c16_i32 : BitVec 32 := 16#32
  let v37 : BitVec 32 := Scalar.addi c0_i32_24 c16_i32
  let c1_i32 : BitVec 32 := 1#32
  ⟨c0_i32_24, v37, c1_i32⟩
def k0_mult1 (k0_t1 : Fin k0_t1_loop.trips) : BitVec 32 :=
  let c0_i32_24 : BitVec 32 := 0#32
  let c1_i32 : BitVec 32 := 1#32
  let arg6 : BitVec 32 := Scf.iv c0_i32_24 c1_i32 k0_t1
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  v55
def k0_mult2 (k0_t1 : Fin k0_t1_loop.trips) : BitVec 32 :=
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  v67
def k0_mult3 (k0_t1 : Fin k0_t1_loop.trips) : BitVec 32 :=
  let c8_i32_38 : BitVec 32 := 8#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v69 : BitVec 32 := Scalar.addi c8_i32_38 v68
  v69
def k0_off1 (k0_t1 : Fin k0_t1_loop.trips) : Fin 3 → Nat :=
  let c6_39 : Index := 6#32
  let c8_i32_38 : BitVec 32 := 8#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v69 : BitVec 32 := Scalar.addi c8_i32_38 v68
  let v70 : BitVec 32 := v69
  let v71 : Index := Scalar.indexCast v70
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v72 : Index := Scalar.indexCast v56
  ![6, v71.toNat, v72.toNat]
def k0_mult4 (k0_t1 : Fin k0_t1_loop.trips) : BitVec 32 :=
  let c8_i32_40 : BitVec 32 := 8#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v75 : BitVec 32 := Scalar.addi c8_i32_40 v68
  v75
def k0_off2 (k0_t1 : Fin k0_t1_loop.trips) : Fin 3 → Nat :=
  let c7_41 : Index := 7#32
  let c8_i32_40 : BitVec 32 := 8#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v75 : BitVec 32 := Scalar.addi c8_i32_40 v68
  let v76 : BitVec 32 := v75
  let v77 : Index := Scalar.indexCast v76
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v78 : Index := Scalar.indexCast v56
  ![7, v77.toNat, v78.toNat]
def k0_mult5 (k0_t1 : Fin k0_t1_loop.trips) : BitVec 32 :=
  let c16_i32_42 : BitVec 32 := 16#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v81 : BitVec 32 := Scalar.addi c16_i32_42 v68
  v81
def k0_off3 (k0_t1 : Fin k0_t1_loop.trips) : Fin 3 → Nat :=
  let c0_43 : Index := 0#32
  let c16_i32_42 : BitVec 32 := 16#32
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v81 : BitVec 32 := Scalar.addi c16_i32_42 v68
  let v82 : BitVec 32 := v81
  let v83 : Index := Scalar.indexCast v82
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v84 : Index := Scalar.indexCast v56
  ![0, v83.toNat, v84.toNat]
def k0_off4 (k0_t1 : Fin k0_t1_loop.trips) : Fin 2 → Nat :=
  let c0_44 : Index := 0#32
  let c0_i32_24 : BitVec 32 := 0#32
  let c1_i32 : BitVec 32 := 1#32
  let arg6 : BitVec 32 := Scf.iv c0_i32_24 c1_i32 k0_t1
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v87 : Index := Scalar.indexCast v56
  ![0, v87.toNat]
def k0_off5 (k0_t1 : Fin k0_t1_loop.trips) : Fin 2 → Nat :=
  let c1 : Index := 1#32
  let c0_i32_24 : BitVec 32 := 0#32
  let c1_i32 : BitVec 32 := 1#32
  let arg6 : BitVec 32 := Scf.iv c0_i32_24 c1_i32 k0_t1
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v91 : Index := Scalar.indexCast v56
  ![1, v91.toNat]
def k0_off6 (k0_t1 : Fin k0_t1_loop.trips) : Fin 2 → Nat :=
  let c2 : Index := 2#32
  let c0_i32_24 : BitVec 32 := 0#32
  let c1_i32 : BitVec 32 := 1#32
  let arg6 : BitVec 32 := Scf.iv c0_i32_24 c1_i32 k0_t1
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v95 : Index := Scalar.indexCast v56
  ![2, v95.toNat]
def k0_off7 (k0_t1 : Fin k0_t1_loop.trips) : Fin 2 → Nat :=
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v101 : Index := Scalar.indexCast v68
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v102 : Index := Scalar.indexCast v56
  ![v101.toNat, v102.toNat]
def k0_off8 (k0_t1 : Fin k0_t1_loop.trips) : Fin 2 → Nat :=
  let c0_i32_24 : BitVec 32 := 0#32
  let c1_i32 : BitVec 32 := 1#32
  let arg6 : BitVec 32 := Scf.iv c0_i32_24 c1_i32 k0_t1
  let c8_i32_32 : BitVec 32 := 8#32
  let c0_i32_33 : BitVec 32 := 0#32
  let v57 : BitVec 1 := Scalar.cmpi .eq c8_i32_32 c0_i32_33
  let c1_i32_34 : BitVec 32 := 1#32
  let v58 : BitVec 32 := Scalar.select v57 c1_i32_34 c8_i32_32
  let v59 : BitVec 32 := Scalar.remsi arg6 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c32_i32 : BitVec 32 := 32#32
  let v67 : BitVec 32 := Scalar.muli v66 c32_i32
  let v68 : BitVec 32 := v67
  let v108 : Index := Scalar.indexCast v68
  let c0_i32_26 : BitVec 32 := 0#32
  let v39 : BitVec 1 := Scalar.cmpi .sgt arg6 c0_i32_26
  let v40 : BitVec 32 := Scalar.extui v39
  let c0_i32_27 : BitVec 32 := 0#32
  let v41 : BitVec 1 := Scalar.cmpi .slt arg6 c0_i32_27
  let v42 : BitVec 32 := Scalar.extui v41
  let v43 : BitVec 32 := Scalar.subi v40 v42
  let c8_i32 : BitVec 32 := 8#32
  let c0_i32_28 : BitVec 32 := 0#32
  let v44 : BitVec 1 := Scalar.cmpi .sgt c8_i32 c0_i32_28
  let v45 : BitVec 32 := Scalar.extui v44
  let c0_i32_29 : BitVec 32 := 0#32
  let v46 : BitVec 1 := Scalar.cmpi .slt c8_i32 c0_i32_29
  let v47 : BitVec 32 := Scalar.extui v46
  let v48 : BitVec 32 := Scalar.subi v45 v47
  let v49 : BitVec 1 := Scalar.cmpi .ne v43 v48
  let v50 : BitVec 32 := Scalar.remsi arg6 c8_i32
  let c0_i32_30 : BitVec 32 := 0#32
  let v51 : BitVec 1 := Scalar.cmpi .ne v50 c0_i32_30
  let v52 : BitVec 1 := Scalar.andi v49 v51
  let v38 : BitVec 32 := Scalar.divsi arg6 c8_i32
  let c1_i32_31 : BitVec 32 := 1#32
  let v53 : BitVec 32 := Scalar.subi v38 c1_i32_31
  let v54 : BitVec 32 := Scalar.select v52 v53 v38
  let c512_i32 : BitVec 32 := 512#32
  let v55 : BitVec 32 := Scalar.muli v54 c512_i32
  let v56 : BitVec 32 := v55
  let v109 : Index := Scalar.indexCast v56
  ![v108.toNat, v109.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SconvfRefIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Normin.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x3072 : Shape := ⟨2, ![512, 3072]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x3072, .bf16⟩
  | .hbm, ⟨6, _⟩ => ⟨S1024x3072, .bf16⟩
  | .hbm, ⟨7, _⟩ => ⟨S1024x4x768, .bf16⟩
  | .hbm, ⟨8, _⟩ => ⟨S4x1024x768, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_30 : BitVec 32 := 0#32
  let v56 : BitVec 1 := Scalar.cmpi .ne v55 c0_i32_30
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NorminRefIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Normpw.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S1x1024 : Shape := ⟨2, ![1, 1024]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S4096x2048, .bf16⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_30 : BitVec 32 := 0#32
  let v56 : BitVec 1 := Scalar.cmpi .ne v55 c0_i32_30
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormpwRefIdeal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Colb.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1024x4x512 : Shape := ⟨3, ![1024, 4, 512]⟩
abbrev S4x1024x512 : Shape := ⟨3, ![4, 1024, 512]⟩
abbrev S1x2048 : Shape := ⟨2, ![1, 2048]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S1x2048, .f32⟩
  | .hbm, ⟨9, _⟩ => ⟨S4096x1024, .bf16⟩
  | .hbm, ⟨10, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ColbRefIdeal.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Reals.lean ====
/- The real numbers behind the extended reals: how each operation of the programs acts on finite values,
   the values of the literals, and the gradients of the two norms over the reals. -/
module

public import Idealize.ShloMosaic.Lib.Pipeline.ValueKit
public import Idealize.ShloMosaic.Lib.Pointwise

@[expose] public section

set_option maxRecDepth 16384

noncomputable section

namespace Cert.Reals

open Idealize.ShloMosaic

/-! ## Operations at finite values -/

theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem div_coe' (x : ℝ) {y : ℝ} (h : y ≠ 0) : Ideal.div (x : EReal) (y : EReal) = ((x / y : ℝ) : EReal) := by
  rw [Ideal.div_coe h, ← EReal.coe_mul, mul_one_div]

theorem rsqrt_coe' {y : ℝ} (h : 0 < y) : Ideal.rsqrt (y : EReal) = (((Real.sqrt y)⁻¹ : ℝ) : EReal) := by
  rw [Ideal.rsqrt_coe, if_neg (not_lt.2 h.le), if_neg h.ne']

/-- A number below infinity in absolute value is real. -/
theorem exists_real {a : EReal} (h : max a (-a) < ⊤) : ∃ r : ℝ, a = (r : EReal) := by
  induction a with
  | bot => simp at h
  | top => simp at h
  | coe r => exact ⟨r, rfl⟩

/-- The programs' own test of that. -/
theorem real_of_lt {a : EReal} (h : BitVec.ofBool (decide (FloatOps.absf (F := Ideal) (φ := .f32) a < Ideal.ofBits .f32 0x7F800000#32)) = 1#1) :
    ∃ r : ℝ, a = (r : EReal) := by
  have e : Ideal.ofBits .f32 0x7F800000#32 = ⊤ := by simp [Ideal.ofBits, Ideal.ieee]
  rw [e] at h
  by_cases h' : max a (-a) < ⊤
  · exact exists_real h'
  · rw [show FloatOps.absf (F := Ideal) (φ := .f32) a = max a (-a) from rfl, decide_eq_false h'] at h
    exact absurd h (by decide)

/-- A matrix of real numbers as an array. -/
def real2 {p q : ℕ} (f : Fin p → Fin q → ℝ) : (⟨2, ![p, q]⟩ : Shape).Idx → EReal := fun i => (f (i 0) (i 1) : EReal)

theorem real2_ix2 {p q : ℕ} (f : Fin p → Fin q → ℝ) (a : Fin p) (b : Fin q) : real2 f (ix2 a b) = (f a b : EReal) := rfl

/-! ## Literals -/

theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
/-- The float word of `1e-6`. -/
def eps6 : ℝ := 8796093 / 8796093022208
theorem eps6_pos : 0 < eps6 := by unfold eps6; norm_num
theorem lit_eps6 : Ideal.ofBits .f32 0x358637BD#32 = (eps6 : EReal) := by
  simp [Ideal.ofBits, Ideal.ieee, -EReal.coe_mul, eps6]; norm_num

/-- The float word of `1e-5`. -/
def eps5 : ℝ := 2748779 / 274877906944
theorem eps5_pos : 0 < eps5 := by unfold eps5; norm_num
theorem lit_eps5 : Ideal.ofBits .f32 0x3727C5AC#32 = (eps5 : EReal) := by
  simp [Ideal.ofBits, Ideal.ieee, -EReal.coe_mul, eps5]; norm_num
theorem lit_one : Ideal.ofBits .f32 0x3F800000#32 = ((1 : ℝ) : EReal) := by
  simp [Ideal.ofBits, Ideal.ieee, -EReal.coe_mul]; norm_num

/-! ## The logistic function and the gate -/

/-- The logistic function. -/
def sg (x : ℝ) : ℝ := 1 / (1 + Real.exp (-x))
/-- A number times its logistic. -/
def silu (x : ℝ) : ℝ := x * sg x
/-- The derivative of that. -/
def dsilu (x : ℝ) : ℝ := sg x * (1 + x * (1 - sg x))

theorem sg_coe (x : ℝ) : Ideal.div 1 (1 + Ideal.exp (-(x : EReal))) = (sg x : EReal) := by
  rw [← EReal.coe_neg, Ideal.exp_coe, ← EReal.coe_one, ← EReal.coe_add]
  exact div_coe' _ (by have := Real.exp_pos (-x); positivity)

theorem logistic_coe' (x : ℝ) : Ideal.logistic (x : EReal) = (sg x : EReal) := sg_coe x

/-- The columns of the gate, and of what it gates. -/
def lo (l : Fin 2816) : Fin 5632 := ⟨l.val, by omega⟩
def hi (l : Fin 2816) : Fin 5632 := ⟨2816 + l.val, by omega⟩

/-! ## The root mean square of a row -/

/-- The mean square of a row of 1024 numbers, plus the small constant. -/
def ms (x : Fin 1024 → ℝ) : ℝ := (∑ k, x k * x k) / 1024 + eps6

theorem ms_pos (x : Fin 1024 → ℝ) : 0 < ms x := by
  have : 0 ≤ ∑ k, x k * x k := Finset.sum_nonneg fun k _ => mul_self_nonneg _
  have := eps6_pos
  unfold ms; positivity

/-- The reciprocal root mean square of a row. -/
def rs (x : Fin 1024 → ℝ) : ℝ := (Real.sqrt (ms x))⁻¹

theorem div_1024 (a : ℝ) : Ideal.div (a : EReal) ((1024 : ℝ) : EReal) = ((a / 1024 : ℝ) : EReal) :=
  div_coe' _ (by norm_num)

theorem rs_coe (x : Fin 1024 → ℝ) :
    Ideal.rsqrt (((∑ k, x k * x k) / 1024 + eps6 : ℝ) : EReal) = (rs x : EReal) := rsqrt_coe' (ms_pos x)

theorem rs_div_ms (x : Fin 1024 → ℝ) : Ideal.div (rs x : EReal) (((∑ k, x k * x k) / 1024 + eps6 : ℝ) : EReal) = ((rs x / ms x : ℝ) : EReal) :=
  div_coe' _ (ms_pos x).ne'

/-- The square of the reciprocal root is the reciprocal of the mean square. -/
theorem rs_sq (x : Fin 1024 → ℝ) : rs x * rs x * ms x = 1 := by
  have h := ms_pos x
  have hs : Real.sqrt (ms x) * Real.sqrt (ms x) = ms x := Real.mul_self_sqrt h.le
  have h0 : Real.sqrt (ms x) ≠ 0 := (Real.sqrt_pos.2 h).ne'
  unfold rs
  rw [← mul_inv, hs, inv_mul_cancel₀ h.ne']

/-- The gradient at a row of the root mean square norm: `d` the cotangent, `g` the gain, `x` the row. -/
def rmsDx (d g x : Fin 1024 → ℝ) (l : Fin 1024) : ℝ :=
  rs x * (d l * g l - x l * rs x * ((∑ k, d k * g k * (x k * rs x)) / 1024))

/-- The same gradient by the chain rule: through the product, and through the mean square. -/
theorem rmsDx_chain (d g x : Fin 1024 → ℝ) (l : Fin 1024) :
    rmsDx d g x l = d l * g l * rs x
      + 2 * (x l * ((-(1 / 2) * (rs x / ms x) * ∑ k, d k * g k * x k) / 1024)) := by
  have h := rs_sq x
  have hm := (ms_pos x).ne'
  have e : rs x / ms x = rs x * (rs x * rs x) := by
    rw [div_eq_iff hm]; linear_combination (-rs x) * h
  have s : (∑ k, d k * g k * (x k * rs x)) = rs x * ∑ k, d k * g k * x k := by
    rw [Finset.mul_sum]; exact Finset.sum_congr rfl fun k _ => by ring
  rw [rmsDx, s, e]; ring

/-! ## The norm of a row about its mean -/

/-- The mean of a row. -/
def mu (x : Fin 1024 → ℝ) : ℝ := (∑ k, x k) / 1024
/-- The row about its mean. -/
def xc (x : Fin 1024 → ℝ) (l : Fin 1024) : ℝ := x l - mu x

theorem sum_xc (x : Fin 1024 → ℝ) : ∑ k, xc x k = 0 := by
  simp only [xc, mu, Finset.sum_sub_distrib, Finset.sum_const, Finset.card_univ, Fintype.card_fin, nsmul_eq_mul]
  push_cast; ring

/-- The variance of a row, plus the small constant. -/
def va (x : Fin 1024 → ℝ) : ℝ := (∑ k, xc x k * xc x k) / 1024 + eps5

theorem va_pos (x : Fin 1024 → ℝ) : 0 < va x := by
  have : 0 ≤ ∑ k, xc x k * xc x k := Finset.sum_nonneg fun k _ => mul_self_nonneg _
  have := eps5_pos
  unfold va; positivity

/-- The reciprocal deviation of a row. -/
def rd (x : Fin 1024 → ℝ) : ℝ := (Real.sqrt (va x))⁻¹

theorem rd_coe (x : Fin 1024 → ℝ) :
    Ideal.rsqrt (((∑ k, xc x k * xc x k) / 1024 + eps5 : ℝ) : EReal) = (rd x : EReal) := rsqrt_coe' (va_pos x)

theorem rd_sq (x : Fin 1024 → ℝ) : rd x * rd x * va x = 1 := by
  have h := va_pos x
  have hs : Real.sqrt (va x) * Real.sqrt (va x) = va x := Real.mul_self_sqrt h.le
  unfold rd
  rw [← mul_inv, hs, inv_mul_cancel₀ h.ne']

/-- The gradient at a row of the norm about the mean: `e` the cotangent times the gain, `x` the row. -/
def lnDx (e x : Fin 1024 → ℝ) (l : Fin 1024) : ℝ :=
  rd x * (e l - (∑ k, e k) / 1024 - xc x l * rd x * ((∑ k, e k * (xc x k * rd x)) / 1024))

/-- The cotangent of the row about its mean, by the chain rule: through the product, and through the variance. -/
def dxc (e x : Fin 1024 → ℝ) (l : Fin 1024) : ℝ :=
  e l * rd x + 2 * (xc x l * ((-(1 / 2) * (rd x / va x) * ∑ k, e k * xc x k) / 1024))

/-- The same gradient by the chain rule: what the mean takes back. -/
theorem lnDx_chain (e x : Fin 1024 → ℝ) (l : Fin 1024) : lnDx e x l = dxc e x l - (∑ k, dxc e x k) / 1024 := by
  have h := rd_sq x
  have hm := (va_pos x).ne'
  have q : rd x / va x = rd x * (rd x * rd x) := by
    rw [div_eq_iff hm]; linear_combination (-rd x) * h
  have s : (∑ k, e k * (xc x k * rd x)) = rd x * ∑ k, e k * xc x k := by
    rw [Finset.mul_sum]; exact Finset.sum_congr rfl fun k _ => by ring
  have z : ∑ k, dxc e x k = (∑ k, e k) * rd x := by
    simp only [dxc, Finset.sum_add_distrib, ← Finset.mul_sum, ← Finset.sum_mul, sum_xc]; ring
  rw [z, lnDx, s, dxc, q]; ring

/-! ## Rows by blocks -/

/-- Row `r` of block `t`, of eight blocks of 512 rows. -/
def rowOf {N : ℕ} (hN : N = 8) (t : Fin N) (r : Fin 512) : Fin 4096 := ⟨t.val * 512 + r.val, by omega⟩

/-- What starts as the first block's sum and takes on every later block's is the sum over all rows. -/
theorem acc_rowsE {N : ℕ} (hN : N = 8) (f : (n : ℕ) → n < N → EReal) (p : Fin 4096 → EReal)
    (h0 : ∀ t : Fin N, t.val % 8 = 0 → f t.val t.isLt = ∑ r, p (rowOf hN t r))
    (hs : ∀ t : Fin N, ¬t.val % 8 = 0 → f t.val t.isLt
      = f (t.val - 1) (Nat.lt_of_le_of_lt (Nat.sub_le _ _) t.isLt) + ∑ r, p (rowOf hN t r))
    (t : Fin N) (hr : t.val % 8 = 7) : f t.val t.isLt = ∑ a, p a := by
  have key := Pipeline.eq_sum_fin_of_reset_step_apply_of_flush (fun n h (_ : Unit) => f n h) 8 (fun _ => 0)
    (fun t _ => ∑ r, p (rowOf hN t r)) (fun t h _ => (h0 t h).trans (zero_add _).symm)
    (fun t h _ => hs t h) t hr ()
  refine key.trans ?_
  rw [zero_add]
  refine Fin.sum_mul_add_congr fun s k hl => ?_
  rw [show rowOf hN ⟨8 * (t.val / 8) + s.val, _⟩ k = ⟨s.val * 512 + k.val, hl⟩ from Fin.ext (by simp only [rowOf]; omega)]

/-- The same of real rows. -/
theorem acc_rows {N : ℕ} (hN : N = 8) (f : (n : ℕ) → n < N → EReal) (p : Fin 4096 → ℝ)
    (h0 : ∀ t : Fin N, t.val % 8 = 0 → f t.val t.isLt = ((∑ r, p (rowOf hN t r) : ℝ) : EReal))
    (hs : ∀ t : Fin N, ¬t.val % 8 = 0 → f t.val t.isLt
      = f (t.val - 1) (Nat.lt_of_le_of_lt (Nat.sub_le _ _) t.isLt) + ((∑ r, p (rowOf hN t r) : ℝ) : EReal))
    (t : Fin N) (hr : t.val % 8 = 7) : f t.val t.isLt = ((∑ a, p a : ℝ) : EReal) := by
  rw [← sum_coe]
  exact acc_rowsE hN f (fun a => (p a : EReal)) (fun t h => (h0 t h).trans (sum_coe _).symm)
    (fun t h => (hs t h).trans (congrArg _ (sum_coe _).symm)) t hr

/-! ## Columns by groups -/

/-- Column `k` of channel group `g`. -/
def cg (g : Fin 4) (k : Fin 256) : Fin 1024 := ⟨g.val * 256 + k.val, by omega⟩

/-- A column's group, and its place there. -/
def gr (l : Fin 1024) : Fin 4 := ⟨l.val / 256, by omega⟩
@[inherit_doc gr] def gc (l : Fin 1024) : Fin 256 := ⟨l.val % 256, by omega⟩

theorem cg_gr_gc (l : Fin 1024) : cg (gr l) (gc l) = l := Fin.ext (show l.val / 256 * 256 + l.val % 256 = l.val by omega)
theorem gr_cg (g : Fin 4) (k : Fin 256) : gr (cg g k) = g := Fin.ext (show (g.val * 256 + k.val) / 256 = g.val by omega)
theorem gc_cg (g : Fin 4) (k : Fin 256) : gc (cg g k) = k := Fin.ext (show (g.val * 256 + k.val) % 256 = k.val by omega)

/-- The columns of a group, of a block of any rows. -/
theorem cols {R : ℕ} {e : EltTy} {B : (⟨2, ![R, 1024]⟩ : Shape).Idx → Elt Ideal e} (g : Fin 4) (o : ℕ) (ho : o = g.val * 256) (inb)
    (r : Fin R) (k : Fin 256) :
    View.ld (Val := Elt Ideal) (e' := e) B (Rect.unit (s := ⟨2, ![R, 1024]⟩) ![0, o] ![R, 256] inb) (ix2 r k) = B (ix2 r (cg g k)) := by
  subst ho
  refine congrArg B (funext (Fin.forall_fin_two.2 ⟨Fin.ext ?_, Fin.ext ?_⟩))
  · show 0 + 1 * r.val = r.val; omega
  · show g.val * 256 + 1 * k.val = g.val * 256 + k.val; omega

end Cert.Reals

end
-- ==== Proof.Loss.lean ====
/- The loss and its gradient: what the kernel's blocks hold, what the reference computes, and that they agree. -/
module

public import proofs.«01_k».proof.Proof.Reals
public import proofs.«01_k».proof.Proof.Gen.LossIdeal.Value
public import proofs.«01_k».proof.Proof.Gen.LossRefIdeal.Read

@[expose] public section

set_option maxRecDepth 16384

noncomputable section

namespace Cert.LossIdeal.Value

open Cert.LossIdeal Cert.LossIdeal.Gen Cert.Reals
open Idealize.ShloMosaic TcCoe Idealize.SL.Sem
open Pipeline (Dat)

/-- The error of the normed row against the target. -/
def err (x g t : Fin 1024 → ℝ) (l : Fin 1024) : ℝ := x l * rs x * g l - t l

variable {B0 : FVec Ideal S512x1024 .f32} {B1 : FVec Ideal S1x1024 .f32} {B2 : FVec Ideal S512x1024 .f32}
  {x t : Fin 512 → Fin 1024 → ℝ} {g : Fin 1024 → ℝ}
  (h0 : ∀ r k, B0 (ix2 r k) = (x r k : EReal)) (h1 : ∀ k, B1 (ix2 0 k) = (g k : EReal))
  (h2 : ∀ r k, B2 (ix2 r k) = (t r k : EReal))

include h0 h1 h2 in
theorem pay6 (r : Fin 512) (l : Fin 1024) : k0_pay6 (F := Ideal) B0 B1 B2 (ix2 r l) = (err (x r) g (t r) l : EReal) := by
  pointwise [k0_pay6, h0, h1, h2]
  simp only [lit_1024, lit_eps6, lit_half, lit_inv1024, ← EReal.coe_mul, ← EReal.coe_sub, ← EReal.coe_add, sum_coe, div_1024, rs_coe, err]

include h0 h1 h2 in
theorem pay8 (r : Fin 512) (l : Fin 1024) :
    k0_pay8 (F := Ideal) B0 B1 B2 (ix2 r l) = ((err (x r) g (t r) l * (1 / 1024) : ℝ) : EReal) := by
  pointwise [k0_pay8, pay6 h0 h1 h2]
  simp only [lit_1024, lit_eps6, lit_half, lit_inv1024, ← EReal.coe_mul, ← EReal.coe_sub, ← EReal.coe_add, sum_coe, div_1024, rs_coe]

include h0 h1 h2 in
theorem pay7 : k0_pay7 (F := Ideal) B0 B1 B2 (ix2 0 0)
    = ((1 / 2 * ∑ r, (∑ l, err (x r) g (t r) l * err (x r) g (t r) l) / 1024 : ℝ) : EReal) := by
  pointwise [k0_pay7, pay6 h0 h1 h2]
  simp only [lit_1024, lit_eps6, lit_half, lit_inv1024, ← EReal.coe_mul, ← EReal.coe_sub, ← EReal.coe_add, sum_coe, div_1024, rs_coe]

include h0 in
theorem pay10 (r : Fin 512) : k0_pay10 (F := Ideal) B0 (ix2 r 0) = (rs (x r) : EReal) := by
  pointwise [k0_pay10, h0]
  simp only [lit_1024, lit_eps6, lit_half, lit_inv1024, ← EReal.coe_mul, ← EReal.coe_sub, ← EReal.coe_add, sum_coe, div_1024, rs_coe]

/-- The cotangent of the normed row. -/
def cot (x g t : Fin 1024 → ℝ) (l : Fin 1024) : ℝ := err x g t l * (1 / 1024)

include h0 h1 h2 in
theorem pay2 (r : Fin 512) (l : Fin 1024) :
    k0_pay2 (F := Ideal) B0 (k0_pay8 B0 B1 B2) (k0_pay9 B1) (k0_pay10 B0) (ix2 r l)
      = (rmsDx (cot (x r) g (t r)) g (x r) l : EReal) := by
  pointwise [k0_pay2, k0_pay1, k0_pay9, pay8 h0 h1 h2, pay10 h0, h0, h1]
  simp only [lit_1024, lit_eps6, lit_half, lit_inv1024, ← EReal.coe_mul, ← EReal.coe_sub, ← EReal.coe_add, sum_coe, div_1024, rs_coe, cot, rmsDx]

include h0 h1 h2 in
theorem pay3 (l : Fin 1024) :
    k0_pay3 (F := Ideal) B0 (k0_pay8 B0 B1 B2) (k0_pay10 B0) (ix2 0 l)
      = ((∑ r, cot (x r) g (t r) l * (x r l * rs (x r)) : ℝ) : EReal) := by
  pointwise [k0_pay3, k0_pay1, pay8 h0 h1 h2, pay10 h0, h0]
  simp only [lit_1024, lit_eps6, lit_half, lit_inv1024, ← EReal.coe_mul, ← EReal.coe_sub, ← EReal.coe_add, sum_coe, div_1024, rs_coe, cot]

theorem pay5 (v1 v28 : FVec Ideal S512x1024 .f32) (v38 : FVec Ideal S512x1 .f32) (v67 : FVec Ideal S1x1024 .f32) (j) :
    k0_pay5 (F := Ideal) v1 v28 v38 v67 j = v67 j + k0_pay3 v1 v28 v38 j := by
  pointwise [k0_pay5]

theorem pay4 (v26 v67 : FVec Ideal S1x1 .f32) (j) : k0_pay4 (F := Ideal) v26 v67 j = v67 j + v26 j := by
  pointwise [k0_pay4]

/-! ## The blocks -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

section run

variable (m : (ℓ : Loc nD τ sig) → Buf (Elt Ideal) ℓ) (c : Dev nD)
variable {X T : Fin 4096 → Fin 1024 → ℝ} {G : Fin 1024 → ℝ}
  (hX : ∀ a b, m ((c : Thread nD τ).loc main_arg0) (ix2 a b) = (X a b : EReal))
  (hG : ∀ b, m ((c : Thread nD τ).loc main_arg1) (ix1 b) = (G b : EReal))
  (hT : ∀ a b, m ((c : Thread nD τ).loc main_arg2) (ix2 a b) = (T a b : EReal))

/-- Row `r` of block `t`. -/
def row (t : Fin cfg0.N) (r : Fin 512) : Fin 4096 :=
  ⟨t.val * 512 + r.val, by have := lt_of_lt_of_eq t.isLt N_0; omega⟩

include hX in
theorem blk0 (t : Fin cfg0.N) (r : Fin 512) (k : Fin 1024) : iblk m c 0 t (ix2 r k) = (X (row t r) k : EReal) := by
  rw [← hX]; blk_ext [iblk, V, idx t, row]

include hG in
theorem blk1 (t : Fin cfg0.N) (k : Fin 1024) : iblk m c 1 t (ix2 0 k) = (G k : EReal) := by
  rw [← hG]; blk_point [iblk, V, idx t]

include hT in
theorem blk2 (t : Fin cfg0.N) (r : Fin 512) (k : Fin 1024) : iblk m c 2 t (ix2 r k) = (T (row t r) k : EReal) := by
  rw [← hT]; blk_ext [iblk, V, idx t, row]

include hX hG hT in
theorem left4 (t : Fin cfg0.N) (r : Fin 512) (l : Fin 1024) :
    (outsAt0 m c t.val t.isLt).2.1 (ix2 r l)
      = (rmsDx (cot (X (row t r)) G (T (row t r))) G (X (row t r)) l : EReal) := by
  have ht := lt_of_lt_of_eq t.isLt N_0
  by_cases h : t.val % 8 = 0
  · rw [outsAt0_A m c t h (by omega) h (by omega)]; frame_out
    exact pay2 (blk0 m c hX t) (blk1 m c hG t) (blk2 m c hT t) r l
  · rw [outsAt0_B m c t h (by omega) h (by omega)]; frame_out
    exact pay2 (blk0 m c hX t) (blk1 m c hG t) (blk2 m c hT t) r l

include hX hG hT in
/-- The gradient of the input, whole. -/
theorem final4 : (dats m 0 c).arrAt 4 (cfgs 0).N = real2 fun a b => rmsDx (cot (X a) G (T a)) G (X a) b := by
  refine (dats m 0 c).arrAt_eq_of_covers 4 _ (by decide +kernel) fun t hf y => ?_
  blk_simp
  rw [after0_4, show (win0_4.blk t).view.emb y = ix2 (row t (y 0)) (y 1) by blk_ext [idx t, row]]
  exact (congrArg _ (eq_ix2 y)).trans (left4 m c hX hG hT t (y 0) (y 1))

include hX hG hT in
theorem left5 (t : Fin cfg0.N) (b : Fin 1024) (hr : t.val % 8 = 7) :
    (outsAt0 m c t.val t.isLt).2.2 (ix2 0 b) = ((∑ a, cot (X a) G (T a) b * (X a b * rs (X a)) : ℝ) : EReal) := by
  have key := Pipeline.eq_sum_fin_of_reset_step_apply_of_flush
    (fun n h (_ : Unit) => (show EReal from (outsAt0 m c n h).2.2 (ix2 0 b))) 8 (fun _ => 0)
    (fun t _ => ((∑ r, cot (X (row t r)) G (T (row t r)) b * (X (row t r) b * rs (X (row t r))) : ℝ) : EReal))
    (fun t h j => by
      have ht := lt_of_lt_of_eq t.isLt N_0
      refine Eq.trans ?_ (zero_add _).symm
      show (outsAt0 m c t.val t.isLt).2.2 (ix2 0 b) = _
      rw [outsAt0_A m c t h (by omega) h (by omega)]; frame_out
      exact pay3 (blk0 m c hX t) (blk1 m c hG t) (blk2 m c hT t) b)
    (fun t h j => by
      have ht := lt_of_lt_of_eq t.isLt N_0
      show (outsAt0 m c t.val t.isLt).2.2 (ix2 0 b) = (outsAt0 m c (t.val - 1) _).2.2 (ix2 0 b) + _
      rw [outsAt0_B m c t h (by omega) h (by omega)]; frame_out
      rw [pay5, pay3 (blk0 m c hX t) (blk1 m c hG t) (blk2 m c hT t) b])
    t hr ()
  have ht := lt_of_lt_of_eq t.isLt N_0
  refine key.trans ?_
  rw [zero_add, sum_coe]
  refine congrArg _ (Fin.sum_mul_add_congr fun s k hl => ?_)
  rw [show row ⟨8 * (t.val / 8) + s.val, _⟩ k = ⟨s.val * 512 + k.val, hl⟩ from Fin.ext (by simp only [row]; omega)]

include hX hG hT in
/-- The gradient of the gain, summed over the points. -/
theorem final5 : (dats m 0 c).arrAt 5 (cfgs 0).N
    = real2 fun (_ : Fin 1) b => ∑ a, cot (X a) G (T a) b * (X a b * rs (X a)) := by
  refine (dats m 0 c).arrAt_eq_of_covers 5 _ (by decide +kernel) fun t hf y => ?_
  blk_simp
  rw [after0_5, show (win0_5.blk t).view.emb y = ix2 0 (y 1) by blk_ext [idx t]]
  exact (congrArg _ (show y = ix2 0 (y 1) by blk_ext)).trans (left5 m c hX hG hT t (y 1) ((flush0_5 t).mp hf))

/-- The loss of one row. -/
def rowLoss (x g t : Fin 1024 → ℝ) : ℝ := (∑ l, err x g t l * err x g t l) / 1024

include hX hG hT in
theorem left3 (t : Fin cfg0.N) (hr : t.val % 8 = 7) :
    (outsAt0 m c t.val t.isLt).1 (ix2 0 0) = ((1 / 2 * ∑ a, rowLoss (X a) G (T a) : ℝ) : EReal) := by
  have key := Pipeline.eq_sum_fin_of_reset_step_apply_of_flush
    (fun n h (_ : Unit) => (show EReal from (outsAt0 m c n h).1 (ix2 0 0))) 8 (fun _ => 0)
    (fun t _ => ((1 / 2 * ∑ r, rowLoss (X (row t r)) G (T (row t r)) : ℝ) : EReal))
    (fun t h j => by
      have ht := lt_of_lt_of_eq t.isLt N_0
      refine Eq.trans ?_ (zero_add _).symm
      show (outsAt0 m c t.val t.isLt).1 (ix2 0 0) = _
      rw [outsAt0_A m c t h (by omega) h (by omega)]; frame_out
      exact pay7 (blk0 m c hX t) (blk1 m c hG t) (blk2 m c hT t))
    (fun t h j => by
      have ht := lt_of_lt_of_eq t.isLt N_0
      show (outsAt0 m c t.val t.isLt).1 (ix2 0 0) = (outsAt0 m c (t.val - 1) _).1 (ix2 0 0) + _
      rw [outsAt0_B m c t h (by omega) h (by omega)]; frame_out
      rw [pay4, pay7 (blk0 m c hX t) (blk1 m c hG t) (blk2 m c hT t)]; rfl)
    t hr ()
  have ht := lt_of_lt_of_eq t.isLt N_0
  refine key.trans ?_
  rw [zero_add, sum_coe, ← Finset.mul_sum]
  refine congrArg (fun z : ℝ => ((1 / 2 * z : ℝ) : EReal)) (Fin.sum_mul_add_congr fun s k hl => ?_)
  rw [show row ⟨8 * (t.val / 8) + s.val, _⟩ k = ⟨s.val * 512 + k.val, hl⟩ from Fin.ext (by simp only [row]; omega)]

include hX hG hT in
/-- The loss, summed over the points. -/
theorem final3 : (dats m 0 c).arrAt 3 (cfgs 0).N
    = real2 fun (_ _ : Fin 1) => 1 / 2 * ∑ a, rowLoss (X a) G (T a) := by
  refine (dats m 0 c).arrAt_eq_of_covers 3 _ (by decide +kernel) fun t hf y => ?_
  blk_simp
  rw [after0_3]
  exact (congrArg _ (show y = ix2 0 0 by blk_ext)).trans (left3 m c hX hG hT t ((flush0_3 t).mp hf))

end run

end Cert.LossIdeal.Value

end
-- ==== Proof.LossRef.lean ====
/- The loss and its gradient: what the reference computes at finite arguments, and that it is what the kernel leaves. -/
module

public import proofs.«01_k».proof.Proof.Loss

@[expose] public section

set_option maxRecDepth 16384

noncomputable section

namespace Cert.LossRefIdeal.Read

open Cert.LossRefIdeal Cert.Reals Cert.LossIdeal.Value
open Idealize.ShloMosaic TcCoe

variable {A0 A2 : FVec Ideal S4096x1024 .f32} {A1 : FVec Ideal S1024 .f32}
  {X T : Fin 4096 → Fin 1024 → ℝ} {G : Fin 1024 → ℝ}
  (hX : ∀ a b, A0 (ix2 a b) = (X a b : EReal)) (hG : ∀ b, A1 (ix1 b) = (G b : EReal))
  (hT : ∀ a b, A2 (ix2 a b) = (T a b : EReal))

include hX in
theorem at6 (a : Fin 4096) : val_main_v6 (F := Ideal) A0 (ix2 a 0) = (ms (X a) : EReal) := by
  pointwise [val_main_v6, val_main_v5, val_main_v4, val_main_v3, val_main_v2, val_main_v1, val_main_v0, val_main_cst,
    val_main_cst_0, val_main_cst_1, hX]
  simp only [lit_1024, lit_eps6, lit_half, ← EReal.coe_mul, ← EReal.coe_sub, ← EReal.coe_add, sum_coe, div_1024, rs_coe, ms]

include hX in
theorem at7 (a : Fin 4096) : val_main_v7 (F := Ideal) A0 (ix2 a 0) = (rs (X a) : EReal) := by
  pointwise [val_main_v7, at6 hX]
  exact rs_coe _

include hX in
theorem at10 (a : Fin 4096) (z : Fin 1) :
    val_main_v10 (F := Ideal) A0 (ix2 a z) = ((-(1 / 2) * (rs (X a) / ms (X a)) : ℝ) : EReal) := by
  obtain rfl : z = 0 := Subsingleton.elim _ _
  pointwise [val_main_v10, val_main_v9, val_main_v8, val_main_cst_2, at7 hX, at6 hX]
  simp only [lit_1024, lit_eps6, lit_half, ← EReal.coe_mul, ← EReal.coe_sub, ← EReal.coe_add, sum_coe, div_1024, rs_coe, div_coe' _ (ms_pos (X a)).ne', lit_neg_half]

include hX in
theorem at12 (a : Fin 4096) (b : Fin 1024) : val_main_v12 (F := Ideal) A0 (ix2 a b) = ((X a b * rs (X a) : ℝ) : EReal) := by
  pointwise [val_main_v12, val_main_v11, at7 hX, hX]
  simp only [lit_1024, lit_eps6, lit_half, ← EReal.coe_mul, ← EReal.coe_sub, ← EReal.coe_add, sum_coe, div_1024, rs_coe]

include hX hG hT in
theorem at16 (a : Fin 4096) (b : Fin 1024) :
    val_main_v16 (F := Ideal) A0 A1 A2 (ix2 a b) = (err (X a) G (T a) b : EReal) := by
  pointwise [val_main_v16, val_main_v15, val_main_v14, val_main_v13, at12 hX, hG, hT]
  simp only [lit_1024, lit_eps6, lit_half, ← EReal.coe_mul, ← EReal.coe_sub, ← EReal.coe_add, sum_coe, div_1024, rs_coe, err]

include hX hG hT in
theorem at30 (a : Fin 4096) (b : Fin 1024) :
    val_main_v30 (F := Ideal) A0 A1 A2 (ix2 a b) = (cot (X a) G (T a) b : EReal) := by
  pointwise [val_main_v30, val_main_v29, val_main_v28, val_main_v27, val_main_v26, val_main_v25, val_main_v19, val_main_v18,
    val_main_cst_3, val_main_cst_8, val_main_cst_9, val_main_cst_10, at16 hX hG hT]
  simp only [lit_1024, lit_eps6, lit_half, ← EReal.coe_mul, ← EReal.coe_sub, ← EReal.coe_add, sum_coe, div_1024, rs_coe, lit_two, mul_one]
  rw [cot]; congr 1; ring

include hX hG hT in
theorem at35 (a : Fin 4096) (b : Fin 1024) :
    val_main_v35 (F := Ideal) A0 A1 A2 (ix2 a b) = ((cot (X a) G (T a) b * G b : ℝ) : EReal) := by
  pointwise [val_main_v35, val_main_v34, val_main_v13, at30 hX hG hT, hG]
  simp only [lit_1024, lit_eps6, lit_half, ← EReal.coe_mul, ← EReal.coe_sub, ← EReal.coe_add, sum_coe, div_1024, rs_coe]

include hX hG hT in
theorem at46 (a : Fin 4096) (b : Fin 1024) : val_main_v46 (F := Ideal) A0 A1 A2 (ix2 a b)
    = (((-(1 / 2) * (rs (X a) / ms (X a)) * ∑ k, cot (X a) G (T a) k * G k * X a k) / 1024 : ℝ) : EReal) := by
  pointwise [val_main_v46, val_main_v45, val_main_v44, val_main_v43, val_main_v42, val_main_v39, val_main_v38, val_main_v37,
    val_main_cst_13, val_main_cst_14, val_main_cst_15, at35 hX hG hT, at10 hX, hX]
  simp only [lit_1024, lit_eps6, lit_half, ← EReal.coe_mul, ← EReal.coe_sub, ← EReal.coe_add, sum_coe, div_1024, rs_coe]
  rw [Finset.univ_unique, Finset.sum_singleton, mul_comm (-(1 / 2) * _)]
  simp only [mul_comm, mul_left_comm, mul_assoc]

include hX hG hT in
/-- The reference's gradient of the input. -/
theorem at50 : val_main_v50 (F := Ideal) A0 A1 A2 = real2 fun a b => rmsDx (cot (X a) G (T a)) G (X a) b := by
  funext i; idx_vars i
  show _ = ((rmsDx (cot (X i0) G (T i0)) G (X i0) i1 : ℝ) : EReal)
  pointwise [val_main_v50, val_main_v49, val_main_v48, val_main_v47, val_main_v41, val_main_v40, at46 hX hG hT, at35 hX hG hT,
    at7 hX, hX]
  simp only [lit_1024, lit_eps6, lit_half, ← EReal.coe_mul, ← EReal.coe_sub, ← EReal.coe_add, sum_coe, div_1024, rs_coe]
  rw [rmsDx_chain]; congr 1; ring

include hX hG hT in
/-- The reference's gradient of the gain. -/
theorem at52 : val_main_v52 (F := Ideal) A0 A1 A2
    = real2 fun (_ : Fin 1) b => ∑ a, cot (X a) G (T a) b * (X a b * rs (X a)) := by
  funext i; idx_vars i
  show _ = ((∑ a, cot (X a) G (T a) i1 * (X a i1 * rs (X a)) : ℝ) : EReal)
  pointwise [val_main_v52, val_main_v36, val_main_v33, val_main_v32, val_main_v31, val_main_cst_11, val_main_cst_12,
    at30 hX hG hT, at12 hX]
  simp only [lit_1024, lit_eps6, lit_half, ← EReal.coe_mul, ← EReal.coe_sub, ← EReal.coe_add, sum_coe, div_1024, rs_coe]
  rw [Finset.univ_unique, Finset.sum_singleton]
  simp only [mul_comm]

include hX hG hT in
/-- The reference's loss. -/
theorem at51 : val_main_v51 (F := Ideal) A0 A1 A2
    = real2 fun (_ _ : Fin 1) => 1 / 2 * ∑ a, rowLoss (X a) G (T a) := by
  funext i; idx_vars i
  show _ = ((1 / 2 * ∑ a, rowLoss (X a) G (T a) : ℝ) : EReal)
  pointwise [val_main_v51, val_main_v24, val_main_v23, val_main_v22, val_main_v21, val_main_v20, val_main_v17, val_main_cst_4,
    val_main_cst_5, val_main_cst_6, val_main_cst_7, at16 hX hG hT]
  simp only [lit_1024, lit_eps6, lit_half, ← EReal.coe_mul, ← EReal.coe_sub, ← EReal.coe_add, sum_coe, div_1024, rs_coe]
  rfl

end Cert.LossRefIdeal.Read

end
-- ==== Proof.LossClaim.lean ====
module

public import proofs.«01_k».proof.Defs
public import proofs.«01_k».proof.Proof.LossRef
public import proofs.«01_k».proof.Proof.Gen.Pre_loss_finite

@[expose] public section

set_option maxRecDepth 16384

noncomputable section

namespace Cert.Proof

open Cert.Reals
open Idealize.ShloMosaic TcCoe Idealize.SL.Sem

/-- The arguments below infinity are arrays of real numbers. -/
theorem loss_real {A0 A2 : FVec Ideal Cert.LossIdeal.S4096x1024 .f32} {A1 : FVec Ideal Cert.LossIdeal.S1024 .f32}
    (h : (Cert.Pre_loss_finite.fn (F := Ideal) A0 A1 A2).1 = (fun _ => 1#1)
      ∧ (Cert.Pre_loss_finite.fn (F := Ideal) A0 A1 A2).2.1 = (fun _ => 1#1)
      ∧ (Cert.Pre_loss_finite.fn (F := Ideal) A0 A1 A2).2.2 = (fun _ => 1#1)) :
    ∃ (X : Fin 4096 → Fin 1024 → ℝ) (G : Fin 1024 → ℝ) (T : Fin 4096 → Fin 1024 → ℝ),
      (∀ a b, A0 (ix2 a b) = (X a b : EReal)) ∧ (∀ b, A1 (ix1 b) = (G b : EReal)) ∧ ∀ a b, A2 (ix2 a b) = (T a b : EReal) := by
  have h0 : ∀ a b, ∃ r : ℝ, A0 (ix2 a b) = (r : EReal) := fun a b => by
    have := congrFun h.1 (ix2 a b)
    pointwise [Cert.Pre_loss_finite.fn] at this
    exact real_of_lt this
  have h1 : ∀ b, ∃ r : ℝ, A1 (ix1 b) = (r : EReal) := fun b => by
    have := congrFun h.2.1 (ix1 b)
    pointwise [Cert.Pre_loss_finite.fn] at this
    exact real_of_lt this
  have h2 : ∀ a b, ∃ r : ℝ, A2 (ix2 a b) = (r : EReal) := fun a b => by
    have := congrFun h.2.2 (ix2 a b)
    pointwise [Cert.Pre_loss_finite.fn] at this
    exact real_of_lt this
  exact ⟨fun a b => (h0 a b).choose, fun b => (h1 b).choose, fun a b => (h2 a b).choose, fun a b => (h0 a b).choose_spec,
    fun b => (h1 b).choose_spec, fun a b => (h2 a b).choose_spec⟩

/-- The loss and its two gradients: the kernel's are the reference's. -/
theorem algebraic_loss : Cert.algebraic_LossIdeal_LossRefIdeal_pre_loss_finite := by
  pair_intro
  · run_from Cert.LossIdeal.Gen.run_main m g
  · run_from Cert.LossRefIdeal.Value.run m' g'
    all_goals obtain ⟨X, G, T, hX, hG, hT⟩ := loss_real (hpre c)
    · refine (Cert.LossRefIdeal.Read.val_main_v51_eq _ _ _).trans ?_
      rw [Cert.LossRefIdeal.Read.at51 hX hG hT]
      exact (Cert.LossIdeal.Value.final3 m c hX hG hT).symm
    · refine (Cert.LossRefIdeal.Read.val_main_v50_eq m' c).trans ?_
      rw [(hagree c).1, (hagree c).2.1, (hagree c).2.2, Cert.LossRefIdeal.Read.at50 hX hG hT]
      exact (Cert.LossIdeal.Value.final4 m c hX hG hT).symm
    · refine (Cert.LossRefIdeal.Read.val_main_v52_eq _ _ _).trans ?_
      rw [Cert.LossRefIdeal.Read.at52 hX hG hT]
      exact (Cert.LossIdeal.Value.final5 m c hX hG hT).symm

end Cert.Proof

end
-- ==== Proof.Chips.lean ====
/- The columns of a projection over four chips, whatever its width: a chip's columns and weights at a time. -/
module

public import proofs.«01_k».proof.Proof.Reals

@[expose] public section

set_option maxRecDepth 16384

noncomputable section

namespace Cert.Chips

open Cert.Reals
open Idealize.ShloMosaic TcCoe

/-- The cotangent of the normed row: the cotangent of the product times the weights. -/
def du {N : ℕ} (y : Fin N → ℝ) (w : Fin 1024 → Fin N → ℝ) (l : Fin 1024) : ℝ := ∑ n, y n * w l n

variable {K N : ℕ}

/-- Column `k` of chip `j`, of four chips of `K` columns. -/
def col (hN : N = 4 * K) (j : Fin 4) (k : Fin K) : Fin N :=
  ⟨j.val * K + k.val, by rw [hN]; have := Nat.mul_le_mul_right K (Nat.le_of_lt_succ j.isLt); omega⟩

theorem du_chips (hN : N = 4 * K) (y : Fin N → ℝ) (w : Fin 1024 → Fin N → ℝ) (l : Fin 1024) :
    ∑ k, y (col hN 0 k) * w l (col hN 0 k) + ∑ k, y (col hN 1 k) * w l (col hN 1 k) + ∑ k, y (col hN 2 k) * w l (col hN 2 k)
      + ∑ k, y (col hN 3 k) * w l (col hN 3 k) = du y w l := by
  rw [← Fin.sum_univ_four (fun j => ∑ k, y (col hN j k) * w l (col hN j k))]
  exact Fin.sum_mul_add_congr (fun s k hl => rfl) hN

/-- The columns from `o` on, of a block. -/
abbrev cY (K : ℕ) {R : ℕ} (e : EltTy) (B : (⟨2, ![R, N]⟩ : Shape).Idx → Elt Ideal e) (o : ℕ)
    (inb : ∀ a, (![0, o] : Fin 2 → ℕ) a + (![R, K] : Fin 2 → ℕ) a ≤ (![R, N] : Fin 2 → ℕ) a) :
    (⟨2, ![R, K]⟩ : Shape).Idx → Elt Ideal e :=
  View.ld (Val := Elt Ideal) (e' := e) B (Rect.unit ![0, o] ![R, K] inb)

/-- The weights of chip `o`. -/
abbrev cW (B : FVec Ideal ⟨3, ![4, 1024, K]⟩ .bf16) (o : ℕ)
    (inb : ∀ a, (![o, 0, 0] : Fin 3 → ℕ) a + (![1, 1024, K] : Fin 3 → ℕ) a ≤ (![4, 1024, K] : Fin 3 → ℕ) a) :
    FVec Ideal ⟨3, ![1, 1024, K]⟩ .bf16 :=
  View.ld (Val := Elt Ideal) (e' := .bf16) B (Rect.unit ![o, 0, 0] ![1, 1024, K] inb)

theorem ldY (hN : N = 4 * K) {R : ℕ} (e : EltTy) {B : (⟨2, ![R, N]⟩ : Shape).Idx → Elt Ideal e} {y : Fin R → Fin N → Elt Ideal e}
    (h : ∀ r k, B (ix2 r k) = y r k) (j : Fin 4) (o : ℕ) (ho : o = j.val * K) (inb) (r : Fin R) (k : Fin K) : cY K e B o inb (ix2 r k) = y r (col hN j k) := by
  subst ho
  rw [← h]
  refine congrArg B (funext (Fin.forall_fin_two.2 ⟨Fin.ext ?_, Fin.ext ?_⟩))
  · show 0 + 1 * r.val = r.val
    omega
  · show j.val * K + 1 * k.val = j.val * K + k.val
    omega

theorem ldW {B : FVec Ideal ⟨3, ![4, 1024, K]⟩ .bf16} {w : Fin 4 → Fin 1024 → Fin K → EReal} (h : ∀ j l k, B (ix3 j l k) = w j l k)
    (j : Fin 4) (o : ℕ) (ho : o = j.val) (inb) (l : Fin 1024) (k : Fin K) : cW B o inb (ix3 0 l k) = w j l k := by
  subst ho
  rw [← h]
  refine congrArg B (funext fun a => Fin.ext ?_)
  match a with
  | 0 => exact (Nat.add_zero _)
  | 1 => show 0 + 1 * l.val = l.val; omega
  | 2 => show 0 + 1 * k.val = k.val; omega

/-- Any matrix of cotangents is the product of some cotangents and weights. -/
theorem du_any (hN : 1024 ≤ N) (d : Fin 4096 → Fin 1024 → ℝ) : ∃ (Y : Fin 4096 → Fin N → ℝ) (W : Fin 1024 → Fin N → ℝ),
    ∀ a b, du (Y a) W b = d a b :=
  ⟨fun a n => if h : n.val < 1024 then d a ⟨n, h⟩ else 0, fun b n => if n.val = b.val then 1 else 0, fun a b => by
    unfold du
    rw [Finset.sum_eq_single (⟨b.val, by omega⟩ : Fin N) (fun n _ h =>
      (congrArg _ (if_neg fun e => h (Fin.ext e))).trans (mul_zero _)) (by simp)]
    simp⟩

end Cert.Chips

end
-- ==== Proof.Norm.lean ====
/- A projection's backward product fused with its norm's gradient: what the kernel's blocks hold. -/
module

public import proofs.«01_k».proof.Proof.Chips
public import proofs.«01_k».proof.Proof.Gen.NormIdeal.Value

@[expose] public section

set_option maxRecDepth 16384

noncomputable section

namespace Cert.NormIdeal.Value

open Cert.NormIdeal Cert.NormIdeal.Gen Cert.Reals Cert.Chips
open Idealize.ShloMosaic TcCoe Idealize.SL.Sem

variable {B2 : FVec Ideal S512x1024 .f32} {B3 : FVec Ideal S1x1024 .f32} {U : FVec Ideal S512x1024 .f32}
  {x d : Fin 512 → Fin 1024 → ℝ} {g : Fin 1024 → ℝ}
  (h2 : ∀ r k, B2 (ix2 r k) = (x r k : EReal)) (h3 : ∀ k, B3 (ix2 0 k) = (g k : EReal))
  (hu : ∀ r k, U (ix2 r k) = (d r k : EReal))

include h2 in
theorem pay1 (r : Fin 512) : k0_pay1 (F := Ideal) (k0_pay8 B2) (Ideal.ofBits .f32 0x44800000#32) (ix2 r 0) = (rs (x r) : EReal) := by
  pointwise [k0_pay1, k0_pay8, h2]
  simp only [lit_1024, lit_eps6, ← EReal.coe_mul, ← EReal.coe_sub, ← EReal.coe_add, sum_coe, div_1024, rs_coe]

include h2 h3 hu in
theorem pay4 (v51 : FVec Ideal S512x1024 .f32) (r : Fin 512) (l : Fin 1024) :
    k0_pay4 (F := Ideal) U B2 (k0_pay7 B3) (k0_pay8 B2) (Ideal.ofBits .f32 0x44800000#32) v51 (ix2 r l)
      = v51 (ix2 r l) + (rmsDx (d r) g (x r) l : EReal) := by
  pointwise [k0_pay4, k0_pay2, k0_pay7, pay1 h2, h2, h3, hu]
  simp only [lit_1024, lit_eps6, ← EReal.coe_mul, ← EReal.coe_sub, ← EReal.coe_add, sum_coe, div_1024, rs_coe, rmsDx]

include h2 hu in
theorem pay3 (l : Fin 1024) :
    k0_pay3 (F := Ideal) U B2 (k0_pay8 B2) (Ideal.ofBits .f32 0x44800000#32) (ix2 0 l)
      = ((∑ r, d r l * (x r l * rs (x r)) : ℝ) : EReal) := by
  pointwise [k0_pay3, k0_pay2, pay1 h2, h2, hu]
  simp only [← EReal.coe_mul, ← EReal.coe_sub, ← EReal.coe_add, sum_coe]

theorem pay5 (v22 v23 : FVec Ideal S512x1024 .f32) (v28 : FVec Ideal S512x1 .f32) (s : EReal) (v60 : FVec Ideal S1x1024 .f32) (j) :
    k0_pay5 (F := Ideal) v22 v23 v28 s v60 j = v60 j + k0_pay3 v22 v23 v28 s j := by
  pointwise [k0_pay5]

/-- The backward product, chip by chip. -/
theorem chips {B0 : FVec Ideal S512x5632 .bf16} {B1 : FVec Ideal S4x1024x1408 .bf16} {y : Fin 512 → Fin 5632 → ℝ} {w : Fin 1024 → Fin 5632 → ℝ}
    (h0 : ∀ r k, B0 (ix2 r k) = (y r k : EReal)) (h1 : ∀ j l k, B1 (ix3 j l k) = (w l (col rfl j k) : EReal))
    {p0 p1 p2 p3 q0 q1 q2 q3} (r : Fin 512) (l : Fin 1024) :
    k0_pay6 (F := Ideal) (cY 1408 .bf16 B0 0 p0) (cW B1 0 q0) (cY 1408 .bf16 B0 1408 p1) (cW B1 1 q1) (cY 1408 .bf16 B0 2816 p2) (cW B1 2 q2)
      (cY 1408 .bf16 B0 4224 p3) (cW B1 3 q3) (ix2 r l) = (du (y r) w l : EReal) := by
  have e : 5632 = 4 * 1408 := rfl
  rw [← du_chips e]
  pointwise [k0_pay6, ldY e .bf16 h0 0 0 rfl, ldY e .bf16 h0 1 1408 rfl, ldY e .bf16 h0 2 2816 rfl, ldY e .bf16 h0 3 4224 rfl, ldW h1 0 0 rfl,
    ldW h1 1 1 rfl, ldW h1 2 2 rfl, ldW h1 3 3 rfl]
  simp only [← EReal.coe_mul, ← EReal.coe_add, sum_coe]

/-! ## The blocks -/

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section run

variable (m : (ℓ : Loc nD τ sig) → Buf (Elt Ideal) ℓ) (c : Dev nD)
variable {H : Fin 4096 → Fin 1024 → EReal} {X : Fin 4096 → Fin 1024 → ℝ} {G : Fin 1024 → ℝ} {W : Fin 1024 → Fin 5632 → ℝ} {Y : Fin 4096 → Fin 5632 → ℝ}
  (hX : ∀ a b, m ((c : Thread nD τ).loc main_arg0) (ix2 a b) = (X a b : EReal))
  (hG : ∀ b, m ((c : Thread nD τ).loc main_arg1) (ix1 b) = (G b : EReal))
  (hH : ∀ a b, m ((c : Thread nD τ).loc main_arg3) (ix2 a b) = H a b)
  (hW : ∀ a b, m ((c : Thread nD τ).loc main_arg2) (ix2 a b) = (W a b : EReal))
  (hY : ∀ a b, m ((c : Thread nD τ).loc main_arg4) (ix2 a b) = (Y a b : EReal))

include hY in
theorem blk0 (t : Fin cfg0.N) (r : Fin 512) (k : Fin 5632) : iblk m c 0 t (ix2 r k) = (Y (rowOf N_0 t r) k : EReal) := by
  rw [← hY]; blk_point [iblk, V, idx t, rowOf]

include hW in
theorem blk1 (t : Fin cfg0.N) (j : Fin 4) (l : Fin 1024) (k : Fin 1408) :
    iblk m c 1 t (ix3 j l k) = (W l (col rfl j k) : EReal) := by
  rw [← hW]; blk_point [iblk, V, idx t, col]

include hX in
theorem blk2 (t : Fin cfg0.N) (r : Fin 512) (k : Fin 1024) : iblk m c 2 t (ix2 r k) = (X (rowOf N_0 t r) k : EReal) := by
  rw [← hX]; blk_ext [iblk, V, idx t, rowOf]

include hG in
theorem blk3 (t : Fin cfg0.N) (k : Fin 1024) : iblk m c 3 t (ix2 0 k) = (G k : EReal) := by
  rw [← hG]; blk_point [iblk, V, idx t]

include hH in
theorem blk4 (t : Fin cfg0.N) (r : Fin 512) (k : Fin 1024) : iblk m c 4 t (ix2 r k) = H (rowOf N_0 t r) k := by
  rw [← hH]; blk_ext [iblk, V, idx t, rowOf]

include hX hG hH hW hY in
theorem left5 (t : Fin cfg0.N) (r : Fin 512) (l : Fin 1024) :
    (outsAt0 m c t.val t.isLt).1 (ix2 r l) = H (rowOf N_0 t r) l + (rmsDx (du (Y (rowOf N_0 t r)) W) G (X (rowOf N_0 t r)) l : EReal) := by
  have ht := lt_of_lt_of_eq t.isLt N_0
  rw [← blk4 m c hH t]
  by_cases h : t.val % 8 = 0
  · rw [outsAt0_A m c t h (by omega)]; frame_out
    exact pay4 (blk2 m c hX t) (blk3 m c hG t) (chips (blk0 m c hY t) (blk1 m c hW t)) _ r l
  · rw [outsAt0_B m c t h (by omega)]; frame_out
    exact pay4 (blk2 m c hX t) (blk3 m c hG t) (chips (blk0 m c hY t) (blk1 m c hW t)) _ r l

include hX hG hH hW hY in
/-- The gradient of the input, whole: what came from later layers, and the norm's. -/
theorem final5 : (dats m 0 c).arrAt 5 (cfgs 0).N
    = fun i => H (i 0) (i 1) + real2 (fun a b => rmsDx (du (Y a) W) G (X a) b) i := by
  refine (dats m 0 c).arrAt_eq_of_covers 5 _ (by decide +kernel) fun t hf y => ?_
  blk_simp
  rw [after0_5, show (win0_5.blk t).view.emb y = ix2 (rowOf N_0 t (y 0)) (y 1) by blk_ext [idx t, rowOf]]
  exact (congrArg _ (eq_ix2 y)).trans (left5 m c hX hG hH hW hY t (y 0) (y 1))

include hX hW hY in
/-- The gradient of the gain, summed over the points. -/
theorem final6 : (dats m 0 c).arrAt 6 (cfgs 0).N
    = real2 fun (_ : Fin 1) b => ∑ a, du (Y a) W b * (X a b * rs (X a)) := by
  refine (dats m 0 c).arrAt_eq_of_covers 6 _ (by decide +kernel) fun t hf y => ?_
  blk_simp
  rw [after0_6, show (win0_6.blk t).view.emb y = ix2 0 (y 1) by blk_ext [idx t]]
  refine (congrArg _ (show y = ix2 0 (y 1) by blk_ext)).trans (acc_rows N_0
    (fun n h => (show EReal from (outsAt0 m c n h).2 (ix2 0 (y 1)))) (fun a => du (Y a) W (y 1) * (X a (y 1) * rs (X a)))
    (fun t h => ?_) (fun t h => ?_) t ((flush0_6 t).mp hf)) <;> have ht := lt_of_lt_of_eq t.isLt N_0
  · rw [outsAt0_A m c t h (by omega)]; frame_out
    exact pay3 (blk2 m c hX t) (chips (blk0 m c hY t) (blk1 m c hW t)) (y 1)
  · rw [outsAt0_B m c t h (by omega)]; frame_out
    exact (pay5 _ _ _ _ _ _).trans (congrArg _ (pay3 (blk2 m c hX t) (chips (blk0 m c hY t) (blk1 m c hW t)) (y 1)))

end run

end Cert.NormIdeal.Value

end
-- ==== Proof.NormRef.lean ====
/- A projection's gradient through its norm: what the reference computes at finite arguments. -/
module

public import proofs.«01_k».proof.Proof.Chips
public import proofs.«01_k».proof.Proof.Gen.NormRefIdeal.Read

@[expose] public section

set_option maxRecDepth 16384

noncomputable section

namespace Cert.NormRefIdeal.Read

open Cert.NormRefIdeal Cert.Reals Cert.Chips
open Idealize.ShloMosaic TcCoe

variable {A0 A3 : FVec Ideal S4096x1024 .f32} {A1 : FVec Ideal S1024 .f32} {A2 : FVec Ideal S1024x5632 .f32}
  {A4 : FVec Ideal S4096x5632 .f32}
  {H : Fin 4096 → Fin 1024 → EReal} {X : Fin 4096 → Fin 1024 → ℝ} {G : Fin 1024 → ℝ} {W : Fin 1024 → Fin 5632 → ℝ}
  {Y : Fin 4096 → Fin 5632 → ℝ}
  (hX : ∀ a b, A0 (ix2 a b) = (X a b : EReal)) (hG : ∀ b, A1 (ix1 b) = (G b : EReal)) (hH : ∀ a b, A3 (ix2 a b) = H a b)
  (hW : ∀ a b, A2 (ix2 a b) = (W a b : EReal)) (hY : ∀ a b, A4 (ix2 a b) = (Y a b : EReal))

include hX in
theorem mean (a : Fin 4096) : val_main_v6 (F := Ideal) A0 (ix2 a 0) = (ms (X a) : EReal) := by
  pointwise [val_main_v6, val_main_v5, val_main_v4, val_main_v3, val_main_v2, val_main_v1, val_main_v0, val_main_cst,
    val_main_cst_0, val_main_cst_1, hX]
  simp only [lit_1024, lit_eps6, ← EReal.coe_mul, ← EReal.coe_add, sum_coe, div_1024, ms]

include hX in
theorem root (a : Fin 4096) : val_main_v7 (F := Ideal) A0 (ix2 a 0) = (rs (X a) : EReal) := by
  pointwise [val_main_v7, mean hX]
  exact rs_coe _

include hX in
theorem slope (a : Fin 4096) (z : Fin 1) :
    val_main_v10 (F := Ideal) A0 (ix2 a z) = ((-(1 / 2) * (rs (X a) / ms (X a)) : ℝ) : EReal) := by
  obtain rfl : z = 0 := Subsingleton.elim _ _
  pointwise [val_main_v10, val_main_v9, val_main_v8, val_main_cst_2, root hX, mean hX]
  simp only [lit_neg_half, ← EReal.coe_mul, div_coe' _ (ms_pos (X a)).ne']

include hW hY in
/-- The cotangent of the normed row. -/
theorem product (a : Fin 4096) (b : Fin 1024) : val_main_v17 (F := Ideal) A2 A4 (ix2 a b) = (du (Y a) W b : EReal) := by
  pointwise [val_main_v17, hW, hY]
  simp only [← EReal.coe_mul, sum_coe, du]

include hG hW hY in
theorem gained (a : Fin 4096) (b : Fin 1024) :
    val_main_v22 (F := Ideal) A1 A2 A4 (ix2 a b) = ((du (Y a) W b * G b : ℝ) : EReal) := by
  pointwise [val_main_v22, val_main_v21, val_main_v13, product hW hY, hG]
  simp only [← EReal.coe_mul]

include hX hG hW hY in
theorem through (a : Fin 4096) : val_main_v33 (F := Ideal) A0 A1 A2 A4 (ix1 a)
    = (((-(1 / 2) * (rs (X a) / ms (X a)) * ∑ k, du (Y a) W k * G k * X a k) / 1024 : ℝ) : EReal) := by
  pointwise [val_main_v33, val_main_v32, val_main_v31, val_main_v30, val_main_v26, val_main_v25, val_main_v24,
    val_main_cst_5, val_main_cst_6, val_main_cst_7, gained hG hW hY, slope hX, hX]
  simp only [lit_1024, ← EReal.coe_mul, ← EReal.coe_add, sum_coe, div_1024]
  rw [Finset.univ_unique, Finset.sum_singleton, mul_comm (-(1 / 2) * _)]
  simp only [mul_comm, mul_left_comm, mul_assoc]

include hX hG hH hW hY in
/-- The reference's gradient of the input. -/
theorem gradH : val_main_v38 (F := Ideal) A0 A1 A2 A3 A4
    = fun i => H (i 0) (i 1) + real2 (fun a b => rmsDx (du (Y a) W) G (X a) b) i := by
  funext i; idx_vars i
  show _ = H i0 i1 + ((rmsDx (du (Y i0) W) G (X i0) i1 : ℝ) : EReal)
  pointwise [val_main_v38, val_main_v37, val_main_v36, val_main_v35, val_main_v34, val_main_v29, val_main_v28, val_main_v27,
    through hX hG hW hY, gained hG hW hY, root hX, hX, hH]
  simp only [← EReal.coe_mul]
  rw [add_assoc, add_assoc]
  simp only [← EReal.coe_add]
  rw [rmsDx_chain]; congr 2; ring

include hX hW hY in
/-- The reference's gradient of the gain. -/
theorem gradG : val_main_v39 (F := Ideal) A0 A2 A4
    = real2 fun (_ : Fin 1) b => ∑ a, du (Y a) W b * (X a b * rs (X a)) := by
  funext i; idx_vars i
  show _ = ((∑ a, du (Y a) W i1 * (X a i1 * rs (X a)) : ℝ) : EReal)
  pointwise [val_main_v39, val_main_v23, val_main_v20, val_main_v19, val_main_v18, val_main_v12, val_main_v11, val_main_cst_3,
    val_main_cst_4, product hW hY, root hX, hX]
  simp only [← EReal.coe_mul, ← EReal.coe_add, sum_coe]
  rw [Finset.univ_unique, Finset.sum_singleton]
  simp only [mul_comm]

/-- Any cotangents of the normed rows are those of some columns; so the gradients below hold at any cotangents. -/
theorem any (d : Fin 4096 → Fin 1024 → ℝ) : ∃ (Y : Fin 4096 → Fin 5632 → ℝ) (W : Fin 1024 → Fin 5632 → ℝ),
    (∀ a, du (Y a) W = d a) ∧ val_main_v17 (F := Ideal) (real2 W) (real2 Y) = real2 d := by
  obtain ⟨Y, W, h⟩ := du_any (N := 5632) (by decide) d
  refine ⟨Y, W, fun a => funext (h a), funext fun i => ?_⟩
  idx_vars i
  exact (product (fun _ _ => rfl) (fun _ _ => rfl) i0 i1).trans (congrArg _ (h i0 i1))

include hX hG hH in
theorem anyH (d : Fin 4096 → Fin 1024 → ℝ) : ∃ W Y, val_main_v17 (F := Ideal) W Y = real2 d
    ∧ val_main_v38 (F := Ideal) A0 A1 W A3 Y = fun i => H (i 0) (i 1) + real2 (fun a b => rmsDx (d a) G (X a) b) i := by
  obtain ⟨Y, W, h, e⟩ := any d
  refine ⟨_, _, e, (gradH (W := W) (Y := Y) hX hG hH (fun _ _ => rfl) (fun _ _ => rfl)).trans ?_⟩
  simp only [h]

include hX in
theorem anyG (d : Fin 4096 → Fin 1024 → ℝ) : ∃ W Y, val_main_v17 (F := Ideal) W Y = real2 d
    ∧ val_main_v39 (F := Ideal) A0 W Y = real2 fun (_ : Fin 1) b => ∑ a, d a b * (X a b * rs (X a)) := by
  obtain ⟨Y, W, h, e⟩ := any d
  refine ⟨_, _, e, (gradG (W := W) (Y := Y) hX (fun _ _ => rfl) (fun _ _ => rfl)).trans ?_⟩
  simp only [h]

end Cert.NormRefIdeal.Read

end
-- ==== Proof.NormClaim.lean ====
/- A projection's gradient through its norm: what the kernel leaves is what the reference computes. -/
module

public import proofs.«01_k».proof.Defs
public import proofs.«01_k».proof.Proof.Norm
public import proofs.«01_k».proof.Proof.NormRef
public import proofs.«01_k».proof.Proof.Gen.Pre_norm_finite

@[expose] public section

set_option maxRecDepth 16384

noncomputable section

namespace Cert.Proof

open Cert.Reals
open Idealize.ShloMosaic TcCoe Idealize.SL.Sem

/-- The gradient of the input and of the gain: the kernel's are the reference's. -/
theorem algebraic_norm : Cert.algebraic_NormIdeal_NormRefIdeal_pre_norm_finite := by
  pair_intro
  · run_from Cert.NormIdeal.Gen.run_main m g
  · run_from Cert.NormRefIdeal.Value.run m' g'
    all_goals
      have h := hpre c
      choose X hX using fun a b => real_of_lt (by
        have := congrFun h.1 (ix2 a b)
        pointwise [Cert.Pre_norm_finite.fn] at this
        exact this)
      choose G hG using fun b => real_of_lt (by
        have := congrFun h.2.1 (ix1 b)
        pointwise [Cert.Pre_norm_finite.fn] at this
        exact this)
      choose W hW using fun a b => real_of_lt (by
        have := congrFun h.2.2.1 (ix2 a b)
        pointwise [Cert.Pre_norm_finite.fn] at this
        exact this)
      choose Y hY using fun a b => real_of_lt (by
        have := congrFun h.2.2.2 (ix2 a b)
        pointwise [Cert.Pre_norm_finite.fn] at this
        exact this)
    · refine (Cert.NormRefIdeal.Read.val_main_v38_eq m' c).trans ?_
      rw [(hagree c).1, (hagree c).2.1, (hagree c).2.2.1, (hagree c).2.2.2.1, (hagree c).2.2.2.2,
        Cert.NormRefIdeal.Read.gradH hX hG (fun _ _ => rfl) hW hY]
      exact (Cert.NormIdeal.Value.final5 m c hX hG (fun _ _ => rfl) hW hY).symm
    · refine (Cert.NormRefIdeal.Read.val_main_v39_eq _ _ _).trans ?_
      rw [Cert.NormRefIdeal.Read.gradG hX hW hY]
      exact (Cert.NormIdeal.Value.final6 m c hX hW hY).symm

end Cert.Proof

end
-- ==== Proof.Gate.lean ====
/- The gate's gradient: what the kernel's blocks hold, and what the reference computes at finite arguments. -/
module

public import proofs.«01_k».proof.Proof.Reals
public import proofs.«01_k».proof.Proof.Gen.GateIdeal.Value
public import proofs.«01_k».proof.Proof.Gen.GateRefIdeal.Read

@[expose] public section

set_option maxRecDepth 16384

noncomputable section

namespace Cert.GateIdeal.Value

open Cert.GateIdeal Cert.GateIdeal.Gen Cert.Reals
open Idealize.ShloMosaic TcCoe Idealize.SL.Sem
open Pipeline (Dat)

/-- The cotangent of the gated row: the cotangent of the product times the weights. -/
def da (d : Fin 1024 → ℝ) (w : Fin 2816 → Fin 1024 → ℝ) (l : Fin 2816) : ℝ := ∑ k, d k * w l k

theorem pay1 {B0 : FVec Ideal S512x1024 .f32} {B1 : FVec Ideal S2816x1024 .bf16} {d : Fin 512 → Fin 1024 → ℝ}
    {w : Fin 2816 → Fin 1024 → ℝ} (h0 : ∀ r k, B0 (ix2 r k) = (d r k : EReal)) (h1 : ∀ l k, B1 (ix2 l k) = (w l k : EReal))
    (r : Fin 512) (l : Fin 2816) : k0_pay1 (F := Ideal) B0 B1 (ix2 r l) = (da (d r) w l : EReal) := by
  pointwise [k0_pay1, h0, h1]
  simp only [← EReal.coe_mul, sum_coe, da]

theorem pay2 (B0 : FVec Ideal S512x1024 .f32) (B1 : FVec Ideal S2816x1024 .bf16) (B2 : FVec Ideal S512x2816 .bf16) (j) :
    k0_pay2 (F := Ideal) B0 B1 B2 j = (show EReal from k0_pay1 (F := Ideal) B0 B1 j) * B2 j := by
  pointwise [k0_pay2]

theorem pay3 (B0 : FVec Ideal S512x1024 .f32) (B1 : FVec Ideal S2816x1024 .bf16) (B2 : FVec Ideal S512x2816 .bf16) (j) :
    k0_pay3 (F := Ideal) B0 B1 B2 j = (show EReal from k0_pay1 (F := Ideal) B0 B1 j) * B2 j := by
  pointwise [k0_pay3]

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The gradient of the gate and of what it gates, side by side. -/
def gateDx (z : Fin 5632 → ℝ) (d : Fin 2816 → ℝ) (b : Fin 5632) : ℝ :=
  if h : b.val < 2816 then d ⟨b.val, h⟩ * (z (hi ⟨b.val, h⟩) * dsilu (z b))
  else d ⟨b.val - 2816, by omega⟩ * silu (z (lo ⟨b.val - 2816, by omega⟩))

theorem gateDx_lo (z : Fin 5632 → ℝ) (d : Fin 2816 → ℝ) (l : Fin 2816) :
    gateDx z d (lo l) = d l * (z (hi l) * dsilu (z (lo l))) := dif_pos l.isLt

theorem gateDx_hi (z : Fin 5632 → ℝ) (d : Fin 2816 → ℝ) (l : Fin 2816) : gateDx z d (hi l) = d l * silu (z (lo l)) := by
  have e : (⟨(hi l).val - 2816, by have := (hi l).isLt; omega⟩ : Fin 2816) = l := Fin.ext (Nat.add_sub_cancel_left _ _)
  refine (dif_neg (show ¬(2816 + l.val < 2816) by omega)).trans ?_
  rw [e]

/-- An index of the columns is one of the gate's or one of what it gates. -/
theorem lo_or_hi (b : Fin 5632) : (∃ l, b = lo l) ∨ ∃ l, b = hi l := by
  by_cases h : b.val < 2816
  · exact .inl ⟨⟨b.val, h⟩, rfl⟩
  · exact .inr ⟨⟨b.val - 2816, by omega⟩, Fin.ext (by simp only [hi]; omega)⟩

section run

variable (m : (ℓ : Loc nD τ sig) → Buf (Elt Ideal) ℓ) (c : Dev nD)
variable {Z : Fin 4096 → Fin 5632 → ℝ} {W : Fin 2816 → Fin 1024 → ℝ} {D : Fin 4096 → Fin 1024 → ℝ}
  (hZ : ∀ a b, m ((c : Thread nD τ).loc main_arg0) (ix2 a b) = (Z a b : EReal))
  (hW : ∀ a b, m ((c : Thread nD τ).loc main_arg1) (ix2 a b) = (W a b : EReal))
  (hD : ∀ a b, m ((c : Thread nD τ).loc main_arg2) (ix2 a b) = (D a b : EReal))

/-- Row `r` of block `t`. -/
def row (t : Fin cfg0.N) (r : Fin 512) : Fin 4096 :=
  ⟨t.val * 512 + r.val, by have := lt_of_lt_of_eq t.isLt N_0; omega⟩

include hD in
theorem blk0 (t : Fin cfg0.N) (r : Fin 512) (k : Fin 1024) : iblk m c 0 t (ix2 r k) = (D (row t r) k : EReal) := by
  rw [← hD]; blk_ext [iblk, V, idx t, row]

include hW in
theorem blk1 (t : Fin cfg0.N) (l : Fin 2816) (k : Fin 1024) : iblk m c 1 t (ix2 l k) = (W l k : EReal) := by
  rw [← hW]; blk_point [iblk, V, idx t]

include hZ in
/-- The gate's activation, as the forward pass saves it. -/
theorem entry9 (a : Fin 4096) (l : Fin 2816) : V m c main_v9 (ix2 a l) = (silu (Z a (lo l)) : EReal) := by
  have e : m (c, Proc.tc.devRef main_arg0) (ix2 a (lo l)) = (Z a (lo l) : EReal) := hZ a (lo l)
  entry_read
  pointwise [lo] at e ⊢
  rw [e, sg_coe, ← EReal.coe_mul]; rfl

include hZ in
/-- What the forward pass saves for the gate's gradient. -/
theorem entry17 (a : Fin 4096) (l : Fin 2816) :
    V m c main_v17 (ix2 a l) = ((Z a (hi l) * dsilu (Z a (lo l)) : ℝ) : EReal) := by
  have e : m (c, Proc.tc.devRef main_arg0) (ix2 a (lo l)) = (Z a (lo l) : EReal) := hZ a (lo l)
  have e' : m (c, Proc.tc.devRef main_arg0) (ix2 a (hi l)) = (Z a (hi l) : EReal) := hZ a (hi l)
  entry_read
  pointwise [lo, hi] at e e' ⊢
  rw [e, e', sg_coe, ← EReal.coe_one]
  simp only [← EReal.coe_mul, ← EReal.coe_sub, ← EReal.coe_add]
  rw [dsilu, mul_assoc]

include hZ in
theorem blk2 (t : Fin cfg0.N) (r : Fin 512) (l : Fin 2816) : iblk m c 2 t (ix2 r l) = (silu (Z (row t r) (lo l)) : EReal) := by
  rw [← entry9 m c hZ]; blk_ext [iblk, idx t, row]

include hZ in
theorem blk3 (t : Fin cfg0.N) (r : Fin 512) (l : Fin 2816) :
    iblk m c 3 t (ix2 r l) = ((Z (row t r) (hi l) * dsilu (Z (row t r) (lo l)) : ℝ) : EReal) := by
  rw [← entry17 m c hZ]; blk_ext [iblk, idx t, row]

include hZ hW hD in
theorem left4 (t : Fin cfg0.N) (r : Fin 512) (b : Fin 5632) :
    out0_4 (F := Ideal) (iblk m c 0 t) (iblk m c 1 t) (iblk m c 2 t) (iblk m c 3 t) (ix2 r b)
      = (gateDx (Z (row t r)) (da (D (row t r)) W) b : EReal) := by
  frame_out
  canon_tiles x h
  · idx_vars x
    obtain rfl : r = x0 := Fin.ext h0
    obtain rfl : b = hi x1 := Fin.ext h1
    rw [pay3, pay1 (blk0 m c hD t) (blk1 m c hW t), blk2 m c hZ, gateDx_hi]
    exact (EReal.coe_mul _ _).symm
  · idx_vars x
    obtain rfl : r = x0 := Fin.ext h0
    obtain rfl : b = lo x1 := Fin.ext h1
    rw [pay2, pay1 (blk0 m c hD t) (blk1 m c hW t), blk3 m c hZ, gateDx_lo]
    exact (EReal.coe_mul _ _).symm

include hZ hW hD in
/-- The gradient, whole. -/
theorem final4 : (dats m 0 c).arrAt 4 (cfgs 0).N = real2 fun a b => gateDx (Z a) (da (D a) W) b := by
  refine (dats m 0 c).arrAt_eq_of_covers 4 _ (by decide +kernel) fun t hf y => ?_
  blk_simp
  rw [after0_4, show (win0_4.blk t).view.emb y = ix2 (row t (y 0)) (y 1) by blk_ext [idx t, row]]
  exact (congrArg _ (eq_ix2 y)).trans (left4 m c hZ hW hD t (y 0) (y 1))

end run

end Cert.GateIdeal.Value

namespace Cert.GateRefIdeal.Read

open Cert.GateRefIdeal Cert.Reals Cert.GateIdeal.Value
open Idealize.ShloMosaic TcCoe

variable {A0 : FVec Ideal S4096x5632 .f32} {A1 : FVec Ideal S2816x1024 .f32} {A2 : FVec Ideal S4096x1024 .f32}
  {Z : Fin 4096 → Fin 5632 → ℝ} {W : Fin 2816 → Fin 1024 → ℝ} {D : Fin 4096 → Fin 1024 → ℝ}
  (hZ : ∀ a b, A0 (ix2 a b) = (Z a b : EReal)) (hW : ∀ a b, A1 (ix2 a b) = (W a b : EReal))
  (hD : ∀ a b, A2 (ix2 a b) = (D a b : EReal))

include hZ in
theorem gate (a : Fin 4096) (l : Fin 2816) : val_main_v0 (F := Ideal) A0 (ix2 a l) = (Z a (lo l) : EReal) := by
  rw [← hZ]; pointwise [val_main_v0, lo]

include hZ in
theorem gated (a : Fin 4096) (l : Fin 2816) : val_main_v1 (F := Ideal) A0 (ix2 a l) = (Z a (hi l) : EReal) := by
  rw [← hZ]; pointwise [val_main_v1, hi]

include hZ in
theorem logistic (a : Fin 4096) (l : Fin 2816) : val_main_v2_2 (F := Ideal) A0 (ix2 a l) = (sg (Z a (lo l)) : EReal) := by
  pointwise [val_main_v2_2, val_main_call0_v4, val_main_call0_cst_0, val_main_call0_v3, val_main_call0_v2, val_main_call0_cst,
    val_main_call0_v1, val_main_call0_v0, gate hZ]
  exact sg_coe _

include hW hD in
theorem product (a : Fin 4096) (l : Fin 2816) : val_main_v5 (F := Ideal) A1 A2 (ix2 a l) = (da (D a) W l : EReal) := by
  pointwise [val_main_v5, hW, hD]
  simp only [← EReal.coe_mul, sum_coe, da]

include hZ hW hD in
/-- The reference's gradient. -/
theorem grad : val_main_v10 (F := Ideal) A0 A1 A2 = real2 fun a b => gateDx (Z a) (da (D a) W) b := by
  funext i; idx_vars i
  show _ = ((gateDx (Z i0) (da (D i0) W) i1 : ℝ) : EReal)
  obtain ⟨l, rfl⟩ | ⟨l, rfl⟩ := lo_or_hi i1
  · have e : val_main_v8 (F := Ideal) A0 A1 A2 (ix2 i0 l) = ((gateDx (Z i0) (da (D i0) W) (lo l) : ℝ) : EReal) := by
      pointwise [val_main_v8, val_main_call1_v1, val_main_call1_v2, val_main_call1_v0, val_main_v7, val_main_v2_1,
        val_main_call0_v7, val_main_call0_v6, val_main_call0_cst_1, gate hZ, gated hZ, logistic hZ, product hW hD]
      rw [← EReal.coe_one]
      simp only [← EReal.coe_mul, ← EReal.coe_sub, ← EReal.coe_add]
      rw [gateDx_lo, dsilu]; congr 1; ring
    rw [← e]
    pointwise [val_main_v10, val_main_v9, lo]
  · have e : val_main_v6 (F := Ideal) A0 A1 A2 (ix2 i0 l) = ((gateDx (Z i0) (da (D i0) W) (hi l) : ℝ) : EReal) := by
      pointwise [val_main_v6, val_main_v2_0, gate hZ, logistic hZ, product hW hD]
      simp only [← EReal.coe_mul]
      rw [gateDx_hi, silu, mul_comm]
    rw [← e]
    pointwise [val_main_v10, val_main_v9, hi]

end Cert.GateRefIdeal.Read

end
-- ==== Proof.GateClaim.lean ====
/- The gate's gradient: what the kernel leaves is what the reference computes. -/
module

public import proofs.«01_k».proof.Defs
public import proofs.«01_k».proof.Proof.Gate
public import proofs.«01_k».proof.Proof.Gen.Pre_gate_finite

@[expose] public section

set_option maxRecDepth 16384

noncomputable section

namespace Cert.Proof

open Cert.Reals
open Idealize.ShloMosaic TcCoe Idealize.SL.Sem

/-- The gradient of the gate and of what it gates: the kernel's is the reference's. -/
theorem algebraic_gate : Cert.algebraic_GateIdeal_GateRefIdeal_pre_gate_finite := by
  pair_intro
  · run_from Cert.GateIdeal.Gen.run_main m g
  · run_from Cert.GateRefIdeal.Value.run m' g'
    have h := hpre c
    choose Z hZ using fun a b => real_of_lt (by
      have := congrFun h.1 (ix2 a b)
      pointwise [Cert.Pre_gate_finite.fn] at this
      exact this)
    choose W hW using fun a b => real_of_lt (by
      have := congrFun h.2.1 (ix2 a b)
      pointwise [Cert.Pre_gate_finite.fn] at this
      exact this)
    choose D hD using fun a b => real_of_lt (by
      have := congrFun h.2.2 (ix2 a b)
      pointwise [Cert.Pre_gate_finite.fn] at this
      exact this)
    refine (Cert.GateRefIdeal.Read.val_main_v10_eq _ _ _).trans ?_
    rw [(hagree c).2.2, Cert.GateRefIdeal.Read.grad hZ hW hD]
    exact (Cert.GateIdeal.Value.final4 m c hZ hW hD).symm

end Cert.Proof

end
-- ==== Proof.Cout.lean ====
/- The conformer block's norm, swish and second product, backwards: what the kernel's blocks hold. -/
module

public import proofs.«01_k».proof.Proof.Reals
public import proofs.«01_k».proof.Proof.Gen.CoutIdeal.Value

@[expose] public section

set_option maxRecDepth 16384

noncomputable section

namespace Cert.CoutIdeal.Value

open Cert.CoutIdeal Cert.CoutIdeal.Gen Cert.Reals
open Idealize.ShloMosaic TcCoe Idealize.SL.Sem
open Pipeline (Dat)

/-- The normed row with its gain and shift. -/
def nrm (x g b : Fin 1024 → ℝ) (l : Fin 1024) : ℝ := xc x l * rd x * g l + b l
/-- The cotangent of the normed row. -/
def dn (d : Fin 1024 → ℝ) (w : Fin 1024 → Fin 1024 → ℝ) (x g b : Fin 1024 → ℝ) (l : Fin 1024) : ℝ :=
  (∑ k, d k * w l k) * dsilu (nrm x g b l)

section pay

variable {B0 B2 : FVec Ideal S512x1024 .f32} {B1 : FVec Ideal S1024x1024 .bf16} {B3 B4 : FVec Ideal S1x1024 .f32}
  {d x : Fin 512 → Fin 1024 → ℝ} {w : Fin 1024 → Fin 1024 → ℝ} {g b : Fin 1024 → ℝ}
  (h0 : ∀ r k, B0 (ix2 r k) = (d r k : EReal)) (h1 : ∀ l k, B1 (ix2 l k) = (w l k : EReal))
  (h2 : ∀ r k, B2 (ix2 r k) = (x r k : EReal)) (h3 : ∀ k, B3 (ix2 0 k) = (g k : EReal))
  (h4 : ∀ k, B4 (ix2 0 k) = (b k : EReal))

include h2 in
theorem pay2 (r : Fin 512) (l : Fin 1024) : k0_pay2 (F := Ideal) B2 (ix2 r l) = (xc (x r) l : EReal) := by
  pointwise [k0_pay2, h2]
  simp only [lit_1024, sum_coe, div_1024, ← EReal.coe_sub]; rfl

include h2 in
theorem pay3 (r : Fin 512) (z : Fin 1) : k0_pay3 (F := Ideal) B2 (ix2 r z) = (rd (x r) : EReal) := by
  obtain rfl : z = 0 := Subsingleton.elim _ _
  pointwise [k0_pay3, pay2 h2]
  simp only [lit_1024, lit_eps5, ← EReal.coe_mul, ← EReal.coe_add, sum_coe, div_1024, rd_coe]

include h2 in
theorem pay4 (r : Fin 512) (l : Fin 1024) : k0_pay4 (F := Ideal) B2 (ix2 r l) = ((xc (x r) l * rd (x r) : ℝ) : EReal) := by
  pointwise [k0_pay4, pay2 h2, pay3 h2]
  exact (EReal.coe_mul _ _).symm

include h0 h1 h2 h3 h4 in
theorem pay5 (r : Fin 512) (l : Fin 1024) : k0_pay5 (F := Ideal) B0 B1 B2 B3 B4 (ix2 r l) = (dn (d r) w (x r) g b l : EReal) := by
  pointwise [k0_pay5, pay4 h2, h0, h1, h3, h4]
  simp only [← EReal.coe_mul, ← EReal.coe_add, logistic_coe', sum_coe]
  rw [← EReal.coe_one]
  simp only [← EReal.coe_mul, ← EReal.coe_add, ← EReal.coe_sub]
  rw [dn, dsilu, nrm]; congr 1; ring

include h0 h1 h2 h3 h4 in
theorem pay6 (r : Fin 512) (l : Fin 1024) :
    k0_pay6 (F := Ideal) (k0_pay3 B2) (k0_pay4 B2) (k0_pay5 B0 B1 B2 B3 B4) B3 (ix2 r l)
      = (lnDx (fun k => dn (d r) w (x r) g b k * g k) (x r) l : EReal) := by
  pointwise [k0_pay6, pay5 h0 h1 h2 h3 h4, pay3 h2, pay4 h2, h3]
  simp only [lit_1024, ← EReal.coe_mul, ← EReal.coe_sub, sum_coe, div_1024, lnDx]

include h0 h1 h2 h3 h4 in
theorem pay7 (l : Fin 1024) : k0_pay7 (F := Ideal) (k0_pay4 B2) (k0_pay5 B0 B1 B2 B3 B4) (ix2 0 l)
    = ((∑ r, dn (d r) w (x r) g b l * (xc (x r) l * rd (x r)) : ℝ) : EReal) := by
  pointwise [k0_pay7, pay5 h0 h1 h2 h3 h4, pay4 h2]
  simp only [← EReal.coe_mul, sum_coe]

include h0 h1 h2 h3 h4 in
theorem pay9 (l : Fin 1024) :
    k0_pay9 (F := Ideal) (k0_pay5 B0 B1 B2 B3 B4) (ix2 0 l) = ((∑ r, dn (d r) w (x r) g b l : ℝ) : EReal) := by
  pointwise [k0_pay9, pay5 h0 h1 h2 h3 h4]
  simp only [sum_coe]

include h0 in
theorem pay11 (l : Fin 1024) : k0_pay11 (F := Ideal) B0 (ix2 0 l) = ((∑ r, d r l : ℝ) : EReal) := by
  pointwise [k0_pay11, h0]
  simp only [sum_coe]

theorem pay8 (u v : FVec Ideal S512x1024 .f32) (s : FVec Ideal S1x1024 .f32) (j) :
    k0_pay8 (F := Ideal) u v s j = s j + k0_pay7 (F := Ideal) u v j := by pointwise [k0_pay8]
theorem pay10 (v : FVec Ideal S512x1024 .f32) (s : FVec Ideal S1x1024 .f32) (j) :
    k0_pay10 (F := Ideal) v s j = s j + k0_pay9 (F := Ideal) v j := by pointwise [k0_pay10]
theorem pay1 (v s : FVec Ideal S1x1024 .f32) (j) : k0_pay1 (F := Ideal) v s j = s j + v j := by pointwise [k0_pay1]

end pay

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

section run

variable (m : (ℓ : Loc nD τ sig) → Buf (Elt Ideal) ℓ) (c : Dev nD)
variable {X D : Fin 4096 → Fin 1024 → ℝ} {W : Fin 1024 → Fin 1024 → ℝ} {G B : Fin 1024 → ℝ}
  (hX : ∀ a b, m ((c : Thread nD τ).loc main_arg0) (ix2 a b) = (X a b : EReal))
  (hG : ∀ b, m ((c : Thread nD τ).loc main_arg1) (ix1 b) = (G b : EReal))
  (hB : ∀ b, m ((c : Thread nD τ).loc main_arg2) (ix1 b) = (B b : EReal))
  (hW : ∀ a b, m ((c : Thread nD τ).loc main_arg3) (ix2 a b) = (W a b : EReal))
  (hD : ∀ a b, m ((c : Thread nD τ).loc main_arg4) (ix2 a b) = (D a b : EReal))

/-- Row `r` of block `t`. -/
abbrev row (t : Fin cfg0.N) (r : Fin 512) : Fin 4096 := rowOf N_0 t r

include hD in
theorem blk0 (t : Fin cfg0.N) (r : Fin 512) (k : Fin 1024) : iblk m c 0 t (ix2 r k) = (D (row t r) k : EReal) := by
  rw [← hD]; blk_ext [iblk, V, idx t, row, rowOf]
include hW in
theorem blk1 (t : Fin cfg0.N) (l : Fin 1024) (k : Fin 1024) : iblk m c 1 t (ix2 l k) = (W l k : EReal) := by
  rw [← hW]; blk_point [iblk, V, idx t]
include hX in
theorem blk2 (t : Fin cfg0.N) (r : Fin 512) (k : Fin 1024) : iblk m c 2 t (ix2 r k) = (X (row t r) k : EReal) := by
  rw [← hX]; blk_ext [iblk, V, idx t, row, rowOf]
include hG in
theorem blk3 (t : Fin cfg0.N) (k : Fin 1024) : iblk m c 3 t (ix2 0 k) = (G k : EReal) := by
  rw [← hG]; blk_point [iblk, V, idx t]
include hB in
theorem blk4 (t : Fin cfg0.N) (k : Fin 1024) : iblk m c 4 t (ix2 0 k) = (B k : EReal) := by
  rw [← hB]; blk_point [iblk, V, idx t]

include hX hG hB hW hD in
theorem left5 (t : Fin cfg0.N) (r : Fin 512) (l : Fin 1024) :
    (outsAt0 m c t.val t.isLt).1 (ix2 r l)
      = (lnDx (fun k => dn (D (row t r)) W (X (row t r)) G B k * G k) (X (row t r)) l : EReal) := by
  have ht := lt_of_lt_of_eq t.isLt N_0
  by_cases h : t.val % 8 = 0
  · rw [outsAt0_A m c t h (by omega) h (by omega) h (by omega)]; frame_out
    exact pay6 (blk0 m c hD t) (blk1 m c hW t) (blk2 m c hX t) (blk3 m c hG t) (blk4 m c hB t) r l
  · rw [outsAt0_B m c t h (by omega) h (by omega) h (by omega)]; frame_out
    exact pay6 (blk0 m c hD t) (blk1 m c hW t) (blk2 m c hX t) (blk3 m c hG t) (blk4 m c hB t) r l

include hX hG hB hW hD in
/-- The gradient of the norm's input, whole. -/
theorem final5 : (dats m 0 c).arrAt 5 (cfgs 0).N
    = real2 fun a l => lnDx (fun k => dn (D a) W (X a) G B k * G k) (X a) l := by
  refine (dats m 0 c).arrAt_eq_of_covers 5 _ (by decide +kernel) fun t hf y => ?_
  blk_simp
  rw [after0_5, show (win0_5.blk t).view.emb y = ix2 (row t (y 0)) (y 1) by blk_ext [idx t, row, rowOf]]
  exact (congrArg _ (eq_ix2 y)).trans (left5 m c hX hG hB hW hD t (y 0) (y 1))

include hX hG hB hW hD in
theorem left6 (t : Fin cfg0.N) (l : Fin 1024) (hr : t.val % 8 = 7) :
    (outsAt0 m c t.val t.isLt).2.1 (ix2 0 l) = ((∑ a, dn (D a) W (X a) G B l * (xc (X a) l * rd (X a)) : ℝ) : EReal) :=
  acc_rows N_0 (fun n h => (outsAt0 m c n h).2.1 (ix2 0 l)) (fun a => dn (D a) W (X a) G B l * (xc (X a) l * rd (X a)))
    (fun t h => by
      have ht := lt_of_lt_of_eq t.isLt N_0
      show (outsAt0 m c t.val t.isLt).2.1 (ix2 0 l) = _
      rw [outsAt0_A m c t h (by omega) h (by omega) h (by omega)]; frame_out
      exact pay7 (blk0 m c hD t) (blk1 m c hW t) (blk2 m c hX t) (blk3 m c hG t) (blk4 m c hB t) l)
    (fun t h => by
      have ht := lt_of_lt_of_eq t.isLt N_0
      show (outsAt0 m c t.val t.isLt).2.1 (ix2 0 l) = (outsAt0 m c (t.val - 1) _).2.1 (ix2 0 l) + _
      rw [outsAt0_B m c t h (by omega) h (by omega) h (by omega)]; frame_out
      exact (pay8 _ _ _ _).trans (congrArg _ (pay7 (blk0 m c hD t) (blk1 m c hW t) (blk2 m c hX t) (blk3 m c hG t) (blk4 m c hB t) l)))
    t hr

include hX hG hB hW hD in
/-- The gradient of the gain, summed over the points. -/
theorem final6 : (dats m 0 c).arrAt 6 (cfgs 0).N = real2 fun (_ : Fin 1) l => ∑ a, dn (D a) W (X a) G B l * (xc (X a) l * rd (X a)) := by
  refine (dats m 0 c).arrAt_eq_of_covers 6 _ (by decide +kernel) fun t hf y => ?_
  blk_simp
  rw [after0_6, show (win0_6.blk t).view.emb y = ix2 0 (y 1) by blk_ext [idx t]]
  exact (congrArg _ (show y = ix2 0 (y 1) by blk_ext)).trans (left6 m c hX hG hB hW hD t (y 1) ((flush0_6 t).mp hf))

include hX hG hB hW hD in
theorem left7 (t : Fin cfg0.N) (l : Fin 1024) (hr : t.val % 8 = 7) :
    (outsAt0 m c t.val t.isLt).2.2.1 (ix2 0 l) = ((∑ a, dn (D a) W (X a) G B l : ℝ) : EReal) :=
  acc_rows N_0 (fun n h => (outsAt0 m c n h).2.2.1 (ix2 0 l)) (fun a => dn (D a) W (X a) G B l)
    (fun t h => by
      have ht := lt_of_lt_of_eq t.isLt N_0
      show (outsAt0 m c t.val t.isLt).2.2.1 (ix2 0 l) = _
      rw [outsAt0_A m c t h (by omega) h (by omega) h (by omega)]; frame_out
      exact pay9 (blk0 m c hD t) (blk1 m c hW t) (blk2 m c hX t) (blk3 m c hG t) (blk4 m c hB t) l)
    (fun t h => by
      have ht := lt_of_lt_of_eq t.isLt N_0
      show (outsAt0 m c t.val t.isLt).2.2.1 (ix2 0 l) = (outsAt0 m c (t.val - 1) _).2.2.1 (ix2 0 l) + _
      rw [outsAt0_B m c t h (by omega) h (by omega) h (by omega)]; frame_out
      exact (pay10 _ _ _).trans (congrArg _ (pay9 (blk0 m c hD t) (blk1 m c hW t) (blk2 m c hX t) (blk3 m c hG t) (blk4 m c hB t) l)))
    t hr

include hX hG hB hW hD in
/-- The gradient of the shift, summed over the points. -/
theorem final7 : (dats m 0 c).arrAt 7 (cfgs 0).N = real2 fun (_ : Fin 1) l => ∑ a, dn (D a) W (X a) G B l := by
  refine (dats m 0 c).arrAt_eq_of_covers 7 _ (by decide +kernel) fun t hf y => ?_
  blk_simp
  rw [after0_7, show (win0_7.blk t).view.emb y = ix2 0 (y 1) by blk_ext [idx t]]
  exact (congrArg _ (show y = ix2 0 (y 1) by blk_ext)).trans (left7 m c hX hG hB hW hD t (y 1) ((flush0_7 t).mp hf))

include hD in
theorem left8 (t : Fin cfg0.N) (l : Fin 1024) (hr : t.val % 8 = 7) :
    (outsAt0 m c t.val t.isLt).2.2.2 (ix2 0 l) = ((∑ a, D a l : ℝ) : EReal) :=
  acc_rows N_0 (fun n h => (outsAt0 m c n h).2.2.2 (ix2 0 l)) (fun a => D a l)
    (fun t h => by
      have ht := lt_of_lt_of_eq t.isLt N_0
      show (outsAt0 m c t.val t.isLt).2.2.2 (ix2 0 l) = _
      rw [outsAt0_A m c t h (by omega) h (by omega) h (by omega)]; frame_out
      exact pay11 (blk0 m c hD t) l)
    (fun t h => by
      have ht := lt_of_lt_of_eq t.isLt N_0
      show (outsAt0 m c t.val t.isLt).2.2.2 (ix2 0 l) = (outsAt0 m c (t.val - 1) _).2.2.2 (ix2 0 l) + _
      rw [outsAt0_B m c t h (by omega) h (by omega) h (by omega)]; frame_out
      exact (pay1 _ _ _).trans (congrArg _ (pay11 (blk0 m c hD t) l)))
    t hr

include hD in
/-- The gradient of the second product's shift, summed over the points. -/
theorem final8 : (dats m 0 c).arrAt 8 (cfgs 0).N = real2 fun (_ : Fin 1) l => ∑ a, D a l := by
  refine (dats m 0 c).arrAt_eq_of_covers 8 _ (by decide +kernel) fun t hf y => ?_
  blk_simp
  rw [after0_8, show (win0_8.blk t).view.emb y = ix2 0 (y 1) by blk_ext [idx t]]
  exact (congrArg _ (show y = ix2 0 (y 1) by blk_ext)).trans (left8 m c hD t (y 1) ((flush0_8 t).mp hf))

end run

end Cert.CoutIdeal.Value

end
-- ==== Proof.CoutRef.lean ====
/- The conformer block's norm, swish and second product, backwards: what the reference computes at finite arguments. -/
module

public import proofs.«01_k».proof.Proof.Cout
public import proofs.«01_k».proof.Proof.Gen.CoutRefIdeal.Read

@[expose] public section

set_option maxRecDepth 16384

noncomputable section

namespace Cert.CoutRefIdeal.Read

open Cert.CoutRefIdeal Cert.Reals Cert.CoutIdeal.Value
open Idealize.ShloMosaic TcCoe

variable {A0 A4 : FVec Ideal S4096x1024 .f32} {A1 A2 : FVec Ideal S1024 .f32} {A3 : FVec Ideal S1024x1024 .f32}
  {X D : Fin 4096 → Fin 1024 → ℝ} {W : Fin 1024 → Fin 1024 → ℝ} {G B : Fin 1024 → ℝ}
  (hX : ∀ a b, A0 (ix2 a b) = (X a b : EReal)) (hG : ∀ b, A1 (ix1 b) = (G b : EReal)) (hB : ∀ b, A2 (ix1 b) = (B b : EReal))
  (hW : ∀ a b, A3 (ix2 a b) = (W a b : EReal)) (hD : ∀ a b, A4 (ix2 a b) = (D a b : EReal))

include hX in
theorem centred (a : Fin 4096) (l : Fin 1024) : val_main_v6 (F := Ideal) A0 (ix2 a l) = (xc (X a) l : EReal) := by
  pointwise [val_main_v6, val_main_v5, val_main_v4, val_main_v3, val_main_v2, val_main_v1, val_main_cst_0, val_main_cst_1, hX]
  simp only [lit_1024, sum_coe, div_1024, ← EReal.coe_sub]; rfl

include hX in
theorem variance (a : Fin 4096) (z : Fin 1) : val_main_v13 (F := Ideal) A0 (ix2 a z) = (va (X a) : EReal) := by
  obtain rfl : z = 0 := Subsingleton.elim _ _
  pointwise [val_main_v13, val_main_v12, val_main_v11, val_main_v10, val_main_v9, val_main_v8, val_main_v7, val_main_cst_2,
    val_main_cst_3, val_main_cst_4, centred hX]
  simp only [lit_1024, lit_eps5, ← EReal.coe_mul, ← EReal.coe_add, sum_coe, div_1024, va]

include hX in
theorem root (a : Fin 4096) (z : Fin 1) : val_main_v14 (F := Ideal) A0 (ix2 a z) = (rd (X a) : EReal) := by
  pointwise [val_main_v14, variance hX]
  exact rd_coe _

include hX in
theorem slope (a : Fin 4096) (z : Fin 1) :
    val_main_v17 (F := Ideal) A0 (ix2 a z) = ((-(1 / 2) * (rd (X a) / va (X a)) : ℝ) : EReal) := by
  pointwise [val_main_v17, val_main_v16, val_main_v15, val_main_cst_5, root hX, variance hX]
  simp only [lit_neg_half, ← EReal.coe_mul, div_coe' _ (va_pos (X a)).ne']

include hX in
theorem normed (a : Fin 4096) (l : Fin 1024) :
    val_main_v19 (F := Ideal) A0 (ix2 a l) = ((xc (X a) l * rd (X a) : ℝ) : EReal) := by
  pointwise [val_main_v19, val_main_v18, centred hX, root hX]
  exact (EReal.coe_mul _ _).symm

include hX hG hB in
theorem affine (a : Fin 4096) (l : Fin 1024) : val_main_v25 (F := Ideal) A0 A1 A2 (ix2 a l) = (nrm (X a) G B l : EReal) := by
  pointwise [val_main_v25, val_main_v24, val_main_v23, val_main_v22, val_main_v21, val_main_v20, normed hX, hG, hB]
  simp only [← EReal.coe_mul, ← EReal.coe_add, nrm]

include hX hG hB in
theorem logistic (a : Fin 4096) (l : Fin 1024) :
    val_main_v26_2 (F := Ideal) A0 A1 A2 (ix2 a l) = (sg (nrm (X a) G B l) : EReal) := by
  pointwise [val_main_v26_2, val_main_call0_v4, val_main_call0_cst_0, val_main_call0_v3, val_main_call0_v2, val_main_call0_cst,
    val_main_call0_v1, val_main_call0_v0, affine hX hG hB]
  exact sg_coe _

include hW hD in
theorem product (a : Fin 4096) (l : Fin 1024) :
    val_main_v35 (F := Ideal) A3 A4 (ix2 a l) = ((∑ k, D a k * W l k : ℝ) : EReal) := by
  pointwise [val_main_v35, val_main_v31, hW, hD]
  simp only [← EReal.coe_mul, sum_coe]

include hX hG hB hW hD in
/-- The cotangent of the normed row. -/
theorem swish (a : Fin 4096) (l : Fin 1024) :
    val_main_v36 (F := Ideal) A0 A1 A2 A3 A4 (ix2 a l) = (dn (D a) W (X a) G B l : EReal) := by
  pointwise [val_main_v36, val_main_call1_v2, val_main_call1_v1, val_main_call1_v0, val_main_v26_1, val_main_call0_v7,
    val_main_call0_v6, val_main_call0_cst_1, affine hX hG hB, logistic hX hG hB, product hW hD]
  rw [← EReal.coe_one]
  simp only [← EReal.coe_mul, ← EReal.coe_sub, ← EReal.coe_add]
  rw [dn, dsilu]; congr 1; ring

include hX hG hB hW hD in
theorem gained (a : Fin 4096) (l : Fin 1024) :
    val_main_v44 (F := Ideal) A0 A1 A2 A3 A4 (ix2 a l) = ((dn (D a) W (X a) G B l * G l : ℝ) : EReal) := by
  pointwise [val_main_v44, val_main_v43, val_main_v20, swish hX hG hB hW hD, hG]
  exact (EReal.coe_mul _ _).symm

include hX hG hB hW hD in
theorem through (a : Fin 4096) : val_main_v54 (F := Ideal) A0 A1 A2 A3 A4 (ix1 a)
    = (((-(1 / 2) * (rd (X a) / va (X a)) * ∑ k, dn (D a) W (X a) G B k * G k * xc (X a) k) / 1024 : ℝ) : EReal) := by
  pointwise [val_main_v54, val_main_v53, val_main_v52, val_main_v51, val_main_v48, val_main_v47, val_main_v46,
    val_main_cst_12, val_main_cst_13, val_main_cst_14, gained hX hG hB hW hD, slope hX, centred hX]
  simp only [lit_1024, ← EReal.coe_mul, ← EReal.coe_add, sum_coe, div_1024]
  rw [Finset.univ_unique, Finset.sum_singleton, mul_comm (-(1 / 2) * _)]
  simp only [mul_comm, mul_left_comm, mul_assoc]

include hX hG hB hW hD in
theorem about (a : Fin 4096) (l : Fin 1024) : val_main_v59 (F := Ideal) A0 A1 A2 A3 A4 (ix2 a l)
    = (dxc (fun k => dn (D a) W (X a) G B k * G k) (X a) l : EReal) := by
  pointwise [val_main_v59, val_main_v58, val_main_v57, val_main_v56, val_main_v55, val_main_v50, val_main_v49,
    through hX hG hB hW hD, gained hX hG hB hW hD, root hX, centred hX]
  simp only [← EReal.coe_mul, ← EReal.coe_add]
  rw [dxc]; congr 1; ring

include hX hG hB hW hD in
/-- The reference's gradient of the norm's input. -/
theorem gradX : val_main_v67 (F := Ideal) A0 A1 A2 A3 A4
    = real2 fun a l => lnDx (fun k => dn (D a) W (X a) G B k * G k) (X a) l := by
  funext i; idx_vars i
  show _ = ((lnDx (fun k => dn (D i0) W (X i0) G B k * G k) (X i0) i1 : ℝ) : EReal)
  pointwise [val_main_v67, val_main_v66, val_main_v65, val_main_v64, val_main_v63, val_main_v62, val_main_v61, val_main_v60,
    val_main_cst_15, val_main_cst_16, val_main_cst_17, about hX hG hB hW hD]
  simp only [lit_1024, ← EReal.coe_neg, sum_coe, div_1024]
  simp only [← EReal.coe_add]
  rw [lnDx_chain]; congr 1
  rw [Finset.univ_unique, Finset.sum_singleton, Finset.sum_neg_distrib]; ring

include hX hG hB hW hD in
/-- The reference's gradient of the gain. -/
theorem gradG : val_main_v68 (F := Ideal) A0 A1 A2 A3 A4 = real2 fun (_ : Fin 1) l => ∑ a, dn (D a) W (X a) G B l * (xc (X a) l * rd (X a)) := by
  funext i; idx_vars i
  show _ = ((∑ a, dn (D a) W (X a) G B i1 * (xc (X a) i1 * rd (X a)) : ℝ) : EReal)
  pointwise [val_main_v68, val_main_v45, val_main_v42, val_main_v41, val_main_v40, val_main_cst_10, val_main_cst_11, normed hX,
    swish hX hG hB hW hD]
  simp only [← EReal.coe_mul, ← EReal.coe_add, sum_coe]
  rw [Finset.univ_unique, Finset.sum_singleton]
  simp only [mul_comm]

include hX hG hB hW hD in
/-- The reference's gradient of the shift. -/
theorem gradB : val_main_v69 (F := Ideal) A0 A1 A2 A3 A4 = real2 fun (_ : Fin 1) l => ∑ a, dn (D a) W (X a) G B l := by
  funext i; idx_vars i
  show _ = ((∑ a, dn (D a) W (X a) G B i1 : ℝ) : EReal)
  pointwise [val_main_v69, val_main_v39, val_main_v38, val_main_v37, val_main_cst_8, val_main_cst_9, swish hX hG hB hW hD]
  simp only [← EReal.coe_mul, ← EReal.coe_add, sum_coe]
  rw [Finset.univ_unique, Finset.sum_singleton]

include hD in
/-- The reference's gradient of the second product's shift. -/
theorem gradB2 : val_main_v70 (F := Ideal) A4 = real2 fun (_ : Fin 1) l => ∑ a, D a l := by
  funext i; idx_vars i
  show _ = ((∑ a, D a i1 : ℝ) : EReal)
  pointwise [val_main_v70, val_main_v34, val_main_v33, val_main_v32, val_main_cst_6, val_main_cst_7, hD]
  simp only [← EReal.coe_mul, ← EReal.coe_add, sum_coe]
  rw [Finset.univ_unique, Finset.sum_singleton]

end Cert.CoutRefIdeal.Read

end
-- ==== Proof.CoutClaim.lean ====
/- The conformer block's norm, swish and second product, backwards: what the kernel leaves is what the reference computes. -/
module

public import proofs.«01_k».proof.Defs
public import proofs.«01_k».proof.Proof.CoutRef
public import proofs.«01_k».proof.Proof.Gen.Pre_cout_finite

@[expose] public section

set_option maxRecDepth 16384
set_option maxHeartbeats 1000000

noncomputable section

namespace Cert.Proof

open Cert.Reals
open Idealize.ShloMosaic TcCoe Idealize.SL.Sem

/-- The four gradients: the kernel's are the reference's. -/
theorem algebraic_cout : Cert.algebraic_CoutIdeal_CoutRefIdeal_pre_cout_finite := by
  pair_intro
  · run_from Cert.CoutIdeal.Gen.run_main m g
  · run_from Cert.CoutRefIdeal.Value.run m' g'
    all_goals
      have h := hpre c
      choose X hX using fun a b => real_of_lt (by
        have := congrFun h.1 (ix2 a b)
        pointwise [Cert.Pre_cout_finite.fn] at this
        exact this)
      choose G hG using fun b => real_of_lt (by
        have := congrFun h.2.1 (ix1 b)
        pointwise [Cert.Pre_cout_finite.fn] at this
        exact this)
      choose B hB using fun b => real_of_lt (by
        have := congrFun h.2.2.1 (ix1 b)
        pointwise [Cert.Pre_cout_finite.fn] at this
        exact this)
      choose W hW using fun a b => real_of_lt (by
        have := congrFun h.2.2.2.1 (ix2 a b)
        pointwise [Cert.Pre_cout_finite.fn] at this
        exact this)
      choose D hD using fun a b => real_of_lt (by
        have := congrFun h.2.2.2.2 (ix2 a b)
        pointwise [Cert.Pre_cout_finite.fn] at this
        exact this)
    · refine (Cert.CoutRefIdeal.Read.val_main_v67_eq m' c).trans ?_
      rw [(hagree c).1, (hagree c).2.1, (hagree c).2.2.1, (hagree c).2.2.2.1, (hagree c).2.2.2.2,
        Cert.CoutRefIdeal.Read.gradX hX hG hB hW hD]
      exact (Cert.CoutIdeal.Value.final5 m c hX hG hB hW hD).symm
    · refine (Cert.CoutRefIdeal.Read.val_main_v68_eq m' c).trans ?_
      rw [(hagree c).1, (hagree c).2.1, (hagree c).2.2.1, (hagree c).2.2.2.1, (hagree c).2.2.2.2,
        Cert.CoutRefIdeal.Read.gradG hX hG hB hW hD]
      exact (Cert.CoutIdeal.Value.final6 m c hX hG hB hW hD).symm
    · refine (Cert.CoutRefIdeal.Read.val_main_v69_eq m' c).trans ?_
      rw [(hagree c).1, (hagree c).2.1, (hagree c).2.2.1, (hagree c).2.2.2.1, (hagree c).2.2.2.2,
        Cert.CoutRefIdeal.Read.gradB hX hG hB hW hD]
      exact (Cert.CoutIdeal.Value.final7 m c hX hG hB hW hD).symm
    · refine (Cert.CoutRefIdeal.Read.val_main_v70_eq _).trans ?_
      rw [Cert.CoutRefIdeal.Read.gradB2 hD]
      exact (Cert.CoutIdeal.Value.final8 m c hD).symm

end Cert.Proof

end
-- ==== Proof.Grp.lean ====
/- The grouped map and scale of the pooling mixer: the gradients that the kernel's blocks leave. -/
module

public import proofs.«01_k».proof.Proof.Reals
public import proofs.«01_k».proof.Proof.Gen.GrpIdeal.Value

@[expose] public section

set_option maxRecDepth 16384

noncomputable section

namespace Cert.GrpIdeal.Value

open Cert.GrpIdeal Cert.GrpIdeal.Gen Cert.Reals
open Idealize.ShloMosaic TcCoe Idealize.SL.Sem
open Pipeline (Dat)

/-! ## The gradients -/

variable (D M : Fin 4096 → Fin 1024 → EReal) (W : Fin 4 → Fin 256 → Fin 256 → EReal) (S : Fin 1024 → EReal)

/-- The gradient of the mixed tokens. -/
def dmx (a : Fin 4096) (l : Fin 1024) : EReal := ∑ k, D a (cg (gr l) k) * S (cg (gr l) k) * W (gr l) (gc l) k
/-- A token's part in the gradient of a group's map. -/
def dwg (g : Fin 4) (i j : Fin 256) (a : Fin 4096) : EReal := M a (cg g i) * (D a (cg g j) * S (cg g j))
/-- A token's part in the gradient of the scale. -/
def dsc (l : Fin 1024) (a : Fin 4096) : EReal := D a l * ∑ k, M a (cg (gr l) k) * W (gr l) k (gc l)

/-! ## One group -/

section pays

variable {v1 : FVec Ideal S512x256 .f32} {v2 : FVec Ideal S512x256 .bf16} {v4 : FVec Ideal S1x256x256 .bf16} {v6 : FVec Ideal S1x256 .f32}
  {d x : Fin 512 → Fin 256 → EReal} {w : Fin 256 → Fin 256 → EReal} {s : Fin 256 → EReal}
  (h1 : ∀ r k, v1 (ix2 r k) = d r k) (h2 : ∀ r k, v2 (ix2 r k) = x r k) (h4 : ∀ i k, v4 (ix3 0 i k) = w i k) (h6 : ∀ k, v6 (ix2 0 k) = s k)

include h1 h4 h6 in
theorem pay_x (r : Fin 512) (j : Fin 256) : k0_pay11 (F := Ideal) v1 v4 v6 (ix2 r j) = ∑ k, d r k * s k * w j k := by
  pointwise [k0_pay11, k0_pay10, k0_pay9, h1, h4, h6]

include h1 h2 h4 in
theorem pay_s (z : Fin 1) (j : Fin 256) : k0_pay12 (F := Ideal) v1 v2 v4 (ix2 z j) = ∑ r, d r j * ∑ k, x r k * w k j := by
  pointwise [k0_pay12, k0_pay9, k0_pay8, h1, h2, h4]

include h1 h2 h6 in
theorem pay_w (z : Fin 1) (i j : Fin 256) : k0_pay15 (F := Ideal) v1 v2 v6 (ix3 z i j) = ∑ r, x r i * (d r j * s j) := by
  pointwise [k0_pay15, k0_pay14, k0_pay10, k0_pay8, h1, h2, h6]

include h1 h2 h4 in
theorem pay_s' (v) (z : Fin 1) (j : Fin 256) : k0_pay13 (F := Ideal) v1 v2 v4 v (ix2 z j) = v (ix2 z j) + ∑ r, d r j * ∑ k, x r k * w k j := by
  obtain rfl : z = 0 := Subsingleton.elim _ _
  pointwise [k0_pay13, pay_s h1 h2 h4]

include h1 h2 h6 in
theorem pay_w' (v) (z : Fin 1) (i j : Fin 256) : k0_pay16 (F := Ideal) v1 v2 v6 v (ix3 z i j) = v (ix3 z i j) + ∑ r, x r i * (d r j * s j) := by
  obtain rfl : z = 0 := Subsingleton.elim _ _
  pointwise [k0_pay16, k0_pay14, k0_pay10, k0_pay8, h1, h2, h6]

end pays

/-! ## Four groups side by side -/

theorem tile_x {u0 u1 u2 u3 : FVec Ideal S512x256 .f32} {f : Fin 512 → Fin 1024 → EReal}
    (k0 : ∀ r l, u0 (ix2 r l) = f r (cg 0 l)) (k1 : ∀ r l, u1 (ix2 r l) = f r (cg 1 l))
    (k2 : ∀ r l, u2 (ix2 r l) = f r (cg 2 l)) (k3 : ∀ r l, u3 (ix2 r l) = f r (cg 3 l)) (r : Fin 512) (l : Fin 1024) :
    View.canon (Val := Elt Ideal) (e := .f32) (s := S512x1024)
      [⟨Rect.unit ![0, 768] ![512, 256] inb_S512x1024_S512x256_0_768, u3⟩, ⟨Rect.unit ![0, 512] ![512, 256] inb_S512x1024_S512x256_0_512, u2⟩,
        ⟨Rect.unit ![0, 256] ![512, 256] inb_S512x1024_S512x256_0_256, u1⟩, ⟨Rect.unit ![0, 0] ![512, 256] inb_S512x1024_S512x256_0_0, u0⟩]
      (ix2 r l) = f r l := by
  canon_tiles x h
  all_goals
    idx_vars x
    obtain rfl : r = x0 := Fin.ext h0
  · exact (k3 r x1).trans (by rw [show l = cg 3 x1 from Fin.ext h1])
  · exact (k2 r x1).trans (by rw [show l = cg 2 x1 from Fin.ext h1])
  · exact (k1 r x1).trans (by rw [show l = cg 1 x1 from Fin.ext h1])
  · exact (k0 r x1).trans (by rw [show l = cg 0 x1 from Fin.ext (h1.trans (Nat.zero_add _).symm)])

theorem tile_s {u0 u1 u2 u3 : FVec Ideal S1x256 .f32} {f : Fin 1024 → EReal}
    (k0 : ∀ z l, u0 (ix2 z l) = f (cg 0 l)) (k1 : ∀ z l, u1 (ix2 z l) = f (cg 1 l))
    (k2 : ∀ z l, u2 (ix2 z l) = f (cg 2 l)) (k3 : ∀ z l, u3 (ix2 z l) = f (cg 3 l)) (l : Fin 1024) :
    View.canon (Val := Elt Ideal) (e := .f32) (s := S1x1024)
      [⟨Rect.unit ![0, 768] ![1, 256] inb_S1x1024_S1x256_0_768, u3⟩, ⟨Rect.unit ![0, 512] ![1, 256] inb_S1x1024_S1x256_0_512, u2⟩,
        ⟨Rect.unit ![0, 256] ![1, 256] inb_S1x1024_S1x256_0_256, u1⟩, ⟨Rect.unit ![0, 0] ![1, 256] inb_S1x1024_S1x256_0_0, u0⟩]
      (ix2 0 l) = f l := by
  canon_tiles x h
  all_goals idx_vars x
  · exact (k3 x0 x1).trans (by rw [show l = cg 3 x1 from Fin.ext h1])
  · exact (k2 x0 x1).trans (by rw [show l = cg 2 x1 from Fin.ext h1])
  · exact (k1 x0 x1).trans (by rw [show l = cg 1 x1 from Fin.ext h1])
  · exact (k0 x0 x1).trans (by rw [show l = cg 0 x1 from Fin.ext (h1.trans (Nat.zero_add _).symm)])

theorem tile_w {u0 u1 u2 u3 : FVec Ideal S1x256x256 .f32} {f : Fin 4 → Fin 256 → Fin 256 → EReal}
    (k0 : ∀ z i j, u0 (ix3 z i j) = f 0 i j) (k1 : ∀ z i j, u1 (ix3 z i j) = f 1 i j)
    (k2 : ∀ z i j, u2 (ix3 z i j) = f 2 i j) (k3 : ∀ z i j, u3 (ix3 z i j) = f 3 i j) (g : Fin 4) (i j : Fin 256) :
    View.canon (Val := Elt Ideal) (e := .f32) (s := S4x256x256)
      [⟨Rect.unit ![3, 0, 0] ![1, 256, 256] inb_S4x256x256_S1x256x256_3_0_0, u3⟩, ⟨Rect.unit ![2, 0, 0] ![1, 256, 256] inb_S4x256x256_S1x256x256_2_0_0, u2⟩,
        ⟨Rect.unit ![1, 0, 0] ![1, 256, 256] inb_S4x256x256_S1x256x256_1_0_0, u1⟩, ⟨Rect.unit ![0, 0, 0] ![1, 256, 256] inb_S4x256x256_S1x256x256_0_0_0, u0⟩]
      (ix3 g i j) = f g i j := by
  canon_tiles x h
  all_goals
    idx_vars x
    obtain rfl : i = x1 := Fin.ext h1
    obtain rfl : j = x2 := Fin.ext h2
  · exact (k3 x0 i j).trans (by rw [show g = 3 from Fin.ext (by rw [h0]; omega)])
  · exact (k2 x0 i j).trans (by rw [show g = 2 from Fin.ext (by rw [h0]; omega)])
  · exact (k1 x0 i j).trans (by rw [show g = 1 from Fin.ext (by rw [h0]; omega)])
  · exact (k0 x0 i j).trans (by rw [show g = 0 from Fin.ext (by rw [h0]; omega)])

/-- A group's map, of the maps stacked. -/
theorem maps {e : EltTy} {B : S4x256x256.Idx → Elt Ideal e} (g : Fin 4) (o : ℕ) (ho : o = g.val) (inb) (z : Fin 1) (i k : Fin 256) :
    View.ld (Val := Elt Ideal) (e' := e) B (Rect.unit (s := S4x256x256) ![o, 0, 0] ![1, 256, 256] inb) (ix3 z i k) = B (ix3 g i k) := by
  subst ho
  refine congrArg B (funext fun a => Fin.ext ?_)
  match a with
  | ⟨0, _⟩ => show g.val + 1 * z.val = g.val; omega
  | ⟨1, _⟩ => show 0 + 1 * i.val = i.val; omega
  | ⟨2, _⟩ => show 0 + 1 * k.val = k.val; omega

/-! ## The blocks -/

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![0, 0, 0] ∧ win0_6.index t = ![0, 0] :=
  (by decide +kernel : ∀ t : Fin grid0.N, _)

section run

variable (m : (ℓ : Loc nD τ sig) → Buf (Elt Ideal) ℓ) (c : Dev nD)
variable {D M W S}
  (hM : ∀ a b, m ((c : Thread nD τ).loc main_arg0) (ix2 a b) = M a b)
  (hW : ∀ g i j, m ((c : Thread nD τ).loc main_arg1) (ix3 g i j) = W g i j)
  (hS : ∀ b, m ((c : Thread nD τ).loc main_arg2) (ix1 b) = S b)
  (hD : ∀ a b, m ((c : Thread nD τ).loc main_arg3) (ix2 a b) = D a b)

/-- Row `r` of block `t`. -/
abbrev row (t : Fin cfg0.N) (r : Fin 512) : Fin 4096 := rowOf N_0 t r

include hD in
theorem blk0 (t : Fin cfg0.N) (r : Fin 512) (k : Fin 1024) : iblk m c 0 t (ix2 r k) = D (row t r) k := by
  rw [← hD]; blk_ext [iblk, V, idx t, row, rowOf]

include hM in
theorem blk1 (t : Fin cfg0.N) (r : Fin 512) (k : Fin 1024) : iblk m c 1 t (ix2 r k) = M (row t r) k := by
  rw [← hM]; blk_point [iblk, V, idx t, row, rowOf]

include hW in
theorem entryW (g : Fin 4) (i j : Fin 256) : V m c main_v6 (ix3 g i j) = W g i j := by
  rw [← hW]
  entry_read
  pointwise
  exact congrArg (m (c, Proc.tc.devRef main_arg1)) (congrArg (fun z => ix3 g z j)
    (Fin.ext (show i.val / 64 * 64 + i.val % 64 = i.val by omega)))

include hW in
theorem blk2 (t : Fin cfg0.N) (g : Fin 4) (i j : Fin 256) : iblk m c 2 t (ix3 g i j) = W g i j := by
  rw [← entryW m c hW]; blk_ext [iblk, idx t]

include hS in
theorem blk3 (t : Fin cfg0.N) (k : Fin 1024) : iblk m c 3 t (ix2 0 k) = S k := by
  rw [← hS]; blk_point [iblk, V, idx t]

include hW hS hD in
theorem left4 (t : Fin cfg0.N) (r : Fin 512) (l : Fin 1024) : (outsAt0 m c t.val t.isLt).1 (ix2 r l) = dmx D W S (row t r) l := by
  have ht := lt_of_lt_of_eq t.isLt N_0
  by_cases h : t.val % 8 = 0
  · rw [outsAt0_A m c t h (by omega) h (by omega) h (by omega) h (by omega) h (by omega) h (by omega) h (by omega) h (by omega)]; frame_out
    refine tile_x (f := fun r l => dmx D W S (row t r) l) ?_ ?_ ?_ ?_ r l
    · exact fun r l => (pay_x (fun r k => (cols 0 _ rfl _ r k).trans (blk0 m c hD t r _)) (fun i k => (maps 0 _ rfl _ 0 i k).trans (blk2 m c hW t 0 i k)) (fun k => (cols 0 _ rfl _ 0 k).trans (blk3 m c hS t _)) r l).trans (by simp only [dmx, gr_cg, gc_cg])
    · exact fun r l => (pay_x (fun r k => (cols 1 _ rfl _ r k).trans (blk0 m c hD t r _)) (fun i k => (maps 1 _ rfl _ 0 i k).trans (blk2 m c hW t 1 i k)) (fun k => (cols 1 _ rfl _ 0 k).trans (blk3 m c hS t _)) r l).trans (by simp only [dmx, gr_cg, gc_cg])
    · exact fun r l => (pay_x (fun r k => (cols 2 _ rfl _ r k).trans (blk0 m c hD t r _)) (fun i k => (maps 2 _ rfl _ 0 i k).trans (blk2 m c hW t 2 i k)) (fun k => (cols 2 _ rfl _ 0 k).trans (blk3 m c hS t _)) r l).trans (by simp only [dmx, gr_cg, gc_cg])
    · exact fun r l => (pay_x (fun r k => (cols 3 _ rfl _ r k).trans (blk0 m c hD t r _)) (fun i k => (maps 3 _ rfl _ 0 i k).trans (blk2 m c hW t 3 i k)) (fun k => (cols 3 _ rfl _ 0 k).trans (blk3 m c hS t _)) r l).trans (by simp only [dmx, gr_cg, gc_cg])
  · rw [outsAt0_B m c t h (by omega) h (by omega) h (by omega) h (by omega) h (by omega) h (by omega) h (by omega) h (by omega)]; frame_out
    refine tile_x (f := fun r l => dmx D W S (row t r) l) ?_ ?_ ?_ ?_ r l
    · exact fun r l => (pay_x (fun r k => (cols 0 _ rfl _ r k).trans (blk0 m c hD t r _)) (fun i k => (maps 0 _ rfl _ 0 i k).trans (blk2 m c hW t 0 i k)) (fun k => (cols 0 _ rfl _ 0 k).trans (blk3 m c hS t _)) r l).trans (by simp only [dmx, gr_cg, gc_cg])
    · exact fun r l => (pay_x (fun r k => (cols 1 _ rfl _ r k).trans (blk0 m c hD t r _)) (fun i k => (maps 1 _ rfl _ 0 i k).trans (blk2 m c hW t 1 i k)) (fun k => (cols 1 _ rfl _ 0 k).trans (blk3 m c hS t _)) r l).trans (by simp only [dmx, gr_cg, gc_cg])
    · exact fun r l => (pay_x (fun r k => (cols 2 _ rfl _ r k).trans (blk0 m c hD t r _)) (fun i k => (maps 2 _ rfl _ 0 i k).trans (blk2 m c hW t 2 i k)) (fun k => (cols 2 _ rfl _ 0 k).trans (blk3 m c hS t _)) r l).trans (by simp only [dmx, gr_cg, gc_cg])
    · exact fun r l => (pay_x (fun r k => (cols 3 _ rfl _ r k).trans (blk0 m c hD t r _)) (fun i k => (maps 3 _ rfl _ 0 i k).trans (blk2 m c hW t 3 i k)) (fun k => (cols 3 _ rfl _ 0 k).trans (blk3 m c hS t _)) r l).trans (by simp only [dmx, gr_cg, gc_cg])

include hW hS hD in
/-- The gradient of the mixed tokens, whole. -/
theorem final4 : (dats m 0 c).arrAt 4 (cfgs 0).N = fun i => dmx D W S (i 0) (i 1) := by
  refine (dats m 0 c).arrAt_eq_of_covers 4 _ (by decide +kernel) fun t hf y => ?_
  blk_simp
  rw [after0_4, show (win0_4.blk t).view.emb y = ix2 (row t (y 0)) (y 1) by blk_ext [idx t, row, rowOf]]
  exact (congrArg _ (eq_ix2 y)).trans (left4 m c hW hS hD t (y 0) (y 1))

include hM hS hD in
theorem left5 (t : Fin cfg0.N) (g : Fin 4) (i j : Fin 256) (hr : t.val % 8 = 7) :
    (outsAt0 m c t.val t.isLt).2.1 (ix3 g i j) = ∑ a, dwg D M S g i j a :=
  acc_rowsE N_0 (fun n h => (outsAt0 m c n h).2.1 (ix3 g i j)) (dwg D M S g i j)
    (fun t h => by
      have ht := lt_of_lt_of_eq t.isLt N_0
      show (outsAt0 m c t.val t.isLt).2.1 (ix3 g i j) = _
      rw [outsAt0_A m c t h (by omega) h (by omega) h (by omega) h (by omega) h (by omega) h (by omega) h (by omega) h (by omega)]; frame_out
      refine tile_w (f := fun g i j => ∑ r, dwg D M S g i j (row t r)) ?_ ?_ ?_ ?_ g i j
      · exact fun z i j => pay_w (fun r k => (cols 0 _ rfl _ r k).trans (blk0 m c hD t r _)) (fun r k => (cols 0 _ rfl _ r k).trans (blk1 m c hM t r _)) (fun k => (cols 0 _ rfl _ 0 k).trans (blk3 m c hS t _)) z i j
      · exact fun z i j => pay_w (fun r k => (cols 1 _ rfl _ r k).trans (blk0 m c hD t r _)) (fun r k => (cols 1 _ rfl _ r k).trans (blk1 m c hM t r _)) (fun k => (cols 1 _ rfl _ 0 k).trans (blk3 m c hS t _)) z i j
      · exact fun z i j => pay_w (fun r k => (cols 2 _ rfl _ r k).trans (blk0 m c hD t r _)) (fun r k => (cols 2 _ rfl _ r k).trans (blk1 m c hM t r _)) (fun k => (cols 2 _ rfl _ 0 k).trans (blk3 m c hS t _)) z i j
      · exact fun z i j => pay_w (fun r k => (cols 3 _ rfl _ r k).trans (blk0 m c hD t r _)) (fun r k => (cols 3 _ rfl _ r k).trans (blk1 m c hM t r _)) (fun k => (cols 3 _ rfl _ 0 k).trans (blk3 m c hS t _)) z i j
    )
    (fun t h => by
      have ht := lt_of_lt_of_eq t.isLt N_0
      show (outsAt0 m c t.val t.isLt).2.1 (ix3 g i j) = (outsAt0 m c (t.val - 1) _).2.1 (ix3 g i j) + _
      rw [outsAt0_B m c t h (by omega) h (by omega) h (by omega) h (by omega) h (by omega) h (by omega) h (by omega) h (by omega)]; frame_out
      refine tile_w (f := fun g i j => (outsAt0 m c (t.val - 1) (Nat.lt_of_le_of_lt (Nat.sub_le _ _) t.isLt)).2.1 (ix3 g i j)
        + ∑ r, dwg D M S g i j (row t r)) ?_ ?_ ?_ ?_ g i j
      · exact fun z i j => (pay_w' (fun r k => (cols 0 _ rfl _ r k).trans (blk0 m c hD t r _)) (fun r k => (cols 0 _ rfl _ r k).trans (blk1 m c hM t r _)) (fun k => (cols 0 _ rfl _ 0 k).trans (blk3 m c hS t _)) _ z i j).trans (congrArg (· + _) (maps 0 _ rfl _ z i j))
      · exact fun z i j => (pay_w' (fun r k => (cols 1 _ rfl _ r k).trans (blk0 m c hD t r _)) (fun r k => (cols 1 _ rfl _ r k).trans (blk1 m c hM t r _)) (fun k => (cols 1 _ rfl _ 0 k).trans (blk3 m c hS t _)) _ z i j).trans (congrArg (· + _) (maps 1 _ rfl _ z i j))
      · exact fun z i j => (pay_w' (fun r k => (cols 2 _ rfl _ r k).trans (blk0 m c hD t r _)) (fun r k => (cols 2 _ rfl _ r k).trans (blk1 m c hM t r _)) (fun k => (cols 2 _ rfl _ 0 k).trans (blk3 m c hS t _)) _ z i j).trans (congrArg (· + _) (maps 2 _ rfl _ z i j))
      · exact fun z i j => (pay_w' (fun r k => (cols 3 _ rfl _ r k).trans (blk0 m c hD t r _)) (fun r k => (cols 3 _ rfl _ r k).trans (blk1 m c hM t r _)) (fun k => (cols 3 _ rfl _ 0 k).trans (blk3 m c hS t _)) _ z i j).trans (congrArg (· + _) (maps 3 _ rfl _ z i j))
    )
    t hr

include hM hS hD in
/-- The gradient of the groups' maps, summed over the points. -/
theorem final5 : (dats m 0 c).arrAt 5 (cfgs 0).N = fun i => ∑ a, dwg D M S (i 0) (i 1) (i 2) a := by
  refine (dats m 0 c).arrAt_eq_of_covers 5 _ (by decide +kernel) fun t hf y => ?_
  blk_simp
  rw [after0_5, show (win0_5.blk t).view.emb y = ix3 (y 0) (y 1) (y 2) by blk_ext [idx t]]
  exact (congrArg _ (eq_ix3 y)).trans (left5 m c hM hS hD t (y 0) (y 1) (y 2) ((flush0_5 t).mp hf))

include hM hW hD in
theorem left6 (t : Fin cfg0.N) (l : Fin 1024) (hr : t.val % 8 = 7) : (outsAt0 m c t.val t.isLt).2.2 (ix2 0 l) = ∑ a, dsc D M W l a :=
  acc_rowsE N_0 (fun n h => (outsAt0 m c n h).2.2 (ix2 0 l)) (dsc D M W l)
    (fun t h => by
      have ht := lt_of_lt_of_eq t.isLt N_0
      show (outsAt0 m c t.val t.isLt).2.2 (ix2 0 l) = _
      rw [outsAt0_A m c t h (by omega) h (by omega) h (by omega) h (by omega) h (by omega) h (by omega) h (by omega) h (by omega)]; frame_out
      refine tile_s (f := fun l => ∑ r, dsc D M W l (row t r)) ?_ ?_ ?_ ?_ l
      · exact fun z l => (pay_s (fun r k => (cols 0 _ rfl _ r k).trans (blk0 m c hD t r _)) (fun r k => (cols 0 _ rfl _ r k).trans (blk1 m c hM t r _)) (fun i k => (maps 0 _ rfl _ 0 i k).trans (blk2 m c hW t 0 i k)) z l).trans (by simp only [dsc, gr_cg, gc_cg])
      · exact fun z l => (pay_s (fun r k => (cols 1 _ rfl _ r k).trans (blk0 m c hD t r _)) (fun r k => (cols 1 _ rfl _ r k).trans (blk1 m c hM t r _)) (fun i k => (maps 1 _ rfl _ 0 i k).trans (blk2 m c hW t 1 i k)) z l).trans (by simp only [dsc, gr_cg, gc_cg])
      · exact fun z l => (pay_s (fun r k => (cols 2 _ rfl _ r k).trans (blk0 m c hD t r _)) (fun r k => (cols 2 _ rfl _ r k).trans (blk1 m c hM t r _)) (fun i k => (maps 2 _ rfl _ 0 i k).trans (blk2 m c hW t 2 i k)) z l).trans (by simp only [dsc, gr_cg, gc_cg])
      · exact fun z l => (pay_s (fun r k => (cols 3 _ rfl _ r k).trans (blk0 m c hD t r _)) (fun r k => (cols 3 _ rfl _ r k).trans (blk1 m c hM t r _)) (fun i k => (maps 3 _ rfl _ 0 i k).trans (blk2 m c hW t 3 i k)) z l).trans (by simp only [dsc, gr_cg, gc_cg])
    )
    (fun t h => by
      have ht := lt_of_lt_of_eq t.isLt N_0
      show (outsAt0 m c t.val t.isLt).2.2 (ix2 0 l) = (outsAt0 m c (t.val - 1) _).2.2 (ix2 0 l) + _
      rw [outsAt0_B m c t h (by omega) h (by omega) h (by omega) h (by omega) h (by omega) h (by omega) h (by omega) h (by omega)]; frame_out
      refine tile_s (f := fun l => (outsAt0 m c (t.val - 1) (Nat.lt_of_le_of_lt (Nat.sub_le _ _) t.isLt)).2.2 (ix2 0 l)
        + ∑ r, dsc D M W l (row t r)) ?_ ?_ ?_ ?_ l
      · exact fun z l => by
          obtain rfl : z = 0 := Subsingleton.elim _ _
          exact (pay_s' (fun r k => (cols 0 _ rfl _ r k).trans (blk0 m c hD t r _)) (fun r k => (cols 0 _ rfl _ r k).trans (blk1 m c hM t r _)) (fun i k => (maps 0 _ rfl _ 0 i k).trans (blk2 m c hW t 0 i k)) _ 0 l).trans (congrArg₂ (· + ·) (cols 0 _ rfl _ 0 l) (by simp only [dsc, gr_cg, gc_cg]))
      · exact fun z l => by
          obtain rfl : z = 0 := Subsingleton.elim _ _
          exact (pay_s' (fun r k => (cols 1 _ rfl _ r k).trans (blk0 m c hD t r _)) (fun r k => (cols 1 _ rfl _ r k).trans (blk1 m c hM t r _)) (fun i k => (maps 1 _ rfl _ 0 i k).trans (blk2 m c hW t 1 i k)) _ 0 l).trans (congrArg₂ (· + ·) (cols 1 _ rfl _ 0 l) (by simp only [dsc, gr_cg, gc_cg]))
      · exact fun z l => by
          obtain rfl : z = 0 := Subsingleton.elim _ _
          exact (pay_s' (fun r k => (cols 2 _ rfl _ r k).trans (blk0 m c hD t r _)) (fun r k => (cols 2 _ rfl _ r k).trans (blk1 m c hM t r _)) (fun i k => (maps 2 _ rfl _ 0 i k).trans (blk2 m c hW t 2 i k)) _ 0 l).trans (congrArg₂ (· + ·) (cols 2 _ rfl _ 0 l) (by simp only [dsc, gr_cg, gc_cg]))
      · exact fun z l => by
          obtain rfl : z = 0 := Subsingleton.elim _ _
          exact (pay_s' (fun r k => (cols 3 _ rfl _ r k).trans (blk0 m c hD t r _)) (fun r k => (cols 3 _ rfl _ r k).trans (blk1 m c hM t r _)) (fun i k => (maps 3 _ rfl _ 0 i k).trans (blk2 m c hW t 3 i k)) _ 0 l).trans (congrArg₂ (· + ·) (cols 3 _ rfl _ 0 l) (by simp only [dsc, gr_cg, gc_cg]))
    )
    t hr

include hM hW hD in
/-- The gradient of the scale, summed over the points. -/
theorem final6 : (dats m 0 c).arrAt 6 (cfgs 0).N = fun i => ∑ a, dsc D M W (i 1) a := by
  refine (dats m 0 c).arrAt_eq_of_covers 6 _ (by decide +kernel) fun t hf y => ?_
  blk_simp
  rw [after0_6, show (win0_6.blk t).view.emb y = ix2 0 (y 1) by blk_ext [idx t]]
  exact (congrArg _ (show y = ix2 0 (y 1) by blk_ext)).trans (left6 m c hM hW hD t (y 1) ((flush0_6 t).mp hf))

end run

end Cert.GrpIdeal.Value

end
-- ==== Proof.GrpRef.lean ====
/- The grouped map and scale of the pooling mixer: the gradients that the reference computes. -/
module

public import proofs.«01_k».proof.Proof.Grp
public import proofs.«01_k».proof.Proof.Gen.GrpRefIdeal.Read

@[expose] public section

set_option maxRecDepth 16384

noncomputable section

namespace Cert.GrpRefIdeal.Read

open Cert.GrpRefIdeal Cert.Reals Cert.GrpIdeal.Value
open Idealize.ShloMosaic TcCoe

variable {A0 A3 : FVec Ideal S4096x1024 .f32} {A1 : FVec Ideal S4x256x256 .f32} {A2 : FVec Ideal S1024 .f32}
  {D M : Fin 4096 → Fin 1024 → EReal} {W : Fin 4 → Fin 256 → Fin 256 → EReal} {S : Fin 1024 → EReal}
  (hM : ∀ a b, A0 (ix2 a b) = M a b) (hW : ∀ g i j, A1 (ix3 g i j) = W g i j) (hS : ∀ b, A2 (ix1 b) = S b)
  (hD : ∀ a b, A3 (ix2 a b) = D a b)

include hS hD in
theorem scaled (g : Fin 4) (k : Fin 256) (a : Fin 4096) : val_main_v14 (F := Ideal) A2 A3 (ix3 g k a) = D a (cg g k) * S (cg g k) := by
  pointwise [val_main_v14, val_main_v13, val_main_v11, val_main_v10, val_main_v4, hS, hD]
  rfl

include hW hS hD in
/-- The reference's gradient of the mixed tokens. -/
theorem gradX : val_main_v19 (F := Ideal) A1 A2 A3 = fun i => dmx D W S (i 0) (i 1) := by
  funext i; idx_vars i
  show _ = dmx D W S i0 i1
  pointwise [val_main_v19, val_main_v16, val_main_v15, scaled hS hD, hW]
  rfl

include hM hS hD in
/-- The reference's gradient of the groups' maps. -/
theorem gradW : val_main_v18 (F := Ideal) A0 A2 A3 = fun i => ∑ a, dwg D M S (i 0) (i 1) (i 2) a := by
  funext i; idx_vars i
  show _ = ∑ a, dwg D M S i0 i1 i2 a
  pointwise [val_main_v18, val_main_v17, scaled hS hD, val_main_v0, hM]
  exact Finset.sum_congr rfl fun a _ => mul_comm _ _

include hM hW hD in
/-- The reference's gradient of the scale. -/
theorem gradS : val_main_v20 (F := Ideal) A0 A1 A3 = fun i => ∑ a, dsc D M W (i 1) a := by
  funext i; idx_vars i
  show _ = ∑ a, dsc D M W i1 a
  pointwise [val_main_v20, val_main_v12, val_main_v9, val_main_v8, val_main_v7, val_main_v3, val_main_v2, val_main_v1, val_main_v0,
    val_main_cst, val_main_cst_0, hM, hW, hD]
  rw [Finset.univ_unique, Finset.sum_singleton]
  refine Finset.sum_congr rfl fun a _ => (mul_comm _ _).trans (congrArg (D a i1 * ·) (Finset.sum_congr rfl fun k _ => mul_comm _ _))

end Cert.GrpRefIdeal.Read

end
-- ==== Proof.GrpClaim.lean ====
/- The grouped map and scale of the pooling mixer: what the kernel leaves is what the reference computes. -/
module

public import proofs.«01_k».proof.Defs
public import proofs.«01_k».proof.Proof.GrpRef

@[expose] public section

set_option maxRecDepth 16384
set_option maxHeartbeats 1000000

noncomputable section

namespace Cert.Proof

open Idealize.ShloMosaic TcCoe Idealize.SL.Sem

/-- The gradients of the mixed tokens, of the groups' maps and of the scale: the kernel's are the reference's. -/
theorem algebraic_grp : Cert.algebraic_GrpIdeal_GrpRefIdeal := by
  pair_intro
  · run_from Cert.GrpIdeal.Gen.run_main m g
  · run_from Cert.GrpRefIdeal.Value.run m' g'
    · refine (Cert.GrpRefIdeal.Read.val_main_v19_eq _ _ _).trans ?_
      rw [Cert.GrpRefIdeal.Read.gradX (fun _ _ _ => rfl) (fun _ => rfl) (fun _ _ => rfl)]
      exact (Cert.GrpIdeal.Value.final4 m c (fun _ _ _ => rfl) (fun _ => rfl) (fun _ _ => rfl)).symm
    · refine (Cert.GrpRefIdeal.Read.val_main_v18_eq _ _ _).trans ?_
      rw [Cert.GrpRefIdeal.Read.gradW (fun _ _ => rfl) (fun _ => rfl) (fun _ _ => rfl)]
      exact (Cert.GrpIdeal.Value.final5 m c (fun _ _ => rfl) (fun _ => rfl) (fun _ _ => rfl)).symm
    · refine (Cert.GrpRefIdeal.Read.val_main_v20_eq _ _ _).trans ?_
      rw [Cert.GrpRefIdeal.Read.gradS (fun _ _ => rfl) (fun _ _ _ => rfl) (fun _ _ => rfl)]
      exact (Cert.GrpIdeal.Value.final6 m c (fun _ _ => rfl) (fun _ _ _ => rfl) (fun _ _ => rfl)).symm

end Cert.Proof

end
-- ==== Proof.PoolReal.lean ====
/- Trailing means over the reals: a token's share in the means of the tokens after it. -/
module

public import proofs.«01_k».proof.Proof.Reals

@[expose] public section

noncomputable section

namespace Cert.Reals

open Idealize.ShloMosaic

/-- How many tokens the trailing window of length `w` holds at token `s`. -/
def cnt (s w : ℕ) : ℝ := ((min (s + 1) w : ℕ) : ℝ)

theorem cnt_ne (s : ℕ) {w : ℕ} (hw : 0 < w) : cnt s w ≠ 0 := by
  unfold cnt; exact_mod_cast (show min (s + 1) w ≠ 0 by omega)

theorem minsi_ofNat {a b : ℕ} (ha : a < 2 ^ 31) (hb : b < 2 ^ 31) :
    IntOp.minsi (BitVec.ofNat 32 a) (BitVec.ofNat 32 b) = BitVec.ofNat 32 (min a b) := by
  have i (n : ℕ) (h : n < 2 ^ 31) : (BitVec.ofNat 32 n).toInt = (n : ℤ) := by
    rw [BitVec.toInt_eq_toNat_of_lt] <;> rw [BitVec.toNat_ofNat] <;> omega
  rw [IntOp.minsi, BitVec.slt_eq_decide, i a ha, i b hb]
  by_cases h : a < b
  · rw [min_eq_left h.le, if_pos (by exact_mod_cast decide_eq_true h)]
  · rw [min_eq_right (not_lt.1 h), if_neg (by simpa using h)]

theorem sitofp_ofNat {n : ℕ} (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt, BitVec.toNat_ofNat, Nat.mod_eq_of_lt (by omega)]
  · norm_cast
  · rw [BitVec.toNat_ofNat]; omega

/-- The reference's own count. -/
theorem cnt_word (s w : ℕ) (hs : s < 8192) (hw : w ≤ 16) :
    FloatOps.sitofp (F := Ideal) .f32 (IntOp.minsi (IntOp.addi (BitVec.ofNat 32 s) 1#32) (BitVec.ofNat 32 w)) = (cnt s w : EReal) := by
  rw [show IntOp.addi (BitVec.ofNat 32 s) 1#32 = BitVec.ofNat 32 (s + 1) from (BitVec.ofNat_add s 1).symm,
    minsi_ofNat (by omega) (by omega), sitofp_ofNat (by omega), cnt]

/-- The kernel's own count, at row `r` of block `k`. -/
theorem cnt_block (k r w : ℕ) (hk : k ≤ 8) (hr : r < 512) (hw : w ≤ 16) :
    FloatOps.sitofp (F := Ideal) .f32 (IntOp.minsi (IntOp.addi (IntOp.addi (Scalar.muli (BitVec.ofNat 32 k) 512#32)
      (BitVec.ofNat 32 r)) 1#32) (BitVec.ofNat 32 w)) = (cnt (k * 512 + r) w : EReal) := by
  rw [← cnt_word (k * 512 + r) w (by omega) hw, show IntOp.addi (Scalar.muli (BitVec.ofNat 32 k) 512#32) (BitVec.ofNat 32 r)
    = BitVec.ofNat 32 (k * 512 + r) from BitVec.eq_of_toNat_eq (by simp [IntOp.addi, Scalar.muli, IntOp.muli])]

/-- A token's cotangent, shared out over its window; zero past the last token. -/
def ev (w : ℕ) (M : Fin 4096 → ℝ) (s : ℕ) : ℝ := if h : s < 4096 then M ⟨s, h⟩ / cnt s w else 0

theorem ev_past (w : ℕ) (M : Fin 4096 → ℝ) {s : ℕ} (h : 4096 ≤ s) : ev w M s = 0 := dif_neg (by omega)

theorem ev_of_lt (w : ℕ) (M : Fin 4096 → ℝ) {s : ℕ} (h : s < 4096) : ev w M s = M ⟨s, h⟩ / cnt s w := dif_pos h

/-- The kernel's share, at row `r` of block `n`. -/
theorem share_block {w n r : ℕ} {M : Fin 4096 → ℝ} {b : EReal} (hn : n < 8) (hr : r < 512) (h0 : 0 < w) (hw : w ≤ 16)
    (hb : b = (M ⟨n * 512 + r, by omega⟩ : EReal)) :
    Ideal.div b (FloatOps.sitofp (F := Ideal) .f32 (IntOp.minsi (IntOp.addi (IntOp.addi (Scalar.muli (BitVec.ofNat 32 n) 512#32)
      (BitVec.ofNat 32 r)) 1#32) (BitVec.ofNat 32 w))) = (ev w M (n * 512 + r) : EReal) := by
  rw [hb, cnt_block n r w hn.le hr hw, div_coe' _ (cnt_ne _ h0), ev_of_lt w M (by omega)]

/-- The kernel's share at row `r` of the block after block `n`: zero after the last block. -/
theorem share_next {w n r : ℕ} {M : Fin 4096 → ℝ} {b : EReal} (hn : n < 8) (hr : r < 16) (h0 : 0 < w) (hw : w ≤ 16)
    (hb : ∀ h : n < 7, b = (M ⟨(n + 1) * 512 + r, by omega⟩ : EReal)) :
    Scalar.select (Scalar.cmpi .slt (BitVec.ofNat 32 n) 7#32)
      (Ideal.div b (FloatOps.sitofp (F := Ideal) .f32 (IntOp.minsi (IntOp.addi (IntOp.addi (Scalar.muli
        (Scalar.addi (BitVec.ofNat 32 n) 1#32) 512#32) (BitVec.ofNat 32 r)) 1#32) (BitVec.ofNat 32 w)))) 0
      = (ev w M (n * 512 + (512 + r)) : EReal) := by
  have e : n * 512 + (512 + r) = (n + 1) * 512 + r := by omega
  rw [e, show Scalar.addi (BitVec.ofNat 32 n) 1#32 = BitVec.ofNat 32 (n + 1) from (BitVec.ofNat_add n 1).symm]
  by_cases h : n < 7
  · rw [cnt_block (n + 1) r w (by omega) (by omega) hw, hb h, div_coe' _ (cnt_ne _ h0), ev_of_lt w M (by omega)]
    interval_cases n <;> rfl
  · obtain rfl : n = 7 := by omega
    rw [ev_past w M (by omega)]; rfl

/-- The gradient at token `t` of the trailing mean minus the token. -/
def dp (w : ℕ) (M : Fin 4096 → ℝ) (t : Fin 4096) : ℝ := -M t + ∑ i ∈ Finset.range w, ev w M (t.val + i)

/-- The same sum as all the later differences of prefix sums. -/
theorem dp_cumsum (w : ℕ) (M : Fin 4096 → ℝ) (t : Fin 4096) :
    dp w M t = -M t + ∑ n ∈ Finset.range 4096, (ev w M (t.val + n) - ev w M (t.val + n + w)) := by
  have a := Finset.sum_range_add (fun n => ev w M (t.val + n)) w 4096
  have b := Finset.sum_range_add (fun n => ev w M (t.val + n)) 4096 w
  have z : ∑ x ∈ Finset.range w, ev w M (t.val + (4096 + x)) = 0 := Finset.sum_eq_zero fun x _ => ev_past w M (by omega)
  rw [Nat.add_comm w 4096, b, z, add_zero] at a
  rw [dp, Finset.sum_sub_distrib, a]
  congr 1
  rw [eq_sub_iff_add_eq]
  congr 1
  exact Finset.sum_congr rfl fun n _ => by rw [Nat.add_assoc, Nat.add_comm n w]

/-- The window of a column's group. -/
def win (l : Fin 1024) : ℕ := 2 ^ (l.val / 256 + 1)

theorem win_cg (g : Fin 4) (k : Fin 256) : win (cg g k) = 2 ^ (g.val + 1) := by
  unfold win cg; congr 2; show (g.val * 256 + k.val) / 256 = g.val; omega

/-- The gradient of the pooled minus the token, every column with its group's window. -/
def dpool (M : Fin 4096 → Fin 1024 → ℝ) (t : Fin 4096) (l : Fin 1024) : ℝ := dp (win l) (fun s => M s l) t

end Cert.Reals

end
-- ==== Proof.Pool.lean ====
/- The pooling windows' gradient fused with its norm's: what the kernel's blocks hold. -/
module

public import proofs.«01_k».proof.Proof.PoolReal
public import proofs.«01_k».proof.Proof.Gen.PoolIdeal.Value

@[expose] public section

set_option maxRecDepth 16384

noncomputable section

namespace Cert.PoolIdeal.Value

open Cert.PoolIdeal Cert.PoolIdeal.Gen Cert.Reals
open Idealize.ShloMosaic TcCoe Idealize.SL.Sem
open Pipeline (Dat)

/-! ## The shares, stored and read again -/

/-- What two stores one under the other left, at an index of the lower one … -/
theorem canon_hi {o : ℕ} {b1} {hi : FVec Ideal S16x256 .f32} {L} (y : S528x1024.Idx) (r : Fin 16) (l : Fin 256)
    (h0 : (y 0 : ℕ) = 512 + r.val) (h1 : (y 1 : ℕ) = o + l.val) :
    View.canon (Val := Elt Ideal) (e := .f32) (⟨Rect.unit (s := S528x1024) ![512, o] ![16, 256] b1, hi⟩ :: L) y = hi (ix2 r l) := by
  have e : y = (Rect.unit (s := S528x1024) ![512, o] ![16, 256] b1).emb (ix2 r l) := by
    refine funext (Fin.forall_fin_two.2 ⟨Fin.ext ?_, Fin.ext ?_⟩)
    · show (y 0 : ℕ) = 512 + 1 * r.val; omega
    · show (y 1 : ℕ) = o + 1 * l.val; omega
  rw [e]; exact View.canon_cons_emb _ _ _ _

/-- … and of the upper one. -/
theorem canon_lo {o : ℕ} {b1 b0} {hi : FVec Ideal S16x256 .f32} {lo : FVec Ideal S512x256 .f32} {L} (y : S528x1024.Idx)
    (r : Fin 512) (l : Fin 256) (h0 : (y 0 : ℕ) = r.val) (h1 : (y 1 : ℕ) = o + l.val) :
    View.canon (Val := Elt Ideal) (e := .f32) (⟨Rect.unit (s := S528x1024) ![512, o] ![16, 256] b1, hi⟩
      :: ⟨Rect.unit (s := S528x1024) ![0, o] ![512, 256] b0, lo⟩ :: L) y = lo (ix2 r l) := by
  have e : y = (Rect.unit (s := S528x1024) ![0, o] ![512, 256] b0).emb (ix2 r l) := by
    refine funext (Fin.forall_fin_two.2 ⟨Fin.ext ?_, Fin.ext ?_⟩)
    · show (y 0 : ℕ) = 0 + 1 * r.val; omega
    · show (y 1 : ℕ) = o + 1 * l.val; omega
  refine (View.canon_cons_of_not_mem _ _ fun h => ?_).trans ?_
  · have : 512 ≤ (y 0 : ℕ) := (Rect.mem_set_unit.1 (show y ∈ (Rect.unit (s := S528x1024) ![512, o] ![16, 256] b1).set from h) 0).1
    omega
  · rw [e]; exact View.canon_cons_emb _ _ _ _

/-- The shares stored at a group's columns, read `i` rows further down. -/
theorem share {κ : Kind} {sp : Space} {v : View sig κ sp S528x1024 .f32} {o i : ℕ} {b1 b0 b}
    {hi : FVec Ideal S16x256 .f32} {lo : FVec Ideal S512x256 .f32} {L} {e : ℕ → Fin 256 → ℝ} (hi16 : i < 16)
    (h0 : ∀ r l, lo (ix2 r l) = (e r.val l : EReal)) (h1 : ∀ r l, hi (ix2 r l) = (e (512 + r.val) l : EReal))
    (r : Fin 512) (l : Fin 256) :
    (show FVec Ideal S512x256 .f32 from v.readCov (Val := Elt Ideal)
      (⟨Rect.unit ![512, o] ![16, 256] b1, hi⟩ :: ⟨Rect.unit ![0, o] ![512, 256] b0, lo⟩ :: L)
      (Rect.unit (s := S528x1024) ![i, o] ![512, 256] b).toLoadRect) (ix2 r l) = (e (r.val + i) l : EReal) := by
  rw [View.readCov_eq_canon']
  have hr := r.isLt
  have y0 : (((Rect.unit (s := S528x1024) ![i, o] ![512, 256] b).toLoadRect.idx (ix2 r l)) 0 : ℕ) = r.val + i := by
    show i + 1 * r.val = _; omega
  have y1 : (((Rect.unit (s := S528x1024) ![i, o] ![512, 256] b).toLoadRect.idx (ix2 r l)) 1 : ℕ) = o + l.val := by
    show o + 1 * l.val = _; omega
  by_cases h : r.val + i < 512
  · exact (canon_lo _ ⟨r.val + i, h⟩ l y0 y1).trans (h0 _ _)
  · refine (canon_hi _ ⟨r.val + i - 512, by omega⟩ l (y0.trans ?_) y1).trans ((h1 _ _).trans ?_)
    · show _ = 512 + (r.val + i - 512); omega
    · show (e (512 + (r.val + i - 512)) l : EReal) = _
      rw [show 512 + (r.val + i - 512) = r.val + i by omega]

/-- The four groups' columns, stored side by side and read whole. -/
theorem whole {κ : Kind} {sp : Space} {v : View sig κ sp S512x1024 .f32} {b} {u0 u1 u2 u3 : FVec Ideal S512x256 .f32}
    {d : Fin 512 → Fin 1024 → ℝ} (k0 : ∀ r l, u0 (ix2 r l) = (d r (cg 0 l) : EReal)) (k1 : ∀ r l, u1 (ix2 r l) = (d r (cg 1 l) : EReal))
    (k2 : ∀ r l, u2 (ix2 r l) = (d r (cg 2 l) : EReal)) (k3 : ∀ r l, u3 (ix2 r l) = (d r (cg 3 l) : EReal))
    (r : Fin 512) (l : Fin 1024) :
    (show FVec Ideal S512x1024 .f32 from v.readCov (Val := Elt Ideal)
      [⟨Rect.unit ![0, 768] ![512, 256] inb_S512x1024_S512x256_0_768, u3⟩, ⟨Rect.unit ![0, 512] ![512, 256] inb_S512x1024_S512x256_0_512, u2⟩,
        ⟨Rect.unit ![0, 256] ![512, 256] inb_S512x1024_S512x256_0_256, u1⟩, ⟨Rect.unit ![0, 0] ![512, 256] inb_S512x1024_S512x256_0_0, u0⟩]
      (Rect.unit (s := S512x1024) ![0, 0] ![512, 1024] b).toLoadRect) (ix2 r l) = (d r l : EReal) := by
  rw [View.readCov_eq_canon']
  have e : (Rect.unit (s := S512x1024) ![0, 0] ![512, 1024] b).toLoadRect.idx (ix2 r l) = ix2 r l := by
    refine funext (Fin.forall_fin_two.2 ⟨Fin.ext ?_, Fin.ext ?_⟩)
    · show 0 + 1 * r.val = r.val; omega
    · show 0 + 1 * l.val = l.val; omega
  show View.canon _ ((Rect.unit (s := S512x1024) ![0, 0] ![512, 1024] b).toLoadRect.idx (ix2 r l)) = _
  rw [e]
  canon_tiles x h
  all_goals
    idx_vars x
    obtain rfl : r = x0 := Fin.ext h0
  · exact (k3 r x1).trans (by rw [show l = cg 3 x1 from Fin.ext h1])
  · exact (k2 r x1).trans (by rw [show l = cg 2 x1 from Fin.ext h1])
  · exact (k1 r x1).trans (by rw [show l = cg 1 x1 from Fin.ext h1])
  · exact (k0 r x1).trans (by rw [show l = cg 0 x1 from Fin.ext (h1.trans (Nat.zero_add _).symm)])

/-! ## The payloads -/

section shares

variable {n a : ℕ} (hn : n < 8) (ha : a = n) (i : grid0.Coords) (hi : (i 0).val = n) {M : Fin 4096 → Fin 256 → ℝ}
  {B : FVec Ideal S512x256 .f32} (h0 : ∀ r l, B (ix2 r l) = (M ⟨n * 512 + r.val, by omega⟩ l : EReal))
  {C : FVec Ideal S16x256 .f32} (h1 : ∀ r l, ∀ h : n < 7, C (ix2 r l) = (M ⟨(n + 1) * 512 + r.val, by omega⟩ l : EReal))

include hn hi h0 in
theorem lo0 (r : Fin 512) (l : Fin 256) : k0_pay2 (F := Ideal) i B (ix2 r l) = (ev 2 (fun a => M a l) (n * 512 + r.val) : EReal) := by
  pointwise [k0_pay2]
  rw [hi]; exact share_block hn r.isLt (by decide) (by decide) (h0 r l)
include hn ha h0 in
theorem lo1 (r : Fin 512) (l : Fin 256) : k0_pay6 (F := Ideal) (BitVec.ofNat 32 a) B (ix2 r l) = (ev 4 (fun a => M a l) (n * 512 + r.val) : EReal) := by
  pointwise [k0_pay6]
  rw [ha]; exact share_block hn r.isLt (by decide) (by decide) (h0 r l)
include hn ha h0 in
theorem lo2 (r : Fin 512) (l : Fin 256) : k0_pay10 (F := Ideal) (BitVec.ofNat 32 a) B (ix2 r l) = (ev 8 (fun a => M a l) (n * 512 + r.val) : EReal) := by
  pointwise [k0_pay10]
  rw [ha]; exact share_block hn r.isLt (by decide) (by decide) (h0 r l)
include hn ha h0 in
theorem lo3 (r : Fin 512) (l : Fin 256) : k0_pay14 (F := Ideal) (BitVec.ofNat 32 a) B (ix2 r l) = (ev 16 (fun a => M a l) (n * 512 + r.val) : EReal) := by
  pointwise [k0_pay14]
  rw [ha]; exact share_block hn r.isLt (by decide) (by decide) (h0 r l)

include hn hi h1 in
theorem hi0 (r : Fin 16) (l : Fin 256) : k0_pay3 (F := Ideal) i C (ix2 r l) = (ev 2 (fun a => M a l) (n * 512 + (512 + r.val)) : EReal) := by
  pointwise [k0_pay3]
  rw [hi]; exact share_next hn r.isLt (by decide) (by decide) (h1 r l)
include hn ha h1 in
theorem hi1 (r : Fin 16) (l : Fin 256) : k0_pay8 (F := Ideal) (k0_pay7 (BitVec.ofNat 32 a) C) (ix2 r l) = (ev 4 (fun a => M a l) (n * 512 + (512 + r.val)) : EReal) := by
  pointwise [k0_pay7, k0_pay8]
  rw [ha]; exact share_next hn r.isLt (by decide) (by decide) (h1 r l)
include hn ha h1 in
theorem hi2 (r : Fin 16) (l : Fin 256) : k0_pay11 (F := Ideal) (BitVec.ofNat 32 a) C (Scalar.muli (Scalar.addi (BitVec.ofNat 32 a) 1#32) 512#32)
    (iota Kind.tc S16x1 32 [0] iota_S16x1_d0_w32) (ix2 r l) = (ev 8 (fun a => M a l) (n * 512 + (512 + r.val)) : EReal) := by
  pointwise [k0_pay11]
  rw [ha]; exact share_next hn r.isLt (by decide) (by decide) (h1 r l)
include hn ha h1 in
theorem hi3 (r : Fin 16) (l : Fin 256) : k0_pay15 (F := Ideal) (BitVec.ofNat 32 a) C (ix2 r l) = (ev 16 (fun a => M a l) (n * 512 + (512 + r.val)) : EReal) := by
  pointwise [k0_pay15]
  rw [ha]; exact share_next hn r.isLt (by decide) (by decide) (h1 r l)

end shares

section sums

variable {B b0 b1 b2 b3 b4 b5 b6 b7 b8 b9 b10 b11 b12 b13 b14 b15 : FVec Ideal S512x256 .f32} {M : Fin 512 → Fin 256 → ℝ} {e : ℕ → Fin 256 → ℝ}
  (hB : ∀ r l, B (ix2 r l) = (M r l : EReal))
  (e0 : ∀ r l, b0 (ix2 r l) = (e (r.val + 0) l : EReal)) (e1 : ∀ r l, b1 (ix2 r l) = (e (r.val + 1) l : EReal))
  (e2 : ∀ r l, b2 (ix2 r l) = (e (r.val + 2) l : EReal)) (e3 : ∀ r l, b3 (ix2 r l) = (e (r.val + 3) l : EReal))
  (e4 : ∀ r l, b4 (ix2 r l) = (e (r.val + 4) l : EReal)) (e5 : ∀ r l, b5 (ix2 r l) = (e (r.val + 5) l : EReal))
  (e6 : ∀ r l, b6 (ix2 r l) = (e (r.val + 6) l : EReal)) (e7 : ∀ r l, b7 (ix2 r l) = (e (r.val + 7) l : EReal))
  (e8 : ∀ r l, b8 (ix2 r l) = (e (r.val + 8) l : EReal)) (e9 : ∀ r l, b9 (ix2 r l) = (e (r.val + 9) l : EReal))
  (e10 : ∀ r l, b10 (ix2 r l) = (e (r.val + 10) l : EReal)) (e11 : ∀ r l, b11 (ix2 r l) = (e (r.val + 11) l : EReal))
  (e12 : ∀ r l, b12 (ix2 r l) = (e (r.val + 12) l : EReal)) (e13 : ∀ r l, b13 (ix2 r l) = (e (r.val + 13) l : EReal))
  (e14 : ∀ r l, b14 (ix2 r l) = (e (r.val + 14) l : EReal)) (e15 : ∀ r l, b15 (ix2 r l) = (e (r.val + 15) l : EReal))

include hB e0 e1 in
theorem sum2 (r : Fin 512) (l : Fin 256) : k0_pay5 (F := Ideal) (k0_pay4 B) b0 b1 (ix2 r l)
    = ((-M r l + ∑ i ∈ Finset.range 2, e (r.val + i) l : ℝ) : EReal) := by
  pointwise [k0_pay4, k0_pay5, hB, e0, e1]
  rw [← EReal.coe_zero]
  simp only [← EReal.coe_sub, ← EReal.coe_add, Finset.sum_range_succ, Finset.sum_range_zero, Nat.add_zero]
  congr 1; ring

include hB e0 e1 e2 e3 in
theorem sum4 (r : Fin 512) (l : Fin 256) : k0_pay9 (F := Ideal) B b0 b1 b2 b3 (ix2 r l)
    = ((-M r l + ∑ i ∈ Finset.range 4, e (r.val + i) l : ℝ) : EReal) := by
  pointwise [k0_pay9, hB, e0, e1, e2, e3]
  rw [← EReal.coe_zero]
  simp only [← EReal.coe_sub, ← EReal.coe_add, Finset.sum_range_succ, Finset.sum_range_zero, Nat.add_zero]
  congr 1; ring

include hB e0 e1 e2 e3 e4 e5 e6 e7 in
theorem sum8 (r : Fin 512) (l : Fin 256) : k0_pay13 (F := Ideal) (k0_pay12 B b0 b1 b2 b3 b4 b5 b6 b7) (ix2 r l)
    = ((-M r l + ∑ i ∈ Finset.range 8, e (r.val + i) l : ℝ) : EReal) := by
  pointwise [k0_pay12, k0_pay13, hB, e0, e1, e2, e3, e4, e5, e6, e7]
  rw [← EReal.coe_zero]
  simp only [← EReal.coe_sub, ← EReal.coe_add, Finset.sum_range_succ, Finset.sum_range_zero, Nat.add_zero]
  congr 1; ring

include hB e0 e1 e2 e3 e4 e5 e6 e7 e8 e9 e10 e11 e12 e13 e14 e15 in
theorem sum16 (r : Fin 512) (l : Fin 256) :
    k0_pay18 (F := Ideal) (k0_pay17 (k0_pay16 B) b0 b1 b2 b3 b4 b5 b6 b7 b8 b9 b10 b11 b12 b13 b14) b15 (ix2 r l)
    = ((-M r l + ∑ i ∈ Finset.range 16, e (r.val + i) l : ℝ) : EReal) := by
  pointwise [k0_pay16, k0_pay17, k0_pay18, hB, e0, e1, e2, e3, e4, e5, e6, e7, e8, e9, e10, e11, e12, e13, e14, e15]
  rw [← EReal.coe_zero]
  simp only [← EReal.coe_sub, ← EReal.coe_add, Finset.sum_range_succ, Finset.sum_range_zero, Nat.add_zero]
  congr 1; ring

end sums

section norm

variable {B2 : FVec Ideal S512x1024 .f32} {B3 : FVec Ideal S1x1024 .f32} {U : FVec Ideal S512x1024 .f32}
  {x d : Fin 512 → Fin 1024 → ℝ} {g : Fin 1024 → ℝ}
  (h2 : ∀ r k, B2 (ix2 r k) = (x r k : EReal)) (h3 : ∀ k, B3 (ix2 0 k) = (g k : EReal))
  (hu : ∀ r k, U (ix2 r k) = (d r k : EReal))

include h2 in
theorem root (r : Fin 512) (z : Fin 1) : k0_pay19 (F := Ideal) B2 (ix2 r z) = (rs (x r) : EReal) := by
  pointwise [k0_pay19, h2]
  simp only [lit_1024, lit_eps6, ← EReal.coe_mul, ← EReal.coe_add, sum_coe, div_1024, rs_coe]

include h2 h3 hu in
theorem gradX (v : FVec Ideal S512x1024 .f32) (r : Fin 512) (l : Fin 1024) :
    k0_pay22 (F := Ideal) U B2 B3 v (ix2 r l) = v (ix2 r l) + (rmsDx (d r) g (x r) l : EReal) := by
  pointwise [k0_pay22, k0_pay20, root h2, h2, h3, hu]
  simp only [lit_1024, ← EReal.coe_mul, ← EReal.coe_sub, ← EReal.coe_add, sum_coe, div_1024, rmsDx]

include h2 hu in
theorem gradG (l : Fin 1024) : k0_pay21 (F := Ideal) U B2 (ix2 0 l) = ((∑ r, d r l * (x r l * rs (x r)) : ℝ) : EReal) := by
  pointwise [k0_pay21, k0_pay20, root h2, h2, hu]
  simp only [← EReal.coe_mul, sum_coe]

theorem add1 (a b : FVec Ideal S1x1024 .f32) (j) : k0_pay1 (F := Ideal) a b j = b j + a j := by
  pointwise [k0_pay1]

end norm

/-! ## The blocks -/

theorem idx : ∀ t : Fin cfg0.N, win0_0.index t = ![t.val, 0] ∧ win0_1.index t = ![min ((t.val + 1) * 32) 255, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem co : ∀ t : Fin cfg0.N, (grid0.coords t 0).val = t.val := (by decide +kernel : ∀ t : Fin grid0.N, _)

section run

variable (m : (ℓ : Loc nD τ sig) → Buf (Elt Ideal) ℓ) (c : Dev nD)
variable {H : Fin 4096 → Fin 1024 → EReal} {X M : Fin 4096 → Fin 1024 → ℝ} {G : Fin 1024 → ℝ}
  (hX : ∀ a b, m ((c : Thread nD τ).loc main_arg0) (ix2 a b) = (X a b : EReal))
  (hG : ∀ b, m ((c : Thread nD τ).loc main_arg1) (ix1 b) = (G b : EReal))
  (hH : ∀ a b, m ((c : Thread nD τ).loc main_arg2) (ix2 a b) = H a b)
  (hM : ∀ a b, m ((c : Thread nD τ).loc main_arg3) (ix2 a b) = (M a b : EReal))

/-- Row `r` of block `t`. -/
abbrev row (t : Fin cfg0.N) (r : Fin 512) : Fin 4096 := rowOf N_0 t r

include hM in
theorem blk0 (t : Fin cfg0.N) (r : Fin 512) (k : Fin 1024) : iblk m c 0 t (ix2 r k) = (M (row t r) k : EReal) := by
  rw [← hM]; blk_ext [iblk, V, idx t, row, rowOf]

include hM in
theorem blk1 (t : Fin cfg0.N) (r : Fin 16) (k : Fin 1024) (h : t.val < 7) :
    iblk m c 1 t (ix2 r k) = (M ⟨(t.val + 1) * 512 + r.val, by omega⟩ k : EReal) := by
  rw [← hM]; blk_ext [iblk, V, idx t]

include hX in
theorem blk2 (t : Fin cfg0.N) (r : Fin 512) (k : Fin 1024) : iblk m c 2 t (ix2 r k) = (X (row t r) k : EReal) := by
  rw [← hX]; blk_ext [iblk, V, idx t, row, rowOf]

include hG in
theorem blk3 (t : Fin cfg0.N) (k : Fin 1024) : iblk m c 3 t (ix2 0 k) = (G k : EReal) := by
  rw [← hG]; blk_point [iblk, V, idx t]

include hH in
theorem blk4 (t : Fin cfg0.N) (r : Fin 512) (k : Fin 1024) : iblk m c 4 t (ix2 r k) = H (row t r) k := by
  rw [← hH]; blk_ext [iblk, V, idx t, row, rowOf]

theorem dpool_cg (t : Fin cfg0.N) (r : Fin 512) (g : Fin 4) (l : Fin 256) :
    dpool M (row t r) (cg g l) = -M (row t r) (cg g l)
      + ∑ i ∈ Finset.range (2 ^ (g.val + 1)), ev (2 ^ (g.val + 1)) (fun a => M a (cg g l)) (t.val * 512 + (r.val + i)) := by
  simp only [dpool, dp, win_cg, row, rowOf, Nat.add_assoc]

include hM in
/-- What a point leaves in its two outputs, over the pooled rows' cotangents it gathered in between. -/
theorem outs (t : Fin cfg0.N) : ∃ U : FVec Ideal S512x1024 .f32,
    (∀ r l, (outsAt0 m c t.val t.isLt).1 (ix2 r l) = k0_pay22 (F := Ideal) U (iblk m c 2 t) (iblk m c 3 t) (iblk m c 4 t) (ix2 r l))
    ∧ (t.val % 8 = 0 → ∀ l, (outsAt0 m c t.val t.isLt).2 (ix2 0 l) = k0_pay21 (F := Ideal) U (iblk m c 2 t) (ix2 0 l))
    ∧ (¬t.val % 8 = 0 → ∀ l, (outsAt0 m c t.val t.isLt).2 (ix2 0 l)
      = k0_pay1 (F := Ideal) (k0_pay21 U (iblk m c 2 t)) (outsAt0 m c (t.val - 1) (Nat.lt_of_le_of_lt (Nat.sub_le _ _) t.isLt)).2 (ix2 0 l))
    ∧ (∀ r l, U (ix2 r l) = (dpool M (row t r) l : EReal)) := by
  have ht := lt_of_lt_of_eq t.isLt N_0
  have hi := co t
  by_cases h : t.val % 8 = 0
  all_goals
    apply Exists.intro
    apply And.intro
    · intro r l
      first | rw [outsAt0_A m c t h (by omega)] | rw [outsAt0_B m c t h (by omega)]
      frame_out
      rfl
    refine ⟨fun h' l => ?_, fun h' l => ?_, ?_⟩
  · rw [outsAt0_A m c t h (by omega)]; frame_out
  · exact absurd h h'
  rotate_left
  · exact absurd h' h
  · rw [outsAt0_B m c t h (by omega)]; frame_out
  all_goals
    refine whole (fun r l => ?_) (fun r l => ?_) (fun r l => ?_) (fun r l => ?_)
    · rw [dpool_cg]
      refine sum2 (M := fun r l => M (row t r) (cg 0 l)) (e := fun s l => ev 2 (fun a => M a (cg 0 l)) (t.val * 512 + s))
        (fun r l => (cols 0 _ rfl _ r l).trans (blk0 m c hM t r _)) ?_ ?_ r l
      all_goals
        intro r l
        refine share (e := fun s l => ev 2 (fun a => M a (cg 0 l)) (t.val * 512 + s)) ?_ (fun r l => ?_) (fun r l => ?_) r l
        · decide
        · exact lo0 ht hi _ hi (M := fun a l => M a (cg 0 l)) (fun r l => (cols 0 _ rfl _ r l).trans (blk0 m c hM t r _)) r l
        · exact hi0 ht hi _ hi (M := fun a l => M a (cg 0 l)) (fun r l h => (cols 0 _ rfl _ r l).trans (blk1 m c hM t r _ h)) r l
    · rw [dpool_cg]
      refine sum4 (M := fun r l => M (row t r) (cg 1 l)) (e := fun s l => ev 4 (fun a => M a (cg 1 l)) (t.val * 512 + s))
        (fun r l => (cols 1 _ rfl _ r l).trans (blk0 m c hM t r _)) ?_ ?_ ?_ ?_ r l
      all_goals
        intro r l
        refine share (e := fun s l => ev 4 (fun a => M a (cg 1 l)) (t.val * 512 + s)) ?_ (fun r l => ?_) (fun r l => ?_) r l
        · decide
        · exact lo1 ht hi _ hi (M := fun a l => M a (cg 1 l)) (fun r l => (cols 1 _ rfl _ r l).trans (blk0 m c hM t r _)) r l
        · exact hi1 ht hi _ hi (M := fun a l => M a (cg 1 l)) (fun r l h => (cols 1 _ rfl _ r l).trans (blk1 m c hM t r _ h)) r l
    · rw [dpool_cg]
      refine sum8 (M := fun r l => M (row t r) (cg 2 l)) (e := fun s l => ev 8 (fun a => M a (cg 2 l)) (t.val * 512 + s))
        (fun r l => (cols 2 _ rfl _ r l).trans (blk0 m c hM t r _)) ?_ ?_ ?_ ?_ ?_ ?_ ?_ ?_ r l
      all_goals
        intro r l
        refine share (e := fun s l => ev 8 (fun a => M a (cg 2 l)) (t.val * 512 + s)) ?_ (fun r l => ?_) (fun r l => ?_) r l
        · decide
        · exact lo2 ht hi _ hi (M := fun a l => M a (cg 2 l)) (fun r l => (cols 2 _ rfl _ r l).trans (blk0 m c hM t r _)) r l
        · exact hi2 ht hi _ hi (M := fun a l => M a (cg 2 l)) (fun r l h => (cols 2 _ rfl _ r l).trans (blk1 m c hM t r _ h)) r l
    · rw [dpool_cg]
      refine sum16 (M := fun r l => M (row t r) (cg 3 l)) (e := fun s l => ev 16 (fun a => M a (cg 3 l)) (t.val * 512 + s))
        (fun r l => (cols 3 _ rfl _ r l).trans (blk0 m c hM t r _)) ?_ ?_ ?_ ?_ ?_ ?_ ?_ ?_ ?_ ?_ ?_ ?_ ?_ ?_ ?_ ?_ r l
      all_goals
        intro r l
        refine share (e := fun s l => ev 16 (fun a => M a (cg 3 l)) (t.val * 512 + s)) ?_ (fun r l => ?_) (fun r l => ?_) r l
        · decide
        · exact lo3 ht hi _ hi (M := fun a l => M a (cg 3 l)) (fun r l => (cols 3 _ rfl _ r l).trans (blk0 m c hM t r _)) r l
        · exact hi3 ht hi _ hi (M := fun a l => M a (cg 3 l)) (fun r l h => (cols 3 _ rfl _ r l).trans (blk1 m c hM t r _ h)) r l

include hX hG hH hM in
theorem left5 (t : Fin cfg0.N) (r : Fin 512) (l : Fin 1024) :
    (outsAt0 m c t.val t.isLt).1 (ix2 r l) = H (row t r) l + (rmsDx (dpool M (row t r)) G (X (row t r)) l : EReal) := by
  obtain ⟨U, h5, -, -, hU⟩ := outs m c hM t
  rw [h5, gradX (blk2 m c hX t) (blk3 m c hG t) hU, blk4 m c hH]

include hX hG hH hM in
/-- The gradient of the input, whole: what came from later layers, and the norm's. -/
theorem final5 : (dats m 0 c).arrAt 5 (cfgs 0).N
    = fun i => H (i 0) (i 1) + real2 (fun a b => rmsDx (dpool M a) G (X a) b) i := by
  refine (dats m 0 c).arrAt_eq_of_covers 5 _ (by decide +kernel) fun t hf y => ?_
  blk_simp
  rw [after0_5, show (win0_5.blk t).view.emb y = ix2 (row t (y 0)) (y 1) by blk_ext [idx t, row, rowOf]]
  exact (congrArg _ (eq_ix2 y)).trans (left5 m c hX hG hH hM t (y 0) (y 1))

include hX hM in
theorem left6 (t : Fin cfg0.N) (l : Fin 1024) (hr : t.val % 8 = 7) :
    (outsAt0 m c t.val t.isLt).2 (ix2 0 l) = ((∑ a, dpool M a l * (X a l * rs (X a)) : ℝ) : EReal) :=
  acc_rows N_0 (fun n h => (outsAt0 m c n h).2 (ix2 0 l)) (fun a => dpool M a l * (X a l * rs (X a)))
    (fun t h => by
      obtain ⟨U, -, hA, -, hU⟩ := outs m c hM t
      exact (hA h l).trans (gradG (blk2 m c hX t) hU l))
    (fun t h => by
      obtain ⟨U, -, -, hB, hU⟩ := outs m c hM t
      exact (hB h l).trans ((add1 _ _ _).trans (congrArg _ (gradG (blk2 m c hX t) hU l))))
    t hr

include hX hM in
/-- The gradient of the gain, summed over the points. -/
theorem final6 : (dats m 0 c).arrAt 6 (cfgs 0).N = real2 fun (_ : Fin 1) l => ∑ a, dpool M a l * (X a l * rs (X a)) := by
  refine (dats m 0 c).arrAt_eq_of_covers 6 _ (by decide +kernel) fun t hf y => ?_
  blk_simp
  rw [after0_6, show (win0_6.blk t).view.emb y = ix2 0 (y 1) by blk_ext [idx t]]
  exact (congrArg _ (show y = ix2 0 (y 1) by blk_ext)).trans (left6 m c hX hM t (y 1) ((flush0_6 t).mp hf))

end run

end Cert.PoolIdeal.Value

end
-- ==== Proof.PoolRef.lean ====
/- The pooling windows' gradient through its norm: what the reference computes at finite arguments. -/
module

public import proofs.«01_k».proof.Proof.Pool
public import proofs.«01_k».proof.Proof.NormRef
public import proofs.«01_k».proof.Proof.Gen.PoolRefIdeal.Read

@[expose] public section

set_option maxRecDepth 16384

noncomputable section

namespace Cert.PoolRefIdeal.Read

open Cert.PoolRefIdeal Cert.Reals Cert.PoolIdeal.Value
open Idealize.ShloMosaic TcCoe

/-! ## The running sum's transpose: a sum over all later tokens -/

theorem foldl_add {n : ℕ} (v : Fin n → EReal) (z : EReal) : (List.finRange n).foldl (fun r k => r + v k) z = z + ∑ k, v k := by
  rw [← List.sum_ofFn, List.ofFn_eq_map]
  generalize List.finRange n = L
  induction L generalizing z with
  | nil => simp
  | cons a L ih => rw [List.foldl_cons, ih, List.map_cons, List.sum_cons, add_assoc]

/-- Position `n` of a column window. -/
theorem window_pos {N : ℕ} (n : Fin (⟨3, ![N, 1, 1]⟩ : Shape).numel) (a : Fin 3) :
    ((⟨3, ![N, 1, 1]⟩ : Shape).rowMajor.symm n a).val = ![n.val, 0, 0] a := by
  obtain ⟨i, rfl⟩ := (⟨3, ![N, 1, 1]⟩ : Shape).rowMajor.surjective n
  rw [Equiv.symm_apply_apply]
  have h1 : (i 1).val < 1 := (i 1).isLt
  have h2 : (i 2).val < 1 := (i 2).isLt
  match a with
  | ⟨0, _⟩ =>
    show (i 0).val = ((⟨3, ![N, 1, 1]⟩ : Shape).rowMajor i).val
    rw [Shape.rowMajor_val_three]
    show (i 0).val = ((i 0).val * 1 + (i 1).val) * 1 + (i 2).val
    omega
  | ⟨1, _⟩ => show (i 1).val = 0; omega
  | ⟨2, _⟩ => show (i 2).val = 0; omega

theorem window_numel (N : ℕ) : (⟨3, ![N, 1, 1]⟩ : Shape).numel = N := by
  show ∏ a : Fin 3, ![N, 1, 1] a = N
  rw [Fin.prod_univ_three]; simp

/-- A sum over windows as long as the whole column, `lo` zeros before it and zeros after. -/
theorem window_sum {N lo P : ℕ} {x : FVec Ideal ⟨3, ![N, 4, 256]⟩ .f32} {init : FVec Ideal S_ .f32} {f : ℕ → Fin 4 → Fin 256 → ℝ} {hw hu}
    (hx : ∀ a g l, x (ix3 a g l) = (f (lo + a.val) g l : EReal)) (hf : ∀ s g l, s < lo ∨ lo + N ≤ s → f s g l = 0) (hi : ∀ j, init j = 0)
    (t : Fin N) (g : Fin 4) (l : Fin 256) :
    Host.reduceWindowAdd (F := Ideal) (φ := .f32) (t := ⟨3, ![N, 4, 256]⟩) ![N, 1, 1] ![1, 1, 1] ![lo, 0, 0] ![P, 0, 0] x init hw hu (ix3 t g l)
      = ((∑ n ∈ Finset.range N, f (t.val + n) g l : ℝ) : EReal) := by
  show (List.finRange (⟨3, ![N, 1, 1]⟩ : Shape).numel).foldl _ _ = _
  refine (foldl_add _ _).trans ((congrArg₂ (· + ·) (hi _) (Finset.sum_congr rfl fun n _ =>
    show _ = ((f (t.val + n.val) g l : ℝ) : EReal) from ?_)).trans ?_)
  · have w0 : ((⟨3, ![N, 1, 1]⟩ : Shape).rowMajor.symm n 0).val = n.val := window_pos n 0
    have w1 : ((⟨3, ![N, 1, 1]⟩ : Shape).rowMajor.symm n 1).val = 0 := window_pos n 1
    have w2 : ((⟨3, ![N, 1, 1]⟩ : Shape).rowMajor.symm n 2).val = 0 := window_pos n 2
    split
    · next hin =>
      have h0 := hin 0
      change lo ≤ t.val * 1 + ((⟨3, ![N, 1, 1]⟩ : Shape).rowMajor.symm n 0).val
        ∧ t.val * 1 + ((⟨3, ![N, 1, 1]⟩ : Shape).rowMajor.symm n 0).val - lo < N at h0
      rw [w0] at h0
      refine (congrArg x (funext fun a => Fin.ext ?_)).trans ((hx ⟨t.val + n.val - lo, by omega⟩ g l).trans ?_)
      · match a with
        | ⟨0, _⟩ => show t.val * 1 + ((⟨3, ![N, 1, 1]⟩ : Shape).rowMajor.symm n 0).val - lo = t.val + n.val - lo; omega
        | ⟨1, _⟩ => show g.val * 1 + ((⟨3, ![N, 1, 1]⟩ : Shape).rowMajor.symm n 1).val - 0 = g.val; omega
        | ⟨2, _⟩ => show l.val * 1 + ((⟨3, ![N, 1, 1]⟩ : Shape).rowMajor.symm n 2).val - 0 = l.val; omega
      · rw [show lo + (t.val + n.val - lo) = t.val + n.val by omega]
    · next hin =>
      rw [hf _ g l]
      · exact (hi _).trans EReal.coe_zero.symm
      · by_contra hl
        refine hin fun a => ?_
        match a with
        | ⟨0, _⟩ =>
          show lo ≤ t.val * 1 + ((⟨3, ![N, 1, 1]⟩ : Shape).rowMajor.symm n 0).val
            ∧ t.val * 1 + ((⟨3, ![N, 1, 1]⟩ : Shape).rowMajor.symm n 0).val - lo < N
          omega
        | ⟨1, _⟩ =>
          show 0 ≤ g.val * 1 + ((⟨3, ![N, 1, 1]⟩ : Shape).rowMajor.symm n 1).val
            ∧ g.val * 1 + ((⟨3, ![N, 1, 1]⟩ : Shape).rowMajor.symm n 1).val - 0 < 4
          omega
        | ⟨2, _⟩ =>
          show 0 ≤ l.val * 1 + ((⟨3, ![N, 1, 1]⟩ : Shape).rowMajor.symm n 2).val
            ∧ l.val * 1 + ((⟨3, ![N, 1, 1]⟩ : Shape).rowMajor.symm n 2).val - 0 < 256
          omega
  · have e := Finset.sum_range (n := (⟨3, ![N, 1, 1]⟩ : Shape).numel) fun n => f (t.val + n) g l
    rw [zero_add, sum_coe, ← e, window_numel]

theorem share_ref {w : ℕ} {M : Fin 4096 → Fin 1024 → ℝ} {s : Fin 4096} {k k' : Fin 1024} (hw : 0 < w) (h : M s k = M s k') :
    Ideal.div (M s k : EReal) (cnt s w : EReal) = (ev w (fun a => M a k') s : EReal) := by
  rw [h, div_coe' _ (cnt_ne _ hw), ev_of_lt w _ s.isLt]

theorem diff_ref {w : ℕ} (M : Fin 4096 → ℝ) (s : Fin 4096) :
    ((ev w M s : EReal) + if h : w + s.val < 4096 then -(ev w M (w + s.val) : EReal) else 0) = ((ev w M s - ev w M (s.val + w) : ℝ) : EReal) := by
  rw [Nat.add_comm w]
  by_cases h : s.val + w < 4096
  · rw [dif_pos h, ← EReal.coe_neg, ← EReal.coe_add, sub_eq_add_neg]
  · rw [dif_neg h, ev_past w M (not_lt.1 h), sub_zero, add_zero]

variable {A0 A2 A3 : FVec Ideal S4096x1024 .f32} {A1 : FVec Ideal S1024 .f32}
  {H : Fin 4096 → Fin 1024 → EReal} {X M : Fin 4096 → Fin 1024 → ℝ} {G : Fin 1024 → ℝ}
  (hX : ∀ a b, A0 (ix2 a b) = (X a b : EReal)) (hG : ∀ b, A1 (ix1 b) = (G b : EReal)) (hH : ∀ a b, A2 (ix2 a b) = H a b)
  (hM : ∀ a b, A3 (ix2 a b) = (M a b : EReal))

theorem cnt16 (s : Fin 4096) (z : Fin 1) : val_main_v75 (F := Ideal) (ix2 s z) = (cnt s 16 : EReal) := by
  pointwise [val_main_v75, val_main_v74, val_main_v73, val_main_v71, val_main_v72, val_main_v18, val_main_v70, val_main_c_17, val_main_c_16]
  exact cnt_word s 16 (by omega) (by omega)

theorem cnt8 (s : Fin 4096) (z : Fin 1) : val_main_v60 (F := Ideal) (ix2 s z) = (cnt s 8 : EReal) := by
  pointwise [val_main_v60, val_main_v59, val_main_v58, val_main_v56, val_main_v57, val_main_v18, val_main_v55, val_main_c_13, val_main_c_12]
  exact cnt_word s 8 (by omega) (by omega)

theorem cnt4 (s : Fin 4096) (z : Fin 1) : val_main_v45 (F := Ideal) (ix2 s z) = (cnt s 4 : EReal) := by
  pointwise [val_main_v45, val_main_v44, val_main_v43, val_main_v41, val_main_v42, val_main_v18, val_main_v40, val_main_c_9, val_main_c_8]
  exact cnt_word s 4 (by omega) (by omega)

theorem cnt2 (s : Fin 4096) (z : Fin 1) : val_main_v30 (F := Ideal) (ix2 s z) = (cnt s 2 : EReal) := by
  pointwise [val_main_v30, val_main_v29, val_main_v28, val_main_v26, val_main_v27, val_main_v18, val_main_v25, val_main_c_5, val_main_c]
  exact cnt_word s 2 (by omega) (by omega)

include hM in
theorem share16 (s : Fin 4096) (l : Fin 256) :
    val_main_v97 (F := Ideal) A3 (ix2 s l) = (ev 16 (fun a => M a (cg 3 l)) s : EReal) := by
  pointwise [val_main_v97, val_main_v96, cnt16, val_main_v95, val_main_v94, val_main_v86, hM]
  exact share_ref (by decide) (rfl)

include hM in
theorem diff16 (s : Fin 4096) (l : Fin 256) : val_main_v102 (F := Ideal) A3 (ix2 s l)
    = ((ev 16 (fun a => M a (cg 3 l)) s - ev 16 (fun a => M a (cg 3 l)) (s.val + 16) : ℝ) : EReal) := by
  pointwise [val_main_v102, val_main_v101, val_main_v99, val_main_v98, val_main_cst_18, share16 hM]
  exact diff_ref _ _

include hM in
theorem share8 (s : Fin 4096) (l : Fin 256) :
    val_main_v106 (F := Ideal) A3 (ix2 s l) = (ev 8 (fun a => M a (cg 2 l)) s : EReal) := by
  pointwise [val_main_v106, val_main_v105, cnt8, val_main_v93, val_main_v92, val_main_v86, hM]
  exact share_ref (by decide) (rfl)

include hM in
theorem diff8 (s : Fin 4096) (l : Fin 256) : val_main_v111 (F := Ideal) A3 (ix2 s l)
    = ((ev 8 (fun a => M a (cg 2 l)) s - ev 8 (fun a => M a (cg 2 l)) (s.val + 8) : ℝ) : EReal) := by
  pointwise [val_main_v111, val_main_v110, val_main_v108, val_main_v107, val_main_cst_20, share8 hM]
  exact diff_ref _ _

include hM in
theorem share4 (s : Fin 4096) (l : Fin 256) :
    val_main_v116 (F := Ideal) A3 (ix2 s l) = (ev 4 (fun a => M a (cg 1 l)) s : EReal) := by
  pointwise [val_main_v116, val_main_v115, cnt4, val_main_v91, val_main_v90, val_main_v86, hM]
  exact share_ref (by decide) (rfl)

include hM in
theorem diff4 (s : Fin 4096) (l : Fin 256) : val_main_v121 (F := Ideal) A3 (ix2 s l)
    = ((ev 4 (fun a => M a (cg 1 l)) s - ev 4 (fun a => M a (cg 1 l)) (s.val + 4) : ℝ) : EReal) := by
  pointwise [val_main_v121, val_main_v120, val_main_v118, val_main_v117, val_main_cst_22, share4 hM]
  exact diff_ref _ _

include hM in
theorem share2 (s : Fin 4096) (l : Fin 256) :
    val_main_v126 (F := Ideal) A3 (ix2 s l) = (ev 2 (fun a => M a (cg 0 l)) s : EReal) := by
  pointwise [val_main_v126, val_main_v125, cnt2, val_main_v89, val_main_v88, val_main_v86, hM]
  exact share_ref (by decide) (congrArg (M s) (Fin.ext (Nat.zero_add _).symm))

include hM in
theorem diff2 (s : Fin 4096) (l : Fin 256) : val_main_v131 (F := Ideal) A3 (ix2 s l)
    = ((ev 2 (fun a => M a (cg 0 l)) s - ev 2 (fun a => M a (cg 0 l)) (s.val + 2) : ℝ) : EReal) := by
  pointwise [val_main_v131, val_main_v130, val_main_v128, val_main_v127, val_main_cst_24, share2 hM]
  exact diff_ref _ _

include hM in
theorem diffs (s : Fin 4096) (g : Fin 4) (l : Fin 256) : val_main_v134 (F := Ideal) A3 (ix3 s g l)
    = ((ev (2 ^ (g.val + 1)) (fun a => M a (cg g l)) s - ev (2 ^ (g.val + 1)) (fun a => M a (cg g l)) (s.val + 2 ^ (g.val + 1)) : ℝ) : EReal) := by
  match g with
  | 0 | 1 | 2 | 3 =>
    pointwise [val_main_v134, val_main_v133, val_main_v132, val_main_v124, val_main_v123, val_main_v122, val_main_v114, val_main_v113,
      val_main_v112, val_main_v104, val_main_v103, val_main_cst_19, val_main_cst_21, val_main_cst_23, val_main_cst_25,
      diff2 hM, diff4 hM, diff8 hM, diff16 hM]
    rfl

include hM in
/-- The pooled rows' cotangent. -/
theorem pooled (t : Fin 4096) (l : Fin 1024) : val_main_v137 (F := Ideal) A3 (ix2 t l) = (dpool M t l : EReal) := by
  obtain ⟨g, k, rfl⟩ : ∃ g k, l = cg g k :=
    ⟨⟨l.val / 256, by omega⟩, ⟨l.val % 256, by omega⟩, Fin.ext (show l.val = l.val / 256 * 256 + l.val % 256 by omega)⟩
  have e : val_main_v136 (F := Ideal) A3 (ix3 t g k) = (dpool M t (cg g k) : EReal) := by
    have z : ∀ j, val_main_call1_call0_v0 (F := Ideal) j = (0 : EReal) := fun j => by
      pointwise [val_main_call1_call0_v0, val_main_call1_call0_cst]
    have key : val_main_v135 (F := Ideal) A3 (ix3 t g k) = _ := window_sum (N := 4096) (lo := 0) (P := 4095)
      (x := val_main_v134 (F := Ideal) A3) (init := val_main_call1_call0_v0 (F := Ideal))
      (f := fun s g l => ev (2 ^ (g.val + 1)) (fun a => M a (cg g l)) s - ev (2 ^ (g.val + 1)) (fun a => M a (cg g l)) (s + 2 ^ (g.val + 1)))
      (fun a g l => by rw [Nat.zero_add]; exact diffs hM a g l)
      (fun s g l h => by
        have h : 4096 ≤ s := h.elim (fun h => absurd h (Nat.not_lt_zero _)) fun h => by omega
        rw [ev_past _ _ h, ev_past _ _ (Nat.le_add_right_of_le h), sub_zero]) z t g k
    pointwise [val_main_v136, val_main_v87, val_main_v86, hM]
    rw [key]
    rw [← EReal.coe_neg, ← EReal.coe_add, dpool, win_cg, dp_cumsum]
    rfl
  pointwise [val_main_v137]
  rw [← e]
  refine congrArg _ (congrArg₂ (ix3 t) (Fin.ext ?_) (Fin.ext ?_))
  · show (g.val * 256 + k.val) / 256 = g.val; omega
  · show (g.val * 256 + k.val) % 256 = k.val; omega

include hM in
theorem cotangent : val_main_v137 (F := Ideal) A3 = real2 (dpool M) := by
  funext i; idx_vars i
  exact pooled hM i0 i1

include hX hG hH hM in
/-- The reference's gradient of the input. -/
theorem gradH : val_main_v158 (F := Ideal) A0 A1 A2 A3
    = fun i => H (i 0) (i 1) + real2 (fun a b => rmsDx (dpool M a) G (X a) b) i := by
  obtain ⟨W', Y', e, h⟩ := NormRefIdeal.Read.anyH hX hG hH (dpool M)
  refine Eq.trans ?_ h
  simp only [val_main_v158, val_main_v157, val_main_v156, val_main_v155, val_main_v154, val_main_v153, val_main_v152, val_main_v150, val_main_v149, val_main_v148, val_main_v146, val_main_v145, val_main_v144, val_main_v142, (cotangent hM).trans e.symm]
  rfl

include hX hM in
/-- The reference's gradient of the gain. -/
theorem gradG : val_main_v159 (F := Ideal) A0 A3 = real2 fun (_ : Fin 1) b => ∑ a, dpool M a b * (X a b * rs (X a)) := by
  obtain ⟨W', Y', e, h⟩ := NormRefIdeal.Read.anyG hX (dpool M)
  refine Eq.trans ?_ h
  simp only [val_main_v159, val_main_v143, val_main_v140, val_main_v139, val_main_v138, (cotangent hM).trans e.symm]
  rfl

end Cert.PoolRefIdeal.Read

end
-- ==== Proof.PoolClaim.lean ====
/- The pooling windows' gradient through its norm: what the kernel leaves is what the reference computes. -/
module

public import proofs.«01_k».proof.Defs
public import proofs.«01_k».proof.Proof.PoolRef
public import proofs.«01_k».proof.Proof.Gen.Pre_pool_finite

@[expose] public section

set_option maxRecDepth 16384
set_option maxHeartbeats 1000000

noncomputable section

namespace Cert.Proof

open Cert.Reals
open Idealize.ShloMosaic TcCoe Idealize.SL.Sem

/-- The gradients of the input and of the gain: the kernel's are the reference's. -/
theorem algebraic_pool : Cert.algebraic_PoolIdeal_PoolRefIdeal_pre_pool_finite := by
  pair_intro
  · run_from Cert.PoolIdeal.Gen.run_main m g
  · run_from Cert.PoolRefIdeal.Value.run m' g'
    all_goals
      have h := hpre c
      choose X hX using fun a b => real_of_lt (by
        have := congrFun h.1 (ix2 a b)
        pointwise [Cert.Pre_pool_finite.fn] at this
        exact this)
      choose G hG using fun b => real_of_lt (by
        have := congrFun h.2.1 (ix1 b)
        pointwise [Cert.Pre_pool_finite.fn] at this
        exact this)
      choose M hM using fun a b => real_of_lt (by
        have := congrFun h.2.2 (ix2 a b)
        pointwise [Cert.Pre_pool_finite.fn] at this
        exact this)
    · rw [← (hagree c).1, ← (hagree c).2.2.1]
      refine (Cert.PoolRefIdeal.Read.val_main_v158_eq (F := Ideal) (StableHlo.launchContents m' c)).trans ?_
      show Cert.PoolRefIdeal.Read.val_main_v158 (F := Ideal) (m' ((c : Thread Cert.PoolRefIdeal.nD Cert.PoolRefIdeal.τ).loc Cert.PoolRefIdeal.main_arg0)) (m' ((c : Thread Cert.PoolRefIdeal.nD Cert.PoolRefIdeal.τ).loc Cert.PoolRefIdeal.main_arg1)) (m' ((c : Thread Cert.PoolRefIdeal.nD Cert.PoolRefIdeal.τ).loc Cert.PoolRefIdeal.main_arg2)) (m' ((c : Thread Cert.PoolRefIdeal.nD Cert.PoolRefIdeal.τ).loc Cert.PoolRefIdeal.main_arg3)) = _
      rw [(hagree c).1, (hagree c).2.1, (hagree c).2.2.1, (hagree c).2.2.2, Cert.PoolRefIdeal.Read.gradH hX hG (fun _ _ => rfl) hM]
      exact (Cert.PoolIdeal.Value.final5 m c hX hG (fun _ _ => rfl) hM).symm
    · refine (Cert.PoolRefIdeal.Read.val_main_v159_eq (F := Ideal) (StableHlo.launchContents m' c)).trans ?_
      show Cert.PoolRefIdeal.Read.val_main_v159 (F := Ideal) (m' ((c : Thread Cert.PoolRefIdeal.nD Cert.PoolRefIdeal.τ).loc Cert.PoolRefIdeal.main_arg0)) (m' ((c : Thread Cert.PoolRefIdeal.nD Cert.PoolRefIdeal.τ).loc Cert.PoolRefIdeal.main_arg3)) = _
      rw [(hagree c).1, (hagree c).2.2.2, Cert.PoolRefIdeal.Read.gradG hX hM]
      exact (Cert.PoolIdeal.Value.final6 m c hX hM).symm

end Cert.Proof

end
-- ==== Proof.Reads.lean ====
module

public import Idealize.ShloMosaic.Lib.Exec
public import Idealize.ShloMosaic.Lib.Tactic
public import Idealize.ShloMosaic.Lib.Pipeline.Kit
public import Idealize.ShloMosaic.Lib.VecWindow
public import Idealize.ShloMosaic.Lib.Pointwise

/-! Which indices a rectangle covers, what a load of a block's columns reads, and when a grid point is the first one. -/

@[expose] public section

noncomputable section

namespace Cert.Proof

open Idealize.ShloMosaic TcCoe

theorem mem_unit {s : Shape} {off size : Fin s.rank → ℕ} {inb : ∀ a, off a + size a ≤ s.size a} {y : s.Idx}
    (h : ∀ a, off a ≤ (y a).val ∧ (y a).val < off a + size a) : y ∈ (Rect.unit off size inb).set := Rect.mem_set_unit.mpr h

theorem mem_of_coords {s : Shape} (r : Rect s) (x : r.shape.Idx) (y : s.Idx) (hx : ∀ a, (y a).val = r.off a + r.stride a * (x a).val) : y ∈ r.set := by
  rw [← r.emb_eq_of_coords x y hx]; exact r.idx_mem x

/-- A stretch of columns of a block. -/
theorem cols_ld {R N n : ℕ} {e : EltTy} {B : (⟨2, ![R, N]⟩ : Shape).Idx → Elt Ideal e} (o : ℕ) (inb) (r : Fin R) (k : Fin n) (k' : Fin N)
    (hk : k'.val = o + k.val) :
    View.ld (Val := Elt Ideal) (e' := e) B (Rect.unit (s := ⟨2, ![R, N]⟩) ![0, o] ![R, n] inb) (ix2 r k) = B (ix2 r k') := by
  refine congrArg B (funext (Fin.forall_fin_two.2 ⟨Fin.ext ?_, Fin.ext ?_⟩))
  · show 0 + 1 * r.val = r.val; omega
  · show o + 1 * k.val = k'.val; omega

theorem first_tab : ∀ n : Fin 16, (Scalar.cmpi .ne (Scalar.extui (Scalar.cmpi .eq (BitVec.ofNat 32 n.val) 0#32) : BitVec 32) 0#32 = 1#1) ↔ n.val = 0 := by
  decide +kernel

/-- A body asks whether its grid point is the first. -/
theorem first_or {n : ℕ} (hn : n < 16) :
    (n = 0 ∧ Scalar.cmpi .ne (Scalar.extui (Scalar.cmpi .eq (BitVec.ofNat 32 n) 0#32) : BitVec 32) 0#32 = 1#1)
      ∨ (¬ n = 0 ∧ ¬ Scalar.cmpi .ne (Scalar.extui (Scalar.cmpi .eq (BitVec.ofNat 32 n) 0#32) : BitVec 32) 0#32 = 1#1) := by
  by_cases h0 : n = 0
  · exact .inl ⟨h0, (first_tab ⟨n, hn⟩).mpr h0⟩
  · exact .inr ⟨h0, fun e => h0 ((first_tab ⟨n, hn⟩).mp e)⟩

end Cert.Proof

end
-- ==== Proof.Halo.lean ====
module

public import proofs.«01_k».proof.Proof.Gen.SconvIdeal.Skeleton
public import proofs.«01_k».proof.Proof.Reads

/-! A buffer that holds a block's rows under sixteen rows before it, and the same rows shifted by six and by seven. The short
convolution's forward and backward calls both use it. -/

@[expose] public section

set_option maxRecDepth 8192
set_option maxHeartbeats 400000

noncomputable section

namespace Cert.Proof.Halo

open Cert.SconvIdeal Cert.SconvIdeal.Gen
open Idealize.ShloMosaic TcCoe Idealize.ShloMosaic.Pointwise

variable {F : FTy → Type} [FloatOps F] {sg : RefSig}

/-- The rows of the buffer that are read: all rows of residue 0, the first 264 of residues 6 and 7. -/
def readZ (y : S8x272x1024.Idx) : Prop := (y 0).val = 0 ∨ (((y 0).val = 6 ∨ (y 0).val = 7) ∧ (y 1).val < 264)

variable (hd : FVec F S16x1024 .f32) (bd : FVec F S256x1024 .f32)

/-- Row `a`, sixteen rows standing before the block's. -/
def rows (a : ℕ) (b : Fin 1024) : Elt F .f32 :=
  if h : a < 16 then hd (ix2 ⟨a, h⟩ b) else bd (ix2 ⟨(a - 16) % 256, Nat.mod_lt _ (by omega)⟩ b)
/-- The buffer: each residue a shift of the rows. -/
def planes (y : S8x272x1024.Idx) : Elt F .f32 :=
  rows hd bd ((if (y 0).val = 6 then 6 else if (y 0).val = 7 then 7 else 0) + (y 1).val) (y 2)

/-- The first sixteen rows of residue zero and the block's own, through the plane's own view. -/
abbrev cZ0 : Rect ⟨3, ![1, 272, 1024]⟩ :=
  (Rect.unit (s := S272x1024) ![0, 0] S16x1024.size inb_S272x1024_S16x1024_0_0).consLift ![1, 272, 1024] rfl (fun i => by fin_cases i <;> rfl)
abbrev cZ16 : Rect ⟨3, ![1, 272, 1024]⟩ :=
  (Rect.unit (s := S272x1024) ![16, 0] S256x1024.size inb_S272x1024_S256x1024_16_0).consLift ![1, 272, 1024] rfl (fun i => by fin_cases i <;> rfl)
abbrev rZ0 : Rect S8x272x1024 :=
  (Rect.unit (s := S8x272x1024) ![0, 0, 0] S1x272x1024.size inb_S8x272x1024_S1x272x1024_0_0_0).within cZ0 (fun _ => rfl)
abbrev rZ16 : Rect S8x272x1024 :=
  (Rect.unit (s := S8x272x1024) ![0, 0, 0] S1x272x1024.size inb_S8x272x1024_S1x272x1024_0_0_0).within cZ16 (fun _ => rfl)

/-- A payload of rows, read through the plane's view. -/
theorem pay_cZ0 (h) (w : S16x1024.Idx → Elt F .f32) (x : cZ0.shape.Idx) :
    Rect.payAlong (r := Rect.unit (s := S272x1024) ![0, 0] S16x1024.size inb_S272x1024_S16x1024_0_0) (R := cZ0) h w x
      = w (ix2 (n0 := 16) (n1 := 1024) ⟨(x 1).val, (x 1).isLt⟩ ⟨(x 2).val, (x 2).isLt⟩) :=
  Rect.payAlong_consLift (Rect.unit (s := S272x1024) ![0, 0] S16x1024.size inb_S272x1024_S16x1024_0_0) ![1, 272, 1024] rfl
    (fun i => by fin_cases i <;> rfl) w h x _ (fun a => by fin_cases a <;> rfl)
theorem pay_cZ16 (h) (w : S256x1024.Idx → Elt F .f32) (x : cZ16.shape.Idx) :
    Rect.payAlong (r := Rect.unit (s := S272x1024) ![16, 0] S256x1024.size inb_S272x1024_S256x1024_16_0) (R := cZ16) h w x
      = w (ix2 (n0 := 256) (n1 := 1024) ⟨(x 1).val, (x 1).isLt⟩ ⟨(x 2).val, (x 2).isLt⟩) :=
  Rect.payAlong_consLift (Rect.unit (s := S272x1024) ![16, 0] S256x1024.size inb_S272x1024_S256x1024_16_0) ![1, 272, 1024] rfl
    (fun i => by fin_cases i <;> rfl) w h x _ (fun a => by fin_cases a <;> rfl)

/-- The two writes of residue zero. -/
def fills : List (View.Piece (Elt F) S8x272x1024 .f32) :=
  [⟨rZ16, Rect.payAlong (R := cZ16) (Rect.numel_consLift _ _ _ _) (bd)⟩, ⟨rZ0, Rect.payAlong (R := cZ0) (Rect.numel_consLift _ _ _ _) (hd)⟩]

theorem planes_at (y : S8x272x1024.Idx) (h : (y 0).val = 0) : planes hd bd y = rows hd bd (y 1).val (y 2) := by
  unfold planes
  rw [h, if_neg (by decide), if_neg (by decide), Nat.zero_add]

theorem rows_head (a : ℕ) (b : Fin 1024) (h : a < 16) : rows hd bd a b = hd (ix2 ⟨a, h⟩ b) := dif_pos h
theorem rows_body (r : Fin 256) (b : Fin 1024) : rows hd bd (16 + r.val) b = bd (ix2 r b) := by
  unfold rows
  rw [dif_neg (by omega)]
  have e : (⟨(16 + r.val - 16) % 256, Nat.mod_lt _ (by omega)⟩ : Fin 256) = r := Fin.ext (by show (16 + r.val - 16) % 256 = r.val; omega)
  rw [e]

theorem fills_spec : ∀ p ∈ fills hd bd, ∀ x : p.1.shape.Idx, p.2 x = planes hd bd (p.1.emb x) := by
  unfold fills
  refine List.forall_mem_cons.mpr ⟨fun x => ?_, List.forall_mem_cons.mpr ⟨fun x => ?_, fun p hp => absurd hp List.not_mem_nil⟩⟩
  · refine (pay_cZ16 _ (bd) x).trans ?_
    rw [planes_at _ _ _ (show 0 + 0 + 1 * (x 0).val = 0 by have : (x 0).val < 1 := (x 0).isLt; omega)]
    have e1 : (rZ16.emb x 1).val = 16 + (x 1).val := by show 0 + (16 + 0) + 1 * (x 1).val = _; omega
    have e2 : rZ16.emb x 2 = (⟨(x 2).val, (x 2).isLt⟩ : Fin 1024) := Fin.ext (by show 0 + 0 + 1 * (x 2).val = (x 2).val; omega)
    refine (rows_body hd bd ⟨(x 1).val, (x 1).isLt⟩ ⟨(x 2).val, (x 2).isLt⟩).symm.trans ?_
    exact congrArg₂ (rows hd bd) e1.symm e2.symm
  · refine (pay_cZ0 _ (hd) x).trans ?_
    rw [planes_at _ _ _ (show 0 + 0 + 1 * (x 0).val = 0 by have : (x 0).val < 1 := (x 0).isLt; omega)]
    have e1 : (rZ0.emb x 1).val = (x 1).val := by show 0 + 0 + 1 * (x 1).val = _; omega
    have e2 : rZ0.emb x 2 = (⟨(x 2).val, (x 2).isLt⟩ : Fin 1024) := Fin.ext (by show 0 + 0 + 1 * (x 2).val = (x 2).val; omega)
    refine (rows_head hd bd (x 1).val ⟨(x 2).val, (x 2).isLt⟩ (x 1).isLt).symm.trans ?_
    exact congrArg₂ (rows hd bd) e1.symm e2.symm

theorem fills_cover (y : S8x272x1024.Idx) (h : (y 0).val = 0) : ∃ p ∈ fills hd bd, y ∈ p.1.set := by
  have h1 : (y 1).val < 272 := (y 1).isLt
  unfold fills
  by_cases ha : (y 1).val < 16
  · refine ⟨⟨rZ0, _⟩, .tail _ (.head _), mem_of_coords rZ0 (fun a => match a with | ⟨0, _⟩ => (⟨0, by decide⟩ : Fin 1) | ⟨1, _⟩ => (⟨(y 1).val, ha⟩ : Fin 16) | ⟨2, _⟩ => y 2) y fun a => ?_⟩
    fin_cases a
    · exact h
    · show (y 1).val = 0 + 0 + 1 * (y 1).val; omega
    · show (y 2).val = 0 + 0 + 1 * (y 2).val; omega
  · refine ⟨⟨rZ16, _⟩, .head _, mem_of_coords rZ16 (fun a => match a with | ⟨0, _⟩ => (⟨0, by decide⟩ : Fin 1) | ⟨1, _⟩ => (⟨(y 1).val - 16, by omega⟩ : Fin 256) | ⟨2, _⟩ => y 2) y fun a => ?_⟩
    fin_cases a
    · exact h
    · show (y 1).val = 0 + (16 + 0) + 1 * ((y 1).val - 16); omega
    · show (y 2).val = 0 + 0 + 1 * (y 2).val; omega

variable (v : View sg .tc .vmem S8x272x1024 .f32)

/-- A load of residue zero from row `s` on. -/
theorem ld_rows (L : List (View.Piece (Elt F) S8x272x1024 .f32)) (hL : ∀ p ∈ L, ∀ x : p.1.shape.Idx, p.2 x = planes hd bd (p.1.emb x))
    (hc : ∀ y : S8x272x1024.Idx, (y 0).val = 0 → ∃ p ∈ L, y ∈ p.1.set) (s : ℕ) (inb) :
    v.readCov L (Rect.unit (s := S8x272x1024) ![0, s, 0] S1x264x1024.size inb).toLoadRect
      = fun x : S1x264x1024.Idx => rows hd bd (s + (x 1).val) (x 2) := by
  funext x
  have h0 : (((Rect.unit (s := S8x272x1024) ![0, s, 0] S1x264x1024.size inb).emb x) 0).val = 0 := by
    show 0 + 1 * (x 0).val = 0; have : (x 0).val < 1 := (x 0).isLt; omega
  refine (View.read_writes_apply_of_pieces v v.junk (planes hd bd) L hL _ (hc _ h0)).trans ?_
  refine (planes_at hd bd _ h0).trans ?_
  exact congrArg₂ (rows hd bd) (show s + 1 * (x 1).val = _ by omega) (Fin.ext (show 0 + 1 * (x 2).val = _ by omega))

/-- The four writes of the first scratch buffer. -/
def held : List (View.Piece (Elt F) S8x272x1024 .f32) :=
  ⟨Rect.unit (s := S8x272x1024) ![7, 0, 0] S1x264x1024.size inb_S8x272x1024_S1x264x1024_7_0_0, fun x => rows hd bd (7 + (x 1).val) (x 2)⟩
    :: ⟨Rect.unit (s := S8x272x1024) ![6, 0, 0] S1x264x1024.size inb_S8x272x1024_S1x264x1024_6_0_0, fun x => rows hd bd (6 + (x 1).val) (x 2)⟩
    :: fills hd bd

theorem held_spec : ∀ p ∈ held hd bd, ∀ x : p.1.shape.Idx, p.2 x = planes hd bd (p.1.emb x) := by
  unfold held
  refine List.forall_mem_cons.mpr ⟨fun x => ?_, List.forall_mem_cons.mpr ⟨fun x => ?_, fills_spec hd bd⟩⟩
  · have h0 : (((Rect.unit (s := S8x272x1024) ![7, 0, 0] S1x264x1024.size inb_S8x272x1024_S1x264x1024_7_0_0).emb x) 0).val = 7 := by
      show 7 + 1 * (x 0).val = 7; have : (x 0).val < 1 := (x 0).isLt; omega
    unfold planes
    rw [h0, if_neg (by decide), if_pos rfl]
    exact congrArg₂ (rows hd bd) (show 7 + (x 1).val = 7 + (0 + 1 * (x 1).val) by omega) (Fin.ext (show (x 2).val = 0 + 1 * (x 2).val by omega))
  · have h0 : (((Rect.unit (s := S8x272x1024) ![6, 0, 0] S1x264x1024.size inb_S8x272x1024_S1x264x1024_6_0_0).emb x) 0).val = 6 := by
      show 6 + 1 * (x 0).val = 6; have : (x 0).val < 1 := (x 0).isLt; omega
    unfold planes
    rw [h0, if_pos rfl]
    exact congrArg₂ (rows hd bd) (show 6 + (x 1).val = 6 + (0 + 1 * (x 1).val) by omega) (Fin.ext (show (x 2).val = 0 + 1 * (x 2).val by omega))

theorem held_read (f : v.ty.Contents (Elt F)) (y : S8x272x1024.Idx) (h : readZ y) :
    v.read (Elt F) (v.writes (Elt F) f (held hd bd)) y = planes hd bd y := by
  refine View.read_writes_apply_of_pieces v f (planes hd bd) _ (held_spec hd bd) y ?_
  rcases h with h | ⟨h | h, h1⟩
  · obtain ⟨p, hp, hy⟩ := fills_cover hd bd y h
    exact ⟨p, .tail _ (.tail _ hp), hy⟩
  · refine ⟨_, .tail _ (.head _), mem_unit (inb := inb_S8x272x1024_S1x264x1024_6_0_0) fun a => ?_⟩
    have h2 : (y 2).val < 1024 := (y 2).isLt
    fin_cases a
    · show 6 ≤ (y 0).val ∧ (y 0).val < 6 + 1; omega
    · show 0 ≤ (y 1).val ∧ (y 1).val < 0 + 264; omega
    · show 0 ≤ (y 2).val ∧ (y 2).val < 0 + 1024; omega
  · refine ⟨_, .head _, mem_unit (inb := inb_S8x272x1024_S1x264x1024_7_0_0) fun a => ?_⟩
    have h2 : (y 2).val < 1024 := (y 2).isLt
    fin_cases a
    · show 7 ≤ (y 0).val ∧ (y 0).val < 7 + 1; omega
    · show 0 ≤ (y 1).val ∧ (y 1).val < 0 + 264; omega
    · show 0 ≤ (y 2).val ∧ (y 2).val < 0 + 1024; omega

/-! ### The writes as the bodies make them -/

/-- The writes, residues six and seven loaded from residue zero. -/
abbrev shifts (p6 p7 : (S1x264x1024.Idx → Elt F .f32) → S1x264x1024.Idx → Elt F .f32)
    (inb6 : ∀ a, (![0, 6, 0] : Fin 3 → ℕ) a + S1x264x1024.size a ≤ S8x272x1024.size a)
    (inb7 : ∀ a, (![0, 7, 0] : Fin 3 → ℕ) a + S1x264x1024.size a ≤ S8x272x1024.size a) : List (View.Piece (Elt F) S8x272x1024 .f32) :=
  ⟨Rect.unit (s := S8x272x1024) ![7, 0, 0] S1x264x1024.size inb_S8x272x1024_S1x264x1024_7_0_0,
      p7 (v.readCov (⟨Rect.unit (s := S8x272x1024) ![6, 0, 0] S1x264x1024.size inb_S8x272x1024_S1x264x1024_6_0_0,
        p6 (v.readCov (fills hd bd) (Rect.unit (s := S8x272x1024) ![0, 6, 0] S1x264x1024.size inb6).toLoadRect)⟩ :: fills hd bd)
        (Rect.unit (s := S8x272x1024) ![0, 7, 0] S1x264x1024.size inb7).toLoadRect)⟩
    :: ⟨Rect.unit (s := S8x272x1024) ![6, 0, 0] S1x264x1024.size inb_S8x272x1024_S1x264x1024_6_0_0,
        p6 (v.readCov (fills hd bd) (Rect.unit (s := S8x272x1024) ![0, 6, 0] S1x264x1024.size inb6).toLoadRect)⟩
    :: fills hd bd

theorem shifts_read {p6 p7 : (S1x264x1024.Idx → Elt F .f32) → S1x264x1024.Idx → Elt F .f32} (h6 : ∀ u, p6 u = u) (h7 : ∀ u, p7 u = u)
    (f : v.ty.Contents (Elt F)) (y : S8x272x1024.Idx) (h : readZ y) (inb6 inb7) :
    v.read (Elt F) (v.writes (Elt F) f (shifts hd bd v p6 p7 inb6 inb7)) y = planes hd bd y := by
  have e6 := (h6 _).trans (ld_rows hd bd v (fills hd bd) (fills_spec hd bd) (fills_cover hd bd) 6 inb6)
  unfold shifts
  generalize p6 _ = a at e6
  subst e6
  have e7 := (h7 _).trans (ld_rows hd bd v (⟨Rect.unit (s := S8x272x1024) ![6, 0, 0] S1x264x1024.size inb_S8x272x1024_S1x264x1024_6_0_0,
      fun x => rows hd bd (6 + (x 1).val) (x 2)⟩ :: fills hd bd) (fun p hp => held_spec hd bd p (.tail _ hp))
    (fun y h => (fills_cover hd bd y h).imp fun p hp => ⟨.tail _ hp.1, hp.2⟩) 7 inb7)
  refine Eq.trans (congrArg (fun b => v.read (Elt F) (v.writes (Elt F) f (⟨Rect.unit (s := S8x272x1024) ![7, 0, 0] S1x264x1024.size inb_S8x272x1024_S1x264x1024_7_0_0, b⟩ :: _)) y) e7) ?_
  exact held_read hd bd v f y h

end Cert.Proof.Halo

end
-- ==== Proof.SconvRun.lean ====
module

public import proofs.«01_k».proof.Proof.Halo
public import proofs.«01_k».proof.Proof.Gen.SconvIdeal.Frame

/-! The gradient of the short gated convolution: what one trip of its two loops computes, and the loops' invariants. -/

@[expose] public section

set_option maxRecDepth 8192
set_option maxHeartbeats 4000000

noncomputable section

namespace Cert.Proof.Sconv

open Cert.SconvIdeal Cert.SconvIdeal.Gen Cert.Proof.Halo
open Idealize.ShloMosaic TcCoe Idealize.ShloMosaic.Tactic
open Idealize.SL RA BI BIBase Laws ProofMode Sem

variable {F : FTy → Type} [FloatOps F]

local notation "𝕄" => MT nD τ sig Unit (Elt F) ℕ (UR sig nD τ) ℕ

/-! ## One trip, as functions of what the five buffers it reads hold -/

section Trip

variable (y1 : S256x1024.Idx → Elt F .f32) (y3 : S256x3072.Idx → Elt F .bf16) (y6 : S3x1024.Idx → Elt F .f32)
  (z : S8x272x1024.Idx → Elt F .f32) (dz : S8x264x1024.Idx → Elt F .f32)
  (ci : Fin k0_t1_loop.trips) (ri : Fin k0_t2_loop.trips)

/-- The three rows of the filter at one chunk of columns. -/
def w0 : Vec F S1x512 .f32 := View.ld y6 (Rect.unit (s := S3x1024) (k0_off5 ci) S1x512.size (k0_off5_inb ci))
def w1 : Vec F S1x512 .f32 := View.ld y6 (Rect.unit (s := S3x1024) (k0_off6 ci) S1x512.size (k0_off6_inb ci))
def w2 : Vec F S1x512 .f32 := View.ld y6 (Rect.unit (s := S3x1024) (k0_off7 ci) S1x512.size (k0_off7_inb ci))

/-- The three shifted tiles of the gated input, and of the cotangent times its gate. -/
def z0 : Vec F S1x32x512 .f32 := View.ld z (Rect.unit (s := S8x272x1024) (k0_off1 ci ri) S1x32x512.size (k0_off1_inb ci ri))
def z1 : Vec F S1x32x512 .f32 := View.ld z (Rect.unit (s := S8x272x1024) (k0_off2 ci ri) S1x32x512.size (k0_off2_inb ci ri))
def z2 : Vec F S1x32x512 .f32 := View.ld z (Rect.unit (s := S8x272x1024) (k0_off3 ci ri) S1x32x512.size (k0_off3_inb ci ri))
def d0 : Vec F S1x32x512 .f32 := View.ld dz (Rect.unit (s := S8x264x1024) (k0_off9 ci ri) S1x32x512.size (k0_off9_inb ci ri))
def d1 : Vec F S1x32x512 .f32 := View.ld dz (Rect.unit (s := S8x264x1024) (k0_off10 ci ri) S1x32x512.size (k0_off10_inb ci ri))
def d2 : Vec F S1x32x512 .f32 := View.ld dz (Rect.unit (s := S8x264x1024) (k0_off11 ci ri) S1x32x512.size (k0_off11_inb ci ri))

/-- Where the three tiles of a trip go. -/
abbrev rB : Rect S256x3072 := Rect.unit (s := S256x3072) (k0_off8 ci ri) S32x512.size (k0_off8_inb ci ri)
abbrev rC : Rect S256x3072 := Rect.unit (s := S256x3072) (k0_off12 ci ri 1024#32) S32x512.size (k0_off12_inb ci ri 0)
abbrev rV : Rect S256x3072 := Rect.unit (s := S256x3072) (k0_off12 ci ri 2048#32) S32x512.size (k0_off12_inb ci ri 1)

/-- The three tiles of a trip. -/
def tileB : FVec F S32x512 .bf16 :=
  k0_pay14 (z0 z ci ri) (z1 z ci ri) (z2 z ci ri)
    (View.ld y1 (Rect.unit (s := S256x1024) (k0_off4 ci ri) S32x512.size (k0_off4_inb ci ri))) (w0 y6 ci) (w1 y6 ci) (w2 y6 ci)
def tileC : FVec F S32x512 .bf16 :=
  k0_pay17 (d0 dz ci ri) (d1 dz ci ri) (d2 dz ci ri) (w0 y6 ci) (w1 y6 ci) (w2 y6 ci) (View.ld y3 (rV ci ri))
def tileV : FVec F S32x512 .bf16 :=
  k0_pay18 (d0 dz ci ri) (d1 dz ci ri) (d2 dz ci ri) (w0 y6 ci) (w1 y6 ci) (w2 y6 ci) (View.ld y3 (rC ci ri))

/-- The sums a trip carries on. -/
abbrev Sums (F : FTy → Type) [FloatOps F] := FVec F S8x512 .f32 × FVec F S8x512 .f32 × FVec F S8x512 .f32
def addRows (acc : Sums F) : Sums F :=
  (k0_pay5 acc.1 (k0_pay19 (k0_pay11 (z0 z ci ri)) (d2 dz ci ri)) (k0_pay20 (k0_pay11 (z0 z ci ri)) (d2 dz ci ri)) (k0_pay21 (k0_pay11 (z0 z ci ri)) (d2 dz ci ri)),
    k0_pay6 acc.2.1 (k0_pay12 (z1 z ci ri)) (k0_pay15 (d2 dz ci ri)),
    k0_pay7 acc.2.2 (k0_pay13 (z2 z ci ri)) (k0_pay15 (d2 dz ci ri)))

/-- The sums before trip `k`. -/
def sums : ℕ → Sums F
  | 0 => (k0_pay4, k0_pay4, k0_pay4)
  | k + 1 => if h : k < k0_t2_loop.trips then addRows z dz ci ⟨k, h⟩ (sums k) else sums k

/-- The tiles written before trip `k`, the last first. -/
def tiles : ℕ → List (View.Piece (Elt F) S256x3072 .bf16)
  | 0 => []
  | k + 1 => if h : k < k0_t2_loop.trips then
      ⟨rV ci ⟨k, h⟩, tileV y3 y6 dz ci ⟨k, h⟩⟩ :: ⟨rC ci ⟨k, h⟩, tileC y3 y6 dz ci ⟨k, h⟩⟩ :: ⟨rB ci ⟨k, h⟩, tileB y1 y6 z ci ⟨k, h⟩⟩ :: tiles k else tiles k

theorem sums_succ : sums z dz ci (ri.val + 1) = addRows z dz ci ri (sums z dz ci ri.val) := by
  rw [sums]; exact dif_pos ri.isLt
theorem tiles_succ : tiles y1 y3 y6 z dz ci (ri.val + 1) =
    ⟨rV ci ri, tileV y3 y6 dz ci ri⟩ :: ⟨rC ci ri, tileC y3 y6 dz ci ri⟩ :: ⟨rB ci ri, tileB y1 y6 z ci ri⟩ :: tiles y1 y3 y6 z dz ci ri.val := by
  rw [tiles]; exact dif_pos ri.isLt

/-- The tiles written before the outer trip `k`. -/
def allTiles : ℕ → List (View.Piece (Elt F) S256x3072 .bf16)
  | 0 => []
  | k + 1 => if h : k < k0_t1_loop.trips then tiles y1 y3 y6 z dz ⟨k, h⟩ k0_t2_loop.trips ++ allTiles k else allTiles k
theorem allTiles_succ : allTiles y1 y3 y6 z dz (ci.val + 1) = tiles y1 y3 y6 z dz ci k0_t2_loop.trips ++ allTiles y1 y3 y6 z dz ci.val := by
  rw [allTiles]; exact dif_pos ci.isLt

end Trip

/-! ## The inner loop -/

section Loops

variable (c : Dev nD) (E : Set ℕ) (i : grid0.Coords) (arg1 : Memref sig .tc .vmem S256x1024 .f32) (harg1 : arg1.IsWhole)
  (arg2 : Memref sig .tc .vmem S8x1024 .f32) (harg2 : arg2.IsWhole) (arg3 : Memref sig .tc .vmem S256x3072 .bf16) (harg3 : arg3.IsWhole)
  (arg4 : Memref sig .tc .vmem S16x3072 .bf16) (harg4 : arg4.IsWhole) (arg5 : Memref sig .tc .vmem S16x3072 .bf16) (harg5 : arg5.IsWhole)
  (arg6 : Memref sig .tc .vmem S3x1024 .f32) (harg6 : arg6.IsWhole) (arg7 : Memref sig .tc .vmem S256x3072 .bf16) (harg7 : arg7.IsWhole)
  (arg8 : Memref sig .tc .vmem S8x1024 .f32) (harg8 : arg8.IsWhole) (arg9 : Memref sig .tc .vmem S8x272x1024 .f32) (harg9 : arg9.IsWhole)
  (arg10 : Memref sig .tc .vmem S8x264x1024 .f32) (harg10 : arg10.IsWhole)
  (X1 : BufTy.Contents (Elt F) arg1.view.ty) (X3 : BufTy.Contents (Elt F) arg3.view.ty) (X6 : BufTy.Contents (Elt F) arg6.view.ty)
  (X9 : BufTy.Contents (Elt F) arg9.view.ty) (X10 : BufTy.Contents (Elt F) arg10.view.ty)

/-- Before a trip of the inner loop: the buffers read, the tiles written so far, the sums so far. -/
abbrev innerInv (ci : Fin k0_t1_loop.trips) (G7 : BufTy.Contents (Elt F) arg7.view.ty) (k : ℕ) (acc : Sums F) : sProp 𝕄 :=
  iprop((arg1.view.loc (c : Thread nD τ) ↦[arg1.view.set]{fullShare} X1) ∗ (arg3.view.loc (c : Thread nD τ) ↦[arg3.view.set]{fullShare} X3)
    ∗ (arg6.view.loc (c : Thread nD τ) ↦[arg6.view.set]{fullShare} X6) ∗ (arg9.view.loc (c : Thread nD τ) ↦[arg9.view.set]{fullShare} X9)
    ∗ (arg10.view.loc (c : Thread nD τ) ↦[arg10.view.set]{fullShare} X10)
    ∗ (∃ f, (arg7.view.loc (c : Thread nD τ) ↦[arg7.view.set]{fullShare} f) ∗ ⌜f = arg7.view.writes (Elt F) G7 (tiles (arg1.view.read (Elt F) X1) (arg3.view.read (Elt F) X3) (arg6.view.read (Elt F) X6) (arg9.view.read (Elt F) X9) (arg10.view.read (Elt F) X10) ci k)⌝)
    ∗ ⌜acc = sums (arg9.view.read (Elt F) X9) (arg10.view.read (Elt F) X10) ci k⌝)

set_option warn.classDefReducibility false in
@[sl_loop] def innerLoop (ci : Fin k0_t1_loop.trips) (v73 v76 v79 : BitVec 32) (G7 : BufTy.Contents (Elt F) arg7.view.ty) :
    LoopInv (M := 𝕄) frame (wpE (defs₀ (F := F)) Variants.none (c : Thread nD τ) none) E k0_t2_loop.lb k0_t2_loop.ub k0_t2_loop.st k0_t2_ok
      ((k0_pay4 (F := F), k0_pay4 (F := F), k0_pay4 (F := F)) : Sums F)
      (k0_t2_body (F := F) i arg1 harg1 arg2 harg2 arg3 harg3 arg4 harg4 arg5 harg5 arg6 harg6 arg7 harg7 arg8 harg8 arg9 harg9 arg10 harg10 ci v73 v76 v79) where
  inv := innerInv (F := F) c arg1 arg3 arg6 arg7 arg9 arg10 X1 X3 X6 X9 X10 ci G7
  step k acc := by
    have hk : k.val < 8 := Nat.lt_of_lt_of_le k.isLt k0_t2_abs.2.1
    unfold k0_t2_body
    iintro ⟨H1, H3, H6, H9, H10, ⟨%f, H7, %hf⟩, %hacc⟩
    subst hacc
    sl_exec
    sl_step
    isplitl [H1]; · iexact H1
    isplitl [H3]; · iexact H3
    isplitl [H6]; · iexact H6
    isplitl [H9]; · iexact H9
    isplitl [H10]; · iexact H10
    isplitl [H7]
    · iexists _
      isplitl [H7]; · iexact H7
      ipureintro
      rw [tiles_succ, hf]
      rfl
    ipureintro
    rw [sums_succ]
    rfl

/-! ## The outer loop -/

/-- The filter's gradient after one trip's three rows are added to `f`. -/
def addSums (ci : Fin k0_t1_loop.trips) (S : Sums F) (f : BufTy.Contents (Elt F) arg8.view.ty) : BufTy.Contents (Elt F) arg8.view.ty :=
  arg8.view.writes (Elt F) f
    [⟨Rect.unit (s := S8x1024) (k0_off15 ci) S1x512.size (k0_off15_inb ci),
        k0_pay10 S.2.2 (arg8.view.readAt (Elt F) (Rect.unit (s := S8x1024) (k0_off15 ci) S1x512.size (k0_off15_inb ci)).toLoadRect f)⟩,
      ⟨Rect.unit (s := S8x1024) (k0_off14 ci) S1x512.size (k0_off14_inb ci),
        k0_pay9 S.2.1 (arg8.view.readAt (Elt F) (Rect.unit (s := S8x1024) (k0_off14 ci) S1x512.size (k0_off14_inb ci)).toLoadRect f)⟩,
      ⟨Rect.unit (s := S8x1024) (k0_off13 ci) S1x512.size (k0_off13_inb ci),
        k0_pay8 S.1 (arg8.view.readAt (Elt F) (Rect.unit (s := S8x1024) (k0_off13 ci) S1x512.size (k0_off13_inb ci)).toLoadRect f)⟩]

/-- The filter's gradient before the outer trip `k`. -/
def allSums (z : S8x272x1024.Idx → Elt F .f32) (dz : S8x264x1024.Idx → Elt F .f32) (f : BufTy.Contents (Elt F) arg8.view.ty) :
    ℕ → BufTy.Contents (Elt F) arg8.view.ty
  | 0 => f
  | k + 1 => if h : k < k0_t1_loop.trips then addSums arg8 ⟨k, h⟩ (sums z dz ⟨k, h⟩ k0_t2_loop.trips) (allSums z dz f k) else allSums z dz f k
theorem allSums_succ (z : S8x272x1024.Idx → Elt F .f32) (dz : S8x264x1024.Idx → Elt F .f32) (f : BufTy.Contents (Elt F) arg8.view.ty)
    (ci : Fin k0_t1_loop.trips) :
    allSums arg8 z dz f (ci.val + 1) = addSums arg8 ci (sums z dz ci k0_t2_loop.trips) (allSums arg8 z dz f ci.val) := by
  rw [allSums]; exact dif_pos ci.isLt

set_option warn.classDefReducibility false in
@[sl_loop] def outerLoop (G7 : BufTy.Contents (Elt F) arg7.view.ty) (G8 : BufTy.Contents (Elt F) arg8.view.ty) :
    LoopInv (M := 𝕄) frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10) where
  inv k _ := iprop((arg1.view.loc (c : Thread nD τ) ↦[arg1.view.set]{fullShare} X1) ∗ (arg3.view.loc (c : Thread nD τ) ↦[arg3.view.set]{fullShare} X3)
    ∗ (arg6.view.loc (c : Thread nD τ) ↦[arg6.view.set]{fullShare} X6) ∗ (arg9.view.loc (c : Thread nD τ) ↦[arg9.view.set]{fullShare} X9)
    ∗ (arg10.view.loc (c : Thread nD τ) ↦[arg10.view.set]{fullShare} X10)
    ∗ (∃ f, (arg7.view.loc (c : Thread nD τ) ↦[arg7.view.set]{fullShare} f) ∗ ⌜f = arg7.view.writes (Elt F) G7 (allTiles (arg1.view.read (Elt F) X1) (arg3.view.read (Elt F) X3) (arg6.view.read (Elt F) X6) (arg9.view.read (Elt F) X9) (arg10.view.read (Elt F) X10) k)⌝)
    ∗ (∃ f, (arg8.view.loc (c : Thread nD τ) ↦[arg8.view.set]{fullShare} f) ∗ ⌜f = allSums arg8 (arg9.view.read (Elt F) X9) (arg10.view.read (Elt F) X10) G8 k⌝))
  step k acc := by
    have hk : k.val < 2 := Nat.lt_of_lt_of_le k.isLt k0_t1_abs.2.1
    unfold k0_t1_body
    iintro ⟨H1, H3, H6, H9, H10, ⟨%f, H7, %hf⟩, ⟨%f8, H8, %hf8⟩⟩
    sl_exec
    sl_step
    isplitl [H1]; · iexact H1
    isplitl [H3]; · iexact H3
    isplitl [H6]; · iexact H6
    isplitl [H9]; · iexact H9
    isplitl [H10]; · iexact H10
    isplitl [H7]
    · iexists _
      isplitl [H7]; · iexact H7
      ipureintro
      rw [allTiles_succ, View.writes_append, ← hf]
    iexists _
    isplitl [H8]; · iexact H8
    ipureintro
    rw [allSums_succ, ← hf8]
    rfl

end Loops

/-! ## What the loads of the scratch see -/

section Scratch

/-- The rows of the cotangent times its gate the loops read. -/
def readD (y : S8x264x1024.Idx) : Prop := (y 0).val = 0 ∨ (((y 0).val = 1 ∨ (y 0).val = 2) ∧ (y 1).val < 256)

variable {y1 : S256x1024.Idx → Elt F .f32} {y3 : S256x3072.Idx → Elt F .bf16} {y6 : S3x1024.Idx → Elt F .f32}
  {z z' : S8x272x1024.Idx → Elt F .f32} {dz dz' : S8x264x1024.Idx → Elt F .f32}
  (hz : ∀ y, readZ y → z y = z' y) (hd : ∀ y, readD y → dz y = dz' y)
  (ci : Fin k0_t1_loop.trips) (ri : Fin k0_t2_loop.trips)

theorem ri_lt : ri.val < 8 := Nat.lt_of_lt_of_le ri.isLt k0_t2_abs.2.1
theorem ci_lt : ci.val < 2 := Nat.lt_of_lt_of_le ci.isLt k0_t1_abs.2.1

include hz in
theorem z_congr : z0 z ci ri = z0 z' ci ri ∧ z1 z ci ri = z1 z' ci ri ∧ z2 z ci ri = z2 z' ci ri := by
  have hr := ri_lt ri
  refine ⟨funext fun x => hz _ (.inr ⟨.inl ?_, ?_⟩), funext fun x => hz _ (.inr ⟨.inr ?_, ?_⟩), funext fun x => hz _ (.inl ?_)⟩
  · show k0_off1 ci ri 0 + 1 * (x 0).val = 6
    have := (x 0).isLt; rw [k0_off1_eq]; show 6 + 1 * (x 0).val = 6; have : (x 0).val < 1 := (x 0).isLt; omega
  · show k0_off1 ci ri 1 + 1 * (x 1).val < 264
    rw [k0_off1_eq]; show 32 * ri.val + 8 + 1 * (x 1).val < 264; have : (x 1).val < 32 := (x 1).isLt; omega
  · show k0_off2 ci ri 0 + 1 * (x 0).val = 7
    rw [k0_off2_eq]; show 7 + 1 * (x 0).val = 7; have : (x 0).val < 1 := (x 0).isLt; omega
  · show k0_off2 ci ri 1 + 1 * (x 1).val < 264
    rw [k0_off2_eq]; show 32 * ri.val + 8 + 1 * (x 1).val < 264; have : (x 1).val < 32 := (x 1).isLt; omega
  · show k0_off3 ci ri 0 + 1 * (x 0).val = 0
    rw [k0_off3_eq]; show 0 + 1 * (x 0).val = 0; have : (x 0).val < 1 := (x 0).isLt; omega

include hd in
theorem d_congr : d0 dz ci ri = d0 dz' ci ri ∧ d1 dz ci ri = d1 dz' ci ri ∧ d2 dz ci ri = d2 dz' ci ri := by
  have hr := ri_lt ri
  refine ⟨funext fun x => hd _ (.inr ⟨.inr ?_, ?_⟩), funext fun x => hd _ (.inr ⟨.inl ?_, ?_⟩), funext fun x => hd _ (.inl ?_)⟩
  · show k0_off9 ci ri 0 + 1 * (x 0).val = 2
    rw [k0_off9_eq]; show 2 + 1 * (x 0).val = 2; have : (x 0).val < 1 := (x 0).isLt; omega
  · show k0_off9 ci ri 1 + 1 * (x 1).val < 256
    rw [k0_off9_eq]; show 32 * ri.val + 1 * (x 1).val < 256; have : (x 1).val < 32 := (x 1).isLt; omega
  · show k0_off10 ci ri 0 + 1 * (x 0).val = 1
    rw [k0_off10_eq]; show 1 + 1 * (x 0).val = 1; have : (x 0).val < 1 := (x 0).isLt; omega
  · show k0_off10 ci ri 1 + 1 * (x 1).val < 256
    rw [k0_off10_eq]; show 32 * ri.val + 1 * (x 1).val < 256; have : (x 1).val < 32 := (x 1).isLt; omega
  · show k0_off11 ci ri 0 + 1 * (x 0).val = 0
    rw [k0_off11_eq]; show 0 + 1 * (x 0).val = 0; have : (x 0).val < 1 := (x 0).isLt; omega

include hz hd in
theorem sums_congr (k : ℕ) : sums z dz ci k = sums z' dz' ci k := by
  induction k with
  | zero => rfl
  | succ k ih =>
    by_cases h : k < k0_t2_loop.trips
    · rw [sums_succ z dz ci ⟨k, h⟩, sums_succ z' dz' ci ⟨k, h⟩, ih]
      obtain ⟨e0, e1, e2⟩ := z_congr hz ci ⟨k, h⟩
      obtain ⟨-, -, e3⟩ := d_congr hd ci ⟨k, h⟩
      unfold addRows
      rw [e0, e1, e2, e3]
    · rw [sums, sums, dif_neg h, dif_neg h, ih]

include hz hd in
theorem tiles_congr (k : ℕ) : tiles y1 y3 y6 z dz ci k = tiles y1 y3 y6 z' dz' ci k := by
  induction k with
  | zero => rfl
  | succ k ih =>
    by_cases h : k < k0_t2_loop.trips
    · rw [tiles_succ _ _ _ z dz ci ⟨k, h⟩, tiles_succ _ _ _ z' dz' ci ⟨k, h⟩, ih]
      obtain ⟨e0, e1, e2⟩ := z_congr hz ci ⟨k, h⟩
      obtain ⟨e3, e4, e5⟩ := d_congr hd ci ⟨k, h⟩
      unfold tileV tileC tileB
      rw [e0, e1, e2, e3, e4, e5]
    · rw [tiles, tiles, dif_neg h, dif_neg h, ih]

include hz hd in
theorem allTiles_congr (k : ℕ) : allTiles y1 y3 y6 z dz k = allTiles y1 y3 y6 z' dz' k := by
  induction k with
  | zero => rfl
  | succ k ih => rw [allTiles, allTiles, ih]; simp only [tiles_congr hz hd]

/-- The filter's gradient after one trip's three rows are added to `g`. -/
def addB (S : Sums F) (g : S8x1024.Idx → Elt F .f32) : S8x1024.Idx → Elt F .f32 :=
  VecWindow.put (VecWindow.put (VecWindow.put g (k0_off13 ci) S1x512.size
      (k0_pay8 S.1 (View.ld g (Rect.unit (s := S8x1024) (k0_off13 ci) S1x512.size (k0_off13_inb ci)))))
    (k0_off14 ci) S1x512.size (k0_pay9 S.2.1 (View.ld g (Rect.unit (s := S8x1024) (k0_off14 ci) S1x512.size (k0_off14_inb ci)))))
    (k0_off15 ci) S1x512.size (k0_pay10 S.2.2 (View.ld g (Rect.unit (s := S8x1024) (k0_off15 ci) S1x512.size (k0_off15_inb ci))))

/-- The filter's gradient before the outer trip `k`. -/
def allB (z : S8x272x1024.Idx → Elt F .f32) (dz : S8x264x1024.Idx → Elt F .f32) (g : S8x1024.Idx → Elt F .f32) : ℕ → S8x1024.Idx → Elt F .f32
  | 0 => g
  | k + 1 => if h : k < k0_t1_loop.trips then addB ⟨k, h⟩ (sums z dz ⟨k, h⟩ k0_t2_loop.trips) (allB z dz g k) else allB z dz g k

variable (arg8 : Memref sig .tc .vmem S8x1024 .f32)

theorem read_addSums (S : Sums F) (f : BufTy.Contents (Elt F) arg8.view.ty) :
    arg8.view.read (Elt F) (addSums arg8 ci S f) = addB ci S (arg8.view.read (Elt F) f) := by
  unfold addSums addB
  rw [View.read_writes_cons_put arg8.view f _ _ _ rfl, View.read_writes_cons_put arg8.view f _ _ _ rfl, View.read_writes_cons_put arg8.view f _ _ _ rfl]
  rfl

include hz hd in
theorem read_allSums (f : BufTy.Contents (Elt F) arg8.view.ty) (k : ℕ) :
    arg8.view.read (Elt F) (allSums arg8 z dz f k) = allB z' dz' (arg8.view.read (Elt F) f) k := by
  induction k with
  | zero => rfl
  | succ k ih =>
    rw [allSums, allB]
    by_cases h : k < k0_t1_loop.trips
    · rw [dif_pos h, dif_pos h, read_addSums, ih, sums_congr hz hd]
    · rw [dif_neg h, dif_neg h, ih]

end Scratch

/-! ## The tiles cover the block -/

section Cover

variable (y1 : S256x1024.Idx → Elt F .f32) (y3 : S256x3072.Idx → Elt F .bf16) (y6 : S3x1024.Idx → Elt F .f32)
  (z : S8x272x1024.Idx → Elt F .f32) (dz : S8x264x1024.Idx → Elt F .f32)

theorem mem_tiles (ci : Fin k0_t1_loop.trips) (ri : Fin k0_t2_loop.trips) (k : ℕ) (h : ri.val < k) :
    (⟨rV ci ri, tileV y3 y6 dz ci ri⟩ : View.Piece (Elt F) S256x3072 .bf16) ∈ tiles y1 y3 y6 z dz ci k
      ∧ (⟨rC ci ri, tileC y3 y6 dz ci ri⟩ : View.Piece (Elt F) S256x3072 .bf16) ∈ tiles y1 y3 y6 z dz ci k
      ∧ (⟨rB ci ri, tileB y1 y6 z ci ri⟩ : View.Piece (Elt F) S256x3072 .bf16) ∈ tiles y1 y3 y6 z dz ci k := by
  induction k with
  | zero => exact absurd h (Nat.not_lt_zero _)
  | succ k ih =>
    rcases Nat.lt_succ_iff_lt_or_eq.mp h with h' | h'
    · obtain ⟨a, b, d⟩ := ih h'
      by_cases hk : k < k0_t2_loop.trips
      · rw [tiles_succ _ _ _ z dz ci ⟨k, hk⟩]
        exact ⟨.tail _ (.tail _ (.tail _ a)), .tail _ (.tail _ (.tail _ b)), .tail _ (.tail _ (.tail _ d))⟩
      · rw [tiles, dif_neg hk]; exact ⟨a, b, d⟩
    · subst h'
      rw [tiles_succ]
      exact ⟨.head _, .tail _ (.head _), .tail _ (.tail _ (.head _))⟩

theorem mem_allTiles (ci : Fin k0_t1_loop.trips) (k : ℕ) (h : ci.val < k) (p : View.Piece (Elt F) S256x3072 .bf16)
    (hp : p ∈ tiles y1 y3 y6 z dz ci k0_t2_loop.trips) : p ∈ allTiles y1 y3 y6 z dz k := by
  induction k with
  | zero => exact absurd h (Nat.not_lt_zero _)
  | succ k ih =>
    rcases Nat.lt_succ_iff_lt_or_eq.mp h with h' | h'
    · rw [allTiles]
      by_cases hk : k < k0_t1_loop.trips
      · rw [dif_pos hk]; exact List.mem_append_right _ (ih h')
      · rw [dif_neg hk]; exact ih h'
    · subst h'
      rw [allTiles_succ]
      exact List.mem_append_left _ hp

/-- Each place of the block is in a tile. -/
theorem cover (y : S256x3072.Idx) : ∃ p ∈ allTiles y1 y3 y6 z dz k0_t1_loop.trips, y ∈ p.1.set := by
  have h0 : (y 0).val < 256 := (y 0).isLt
  have h1 : (y 1).val < 3072 := (y 1).isLt
  have t1 : k0_t1_loop.trips = 2 := by decide +kernel
  have t2 : k0_t2_loop.trips = 8 := by decide +kernel
  let ri : Fin k0_t2_loop.trips := ⟨(y 0).val / 32, by omega⟩
  let ci : Fin k0_t1_loop.trips := ⟨(y 1).val % 1024 / 512, by omega⟩
  obtain ⟨a, b, d⟩ := mem_tiles y1 y3 y6 z dz ci ri _ ri.isLt
  have hri : ri.val = (y 0).val / 32 := rfl
  have hci : ci.val = (y 1).val % 1024 / 512 := rfl
  by_cases hB : (y 1).val < 1024
  · refine ⟨_, mem_allTiles y1 y3 y6 z dz ci _ ci.isLt _ d, ?_⟩
    refine mem_unit (inb := k0_off8_inb ci ri) fun a => ?_
    rw [k0_off8_eq]
    fin_cases a
    · show 32 * ri.val ≤ (y 0).val ∧ (y 0).val < 32 * ri.val + 32; omega
    · show 512 * ci.val ≤ (y 1).val ∧ (y 1).val < 512 * ci.val + 512; omega
  by_cases hC : (y 1).val < 2048
  · refine ⟨_, mem_allTiles y1 y3 y6 z dz ci _ ci.isLt _ b, ?_⟩
    refine mem_unit (inb := k0_off12_inb ci ri 0) fun a => ?_
    rw [show k0_off12 ci ri 1024#32 = _ from k0_off12_eq ci ri 0]
    fin_cases a
    · show 32 * ri.val ≤ (y 0).val ∧ (y 0).val < 32 * ri.val + 32; omega
    · show 1024 * 0 + 512 * ci.val + 1024 ≤ (y 1).val ∧ (y 1).val < 1024 * 0 + 512 * ci.val + 1024 + 512; omega
  · refine ⟨_, mem_allTiles y1 y3 y6 z dz ci _ ci.isLt _ a, ?_⟩
    refine mem_unit (inb := k0_off12_inb ci ri 1) fun a => ?_
    rw [show k0_off12 ci ri 2048#32 = _ from k0_off12_eq ci ri 1]
    fin_cases a
    · show 32 * ri.val ≤ (y 0).val ∧ (y 0).val < 32 * ri.val + 32; omega
    · show 1024 * 1 + 512 * ci.val + 1024 ≤ (y 1).val ∧ (y 1).val < 1024 * 1 + 512 * ci.val + 1024 + 512; omega

end Cover

end Cert.Proof.Sconv

end
-- ==== Proof.SconvBody.lean ====
module

public import proofs.«01_k».proof.Proof.SconvRun

/-! The gradient of the short gated convolution: what its body leaves at one grid point, as a function of the blocks. -/

@[expose] public section

set_option maxRecDepth 8192
set_option maxHeartbeats 400000

noncomputable section

namespace Cert.Proof.Sconv

open Cert.SconvIdeal Cert.SconvIdeal.Gen Cert.Proof.Halo
open Idealize.ShloMosaic TcCoe Idealize.ShloMosaic.Tactic Idealize.ShloMosaic.Pointwise
open Idealize.SL RA BI BIBase Laws ProofMode Sem

variable {F : FTy → Type} [FloatOps F]

local notation "𝕄" => MT nD τ sig Unit (Elt F) ℕ (UR sig nD τ) ℕ

/-! ## The body -/

section Blocks

variable (i : grid0.Coords) (X1 : S256x1024.Idx → Elt F .f32) (X2 : S8x1024.Idx → Elt F .f32) (X3 : S256x3072.Idx → Elt F .bf16)
  (X4 X5 : S16x3072.Idx → Elt F .bf16) (X6 : S3x1024.Idx → Elt F .f32) (X8 : S8x1024.Idx → Elt F .f32)

/-- The rows before the block, as the body gates them. -/
abbrev zHead : FVec F S16x1024 .f32 :=
  k0_pay22 i (View.ld X4 (Rect.unit (s := S16x3072) ![0, 1024] S16x1024.size inb_S16x3072_S16x1024_0_1024))
    (View.ld X4 (Rect.unit (s := S16x3072) ![0, 2048] S16x1024.size inb_S16x3072_S16x1024_0_2048))
/-- The block's own rows, as the body gates them. -/
abbrev zBody : FVec F S256x1024 .f32 :=
  k0_pay23 (View.ld X3 (Rect.unit (s := S256x3072) ![0, 1024] S256x1024.size inb_S256x3072_S256x1024_0_1024))
    (View.ld X3 (Rect.unit (s := S256x3072) ![0, 2048] S256x1024.size inb_S256x3072_S256x1024_0_2048))
/-- The cotangent times its gate: the block's rows and the rows after the block. -/
abbrev dBody : FVec F S1x256x1024 .f32 :=
  k0_pay27 (View.ld X1 (Rect.unit (s := S256x1024) ![0, 0] S256x1024.size inb_S256x1024_S256x1024_0_0)) (View.ld X3 (Rect.unit (s := S256x3072) ![0, 0] S256x1024.size inb_S256x3072_S256x1024_0_0))
abbrev dTail : FVec F S1x8x1024 .f32 :=
  k0_pay28 (BitVec.ofNat 32 (i 0).val) (View.ld X2 (Rect.unit (s := S8x1024) ![0, 0] S8x1024.size inb_S8x1024_S8x1024_0_0)) (View.ld X5 (Rect.unit (s := S16x3072) ![0, 0] S16x1024.size inb_S16x3072_S16x1024_0_0))

/-- Row `a` of the gated input with sixteen rows put before the block's, and of the gated cotangent with eight put after. -/
abbrev zRow (a : ℕ) (b : Fin 1024) : Elt F .f32 := rows (zHead i X4) (zBody X3) a b
def dRow (a : ℕ) (b : Fin 1024) : Elt F .f32 :=
  if h : a < 256 then dBody X1 X3 (ix3 0 ⟨a, h⟩ b) else dTail i X2 X5 (ix3 0 ⟨(a - 256) % 8, Nat.mod_lt _ (by omega)⟩ b)

/-- The two scratch buffers, each residue a shift of the rows. -/
abbrev Z (y : S8x272x1024.Idx) : Elt F .f32 := planes (zHead i X4) (zBody X3) y
def DZ (y : S8x264x1024.Idx) : Elt F .f32 := dRow i X1 X2 X3 X5 ((y 0).val + (y 1).val) (y 2)

/-- What the body leaves of the gradient's block, and of the filter's gradient before which `X8` stood. -/
def outO : S256x3072.Idx → Elt F .bf16 := View.canon (allTiles X1 X3 X6 (Z i X3 X4) (DZ i X1 X2 X3 X5) k0_t1_loop.trips)
def outW : S8x1024.Idx → Elt F .f32 := allB (Z i X3 X4) (DZ i X1 X2 X3 X5) (if (i 0).val = 0 then k0_pay3 else X8) k0_t1_loop.trips

end Blocks

/-! ## The scratch buffers hold the shifted rows -/

section Held

variable (i : grid0.Coords) (X1 : S256x1024.Idx → Elt F .f32) (X2 : S8x1024.Idx → Elt F .f32) (X3 : S256x3072.Idx → Elt F .bf16)
  (X4 X5 : S16x3072.Idx → Elt F .bf16)

variable (v : View sig .tc .vmem S8x272x1024 .f32) (w : View sig .tc .vmem S8x264x1024 .f32)

theorem pay25_eq (u : S1x264x1024.Idx → Elt F .f32) : k0_pay25 (k0_pay24 u) = u := by
  unfold k0_pay25 k0_pay24
  funext x
  rw [eq_ix3 x]
  pointwise
theorem pay26_eq (u : S1x264x1024.Idx → Elt F .f32) : k0_pay26 u = u := by
  unfold k0_pay26
  funext x
  rw [eq_ix3 x]
  pointwise

/-! The second scratch buffer likewise. -/

/-- The two writes of residue zero. -/
def dList : List (View.Piece (Elt F) S8x264x1024 .f32) :=
  [⟨Rect.unit (s := S8x264x1024) ![0, 256, 0] S1x8x1024.size inb_S8x264x1024_S1x8x1024_0_256_0, dTail i X2 X5⟩,
    ⟨Rect.unit (s := S8x264x1024) ![0, 0, 0] S1x256x1024.size inb_S8x264x1024_S1x256x1024_0_0_0, dBody X1 X3⟩]

theorem dRow_body (r : Fin 256) (b : Fin 1024) : dRow i X1 X2 X3 X5 r.val b = dBody X1 X3 (ix3 0 r b) := dif_pos r.isLt
theorem dRow_tail (r : Fin 8) (b : Fin 1024) : dRow i X1 X2 X3 X5 (256 + r.val) b = dTail i X2 X5 (ix3 0 r b) := by
  unfold dRow
  rw [dif_neg (by omega)]
  have e : (⟨(256 + r.val - 256) % 8, Nat.mod_lt _ (by omega)⟩ : Fin 8) = r := Fin.ext (by show (256 + r.val - 256) % 8 = r.val; omega)
  rw [e]

theorem ix3_zero {n m : ℕ} (x : (⟨3, ![1, n, m]⟩ : Shape).Idx) : x = ix3 0 (x 1) (x 2) := by
  have e := eq_ix3 x
  exact e.trans (congrArg (fun z => ix3 z (x 1) (x 2)) (Subsingleton.elim (α := Fin 1) (x 0) 0))

theorem dList_spec : ∀ p ∈ dList i X1 X2 X3 X5, ∀ x : p.1.shape.Idx, p.2 x = DZ i X1 X2 X3 X5 (p.1.emb x) := by
  unfold dList
  refine List.forall_mem_cons.mpr ⟨fun x => ?_, List.forall_mem_cons.mpr ⟨fun x => ?_, fun p hp => absurd hp List.not_mem_nil⟩⟩
  · refine (congrArg (dTail i X2 X5) (ix3_zero (n := 8) (m := 1024) x)).trans ((dRow_tail i X1 X2 X3 X5 (x 1) (x 2)).symm.trans ?_)
    have h0 : (x 0).val < 1 := (x 0).isLt
    exact congrArg₂ (dRow i X1 X2 X3 X5) (show 256 + (x 1).val = (0 + 1 * (x 0).val) + (256 + 1 * (x 1).val) by omega)
      (Fin.ext (show (x 2).val = 0 + 1 * (x 2).val by omega))
  · refine (congrArg (dBody X1 X3) (ix3_zero (n := 256) (m := 1024) x)).trans ((dRow_body i X1 X2 X3 X5 (x 1) (x 2)).symm.trans ?_)
    have h0 : (x 0).val < 1 := (x 0).isLt
    exact congrArg₂ (dRow i X1 X2 X3 X5) (show (x 1).val = (0 + 1 * (x 0).val) + (0 + 1 * (x 1).val) by omega)
      (Fin.ext (show (x 2).val = 0 + 1 * (x 2).val by omega))

theorem dList_cover (y : S8x264x1024.Idx) (h : (y 0).val = 0) : ∃ p ∈ dList i X1 X2 X3 X5, y ∈ p.1.set := by
  have h1 : (y 1).val < 264 := (y 1).isLt
  have h2 : (y 2).val < 1024 := (y 2).isLt
  unfold dList
  by_cases ha : (y 1).val < 256
  · refine ⟨_, .tail _ (.head _), mem_unit (inb := inb_S8x264x1024_S1x256x1024_0_0_0) fun a => ?_⟩
    fin_cases a
    · show 0 ≤ (y 0).val ∧ (y 0).val < 0 + 1; omega
    · show 0 ≤ (y 1).val ∧ (y 1).val < 0 + 256; omega
    · show 0 ≤ (y 2).val ∧ (y 2).val < 0 + 1024; omega
  · refine ⟨_, .head _, mem_unit (inb := inb_S8x264x1024_S1x8x1024_0_256_0) fun a => ?_⟩
    fin_cases a
    · show 0 ≤ (y 0).val ∧ (y 0).val < 0 + 1; omega
    · show 256 ≤ (y 1).val ∧ (y 1).val < 256 + 8; omega
    · show 0 ≤ (y 2).val ∧ (y 2).val < 0 + 1024; omega

/-- A load of residue zero from row `s` on. -/
theorem ld_dRow (L : List (View.Piece (Elt F) S8x264x1024 .f32)) (hL : ∀ p ∈ L, ∀ x : p.1.shape.Idx, p.2 x = DZ i X1 X2 X3 X5 (p.1.emb x))
    (hc : ∀ y : S8x264x1024.Idx, (y 0).val = 0 → ∃ p ∈ L, y ∈ p.1.set) (s : ℕ) (inb) :
    w.readCov L (Rect.unit (s := S8x264x1024) ![0, s, 0] S1x256x1024.size inb).toLoadRect
      = fun x : S1x256x1024.Idx => dRow i X1 X2 X3 X5 (s + (x 1).val) (x 2) := by
  funext x
  have h0 : (((Rect.unit (s := S8x264x1024) ![0, s, 0] S1x256x1024.size inb).emb x) 0).val = 0 := by
    show 0 + 1 * (x 0).val = 0; have : (x 0).val < 1 := (x 0).isLt; omega
  refine (View.read_writes_apply_of_pieces w w.junk (DZ i X1 X2 X3 X5) L hL _ (hc _ h0)).trans ?_
  unfold DZ
  rw [h0]
  exact congrArg₂ (dRow i X1 X2 X3 X5) (show 0 + (s + 1 * (x 1).val) = _ by omega) (Fin.ext (show 0 + 1 * (x 2).val = _ by omega))

theorem pay1_eq (u : S1x256x1024.Idx → Elt F .f32) : k0_pay1 (k0_pay29 u) = u := by
  unfold k0_pay1 k0_pay29
  funext x
  rw [eq_ix3 x]
  pointwise
theorem pay2_eq (u : S1x256x1024.Idx → Elt F .f32) : k0_pay2 u = u := by
  unfold k0_pay2
  funext x
  rw [eq_ix3 x]
  pointwise

/-- The four writes of the second scratch buffer. -/
def dAll : List (View.Piece (Elt F) S8x264x1024 .f32) :=
  ⟨Rect.unit (s := S8x264x1024) ![2, 0, 0] S1x256x1024.size inb_S8x264x1024_S1x256x1024_2_0_0, fun x => dRow i X1 X2 X3 X5 (2 + (x 1).val) (x 2)⟩
    :: ⟨Rect.unit (s := S8x264x1024) ![1, 0, 0] S1x256x1024.size inb_S8x264x1024_S1x256x1024_1_0_0, fun x => dRow i X1 X2 X3 X5 (1 + (x 1).val) (x 2)⟩
    :: dList i X1 X2 X3 X5

theorem dAll_spec : ∀ p ∈ dAll i X1 X2 X3 X5, ∀ x : p.1.shape.Idx, p.2 x = DZ i X1 X2 X3 X5 (p.1.emb x) := by
  unfold dAll
  refine List.forall_mem_cons.mpr ⟨fun x => ?_, List.forall_mem_cons.mpr ⟨fun x => ?_, dList_spec i X1 X2 X3 X5⟩⟩
  · have h0 : (x 0).val < 1 := (x 0).isLt
    exact congrArg₂ (dRow i X1 X2 X3 X5) (show 2 + (x 1).val = (2 + 1 * (x 0).val) + (0 + 1 * (x 1).val) by omega)
      (Fin.ext (show (x 2).val = 0 + 1 * (x 2).val by omega))
  · have h0 : (x 0).val < 1 := (x 0).isLt
    exact congrArg₂ (dRow i X1 X2 X3 X5) (show 1 + (x 1).val = (1 + 1 * (x 0).val) + (0 + 1 * (x 1).val) by omega)
      (Fin.ext (show (x 2).val = 0 + 1 * (x 2).val by omega))

theorem dAll_read (f : w.ty.Contents (Elt F)) (y : S8x264x1024.Idx) (h : readD y) :
    w.read (Elt F) (w.writes (Elt F) f (dAll i X1 X2 X3 X5)) y = DZ i X1 X2 X3 X5 y := by
  refine View.read_writes_apply_of_pieces w f (DZ i X1 X2 X3 X5) _ (dAll_spec i X1 X2 X3 X5) y ?_
  have h2 : (y 2).val < 1024 := (y 2).isLt
  rcases h with h | ⟨h | h, h1⟩
  · obtain ⟨p, hp, hy⟩ := dList_cover i X1 X2 X3 X5 y h
    exact ⟨p, .tail _ (.tail _ hp), hy⟩
  · refine ⟨_, .tail _ (.head _), mem_unit (inb := inb_S8x264x1024_S1x256x1024_1_0_0) fun a => ?_⟩
    fin_cases a
    · show 1 ≤ (y 0).val ∧ (y 0).val < 1 + 1; omega
    · show 0 ≤ (y 1).val ∧ (y 1).val < 0 + 256; omega
    · show 0 ≤ (y 2).val ∧ (y 2).val < 0 + 1024; omega
  · refine ⟨_, .head _, mem_unit (inb := inb_S8x264x1024_S1x256x1024_2_0_0) fun a => ?_⟩
    fin_cases a
    · show 2 ≤ (y 0).val ∧ (y 0).val < 2 + 1; omega
    · show 0 ≤ (y 1).val ∧ (y 1).val < 0 + 256; omega
    · show 0 ≤ (y 2).val ∧ (y 2).val < 0 + 1024; omega

/-! ### The writes as the body makes them -/

/-- The first scratch buffer after the residues six and seven were loaded from residue zero and written. -/
theorem z_read (f : v.ty.Contents (Elt F)) (y : S8x272x1024.Idx) (h : readZ y) (inb6 inb7) :
    v.read (Elt F) (v.writes (Elt F) f (shifts (zHead i X4) (zBody X3) v (fun u => k0_pay25 (k0_pay24 u)) k0_pay26 inb6 inb7)) y = Z i X3 X4 y :=
  shifts_read _ _ v pay25_eq pay26_eq f y h inb6 inb7

/-- The second scratch buffer likewise, after the residues one and two. -/
theorem d_read (f : w.ty.Contents (Elt F)) (y : S8x264x1024.Idx) (h : readD y) (inb1 inb2) :
    w.read (Elt F) (w.writes (Elt F) f
      (⟨Rect.unit (s := S8x264x1024) ![2, 0, 0] S1x256x1024.size inb_S8x264x1024_S1x256x1024_2_0_0,
          k0_pay2 (w.readCov (⟨Rect.unit (s := S8x264x1024) ![1, 0, 0] S1x256x1024.size inb_S8x264x1024_S1x256x1024_1_0_0,
            k0_pay1 (k0_pay29 (w.readCov (dList i X1 X2 X3 X5) (Rect.unit (s := S8x264x1024) ![0, 1, 0] S1x256x1024.size inb1).toLoadRect))⟩ :: dList i X1 X2 X3 X5)
            (Rect.unit (s := S8x264x1024) ![0, 2, 0] S1x256x1024.size inb2).toLoadRect)⟩
        :: ⟨Rect.unit (s := S8x264x1024) ![1, 0, 0] S1x256x1024.size inb_S8x264x1024_S1x256x1024_1_0_0,
            k0_pay1 (k0_pay29 (w.readCov (dList i X1 X2 X3 X5) (Rect.unit (s := S8x264x1024) ![0, 1, 0] S1x256x1024.size inb1).toLoadRect))⟩
        :: dList i X1 X2 X3 X5)) y = DZ i X1 X2 X3 X5 y := by
  have e1 := (pay1_eq (F := F) _).trans (ld_dRow i X1 X2 X3 X5 w (dList i X1 X2 X3 X5) (dList_spec i X1 X2 X3 X5) (dList_cover i X1 X2 X3 X5) 1 inb1)
  have e2 : ∀ a, a = (fun x : S1x256x1024.Idx => dRow i X1 X2 X3 X5 (1 + (x 1).val) (x 2)) →
      w.read (Elt F) (w.writes (Elt F) f
        (⟨Rect.unit (s := S8x264x1024) ![2, 0, 0] S1x256x1024.size inb_S8x264x1024_S1x256x1024_2_0_0,
            k0_pay2 (w.readCov (⟨Rect.unit (s := S8x264x1024) ![1, 0, 0] S1x256x1024.size inb_S8x264x1024_S1x256x1024_1_0_0, a⟩ :: dList i X1 X2 X3 X5)
              (Rect.unit (s := S8x264x1024) ![0, 2, 0] S1x256x1024.size inb2).toLoadRect)⟩
          :: ⟨Rect.unit (s := S8x264x1024) ![1, 0, 0] S1x256x1024.size inb_S8x264x1024_S1x256x1024_1_0_0, a⟩ :: dList i X1 X2 X3 X5)) y
        = DZ i X1 X2 X3 X5 y := by
    rintro _ rfl
    have e := (pay2_eq (F := F) _).trans (ld_dRow i X1 X2 X3 X5 w _ (fun p hp => dAll_spec i X1 X2 X3 X5 p (.tail _ hp))
      (fun y h => (dList_cover i X1 X2 X3 X5 y h).imp fun p hp => ⟨.tail _ hp.1, hp.2⟩) 2 inb2)
    refine Eq.trans (congrArg (fun b => w.read (Elt F) (w.writes (Elt F) f (⟨Rect.unit (s := S8x264x1024) ![2, 0, 0] S1x256x1024.size inb_S8x264x1024_S1x256x1024_2_0_0, b⟩ :: _)) y) e) ?_
    exact dAll_read i X1 X2 X3 X5 w f y h
  exact e2 _ e1

end Held

end Cert.Proof.Sconv

end
-- ==== Proof.SconvMath.lean ====
/- The gradient of the short gated convolution, as numbers: what both programs compute. -/
module

public import Idealize.ShloMosaic.Lib.Pipeline.ValueKit
public import Idealize.ShloMosaic.Lib.Pointwise

@[expose] public section

noncomputable section

namespace Cert.Proof.Sconv

open Idealize.ShloMosaic

/-- Column `b` of the gate, of the first factor, and of the second. -/
def colB (b : Fin 1024) : Fin 3072 := ⟨b.val, by omega⟩
@[inherit_doc colB] def colC (b : Fin 1024) : Fin 3072 := ⟨1024 + b.val, by omega⟩
@[inherit_doc colB] def colV (b : Fin 1024) : Fin 3072 := ⟨2048 + b.val, by omega⟩

section

variable (A : Fin 4096 → Fin 3072 → EReal) (W : Fin 3 → Fin 1024 → EReal) (P : Fin 4096 → Fin 1024 → EReal)

/-- The convolution's input with two rows of zeros before it. -/
def past (n : ℕ) (b : Fin 1024) : EReal :=
  if h : 2 ≤ n ∧ n - 2 < 4096 then A ⟨n - 2, h.2⟩ (colC b) * A ⟨n - 2, h.2⟩ (colV b) else 0
/-- The cotangent times its gate, with zeros after it. -/
def next (n : ℕ) (b : Fin 1024) : EReal := if h : n < 4096 then P ⟨n, h⟩ b * A ⟨n, h⟩ (colB b) else 0

/-- The convolution, and the gradient of its input. -/
def conv (n : ℕ) (b : Fin 1024) : EReal := W 0 b * past A n b + W 1 b * past A (n + 1) b + W 2 b * past A (n + 2) b
def back (n : ℕ) (b : Fin 1024) : EReal := W 0 b * next A P (n + 2) b + W 1 b * next A P (n + 1) b + W 2 b * next A P n b

/-- The gradient of the three parts, side by side. -/
def gradA (s : Fin 4096) (k : Fin 3072) : EReal :=
  if h : k.val < 1024 then P s ⟨k.val, h⟩ * conv A W s.val ⟨k.val, h⟩
  else if h' : k.val < 2048 then back A W P s.val ⟨k.val - 1024, by omega⟩ * A s (colV ⟨k.val - 1024, by omega⟩)
  else back A W P s.val ⟨k.val - 2048, by omega⟩ * A s (colC ⟨k.val - 2048, by omega⟩)

/-- One row's part of the filter's gradient. -/
def term (j : ℕ) (b : Fin 1024) (n : ℕ) : EReal := next A P n b * past A (n + j) b
/-- The filter's gradient. -/
def gradW (j : Fin 3) (b : Fin 1024) : EReal := ∑ n ∈ Finset.range 4096, term A P j.val b n

theorem gradA_B (s : Fin 4096) (b : Fin 1024) : gradA A W P s (colB b) = P s b * conv A W s.val b := by
  unfold gradA
  rw [dif_pos (show (colB b).val < 1024 from b.isLt)]
  rfl
theorem gradA_C (s : Fin 4096) (b : Fin 1024) : gradA A W P s (colC b) = back A W P s.val b * A s (colV b) := by
  have hb := b.isLt
  have e : (⟨(colC b).val - 1024, by show 1024 + b.val - 1024 < 1024; omega⟩ : Fin 1024) = b := Fin.ext (by show 1024 + b.val - 1024 = b.val; omega)
  unfold gradA
  rw [dif_neg (show ¬(colC b).val < 1024 from (by omega : ¬(1024 + b.val < 1024))), dif_pos (show (colC b).val < 2048 from (by omega : 1024 + b.val < 2048)), e]
theorem gradA_V (s : Fin 4096) (b : Fin 1024) : gradA A W P s (colV b) = back A W P s.val b * A s (colC b) := by
  have hb := b.isLt
  have e : (⟨(colV b).val - 2048, by show 2048 + b.val - 2048 < 1024; omega⟩ : Fin 1024) = b := Fin.ext (by show 2048 + b.val - 2048 = b.val; omega)
  unfold gradA
  rw [dif_neg (show ¬(colV b).val < 1024 from (by omega : ¬(2048 + b.val < 1024))), dif_neg (show ¬(colV b).val < 2048 from (by omega : ¬(2048 + b.val < 2048))), e]

/-- Each column is of one of the three parts. -/
theorem col_cases (k : Fin 3072) : (∃ b, k = colB b) ∨ (∃ b, k = colC b) ∨ ∃ b, k = colV b := by
  have hk := k.isLt
  by_cases h : k.val < 1024
  · exact .inl ⟨⟨k.val, h⟩, rfl⟩
  by_cases h' : k.val < 2048
  · exact .inr (.inl ⟨⟨k.val - 1024, by omega⟩, Fin.ext (by show k.val = 1024 + (k.val - 1024); omega)⟩)
  · exact .inr (.inr ⟨⟨k.val - 2048, by omega⟩, Fin.ext (by show k.val = 2048 + (k.val - 2048); omega)⟩)

end

/-- Equal stretches, one after the other, make the whole. -/
theorem sum_stretches {M : Type} [AddCommMonoid M] (n k : ℕ) (T : ℕ → M) :
    ∑ i ∈ Finset.range n, ∑ j ∈ Finset.range k, T (k * i + j) = ∑ s ∈ Finset.range (k * n), T s := by
  induction n with
  | zero => rfl
  | succ n ih => rw [Finset.sum_range_succ, ih, Nat.mul_succ, Finset.sum_range_add]

/-- A tile's 32 rows by eight and four, the eights' sums last, make the block's 256 rows. -/
theorem sum_folds {M : Type} [AddCommMonoid M] (T : ℕ → M) :
    ∑ q ∈ Finset.range 8, ∑ i ∈ Finset.range 8, (T (32 * i + q) + T (32 * i + (8 + q)) + T (32 * i + (16 + q)) + T (32 * i + (24 + q)))
      = ∑ s ∈ Finset.range 256, T s := by
  rw [Finset.sum_comm, ← sum_stretches 8 32 T]
  refine Finset.sum_congr rfl fun i _ => ?_
  rw [← sum_stretches 4 8 (fun s => T (32 * i + s)), Finset.sum_comm]
  refine Finset.sum_congr rfl fun q _ => ?_
  simp only [Finset.sum_range_succ, Finset.sum_range_zero, zero_add, Nat.mul_zero, Nat.mul_one]

end Cert.Proof.Sconv

end
-- ==== Proof.SconvVal.lean ====
/- The gradient of the short gated convolution: what one grid point leaves, as numbers. -/
module

public import proofs.«01_k».proof.Proof.SconvBody
public import proofs.«01_k».proof.Proof.SconvMath

@[expose] public section

set_option maxRecDepth 16384
set_option maxHeartbeats 1000000

noncomputable section

namespace Cert.Proof.Sconv

open Cert.SconvIdeal Cert.SconvIdeal.Gen Cert.Proof.Halo
open Idealize.ShloMosaic TcCoe Idealize.SL.Sem

/-! ## The payloads -/

section pay

theorem head_pay (t : ℕ) (ht : t < 16) (i : grid0.Coords) (hi : (i 0).val = t) (u v : FVec Ideal S16x1024 .bf16) (r : Fin 16) (b : Fin 1024) :
    k0_pay22 (F := Ideal) i u v (ix2 r b) = if t = 0 then 0 else u (ix2 r b) * v (ix2 r b) := by
  pointwise [k0_pay22]
  rw [hi]
  have key : ∀ n : Fin 16, (Scalar.cmpi .sgt (BitVec.ofNat 32 n.val) 0#32 = 1#1) ↔ ¬n.val = 0 := by decide +kernel
  by_cases h : t = 0
  · rw [if_pos h]; exact if_neg (fun e => (key ⟨t, ht⟩).mp e h)
  · rw [if_neg h]; exact if_pos ((key ⟨t, ht⟩).mpr h)

theorem body_pay (u v : FVec Ideal S256x1024 .bf16) (r : Fin 256) (b : Fin 1024) :
    k0_pay23 (F := Ideal) u v (ix2 r b) = u (ix2 r b) * v (ix2 r b) := by
  pointwise [k0_pay23]

theorem dbody_pay (u : FVec Ideal S256x1024 .f32) (v : FVec Ideal S256x1024 .bf16) (r : Fin 256) (b : Fin 1024) :
    k0_pay27 (F := Ideal) u v (ix3 0 r b) = u (ix2 r b) * v (ix2 r b) := by
  pointwise [k0_pay27]

theorem tail_pay (t : ℕ) (ht : t < 16) (u : FVec Ideal S8x1024 .f32) (v : FVec Ideal S16x1024 .bf16) (r : Fin 8) (b : Fin 1024) :
    k0_pay28 (F := Ideal) (BitVec.ofNat 32 t) u v (ix3 0 r b) = if t = 15 then 0 else u (ix2 r b) * v (ix2 ⟨r.val, by omega⟩ b) := by
  pointwise [k0_pay28]
  have key : ∀ n : Fin 16, (Scalar.cmpi .slt (BitVec.ofNat 32 n.val) 15#32 = 1#1) ↔ ¬n.val = 15 := by decide +kernel
  by_cases h : t = 15
  · rw [if_pos h]; exact if_neg (fun e => (key ⟨t, ht⟩).mp e h)
  · rw [if_neg h]; exact if_pos ((key ⟨t, ht⟩).mpr h)

variable (z0 z1 z2 d0 d1 d2 : FVec Ideal S1x32x512 .f32) (p : FVec Ideal S32x512 .f32) (w0 w1 w2 : FVec Ideal S1x512 .f32)
  (v : FVec Ideal S32x512 .bf16) (r : Fin 32) (l : Fin 512)

theorem conv_pay : k0_pay14 (F := Ideal) z0 z1 z2 p w0 w1 w2 (ix2 r l)
    = p (ix2 r l) * (w0 (ix2 0 l) * z0 (ix3 0 r l) + w1 (ix2 0 l) * z1 (ix3 0 r l) + w2 (ix2 0 l) * z2 (ix3 0 r l)) := by
  pointwise [k0_pay14, k0_pay11, k0_pay12, k0_pay13]

theorem back_pay1 : k0_pay17 (F := Ideal) d0 d1 d2 w0 w1 w2 v (ix2 r l)
    = (w0 (ix2 0 l) * d0 (ix3 0 r l) + w1 (ix2 0 l) * d1 (ix3 0 r l) + w2 (ix2 0 l) * d2 (ix3 0 r l)) * v (ix2 r l) := by
  pointwise [k0_pay17, k0_pay16, k0_pay15]

theorem back_pay2 : k0_pay18 (F := Ideal) d0 d1 d2 w0 w1 w2 v (ix2 r l)
    = (w0 (ix2 0 l) * d0 (ix3 0 r l) + w1 (ix2 0 l) * d1 (ix3 0 r l) + w2 (ix2 0 l) * d2 (ix3 0 r l)) * v (ix2 r l) := by
  pointwise [k0_pay18, k0_pay16, k0_pay15]

variable (acc : FVec Ideal S8x512 .f32) (q : Fin 8)

/-- The four rows of a tile that a row of sums takes on. -/
def fold (d z : FVec Ideal S1x32x512 .f32) (q : Fin 8) (l : Fin 512) : EReal :=
  d (ix3 0 ⟨q.val, by omega⟩ l) * z (ix3 0 ⟨q.val, by omega⟩ l) + d (ix3 0 ⟨8 + q.val, by omega⟩ l) * z (ix3 0 ⟨8 + q.val, by omega⟩ l)
    + d (ix3 0 ⟨16 + q.val, by omega⟩ l) * z (ix3 0 ⟨16 + q.val, by omega⟩ l) + d (ix3 0 ⟨24 + q.val, by omega⟩ l) * z (ix3 0 ⟨24 + q.val, by omega⟩ l)

theorem fold_pay0 : k0_pay5 (F := Ideal) acc (k0_pay19 (k0_pay11 z0) d2) (k0_pay20 (k0_pay11 z0) d2) (k0_pay21 (k0_pay11 z0) d2) (ix2 q l)
    = acc (ix2 q l) + fold d2 z0 q l := by
  pointwise [k0_pay5, k0_pay19, k0_pay20, k0_pay21, k0_pay11, k0_pay15]
  rfl
theorem fold_pay1 : k0_pay6 (F := Ideal) acc (k0_pay12 z1) (k0_pay15 d2) (ix2 q l) = acc (ix2 q l) + fold d2 z1 q l := by
  pointwise [k0_pay6, k0_pay12, k0_pay15]
  rfl
theorem fold_pay2 : k0_pay7 (F := Ideal) acc (k0_pay13 z2) (k0_pay15 d2) (ix2 q l) = acc (ix2 q l) + fold d2 z2 q l := by
  pointwise [k0_pay7, k0_pay13, k0_pay15]
  rfl

theorem row_pay0 : k0_pay8 (F := Ideal) acc w0 (ix2 0 l) = w0 (ix2 0 l) + ∑ q, acc (ix2 q l) := by
  pointwise [k0_pay8]
theorem row_pay1 : k0_pay9 (F := Ideal) acc w0 (ix2 0 l) = w0 (ix2 0 l) + ∑ q, acc (ix2 q l) := by
  pointwise [k0_pay9]
theorem row_pay2 : k0_pay10 (F := Ideal) acc w0 (ix2 0 l) = w0 (ix2 0 l) + ∑ q, acc (ix2 q l) := by
  pointwise [k0_pay10]
theorem zero_pay3 (j : Fin 8) (b : Fin 1024) : k0_pay3 (F := Ideal) (ix2 j b) = 0 := by
  pointwise [k0_pay3]
theorem zero_pay4 : k0_pay4 (F := Ideal) (ix2 q l) = 0 := by
  pointwise [k0_pay4]

end pay

/-! ## The rows before, in and after a block -/

/-- What a point finds in its blocks. -/
structure Finds (A : Fin 4096 → Fin 3072 → EReal) (W : Fin 3 → Fin 1024 → EReal) (P : Fin 4096 → Fin 1024 → EReal) (t : ℕ) (ht : t < 16)
    (X1 : S256x1024.Idx → Elt Ideal .f32) (X2 : S8x1024.Idx → Elt Ideal .f32) (X3 : S256x3072.Idx → Elt Ideal .bf16)
    (X4 X5 : S16x3072.Idx → Elt Ideal .bf16) (X6 : S3x1024.Idx → Elt Ideal .f32) : Prop where
  h1 : ∀ (r : Fin 256) b, X1 (ix2 r b) = P ⟨t * 256 + r.val, by omega⟩ b
  h2 : ∀ (r : Fin 8) b, (h : t ≠ 15) → X2 (ix2 r b) = P ⟨(t + 1) * 256 + r.val, by omega⟩ b
  h3 : ∀ (r : Fin 256) k, X3 (ix2 r k) = A ⟨t * 256 + r.val, by omega⟩ k
  h4 : ∀ (r : Fin 16) k, (h : t ≠ 0) → X4 (ix2 r k) = A ⟨t * 256 + r.val - 16, by omega⟩ k
  h5 : ∀ (r : Fin 16) k, (h : t ≠ 15) → X5 (ix2 r k) = A ⟨(t + 1) * 256 + r.val, by omega⟩ k
  h6 : ∀ j b, X6 (ix2 j b) = W j b

section rows

variable (A : Fin 4096 → Fin 3072 → EReal) (W : Fin 3 → Fin 1024 → EReal) (P : Fin 4096 → Fin 1024 → EReal)
  (t : ℕ) (ht : t < 16) (i : grid0.Coords) (hi : (i 0).val = t)
  (X1 : S256x1024.Idx → Elt Ideal .f32) (X2 : S8x1024.Idx → Elt Ideal .f32) (X3 : S256x3072.Idx → Elt Ideal .bf16)
  (X4 X5 : S16x3072.Idx → Elt Ideal .bf16) (X6 : S3x1024.Idx → Elt Ideal .f32) (X8 : S8x1024.Idx → Elt Ideal .f32)

variable (H : Finds A W P t ht X1 X2 X3 X4 X5 X6)

include H hi in
theorem zRow_eq (a : ℕ) (ha : 14 ≤ a) (ha' : a < 272) (b : Fin 1024) : zRow (F := Ideal) i X3 X4 a b = past A (t * 256 + a - 14) b := by
  by_cases h : a < 16
  · refine (rows_head _ _ a b h).trans ?_
    refine (head_pay t ht i hi _ _ ⟨a, h⟩ b).trans ?_
    by_cases h0 : t = 0
    · rw [if_pos h0, past, dif_neg (by omega)]
    · rw [if_neg h0, past, dif_pos (by omega), cols_ld 1024 _ _ b (colC b) rfl, cols_ld 2048 _ _ b (colV b) rfl, H.h4 _ _ h0, H.h4 _ _ h0]
      simp only [show t * 256 + a - 14 - 2 = t * 256 + a - 16 by omega]
  · obtain ⟨r, rfl⟩ : ∃ r, a = 16 + r := ⟨a - 16, by omega⟩
    refine (rows_body _ _ ⟨r, by omega⟩ b).trans ((body_pay _ _ _ b).trans ?_)
    rw [past, dif_pos (by omega), cols_ld 1024 _ _ b (colC b) rfl, cols_ld 2048 _ _ b (colV b) rfl, H.h3, H.h3]
    simp only [show t * 256 + (16 + r) - 14 - 2 = t * 256 + r by omega]

include H in
theorem dRow_eq (hi : (i 0).val = t) (a : ℕ) (ha : a < 264) (b : Fin 1024) : dRow (F := Ideal) i X1 X2 X3 X5 a b = next A P (t * 256 + a) b := by
  by_cases h : a < 256
  · refine (dRow_body i X1 X2 X3 X5 ⟨a, h⟩ b).trans ((dbody_pay _ _ _ b).trans ?_)
    rw [next, dif_pos (by omega), cols_ld 0 _ _ b b (by omega), cols_ld 0 _ _ b (colB b) (by show b.val = _; omega), H.h1, H.h3]
  · obtain ⟨r, rfl⟩ : ∃ r, a = 256 + r := ⟨a - 256, by omega⟩
    refine (dRow_tail i X1 X2 X3 X5 ⟨r, by omega⟩ b).trans ?_
    unfold dTail
    rw [hi]
    refine (tail_pay t ht _ _ ⟨r, by omega⟩ b).trans ?_
    by_cases h0 : t = 15
    · rw [if_pos h0, next, dif_neg (by omega)]
    · rw [if_neg h0, next, dif_pos (by omega), cols_ld 0 _ _ b b (by omega), cols_ld 0 _ _ b (colB b) (by show b.val = _; omega), H.h2 _ _ h0, H.h5 _ _ h0]
      simp only [show t * 256 + (256 + r) = (t + 1) * 256 + r by omega]

end rows

/-! ## The tiles of a trip -/

/-- Column `l` of chunk `ci`. -/
def col (ci : Fin k0_t1_loop.trips) (l : Fin 512) : Fin 1024 := ⟨512 * ci.val + l.val, by have := ci_lt ci; omega⟩
/-- Row `r` of tile `ri` of the block. -/
def tileRow (ri : Fin k0_t2_loop.trips) (r : Fin 32) : Fin 256 := ⟨32 * ri.val + r.val, by have := ri_lt ri; omega⟩

/-- Row `r` of the block is this row of all. -/
abbrev srow (t : ℕ) (ht : t < 16) (r : Fin 256) : Fin 4096 := ⟨t * 256 + r.val, by omega⟩

section trip

variable (A : Fin 4096 → Fin 3072 → EReal) (W : Fin 3 → Fin 1024 → EReal) (P : Fin 4096 → Fin 1024 → EReal)
  (t : ℕ) (ht : t < 16) (i : grid0.Coords) (hi : (i 0).val = t)
  (X1 : S256x1024.Idx → Elt Ideal .f32) (X2 : S8x1024.Idx → Elt Ideal .f32) (X3 : S256x3072.Idx → Elt Ideal .bf16)
  (X4 X5 : S16x3072.Idx → Elt Ideal .bf16) (X6 : S3x1024.Idx → Elt Ideal .f32) (X8 : S8x1024.Idx → Elt Ideal .f32)
  (H : Finds A W P t ht X1 X2 X3 X4 X5 X6) (ci : Fin k0_t1_loop.trips) (ri : Fin k0_t2_loop.trips)

include H hi in
theorem z0_eq (r : Fin 32) (l : Fin 512) : z0 (Z (F := Ideal) i X3 X4) ci ri (ix3 0 r l) = past A (t * 256 + (tileRow ri r).val) (col ci l) := by
  have hr := ri_lt ri
  have h := zRow_eq A W P t ht i hi X1 X2 X3 X4 X5 X6 H (6 + (32 * ri.val + 8 + r.val)) (by omega) (by omega) (col ci l)
  rw [show t * 256 + (6 + (32 * ri.val + 8 + r.val)) - 14 = t * 256 + (32 * ri.val + r.val) by omega] at h
  refine Eq.trans ?_ h
  have e0 : k0_off1 ci ri 0 + 1 * 0 = 6 := by rw [k0_off1_eq]; rfl
  have e1 : k0_off1 ci ri 1 + 1 * r.val = 32 * ri.val + 8 + r.val := by rw [k0_off1_eq]; show 32 * ri.val + 8 + 1 * r.val = _; omega
  have e2 : k0_off1 ci ri 2 + 1 * l.val = 512 * ci.val + l.val := by rw [k0_off1_eq]; show 512 * ci.val + 1 * l.val = _; omega
  show zRow i X3 X4 ((if k0_off1 ci ri 0 + 1 * 0 = 6 then 6 else if k0_off1 ci ri 0 + 1 * 0 = 7 then 7 else 0) + (k0_off1 ci ri 1 + 1 * r.val)) _ = _
  rw [e0, e1, if_pos rfl]
  exact congrArg _ (Fin.ext e2)

include H hi in
theorem z1_eq (r : Fin 32) (l : Fin 512) : z1 (Z (F := Ideal) i X3 X4) ci ri (ix3 0 r l) = past A (t * 256 + (tileRow ri r).val + 1) (col ci l) := by
  have hr := ri_lt ri
  have h := zRow_eq A W P t ht i hi X1 X2 X3 X4 X5 X6 H (7 + (32 * ri.val + 8 + r.val)) (by omega) (by omega) (col ci l)
  rw [show t * 256 + (7 + (32 * ri.val + 8 + r.val)) - 14 = t * 256 + (32 * ri.val + r.val) + 1 by omega] at h
  refine Eq.trans ?_ h
  have e0 : k0_off2 ci ri 0 + 1 * 0 = 7 := by rw [k0_off2_eq]; rfl
  have e1 : k0_off2 ci ri 1 + 1 * r.val = 32 * ri.val + 8 + r.val := by rw [k0_off2_eq]; show 32 * ri.val + 8 + 1 * r.val = _; omega
  have e2 : k0_off2 ci ri 2 + 1 * l.val = 512 * ci.val + l.val := by rw [k0_off2_eq]; show 512 * ci.val + 1 * l.val = _; omega
  show zRow i X3 X4 ((if k0_off2 ci ri 0 + 1 * 0 = 6 then 6 else if k0_off2 ci ri 0 + 1 * 0 = 7 then 7 else 0) + (k0_off2 ci ri 1 + 1 * r.val)) _ = _
  rw [e0, e1, if_neg (by decide), if_pos rfl]
  exact congrArg _ (Fin.ext e2)

include H hi in
theorem z2_eq (r : Fin 32) (l : Fin 512) : z2 (Z (F := Ideal) i X3 X4) ci ri (ix3 0 r l) = past A (t * 256 + (tileRow ri r).val + 2) (col ci l) := by
  have hr := ri_lt ri
  have h := zRow_eq A W P t ht i hi X1 X2 X3 X4 X5 X6 H (32 * ri.val + 16 + r.val) (by omega) (by omega) (col ci l)
  rw [show t * 256 + (32 * ri.val + 16 + r.val) - 14 = t * 256 + (32 * ri.val + r.val) + 2 by omega] at h
  refine Eq.trans ?_ h
  have e0 : k0_off3 ci ri 0 + 1 * 0 = 0 := by rw [k0_off3_eq]; rfl
  have e1 : k0_off3 ci ri 1 + 1 * r.val = 32 * ri.val + 16 + r.val := by rw [k0_off3_eq]; show 32 * ri.val + 16 + 1 * r.val = _; omega
  have e2 : k0_off3 ci ri 2 + 1 * l.val = 512 * ci.val + l.val := by rw [k0_off3_eq]; show 512 * ci.val + 1 * l.val = _; omega
  refine (planes_at _ _ _ e0).trans ?_
  exact congrArg₂ (zRow i X3 X4) e1 (Fin.ext e2)

/-- A load of the second scratch buffer from residue `k`. -/
theorem d_at (off : Fin 3 → ℕ) (inb) (k : ℕ) (hk : k < 3) (h : off = ![k, 32 * ri.val, 512 * ci.val]) (hi : (i 0).val = t)
    (H : Finds A W P t ht X1 X2 X3 X4 X5 X6) (r : Fin 32) (l : Fin 512) :
    View.ld (DZ (F := Ideal) i X1 X2 X3 X5) (Rect.unit (s := S8x264x1024) off S1x32x512.size inb) (ix3 0 r l)
      = next A P (t * 256 + (tileRow ri r).val + k) (col ci l) := by
  subst h
  have hr := ri_lt ri
  have h := dRow_eq A W P t ht i X1 X2 X3 X4 X5 X6 H hi (k + (32 * ri.val + r.val)) (by omega) (col ci l)
  rw [show t * 256 + (k + (32 * ri.val + r.val)) = t * 256 + (32 * ri.val + r.val) + k by omega] at h
  refine Eq.trans ?_ h
  exact congrArg₂ (dRow i X1 X2 X3 X5) (show (k + 1 * 0) + (32 * ri.val + 1 * r.val) = _ by omega) (Fin.ext (show 512 * ci.val + 1 * l.val = _ by show _ = 512 * ci.val + l.val; omega))

include H hi in
theorem d_eq (r : Fin 32) (l : Fin 512) : d0 (DZ (F := Ideal) i X1 X2 X3 X5) ci ri (ix3 0 r l) = next A P (t * 256 + (tileRow ri r).val + 2) (col ci l)
    ∧ d1 (DZ (F := Ideal) i X1 X2 X3 X5) ci ri (ix3 0 r l) = next A P (t * 256 + (tileRow ri r).val + 1) (col ci l)
    ∧ d2 (DZ (F := Ideal) i X1 X2 X3 X5) ci ri (ix3 0 r l) = next A P (t * 256 + (tileRow ri r).val) (col ci l) :=
  ⟨d_at A W P t ht i X1 X2 X3 X4 X5 X6 ci ri _ _ 2 (by decide) (k0_off9_eq ci ri) hi H r l,
    d_at A W P t ht i X1 X2 X3 X4 X5 X6 ci ri _ _ 1 (by decide) (k0_off10_eq ci ri) hi H r l,
    d_at A W P t ht i X1 X2 X3 X4 X5 X6 ci ri _ _ 0 (by decide) (k0_off11_eq ci ri) hi H r l⟩

theorem w_at (off : Fin 2 → ℕ) (inb) (j : Fin 3) (h : off = ![j.val, 512 * ci.val]) (H : Finds A W P t ht X1 X2 X3 X4 X5 X6) (l : Fin 512) :
    View.ld X6 (Rect.unit (s := S3x1024) off S1x512.size inb) (ix2 0 l) = W j (col ci l) := by
  subst h
  rw [← H.h6]
  refine congrArg X6 (funext (Fin.forall_fin_two.2 ⟨Fin.ext ?_, Fin.ext ?_⟩))
  · show j.val + 1 * 0 = j.val; omega
  · show 512 * ci.val + 1 * l.val = 512 * ci.val + l.val; omega

include H in
theorem w_eq (l : Fin 512) : w0 X6 ci (ix2 0 l) = W 0 (col ci l) ∧ w1 X6 ci (ix2 0 l) = W 1 (col ci l) ∧ w2 X6 ci (ix2 0 l) = W 2 (col ci l) :=
  ⟨w_at A W P t ht X1 X2 X3 X4 X5 X6 ci _ _ 0 (k0_off5_eq ci) H l, w_at A W P t ht X1 X2 X3 X4 X5 X6 ci _ _ 1 (k0_off6_eq ci) H l,
    w_at A W P t ht X1 X2 X3 X4 X5 X6 ci _ _ 2 (k0_off7_eq ci) H l⟩

/-- A tile of a block, at its offsets. -/
theorem tile_ld {R N : ℕ} {e : EltTy} (B : (⟨2, ![R, N]⟩ : Shape).Idx → Elt Ideal e) (off : Fin 2 → ℕ) (inb) (r : Fin 32) (l : Fin 512) (r' : Fin R) (k : Fin N)
    (h0 : r'.val = off 0 + r.val) (h1 : k.val = off 1 + l.val) :
    View.ld (Val := Elt Ideal) (e' := e) B (Rect.unit (s := ⟨2, ![R, N]⟩) off ![32, 512] inb) (ix2 r l) = B (ix2 r' k) := by
  refine congrArg B (funext (Fin.forall_fin_two.2 ⟨Fin.ext ?_, Fin.ext ?_⟩))
  · show off 0 + 1 * r.val = r'.val; omega
  · show off 1 + 1 * l.val = k.val; omega

include H hi in
theorem tileB_eq (r : Fin 32) (l : Fin 512) :
    tileB (F := Ideal) X1 X6 (Z i X3 X4) ci ri (ix2 r l) = gradA A W P (srow t ht (tileRow ri r)) (colB (col ci l)) := by
  obtain ⟨e0, e1, e2⟩ := w_eq A W P t ht X1 X2 X3 X4 X5 X6 H ci l
  refine (conv_pay _ _ _ _ _ _ _ r l).trans ?_
  rw [gradA_B, e0, e1, e2, z0_eq A W P t ht i hi X1 X2 X3 X4 X5 X6 H, z1_eq A W P t ht i hi X1 X2 X3 X4 X5 X6 H, z2_eq A W P t ht i hi X1 X2 X3 X4 X5 X6 H,
    tile_ld X1 (k0_off4 ci ri) _ r l (tileRow ri r) (col ci l) (by rw [k0_off4_eq]; rfl) (by rw [k0_off4_eq]; rfl), H.h1]
  rfl

include H hi in
theorem tileC_eq (r : Fin 32) (l : Fin 512) :
    tileC (F := Ideal) X3 X6 (DZ i X1 X2 X3 X5) ci ri (ix2 r l) = gradA A W P (srow t ht (tileRow ri r)) (colC (col ci l)) := by
  obtain ⟨e0, e1, e2⟩ := w_eq A W P t ht X1 X2 X3 X4 X5 X6 H ci l
  obtain ⟨f0, f1, f2⟩ := d_eq A W P t ht i hi X1 X2 X3 X4 X5 X6 H ci ri r l
  refine (back_pay1 _ _ _ _ _ _ _ r l).trans ?_
  rw [gradA_C, e0, e1, e2, f0, f1, f2,
    tile_ld X3 (k0_off12 ci ri 2048#32) _ r l (tileRow ri r) (colV (col ci l)) (by rw [show k0_off12 ci ri 2048#32 = _ from k0_off12_eq ci ri 1]; rfl)
      (by rw [show k0_off12 ci ri 2048#32 = _ from k0_off12_eq ci ri 1]; show 2048 + (512 * ci.val + l.val) = 1024 * 1 + 512 * ci.val + 1024 + l.val; omega), H.h3]
  rfl

include H hi in
theorem tileV_eq (r : Fin 32) (l : Fin 512) :
    tileV (F := Ideal) X3 X6 (DZ i X1 X2 X3 X5) ci ri (ix2 r l) = gradA A W P (srow t ht (tileRow ri r)) (colV (col ci l)) := by
  obtain ⟨e0, e1, e2⟩ := w_eq A W P t ht X1 X2 X3 X4 X5 X6 H ci l
  obtain ⟨f0, f1, f2⟩ := d_eq A W P t ht i hi X1 X2 X3 X4 X5 X6 H ci ri r l
  refine (back_pay2 _ _ _ _ _ _ _ r l).trans ?_
  rw [gradA_V, e0, e1, e2, f0, f1, f2,
    tile_ld X3 (k0_off12 ci ri 1024#32) _ r l (tileRow ri r) (colC (col ci l)) (by rw [show k0_off12 ci ri 1024#32 = _ from k0_off12_eq ci ri 0]; rfl)
      (by rw [show k0_off12 ci ri 1024#32 = _ from k0_off12_eq ci ri 0]; show 1024 + (512 * ci.val + l.val) = 1024 * 0 + 512 * ci.val + 1024 + l.val; omega), H.h3]
  rfl

/-- The block of the gradient, as a function of its place. -/
def blockG (y : S256x3072.Idx) : Elt Ideal .bf16 := gradA A W P (srow t ht (y 0)) (y 1)

/-- A tile stored at its offsets is a part of the block. -/
theorem tile_part (off : Fin 2 → ℕ) (inb) (w : FVec Ideal S32x512 .bf16) (f : Fin 512 → Fin 3072) (h0 : off 0 = 32 * ri.val) (h1 : ∀ l, (f l).val = off 1 + l.val)
    (hw : ∀ r l, w (ix2 r l) = gradA A W P (srow t ht (tileRow ri r)) (f l))
    (x : (Rect.unit (s := S256x3072) off S32x512.size inb).shape.Idx) :
    w x = blockG A W P t ht ((Rect.unit (s := S256x3072) off S32x512.size inb).emb x) := by
  refine (congrArg w (eq_ix2 (n0 := 32) (n1 := 512) x)).trans ((hw (x 0) (x 1)).trans ?_)
  unfold blockG
  refine congrArg₂ (gradA A W P) (Fin.ext ?_) (Fin.ext ?_)
  · show t * 256 + (32 * ri.val + (x 0).val) = t * 256 + (off 0 + 1 * (x 0).val); omega
  · exact (h1 (x 1)).trans (show off 1 + (x 1).val = off 1 + 1 * (x 1).val by omega)

include H hi in
theorem tiles_spec (k : ℕ) : ∀ p ∈ tiles (F := Ideal) X1 X3 X6 (Z i X3 X4) (DZ i X1 X2 X3 X5) ci k, ∀ x : p.1.shape.Idx, p.2 x = blockG A W P t ht (p.1.emb x) := by
  induction k with
  | zero => exact fun p hp => absurd hp List.not_mem_nil
  | succ k ih =>
    by_cases h : k < k0_t2_loop.trips
    · rw [tiles_succ _ _ _ _ _ ci ⟨k, h⟩]
      refine List.forall_mem_cons.mpr ⟨?_, List.forall_mem_cons.mpr ⟨?_, List.forall_mem_cons.mpr ⟨?_, ih⟩⟩⟩
      · exact tile_part A W P t ht ⟨k, h⟩ _ (k0_off12_inb ci ⟨k, h⟩ 1) _ (fun l => colV (col ci l)) (by rw [k0_off12_eq]; rfl)
          (fun l => by rw [k0_off12_eq]; show 2048 + (512 * ci.val + l.val) = 1024 * 1 + 512 * ci.val + 1024 + l.val; omega)
          (tileV_eq A W P t ht i hi X1 X2 X3 X4 X5 X6 H ci ⟨k, h⟩)
      · exact tile_part A W P t ht ⟨k, h⟩ _ (k0_off12_inb ci ⟨k, h⟩ 0) _ (fun l => colC (col ci l)) (by rw [k0_off12_eq]; rfl)
          (fun l => by rw [k0_off12_eq]; show 1024 + (512 * ci.val + l.val) = 1024 * 0 + 512 * ci.val + 1024 + l.val; omega)
          (tileC_eq A W P t ht i hi X1 X2 X3 X4 X5 X6 H ci ⟨k, h⟩)
      · exact tile_part A W P t ht ⟨k, h⟩ _ (k0_off8_inb ci ⟨k, h⟩) _ (fun l => colB (col ci l)) (by rw [k0_off8_eq]; rfl) (fun l => by rw [k0_off8_eq]; rfl)
          (tileB_eq A W P t ht i hi X1 X2 X3 X4 X5 X6 H ci ⟨k, h⟩)
    · rw [tiles, dif_neg h]; exact ih

include H hi in
theorem allTiles_spec (k : ℕ) : ∀ p ∈ allTiles (F := Ideal) X1 X3 X6 (Z i X3 X4) (DZ i X1 X2 X3 X5) k, ∀ x : p.1.shape.Idx, p.2 x = blockG A W P t ht (p.1.emb x) := by
  induction k with
  | zero => exact fun p hp => absurd hp List.not_mem_nil
  | succ k ih =>
    rw [allTiles]
    by_cases h : k < k0_t1_loop.trips
    · rw [dif_pos h]
      exact List.forall_mem_append.mpr ⟨tiles_spec A W P t ht i hi X1 X2 X3 X4 X5 X6 H ⟨k, h⟩ _, ih⟩
    · rw [dif_neg h]; exact ih

include H hi in
/-- The block of the gradient that a point leaves. -/
theorem outO_eq (y : S256x3072.Idx) : outO (F := Ideal) i X1 X2 X3 X4 X5 X6 y = gradA A W P (srow t ht (y 0)) (y 1) :=
  View.canon_apply_of_pieces (blockG A W P t ht) _ (allTiles_spec A W P t ht i hi X1 X2 X3 X4 X5 X6 H _) y (cover _ _ _ _ _ y)

end trip

end Cert.Proof.Sconv

end
-- ==== Proof.SconvSum.lean ====
/- The gradient of the short gated convolution: what one grid point adds to the filter's gradient. -/
module

public import proofs.«01_k».proof.Proof.SconvVal

@[expose] public section

set_option maxRecDepth 16384
set_option maxHeartbeats 1000000

noncomputable section

namespace Cert.Proof.Sconv

open Cert.SconvIdeal Cert.SconvIdeal.Gen Cert.Proof.Halo
open Idealize.ShloMosaic TcCoe Idealize.SL.Sem

theorem trips1 : k0_t1_loop.trips = 2 := by decide +kernel
theorem trips2 : k0_t2_loop.trips = 8 := by decide +kernel

/-- The sums of one row of the filter. -/
def part (S : Sums Ideal) (j : Fin 3) : FVec Ideal S8x512 .f32 := match j with
  | 0 => S.1
  | 1 => S.2.1
  | 2 => S.2.2

/-- A row of the sums put over the filter's gradient. -/
theorem put_row (g : S8x1024.Idx → Elt Ideal .f32) (off : Fin 2 → ℕ) (n c : ℕ) (h : off = ![n, 512 * c]) (w : FVec Ideal S1x512 .f32) (j : Fin 8) (b : Fin 1024) :
    VecWindow.put g off S1x512.size w (ix2 j b)
      = if h : j.val = n ∧ 512 * c ≤ b.val ∧ b.val < 512 * c + 512 then w (ix2 0 ⟨b.val - 512 * c, by omega⟩) else g (ix2 j b) := by
  subst h
  unfold VecWindow.put
  by_cases hb : j.val = n ∧ 512 * c ≤ b.val ∧ b.val < 512 * c + 512
  · have hh : ∀ a, (![n, 512 * c] : Fin 2 → ℕ) a ≤ ((ix2 j b : S8x1024.Idx) a).val ∧ ((ix2 j b : S8x1024.Idx) a).val < (![n, 512 * c] : Fin 2 → ℕ) a + S1x512.size a :=
      Fin.forall_fin_two.2 ⟨(⟨by omega, by omega⟩ : n ≤ j.val ∧ j.val < n + 1), hb.2⟩
    rw [dif_pos hh, dif_pos hb]
    refine congrArg w (funext (Fin.forall_fin_two.2 ⟨Fin.ext ?_, Fin.ext ?_⟩))
    · show j.val - n = 0; omega
    · rfl
  · rw [dif_neg hb, dif_neg]
    intro hh
    have h0 : n ≤ j.val ∧ j.val < n + 1 := hh 0
    have h1 : 512 * c ≤ b.val ∧ b.val < 512 * c + 512 := hh 1
    exact hb ⟨by omega, h1⟩

/-- A row of the filter's gradient, as loaded. -/
theorem ld_row (g : S8x1024.Idx → Elt Ideal .f32) (off : Fin 2 → ℕ) (inb) (j : Fin 8) (c : ℕ) (h : off = ![j.val, 512 * c]) (l : Fin 512) (b : Fin 1024) (hb : b.val = 512 * c + l.val) :
    View.ld g (Rect.unit (s := S8x1024) off S1x512.size inb) (ix2 0 l) = g (ix2 j b) := by
  subst h
  refine congrArg g (funext (Fin.forall_fin_two.2 ⟨Fin.ext ?_, Fin.ext ?_⟩))
  · show j.val + 1 * 0 = j.val; omega
  · show 512 * c + 1 * l.val = b.val; omega

/-- What a trip of the outer loop makes of the filter's gradient: its chunk's columns take on the sums' rows. -/
theorem addB_eq (ci : Fin k0_t1_loop.trips) (S : Sums Ideal) (g : S8x1024.Idx → Elt Ideal .f32) (j : Fin 3) (b : Fin 1024) :
    addB ci S g (ix2 ⟨j.val, by omega⟩ b)
      = if h : 512 * ci.val ≤ b.val ∧ b.val < 512 * ci.val + 512 then g (ix2 ⟨j.val, by omega⟩ b) + ∑ q, part S j (ix2 q ⟨b.val - 512 * ci.val, by omega⟩)
        else g (ix2 ⟨j.val, by omega⟩ b) := by
  unfold addB
  rw [put_row _ _ 2 ci.val (k0_off15_eq ci), put_row _ _ 1 ci.val (k0_off14_eq ci), put_row _ _ 0 ci.val (k0_off13_eq ci)]
  by_cases h : 512 * ci.val ≤ b.val ∧ b.val < 512 * ci.val + 512
  · rw [dif_pos h]
    fin_cases j
    · rw [dif_neg (fun e => absurd e.1 (by decide)), dif_neg (fun e => absurd e.1 (by decide)), dif_pos ⟨rfl, h⟩]
      exact (row_pay0 _ _ _).trans (congrArg (· + _) (ld_row g _ _ 0 ci.val (k0_off13_eq ci) _ b (by show b.val = 512 * ci.val + (b.val - 512 * ci.val); omega)))
    · rw [dif_neg (fun e => absurd e.1 (by decide)), dif_pos ⟨rfl, h⟩]
      exact (row_pay1 _ _ _).trans (congrArg (· + _) (ld_row g _ _ 1 ci.val (k0_off14_eq ci) _ b (by show b.val = 512 * ci.val + (b.val - 512 * ci.val); omega)))
    · rw [dif_pos ⟨rfl, h⟩]
      exact (row_pay2 _ _ _).trans (congrArg (· + _) (ld_row g _ _ 2 ci.val (k0_off15_eq ci) _ b (by show b.val = 512 * ci.val + (b.val - 512 * ci.val); omega)))
  · rw [dif_neg h, dif_neg (fun e => h e.2), dif_neg (fun e => h e.2), dif_neg (fun e => h e.2)]

section trip

variable (A : Fin 4096 → Fin 3072 → EReal) (W : Fin 3 → Fin 1024 → EReal) (P : Fin 4096 → Fin 1024 → EReal)
  (t : ℕ) (ht : t < 16) (i : grid0.Coords) (hi : (i 0).val = t)
  (X1 : S256x1024.Idx → Elt Ideal .f32) (X2 : S8x1024.Idx → Elt Ideal .f32) (X3 : S256x3072.Idx → Elt Ideal .bf16)
  (X4 X5 : S16x3072.Idx → Elt Ideal .bf16) (X6 : S3x1024.Idx → Elt Ideal .f32) (X8 : S8x1024.Idx → Elt Ideal .f32)
  (H : Finds A W P t ht X1 X2 X3 X4 X5 X6) (ci : Fin k0_t1_loop.trips)

/-- The four rows of a tile that a row of sums takes on, of the rows' terms. -/
abbrev four (T : ℕ → EReal) (i q : ℕ) : EReal := T (32 * i + q) + T (32 * i + (8 + q)) + T (32 * i + (16 + q)) + T (32 * i + (24 + q))

theorem fold_four (d z : FVec Ideal S1x32x512 .f32) (T : ℕ → EReal) (n : ℕ) (l : Fin 512)
    (h : ∀ r : Fin 32, d (ix3 0 r l) * z (ix3 0 r l) = T (32 * n + r.val)) (q : Fin 8) : fold d z q l = four T n q.val := by
  unfold fold
  rw [h, h, h, h]

include H hi in
theorem sums_eq (j : Fin 3) (q : Fin 8) (l : Fin 512) (k : ℕ) (hk : k ≤ 8) :
    part (sums (Z (F := Ideal) i X3 X4) (DZ i X1 X2 X3 X5) ci k) j (ix2 q l)
      = ∑ n ∈ Finset.range k, four (fun s => term A P j.val (col ci l) (t * 256 + s)) n q.val := by
  induction k with
  | zero => fin_cases j <;> exact zero_pay4 l q
  | succ k ih =>
    have hk' : k < k0_t2_loop.trips := by rw [trips2]; omega
    rw [Finset.sum_range_succ, ← ih (by omega), sums_succ _ _ ci ⟨k, hk'⟩]
    have hd := fun r => (d_eq A W P t ht i hi X1 X2 X3 X4 X5 X6 H ci ⟨k, hk'⟩ r l).2.2
    fin_cases j
    · refine (fold_pay0 _ _ _ _ _).trans (congrArg _ (fold_four _ _ _ k l (fun r => ?_) q))
      rw [hd, z0_eq A W P t ht i hi X1 X2 X3 X4 X5 X6 H]; rfl
    · refine (fold_pay1 _ _ _ _ _).trans (congrArg _ (fold_four _ _ _ k l (fun r => ?_) q))
      rw [hd, z1_eq A W P t ht i hi X1 X2 X3 X4 X5 X6 H]; rfl
    · refine (fold_pay2 _ _ _ _ _).trans (congrArg _ (fold_four _ _ _ k l (fun r => ?_) q))
      rw [hd, z2_eq A W P t ht i hi X1 X2 X3 X4 X5 X6 H]; rfl

include H hi in
theorem sums_all (j : Fin 3) (l : Fin 512) :
    ∑ q, part (sums (Z (F := Ideal) i X3 X4) (DZ i X1 X2 X3 X5) ci k0_t2_loop.trips) j (ix2 q l)
      = ∑ s ∈ Finset.range 256, term A P j.val (col ci l) (t * 256 + s) := by
  rw [← sum_folds (fun s => term A P j.val (col ci l) (t * 256 + s)), Finset.sum_range, trips2]
  exact Finset.sum_congr rfl fun q _ => sums_eq A W P t ht i hi X1 X2 X3 X4 X5 X6 H ci j q l 8 le_rfl

include H hi in
/-- What a point leaves of the filter's gradient: what it found, and the sum over its rows. -/
theorem allB_eq (g : S8x1024.Idx → Elt Ideal .f32) (j : Fin 3) (b : Fin 1024) :
    allB (Z (F := Ideal) i X3 X4) (DZ i X1 X2 X3 X5) g k0_t1_loop.trips (ix2 ⟨j.val, by omega⟩ b)
      = g (ix2 ⟨j.val, by omega⟩ b) + ∑ s ∈ Finset.range 256, term A P j.val b (t * 256 + s) := by
  have hb := b.isLt
  have h0 : 0 < k0_t1_loop.trips := by rw [trips1]; omega
  have h1 : 1 < k0_t1_loop.trips := by rw [trips1]; omega
  rw [trips1, allB, allB, allB, dif_pos h0, dif_pos h1, addB_eq, addB_eq]
  by_cases h : b.val < 512
  · rw [dif_neg (show ¬(512 * 1 ≤ b.val ∧ b.val < 512 * 1 + 512) by omega), dif_pos (show 512 * 0 ≤ b.val ∧ b.val < 512 * 0 + 512 by omega),
      sums_all A W P t ht i hi X1 X2 X3 X4 X5 X6 H]
    rw [show col ⟨0, h0⟩ ⟨b.val - 512 * 0, by omega⟩ = b from Fin.ext (show 512 * 0 + (b.val - 512 * 0) = b.val by omega)]
  · rw [dif_pos (show 512 * 1 ≤ b.val ∧ b.val < 512 * 1 + 512 by omega), dif_neg (show ¬(512 * 0 ≤ b.val ∧ b.val < 512 * 0 + 512) by omega),
      sums_all A W P t ht i hi X1 X2 X3 X4 X5 X6 H]
    rw [show col ⟨1, h1⟩ ⟨b.val - 512 * 1, by omega⟩ = b from Fin.ext (show 512 * 1 + (b.val - 512 * 1) = b.val by omega)]

include H hi in
theorem outW_eq (j : Fin 3) (b : Fin 1024) :
    outW (F := Ideal) i X1 X2 X3 X4 X5 X8 (ix2 ⟨j.val, by omega⟩ b)
      = (if t = 0 then 0 else X8 (ix2 ⟨j.val, by omega⟩ b)) + ∑ s ∈ Finset.range 256, term A P j.val b (t * 256 + s) := by
  unfold outW
  rw [allB_eq A W P t ht i hi X1 X2 X3 X4 X5 X6 H, hi]
  by_cases h : t = 0
  · rw [if_pos h, if_pos h, zero_pay3]
  · rw [if_neg h, if_neg h]

end trip

end Cert.Proof.Sconv

end
-- ==== Proof.SconvPoint.lean ====
module

public import proofs.«01_k».proof.Proof.SconvBody

/-! The gradient of the short gated convolution: the run of its body at one grid point. -/

@[expose] public section

set_option maxRecDepth 8192
set_option maxHeartbeats 2000000

noncomputable section

namespace Cert.Proof.Sconv

open Cert.SconvIdeal Cert.SconvIdeal.Gen Cert.Proof.Halo
open Idealize.ShloMosaic TcCoe Idealize.ShloMosaic.Tactic Idealize.ShloMosaic.Pointwise
open Idealize.SL RA BI BIBase Laws ProofMode Sem

variable {F : FTy → Type} [FloatOps F]

local notation "𝕄" => MT nD τ sig Unit (Elt F) ℕ (UR sig nD τ) ℕ

section Body

variable (c : Dev nD) (i : grid0.Coords) (arg1 : Memref sig .tc .vmem S256x1024 .f32) (harg1 : arg1.IsWhole)
  (arg2 : Memref sig .tc .vmem S8x1024 .f32) (harg2 : arg2.IsWhole) (arg3 : Memref sig .tc .vmem S256x3072 .bf16) (harg3 : arg3.IsWhole)
  (arg4 : Memref sig .tc .vmem S16x3072 .bf16) (harg4 : arg4.IsWhole) (arg5 : Memref sig .tc .vmem S16x3072 .bf16) (harg5 : arg5.IsWhole)
  (arg6 : Memref sig .tc .vmem S3x1024 .f32) (harg6 : arg6.IsWhole) (arg7 : Memref sig .tc .vmem S256x3072 .bf16) (harg7 : arg7.IsWhole)
  (arg8 : Memref sig .tc .vmem S8x1024 .f32) (harg8 : arg8.IsWhole) (arg9 : Memref sig .tc .vmem S8x272x1024 .f32) (harg9 : arg9.IsWhole)
  (arg10 : Memref sig .tc .vmem S8x264x1024 .f32) (harg10 : arg10.IsWhole)
  (X1 : S256x1024.Idx → Elt F .f32) (X2 : S8x1024.Idx → Elt F .f32) (X3 : S256x3072.Idx → Elt F .bf16) (X4 X5 : S16x3072.Idx → Elt F .bf16)
  (X6 : S3x1024.Idx → Elt F .f32) (X8 : S8x1024.Idx → Elt F .f32)

theorem first_read : arg8.view.read (Elt F) (View.write (Elt F) (arg8.view.slice (Rect.unit (s := S8x1024) ![0, 0] S8x1024.size inb_S8x1024_S8x1024_0_0))
    (arg8.view.writes (Elt F) arg8.view.junk []) k0_pay3 Finset.univ) = k0_pay3 :=
  View.read_writes_full (Val := Elt F) arg8.view arg8.view.junk inb_S8x1024_S8x1024_0_0 (k0_pay3 (F := F)) []

theorem some_owns {s : Shape} {e : EltTy} (a : Memref sig .tc .vmem s e) (f : BufTy.Contents (Elt F) a.view.ty) :
    (iprop(View.loc (c : Thread nD τ) a.view ↦[a.view.set]{fullShare} f) : sProp 𝕄)
      ⊢ iprop(∃ d, ∃ f, ⌜a.view.read (Elt F) f = d⌝ ∗ View.loc (c : Thread nD τ) a.view ↦[a.view.set]{fullShare} f) := by
  iintro H
  iexists (a.view.read (Elt F) f); iexists f; isplitr
  · ipureintro; rfl
  · iexact H

theorem o_read {z : S8x272x1024.Idx → Elt F .f32} {dz : S8x264x1024.Idx → Elt F .f32} (f7 : BufTy.Contents (Elt F) arg7.view.ty)
    (hz : ∀ y, readZ y → z y = Z i X3 X4 y) (hd : ∀ y, readD y → dz y = DZ i X1 X2 X3 X5 y) :
    arg7.view.read (Elt F) (arg7.view.writes (Elt F) f7 (allTiles X1 X3 X6 z dz (Scf.trips k0_t1_loop.lb k0_t1_loop.ub k0_t1_loop.st))) = outO i X1 X2 X3 X4 X5 X6 := by
  rw [allTiles_congr hz hd]
  exact View.read_writes_eq_canon _ _ _ (cover X1 X3 X6 _ _)

theorem w_read {z : S8x272x1024.Idx → Elt F .f32} {dz : S8x264x1024.Idx → Elt F .f32} (f8 : BufTy.Contents (Elt F) arg8.view.ty)
    (hz : ∀ y, readZ y → z y = Z i X3 X4 y) (hd : ∀ y, readD y → dz y = DZ i X1 X2 X3 X5 y)
    (h8 : arg8.view.read (Elt F) f8 = if (i 0).val = 0 then k0_pay3 else X8) :
    arg8.view.read (Elt F) (allSums arg8 z dz f8 (Scf.trips k0_t1_loop.lb k0_t1_loop.ub k0_t1_loop.st)) = outW i X1 X2 X3 X4 X5 X8 := by
  rw [read_allSums hz hd, h8]
  rfl

set_option sl_exec.squeezeSlice true in
theorem body_run (E : Set ℕ) (K : PUnit → sProp 𝕄) :
    iprop(owns (c : Thread nD τ) arg1 fullShare X1 ∗ owns (c : Thread nD τ) arg2 fullShare X2 ∗ owns (c : Thread nD τ) arg3 fullShare X3
      ∗ owns (c : Thread nD τ) arg4 fullShare X4 ∗ owns (c : Thread nD τ) arg5 fullShare X5 ∗ owns (c : Thread nD τ) arg6 fullShare X6
      ∗ (∃ d, owns (c : Thread nD τ) arg7 fullShare d) ∗ owns (c : Thread nD τ) arg8 fullShare X8
      ∗ (∃ d, owns (c : Thread nD τ) arg9 fullShare d) ∗ (∃ d, owns (c : Thread nD τ) arg10 fullShare d)
      ∗ (iprop(owns (c : Thread nD τ) arg1 fullShare X1 ∗ owns (c : Thread nD τ) arg2 fullShare X2 ∗ owns (c : Thread nD τ) arg3 fullShare X3
          ∗ owns (c : Thread nD τ) arg4 fullShare X4 ∗ owns (c : Thread nD τ) arg5 fullShare X5 ∗ owns (c : Thread nD τ) arg6 fullShare X6
          ∗ owns (c : Thread nD τ) arg7 fullShare (outO i X1 X2 X3 X4 X5 X6) ∗ owns (c : Thread nD τ) arg8 fullShare (outW i X1 X2 X3 X4 X5 X8)
          ∗ (∃ d, owns (c : Thread nD τ) arg9 fullShare d) ∗ (∃ d, owns (c : Thread nD τ) arg10 fullShare d)) -∗ K ⟨⟩))
    ⊢ wp frame (wpE (defs₀ (F := F)) Variants.none c none) E (cc0_conv_bwd (F := F) i arg1 harg1 arg2 harg2 arg3 harg3 arg4 harg4 arg5 harg5 arg6 harg6 arg7 harg7 arg8 harg8 arg9 harg9 arg10 harg10) K := by
  simp only [cc0_conv_bwd_eq_skeleton]; unfold cc0_conv_bwd_skel
  simp only [k0_part3_eq_skeleton, k0_part4_eq_skeleton]
  have hi : (i 0).val < 16 := (i 0).isLt
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, Hk⟩
  subst hf1 hf2 hf3 hf4 hf5 hf6 hf8
  rcases first_or hi with ⟨h0, hc⟩ | ⟨h0, hc⟩
  all_goals
    sl_exec (disch := first | sl_exact hc)
    sl_step
    iapply Hk
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _
      isplitr
      rotate_left
      · iexact H7
      · ipureintro
        refine o_read i arg7 (View.read (Elt F) arg1.view f1) (View.read (Elt F) arg2.view f2) (View.read (Elt F) arg3.view f3) (View.read (Elt F) arg4.view f4) (View.read (Elt F) arg5.view f5) (View.read (Elt F) arg6.view f6) f7 (fun y h => ?_) (fun y h => ?_)
        · first
          | unfold body_run.sl.v32 body_run.sl.H9_3 body_run.sl.r body_run.sl.v27 body_run.sl.H9_2
          | unfold body_run.sl.v32_1 body_run.sl.H9_3_1 body_run.sl.r_2 body_run.sl.v27_1 body_run.sl.H9_2_1
          exact z_read i (View.read (Elt F) arg3.view f3) (View.read (Elt F) arg4.view f4) arg9.view f9 y h _ _
        · first
          | unfold body_run.sl.v62 body_run.sl.H10_3 body_run.sl.r_1 body_run.sl.v57 body_run.sl.H10_2
          | unfold body_run.sl.v62_1 body_run.sl.H10_3_1 body_run.sl.r_3 body_run.sl.v57_1 body_run.sl.H10_2_1
          exact d_read i (View.read (Elt F) arg1.view f1) (View.read (Elt F) arg2.view f2) (View.read (Elt F) arg3.view f3) (View.read (Elt F) arg5.view f5) arg10.view f10 y h _ _
    isplitl [H8]
    · iexists _
      isplitr
      rotate_left
      · iexact H8
      · ipureintro
        refine w_read i arg8 (View.read (Elt F) arg1.view f1) (View.read (Elt F) arg2.view f2) (View.read (Elt F) arg3.view f3) (View.read (Elt F) arg4.view f4) (View.read (Elt F) arg5.view f5) (View.read (Elt F) arg8.view f8) _ (fun y h => ?_) (fun y h => ?_) ?_
        · first
          | unfold body_run.sl.v32 body_run.sl.H9_3 body_run.sl.r body_run.sl.v27 body_run.sl.H9_2
          | unfold body_run.sl.v32_1 body_run.sl.H9_3_1 body_run.sl.r_2 body_run.sl.v27_1 body_run.sl.H9_2_1
          exact z_read i (View.read (Elt F) arg3.view f3) (View.read (Elt F) arg4.view f4) arg9.view f9 y h _ _
        · first
          | unfold body_run.sl.v62 body_run.sl.H10_3 body_run.sl.r_1 body_run.sl.v57 body_run.sl.H10_2
          | unfold body_run.sl.v62_1 body_run.sl.H10_3_1 body_run.sl.r_3 body_run.sl.v57_1 body_run.sl.H10_2_1
          exact d_read i (View.read (Elt F) arg1.view f1) (View.read (Elt F) arg2.view f2) (View.read (Elt F) arg3.view f3) (View.read (Elt F) arg5.view f5) arg10.view f10 y h _ _
        · first
          | exact (first_read arg8).trans (if_pos h0).symm
          | exact (if_neg h0).symm
    isplitl [H9]
    · iapply (some_owns c arg9 _); iexact H9
    iapply (some_owns c arg10 _); iexact H10

end Body

end Cert.Proof.Sconv

end
-- ==== Proof.SconvFrame.lean ====
module

public import proofs.«01_k».proof.Proof.SconvPoint
public import Idealize.ShloMosaic.Lib.Pipeline.TableIdle
public import Idealize.ShloMosaic.Lib.Claim

/-! The gradient of the short gated convolution: what its output blocks hold point by point, and the whole run. -/

@[expose] public section

set_option maxRecDepth 16384
set_option maxHeartbeats 800000

noncomputable section

namespace Cert.Proof.Sconv

open Cert.SconvIdeal Cert.SconvIdeal.Gen
open Idealize.ShloMosaic TcCoe Idealize.ShloMosaic.Tactic
open Idealize.SL RA BI BIBase Laws ProofMode Sem
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The block of the gradient after point `t`. -/
def blockO (c : Dev nD) (t : Fin cfg0.N) : S256x3072.Idx → Elt F .bf16 :=
  outO (grid0.coords t) (iblk m c 0 t) (iblk m c 1 t) (iblk m c 2 t) (iblk m c 3 t) (iblk m c 4 t) (iblk m c 5 t)
/-- The filter's gradient after point `t`, `X` standing before it. -/
def stepW (c : Dev nD) (t : Fin cfg0.N) (X : S8x1024.Idx → Elt F .f32) : S8x1024.Idx → Elt F .f32 :=
  outW (grid0.coords t) (iblk m c 0 t) (iblk m c 1 t) (iblk m c 2 t) (iblk m c 3 t) (iblk m c 4 t) X
/-- and after point `n` of the run. -/
def accW (c : Dev nD) : (n : ℕ) → n < cfg0.N → S8x1024.Idx → Elt F .f32
  | 0, h => stepW m c ⟨0, h⟩ k0_pay3
  | n + 1, h => stepW m c ⟨n + 1, h⟩ (accW c n (Nat.lt_of_succ_lt h))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockO m c t
    | ⟨7, _⟩ => accW m c t.val t.isLt
  Φ _ := Pipeline.ΦA spec0 c
  q w := Pipeline.shareOf spec0 w
  owed _ := 0

variable (c : Dev nD) (t : Fin cfg0.N)

theorem A_eq (c : Dev nD) (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = blockO m c t := by dsimp only [dats]
theorem after0_7 : (dats m 0 c).after 7 t = accW m c t.val t.isLt := by dsimp only [dats]

theorem before0_0 (d) : (dats m 0 c).before 0 t d = iblk m c 0 t := before0_0_of m _ (A_eq m c 0) (after0_0 m c) t d
theorem before0_1 (d) : (dats m 0 c).before 1 t d = iblk m c 1 t := before0_1_of m _ (A_eq m c 1) (after0_1 m c) t d
theorem before0_2 (d) : (dats m 0 c).before 2 t d = iblk m c 2 t := before0_2_of m _ (A_eq m c 2) (after0_2 m c) t d
theorem before0_3 (d) : (dats m 0 c).before 3 t d = iblk m c 3 t := before0_3_of m _ (A_eq m c 3) (after0_3 m c) t d
theorem before0_4 (d) : (dats m 0 c).before 4 t d = iblk m c 4 t := before0_4_of m _ (A_eq m c 4) (after0_4 m c) t d
theorem before0_5 (d) : (dats m 0 c).before 5 t d = iblk m c 5 t := before0_5_of m _ (A_eq m c 5) (after0_5 m c) t d

/-- No window is idle at any point. -/
theorem live (w : Fin cfg0.W) (t : Fin cfg0.N) : cfg0.idle w (grid0.coords t) = false := by
  revert w t; decide +kernel

/-- The filter's gradient is fresh at the first point only. -/
def freshTab : ℕ → Bool
  | 0 => true
  | n + 1 => (0x8000 : ℕ).testBit n
theorem freshTab_step : ∀ t : Fin cfg0.N,
    freshTab (t.val + 1) = ((cfg0.win 7).flush t || (cfg0.idle 7 (cfg0.grid.coords t) && freshTab t.val)) := by decide +kernel
theorem fresh_eq (t : Fin cfg0.N) : cfg0.fresh 7 t.val = freshTab t.val :=
  Pipeline.Cfg.fresh_tab cfg0 7 freshTab rfl freshTab_step t.val (Nat.le_of_lt t.isLt)
theorem notFresh (t : Fin cfg0.N) : t.val ≠ 0 → cfg0.fresh 7 t.val = false := by
  rw [fresh_eq t]; revert t; decide +kernel

theorem before0_7 (h0 : t.val ≠ 0) (d) :
    (dats m 0 c).before 7 t d = accW m c (t.val - 1) (Nat.lt_of_le_of_lt (Nat.sub_le _ _) t.isLt) := by
  rw [Dat.before_out_traj _ 7 rfl (fun _ _ => rfl) (fun t _ hi _ => by rw [live 7 t] at hi; exact absurd hi Bool.false_ne_true) t.val t rfl d,
    if_neg (by rw [notFresh t h0]; exact Bool.false_ne_true)]
  dsimp only [dats]

/-- The point's first coordinate is its number. -/
theorem point (t : Fin cfg0.N) : ((grid0.coords t) 0).val = t.val := by
  revert t; decide +kernel

/-- The body's step from what it finds to what the run says it leaves. -/
theorem step_eq (c : Dev nD) (t : Fin cfg0.N) (d) :
    outW (grid0.coords t) (iblk m c 0 t) (iblk m c 1 t) (iblk m c 2 t) (iblk m c 3 t) (iblk m c 4 t) ((dats m 0 c).before 7 t d) = accW m c t.val t.isLt := by
  obtain ⟨n, hn⟩ := t
  cases n with
  | zero =>
    show outW _ _ _ _ _ _ _ = outW _ _ _ _ _ _ _
    unfold outW
    rw [if_pos (point _), if_pos (point _)]
  | succ n =>
    rw [before0_7 m c _ (Nat.succ_ne_zero n)]
    rfl

/-! ## The body obligation -/

abbrev slot (t : Fin cfg0.N) (w : Fin cfg0.W) := (cfg0.win w).stage (cfg0.slots t w)
/-- What window `w` holds when point `t` begins. -/
def found (c : Dev nD) (t : Fin cfg0.N) (w : Fin cfg0.W) : sProp 𝕄 :=
  iprop(∃ d, owns (c : Thread nD τ) (slot t w) fullShare ((dats m 0 c).before w t d))
abbrev scM0_0 : Memref sig .tc .vmem S8x272x1024 .f32 := Memref.whole cc0_scratch0
abbrev scM0_1 : Memref sig .tc .vmem S8x264x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7)

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves (c : Dev nD) (w : Fin cfg0.W) (t : Fin cfg0.N) :
    (dats m 0 c).leavesExact w t = owns (c : Thread nD τ) (slot t w) fullShare ((dats m 0 c).after w t) := by
  unfold Dat.leavesExact; rw [live w t]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 found
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves m c 0 t, leaves m c 1 t, leaves m c 2 t, leaves m c 3 t, leaves m c 4 t, leaves m c 5 t, leaves m c 6 t, leaves m c 7 t,
    after0_0, after0_1, after0_2, after0_3, after0_4, after0_5, after0_6, after0_7]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← step_eq m c t d7]
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run ends with the arguments as they were and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Sconv

end
-- ==== Proof.SconvFinal.lean ====
/- The gradient of the short gated convolution: the kernel's two results, whole. -/
module

public import proofs.«01_k».proof.Proof.SconvSum
public import proofs.«01_k».proof.Proof.SconvFrame

@[expose] public section

set_option maxRecDepth 16384
set_option maxHeartbeats 1000000

noncomputable section

namespace Cert.Proof.Sconv

open Cert.SconvIdeal Cert.SconvIdeal.Gen
open Idealize.ShloMosaic TcCoe Idealize.SL.Sem
open Pipeline (Dat)

/-- The windows' blocks: rows of a point, the rows just before it and just after it. -/
theorem idx : ∀ t : Fin cfg0.N, win0_0.index t = ![t.val, 0] ∧ win0_1.index t = ![min ((t.val + 1) * 32) 511, 0] ∧ win0_2.index t = ![t.val, 0]
    ∧ win0_3.index t = ![t.val * 16 - 1, 0] ∧ win0_4.index t = ![min ((t.val + 1) * 16) 255, 0] ∧ win0_5.index t = ![0, 0]
    ∧ win0_6.index t = ![t.val, 0] ∧ win0_7.index t = ![0, 0] :=
  (by decide +kernel : ∀ t : Fin grid0.N, _)

variable (m : (ℓ : Loc nD τ sig) → Buf (Elt Ideal) ℓ) (c : Dev nD)
variable {A : Fin 4096 → Fin 3072 → EReal} {W : Fin 3 → Fin 1024 → EReal} {P : Fin 4096 → Fin 1024 → EReal}
  (hA : ∀ a b, m ((c : Thread nD τ).loc main_arg0) (ix2 a b) = A a b)
  (hW : ∀ a b, m ((c : Thread nD τ).loc main_arg1) (ix2 a b) = W a b)
  (hP : ∀ a b, m ((c : Thread nD τ).loc main_arg2) (ix2 a b) = P a b)

include hA in
theorem entry0 (a : Fin 4096) (b : Fin 3072) : V m c main_v0 (ix2 a b) = A a b := by
  rw [← hA]
  show StableHlo.after hostOps0 (fun b => m (c, b)) (Proc.tc.devRef main_v0) (ix2 a b) = _
  after_results
  rfl

include hA hW hP in
theorem finds (t : Fin cfg0.N) (ht : t.val < 16) :
    Finds A W P t.val ht (iblk m c 0 t) (iblk m c 1 t) (iblk m c 2 t) (iblk m c 3 t) (iblk m c 4 t) (iblk m c 5 t) where
  h1 r b := by
    rw [← hP]; blk_ext [iblk, V, idx t]
  h2 r b h := by
    rw [← hP]; blk_ext [iblk, V, idx t]
  h3 r k := by
    rw [← entry0 m c hA]; blk_ext [iblk, idx t]
  h4 r k h := by
    rw [← entry0 m c hA]; blk_ext [iblk, idx t]
  h5 r k h := by
    rw [← entry0 m c hA]; blk_ext [iblk, idx t]
  h6 j b := by
    rw [← hW]; blk_ext [iblk, V, idx t]

include hA hW hP in
/-- The gradient of the gated convolution's input, whole. -/
theorem final6 : (dats m 0 c).arrAt 6 (cfgs 0).N = fun i => gradA A W P (i 0) (i 1) := by
  refine (dats m 0 c).arrAt_eq_of_covers 6 _ (by decide +kernel) fun t hf y => ?_
  have ht : t.val < 16 := lt_of_lt_of_eq t.isLt N_0
  blk_simp
  rw [after0_6]
  refine (outO_eq A W P t.val ht _ (point t) _ _ _ _ _ _ (finds m c hA hW hP t ht) y).trans ?_
  rw [show (win0_6.blk t).view.emb y = ix2 (srow t.val ht (y 0)) (y 1) by blk_ext [idx t, srow]]
  rfl

include hA hW hP in
theorem acc_eq (j : Fin 3) (b : Fin 1024) (n : ℕ) (h : n < cfg0.N) :
    accW m c n h (ix2 ⟨j.val, by omega⟩ b) = ∑ s ∈ Finset.range (256 * (n + 1)), term A P j.val b s := by
  have ht : ∀ k, k < cfg0.N → k < 16 := fun k hk => lt_of_lt_of_eq hk N_0
  rw [← sum_stretches (n + 1) 256]
  induction n with
  | zero =>
    rw [accW, stepW, outW_eq A W P 0 (by omega) _ (point ⟨0, h⟩) _ _ _ _ _ _ _ (finds m c hA hW hP ⟨0, h⟩ (ht 0 h)), if_pos rfl, zero_add,
      Finset.sum_range_one]
    try exact Finset.sum_congr rfl fun s _ => congrArg (term A P j.val b) (by omega)
  | succ n ih =>
    rw [accW, stepW, outW_eq A W P (n + 1) (ht _ h) _ (point ⟨n + 1, h⟩) _ _ _ _ _ _ _ (finds m c hA hW hP ⟨n + 1, h⟩ (ht _ h)), if_neg (by omega),
      ih (Nat.lt_of_succ_lt h), Finset.sum_range_succ _ (n + 1)]
    exact congrArg _ (Finset.sum_congr rfl fun s _ => congrArg (term A P j.val b) (by omega))

include hA hW hP in
/-- The rows of the filter's gradient. -/
theorem final7 (j : Fin 3) (b : Fin 1024) : (dats m 0 c).arrAt 7 (cfgs 0).N (ix2 (⟨j.val, by omega⟩ : Fin 8) b) = gradW A P j b := by
  have e : (dats m 0 c).arrAt 7 (cfgs 0).N = accW m c 15 (by rw [show cfg0.N = 16 from N_0]; omega) := by
    refine (dats m 0 c).arrAt_eq_of_covers 7 _ (by decide +kernel) fun t hf y => ?_
    have ht : t.val = 15 := by
      have h1 := (flush0_7 t).mp hf
      have h2 : t.val < 16 := lt_of_lt_of_eq t.isLt N_0
      omega
    blk_simp
    rw [after0_7, show (win0_7.blk t).view.emb y = y by blk_ext [idx t]]
    obtain ⟨n, hn⟩ := t
    obtain rfl : n = 15 := ht
    rfl
  rw [e]
  exact acc_eq m c hA hW hP j b 15 _

include hA hW hP in
/-- The filter's gradient, as the program returns it: the first three rows. -/
theorem sliced : Pipeline.afterTail₀ cfgs (dats m) 0 (V0 m) [hostOps1] c main_v2 = fun i => gradW A P (i 0) (i 1) := by
  unfold Pipeline.afterTail₀
  show StableHlo.after hostOps1 _ (Proc.tc.devRef main_v2) = _
  after_results
  rw [Pipeline.withArrays_arr_shared spec0 c _ _ (Pipeline.Dat.arrAt_sharedIn (dats m 0 c) (by decide) (V0 m c) (A_eq m c) _) 7]
  funext i; idx_vars i
  refine Eq.trans ?_ (final7 m c hA hW hP i0 i1)
  pointwise

end Cert.Proof.Sconv

end
-- ==== Proof.SconvRef.lean ====
/- The gradient of the short gated convolution: what the reference computes. -/
module

public import proofs.«01_k».proof.Proof.SconvMath
public import proofs.«01_k».proof.Proof.Gen.SconvRefIdeal.Read

@[expose] public section

set_option maxRecDepth 16384
set_option maxHeartbeats 1000000

noncomputable section

namespace Cert.Proof.SconvR

open Cert.SconvRefIdeal Cert.SconvRefIdeal.Read Cert.Proof.Sconv
open Idealize.ShloMosaic TcCoe

variable {A0 : FVec Ideal S4096x3072 .f32} {A1 : FVec Ideal S3x1024 .f32} {A2 : FVec Ideal S4096x1024 .f32}
  {A : Fin 4096 → Fin 3072 → EReal} {W : Fin 3 → Fin 1024 → EReal} {P : Fin 4096 → Fin 1024 → EReal}
  (hA : ∀ a b, A0 (ix2 a b) = A a b) (hW : ∀ a b, A1 (ix2 a b) = W a b) (hP : ∀ a b, A2 (ix2 a b) = P a b)

include hA in
theorem part0 (a : Fin 4096) (b : Fin 1024) : val_main_v0 (F := Ideal) A0 (ix2 a b) = A a (colB b) := by
  rw [← hA]; pointwise [val_main_v0, colB]
include hA in
theorem part1 (a : Fin 4096) (b : Fin 1024) : val_main_v1 (F := Ideal) A0 (ix2 a b) = A a (colC b) := by
  rw [← hA]; pointwise [val_main_v1, colC]
include hA in
theorem part2 (a : Fin 4096) (b : Fin 1024) : val_main_v2 (F := Ideal) A0 (ix2 a b) = A a (colV b) := by
  rw [← hA]; pointwise [val_main_v2, colV]

include hA in
/-- The convolution's input with its two rows of zeros. -/
theorem input (a : Fin 4098) (b : Fin 1024) : val_main_v5 (F := Ideal) A0 (ix2 a b) = past A a.val b := by
  have ha := a.isLt
  unfold past
  by_cases h : 2 ≤ a.val
  · rw [dif_pos ⟨h, by omega⟩]
    pointwise [val_main_v5, val_main_v3, val_main_v4, val_main_cst, part1 hA, part2 hA, h]
    exact dif_neg (by omega)
  · rw [dif_neg (fun e => h e.1)]
    pointwise [val_main_v5, val_main_v3, val_main_v4, val_main_cst, part1 hA, part2 hA, h]
    exact dif_pos (by omega)

include hA in
theorem shift0 (a : Fin 4096) (b : Fin 1024) : val_main_v9 (F := Ideal) A0 (ix2 a b) = past A a.val b := by
  refine Eq.trans ?_ (input hA ⟨a.val, by omega⟩ b); pointwise [val_main_v9]
include hA in
theorem shift1 (a : Fin 4096) (b : Fin 1024) : val_main_v17 (F := Ideal) A0 (ix2 a b) = past A (a.val + 1) b := by
  refine Eq.trans ?_ (input hA ⟨a.val + 1, by omega⟩ b); pointwise [val_main_v17]
  exact congrArg (fun z : Fin 4098 => val_main_v5 (F := Ideal) A0 (ix2 z b)) (Fin.ext (Nat.add_comm 1 a.val))
include hA in
theorem shift2 (a : Fin 4096) (b : Fin 1024) : val_main_v24 (F := Ideal) A0 (ix2 a b) = past A (a.val + 2) b := by
  refine Eq.trans ?_ (input hA ⟨a.val + 2, by omega⟩ b); pointwise [val_main_v24]
  exact congrArg (fun z : Fin 4098 => val_main_v5 (F := Ideal) A0 (ix2 z b)) (Fin.ext (Nat.add_comm 2 a.val))

include hA hW in
theorem conv_eq (a : Fin 4096) (b : Fin 1024) : val_main_v28 (F := Ideal) A0 A1 (ix2 a b) = conv A W a.val b := by
  pointwise [val_main_v28, val_main_v21, val_main_v14, val_main_v13, val_main_cst_1, val_main_v12, val_main_v20, val_main_v27,
    val_main_v11, val_main_v10, val_main_v8, val_main_v7, val_main_v19, val_main_v18, val_main_v16, val_main_v15,
    val_main_v26, val_main_v25, val_main_v23, val_main_v22, shift0 hA, shift1 hA, shift2 hA, hW]
  rfl

include hA hP in
theorem gated (a : Fin 4096) (b : Fin 1024) : val_main_v30 (F := Ideal) A0 A2 (ix2 a b) = next A P a.val b := by
  pointwise [val_main_v30, part0 hA, hP]
  rw [next, dif_pos a.isLt]; exact mul_comm _ _

include hA hW hP in
theorem back_eq (a : Fin 4096) (b : Fin 1024) : val_main_v64 (F := Ideal) A0 A1 A2 (ix2 a b) = back A W P a.val b := by
  have ha := a.isLt
  pointwise [val_main_v64, val_main_v59, val_main_v48, val_main_v38, val_main_v47, val_main_v58, val_main_v33, val_main_v42, val_main_v53,
    val_main_v32, val_main_v41, val_main_v52, val_main_v10, val_main_v8, val_main_v7, val_main_v18, val_main_v16, val_main_v15,
    val_main_v25, val_main_v23, val_main_v22, val_main_cst_4, val_main_cst_8, val_main_cst_12, gated hA hP, hW]
  have e1 : (if h : 1 ≤ 2 + a.val ∧ 2 + a.val - 1 < 4096 then W 1 b * next A P (2 + a.val - 1) b else 0) = W 1 b * next A P (a.val + 1) b := by
    rw [show 2 + a.val - 1 = a.val + 1 by omega]
    by_cases h : a.val + 1 < 4096
    · exact dif_pos ⟨by omega, h⟩
    · rw [dif_neg (fun e => h e.2), next, dif_neg h, mul_zero]
  have e2 : (if h : 2 + a.val < 4096 then W 0 b * next A P (2 + a.val) b else 0) = W 0 b * next A P (a.val + 2) b := by
    rw [Nat.add_comm 2]
    by_cases h : a.val + 2 < 4096
    · exact dif_pos h
    · rw [dif_neg h, next, dif_neg h, mul_zero]
  rw [e1, e2, back]
  ac_rfl

include hA hW hP in
/-- The reference's gradient of the gated convolution's input. -/
theorem resultA : val_main_v68 (F := Ideal) A0 A1 A2 = fun i => gradA A W P (i 0) (i 1) := by
  funext i; idx_vars i
  show _ = gradA A W P i0 i1
  obtain ⟨b, rfl⟩ | ⟨b, rfl⟩ | ⟨b, rfl⟩ := col_cases i1
  · rw [gradA_B]
    pointwise [val_main_v68, val_main_v67, val_main_v31, hP, conv_eq hA hW, colB]
  · rw [gradA_C]
    pointwise [val_main_v68, val_main_v67, val_main_v66, part2 hA, back_eq hA hW hP, colC]
  · rw [gradA_V]
    pointwise [val_main_v68, val_main_v67, val_main_v65, part1 hA, back_eq hA hW hP, colV]
    have e : (⟨2048 + b.val - 1024 - 1024, by omega⟩ : Fin 1024) = b := Fin.ext (by show 2048 + b.val - 1024 - 1024 = b.val; omega)
    refine (dif_neg (by omega)).trans ((dif_neg (by omega)).trans ?_)
    rw [e]; exact mul_comm _ _

include hA hP in
/-- The reference's gradient of the filter. -/
theorem resultW (j : Fin 3) (b : Fin 1024) : val_main_v62 (F := Ideal) A0 A2 (ix2 j b) = gradW A P j b := by
  unfold gradW term
  rw [Finset.sum_range]
  fin_cases j
  all_goals
    pointwise [val_main_v62, val_main_v51, val_main_v40, val_main_v50, val_main_v61, val_main_v39, val_main_v49, val_main_v60,
      val_main_v37, val_main_v46, val_main_v57, val_main_v36, val_main_v45, val_main_v56, val_main_v35, val_main_v44, val_main_v55,
      val_main_v34, val_main_v43, val_main_v54, val_main_cst_2, val_main_cst_3, val_main_cst_5, val_main_cst_6, val_main_cst_7, val_main_cst_9,
      val_main_cst_10, val_main_cst_11, val_main_cst_13, gated hA hP, shift0 hA, shift1 hA, shift2 hA]
    rw [Finset.univ_unique, Finset.sum_singleton]

end Cert.Proof.SconvR

end
-- ==== Proof.SconvClaim.lean ====
/- The gradient of the short gated convolution: what the kernel leaves is what the reference computes. -/
module

public import proofs.«01_k».proof.Defs
public import proofs.«01_k».proof.Proof.SconvFinal
public import proofs.«01_k».proof.Proof.SconvRef

@[expose] public section

set_option maxRecDepth 16384
set_option maxHeartbeats 1000000

noncomputable section

namespace Cert.Proof

open Idealize.ShloMosaic TcCoe Idealize.SL.Sem

/-- The gradients of the convolution's three inputs and of its filter: the kernel's are the reference's. -/
theorem algebraic_sconv : Cert.algebraic_SconvIdeal_SconvRefIdeal := by
  pair_intro
  · run_from Sconv.run_main m g
    exact Cert.SconvIdeal.Gen.W_main_arg0 m _ c
  · run_from Cert.SconvRefIdeal.Value.run m' g'
    · refine (Cert.SconvRefIdeal.Read.val_main_v68_eq m' c).trans ?_
      rw [(hagree c).1, (hagree c).2.1, (hagree c).2.2, SconvR.resultA (fun _ _ => rfl) (fun _ _ => rfl) (fun _ _ => rfl)]
      exact (Sconv.final6 m c (fun _ _ => rfl) (fun _ _ => rfl) (fun _ _ => rfl)).symm
    · refine (Cert.SconvRefIdeal.Read.val_main_v62_eq _ _).trans ?_
      rw [Sconv.sliced m c (fun _ _ => rfl) (fun _ _ => rfl) (fun _ _ => rfl)]
      funext i; idx_vars i
      exact SconvR.resultW (fun _ _ => rfl) (fun _ _ => rfl) i0 i1

end Cert.Proof

end
-- ==== Proof.SconvBits.lean ====
/- The gradient of the short gated convolution: the frame of the program as it runs. -/
module

public import proofs.«01_k».proof.Defs
public import proofs.«01_k».proof.Proof.SconvFrame
public import proofs.«01_k».proof.Proof.Gen.Sconv.Skeleton

@[expose] public section

set_option maxRecDepth 16384
set_option maxHeartbeats 1000000

namespace Cert.Proof.Sconv

open Idealize.ShloMosaic TcCoe Idealize.SL.Sem

/-- The two printed bodies are one. -/
theorem defs_eq : @Cert.Sconv.defs Bits _ _ = @Cert.SconvIdeal.defs Bits _ _ := by sl_kernel_rfl

theorem frame_bits : Cert.quiescent_Sconv := fun m ρ _ => by
  rw [defs_eq]
  exact frame_ideal (F := Bits) m ρ

end Cert.Proof.Sconv
-- ==== Proof.UpRun.lean ====
module

public import proofs.«01_k».proof.Proof.Gen.UpIdeal.Frame
public import proofs.«01_k».proof.Proof.Gen.UpIdeal.Skeleton
public import Idealize.ShloMosaic.Lib.VecWindow
public import Idealize.ShloMosaic.Lib.Pointwise

/-! The feed-forward block's forward call: one run of its body. -/

@[expose] public section

set_option maxRecDepth 16384
set_option maxHeartbeats 1000000

noncomputable section

namespace Cert.Proof.Up

open Cert.UpIdeal Cert.UpIdeal.Gen
open Idealize.ShloMosaic TcCoe Idealize.ShloMosaic.Tactic
open Idealize.SL RA BI BIBase Laws ProofMode Sem

variable {F : FTy → Type} [FloatOps F]

local notation "𝕄" => MT nD τ sig Unit (Elt F) ℕ (UR sig nD τ) ℕ

/-- The normed rows are written where the first coordinate is zero. -/
theorem cond_iff : ∀ t : Fin cfg0.N, k0_cond1 (grid0.coords t) = 1#1 ↔ t.val < 8 := by
  decide +kernel

/-! Loads of whole blocks. -/

theorem load_h (a : Memref sig .tc .vmem S512x1024 .f32) (f : BufTy.Contents (Elt F) a.view.ty) :
    View.readAt (Elt F) a.view (Rect.unit (s := S512x1024) ![0, 0] ![512, 1024] inb_S512x1024_S512x1024_0_0).toLoadRect f = View.read (Elt F) a.view f :=
  View.readAt_full _ _ _
theorem load_gain (a : Memref sig .tc .vmem S1x1024 .f32) (f : BufTy.Contents (Elt F) a.view.ty) :
    View.readAt (Elt F) a.view (Rect.unit (s := S1x1024) ![0, 0] ![1, 1024] inb_S1x1024_S1x1024_0_0).toLoadRect f = View.read (Elt F) a.view f :=
  View.readAt_full _ _ _
theorem load_w (a : Memref sig .tc .vmem S1x1024x1408 .bf16) (f : BufTy.Contents (Elt F) a.view.ty) :
    View.readAt (Elt F) a.view (Rect.unit (s := S1x1024x1408) ![0, 0, 0] ![1, 1024, 1408] inb_S1x1024x1408_S1x1024x1408_0_0_0).toLoadRect f
      = View.read (Elt F) a.view f :=
  View.readAt_full _ _ _

section Body

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1x1024x1408 .bf16) (harg4 : arg4.IsWhole)
  (arg5 : Memref sig .tc .vmem S1x1024x1408 .bf16) (harg5 : arg5.IsWhole) (arg6 : Memref sig .tc .vmem S512x1024 .bf16) (harg6 : arg6.IsWhole)
  (arg7 : Memref sig .tc .vmem S512x1408 .bf16) (harg7 : arg7.IsWhole) (arg8 : Memref sig .tc .vmem S512x1408 .bf16) (harg8 : arg8.IsWhole)
  (arg9 : Memref sig .tc .vmem S512x1408 .bf16) (harg9 : arg9.IsWhole)
  (X2 : Vec F S512x1024 .f32) (X3 : Vec F S1x1024 .f32) (X4 X5 : Vec F S1x1024x1408 .bf16) (X6 : Vec F S512x1024 .bf16)

/-- What the body leaves in the block of normed rows, -/
def outU : Vec F S512x1024 .bf16 := if k0_cond1 i = 1#1 then k0_pay2 X2 X3 else X6
/-- and in the block of the third saved factor. -/
def outQ : Vec F S512x1408 .bf16 :=
  k0_pay1 (k0_pay3 X2 X3 X4) (k0_pay5 X2 X3 X4) (k0_pay9 X2 X3 X4 X5) (Scalar.ofBits .f32 0x3F800000#32)

theorem body_run (E : Set ℕ) (K : PUnit → sProp 𝕄) :
    iprop(owns (c : Thread nD τ) arg2 fullShare X2 ∗ owns (c : Thread nD τ) arg3 fullShare X3
      ∗ owns (c : Thread nD τ) arg4 fullShare X4 ∗ owns (c : Thread nD τ) arg5 fullShare X5 ∗ owns (c : Thread nD τ) arg6 fullShare X6
      ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare X2 ∗ owns (c : Thread nD τ) arg3 fullShare X3
          ∗ owns (c : Thread nD τ) arg4 fullShare X4 ∗ owns (c : Thread nD τ) arg5 fullShare X5
          ∗ owns (c : Thread nD τ) arg6 fullShare (outU i X2 X3 X6) ∗ owns (c : Thread nD τ) arg7 fullShare (k0_pay7 X2 X3 X4 X5)
          ∗ owns (c : Thread nD τ) arg8 fullShare (k0_pay8 X2 X3 X4) ∗ owns (c : Thread nD τ) arg9 fullShare (outQ X2 X3 X4 X5)) -∗ K ⟨⟩))
    ⊢ wp frame (wpE (defs₀ (F := F)) Variants.none c none) E (cc0_ffn_up (F := F) i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  by_cases hc : k0_cond1 i = 1#1
  all_goals
    unfold outU
    first
    | rw [if_pos hc]
    | rw [if_neg hc]
    sl_exec (disch := first | sl_exact hc)
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _
      isplitr
      rotate_left
      · iexact H6
      · ipureintro
        first
        | rfl
        | (refine (View.read_writes_full (Val := Elt F) _ _ _ _ _).trans ?_; simp only [load_h, load_gain, load_w])
    isplitl [H7]
    · iexists _
      isplitr
      rotate_left
      · iexact H7
      · ipureintro
        (refine (View.read_writes_full (Val := Elt F) _ _ _ _ _).trans ?_; simp only [load_h, load_gain, load_w])
    isplitl [H8]
    · iexists _
      isplitr
      rotate_left
      · iexact H8
      · ipureintro
        (refine (View.read_writes_full (Val := Elt F) _ _ _ _ _).trans ?_; simp only [load_h, load_gain, load_w])
    iexists _
    isplitr
    rotate_left
    · iexact H9
    · ipureintro
      refine (View.read_writes_full (Val := Elt F) _ _ _ _ _).trans ?_
      first
      | unfold body_run.sl.r body_run.sl.r_1 body_run.sl.r_2 body_run.sl.cst_18
      | unfold body_run.sl.r_3 body_run.sl.r_4 body_run.sl.r_5 body_run.sl.cst_18_1
      simp only [load_h, load_gain, load_w]
      rfl

end Body

end Cert.Proof.Up

end
-- ==== Proof.UpFrame.lean ====
module

public import proofs.«01_k».proof.Proof.UpRun
public import Idealize.ShloMosaic.Lib.Pipeline.TableIdle
public import Idealize.ShloMosaic.Lib.Claim

/-! The feed-forward block's forward call: what its output blocks hold point by point, and the whole run. The block of
normed rows is written at the first eight points; the last of them stands until the end and is written back there. -/

@[expose] public section

set_option maxRecDepth 16384
set_option maxHeartbeats 800000

noncomputable section

namespace Cert.Proof.Up

open Cert.UpIdeal Cert.UpIdeal.Gen
open Idealize.ShloMosaic TcCoe Idealize.ShloMosaic.Tactic
open Idealize.SL RA BI BIBase Laws ProofMode Sem
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose normed rows stand after point `n`. -/
def stands (n : ℕ) : Fin cfg0.N := ⟨min n 7, lt_of_le_of_lt (Nat.min_le_right _ _) (by rw [show cfg0.N = 16 from N_0]; decide)⟩

/-- The normed rows standing after point `n`. -/
def blockU (c : Dev nD) (n : ℕ) : Vec F S512x1024 .bf16 := k0_pay2 (iblk m c 0 (stands n)) (iblk m c 1 (stands n))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockU m c t.val
    | ⟨5, _⟩ => k0_pay7 (iblk m c 0 t) (iblk m c 1 t) (iblk m c 2 t) (iblk m c 3 t)
    | ⟨6, _⟩ => k0_pay8 (iblk m c 0 t) (iblk m c 1 t) (iblk m c 2 t)
    | ⟨7, _⟩ => outQ (iblk m c 0 t) (iblk m c 1 t) (iblk m c 2 t) (iblk m c 3 t)
  Φ _ := Pipeline.ΦA spec0 c
  q w := Pipeline.shareOf spec0 w
  owed _ := 0

variable (c : Dev nD) (t : Fin cfg0.N)

theorem A_eq (c : Dev nD) (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = blockU m c t.val := by dsimp only [dats]
theorem after0_5 :
    (dats m 0 c).after 5 t = k0_pay7 (iblk m c 0 t) (iblk m c 1 t) (iblk m c 2 t) (iblk m c 3 t) := by dsimp only [dats]
theorem after0_6 :
    (dats m 0 c).after 6 t = k0_pay8 (iblk m c 0 t) (iblk m c 1 t) (iblk m c 2 t) := by dsimp only [dats]
theorem after0_7 :
    (dats m 0 c).after 7 t = outQ (iblk m c 0 t) (iblk m c 1 t) (iblk m c 2 t) (iblk m c 3 t) := by dsimp only [dats]

theorem before0_0 (d) : (dats m 0 c).before 0 t d = iblk m c 0 t := before0_0_of m _ (A_eq m c 0) (after0_0 m c) t d
theorem before0_1 (d) : (dats m 0 c).before 1 t d = iblk m c 1 t := before0_1_of m _ (A_eq m c 1) (after0_1 m c) t d
theorem before0_2 (d) : (dats m 0 c).before 2 t d = iblk m c 2 t := before0_2_of m _ (A_eq m c 2) (after0_2 m c) t d
theorem before0_3 (d) : (dats m 0 c).before 3 t d = iblk m c 3 t := before0_3_of m _ (A_eq m c 3) (after0_3 m c) t d

/-- Only the normed rows are left alone, at the last eight points, and written back at the last. -/
theorem live (w : Fin cfg0.W) (t : Fin cfg0.N) (h : w ≠ 4 ∨ t.val < 8) : cfg0.idle w (grid0.coords t) = false := by
  revert w t; decide +kernel
theorem rests : ∀ t : Fin cfg0.N, ¬ t.val < 8 → cfg0.idle 4 (grid0.coords t) = true := by decide +kernel
theorem flushes : ∀ t : Fin cfg0.N, ¬ t.val < 8 → (cfg0.win 4).flush t = decide (t.val = 15) := by decide +kernel

def freshTab : ℕ → Bool
  | 0 => true
  | n + 1 => (0x807F : ℕ).testBit n
theorem freshTab_step : ∀ t : Fin cfg0.N,
    freshTab (t.val + 1) = ((cfg0.win 4).flush t || (cfg0.idle 4 (cfg0.grid.coords t) && freshTab t.val)) := by decide +kernel
theorem fresh_eq (t : Fin cfg0.N) : cfg0.fresh 4 t.val = freshTab t.val :=
  Pipeline.Cfg.fresh_tab cfg0 4 freshTab rfl freshTab_step t.val (Nat.le_of_lt t.isLt)
theorem notFresh (t : Fin cfg0.N) : ¬ t.val < 8 → cfg0.fresh 4 t.val = false := by
  rw [fresh_eq t]; revert t; decide +kernel

theorem before0_4 (h : ¬ t.val < 8) (d) : (dats m 0 c).before 4 t d = blockU m c t.val := by
  rw [Dat.before_out_traj _ 4 rfl (fun _ _ => rfl) (fun t h0 hi _ => ?_) t.val t rfl d,
    if_neg (by rw [notFresh t h]; exact Bool.false_ne_true)]
  · dsimp only [dats, blockU]
    rw [show stands (t.val - 1) = stands t.val from Fin.ext (show min (t.val - 1) 7 = min t.val 7 by omega)]
  · by_cases h : t.val < 8
    · rw [live 4 t (.inr h)] at hi; exact absurd hi Bool.false_ne_true
    · dsimp only [dats, blockU]
      rw [show stands (t.val - 1) = stands t.val from Fin.ext (show min (t.val - 1) 7 = min t.val 7 by omega)]

/-- The body's step from what it finds to what the run says it leaves. -/
theorem step_eq (c : Dev nD) (t : Fin cfg0.N) (d) :
    outU (grid0.coords t) (iblk m c 0 t) (iblk m c 1 t) ((dats m 0 c).before 4 t d) = blockU m c t.val := by
  unfold outU
  by_cases h : t.val < 8
  · rw [if_pos ((cond_iff t).mpr h), blockU, show stands t.val = t from Fin.ext (show min t.val 7 = t.val by omega)]
  · rw [if_neg fun h' => h ((cond_iff t).mp h'), before0_4 m c t h]

/-! ## The body obligation -/

abbrev slot (t : Fin cfg0.N) (w : Fin cfg0.W) := (cfg0.win w).stage (cfg0.slots t w)
/-- What window `w` holds when point `t` begins. -/
def found (c : Dev nD) (t : Fin cfg0.N) (w : Fin cfg0.W) : sProp 𝕄 :=
  iprop(∃ d, owns (c : Thread nD τ) (slot t w) fullShare ((dats m 0 c).before w t d))

def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7)

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves (c : Dev nD) (w : Fin cfg0.W) (t : Fin cfg0.N) (h : w ≠ 4 ∨ t.val < 8) :
    (dats m 0 c).leavesExact w t = owns (c : Thread nD τ) (slot t w) fullShare ((dats m 0 c).after w t) := by
  unfold Dat.leavesExact; rw [live w t h]

/-- The standing rows are what the point has to leave, written there or not. -/
theorem leaves4 (c : Dev nD) (t : Fin cfg0.N) :
    owns (c : Thread nD τ) (slot t 4) fullShare (blockU m c t.val) ⊢ (dats m 0 c).leavesExact 4 t := by
  by_cases h : t.val < 8
  · rw [leaves m c 4 t (.inr h), after0_4]
  · unfold Dat.leavesExact
    rw [rests t h, flushes t h]
    by_cases h' : t.val = 15
    · rw [decide_eq_true h', after0_4]
    · rw [decide_eq_false h']
      iintro H
      iexists (blockU m c t.val)
      rw [before0_4 m c t h]
      iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 found
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves m c 0 t (.inl (by decide)), after0_0,
    leaves m c 1 t (.inl (by decide)), after0_1,
    leaves m c 2 t (.inl (by decide)), after0_2,
    leaves m c 3 t (.inl (by decide)), after0_3,
    leaves m c 5 t (.inl (by decide)), after0_5,
    leaves m c 6 t (.inl (by decide)), after0_6,
    leaves m c 7 t (.inl (by decide)), after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m c 0 t) (iblk m c 1 t) (iblk m c 2 t) (iblk m c 3 t) ((dats m 0 c).before 4 t d4) Set.univ _)
  rw [step_eq m c t d4]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (leaves4 m c t); iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments as they were and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Up

end
-- ==== Proof.UpVal.lean ====
/- The feed-forward block's forward call: what the kernel's blocks hold at finite arguments, and its four results, whole. -/
module

public import proofs.«01_k».proof.Proof.Reals
public import proofs.«01_k».proof.Proof.UpFrame
public import proofs.«01_k».proof.Proof.Gen.UpRefIdeal.Read

@[expose] public section

set_option maxRecDepth 16384

noncomputable section

namespace Cert.Proof.Up

open Cert.UpIdeal Cert.UpIdeal.Gen Cert.Reals
open Idealize.ShloMosaic TcCoe Idealize.SL.Sem
open Pipeline (Dat)

/-! ## The block over the reals -/

/-- The normed row. -/
def un (x g : Fin 1024 → ℝ) (l : Fin 1024) : ℝ := x l * rs x * g l
/-- A column of the first product. -/
def pre (x g : Fin 1024 → ℝ) (w : Fin 1024 → ℝ) : ℝ := ∑ l, un x g l * w l

/-- Column `k` of the `j`-th half of the gate's columns. -/
def half (j : Fin 2) (k : Fin 1408) : Fin 2816 := ⟨j.val * 1408 + k.val, by omega⟩

section pay

variable {B0 : FVec Ideal S512x1024 .f32} {B1 : FVec Ideal S1x1024 .f32} {B2 B3 : FVec Ideal S1x1024x1408 .bf16}
  {x : Fin 512 → Fin 1024 → ℝ} {g : Fin 1024 → ℝ} {v w : Fin 1024 → Fin 1408 → ℝ}
  (h0 : ∀ r k, B0 (ix2 r k) = (x r k : EReal)) (h1 : ∀ k, B1 (ix2 0 k) = (g k : EReal))
  (h2 : ∀ l k, B2 (ix3 0 l k) = (v l k : EReal)) (h3 : ∀ l k, B3 (ix3 0 l k) = (w l k : EReal))

include h0 h1 in
theorem pay2 (r : Fin 512) (l : Fin 1024) : k0_pay2 (F := Ideal) B0 B1 (ix2 r l) = (un (x r) g l : EReal) := by
  pointwise [k0_pay2, h0, h1]
  simp only [lit_1024, lit_eps6, ← EReal.coe_mul, ← EReal.coe_add, sum_coe, div_1024, rs_coe, un]

include h0 h1 h2 in
theorem pay3 (r : Fin 512) (k : Fin 1408) :
    k0_pay3 (F := Ideal) B0 B1 B2 (ix2 r k) = (pre (x r) g (fun l => v l k) : EReal) := by
  pointwise [k0_pay3, pay2 h0 h1, h2]
  simp only [← EReal.coe_mul, sum_coe, pre]

include h0 h1 h3 in
theorem pay4 (r : Fin 512) (k : Fin 1408) :
    k0_pay4 (F := Ideal) B0 B1 B3 (ix2 r k) = (pre (x r) g (fun l => w l k) : EReal) := by
  pointwise [k0_pay4, pay2 h0 h1, h3]
  simp only [← EReal.coe_mul, sum_coe, pre]

include h0 h1 h2 in
theorem pay5 (r : Fin 512) (k : Fin 1408) :
    k0_pay5 (F := Ideal) B0 B1 B2 (ix2 r k) = (sg (pre (x r) g (fun l => v l k)) : EReal) := by
  pointwise [k0_pay5, pay3 h0 h1 h2]
  exact logistic_coe' _

include h0 h1 h2 in
theorem pay8 (r : Fin 512) (k : Fin 1408) :
    k0_pay8 (F := Ideal) B0 B1 B2 (ix2 r k) = (silu (pre (x r) g (fun l => v l k)) : EReal) := by
  pointwise [k0_pay8, k0_pay6, pay3 h0 h1 h2, pay5 h0 h1 h2]
  simp only [← EReal.coe_mul, silu]

include h0 h1 h2 h3 in
theorem pay7 (r : Fin 512) (k : Fin 1408) :
    k0_pay7 (F := Ideal) B0 B1 B2 B3 (ix2 r k)
      = ((silu (pre (x r) g (fun l => v l k)) * pre (x r) g (fun l => w l k) : ℝ) : EReal) := by
  pointwise [k0_pay7, k0_pay6, pay3 h0 h1 h2, pay5 h0 h1 h2, pay4 h0 h1 h3]
  simp only [← EReal.coe_mul, silu]

include h0 h1 h2 h3 in
theorem payQ (r : Fin 512) (k : Fin 1408) :
    outQ (F := Ideal) B0 B1 B2 B3 (ix2 r k)
      = ((pre (x r) g (fun l => w l k) * dsilu (pre (x r) g (fun l => v l k)) : ℝ) : EReal) := by
  pointwise [outQ, k0_pay1, k0_pay9, pay3 h0 h1 h2, pay5 h0 h1 h2, pay4 h0 h1 h3]
  rw [← EReal.coe_one]
  simp only [← EReal.coe_mul, ← EReal.coe_add, ← EReal.coe_sub, dsilu, mul_assoc]

end pay

/-! ## The blocks -/

theorem idx : ∀ t : Fin cfg0.N, win0_0.index t = ![t.val % 8, 0] ∧ win0_1.index t = ![0, 0] ∧ win0_2.index t = ![t.val / 8, 0, 0]
    ∧ win0_3.index t = ![t.val / 8 + 2, 0, 0] ∧ win0_4.index t = ![min t.val 7, 0] ∧ win0_5.index t = ![t.val % 8, t.val / 8]
    ∧ win0_6.index t = ![t.val % 8, t.val / 8] ∧ win0_7.index t = ![t.val % 8, t.val / 8] :=
  (by decide +kernel : ∀ t : Fin grid0.N, _)

/-- Row `r` of the rows of point `t`. -/
def row (t : Fin cfg0.N) (r : Fin 512) : Fin 4096 := ⟨t.val % 8 * 512 + r.val, by omega⟩
/-- Which half of the gate's columns point `t` has. -/
def side (t : Fin cfg0.N) : Fin 2 := ⟨t.val / 8, by have := lt_of_lt_of_eq t.isLt N_0; omega⟩

section run

variable (m : (ℓ : Loc nD τ sig) → Buf (Elt Ideal) ℓ) (c : Dev nD)
variable {X : Fin 4096 → Fin 1024 → ℝ} {G : Fin 1024 → ℝ} {W : Fin 1024 → Fin 5632 → ℝ}
  (hX : ∀ a b, m ((c : Thread nD τ).loc main_arg0) (ix2 a b) = (X a b : EReal))
  (hG : ∀ b, m ((c : Thread nD τ).loc main_arg1) (ix1 b) = (G b : EReal))
  (hW : ∀ a b, m ((c : Thread nD τ).loc main_arg2) (ix2 a b) = (W a b : EReal))

include hX in
theorem blk0 (t : Fin cfg0.N) (r : Fin 512) (k : Fin 1024) : iblk m c 0 t (ix2 r k) = (X (row t r) k : EReal) := by
  rw [← hX]; blk_ext [iblk, V, idx t, row]

include hG in
theorem blk1 (t : Fin cfg0.N) (k : Fin 1024) : iblk m c 1 t (ix2 0 k) = (G k : EReal) := by
  rw [← hG]; blk_point [iblk, V, idx t]

include hW in
theorem blk2 (t : Fin cfg0.N) (l : Fin 1024) (k : Fin 1408) :
    iblk m c 2 t (ix3 0 l k) = (W l (lo (half (side t) k)) : EReal) := by
  rw [← hW]; blk_point [iblk, V, idx t, lo, half, side]

include hW in
theorem blk3 (t : Fin cfg0.N) (l : Fin 1024) (k : Fin 1408) :
    iblk m c 3 t (ix3 0 l k) = (W l (hi (half (side t) k)) : EReal) := by
  rw [← hW]; blk_point [iblk, V, idx t, hi, half, side]

include hX hG in
/-- The normed rows, whole. -/
theorem final4 : (dats m 0 c).arrAt 4 (cfgs 0).N = real2 fun a b => un (X a) G b := by
  refine (dats m 0 c).arrAt_eq_of_covers 4 _ (by decide +kernel) fun t hf y => ?_
  blk_simp
  rw [after0_4, show (win0_4.blk t).view.emb y = ix2 (row (stands t.val) (y 0)) (y 1) by blk_ext [idx t, row, stands]]
  exact (congrArg _ (eq_ix2 y)).trans (pay2 (blk0 m c hX _) (blk1 m c hG _) (y 0) (y 1))

include hX hG hW in
/-- The gated rows, whole, -/
theorem final5 : (dats m 0 c).arrAt 5 (cfgs 0).N
    = real2 fun a b => silu (pre (X a) G fun l => W l (lo b)) * pre (X a) G fun l => W l (hi b) := by
  refine (dats m 0 c).arrAt_eq_of_covers 5 _ (by decide +kernel) fun t hf y => ?_
  blk_simp
  rw [after0_5, show (win0_5.blk t).view.emb y = ix2 (row t (y 0)) (half (side t) (y 1)) by blk_ext [idx t, row, half, side]]
  exact (congrArg _ (eq_ix2 y)).trans (pay7 (blk0 m c hX t) (blk1 m c hG t) (blk2 m c hW t) (blk3 m c hW t) (y 0) (y 1))

include hX hG hW in
/-- the gate's own factor, -/
theorem final6 : (dats m 0 c).arrAt 6 (cfgs 0).N = real2 fun a b => silu (pre (X a) G fun l => W l (lo b)) := by
  refine (dats m 0 c).arrAt_eq_of_covers 6 _ (by decide +kernel) fun t hf y => ?_
  blk_simp
  rw [after0_6, show (win0_6.blk t).view.emb y = ix2 (row t (y 0)) (half (side t) (y 1)) by blk_ext [idx t, row, half, side]]
  exact (congrArg _ (eq_ix2 y)).trans (pay8 (blk0 m c hX t) (blk1 m c hG t) (blk2 m c hW t) (y 0) (y 1))

include hX hG hW in
/-- and the gate's derivative times what it gates. -/
theorem final7 : (dats m 0 c).arrAt 7 (cfgs 0).N
    = real2 fun a b => pre (X a) G (fun l => W l (hi b)) * dsilu (pre (X a) G fun l => W l (lo b)) := by
  refine (dats m 0 c).arrAt_eq_of_covers 7 _ (by decide +kernel) fun t hf y => ?_
  blk_simp
  rw [after0_7, show (win0_7.blk t).view.emb y = ix2 (row t (y 0)) (half (side t) (y 1)) by blk_ext [idx t, row, half, side]]
  exact (congrArg _ (eq_ix2 y)).trans (payQ (blk0 m c hX t) (blk1 m c hG t) (blk2 m c hW t) (blk3 m c hW t) (y 0) (y 1))

end run

end Cert.Proof.Up

namespace Cert.UpRefIdeal.Read

open Cert.UpRefIdeal Cert.Reals Cert.Proof.Up
open Idealize.ShloMosaic TcCoe

variable {A0 : FVec Ideal S4096x1024 .f32} {A1 : FVec Ideal S1024 .f32} {A2 : FVec Ideal S1024x5632 .f32}
  {X : Fin 4096 → Fin 1024 → ℝ} {G : Fin 1024 → ℝ} {W : Fin 1024 → Fin 5632 → ℝ}
  (hX : ∀ a b, A0 (ix2 a b) = (X a b : EReal)) (hG : ∀ b, A1 (ix1 b) = (G b : EReal))
  (hW : ∀ a b, A2 (ix2 a b) = (W a b : EReal))

include hX in
theorem root (a : Fin 4096) : val_main_v7 (F := Ideal) A0 (ix2 a 0) = (rs (X a) : EReal) := by
  pointwise [val_main_v7, val_main_v6, val_main_v5, val_main_v4, val_main_v3, val_main_v2, val_main_v1, val_main_v0, val_main_cst,
    val_main_cst_0, val_main_cst_1, hX]
  simp only [lit_1024, lit_eps6, ← EReal.coe_mul, ← EReal.coe_add, sum_coe, div_1024]
  exact rs_coe _

include hX hG in
theorem normed (a : Fin 4096) (b : Fin 1024) : val_main_v12 (F := Ideal) A0 A1 (ix2 a b) = (un (X a) G b : EReal) := by
  pointwise [val_main_v12, val_main_v11, val_main_v10, val_main_v9, val_main_v8, root hX, hX, hG]
  simp only [← EReal.coe_mul, un]

include hX hG hW in
theorem product (a : Fin 4096) (n : Fin 5632) :
    val_main_v13 (F := Ideal) A0 A1 A2 (ix2 a n) = (pre (X a) G (fun l => W l n) : EReal) := by
  pointwise [val_main_v13, normed hX hG, hW]
  simp only [← EReal.coe_mul, sum_coe, pre]

include hX hG hW in
theorem gate (a : Fin 4096) (b : Fin 2816) :
    val_main_v14 (F := Ideal) A0 A1 A2 (ix2 a b) = (pre (X a) G (fun l => W l (lo b)) : EReal) := by
  rw [← product hX hG hW]; pointwise [val_main_v14, lo]

include hX hG hW in
theorem gated (a : Fin 4096) (b : Fin 2816) :
    val_main_v15 (F := Ideal) A0 A1 A2 (ix2 a b) = (pre (X a) G (fun l => W l (hi b)) : EReal) := by
  rw [← product hX hG hW]; pointwise [val_main_v15, hi]

include hX hG hW in
theorem logistic (a : Fin 4096) (b : Fin 2816) :
    val_main_v16_2 (F := Ideal) A0 A1 A2 (ix2 a b) = (sg (pre (X a) G fun l => W l (lo b)) : EReal) := by
  pointwise [val_main_v16_2, val_main_call0_v4, val_main_call0_cst_0, val_main_call0_v3, val_main_call0_v2, val_main_call0_cst,
    val_main_call0_v1, val_main_call0_v0, gate hX hG hW]
  exact sg_coe _

include hX hG in
theorem result0 : val_main_v17 (F := Ideal) A0 A1 = real2 fun a b => un (X a) G b := by
  funext i; idx_vars i
  show _ = (un (X i0) G i1 : EReal)
  pointwise [val_main_v17, normed hX hG]

include hX hG hW in
theorem result2 : val_main_v20 (F := Ideal) A0 A1 A2 = real2 fun a b => silu (pre (X a) G fun l => W l (lo b)) := by
  funext i; idx_vars i
  show _ = (silu (pre (X i0) G fun l => W l (lo i1)) : EReal)
  pointwise [val_main_v20, val_main_v16_0, gate hX hG hW, logistic hX hG hW]
  simp only [← EReal.coe_mul, silu]

include hX hG hW in
theorem result1 : val_main_v19 (F := Ideal) A0 A1 A2
    = real2 fun a b => silu (pre (X a) G fun l => W l (lo b)) * pre (X a) G fun l => W l (hi b) := by
  funext i; idx_vars i
  show _ = ((silu (pre (X i0) G fun l => W l (lo i1)) * pre (X i0) G (fun l => W l (hi i1)) : ℝ) : EReal)
  pointwise [val_main_v19, val_main_v18, val_main_v16_0, gate hX hG hW, gated hX hG hW, logistic hX hG hW]
  simp only [← EReal.coe_mul, silu]

include hX hG hW in
theorem result3 : val_main_v22 (F := Ideal) A0 A1 A2
    = real2 fun a b => pre (X a) G (fun l => W l (hi b)) * dsilu (pre (X a) G fun l => W l (lo b)) := by
  funext i; idx_vars i
  show _ = ((pre (X i0) G (fun l => W l (hi i1)) * dsilu (pre (X i0) G fun l => W l (lo i1)) : ℝ) : EReal)
  pointwise [val_main_v22, val_main_v21, val_main_call1_v2, val_main_call1_v1, val_main_call1_v0, val_main_v16_1, val_main_call0_v7,
    val_main_call0_v6, val_main_call0_cst_1, gate hX hG hW, gated hX hG hW, logistic hX hG hW]
  rw [← EReal.coe_one]
  simp only [← EReal.coe_mul, ← EReal.coe_sub, ← EReal.coe_add, dsilu]
  congr 1; ring

end Cert.UpRefIdeal.Read

end
-- ==== Proof.UpClaim.lean ====
/- The feed-forward block's forward call: what the kernel leaves is what the reference computes. -/
module

public import proofs.«01_k».proof.Defs
public import proofs.«01_k».proof.Proof.UpVal
public import proofs.«01_k».proof.Proof.Gen.Pre_up_finite

@[expose] public section

set_option maxRecDepth 16384
set_option maxHeartbeats 1000000

noncomputable section

namespace Cert.Proof

open Cert.Reals
open Idealize.ShloMosaic TcCoe Idealize.SL.Sem

/-- The normed rows, the gated rows, and what the backward call reads of the gate: the kernel's are the reference's. -/
theorem algebraic_up : Cert.algebraic_UpIdeal_UpRefIdeal_pre_up_finite := by
  pair_intro
  · run_from Up.run_main m g
  · run_from Cert.UpRefIdeal.Value.run m' g'
    all_goals
      have h := hpre c
      choose X hX using fun a b => real_of_lt (by
        have := congrFun h.1 (ix2 a b)
        pointwise [Cert.Pre_up_finite.fn] at this
        exact this)
      choose G hG using fun b => real_of_lt (by
        have := congrFun h.2.1 (ix1 b)
        pointwise [Cert.Pre_up_finite.fn] at this
        exact this)
      choose W hW using fun a b => real_of_lt (by
        have := congrFun h.2.2 (ix2 a b)
        pointwise [Cert.Pre_up_finite.fn] at this
        exact this)
    · refine (Cert.UpRefIdeal.Read.val_main_v17_eq _ _).trans ?_
      rw [Cert.UpRefIdeal.Read.result0 hX hG]
      exact (Up.final4 m c hX hG).symm
    · refine (Cert.UpRefIdeal.Read.val_main_v19_eq _ _ _).trans ?_
      rw [Cert.UpRefIdeal.Read.result1 hX hG hW]
      exact (Up.final5 m c hX hG hW).symm
    · refine (Cert.UpRefIdeal.Read.val_main_v20_eq _ _ _).trans ?_
      rw [Cert.UpRefIdeal.Read.result2 hX hG hW]
      exact (Up.final6 m c hX hG hW).symm
    · refine (Cert.UpRefIdeal.Read.val_main_v22_eq m' c).trans ?_
      rw [(hagree c).1, (hagree c).2.1, (hagree c).2.2, Cert.UpRefIdeal.Read.result3 hX hG hW]
      exact (Up.final7 m c hX hG hW).symm

end Cert.Proof

end
-- ==== Proof.UpBits.lean ====
/- The feed-forward block's forward call: the frame of the program as it runs. -/
module

public import proofs.«01_k».proof.Defs
public import proofs.«01_k».proof.Proof.UpFrame
public import proofs.«01_k».proof.Proof.Gen.Up.Skeleton

@[expose] public section

set_option maxRecDepth 16384
set_option maxHeartbeats 1000000

namespace Cert.Proof.Up

open Idealize.ShloMosaic TcCoe Idealize.SL.Sem

/-- The two printed bodies are one. -/
theorem defs_eq : @Cert.Up.defs Bits _ _ = @Cert.UpIdeal.defs Bits _ _ := by sl_kernel_rfl

theorem frame_bits : Cert.quiescent_Up := fun m ρ _ => by
  rw [defs_eq]
  exact frame_ideal (F := Bits) m ρ

end Cert.Proof.Up
-- ==== Proof.Planes.lean ====
module

public import proofs.«01_k».proof.Proof.Gen.CmidIdeal.Skeleton
public import proofs.«01_k».proof.Proof.Reads

/-! A buffer of eight planes that holds the same rows, each plane shifted by its number, and the sum over a filter's taps read
from it. The convolution module's forward and backward calls both use such buffers. -/

@[expose] public section

set_option maxRecDepth 8192
set_option maxHeartbeats 1000000

noncomputable section

namespace Cert.Proof.Planes

open Cert.CmidIdeal Cert.CmidIdeal.Gen
open Idealize.ShloMosaic TcCoe Idealize.ShloMosaic.Pointwise

variable {F : FTy → Type} [FloatOps F] {sg : RefSig}

/-- `n` rows of plane `p` from row `s` on, at the 512 columns from `c` on. -/
def pl (n : ℕ) (Y : S8x288x1024.Idx → Elt F .f32) (p s c : ℕ) : FVec F ⟨2, ![n, 512]⟩ .f32 := fun x =>
  Y (ix3 ⟨p % 8, Nat.mod_lt _ (by omega)⟩ ⟨(s + (x 0).val) % 288, Nat.mod_lt _ (by omega)⟩ ⟨(c + (x 1).val) % 1024, Nat.mod_lt _ (by omega)⟩)
/-- Row `k` of the filter at the 512 columns from `c` on, over `n` rows. -/
def fl (n : ℕ) (Y : S31x1024.Idx → Elt F .f32) (k c : ℕ) : FVec F ⟨2, ![n, 512]⟩ .f32 := fun x =>
  Y (ix2 ⟨k % 31, Nat.mod_lt _ (by omega)⟩ ⟨(c + (x 1).val) % 1024, Nat.mod_lt _ (by omega)⟩)

/-- A plane's rows without their leading one. -/
theorem sc8 (u : S1x8x512.Idx → Elt F .f32) (a : Fin 8) (b : Fin 512) : shapeCast S8x512 u shapeCasts_S1x8x512_S8x512 (ix2 a b) = u (ix3 0 a b) := by
  pointwise
theorem sc32 (u : S1x32x512.Idx → Elt F .f32) (a : Fin 32) (b : Fin 512) : shapeCast S32x512 u shapeCasts_S1x32x512_S32x512 (ix2 a b) = u (ix3 0 a b) := by
  pointwise

section Loads

variable (v : View sg .tc .vmem S8x288x1024 .f32) (f : v.ty.Contents (Elt F)) (w : View sg .tc .vmem S31x1024 .f32) (g : w.ty.Contents (Elt F))

theorem ld8 {off : Fin 3 → ℕ} {p s c : ℕ} (h : off = ![p, s, c]) (inb : ∀ a, off a + S1x8x512.size a ≤ S8x288x1024.size a) :
    shapeCast S8x512 (v.readAt (Elt F) (Rect.unit (s := S8x288x1024) off S1x8x512.size inb).toLoadRect f) shapeCasts_S1x8x512_S8x512
      = pl 8 (v.read (Elt F) f) p s c := by
  subst h
  funext x
  have h0 : p + 1 ≤ 8 := inb 0
  have h1 : s + 8 ≤ 288 := inb 1
  have h2 : c + 512 ≤ 1024 := inb 2
  have x0 : (x 0).val < 8 := (x 0).isLt
  have x1 : (x 1).val < 512 := (x 1).isLt
  refine (congrArg _ (eq_ix2 x)).trans ((sc8 _ (x 0) (x 1)).trans ?_)
  refine congrArg (v.read (Elt F) f) (funext fun a => Fin.ext ?_)
  fin_cases a
  · show p + 1 * 0 = p % 8; omega
  · show s + 1 * (x 0).val = (s + (x 0).val) % 288; omega
  · show c + 1 * (x 1).val = (c + (x 1).val) % 1024; omega

theorem ld32 {off : Fin 3 → ℕ} {p s c : ℕ} (h : off = ![p, s, c]) (inb : ∀ a, off a + S1x32x512.size a ≤ S8x288x1024.size a) :
    shapeCast S32x512 (v.readAt (Elt F) (Rect.unit (s := S8x288x1024) off S1x32x512.size inb).toLoadRect f) shapeCasts_S1x32x512_S32x512
      = pl 32 (v.read (Elt F) f) p s c := by
  subst h
  funext x
  have h0 : p + 1 ≤ 8 := inb 0
  have h1 : s + 32 ≤ 288 := inb 1
  have h2 : c + 512 ≤ 1024 := inb 2
  have x0 : (x 0).val < 32 := (x 0).isLt
  have x1 : (x 1).val < 512 := (x 1).isLt
  refine (congrArg _ (eq_ix2 x)).trans ((sc32 _ (x 0) (x 1)).trans ?_)
  refine congrArg (v.read (Elt F) f) (funext fun a => Fin.ext ?_)
  fin_cases a
  · show p + 1 * 0 = p % 8; omega
  · show s + 1 * (x 0).val = (s + (x 0).val) % 288; omega
  · show c + 1 * (x 1).val = (c + (x 1).val) % 1024; omega

theorem ldw {off : Fin 2 → ℕ} {k c : ℕ} (h : off = ![k, c]) (inb : ∀ a, off a + S1x512.size a ≤ S31x1024.size a) :
    broadcastTo S32x512 (w.readAt (Elt F) (Rect.unit (s := S31x1024) off S1x512.size inb).toLoadRect g) broadcasts_S1x512_S32x512
      = fl 32 (w.read (Elt F) g) k c := by
  subst h
  funext x
  rw [eq_ix2 x]
  pointwise
  have h0 : k + 1 ≤ 31 := inb 0
  have h2 : c + 512 ≤ 1024 := inb 1
  have x1 : (x 1).val < 512 := (x 1).isLt
  refine congrArg (w.read (Elt F) g) (funext fun a => Fin.ext ?_)
  fin_cases a
  · show k + 1 * 0 = k % 31; omega
  · show c + 1 * (x 1).val = (c + (x 1).val) % 1024; omega

end Loads

/-! ## The sum over the taps -/

/-- The first `n + 1` taps' products of a trip: tap `k` takes the rows `q k` rows on. -/
def conv (q : ℕ → ℕ) (y5 : S31x1024.Idx → Elt F .f32) (y11 : S8x288x1024.Idx → Elt F .f32) (ci ri : ℕ) : ℕ → FVec F S32x512 .f32
  | 0 => mulf (fl 32 y5 0 (512 * ci)) (pl 32 y11 (q 0 % 8) (8 * (q 0 / 8) + 32 * ri) (512 * ci))
  | n + 1 => addf (conv q y5 y11 ci ri n)
      (mulf (fl 32 y5 (n + 1) (512 * ci)) (pl 32 y11 (q (n + 1) % 8) (8 * (q (n + 1) / 8) + 32 * ri) (512 * ci)))

section Conv

variable (q : ℕ → ℕ)
variable (v : View sg .tc .vmem S8x288x1024 .f32) (f : v.ty.Contents (Elt F)) (w : View sg .tc .vmem S31x1024 .f32) (g : w.ty.Contents (Elt F))
  (ci ri : ℕ)

theorem conv_zero {o5 : Fin 2 → ℕ} {o11 : Fin 3 → ℕ} (i5 : ∀ a, o5 a + S1x512.size a ≤ S31x1024.size a) (i11 : ∀ a, o11 a + S1x32x512.size a ≤ S8x288x1024.size a)
    (h5 : o5 = ![0, 512 * ci]) (h11 : o11 = ![q 0 % 8, 8 * (q 0 / 8) + 32 * ri, 512 * ci]) :
    mulf (broadcastTo S32x512 (w.readAt (Elt F) (Rect.unit (s := S31x1024) o5 S1x512.size i5).toLoadRect g) broadcasts_S1x512_S32x512)
        (shapeCast S32x512 (v.readAt (Elt F) (Rect.unit (s := S8x288x1024) o11 S1x32x512.size i11).toLoadRect f) shapeCasts_S1x32x512_S32x512)
      = conv q (w.read (Elt F) g) (v.read (Elt F) f) ci ri 0 := by
  rw [ldw w g h5 i5, ld32 v f h11 i11, conv]

theorem conv_step (n : ℕ) {o5 : Fin 2 → ℕ} {o11 : Fin 3 → ℕ} (i5 : ∀ a, o5 a + S1x512.size a ≤ S31x1024.size a) (i11 : ∀ a, o11 a + S1x32x512.size a ≤ S8x288x1024.size a)
    (h5 : o5 = ![n + 1, 512 * ci]) (h11 : o11 = ![q (n + 1) % 8, 8 * (q (n + 1) / 8) + 32 * ri, 512 * ci]) {A : FVec F S32x512 .f32}
    (hA : A = conv q (w.read (Elt F) g) (v.read (Elt F) f) ci ri n) :
    addf A (mulf (broadcastTo S32x512 (w.readAt (Elt F) (Rect.unit (s := S31x1024) o5 S1x512.size i5).toLoadRect g) broadcasts_S1x512_S32x512)
        (shapeCast S32x512 (v.readAt (Elt F) (Rect.unit (s := S8x288x1024) o11 S1x32x512.size i11).toLoadRect f) shapeCasts_S1x32x512_S32x512))
      = conv q (w.read (Elt F) g) (v.read (Elt F) f) ci ri (n + 1) := by
  rw [ldw w g h5 i5, ld32 v f h11 i11, hA, conv]

end Conv

/-! ## By rows -/

section Rows

variable (R R' : ℕ → Fin 1024 → Elt F .f32)

/-- `n` rows from row `a` on, at the 512 columns from `c` on. -/
def rowsV (n a c : ℕ) : FVec F ⟨2, ![n, 512]⟩ .f32 := fun x => R (a + (x 0).val) ⟨(c + (x 1).val) % 1024, Nat.mod_lt _ (by omega)⟩

/-- Each plane of the buffer holds the rows shifted by its number, as far as the loops read them. -/
def Holds (Y : S8x288x1024.Idx → Elt F .f32) : Prop := ∀ y : S8x288x1024.Idx, ((y 0).val = 0 ∨ (y 1).val < 280) → Y y = R ((y 0).val + (y 1).val) (y 2)

variable {R R'}

theorem pl_rows {Y : S8x288x1024.Idx → Elt F .f32} (h : Holds R Y) {n p s c : ℕ} (hp : p < 8) (hs : p = 0 ∨ s + n ≤ 280) (hs' : s + n ≤ 288) :
    pl n Y p s c = rowsV R n (p + s) c := by
  funext x
  have x0 : (x 0).val < n := (x 0).isLt
  refine (h _ ?_).trans ?_
  · show p % 8 = 0 ∨ (s + (x 0).val) % 288 < 280
    rcases hs with hs | hs
    · left; omega
    · right; omega
  · exact congrArg₂ R (show p % 8 + (s + (x 0).val) % 288 = p + s + (x 0).val by omega) rfl

/-- The sum over the taps, by rows. -/
def convR (q : ℕ → ℕ) (y5 : S31x1024.Idx → Elt F .f32) (R : ℕ → Fin 1024 → Elt F .f32) (ci ri : ℕ) : ℕ → FVec F S32x512 .f32
  | 0 => mulf (fl 32 y5 0 (512 * ci)) (rowsV R 32 (q 0 + 32 * ri) (512 * ci))
  | n + 1 => addf (convR q y5 R ci ri n) (mulf (fl 32 y5 (n + 1) (512 * ci)) (rowsV R 32 (q (n + 1) + 32 * ri) (512 * ci)))

theorem conv_rows (q : ℕ → ℕ) (y5 : S31x1024.Idx → Elt F .f32) {y11 : S8x288x1024.Idx → Elt F .f32} (h : Holds R y11) (ci ri : ℕ) (hr : ri < 8) (n : ℕ)
    (hq : ∀ k, k ≤ n → q k < 33) :
    conv q y5 y11 ci ri n = convR q y5 R ci ri n := by
  have row : ∀ k, k ≤ n → pl 32 y11 (q k % 8) (8 * (q k / 8) + 32 * ri) (512 * ci) = rowsV R 32 (q k + 32 * ri) (512 * ci) := fun k hk => by
    have h1 := hq k hk
    rw [pl_rows h (by omega) (by omega) (by omega), show q k % 8 + (8 * (q k / 8) + 32 * ri) = q k + 32 * ri by omega]
  induction n with
  | zero => rw [conv, convR, row 0 (le_refl _)]
  | succ n ih =>
    rw [conv, convR, row (n + 1) (le_refl _), ih (fun k hk => hq k (by omega)) fun k hk => row k (by omega)]

end Rows

/-! ## The buffer holds the shifted rows -/

section Held

/-- The pieces `L` all hold shifted rows, and cover plane zero and the first rows of the planes up to `n`. -/
structure Good (R : ℕ → Fin 1024 → Elt F .f32) (L : List (View.Piece (Elt F) S8x288x1024 .f32)) (n : ℕ) : Prop where
  spec : ∀ p ∈ L, ∀ x : p.1.shape.Idx, p.2 x = R ((p.1.emb x 0).val + (p.1.emb x 1).val) (p.1.emb x 2)
  cover : ∀ y : S8x288x1024.Idx, ((y 0).val = 0 ∨ ((y 0).val ≤ n ∧ (y 1).val < 280)) → ∃ p ∈ L, y ∈ p.1.set

theorem sc2 (u : S1x280x1024.Idx → Elt F .f32) :
    shapeCast S1x280x1024 (shapeCast S280x1024 u shapeCasts_S1x280x1024_S280x1024) shapeCasts_S280x1024_S1x280x1024 = u := by
  funext x
  rw [eq_ix3 x]
  pointwise

/-- The pieces with plane `n` written from the rows of plane zero from row `n` on. -/
abbrev shifted (v : View sg .tc .vmem S8x288x1024 .f32) (n : ℕ) (inb : ∀ a, (![n, 0, 0] : Fin 3 → ℕ) a + S1x280x1024.size a ≤ S8x288x1024.size a)
    (inb' : ∀ a, (![0, n, 0] : Fin 3 → ℕ) a + S1x280x1024.size a ≤ S8x288x1024.size a) (L : List (View.Piece (Elt F) S8x288x1024 .f32)) :
    List (View.Piece (Elt F) S8x288x1024 .f32) :=
  ⟨Rect.unit (s := S8x288x1024) ![n, 0, 0] S1x280x1024.size inb,
      shapeCast S1x280x1024 (shapeCast S280x1024 (v.readCov L (Rect.unit (s := S8x288x1024) ![0, n, 0] S1x280x1024.size inb').toLoadRect)
        shapeCasts_S1x280x1024_S280x1024) shapeCasts_S280x1024_S1x280x1024⟩ :: L

/-- Plane `n + 1` is written with the rows of plane zero from row `n + 1` on. -/
theorem Good.cons {R : ℕ → Fin 1024 → Elt F .f32} {L : List (View.Piece (Elt F) S8x288x1024 .f32)} {n : ℕ} (h : Good R L n)
    (v : View sg .tc .vmem S8x288x1024 .f32) (inb : ∀ a, (![n + 1, 0, 0] : Fin 3 → ℕ) a + S1x280x1024.size a ≤ S8x288x1024.size a)
    (inb' : ∀ a, (![0, n + 1, 0] : Fin 3 → ℕ) a + S1x280x1024.size a ≤ S8x288x1024.size a) :
    Good R (shifted v (n + 1) inb inb' L) (n + 1) where
  spec := by
    refine List.forall_mem_cons.mpr ⟨fun x => ?_, h.spec⟩
    have x0 : (x 0).val < 1 := (x 0).isLt
    refine (congrFun (sc2 (F := F) (v.readCov L (Rect.unit (s := S8x288x1024) ![0, n + 1, 0] S1x280x1024.size inb').toLoadRect)) x).trans ?_
    have hz : (((Rect.unit (s := S8x288x1024) ![0, n + 1, 0] S1x280x1024.size inb').emb x) 0).val = 0 := by
      show 0 + 1 * (x 0).val = 0; omega
    refine (View.read_writes_apply_of_pieces v v.junk (fun y => R ((y 0).val + (y 1).val) (y 2)) L h.spec _ (h.cover _ (.inl hz))).trans ?_
    exact congrArg₂ R (show (0 + 1 * (x 0).val) + (n + 1 + 1 * (x 1).val) = (n + 1 + 1 * (x 0).val) + (0 + 1 * (x 1).val) by omega) rfl
  cover y hy := by
    have h2 : (y 2).val < 1024 := (y 2).isLt
    by_cases e : (y 0).val = n + 1
    · have h1 : (y 1).val < 280 := by rcases hy with hy | hy <;> omega
      refine ⟨_, .head _, mem_unit (inb := inb) fun a => ?_⟩
      fin_cases a
      · show n + 1 ≤ (y 0).val ∧ (y 0).val < n + 1 + 1; omega
      · show 0 ≤ (y 1).val ∧ (y 1).val < 0 + 280; omega
      · show 0 ≤ (y 2).val ∧ (y 2).val < 0 + 1024; omega
    · exact (h.cover y (hy.imp id fun hh => ⟨by omega, hh.2⟩)).imp fun p hp => ⟨.tail _ hp.1, hp.2⟩

/-- The seven shifted planes, written after plane zero. -/
theorem Good.seven {R : ℕ → Fin 1024 → Elt F .f32} {L : List (View.Piece (Elt F) S8x288x1024 .f32)} (h : Good R L 0)
    (v : View sg .tc .vmem S8x288x1024 .f32) :
    Good R (shifted v 7 inb_S8x288x1024_S1x280x1024_7_0_0 inb_S8x288x1024_S1x280x1024_0_7_0 (shifted v 6 inb_S8x288x1024_S1x280x1024_6_0_0
      inb_S8x288x1024_S1x280x1024_0_6_0 (shifted v 5 inb_S8x288x1024_S1x280x1024_5_0_0 inb_S8x288x1024_S1x280x1024_0_5_0 (shifted v 4
      inb_S8x288x1024_S1x280x1024_4_0_0 inb_S8x288x1024_S1x280x1024_0_4_0 (shifted v 3 inb_S8x288x1024_S1x280x1024_3_0_0 inb_S8x288x1024_S1x280x1024_0_3_0
      (shifted v 2 inb_S8x288x1024_S1x280x1024_2_0_0 inb_S8x288x1024_S1x280x1024_0_2_0 (shifted v 1 inb_S8x288x1024_S1x280x1024_1_0_0
      inb_S8x288x1024_S1x280x1024_0_1_0 L))))))) 7 :=
  (((((((h.cons v inb_S8x288x1024_S1x280x1024_1_0_0 inb_S8x288x1024_S1x280x1024_0_1_0).cons v inb_S8x288x1024_S1x280x1024_2_0_0
      inb_S8x288x1024_S1x280x1024_0_2_0).cons v inb_S8x288x1024_S1x280x1024_3_0_0 inb_S8x288x1024_S1x280x1024_0_3_0).cons v
      inb_S8x288x1024_S1x280x1024_4_0_0 inb_S8x288x1024_S1x280x1024_0_4_0).cons v inb_S8x288x1024_S1x280x1024_5_0_0 inb_S8x288x1024_S1x280x1024_0_5_0).cons
      v inb_S8x288x1024_S1x280x1024_6_0_0 inb_S8x288x1024_S1x280x1024_0_6_0).cons v inb_S8x288x1024_S1x280x1024_7_0_0 inb_S8x288x1024_S1x280x1024_0_7_0)

theorem Good.holds {R : ℕ → Fin 1024 → Elt F .f32} {L : List (View.Piece (Elt F) S8x288x1024 .f32)} (h : Good R L 7)
    (v : View sg .tc .vmem S8x288x1024 .f32) (f : v.ty.Contents (Elt F)) : Holds R (v.read (Elt F) (v.writes (Elt F) f L)) := fun y hy =>
  View.read_writes_apply_of_pieces v f (fun y => R ((y 0).val + (y 1).val) (y 2)) L h.spec y
    (h.cover y (hy.imp id fun hh => ⟨by have : (y 0).val < 8 := (y 0).isLt; omega, hh⟩))

/-- The two writes of a block's rows and the rows before them, through plane zero's own view. -/
abbrev cH (off : Fin 2 → ℕ) (size : Fin 2 → ℕ) (inb : ∀ a, off a + size a ≤ S288x1024.size a) : Rect ⟨3, ![1, 288, 1024]⟩ :=
  (Rect.unit (s := S288x1024) off size inb).consLift ![1, 288, 1024] rfl (fun i => by fin_cases i <;> rfl)
abbrev rH (off : Fin 2 → ℕ) (size : Fin 2 → ℕ) (inb : ∀ a, off a + size a ≤ S288x1024.size a) : Rect S8x288x1024 :=
  (Rect.unit (s := S8x288x1024) ![0, 0, 0] S1x288x1024.size inb_S8x288x1024_S1x288x1024_0_0_0).within (cH off size inb) (fun _ => rfl)

theorem pay_cH0 (h) (w : S32x1024.Idx → Elt F .f32) (x : (cH ![0, 0] S32x1024.size inb_S288x1024_S32x1024_0_0).shape.Idx) :
    Rect.payAlong (r := Rect.unit (s := S288x1024) ![0, 0] S32x1024.size inb_S288x1024_S32x1024_0_0) (R := cH ![0, 0] S32x1024.size inb_S288x1024_S32x1024_0_0) h w x
      = w (ix2 (n0 := 32) (n1 := 1024) ⟨(x 1).val, (x 1).isLt⟩ ⟨(x 2).val, (x 2).isLt⟩) :=
  Rect.payAlong_consLift (Rect.unit (s := S288x1024) ![0, 0] S32x1024.size inb_S288x1024_S32x1024_0_0) ![1, 288, 1024] rfl
    (fun i => by fin_cases i <;> rfl) w h x _ (fun a => by fin_cases a <;> rfl)
theorem pay_cH32 (h) (w : S256x1024.Idx → Elt F .f32) (x : (cH ![32, 0] S256x1024.size inb_S288x1024_S256x1024_32_0).shape.Idx) :
    Rect.payAlong (r := Rect.unit (s := S288x1024) ![32, 0] S256x1024.size inb_S288x1024_S256x1024_32_0) (R := cH ![32, 0] S256x1024.size inb_S288x1024_S256x1024_32_0) h w x
      = w (ix2 (n0 := 256) (n1 := 1024) ⟨(x 1).val, (x 1).isLt⟩ ⟨(x 2).val, (x 2).isLt⟩) :=
  Rect.payAlong_consLift (Rect.unit (s := S288x1024) ![32, 0] S256x1024.size inb_S288x1024_S256x1024_32_0) ![1, 288, 1024] rfl
    (fun i => by fin_cases i <;> rfl) w h x _ (fun a => by fin_cases a <;> rfl)

variable (hd : FVec F S32x1024 .f32) (bd : FVec F S256x1024 .f32)

/-- Row `a` of a block's rows with thirty-two rows put before them. -/
def row2 (a : ℕ) (b : Fin 1024) : Elt F .f32 :=
  if h : a < 32 then hd (ix2 ⟨a, h⟩ b) else bd (ix2 ⟨(a - 32) % 256, Nat.mod_lt _ (by omega)⟩ b)

def fillList : List (View.Piece (Elt F) S8x288x1024 .f32) :=
  [⟨rH ![32, 0] S256x1024.size inb_S288x1024_S256x1024_32_0, Rect.payAlong (R := cH ![32, 0] S256x1024.size inb_S288x1024_S256x1024_32_0) (Rect.numel_consLift _ _ _ _) bd⟩,
    ⟨rH ![0, 0] S32x1024.size inb_S288x1024_S32x1024_0_0, Rect.payAlong (R := cH ![0, 0] S32x1024.size inb_S288x1024_S32x1024_0_0) (Rect.numel_consLift _ _ _ _) hd⟩]

theorem row2_head (a : ℕ) (b : Fin 1024) (h : a < 32) : row2 hd bd a b = hd (ix2 ⟨a, h⟩ b) := dif_pos h
theorem row2_body (r : Fin 256) (b : Fin 1024) : row2 hd bd (32 + r.val) b = bd (ix2 r b) := by
  unfold row2
  rw [dif_neg (by omega)]
  exact congrArg (fun z => bd (ix2 z b)) (Fin.ext (by show (32 + r.val - 32) % 256 = r.val; omega))
theorem fill_good : Good (row2 hd bd) (fillList hd bd) 0 where
  spec := by
    refine List.forall_mem_cons.mpr ⟨fun x => ?_, List.forall_mem_cons.mpr ⟨fun x => ?_, fun p hp => absurd hp List.not_mem_nil⟩⟩
    · have x0 : (x 0).val < 1 := (x 0).isLt
      refine (pay_cH32 _ bd x).trans ((row2_body hd bd ⟨(x 1).val, (x 1).isLt⟩ ⟨(x 2).val, (x 2).isLt⟩).symm.trans ?_)
      exact congrArg₂ (row2 hd bd) (show 32 + (x 1).val = (0 + 0 + 1 * (x 0).val) + (0 + (32 + 0) + 1 * (x 1).val) by omega)
        (Fin.ext (show (x 2).val = 0 + 0 + 1 * (x 2).val by omega))
    · have x0 : (x 0).val < 1 := (x 0).isLt
      refine (pay_cH0 _ hd x).trans ((row2_head hd bd (x 1).val ⟨(x 2).val, (x 2).isLt⟩ (x 1).isLt).symm.trans ?_)
      exact congrArg₂ (row2 hd bd) (show (x 1).val = (0 + 0 + 1 * (x 0).val) + (0 + 0 + 1 * (x 1).val) by omega)
        (Fin.ext (show (x 2).val = 0 + 0 + 1 * (x 2).val by omega))
  cover y hy := by
    have h : (y 0).val = 0 := by rcases hy with hy | hy <;> omega
    have h1 : (y 1).val < 288 := (y 1).isLt
    by_cases ha : (y 1).val < 32
    · refine ⟨_, .tail _ (.head _), mem_of_coords (rH ![0, 0] S32x1024.size inb_S288x1024_S32x1024_0_0)
        (fun a => match a with | ⟨0, _⟩ => (⟨0, by decide⟩ : Fin 1) | ⟨1, _⟩ => (⟨(y 1).val, ha⟩ : Fin 32) | ⟨2, _⟩ => y 2) y fun a => ?_⟩
      fin_cases a
      · exact h
      · show (y 1).val = 0 + 0 + 1 * (y 1).val; omega
      · show (y 2).val = 0 + 0 + 1 * (y 2).val; omega
    · refine ⟨_, .head _, mem_of_coords (rH ![32, 0] S256x1024.size inb_S288x1024_S256x1024_32_0)
        (fun a => match a with | ⟨0, _⟩ => (⟨0, by decide⟩ : Fin 1) | ⟨1, _⟩ => (⟨(y 1).val - 32, by omega⟩ : Fin 256) | ⟨2, _⟩ => y 2) y fun a => ?_⟩
      fin_cases a
      · exact h
      · show (y 1).val = 0 + (32 + 0) + 1 * ((y 1).val - 32); omega
      · show (y 2).val = 0 + 0 + 1 * (y 2).val; omega

end Held

end Cert.Proof.Planes

end
-- ==== Proof.CmidRows.lean ====
module

public import proofs.«01_k».proof.Proof.Planes

/-! The gradient of the middle of the convolution module: the partial sums of one tap, as functions of what
the two scratch buffers hold. -/

@[expose] public section

set_option maxRecDepth 8192
set_option maxHeartbeats 1000000

noncomputable section

namespace Cert.Proof.Cmid

open Cert.CmidIdeal Cert.CmidIdeal.Gen Cert.Proof.Planes
open Idealize.ShloMosaic TcCoe Idealize.ShloMosaic.Pointwise

variable {F : FTy → Type} [FloatOps F]

/-- Tap `k` takes the cotangent `30 - k` rows on. -/
abbrev qb (k : ℕ) : ℕ := 30 - k

/-! ## The partial sums of one tap -/

/-- The partial sums of the tap `q` rows off, after `n` groups of eight rows. -/
def tapV (y10 y11 : S8x288x1024.Idx → Elt F .f32) (q ci : ℕ) : ℕ → FVec F S8x512 .f32
  | 0 => k0_pay5
  | n + 1 => addf (tapV y10 y11 q ci n) (mulf (pl 8 y11 0 (8 * n) (512 * ci)) (pl 8 y10 (q % 8) (8 * n + q / 8 * 8) (512 * ci)))

section Tap

variable (v : View sig .tc .vmem S8x288x1024 .f32) (f : v.ty.Contents (Elt F)) (w : View sig .tc .vmem S8x288x1024 .f32) (g : w.ty.Contents (Elt F))
  (ci k q : ℕ)

/-- The four groups of eight rows of one trip. -/
theorem tap4 {oD oH : BitVec 32 → Fin 3 → ℕ}
    (iD : ∀ r : Fin 4, ∀ a, oD (BitVec.ofNat 32 (8 * r.val)) a + S1x8x512.size a ≤ S8x288x1024.size a)
    (iH : ∀ r : Fin 4, ∀ a, oH (BitVec.ofNat 32 (8 * r.val)) a + S1x8x512.size a ≤ S8x288x1024.size a)
    (hD : ∀ r : Fin 4, oD (BitVec.ofNat 32 (8 * r.val)) = ![0, 32 * k + 8 * r.val, 512 * ci])
    (hH : ∀ r : Fin 4, oH (BitVec.ofNat 32 (8 * r.val)) = ![q % 8, 32 * k + 8 * r.val + q / 8 * 8, 512 * ci]) :
    let D := fun r : Fin 4 => shapeCast S8x512 (w.readAt (Elt F) (Rect.unit (s := S8x288x1024) (oD (BitVec.ofNat 32 (8 * r.val))) S1x8x512.size (iD r)).toLoadRect g) shapeCasts_S1x8x512_S8x512
    let H := fun r : Fin 4 => shapeCast S8x512 (v.readAt (Elt F) (Rect.unit (s := S8x288x1024) (oH (BitVec.ofNat 32 (8 * r.val))) S1x8x512.size (iH r)).toLoadRect f) shapeCasts_S1x8x512_S8x512
    addf (addf (addf (addf (tapV (v.read (Elt F) f) (w.read (Elt F) g) q ci (4 * k)) (mulf (D 0) (H 0))) (mulf (D 1) (H 1))) (mulf (D 2) (H 2))) (mulf (D 3) (H 3))
      = tapV (v.read (Elt F) f) (w.read (Elt F) g) q ci (4 * (k + 1)) := by
  intro D H
  have eD : ∀ r : Fin 4, D r = pl 8 (w.read (Elt F) g) 0 (8 * (4 * k + r.val)) (512 * ci) := fun r => by
    refine ld8 w g ((hD r).trans ?_) (iD r)
    rw [show 32 * k + 8 * r.val = 8 * (4 * k + r.val) by omega]
  have eH : ∀ r : Fin 4, H r = pl 8 (v.read (Elt F) f) (q % 8) (8 * (4 * k + r.val) + q / 8 * 8) (512 * ci) := fun r => by
    refine ld8 v f ((hH r).trans ?_) (iH r)
    rw [show 32 * k + 8 * r.val = 8 * (4 * k + r.val) by omega]
  rw [eD, eD, eD, eD, eH, eH, eH, eH, show 4 * (k + 1) = 4 * k + 1 + 1 + 1 + 1 by omega]
  rfl

end Tap

end Cert.Proof.Cmid

end
-- ==== Proof.CmidRun.lean ====
module

public import proofs.«01_k».proof.Proof.CmidRows
public import proofs.«01_k».proof.Proof.Gen.CmidIdeal.Launch
public import proofs.«01_k».proof.Proof.Gen.CmidIdeal.Points

/-! The gradient of the middle of the convolution module: the invariants of its five inner loops. -/

@[expose] public section

set_option maxRecDepth 8192
set_option maxHeartbeats 4000000

noncomputable section

namespace Cert.Proof.Cmid

open Cert.CmidIdeal Cert.CmidIdeal.Gen Cert.Proof.Planes
open Idealize.ShloMosaic TcCoe Idealize.ShloMosaic.Tactic
open Idealize.SL RA BI BIBase Laws ProofMode Sem

variable {F : FTy → Type} [FloatOps F]

local notation "𝕄" => MT nD τ sig Unit (Elt F) ℕ (UR sig nD τ) ℕ

/-! ## One trip through the convolution -/

section Trip

variable (y3 : S256x2048.Idx → Elt F .bf16) (DH DC : Fin k0_t1_loop.trips → Fin k0_t2_loop.trips → FVec F S32x512 .f32)
  (ci : Fin k0_t1_loop.trips) (ri : Fin k0_t2_loop.trips)

/-- Where a trip reads its value and its gate, and writes their gradients. -/
abbrev rA : Rect S256x2048 := Rect.unit (s := S256x2048) (k0_off40 ci ri) S32x512.size (k0_off40_inb ci ri)
abbrev rG : Rect S256x2048 := Rect.unit (s := S256x2048) (k0_off41 ci ri) S32x512.size (k0_off41_inb ci ri)

/-- The gradients of a trip's value and gate, given the gradient `D` of the gated value. -/
def daV (D : FVec F S32x512 .f32) : FVec F S32x512 .f32 := mulf D (k0_pay18 (View.ld y3 (rG ci ri)))
def dgV (D : FVec F S32x512 .f32) : FVec F S32x512 .f32 :=
  mulf (mulf (mulf D (extf .f32 (shapeCast S32x512 (View.ld y3 (rA ci ri)) shapeCasts_S32x512_S32x512) bitsLt_bf16_f32)) (k0_pay18 (View.ld y3 (rG ci ri))))
    (subf (broadcast S32x512 (Scalar.ofBits .f32 0x3F800000#32)) (k0_pay18 (View.ld y3 (rG ci ri))))

/-- Thirty-two rows' partial sums, eight rows at a time, added to `acc`. -/
def fold4 (acc : FVec F S8x512 .f32) (X : FVec F S32x512 .f32) : FVec F S8x512 .f32 :=
  addf acc (addf (addf (addf (extractStridedSlice S8x512 ![0, 0] X slices_S32x512_o0_0_S8x512) (extractStridedSlice S8x512 ![8, 0] X slices_S32x512_o8_0_S8x512))
    (extractStridedSlice S8x512 ![16, 0] X slices_S32x512_o16_0_S8x512)) (extractStridedSlice S8x512 ![24, 0] X slices_S32x512_o24_0_S8x512))

/-- The sums a trip carries on. -/
abbrev Sums (F : FTy → Type) [FloatOps F] := FVec F S8x512 .f32 × FVec F S8x512 .f32 × FVec F S8x512 .f32
/-- The sums before trip `k`. -/
def sums : ℕ → Sums F
  | 0 => (k0_pay5, k0_pay5, k0_pay5)
  | k + 1 => if h : k < k0_t2_loop.trips then
      (fold4 (sums k).1 (daV y3 ci ⟨k, h⟩ (DH ci ⟨k, h⟩)), fold4 (sums k).2.1 (dgV y3 ci ⟨k, h⟩ (DH ci ⟨k, h⟩)), fold4 (sums k).2.2 (DC ci ⟨k, h⟩)) else sums k

/-- The tiles written before trip `k`, the last first. -/
def tiles : ℕ → List (View.Piece (Elt F) S256x2048 .bf16)
  | 0 => []
  | k + 1 => if h : k < k0_t2_loop.trips then
      ⟨rG ci ⟨k, h⟩, truncf .bf16 (dgV y3 ci ⟨k, h⟩ (DH ci ⟨k, h⟩)) bitsLt_bf16_f32⟩
        :: ⟨rA ci ⟨k, h⟩, truncf .bf16 (daV y3 ci ⟨k, h⟩ (DH ci ⟨k, h⟩)) bitsLt_bf16_f32⟩ :: tiles k else tiles k

theorem sums_succ : sums y3 DH DC ci (ri.val + 1) = (fold4 (sums y3 DH DC ci ri.val).1 (daV y3 ci ri (DH ci ri)),
    fold4 (sums y3 DH DC ci ri.val).2.1 (dgV y3 ci ri (DH ci ri)), fold4 (sums y3 DH DC ci ri.val).2.2 (DC ci ri)) := by
  rw [sums]; exact dif_pos ri.isLt
theorem tiles_succ : tiles y3 DH ci (ri.val + 1) = ⟨rG ci ri, truncf .bf16 (dgV y3 ci ri (DH ci ri)) bitsLt_bf16_f32⟩
    :: ⟨rA ci ri, truncf .bf16 (daV y3 ci ri (DH ci ri)) bitsLt_bf16_f32⟩ :: tiles y3 DH ci ri.val := by
  rw [tiles]; exact dif_pos ri.isLt

/-- The tiles written before the outer trip `k`. -/
def allTiles : ℕ → List (View.Piece (Elt F) S256x2048 .bf16)
  | 0 => []
  | k + 1 => if h : k < k0_t1_loop.trips then tiles y3 DH ⟨k, h⟩ k0_t2_loop.trips ++ allTiles k else allTiles k
theorem allTiles_succ : allTiles y3 DH (ci.val + 1) = tiles y3 DH ci k0_t2_loop.trips ++ allTiles y3 DH ci.val := by
  rw [allTiles]; exact dif_pos ci.isLt

end Trip

/-- What the buffers give a trip: the sum over the taps, and the cotangent's own rows. -/
def DHof (y5 : S31x1024.Idx → Elt F .f32) (y11 : S8x288x1024.Idx → Elt F .f32) (ci : Fin k0_t1_loop.trips) (ri : Fin k0_t2_loop.trips) : FVec F S32x512 .f32 :=
  conv qb y5 y11 ci.val ri.val 30
def DCof (y11 : S8x288x1024.Idx → Elt F .f32) (ci : Fin k0_t1_loop.trips) (ri : Fin k0_t2_loop.trips) : FVec F S32x512 .f32 :=
  pl 32 y11 0 (32 * ri.val) (512 * ci.val)

/-! ## The loops -/

section Loops

variable (c : Dev nD) (E : Set ℕ) (i : grid0.Coords) (arg1 : Memref sig .tc .vmem S256x1024 .f32) (harg1 : arg1.IsWhole)
  (arg2 : Memref sig .tc .vmem S32x1024 .f32) (harg2 : arg2.IsWhole) (arg3 : Memref sig .tc .vmem S256x2048 .bf16) (harg3 : arg3.IsWhole)
  (arg4 : Memref sig .tc .vmem S32x2048 .bf16) (harg4 : arg4.IsWhole) (arg5 : Memref sig .tc .vmem S31x1024 .f32) (harg5 : arg5.IsWhole)
  (arg6 : Memref sig .tc .vmem S256x2048 .bf16) (harg6 : arg6.IsWhole) (arg7 : Memref sig .tc .vmem S32x1024 .f32) (harg7 : arg7.IsWhole)
  (arg8 : Memref sig .tc .vmem S1x1024 .f32) (harg8 : arg8.IsWhole) (arg9 : Memref sig .tc .vmem S1x2048 .f32) (harg9 : arg9.IsWhole)
  (arg10 : Memref sig .tc .vmem S8x288x1024 .f32) (harg10 : arg10.IsWhole) (arg11 : Memref sig .tc .vmem S8x288x1024 .f32) (harg11 : arg11.IsWhole)
  (X3 : BufTy.Contents (Elt F) arg3.view.ty) (X5 : BufTy.Contents (Elt F) arg5.view.ty)
  (X10 : BufTy.Contents (Elt F) arg10.view.ty) (X11 : BufTy.Contents (Elt F) arg11.view.ty)

set_option warn.classDefReducibility false in
/-- Before a trip through the convolution: the buffers read, the tiles written so far, the sums so far. -/
@[sl_loop] def convLoop (ci : Fin k0_t1_loop.trips) (v113 : FVec F S8x512 .f32) (b0 b1 v116 v119 : BitVec 32) (G6 : BufTy.Contents (Elt F) arg6.view.ty) :
    LoopInv (M := 𝕄) frame (wpE (defs₀ (F := F)) Variants.none (c : Thread nD τ) none) E k0_t2_loop.lb k0_t2_loop.ub k0_t2_loop.st k0_t2_ok
      ((k0_pay5 (F := F), k0_pay5 (F := F), k0_pay5 (F := F)) : Sums F)
      (k0_t2_body (F := F) i arg1 harg1 arg2 harg2 arg3 harg3 arg4 harg4 arg5 harg5 arg6 harg6 arg7 harg7 arg8 harg8 arg9 harg9 arg10 harg10 arg11 harg11 v113 b0 b1 ci v116 v119) where
  inv k acc := iprop((arg3.view.loc (c : Thread nD τ) ↦[arg3.view.set]{fullShare} X3) ∗ (arg5.view.loc (c : Thread nD τ) ↦[arg5.view.set]{fullShare} X5)
    ∗ (arg11.view.loc (c : Thread nD τ) ↦[arg11.view.set]{fullShare} X11)
    ∗ (∃ f, (arg6.view.loc (c : Thread nD τ) ↦[arg6.view.set]{fullShare} f)
      ∗ ⌜f = arg6.view.writes (Elt F) G6 (tiles (arg3.view.read (Elt F) X3) (DHof (arg5.view.read (Elt F) X5) (arg11.view.read (Elt F) X11)) ci k)⌝)
    ∗ ⌜acc = sums (arg3.view.read (Elt F) X3) (DHof (arg5.view.read (Elt F) X5) (arg11.view.read (Elt F) X11)) (DCof (arg11.view.read (Elt F) X11)) ci k⌝)
  step k acc := by
    have hk : k.val < 8 := Nat.lt_of_lt_of_le k.isLt k0_t2_abs.2.1
    have hconv :=
      conv_step qb arg11.view X11 arg5.view X5 ci.val k.val 29 (k0_off39_inb ci) (k0_off14_inb ci k 0) (k0_off39_eq ci) (k0_off14_eq ci k 0) <|
      conv_step qb arg11.view X11 arg5.view X5 ci.val k.val 28 (k0_off38_inb ci) (k0_off12_inb ci k 0) (k0_off38_eq ci) (k0_off12_eq ci k 0) <|
      conv_step qb arg11.view X11 arg5.view X5 ci.val k.val 27 (k0_off37_inb ci) (k0_off10_inb ci k 0) (k0_off37_eq ci) (k0_off10_eq ci k 0) <|
      conv_step qb arg11.view X11 arg5.view X5 ci.val k.val 26 (k0_off36_inb ci) (k0_off8_inb ci k 0) (k0_off36_eq ci) (k0_off8_eq ci k 0) <|
      conv_step qb arg11.view X11 arg5.view X5 ci.val k.val 25 (k0_off35_inb ci) (k0_off6_inb ci k 0) (k0_off35_eq ci) (k0_off6_eq ci k 0) <|
      conv_step qb arg11.view X11 arg5.view X5 ci.val k.val 24 (k0_off34_inb ci) (k0_off4_inb ci k 0) (k0_off34_eq ci) (k0_off4_eq ci k 0) <|
      conv_step qb arg11.view X11 arg5.view X5 ci.val k.val 23 (k0_off33_inb ci) (k0_off2_inb ci k 0) (k0_off33_eq ci) (k0_off2_eq ci k 0) <|
      conv_step qb arg11.view X11 arg5.view X5 ci.val k.val 22 (k0_off32_inb ci) (k0_off16_inb ci k 0) (k0_off32_eq ci) (k0_off16_eq ci k 0) <|
      conv_step qb arg11.view X11 arg5.view X5 ci.val k.val 21 (k0_off31_inb ci) (k0_off14_inb ci k 1) (k0_off31_eq ci) (k0_off14_eq ci k 1) <|
      conv_step qb arg11.view X11 arg5.view X5 ci.val k.val 20 (k0_off30_inb ci) (k0_off12_inb ci k 1) (k0_off30_eq ci) (k0_off12_eq ci k 1) <|
      conv_step qb arg11.view X11 arg5.view X5 ci.val k.val 19 (k0_off29_inb ci) (k0_off10_inb ci k 1) (k0_off29_eq ci) (k0_off10_eq ci k 1) <|
      conv_step qb arg11.view X11 arg5.view X5 ci.val k.val 18 (k0_off28_inb ci) (k0_off8_inb ci k 1) (k0_off28_eq ci) (k0_off8_eq ci k 1) <|
      conv_step qb arg11.view X11 arg5.view X5 ci.val k.val 17 (k0_off27_inb ci) (k0_off6_inb ci k 1) (k0_off27_eq ci) (k0_off6_eq ci k 1) <|
      conv_step qb arg11.view X11 arg5.view X5 ci.val k.val 16 (k0_off26_inb ci) (k0_off4_inb ci k 1) (k0_off26_eq ci) (k0_off4_eq ci k 1) <|
      conv_step qb arg11.view X11 arg5.view X5 ci.val k.val 15 (k0_off25_inb ci) (k0_off2_inb ci k 1) (k0_off25_eq ci) (k0_off2_eq ci k 1) <|
      conv_step qb arg11.view X11 arg5.view X5 ci.val k.val 14 (k0_off24_inb ci) (k0_off16_inb ci k 1) (k0_off24_eq ci) (k0_off16_eq ci k 1) <|
      conv_step qb arg11.view X11 arg5.view X5 ci.val k.val 13 (k0_off23_inb ci) (k0_off14_inb ci k 2) (k0_off23_eq ci) (k0_off14_eq ci k 2) <|
      conv_step qb arg11.view X11 arg5.view X5 ci.val k.val 12 (k0_off22_inb ci) (k0_off12_inb ci k 2) (k0_off22_eq ci) (k0_off12_eq ci k 2) <|
      conv_step qb arg11.view X11 arg5.view X5 ci.val k.val 11 (k0_off21_inb ci) (k0_off10_inb ci k 2) (k0_off21_eq ci) (k0_off10_eq ci k 2) <|
      conv_step qb arg11.view X11 arg5.view X5 ci.val k.val 10 (k0_off20_inb ci) (k0_off8_inb ci k 2) (k0_off20_eq ci) (k0_off8_eq ci k 2) <|
      conv_step qb arg11.view X11 arg5.view X5 ci.val k.val 9 (k0_off19_inb ci) (k0_off6_inb ci k 2) (k0_off19_eq ci) (k0_off6_eq ci k 2) <|
      conv_step qb arg11.view X11 arg5.view X5 ci.val k.val 8 (k0_off18_inb ci) (k0_off4_inb ci k 2) (k0_off18_eq ci) (k0_off4_eq ci k 2) <|
      conv_step qb arg11.view X11 arg5.view X5 ci.val k.val 7 (k0_off17_inb ci) (k0_off2_inb ci k 2) (k0_off17_eq ci) (k0_off2_eq ci k 2) <|
      conv_step qb arg11.view X11 arg5.view X5 ci.val k.val 6 (k0_off15_inb ci) (k0_off16_inb ci k 2) (k0_off15_eq ci) (k0_off16_eq ci k 2) <|
      conv_step qb arg11.view X11 arg5.view X5 ci.val k.val 5 (k0_off13_inb ci) (k0_off14_inb ci k 3) (k0_off13_eq ci) (k0_off14_eq ci k 3) <|
      conv_step qb arg11.view X11 arg5.view X5 ci.val k.val 4 (k0_off11_inb ci) (k0_off12_inb ci k 3) (k0_off11_eq ci) (k0_off12_eq ci k 3) <|
      conv_step qb arg11.view X11 arg5.view X5 ci.val k.val 3 (k0_off9_inb ci) (k0_off10_inb ci k 3) (k0_off9_eq ci) (k0_off10_eq ci k 3) <|
      conv_step qb arg11.view X11 arg5.view X5 ci.val k.val 2 (k0_off7_inb ci) (k0_off8_inb ci k 3) (k0_off7_eq ci) (k0_off8_eq ci k 3) <|
      conv_step qb arg11.view X11 arg5.view X5 ci.val k.val 1 (k0_off5_inb ci) (k0_off6_inb ci k 3) (k0_off5_eq ci) (k0_off6_eq ci k 3) <|
      conv_step qb arg11.view X11 arg5.view X5 ci.val k.val 0 (k0_off3_inb ci) (k0_off4_inb ci k 3) (k0_off3_eq ci) (k0_off4_eq ci k 3) <|
      conv_zero qb arg11.view X11 arg5.view X5 ci.val k.val (k0_off1_inb ci) (k0_off2_inb ci k 3) (k0_off1_eq ci) (k0_off2_eq ci k 3)
    have hrow := ld32 arg11.view X11 (k0_off42_eq ci k) (k0_off42_inb ci k)
    unfold k0_t2_body
    iintro ⟨H3, H5, H11, ⟨%f, H6, %hf⟩, %hacc⟩
    subst hacc
    sl_exec
    sl_step
    isplitl [H3]; · iexact H3
    isplitl [H5]; · iexact H5
    isplitl [H11]; · iexact H11
    isplitl [H6]
    · iexists _
      isplitl [H6]; · iexact H6
      ipureintro
      rw [tiles_succ, hf]
      exact congrArg₂ (fun a b => arg6.view.writes (Elt F) G6 (⟨rG ci k, a⟩ :: ⟨rA ci k, b⟩ :: _))
        (congrArg (fun z => truncf .bf16 (dgV (arg3.view.read (Elt F) X3) ci k z) bitsLt_bf16_f32) hconv)
        (congrArg (fun z => truncf .bf16 (daV (arg3.view.read (Elt F) X3) ci k z) bitsLt_bf16_f32) hconv)
    ipureintro
    rw [sums_succ]
    exact Prod.ext (congrArg (fun z => fold4 _ (daV (arg3.view.read (Elt F) X3) ci k z)) hconv)
      (Prod.ext (congrArg (fun z => fold4 _ (dgV (arg3.view.read (Elt F) X3) ci k z)) hconv) (congrArg (fold4 _) hrow))

/-- The partial sums of `n` taps from `q` on, before trip `k` of eight rows' groups of four. -/
abbrev Tap7 (F : FTy → Type) [FloatOps F] := FVec F S8x512 .f32 × FVec F S8x512 .f32 × FVec F S8x512 .f32 × FVec F S8x512 .f32 × FVec F S8x512 .f32 × FVec F S8x512 .f32 × FVec F S8x512 .f32
abbrev Tap8 (F : FTy → Type) [FloatOps F] := FVec F S8x512 .f32 × Tap7 F
def taps7 (y10 y11 : S8x288x1024.Idx → Elt F .f32) (q ci k : ℕ) : Tap7 F :=
  (tapV y10 y11 q ci (4 * k), tapV y10 y11 (q + 1) ci (4 * k), tapV y10 y11 (q + 2) ci (4 * k), tapV y10 y11 (q + 3) ci (4 * k), tapV y10 y11 (q + 4) ci (4 * k),
    tapV y10 y11 (q + 5) ci (4 * k), tapV y10 y11 (q + 6) ci (4 * k))
def taps8 (y10 y11 : S8x288x1024.Idx → Elt F .f32) (q ci k : ℕ) : Tap8 F := (tapV y10 y11 q ci (4 * k), taps7 y10 y11 (q + 1) ci k)

set_option warn.classDefReducibility false in
/-- The taps from 2 rows off on. -/
@[sl_loop] def tapLoop0 (ci : Fin k0_t1_loop.trips) (v113 : FVec F S8x512 .f32) (b0 b1 v116 : BitVec 32) :
    LoopInv (M := 𝕄) frame (wpE (defs₀ (F := F)) Variants.none (c : Thread nD τ) none) E k0_t3_loop.lb k0_t3_loop.ub k0_t3_loop.st k0_t3_ok
      ((k0_pay5 (F := F), k0_pay5 (F := F), k0_pay5 (F := F), k0_pay5 (F := F), k0_pay5 (F := F), k0_pay5 (F := F), k0_pay5 (F := F), k0_pay5 (F := F)) : Tap8 F)
      (k0_t3_body (F := F) i arg1 harg1 arg2 harg2 arg3 harg3 arg4 harg4 arg5 harg5 arg6 harg6 arg7 harg7 arg8 harg8 arg9 harg9 arg10 harg10 arg11 harg11 v113 b0 b1 ci v116) where
  inv k acc := iprop((arg10.view.loc (c : Thread nD τ) ↦[arg10.view.set]{fullShare} X10) ∗ (arg11.view.loc (c : Thread nD τ) ↦[arg11.view.set]{fullShare} X11)
    ∗ ⌜acc = taps8 (arg10.view.read (Elt F) X10) (arg11.view.read (Elt F) X11) 2 ci.val k⌝)
  step k acc := by
    have hk : k.val < 8 := Nat.lt_of_lt_of_le k.isLt k0_t3_abs.2.1
    unfold k0_t3_body
    iintro ⟨H10, H11, %hacc⟩
    subst hacc
    sl_exec
    sl_step
    isplitl [H10]; · iexact H10
    isplitl [H11]; · iexact H11
    ipureintro
    exact Prod.ext (tap4 arg10.view X10 arg11.view X11 ci.val k.val 2 (k0_off46_inb ci k) (k0_off47_inb ci k) (k0_off46_eq ci k) (k0_off47_eq ci k)) <|
      Prod.ext (tap4 arg10.view X10 arg11.view X11 ci.val k.val 3 (k0_off46_inb ci k) (k0_off48_inb ci k) (k0_off46_eq ci k) (k0_off48_eq ci k)) <|
      Prod.ext (tap4 arg10.view X10 arg11.view X11 ci.val k.val 4 (k0_off46_inb ci k) (k0_off49_inb ci k) (k0_off46_eq ci k) (k0_off49_eq ci k)) <|
      Prod.ext (tap4 arg10.view X10 arg11.view X11 ci.val k.val 5 (k0_off46_inb ci k) (k0_off50_inb ci k) (k0_off46_eq ci k) (k0_off50_eq ci k)) <|
      Prod.ext (tap4 arg10.view X10 arg11.view X11 ci.val k.val 6 (k0_off46_inb ci k) (k0_off51_inb ci k) (k0_off46_eq ci k) (k0_off51_eq ci k)) <|
      Prod.ext (tap4 arg10.view X10 arg11.view X11 ci.val k.val 7 (k0_off46_inb ci k) (k0_off52_inb ci k) (k0_off46_eq ci k) (k0_off52_eq ci k)) <|
      Prod.ext (tap4 arg10.view X10 arg11.view X11 ci.val k.val 8 (k0_off46_inb ci k) (k0_off53_inb ci k) (k0_off46_eq ci k) (k0_off53_eq ci k)) <|
      tap4 arg10.view X10 arg11.view X11 ci.val k.val 9 (k0_off46_inb ci k) (k0_off54_inb ci k) (k0_off46_eq ci k) (k0_off54_eq ci k)

set_option warn.classDefReducibility false in
/-- The taps from 10 rows off on. -/
@[sl_loop] def tapLoop1 (ci : Fin k0_t1_loop.trips) (v113 u5 u6 u7 : FVec F S8x512 .f32) (v116 : BitVec 32) (u : Vec F S1x512 .f32) :
    LoopInv (M := 𝕄) frame (wpE (defs₀ (F := F)) Variants.none (c : Thread nD τ) none) E k0_t4_loop.lb k0_t4_loop.ub k0_t4_loop.st k0_t4_ok
      ((k0_pay5 (F := F), k0_pay5 (F := F), k0_pay5 (F := F), k0_pay5 (F := F), k0_pay5 (F := F), k0_pay5 (F := F), k0_pay5 (F := F), k0_pay5 (F := F)) : Tap8 F)
      (k0_t4_body (F := F) i arg1 harg1 arg2 harg2 arg3 harg3 arg4 harg4 arg5 harg5 arg6 harg6 arg7 harg7 arg8 harg8 arg9 harg9 arg10 harg10 arg11 harg11 v113 ci v116 u5 u6 u7 u) where
  inv k acc := iprop((arg10.view.loc (c : Thread nD τ) ↦[arg10.view.set]{fullShare} X10) ∗ (arg11.view.loc (c : Thread nD τ) ↦[arg11.view.set]{fullShare} X11)
    ∗ ⌜acc = taps8 (arg10.view.read (Elt F) X10) (arg11.view.read (Elt F) X11) 10 ci.val k⌝)
  step k acc := by
    have hk : k.val < 8 := Nat.lt_of_lt_of_le k.isLt k0_t4_abs.2.1
    unfold k0_t4_body
    iintro ⟨H10, H11, %hacc⟩
    subst hacc
    sl_exec
    sl_step
    isplitl [H10]; · iexact H10
    isplitl [H11]; · iexact H11
    ipureintro
    exact Prod.ext (tap4 arg10.view X10 arg11.view X11 ci.val k.val 10 (k0_off63_inb ci k) (k0_off64_inb ci k) (k0_off63_eq ci k) (k0_off64_eq ci k)) <|
      Prod.ext (tap4 arg10.view X10 arg11.view X11 ci.val k.val 11 (k0_off63_inb ci k) (k0_off65_inb ci k) (k0_off63_eq ci k) (k0_off65_eq ci k)) <|
      Prod.ext (tap4 arg10.view X10 arg11.view X11 ci.val k.val 12 (k0_off63_inb ci k) (k0_off66_inb ci k) (k0_off63_eq ci k) (k0_off66_eq ci k)) <|
      Prod.ext (tap4 arg10.view X10 arg11.view X11 ci.val k.val 13 (k0_off63_inb ci k) (k0_off67_inb ci k) (k0_off63_eq ci k) (k0_off67_eq ci k)) <|
      Prod.ext (tap4 arg10.view X10 arg11.view X11 ci.val k.val 14 (k0_off63_inb ci k) (k0_off68_inb ci k) (k0_off63_eq ci k) (k0_off68_eq ci k)) <|
      Prod.ext (tap4 arg10.view X10 arg11.view X11 ci.val k.val 15 (k0_off63_inb ci k) (k0_off69_inb ci k) (k0_off63_eq ci k) (k0_off69_eq ci k)) <|
      Prod.ext (tap4 arg10.view X10 arg11.view X11 ci.val k.val 16 (k0_off63_inb ci k) (k0_off70_inb ci k) (k0_off63_eq ci k) (k0_off70_eq ci k)) <|
      tap4 arg10.view X10 arg11.view X11 ci.val k.val 17 (k0_off63_inb ci k) (k0_off71_inb ci k) (k0_off63_eq ci k) (k0_off71_eq ci k)

set_option warn.classDefReducibility false in
/-- The taps from 18 rows off on. -/
@[sl_loop] def tapLoop2 (ci : Fin k0_t1_loop.trips) (v113 u7 : FVec F S8x512 .f32) (v116 : BitVec 32) (u : FVec F S1x512 .f32) :
    LoopInv (M := 𝕄) frame (wpE (defs₀ (F := F)) Variants.none (c : Thread nD τ) none) E k0_t5_loop.lb k0_t5_loop.ub k0_t5_loop.st k0_t5_ok
      ((k0_pay5 (F := F), k0_pay5 (F := F), k0_pay5 (F := F), k0_pay5 (F := F), k0_pay5 (F := F), k0_pay5 (F := F), k0_pay5 (F := F), k0_pay5 (F := F)) : Tap8 F)
      (k0_t5_body (F := F) i arg1 harg1 arg2 harg2 arg3 harg3 arg4 harg4 arg5 harg5 arg6 harg6 arg7 harg7 arg8 harg8 arg9 harg9 arg10 harg10 arg11 harg11 v113 ci v116 u7 u) where
  inv k acc := iprop((arg10.view.loc (c : Thread nD τ) ↦[arg10.view.set]{fullShare} X10) ∗ (arg11.view.loc (c : Thread nD τ) ↦[arg11.view.set]{fullShare} X11)
    ∗ ⌜acc = taps8 (arg10.view.read (Elt F) X10) (arg11.view.read (Elt F) X11) 18 ci.val k⌝)
  step k acc := by
    have hk : k.val < 8 := Nat.lt_of_lt_of_le k.isLt k0_t5_abs.2.1
    unfold k0_t5_body
    iintro ⟨H10, H11, %hacc⟩
    subst hacc
    sl_exec
    sl_step
    isplitl [H10]; · iexact H10
    isplitl [H11]; · iexact H11
    ipureintro
    exact Prod.ext (tap4 arg10.view X10 arg11.view X11 ci.val k.val 18 (k0_off80_inb ci k) (k0_off81_inb ci k) (k0_off80_eq ci k) (k0_off81_eq ci k)) <|
      Prod.ext (tap4 arg10.view X10 arg11.view X11 ci.val k.val 19 (k0_off80_inb ci k) (k0_off82_inb ci k) (k0_off80_eq ci k) (k0_off82_eq ci k)) <|
      Prod.ext (tap4 arg10.view X10 arg11.view X11 ci.val k.val 20 (k0_off80_inb ci k) (k0_off83_inb ci k) (k0_off80_eq ci k) (k0_off83_eq ci k)) <|
      Prod.ext (tap4 arg10.view X10 arg11.view X11 ci.val k.val 21 (k0_off80_inb ci k) (k0_off84_inb ci k) (k0_off80_eq ci k) (k0_off84_eq ci k)) <|
      Prod.ext (tap4 arg10.view X10 arg11.view X11 ci.val k.val 22 (k0_off80_inb ci k) (k0_off85_inb ci k) (k0_off80_eq ci k) (k0_off85_eq ci k)) <|
      Prod.ext (tap4 arg10.view X10 arg11.view X11 ci.val k.val 23 (k0_off80_inb ci k) (k0_off86_inb ci k) (k0_off80_eq ci k) (k0_off86_eq ci k)) <|
      Prod.ext (tap4 arg10.view X10 arg11.view X11 ci.val k.val 24 (k0_off80_inb ci k) (k0_off87_inb ci k) (k0_off80_eq ci k) (k0_off87_eq ci k)) <|
      tap4 arg10.view X10 arg11.view X11 ci.val k.val 25 (k0_off80_inb ci k) (k0_off88_inb ci k) (k0_off80_eq ci k) (k0_off88_eq ci k)

set_option warn.classDefReducibility false in
/-- The taps from 26 rows off on. -/
@[sl_loop] def tapLoop3 (ci : Fin k0_t1_loop.trips) (v113 : FVec F S8x512 .f32) (v116 b0 : BitVec 32) :
    LoopInv (M := 𝕄) frame (wpE (defs₀ (F := F)) Variants.none (c : Thread nD τ) none) E k0_t6_loop.lb k0_t6_loop.ub k0_t6_loop.st k0_t6_ok
      ((k0_pay5 (F := F), k0_pay5 (F := F), k0_pay5 (F := F), k0_pay5 (F := F), k0_pay5 (F := F), k0_pay5 (F := F), k0_pay5 (F := F)) : Tap7 F)
      (k0_t6_body (F := F) i arg1 harg1 arg2 harg2 arg3 harg3 arg4 harg4 arg5 harg5 arg6 harg6 arg7 harg7 arg8 harg8 arg9 harg9 arg10 harg10 arg11 harg11 v113 ci v116 b0) where
  inv k acc := iprop((arg10.view.loc (c : Thread nD τ) ↦[arg10.view.set]{fullShare} X10) ∗ (arg11.view.loc (c : Thread nD τ) ↦[arg11.view.set]{fullShare} X11)
    ∗ ⌜acc = taps7 (arg10.view.read (Elt F) X10) (arg11.view.read (Elt F) X11) 26 ci.val k⌝)
  step k acc := by
    have hk : k.val < 8 := Nat.lt_of_lt_of_le k.isLt k0_t6_abs.2.1
    unfold k0_t6_body
    iintro ⟨H10, H11, %hacc⟩
    subst hacc
    sl_exec
    sl_step
    isplitl [H10]; · iexact H10
    isplitl [H11]; · iexact H11
    ipureintro
    exact Prod.ext (tap4 arg10.view X10 arg11.view X11 ci.val k.val 26 (k0_off97_inb ci k) (k0_off98_inb ci k) (k0_off97_eq ci k) (k0_off98_eq ci k)) <|
      Prod.ext (tap4 arg10.view X10 arg11.view X11 ci.val k.val 27 (k0_off97_inb ci k) (k0_off99_inb ci k) (k0_off97_eq ci k) (k0_off99_eq ci k)) <|
      Prod.ext (tap4 arg10.view X10 arg11.view X11 ci.val k.val 28 (k0_off97_inb ci k) (k0_off100_inb ci k) (k0_off97_eq ci k) (k0_off100_eq ci k)) <|
      Prod.ext (tap4 arg10.view X10 arg11.view X11 ci.val k.val 29 (k0_off97_inb ci k) (k0_off101_inb ci k) (k0_off97_eq ci k) (k0_off101_eq ci k)) <|
      Prod.ext (tap4 arg10.view X10 arg11.view X11 ci.val k.val 30 (k0_off97_inb ci k) (k0_off102_inb ci k) (k0_off97_eq ci k) (k0_off102_eq ci k)) <|
      Prod.ext (tap4 arg10.view X10 arg11.view X11 ci.val k.val 31 (k0_off97_inb ci k) (k0_off103_inb ci k) (k0_off97_eq ci k) (k0_off103_eq ci k)) <|
      tap4 arg10.view X10 arg11.view X11 ci.val k.val 32 (k0_off97_inb ci k) (k0_off104_inb ci k) (k0_off97_eq ci k) (k0_off104_eq ci k)

end Loops

end Cert.Proof.Cmid

end
-- ==== Proof.CmidOuter.lean ====
module

public import proofs.«01_k».proof.Proof.CmidRun

/-! The gradient of the middle of the convolution module: the invariant of the loop over the chunks of columns. -/

@[expose] public section

set_option maxRecDepth 8192
set_option maxHeartbeats 4000000

noncomputable section

namespace Cert.Proof.Cmid

open Cert.CmidIdeal Cert.CmidIdeal.Gen Cert.Proof.Planes
open Idealize.ShloMosaic TcCoe Idealize.ShloMosaic.Tactic Idealize.ShloMosaic.Pointwise
open Idealize.SL RA BI BIBase Laws ProofMode Sem

variable {F : FTy → Type} [FloatOps F]

local notation "𝕄" => MT nD τ sig Unit (Elt F) ℕ (UR sig nD τ) ℕ

/-! ## The filter's gradient -/

/-- The 512 columns from `c` on of row `n`. -/
def rowAt (g : S32x1024.Idx → Elt F .f32) (n c : ℕ) : Vec F S1x512 .f32 := fun x =>
  g (ix2 ⟨n % 32, Nat.mod_lt _ (by omega)⟩ ⟨(c + (x 1).val) % 1024, Nat.mod_lt _ (by omega)⟩)
/-- The filter's gradient after the first `n` rows got their sums at a chunk of columns. -/
def rowsB (T : ℕ → FVec F S8x512 .f32) (c : ℕ) (g : S32x1024.Idx → Elt F .f32) : ℕ → S32x1024.Idx → Elt F .f32
  | 0 => g
  | n + 1 => VecWindow.put (rowsB T c g n) ![n, c] S1x512.size (k0_pay6 (T n) (rowAt g n c))
/-- and before the outer trip `k`. -/
def allW (TP : ℕ → ℕ → FVec F S8x512 .f32) (g : S32x1024.Idx → Elt F .f32) : ℕ → S32x1024.Idx → Elt F .f32
  | 0 => g
  | k + 1 => rowsB (TP k) (512 * k) (allW TP g k) 31

/-- The partial sums of tap `n` that the buffers give. -/
def TPof (y10 y11 : S8x288x1024.Idx → Elt F .f32) (ci n : ℕ) : FVec F S8x512 .f32 := tapV y10 y11 (n + 2) ci 32

theorem rowAt_ld (v : View sig .tc .vmem S32x1024 .f32) (f : v.ty.Contents (Elt F)) {off : Fin 2 → ℕ} {n c : ℕ} (h : off = ![n, c])
    (inb : ∀ a, off a + S1x512.size a ≤ S32x1024.size a) :
    v.readAt (Elt F) (Rect.unit (s := S32x1024) off S1x512.size inb).toLoadRect f = rowAt (v.read (Elt F) f) n c := by
  subst h
  funext x
  have h0 : n + 1 ≤ 32 := inb 0
  have h1 : c + 512 ≤ 1024 := inb 1
  have x0 : (x 0).val < 1 := (x 0).isLt
  have x1 : (x 1).val < 512 := (x 1).isLt
  refine congrArg (v.read (Elt F) f) (funext fun a => Fin.ext ?_)
  fin_cases a
  · show n + 1 * (x 0).val = n % 32; omega
  · show c + 1 * (x 1).val = (c + (x 1).val) % 1024; omega

/-- One row more. -/
theorem row_step (v : View sig .tc .vmem S32x1024 .f32) (f : v.ty.Contents (Elt F)) {y10 y11 : S8x288x1024.Idx → Elt F .f32} (ci n : ℕ) {off : Fin 2 → ℕ}
    (h : off = ![n, 512 * ci]) (inb : ∀ a, off a + S1x512.size a ≤ S32x1024.size a) {k : ℕ} (hk : 4 * k = 32) {G : S32x1024.Idx → Elt F .f32}
    (hG : G = rowsB (TPof y10 y11 ci) (512 * ci) (v.read (Elt F) f) n) :
    VecWindow.put G off S1x512.size (k0_pay6 (tapV y10 y11 (n + 2) ci (4 * k)) (v.readAt (Elt F) (Rect.unit (s := S32x1024) off S1x512.size inb).toLoadRect f))
      = rowsB (TPof y10 y11 ci) (512 * ci) (v.read (Elt F) f) (n + 1) := by
  rw [rowAt_ld v f h inb, hG, hk, h]
  rfl

/-! ## The two biases' gradients -/

section Bias

variable (S : Fin k0_t1_loop.trips → Sums F)

def addB (ci : Fin k0_t1_loop.trips) (g : S1x1024.Idx → Elt F .f32) : S1x1024.Idx → Elt F .f32 :=
  VecWindow.put g (k0_off43 ci) S1x512.size (k0_pay184 (S ci).2.2 (View.ld g (Rect.unit (s := S1x1024) (k0_off43 ci) S1x512.size (k0_off43_inb ci))))
def addP (ci : Fin k0_t1_loop.trips) (g : S1x2048.Idx → Elt F .f32) : S1x2048.Idx → Elt F .f32 :=
  VecWindow.put (VecWindow.put g (k0_off44 ci) S1x512.size (k0_pay185 (S ci).1 (View.ld g (Rect.unit (s := S1x2048) (k0_off44 ci) S1x512.size (k0_off44_inb ci)))))
    (k0_off45 ci) S1x512.size (k0_pay186 (S ci).2.1 (View.ld g (Rect.unit (s := S1x2048) (k0_off45 ci) S1x512.size (k0_off45_inb ci))))
/-- The two gradients before the outer trip `k`. -/
def allB (g : S1x1024.Idx → Elt F .f32) : ℕ → S1x1024.Idx → Elt F .f32
  | 0 => g
  | k + 1 => if h : k < k0_t1_loop.trips then addB S ⟨k, h⟩ (allB g k) else allB g k
def allP (g : S1x2048.Idx → Elt F .f32) : ℕ → S1x2048.Idx → Elt F .f32
  | 0 => g
  | k + 1 => if h : k < k0_t1_loop.trips then addP S ⟨k, h⟩ (allP g k) else allP g k
theorem allB_succ (g : S1x1024.Idx → Elt F .f32) (ci : Fin k0_t1_loop.trips) : allB S g (ci.val + 1) = addB S ci (allB S g ci.val) := by
  rw [allB]; exact dif_pos ci.isLt
theorem allP_succ (g : S1x2048.Idx → Elt F .f32) (ci : Fin k0_t1_loop.trips) : allP S g (ci.val + 1) = addP S ci (allP S g ci.val) := by
  rw [allP]; exact dif_pos ci.isLt

end Bias

/-- The sums over a whole block's rows, for each chunk of columns. -/
def Sof (y3 : S256x2048.Idx → Elt F .bf16) (DH DC : Fin k0_t1_loop.trips → Fin k0_t2_loop.trips → FVec F S32x512 .f32) (ci : Fin k0_t1_loop.trips) : Sums F :=
  sums y3 DH DC ci k0_t2_loop.trips

/-! ## The loop -/

section Loops

variable (c : Dev nD) (E : Set ℕ) (i : grid0.Coords) (arg1 : Memref sig .tc .vmem S256x1024 .f32) (harg1 : arg1.IsWhole)
  (arg2 : Memref sig .tc .vmem S32x1024 .f32) (harg2 : arg2.IsWhole) (arg3 : Memref sig .tc .vmem S256x2048 .bf16) (harg3 : arg3.IsWhole)
  (arg4 : Memref sig .tc .vmem S32x2048 .bf16) (harg4 : arg4.IsWhole) (arg5 : Memref sig .tc .vmem S31x1024 .f32) (harg5 : arg5.IsWhole)
  (arg6 : Memref sig .tc .vmem S256x2048 .bf16) (harg6 : arg6.IsWhole) (arg7 : Memref sig .tc .vmem S32x1024 .f32) (harg7 : arg7.IsWhole)
  (arg8 : Memref sig .tc .vmem S1x1024 .f32) (harg8 : arg8.IsWhole) (arg9 : Memref sig .tc .vmem S1x2048 .f32) (harg9 : arg9.IsWhole)
  (arg10 : Memref sig .tc .vmem S8x288x1024 .f32) (harg10 : arg10.IsWhole) (arg11 : Memref sig .tc .vmem S8x288x1024 .f32) (harg11 : arg11.IsWhole)
  (X3 : BufTy.Contents (Elt F) arg3.view.ty) (X5 : BufTy.Contents (Elt F) arg5.view.ty)
  (X10 : BufTy.Contents (Elt F) arg10.view.ty) (X11 : BufTy.Contents (Elt F) arg11.view.ty)

theorem trips : 4 * Scf.trips k0_t3_loop.lb k0_t3_loop.ub k0_t3_loop.st = 32 ∧ 4 * Scf.trips k0_t4_loop.lb k0_t4_loop.ub k0_t4_loop.st = 32
    ∧ 4 * Scf.trips k0_t5_loop.lb k0_t5_loop.ub k0_t5_loop.st = 32 ∧ 4 * Scf.trips k0_t6_loop.lb k0_t6_loop.ub k0_t6_loop.st = 32 := by
  decide +kernel

set_option warn.classDefReducibility false in
@[sl_loop] def chunkLoop (G6 : BufTy.Contents (Elt F) arg6.view.ty) (G7 : BufTy.Contents (Elt F) arg7.view.ty) (G8 : BufTy.Contents (Elt F) arg8.view.ty) (G9 : BufTy.Contents (Elt F) arg9.view.ty) :
    LoopInv (M := 𝕄) frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11) where
  inv k _ := iprop((arg3.view.loc (c : Thread nD τ) ↦[arg3.view.set]{fullShare} X3) ∗ (arg5.view.loc (c : Thread nD τ) ↦[arg5.view.set]{fullShare} X5)
    ∗ (arg10.view.loc (c : Thread nD τ) ↦[arg10.view.set]{fullShare} X10) ∗ (arg11.view.loc (c : Thread nD τ) ↦[arg11.view.set]{fullShare} X11)
    ∗ (∃ f, (arg6.view.loc (c : Thread nD τ) ↦[arg6.view.set]{fullShare} f)
      ∗ ⌜f = arg6.view.writes (Elt F) G6 (allTiles (arg3.view.read (Elt F) X3) (DHof (arg5.view.read (Elt F) X5) (arg11.view.read (Elt F) X11)) k)⌝)
    ∗ (∃ f, (arg7.view.loc (c : Thread nD τ) ↦[arg7.view.set]{fullShare} f)
      ∗ ⌜arg7.view.read (Elt F) f = allW (TPof (arg10.view.read (Elt F) X10) (arg11.view.read (Elt F) X11)) (arg7.view.read (Elt F) G7) k⌝)
    ∗ (∃ f, (arg8.view.loc (c : Thread nD τ) ↦[arg8.view.set]{fullShare} f)
      ∗ ⌜arg8.view.read (Elt F) f = allB (Sof (arg3.view.read (Elt F) X3) (DHof (arg5.view.read (Elt F) X5) (arg11.view.read (Elt F) X11)) (DCof (arg11.view.read (Elt F) X11))) (arg8.view.read (Elt F) G8) k⌝)
    ∗ (∃ f, (arg9.view.loc (c : Thread nD τ) ↦[arg9.view.set]{fullShare} f)
      ∗ ⌜arg9.view.read (Elt F) f = allP (Sof (arg3.view.read (Elt F) X3) (DHof (arg5.view.read (Elt F) X5) (arg11.view.read (Elt F) X11)) (DCof (arg11.view.read (Elt F) X11))) (arg9.view.read (Elt F) G9) k⌝))
  step k acc := by
    have hk : k.val < 2 := Nat.lt_of_lt_of_le k.isLt k0_t1_abs.2.1
    unfold k0_t1_body
    iintro ⟨H3, H5, H10, H11, ⟨%f6, H6, %hf6⟩, ⟨%f7, H7, %hf7⟩, ⟨%f8, H8, %hf8⟩, ⟨%f9, H9, %hf9⟩⟩
    sl_exec
    sl_step
    isplitl [H3]; · iexact H3
    isplitl [H5]; · iexact H5
    isplitl [H10]; · iexact H10
    isplitl [H11]; · iexact H11
    isplitl [H6]
    · iexists _
      isplitl [H6]; · iexact H6
      ipureintro
      rw [allTiles_succ, View.writes_append, ← hf6]
    isplitl [H7]
    · iexists _
      isplitl [H7]; · iexact H7
      ipureintro
      rw [allW, ← hf7]
      iterate 31 rw [View.read_writes_cons_put arg7.view f7 _ _ _ rfl]
      exact
        row_step arg7.view f7 k.val 30 (k0_off111_eq k) (k0_off111_inb k) trips.2.2.2 <|
        row_step arg7.view f7 k.val 29 (k0_off110_eq k) (k0_off110_inb k) trips.2.2.2 <|
        row_step arg7.view f7 k.val 28 (k0_off109_eq k) (k0_off109_inb k) trips.2.2.2 <|
        row_step arg7.view f7 k.val 27 (k0_off108_eq k) (k0_off108_inb k) trips.2.2.2 <|
        row_step arg7.view f7 k.val 26 (k0_off107_eq k) (k0_off107_inb k) trips.2.2.2 <|
        row_step arg7.view f7 k.val 25 (k0_off106_eq k) (k0_off106_inb k) trips.2.2.2 <|
        row_step arg7.view f7 k.val 24 (k0_off105_eq k) (k0_off105_inb k) trips.2.2.2 <|
        row_step arg7.view f7 k.val 23 (k0_off96_eq k) (k0_off96_inb k) trips.2.2.1 <|
        row_step arg7.view f7 k.val 22 (k0_off95_eq k) (k0_off95_inb k) trips.2.2.1 <|
        row_step arg7.view f7 k.val 21 (k0_off94_eq k) (k0_off94_inb k) trips.2.2.1 <|
        row_step arg7.view f7 k.val 20 (k0_off93_eq k) (k0_off93_inb k) trips.2.2.1 <|
        row_step arg7.view f7 k.val 19 (k0_off92_eq k) (k0_off92_inb k) trips.2.2.1 <|
        row_step arg7.view f7 k.val 18 (k0_off91_eq k) (k0_off91_inb k) trips.2.2.1 <|
        row_step arg7.view f7 k.val 17 (k0_off90_eq k) (k0_off90_inb k) trips.2.2.1 <|
        row_step arg7.view f7 k.val 16 (k0_off89_eq k) (k0_off89_inb k) trips.2.2.1 <|
        row_step arg7.view f7 k.val 15 (k0_off79_eq k) (k0_off79_inb k) trips.2.1 <|
        row_step arg7.view f7 k.val 14 (k0_off78_eq k) (k0_off78_inb k) trips.2.1 <|
        row_step arg7.view f7 k.val 13 (k0_off77_eq k) (k0_off77_inb k) trips.2.1 <|
        row_step arg7.view f7 k.val 12 (k0_off76_eq k) (k0_off76_inb k) trips.2.1 <|
        row_step arg7.view f7 k.val 11 (k0_off75_eq k) (k0_off75_inb k) trips.2.1 <|
        row_step arg7.view f7 k.val 10 (k0_off74_eq k) (k0_off74_inb k) trips.2.1 <|
        row_step arg7.view f7 k.val 9 (k0_off73_eq k) (k0_off73_inb k) trips.2.1 <|
        row_step arg7.view f7 k.val 8 (k0_off72_eq k) (k0_off72_inb k) trips.2.1 <|
        row_step arg7.view f7 k.val 7 (k0_off62_eq k) (k0_off62_inb k) trips.1 <|
        row_step arg7.view f7 k.val 6 (k0_off61_eq k) (k0_off61_inb k) trips.1 <|
        row_step arg7.view f7 k.val 5 (k0_off60_eq k) (k0_off60_inb k) trips.1 <|
        row_step arg7.view f7 k.val 4 (k0_off59_eq k) (k0_off59_inb k) trips.1 <|
        row_step arg7.view f7 k.val 3 (k0_off58_eq k) (k0_off58_inb k) trips.1 <|
        row_step arg7.view f7 k.val 2 (k0_off57_eq k) (k0_off57_inb k) trips.1 <|
        row_step arg7.view f7 k.val 1 (k0_off56_eq k) (k0_off56_inb k) trips.1 <|
        row_step arg7.view f7 k.val 0 (k0_off55_eq k) (k0_off55_inb k) trips.1 rfl
    isplitl [H8]
    · iexists _
      isplitl [H8]; · iexact H8
      ipureintro
      rw [allB_succ, ← hf8, View.read_writes_cons_put arg8.view f8 _ _ _ rfl]
      rfl
    iexists _
    isplitl [H9]; · iexact H9
    ipureintro
    rw [allP_succ, ← hf9, View.read_writes_cons_put arg9.view f9 _ _ _ rfl, View.read_writes_cons_put arg9.view f9 _ _ _ rfl]
    rfl

end Loops

end Cert.Proof.Cmid

end
-- ==== Proof.CmidBody.lean ====
module

public import proofs.«01_k».proof.Proof.CmidOuter

/-! The gradient of the middle of the convolution module: what the two scratch buffers hold, and the loops' results in its terms. -/

@[expose] public section

set_option maxRecDepth 8192
set_option maxHeartbeats 1000000

noncomputable section

namespace Cert.Proof.Cmid

open Cert.CmidIdeal Cert.CmidIdeal.Gen Cert.Proof.Planes
open Idealize.ShloMosaic TcCoe Idealize.ShloMosaic.Tactic Idealize.ShloMosaic.Pointwise

variable {F : FTy → Type} [FloatOps F]

/-! ## The loops' results by rows -/

section Rows

variable {R R' : ℕ → Fin 1024 → Elt F .f32}

/-- The partial sums of a tap, by rows. -/
def tapR (R R' : ℕ → Fin 1024 → Elt F .f32) (q ci : ℕ) : ℕ → FVec F S8x512 .f32
  | 0 => k0_pay5
  | n + 1 => addf (tapR R R' q ci n) (mulf (rowsV R' 8 (8 * n) (512 * ci)) (rowsV R 8 (q + 8 * n) (512 * ci)))

theorem tap_rows {y10 y11 : S8x288x1024.Idx → Elt F .f32} (h : Holds R y10) (h' : Holds R' y11) (q ci : ℕ) (hq : q ≤ 32) (n : ℕ) (hn : n ≤ 32) :
    tapV y10 y11 q ci n = tapR R R' q ci n := by
  induction n with
  | zero => rfl
  | succ n ih =>
    rw [tapV, tapR, ih (by omega), pl_rows h (by omega) (by omega) (by omega), pl_rows h' (by omega) (by omega) (by omega),
      show q % 8 + (8 * n + q / 8 * 8) = q + 8 * n by omega, Nat.zero_add]

def DHR (y5 : S31x1024.Idx → Elt F .f32) (R : ℕ → Fin 1024 → Elt F .f32) (ci : Fin k0_t1_loop.trips) (ri : Fin k0_t2_loop.trips) : FVec F S32x512 .f32 :=
  convR qb y5 R ci.val ri.val 30
def DCR (R : ℕ → Fin 1024 → Elt F .f32) (ci : Fin k0_t1_loop.trips) (ri : Fin k0_t2_loop.trips) : FVec F S32x512 .f32 := rowsV R 32 (32 * ri.val) (512 * ci.val)
def TPR (R R' : ℕ → Fin 1024 → Elt F .f32) (ci n : ℕ) : FVec F S8x512 .f32 := tapR R R' (n + 2) ci 32

theorem DH_rows (y5 : S31x1024.Idx → Elt F .f32) {y11 : S8x288x1024.Idx → Elt F .f32} (h : Holds R y11) : DHof y5 y11 = DHR y5 R := by
  funext ci ri
  exact conv_rows qb y5 h ci.val ri.val (Nat.lt_of_lt_of_le ri.isLt k0_t2_abs.2.1) 30 fun k hk => show 30 - k < 33 by omega
theorem DC_rows {y11 : S8x288x1024.Idx → Elt F .f32} (h : Holds R y11) : DCof y11 = DCR R := by
  funext ci ri
  have hr : ri.val < 8 := Nat.lt_of_lt_of_le ri.isLt k0_t2_abs.2.1
  refine (pl_rows h (by omega) (.inl rfl) (by omega)).trans ?_
  rw [Nat.zero_add]; rfl
theorem rowsB_congr {T T' : ℕ → FVec F S8x512 .f32} (c : ℕ) (g : S32x1024.Idx → Elt F .f32) (n : ℕ) (h : ∀ k, k < n → T k = T' k) :
    rowsB T c g n = rowsB T' c g n := by
  induction n with
  | zero => rfl
  | succ n ih => rw [rowsB, rowsB, ih fun k hk => h k (by omega), h n (by omega)]
theorem allW_rows {y10 y11 : S8x288x1024.Idx → Elt F .f32} (h : Holds R y10) (h' : Holds R' y11) (g : S32x1024.Idx → Elt F .f32) (k : ℕ) :
    allW (TPof y10 y11) g k = allW (TPR R R') g k := by
  induction k with
  | zero => rfl
  | succ k ih =>
    rw [allW, allW, ih]
    exact rowsB_congr _ _ _ fun n hn => tap_rows h h' (n + 2) k (by omega) 32 (le_refl _)

end Rows

/-! ## The blocks -/

section Blocks

variable (i : grid0.Coords) (X1 : S256x1024.Idx → Elt F .f32) (X2 : S32x1024.Idx → Elt F .f32) (X3 : S256x2048.Idx → Elt F .bf16)
  (X4 : S32x2048.Idx → Elt F .bf16) (X5 : S31x1024.Idx → Elt F .f32) (X7 : S32x1024.Idx → Elt F .f32) (X8 : S1x1024.Idx → Elt F .f32) (X9 : S1x2048.Idx → Elt F .f32)

/-- The gated rows before the block and the block's own. -/
abbrev hHead : FVec F S32x1024 .f32 :=
  k0_pay222 i (View.ld X4 (Rect.unit (s := S32x2048) ![0, 0] S32x1024.size inb_S32x2048_S32x1024_0_0))
    (View.ld X4 (Rect.unit (s := S32x2048) ![0, 1024] S32x1024.size inb_S32x2048_S32x1024_0_1024))
abbrev hBody : FVec F S256x1024 .f32 :=
  k0_pay223 (View.ld X3 (Rect.unit (s := S256x2048) ![0, 0] S256x1024.size inb_S256x2048_S256x1024_0_0))
    (View.ld X3 (Rect.unit (s := S256x2048) ![0, 1024] S256x1024.size inb_S256x2048_S256x1024_0_1024))
/-- The cotangent's rows: the block's own and those after the block. -/
abbrev dBody : FVec F S1x256x1024 .f32 := k0_pay233 (View.ld X1 (Rect.unit (s := S256x1024) ![0, 0] S256x1024.size inb_S256x1024_S256x1024_0_0))
abbrev dTail : FVec F S1x32x1024 .f32 :=
  k0_pay234 (BitVec.ofNat 32 (i 0).val) (View.ld X2 (Rect.unit (s := S32x1024) ![0, 0] S32x1024.size inb_S32x1024_S32x1024_0_0))

/-- Row `a` of the gated input with thirty-two rows put before the block's, and of the cotangent with thirty-two put after. -/
abbrev hRow : ℕ → Fin 1024 → Elt F .f32 := row2 (hHead i X4) (hBody X3)
def dRow (a : ℕ) (b : Fin 1024) : Elt F .f32 :=
  if h : a < 256 then dBody X1 (ix3 0 ⟨a, h⟩ b) else dTail i X2 (ix3 0 ⟨(a - 256) % 32, Nat.mod_lt _ (by omega)⟩ b)

/-- What the body leaves of the gradient's block, and of the three accumulated gradients. -/
def outO : S256x2048.Idx → Elt F .bf16 := View.canon (allTiles X3 (DHR X5 (dRow i X1 X2)) k0_t1_loop.trips)
def outW : S32x1024.Idx → Elt F .f32 := allW (TPR (hRow i X3 X4) (dRow i X1 X2)) (if (i 0).val = 0 then k0_pay2 else X7) k0_t1_loop.trips
def outB : S1x1024.Idx → Elt F .f32 :=
  allB (Sof X3 (DHR X5 (dRow i X1 X2)) (DCR (dRow i X1 X2))) (if (i 0).val = 0 then k0_pay3 else X8) k0_t1_loop.trips
def outP : S1x2048.Idx → Elt F .f32 :=
  allP (Sof X3 (DHR X5 (dRow i X1 X2)) (DCR (dRow i X1 X2))) (if (i 0).val = 0 then k0_pay4 else X9) k0_t1_loop.trips

end Blocks

/-! ## The scratch buffers hold the shifted rows -/

section Held

variable (i : grid0.Coords) (X1 : S256x1024.Idx → Elt F .f32) (X2 : S32x1024.Idx → Elt F .f32) (X3 : S256x2048.Idx → Elt F .bf16) (X4 : S32x2048.Idx → Elt F .bf16)

theorem dRow_body (r : Fin 256) (b : Fin 1024) : dRow i X1 X2 r.val b = dBody X1 (ix3 0 r b) := dif_pos r.isLt
theorem dRow_tail (r : Fin 32) (b : Fin 1024) : dRow i X1 X2 (256 + r.val) b = dTail i X2 (ix3 0 r b) := by
  unfold dRow
  rw [dif_neg (by omega)]
  exact congrArg (fun z => dTail i X2 (ix3 0 z b)) (Fin.ext (by show (256 + r.val - 256) % 32 = r.val; omega))

def dList : List (View.Piece (Elt F) S8x288x1024 .f32) :=
  [⟨Rect.unit (s := S8x288x1024) ![0, 256, 0] S1x32x1024.size inb_S8x288x1024_S1x32x1024_0_256_0, dTail i X2⟩,
    ⟨Rect.unit (s := S8x288x1024) ![0, 0, 0] S1x256x1024.size inb_S8x288x1024_S1x256x1024_0_0_0, dBody X1⟩]

theorem ix3_zero {n m : ℕ} (x : (⟨3, ![1, n, m]⟩ : Shape).Idx) : x = ix3 0 (x 1) (x 2) :=
  (eq_ix3 x).trans (congrArg (fun z => ix3 z (x 1) (x 2)) (Subsingleton.elim (α := Fin 1) (x 0) 0))

theorem dList_good : Good (dRow i X1 X2) (dList i X1 X2) 0 where
  spec := by
    refine List.forall_mem_cons.mpr ⟨fun x => ?_, List.forall_mem_cons.mpr ⟨fun x => ?_, fun p hp => absurd hp List.not_mem_nil⟩⟩
    · have x0 : (x 0).val < 1 := (x 0).isLt
      refine (congrArg (dTail i X2) (ix3_zero (n := 32) (m := 1024) x)).trans ((dRow_tail i X1 X2 (x 1) (x 2)).symm.trans ?_)
      exact congrArg₂ (dRow i X1 X2) (show 256 + (x 1).val = (0 + 1 * (x 0).val) + (256 + 1 * (x 1).val) by omega)
        (Fin.ext (show (x 2).val = 0 + 1 * (x 2).val by omega))
    · have x0 : (x 0).val < 1 := (x 0).isLt
      refine (congrArg (dBody X1) (ix3_zero (n := 256) (m := 1024) x)).trans ((dRow_body i X1 X2 (x 1) (x 2)).symm.trans ?_)
      exact congrArg₂ (dRow i X1 X2) (show (x 1).val = (0 + 1 * (x 0).val) + (0 + 1 * (x 1).val) by omega)
        (Fin.ext (show (x 2).val = 0 + 1 * (x 2).val by omega))
  cover y hy := by
    have h : (y 0).val = 0 := by rcases hy with hy | hy <;> omega
    have h1 : (y 1).val < 288 := (y 1).isLt
    have h2 : (y 2).val < 1024 := (y 2).isLt
    by_cases ha : (y 1).val < 256
    · refine ⟨_, .tail _ (.head _), mem_unit (inb := inb_S8x288x1024_S1x256x1024_0_0_0) fun a => ?_⟩
      fin_cases a
      · show 0 ≤ (y 0).val ∧ (y 0).val < 0 + 1; omega
      · show 0 ≤ (y 1).val ∧ (y 1).val < 0 + 256; omega
      · show 0 ≤ (y 2).val ∧ (y 2).val < 0 + 1024; omega
    · refine ⟨_, .head _, mem_unit (inb := inb_S8x288x1024_S1x32x1024_0_256_0) fun a => ?_⟩
      fin_cases a
      · show 0 ≤ (y 0).val ∧ (y 0).val < 0 + 1; omega
      · show 256 ≤ (y 1).val ∧ (y 1).val < 256 + 32; omega
      · show 0 ≤ (y 2).val ∧ (y 2).val < 0 + 1024; omega

end Held

/-! ## The tiles cover the block -/

section Cover

variable (y3 : S256x2048.Idx → Elt F .bf16) (DH : Fin k0_t1_loop.trips → Fin k0_t2_loop.trips → FVec F S32x512 .f32)

theorem mem_tiles (ci : Fin k0_t1_loop.trips) (ri : Fin k0_t2_loop.trips) (k : ℕ) (h : ri.val < k) :
    (⟨rG ci ri, truncf .bf16 (dgV y3 ci ri (DH ci ri)) bitsLt_bf16_f32⟩ : View.Piece (Elt F) S256x2048 .bf16) ∈ tiles y3 DH ci k
      ∧ (⟨rA ci ri, truncf .bf16 (daV y3 ci ri (DH ci ri)) bitsLt_bf16_f32⟩ : View.Piece (Elt F) S256x2048 .bf16) ∈ tiles y3 DH ci k := by
  induction k with
  | zero => exact absurd h (Nat.not_lt_zero _)
  | succ k ih =>
    rcases Nat.lt_succ_iff_lt_or_eq.mp h with h' | h'
    · obtain ⟨a, b⟩ := ih h'
      by_cases hk : k < k0_t2_loop.trips
      · rw [tiles_succ y3 DH ci ⟨k, hk⟩]
        exact ⟨.tail _ (.tail _ a), .tail _ (.tail _ b)⟩
      · rw [tiles, dif_neg hk]; exact ⟨a, b⟩
    · subst h'
      rw [tiles_succ]
      exact ⟨.head _, .tail _ (.head _)⟩

theorem mem_allTiles (ci : Fin k0_t1_loop.trips) (k : ℕ) (h : ci.val < k) (p : View.Piece (Elt F) S256x2048 .bf16)
    (hp : p ∈ tiles y3 DH ci k0_t2_loop.trips) : p ∈ allTiles y3 DH k := by
  induction k with
  | zero => exact absurd h (Nat.not_lt_zero _)
  | succ k ih =>
    rcases Nat.lt_succ_iff_lt_or_eq.mp h with h' | h'
    · rw [allTiles]
      by_cases hk : k < k0_t1_loop.trips
      · rw [dif_pos hk]; exact List.mem_append_right _ (ih h')
      · rw [dif_neg hk]; exact ih h'
    · subst h'
      rw [allTiles_succ]
      exact List.mem_append_left _ hp

/-- Each place of the block is in a tile. -/
theorem cover (y : S256x2048.Idx) : ∃ p ∈ allTiles y3 DH k0_t1_loop.trips, y ∈ p.1.set := by
  have h0 : (y 0).val < 256 := (y 0).isLt
  have h1 : (y 1).val < 2048 := (y 1).isLt
  have t1 : k0_t1_loop.trips = 2 := by decide +kernel
  have t2 : k0_t2_loop.trips = 8 := by decide +kernel
  let ri : Fin k0_t2_loop.trips := ⟨(y 0).val / 32, by omega⟩
  let ci : Fin k0_t1_loop.trips := ⟨(y 1).val % 1024 / 512, by omega⟩
  obtain ⟨a, b⟩ := mem_tiles y3 DH ci ri _ ri.isLt
  have hri : ri.val = (y 0).val / 32 := rfl
  have hci : ci.val = (y 1).val % 1024 / 512 := rfl
  by_cases hB : (y 1).val < 1024
  · refine ⟨_, mem_allTiles y3 DH ci _ ci.isLt _ b, ?_⟩
    refine mem_unit (inb := k0_off40_inb ci ri) fun a => ?_
    rw [k0_off40_eq]
    fin_cases a
    · show 32 * ri.val ≤ (y 0).val ∧ (y 0).val < 32 * ri.val + 32; omega
    · show 512 * ci.val ≤ (y 1).val ∧ (y 1).val < 512 * ci.val + 512; omega
  · refine ⟨_, mem_allTiles y3 DH ci _ ci.isLt _ a, ?_⟩
    refine mem_unit (inb := k0_off41_inb ci ri) fun a => ?_
    rw [k0_off41_eq]
    fin_cases a
    · show 32 * ri.val ≤ (y 0).val ∧ (y 0).val < 32 * ri.val + 32; omega
    · show 512 * ci.val + 1024 ≤ (y 1).val ∧ (y 1).val < 512 * ci.val + 1024 + 512; omega

end Cover

end Cert.Proof.Cmid

end
-- ==== Proof.CmidMath.lean ====
/- The gradient of the middle of the convolution module, as numbers: what both programs compute. -/
module

public import proofs.«01_k».proof.Proof.SconvMath

@[expose] public section

noncomputable section

namespace Cert.Proof.Cmid

open Idealize.ShloMosaic

/-- Column `b` of the value, and of its gate. -/
def colA (b : Fin 1024) : Fin 2048 := ⟨b.val, by omega⟩
@[inherit_doc colA] def colG (b : Fin 1024) : Fin 2048 := ⟨1024 + b.val, by omega⟩

section

variable (A : Fin 4096 → Fin 2048 → EReal) (W : Fin 31 → Fin 1024 → EReal) (P : Fin 4096 → Fin 1024 → EReal)

/-- The gate's logistic, and the gated value. -/
def gate (s : Fin 4096) (b : Fin 1024) : EReal := Ideal.logistic (A s (colG b))
def gated (s : Fin 4096) (b : Fin 1024) : EReal := A s (colA b) * gate A s b

/-- The gated value with thirty rows of zeros before it, and the cotangent with zeros after it. -/
def past (n : ℕ) (b : Fin 1024) : EReal := if h : 30 ≤ n ∧ n - 30 < 4096 then gated A ⟨n - 30, h.2⟩ b else 0
def next (n : ℕ) (b : Fin 1024) : EReal := if h : n < 4096 then P ⟨n, h⟩ b else 0

/-- Row `k` of the filter. -/
def tap (k : ℕ) (b : Fin 1024) : EReal := W ⟨k % 31, Nat.mod_lt _ (by omega)⟩ b
/-- The gradient of the gated value. -/
def back (n : ℕ) (b : Fin 1024) : EReal := ∑ k ∈ Finset.range 31, tap W k b * next P (n + (30 - k)) b

/-- The gradients of the value and of its gate, side by side. -/
def gradA (s : Fin 4096) (k : Fin 2048) : EReal :=
  if h : k.val < 1024 then back W P s.val ⟨k.val, h⟩ * gate A s ⟨k.val, h⟩
  else back W P s.val ⟨k.val - 1024, by omega⟩ * A s (colA ⟨k.val - 1024, by omega⟩) * gate A s ⟨k.val - 1024, by omega⟩ * (1 - gate A s ⟨k.val - 1024, by omega⟩)
/-- by the row's number, zero past the last. -/
def rowA (k : Fin 2048) (n : ℕ) : EReal := if h : n < 4096 then gradA A W P ⟨n, h⟩ k else 0

/-- One row's part of the filter's gradient. -/
def term (j : ℕ) (b : Fin 1024) (n : ℕ) : EReal := next P n b * past A (n + j) b
/-- The filter's gradient, a row of zeros after it. -/
def gradW (j : Fin 32) (b : Fin 1024) : EReal := if j.val < 31 then ∑ n ∈ Finset.range 4096, term A P j.val b n else 0
/-- The two biases' gradients. -/
def gradB (b : Fin 1024) : EReal := ∑ n ∈ Finset.range 4096, next P n b
def gradP (k : Fin 2048) : EReal := ∑ n ∈ Finset.range 4096, rowA A W P k n

theorem gradA_A (s : Fin 4096) (b : Fin 1024) : gradA A W P s (colA b) = back W P s.val b * gate A s b := by
  unfold gradA
  rw [dif_pos (show (colA b).val < 1024 from b.isLt)]
  rfl
theorem gradA_G (s : Fin 4096) (b : Fin 1024) : gradA A W P s (colG b) = back W P s.val b * A s (colA b) * gate A s b * (1 - gate A s b) := by
  have e : (⟨(colG b).val - 1024, by show 1024 + b.val - 1024 < 1024; omega⟩ : Fin 1024) = b := Fin.ext (by show 1024 + b.val - 1024 = b.val; omega)
  unfold gradA
  rw [dif_neg (show ¬(colG b).val < 1024 from (by omega : ¬(1024 + b.val < 1024))), e]

/-- Each column is of one of the two parts. -/
theorem col_cases (k : Fin 2048) : (∃ b, k = colA b) ∨ ∃ b, k = colG b := by
  have hk := k.isLt
  by_cases h : k.val < 1024
  · exact .inl ⟨⟨k.val, h⟩, rfl⟩
  · exact .inr ⟨⟨k.val - 1024, by omega⟩, Fin.ext (by show k.val = 1024 + (k.val - 1024); omega)⟩

end

/-- A block's 256 rows, eight at a time, the eights' sums last. -/
theorem sum_eights {M : Type} [AddCommMonoid M] (T : ℕ → M) :
    ∑ q ∈ Finset.range 8, ∑ i ∈ Finset.range 32, T (8 * i + q) = ∑ s ∈ Finset.range 256, T s := by
  rw [Finset.sum_comm, ← Sconv.sum_stretches 32 8 T]

/-- A running sum over the blocks. -/
theorem acc_sum {N : ℕ} (T : ℕ → EReal) (f : (n : ℕ) → n < N → EReal) (h0 : ∀ h, f 0 h = ∑ s ∈ Finset.range 256, T s)
    (hs : ∀ n (h : n + 1 < N), f (n + 1) h = f n (Nat.lt_of_succ_lt h) + ∑ s ∈ Finset.range 256, T (256 * (n + 1) + s)) (n : ℕ) (h : n < N) :
    f n h = ∑ s ∈ Finset.range (256 * (n + 1)), T s := by
  rw [← Sconv.sum_stretches (n + 1) 256]
  induction n with
  | zero => rw [h0, Finset.sum_range_one]; simp only [Nat.mul_zero, Nat.zero_add]
  | succ n ih => rw [hs, ih, Finset.sum_range_succ _ (n + 1)]

end Cert.Proof.Cmid

end
-- ==== Proof.CmidVal.lean ====
/- The gradient of the middle of the convolution module: what one grid point leaves, as numbers. -/
module

public import proofs.«01_k».proof.Proof.CmidBody
public import proofs.«01_k».proof.Proof.CmidMath

@[expose] public section

set_option maxRecDepth 16384
set_option maxHeartbeats 1000000

noncomputable section

namespace Cert.Proof.Cmid

open Cert.CmidIdeal Cert.CmidIdeal.Gen Cert.Proof.Planes
open Idealize.ShloMosaic TcCoe Idealize.SL.Sem

/-! ## The payloads -/

section pay

theorem head_pay (t : ℕ) (ht : t < 16) (i : grid0.Coords) (hi : (i 0).val = t) (u v : FVec Ideal S32x1024 .bf16) (r : Fin 32) (b : Fin 1024) :
    k0_pay222 (F := Ideal) i u v (ix2 r b) = if t = 0 then 0 else u (ix2 r b) * Ideal.logistic (v (ix2 r b)) := by
  pointwise [k0_pay222]
  rw [hi]
  have key : ∀ n : Fin 16, (Scalar.cmpi .sgt (BitVec.ofNat 32 n.val) 0#32 = 1#1) ↔ ¬n.val = 0 := by decide +kernel
  by_cases h : t = 0
  · rw [if_pos h]; exact if_neg (fun e => (key ⟨t, ht⟩).mp e h)
  · rw [if_neg h]; exact if_pos ((key ⟨t, ht⟩).mpr h)

theorem body_pay (u v : FVec Ideal S256x1024 .bf16) (r : Fin 256) (b : Fin 1024) :
    k0_pay223 (F := Ideal) u v (ix2 r b) = u (ix2 r b) * Ideal.logistic (v (ix2 r b)) := by
  pointwise [k0_pay223]

theorem dbody_pay (u : FVec Ideal S256x1024 .f32) (r : Fin 256) (b : Fin 1024) : k0_pay233 (F := Ideal) u (ix3 0 r b) = u (ix2 r b) := by
  pointwise [k0_pay233]

theorem tail_pay (t : ℕ) (ht : t < 16) (u : FVec Ideal S32x1024 .f32) (r : Fin 32) (b : Fin 1024) :
    k0_pay234 (F := Ideal) (BitVec.ofNat 32 t) u (ix3 0 r b) = if t = 15 then 0 else u (ix2 r b) := by
  pointwise [k0_pay234]
  have key : ∀ n : Fin 16, (Scalar.cmpi .slt (BitVec.ofNat 32 n.val) 15#32 = 1#1) ↔ ¬n.val = 15 := by decide +kernel
  by_cases h : t = 15
  · rw [if_pos h]; exact if_neg (fun e => (key ⟨t, ht⟩).mp e h)
  · rw [if_neg h]; exact if_pos ((key ⟨t, ht⟩).mpr h)

variable (acc : FVec Ideal S8x512 .f32) (q : Fin 8) (l : Fin 512) (w : FVec Ideal S1x512 .f32)

theorem gate_pay (u : FVec Ideal S32x512 .bf16) (r : Fin 32) : k0_pay18 (F := Ideal) u (ix2 r l) = Ideal.logistic (u (ix2 r l)) := by
  pointwise [k0_pay18]
theorem gate_grad (D G : FVec Ideal S32x512 .f32) (u : FVec Ideal S32x512 .bf16) (r : Fin 32) :
    mulf (mulf (mulf D (extf .f32 (shapeCast S32x512 u shapeCasts_S32x512_S32x512) bitsLt_bf16_f32)) G)
      (subf (broadcast S32x512 (Scalar.ofBits .f32 0x3F800000#32)) G) (ix2 r l)
      = D (ix2 r l) * u (ix2 r l) * G (ix2 r l) * (1 - G (ix2 r l)) := by
  pointwise
theorem fold_pay (X : FVec Ideal S32x512 .f32) :
    fold4 acc X (ix2 q l) = acc (ix2 q l) + (X (ix2 ⟨q.val, by omega⟩ l) + X (ix2 ⟨8 + q.val, by omega⟩ l) + X (ix2 ⟨16 + q.val, by omega⟩ l) + X (ix2 ⟨24 + q.val, by omega⟩ l)) := by
  pointwise [fold4]
theorem row_pay : k0_pay6 (F := Ideal) acc w (ix2 0 l) = w (ix2 0 l) + ∑ q, acc (ix2 q l) := by
  pointwise [k0_pay6]
theorem dhc_pay : k0_pay184 (F := Ideal) acc w (ix2 0 l) = w (ix2 0 l) + ∑ q, acc (ix2 q l) := by
  pointwise [k0_pay184]
theorem da_pay : k0_pay185 (F := Ideal) acc w (ix2 0 l) = w (ix2 0 l) + ∑ q, acc (ix2 q l) := by
  pointwise [k0_pay185]
theorem dgate_pay : k0_pay186 (F := Ideal) acc w (ix2 0 l) = w (ix2 0 l) + ∑ q, acc (ix2 q l) := by
  pointwise [k0_pay186]
theorem zero_pay2 (j : Fin 32) (b : Fin 1024) : k0_pay2 (F := Ideal) (ix2 j b) = 0 := by
  pointwise [k0_pay2]
theorem zero_pay3 (b : Fin 1024) : k0_pay3 (F := Ideal) (ix2 0 b) = 0 := by
  pointwise [k0_pay3]
theorem zero_pay4 (b : Fin 2048) : k0_pay4 (F := Ideal) (ix2 0 b) = 0 := by
  pointwise [k0_pay4]
theorem zero_pay5 : k0_pay5 (F := Ideal) (ix2 q l) = 0 := by
  pointwise [k0_pay5]

end pay

/-! ## The rows before, in and after a block -/

/-- What a point finds in its blocks. -/
structure Finds (A : Fin 4096 → Fin 2048 → EReal) (W : Fin 31 → Fin 1024 → EReal) (P : Fin 4096 → Fin 1024 → EReal) (t : ℕ) (ht : t < 16)
    (X1 : S256x1024.Idx → Elt Ideal .f32) (X2 : S32x1024.Idx → Elt Ideal .f32) (X3 : S256x2048.Idx → Elt Ideal .bf16)
    (X4 : S32x2048.Idx → Elt Ideal .bf16) (X5 : S31x1024.Idx → Elt Ideal .f32) : Prop where
  h1 : ∀ (r : Fin 256) b, X1 (ix2 r b) = P ⟨t * 256 + r.val, by omega⟩ b
  h2 : ∀ (r : Fin 32) b, (h : t ≠ 15) → X2 (ix2 r b) = P ⟨(t + 1) * 256 + r.val, by omega⟩ b
  h3 : ∀ (r : Fin 256) k, X3 (ix2 r k) = A ⟨t * 256 + r.val, by omega⟩ k
  h4 : ∀ (r : Fin 32) k, (h : t ≠ 0) → X4 (ix2 r k) = A ⟨t * 256 + r.val - 32, by omega⟩ k
  h5 : ∀ j b, X5 (ix2 j b) = W j b

/-- A tile of a block, at its offsets. -/
theorem tile_ld {R N n m : ℕ} {e : EltTy} (B : (⟨2, ![R, N]⟩ : Shape).Idx → Elt Ideal e) (off : Fin 2 → ℕ) (inb) (r : Fin n) (l : Fin m) (r' : Fin R) (k : Fin N)
    (h0 : r'.val = off 0 + r.val) (h1 : k.val = off 1 + l.val) :
    View.ld (Val := Elt Ideal) (e' := e) B (Rect.unit (s := ⟨2, ![R, N]⟩) off ![n, m] inb) (ix2 r l) = B (ix2 r' k) := by
  refine congrArg B (funext (Fin.forall_fin_two.2 ⟨Fin.ext ?_, Fin.ext ?_⟩))
  · show off 0 + 1 * r.val = r'.val; omega
  · show off 1 + 1 * l.val = k.val; omega

theorem trips1 : k0_t1_loop.trips = 2 := by decide +kernel
theorem trips2 : k0_t2_loop.trips = 8 := by decide +kernel

/-- Column `l` of chunk `ci`, and row `r` of tile `ri` of the block. -/
def col (ci : Fin k0_t1_loop.trips) (l : Fin 512) : Fin 1024 := ⟨512 * ci.val + l.val, by have := ci.isLt.trans_eq trips1; omega⟩
def tileRow (ri : Fin k0_t2_loop.trips) (r : Fin 32) : Fin 256 := ⟨32 * ri.val + r.val, by have := ri.isLt.trans_eq trips2; omega⟩
/-- Row `r` of the block is this row of all. -/
abbrev srow (t : ℕ) (ht : t < 16) (r : Fin 256) : Fin 4096 := ⟨t * 256 + r.val, by omega⟩

section rows

variable (A : Fin 4096 → Fin 2048 → EReal) (W : Fin 31 → Fin 1024 → EReal) (P : Fin 4096 → Fin 1024 → EReal)
  (t : ℕ) (ht : t < 16) (i : grid0.Coords) (hi : (i 0).val = t)
  (X1 : S256x1024.Idx → Elt Ideal .f32) (X2 : S32x1024.Idx → Elt Ideal .f32) (X3 : S256x2048.Idx → Elt Ideal .bf16)
  (X4 : S32x2048.Idx → Elt Ideal .bf16) (X5 : S31x1024.Idx → Elt Ideal .f32)
  (H : Finds A W P t ht X1 X2 X3 X4 X5)

include H hi in
theorem hRow_eq (a : ℕ) (ha : 2 ≤ a) (ha' : a < 288) (b : Fin 1024) : hRow (F := Ideal) i X3 X4 a b = past A (t * 256 + a - 2) b := by
  by_cases h : a < 32
  · refine (row2_head _ _ a b h).trans ((head_pay t ht i hi _ _ ⟨a, h⟩ b).trans ?_)
    by_cases h0 : t = 0
    · rw [if_pos h0, past, dif_neg (by omega)]
    · rw [if_neg h0, past, dif_pos (by omega), cols_ld 0 _ _ b (colA b) (by show b.val = _; omega), cols_ld 1024 _ _ b (colG b) rfl, H.h4 _ _ h0, H.h4 _ _ h0, gated, gate]
      simp only [show t * 256 + a - 2 - 30 = t * 256 + a - 32 by omega]
  · obtain ⟨r, rfl⟩ : ∃ r, a = 32 + r := ⟨a - 32, by omega⟩
    refine (row2_body _ _ ⟨r, by omega⟩ b).trans ((body_pay _ _ _ b).trans ?_)
    rw [past, dif_pos (by omega), cols_ld 0 _ _ b (colA b) (by show b.val = _; omega), cols_ld 1024 _ _ b (colG b) rfl, H.h3, H.h3, gated, gate]
    simp only [show t * 256 + (32 + r) - 2 - 30 = t * 256 + r by omega]

include H hi in
theorem dRow_eq (a : ℕ) (ha : a < 288) (b : Fin 1024) : dRow (F := Ideal) i X1 X2 a b = next P (t * 256 + a) b := by
  by_cases h : a < 256
  · refine (dRow_body i X1 X2 ⟨a, h⟩ b).trans ((dbody_pay _ _ b).trans ?_)
    rw [next, dif_pos (by omega), cols_ld 0 _ _ b b (by omega), H.h1]
  · obtain ⟨r, rfl⟩ : ∃ r, a = 256 + r := ⟨a - 256, by omega⟩
    refine (dRow_tail i X1 X2 ⟨r, by omega⟩ b).trans ?_
    unfold dTail
    rw [hi]
    refine (tail_pay t ht _ ⟨r, by omega⟩ b).trans ?_
    by_cases h0 : t = 15
    · rw [if_pos h0, next, dif_neg (by omega)]
    · rw [if_neg h0, next, dif_pos (by omega), cols_ld 0 _ _ b b (by omega), H.h2 _ _ h0]
      simp only [show t * 256 + (256 + r) = (t + 1) * 256 + r by omega]

variable (ci : Fin k0_t1_loop.trips) (ri : Fin k0_t2_loop.trips)

include H hi in
theorem drows_eq (n a : ℕ) (r : Fin n) (l : Fin 512) (h : a + r.val < 288) :
    rowsV (dRow (F := Ideal) i X1 X2) n a (512 * ci.val) (ix2 r l) = next P (t * 256 + (a + r.val)) (col ci l) := by
  have hc := ci.isLt.trans_eq trips1
  rw [← dRow_eq A W P t ht i hi X1 X2 X3 X4 X5 H (a + r.val) h]
  exact congrArg (dRow i X1 X2 (a + r.val)) (Fin.ext (show (512 * ci.val + l.val) % 1024 = 512 * ci.val + l.val by omega))
include H hi in
theorem hrows_eq (n a : ℕ) (r : Fin n) (l : Fin 512) (h2 : 2 ≤ a) (h : a + r.val < 288) :
    rowsV (hRow (F := Ideal) i X3 X4) n a (512 * ci.val) (ix2 r l) = past A (t * 256 + (a + r.val) - 2) (col ci l) := by
  have hc := ci.isLt.trans_eq trips1
  rw [← hRow_eq A W P t ht i hi X1 X2 X3 X4 X5 H (a + r.val) (by omega) h]
  exact congrArg (hRow i X3 X4 (a + r.val)) (Fin.ext (show (512 * ci.val + l.val) % 1024 = 512 * ci.val + l.val by omega))
include H in
theorem fl_eq (k : ℕ) (r : Fin 32) (l : Fin 512) : fl (F := Ideal) 32 X5 k (512 * ci.val) (ix2 r l) = tap W k (col ci l) := by
  have hc := ci.isLt.trans_eq trips1
  unfold tap
  rw [← H.h5]
  exact congrArg (fun z : Fin 1024 => X5 (ix2 _ z)) (Fin.ext (show (512 * ci.val + l.val) % 1024 = 512 * ci.val + l.val by omega))

include H hi in
theorem conv_eq (r : Fin 32) (l : Fin 512) (n : ℕ) (hn : n ≤ 30) :
    convR qb X5 (dRow (F := Ideal) i X1 X2) ci.val ri.val n (ix2 r l)
      = ∑ k ∈ Finset.range (n + 1), tap W k (col ci l) * next P (t * 256 + (tileRow ri r).val + (30 - k)) (col ci l) := by
  have hr := ri.isLt.trans_eq trips2
  have key : ∀ k, k ≤ 30 → mulf (fl (F := Ideal) 32 X5 k (512 * ci.val)) (rowsV (dRow i X1 X2) 32 (30 - k + 32 * ri.val) (512 * ci.val)) (ix2 r l)
      = tap W k (col ci l) * next P (t * 256 + (tileRow ri r).val + (30 - k)) (col ci l) := fun k hk => by
    refine congrArg₂ (· * ·) (fl_eq A W P t ht X1 X2 X3 X4 X5 H ci k r l) ((drows_eq A W P t ht i hi X1 X2 X3 X4 X5 H ci 32 _ r l (by omega)).trans ?_)
    exact congrArg (fun z => next P z (col ci l)) (show t * 256 + (30 - k + 32 * ri.val + r.val) = t * 256 + (32 * ri.val + r.val) + (30 - k) by omega)
  induction n with
  | zero => rw [Finset.sum_range_one, ← key 0 (by omega)]; rfl
  | succ n ih => rw [Finset.sum_range_succ, ← key (n + 1) hn, ← ih (by omega)]; rfl

include H hi in
theorem DH_eq (r : Fin 32) (l : Fin 512) : DHR X5 (dRow (F := Ideal) i X1 X2) ci ri (ix2 r l) = back W P (t * 256 + (tileRow ri r).val) (col ci l) :=
  conv_eq A W P t ht i hi X1 X2 X3 X4 X5 H ci ri r l 30 le_rfl
include H hi in
theorem DC_eq (r : Fin 32) (l : Fin 512) : DCR (dRow (F := Ideal) i X1 X2) ci ri (ix2 r l) = next P (t * 256 + (tileRow ri r).val) (col ci l) := by
  have hr := ri.isLt.trans_eq trips2
  exact drows_eq A W P t ht i hi X1 X2 X3 X4 X5 H ci 32 _ r l (by omega)

include H in
theorem gate_eq (r : Fin 32) (l : Fin 512) : k0_pay18 (F := Ideal) (View.ld X3 (rG ci ri)) (ix2 r l) = gate A (srow t ht (tileRow ri r)) (col ci l) := by
  rw [gate_pay, tile_ld X3 (k0_off41 ci ri) _ r l (tileRow ri r) (colG (col ci l)) (by rw [k0_off41_eq]; rfl)
    (by rw [k0_off41_eq]; show 1024 + (512 * ci.val + l.val) = 512 * ci.val + 1024 + l.val; omega), H.h3]
  rfl

include H hi in
theorem da_eq (r : Fin 32) (l : Fin 512) :
    daV (F := Ideal) X3 ci ri (DHR X5 (dRow i X1 X2) ci ri) (ix2 r l) = gradA A W P (srow t ht (tileRow ri r)) (colA (col ci l)) := by
  rw [gradA_A, ← gate_eq A W P t ht X1 X2 X3 X4 X5 H, ← DH_eq A W P t ht i hi X1 X2 X3 X4 X5 H]
  rfl
include H hi in
theorem dg_eq (r : Fin 32) (l : Fin 512) :
    dgV (F := Ideal) X3 ci ri (DHR X5 (dRow i X1 X2) ci ri) (ix2 r l) = gradA A W P (srow t ht (tileRow ri r)) (colG (col ci l)) := by
  unfold dgV
  refine (gate_grad l _ _ _ r).trans ?_
  rw [gradA_G, gate_eq A W P t ht X1 X2 X3 X4 X5 H, DH_eq A W P t ht i hi X1 X2 X3 X4 X5 H,
    tile_ld X3 (k0_off40 ci ri) _ r l (tileRow ri r) (colA (col ci l)) (by rw [k0_off40_eq]; rfl) (by rw [k0_off40_eq]; rfl), H.h3]

/-! ## The gradient's block -/

/-- The block of the gradient, as a function of its place. -/
def blockG (y : S256x2048.Idx) : Elt Ideal .bf16 := gradA A W P (srow t ht (y 0)) (y 1)

/-- A tile stored at its offsets is a part of the block. -/
theorem tile_part (off : Fin 2 → ℕ) (inb) (w : FVec Ideal S32x512 .bf16) (f : Fin 512 → Fin 2048) (h0 : off 0 = 32 * ri.val) (h1 : ∀ l, (f l).val = off 1 + l.val)
    (hw : ∀ r l, w (ix2 r l) = gradA A W P (srow t ht (tileRow ri r)) (f l))
    (x : (Rect.unit (s := S256x2048) off S32x512.size inb).shape.Idx) :
    w x = blockG A W P t ht ((Rect.unit (s := S256x2048) off S32x512.size inb).emb x) := by
  refine (congrArg w (eq_ix2 (n0 := 32) (n1 := 512) x)).trans ((hw (x 0) (x 1)).trans ?_)
  unfold blockG
  refine congrArg₂ (gradA A W P) (Fin.ext ?_) (Fin.ext ?_)
  · show t * 256 + (32 * ri.val + (x 0).val) = t * 256 + (off 0 + 1 * (x 0).val); omega
  · exact (h1 (x 1)).trans (show off 1 + (x 1).val = off 1 + 1 * (x 1).val by omega)

include H hi in
theorem tiles_spec (k : ℕ) : ∀ p ∈ tiles (F := Ideal) X3 (DHR X5 (dRow i X1 X2)) ci k, ∀ x : p.1.shape.Idx, p.2 x = blockG A W P t ht (p.1.emb x) := by
  induction k with
  | zero => exact fun p hp => absurd hp List.not_mem_nil
  | succ k ih =>
    by_cases h : k < k0_t2_loop.trips
    · rw [tiles_succ _ _ ci ⟨k, h⟩]
      refine List.forall_mem_cons.mpr ⟨?_, List.forall_mem_cons.mpr ⟨?_, ih⟩⟩
      · exact tile_part A W P t ht ⟨k, h⟩ _ (k0_off41_inb ci ⟨k, h⟩) _ (fun l => colG (col ci l)) (by rw [k0_off41_eq]; rfl)
          (fun l => by rw [k0_off41_eq]; show 1024 + (512 * ci.val + l.val) = 512 * ci.val + 1024 + l.val; omega)
          (dg_eq A W P t ht i hi X1 X2 X3 X4 X5 H ci ⟨k, h⟩)
      · exact tile_part A W P t ht ⟨k, h⟩ _ (k0_off40_inb ci ⟨k, h⟩) _ (fun l => colA (col ci l)) (by rw [k0_off40_eq]; rfl) (fun l => by rw [k0_off40_eq]; rfl)
          (da_eq A W P t ht i hi X1 X2 X3 X4 X5 H ci ⟨k, h⟩)
    · rw [tiles, dif_neg h]; exact ih

include H hi in
theorem allTiles_spec (k : ℕ) : ∀ p ∈ allTiles (F := Ideal) X3 (DHR X5 (dRow i X1 X2)) k, ∀ x : p.1.shape.Idx, p.2 x = blockG A W P t ht (p.1.emb x) := by
  induction k with
  | zero => exact fun p hp => absurd hp List.not_mem_nil
  | succ k ih =>
    rw [allTiles]
    by_cases h : k < k0_t1_loop.trips
    · rw [dif_pos h]
      exact List.forall_mem_append.mpr ⟨tiles_spec A W P t ht i hi X1 X2 X3 X4 X5 H ⟨k, h⟩ _, ih⟩
    · rw [dif_neg h]; exact ih

include H hi in
/-- The block of the gradient that a point leaves. -/
theorem outO_eq (y : S256x2048.Idx) : outO (F := Ideal) i X1 X2 X3 X5 y = gradA A W P (srow t ht (y 0)) (y 1) :=
  View.canon_apply_of_pieces (blockG A W P t ht) _ (allTiles_spec A W P t ht i hi X1 X2 X3 X4 X5 H _) y (cover _ _ y)

end rows

end Cert.Proof.Cmid

end
-- ==== Proof.CmidSum.lean ====
/- The gradient of the middle of the convolution module: what one grid point adds to the sums over the rows. -/
module

public import proofs.«01_k».proof.Proof.CmidVal

@[expose] public section

set_option maxRecDepth 16384
set_option maxHeartbeats 1000000

noncomputable section

namespace Cert.Proof.Cmid

open Cert.CmidIdeal Cert.CmidIdeal.Gen Cert.Proof.Planes
open Idealize.ShloMosaic TcCoe Idealize.SL.Sem

/-! ## A stretch of a row put over an array -/

theorem put_row {R N : ℕ} (g : (⟨2, ![R, N]⟩ : Shape).Idx → Elt Ideal .f32) (off : Fin 2 → ℕ) (n c : ℕ) (h : off = ![n, c]) (w : FVec Ideal S1x512 .f32) (j : Fin R) (b : Fin N) :
    VecWindow.put g off S1x512.size w (ix2 j b)
      = if h : j.val = n ∧ c ≤ b.val ∧ b.val < c + 512 then w (ix2 0 ⟨b.val - c, by omega⟩) else g (ix2 j b) := by
  subst h
  unfold VecWindow.put
  by_cases hb : j.val = n ∧ c ≤ b.val ∧ b.val < c + 512
  · have hh : ∀ a, (![n, c] : Fin 2 → ℕ) a ≤ ((ix2 j b : (⟨2, ![R, N]⟩ : Shape).Idx) a).val ∧ ((ix2 j b : (⟨2, ![R, N]⟩ : Shape).Idx) a).val < (![n, c] : Fin 2 → ℕ) a + S1x512.size a :=
      Fin.forall_fin_two.2 ⟨(⟨by omega, by omega⟩ : n ≤ j.val ∧ j.val < n + 1), hb.2⟩
    rw [dif_pos hh, dif_pos hb]
    exact congrArg w (funext (Fin.forall_fin_two.2 ⟨Fin.ext (show j.val - n = 0 by omega), rfl⟩))
  · rw [dif_neg hb, dif_neg]
    intro hh
    have h0 : n ≤ j.val ∧ j.val < n + 1 := hh 0
    exact hb ⟨by omega, hh 1⟩

/-- A stretch of the one row put back with more added. -/
theorem put_add {N : ℕ} (g g' : (⟨2, ![1, N]⟩ : Shape).Idx → Elt Ideal .f32) (off : Fin 2 → ℕ) (inb) (c : ℕ) (h : off = ![0, c]) (w : FVec Ideal S1x512 .f32) (s : Fin 512 → EReal)
    (hw : ∀ l, w (ix2 0 l) = View.ld (Val := Elt Ideal) (e' := .f32) g (Rect.unit (s := ⟨2, ![1, N]⟩) off S1x512.size inb) (ix2 0 l) + s l) (b : Fin N) :
    VecWindow.put g' off S1x512.size w (ix2 0 b)
      = if h : c ≤ b.val ∧ b.val < c + 512 then g (ix2 0 b) + s ⟨b.val - c, by omega⟩ else g' (ix2 0 b) := by
  rw [put_row g' off 0 c h w 0 b]
  by_cases hb : c ≤ b.val ∧ b.val < c + 512
  · rw [dif_pos ⟨rfl, hb⟩, dif_pos hb, hw]
    subst h
    exact congrArg (· + _) (tile_ld (n := 1) (m := 512) g ![0, c] inb 0 ⟨b.val - c, by omega⟩ 0 b rfl (by show b.val = c + (b.val - c); omega))
  · rw [dif_neg (fun e => hb e.2), dif_neg hb]

theorem addB_eq (S : Fin k0_t1_loop.trips → Sums Ideal) (ci : Fin k0_t1_loop.trips) (g : S1x1024.Idx → Elt Ideal .f32) (b : Fin 1024) :
    addB S ci g (ix2 0 b) = if h : 512 * ci.val ≤ b.val ∧ b.val < 512 * ci.val + 512 then g (ix2 0 b) + ∑ q, (S ci).2.2 (ix2 q ⟨b.val - 512 * ci.val, by omega⟩)
      else g (ix2 0 b) :=
  put_add g g (k0_off43 ci) (k0_off43_inb ci) (512 * ci.val) (k0_off43_eq ci) _ (fun l => ∑ q, (S ci).2.2 (ix2 q l)) (fun l => dhc_pay _ l _) b

theorem addP_eq (S : Fin k0_t1_loop.trips → Sums Ideal) (ci : Fin k0_t1_loop.trips) (g : S1x2048.Idx → Elt Ideal .f32) (b : Fin 2048) :
    addP S ci g (ix2 0 b)
      = if h : 512 * ci.val + 1024 ≤ b.val ∧ b.val < 512 * ci.val + 1024 + 512 then g (ix2 0 b) + ∑ q, (S ci).2.1 (ix2 q ⟨b.val - (512 * ci.val + 1024), by omega⟩)
        else if h : 512 * ci.val ≤ b.val ∧ b.val < 512 * ci.val + 512 then g (ix2 0 b) + ∑ q, (S ci).1 (ix2 q ⟨b.val - 512 * ci.val, by omega⟩)
        else g (ix2 0 b) := by
  unfold addP
  rw [put_add g _ (k0_off45 ci) (k0_off45_inb ci) (512 * ci.val + 1024) (k0_off45_eq ci) _ (fun l => ∑ q, (S ci).2.1 (ix2 q l)) (fun l => dgate_pay _ l _) b,
    put_add g g (k0_off44 ci) (k0_off44_inb ci) (512 * ci.val) (k0_off44_eq ci) _ (fun l => ∑ q, (S ci).1 (ix2 q l)) (fun l => da_pay _ l _) b]

theorem rowsB_eq (T : ℕ → FVec Ideal S8x512 .f32) (c : ℕ) (hc : c + 512 ≤ 1024) (g : S32x1024.Idx → Elt Ideal .f32) (j : Fin 32) (b : Fin 1024) (n : ℕ) (hn : n ≤ 32) :
    rowsB T c g n (ix2 j b) = if h : j.val < n ∧ c ≤ b.val ∧ b.val < c + 512 then g (ix2 j b) + ∑ q, T j.val (ix2 q ⟨b.val - c, by omega⟩) else g (ix2 j b) := by
  induction n with
  | zero => rw [dif_neg (fun e => absurd e.1 (Nat.not_lt_zero _))]; rfl
  | succ n ih =>
    rw [rowsB, put_row _ _ n c rfl]
    by_cases h : j.val = n ∧ c ≤ b.val ∧ b.val < c + 512
    · obtain ⟨rfl, h⟩ := h
      rw [dif_pos ⟨rfl, h⟩, dif_pos ⟨Nat.lt_succ_self _, h⟩, row_pay]
      refine congrArg (· + _) (congrArg g (congrArg₂ ix2 (Fin.ext (show j.val % 32 = j.val by omega)) (Fin.ext (show (c + (b.val - c)) % 1024 = b.val by omega))))
    · rw [dif_neg h, ih (by omega)]
      by_cases h' : j.val < n ∧ c ≤ b.val ∧ b.val < c + 512
      · rw [dif_pos h', dif_pos ⟨by omega, h'.2⟩]
      · rw [dif_neg h', dif_neg (fun e => (lt_or_eq_of_le (Nat.lt_succ_iff.mp e.1)).elim (fun l => h' ⟨l, e.2⟩) (fun l => h ⟨l, e.2⟩))]

section trip

variable (A : Fin 4096 → Fin 2048 → EReal) (W : Fin 31 → Fin 1024 → EReal) (P : Fin 4096 → Fin 1024 → EReal)
  (t : ℕ) (ht : t < 16) (i : grid0.Coords) (hi : (i 0).val = t)
  (X1 : S256x1024.Idx → Elt Ideal .f32) (X2 : S32x1024.Idx → Elt Ideal .f32) (X3 : S256x2048.Idx → Elt Ideal .bf16)
  (X4 : S32x2048.Idx → Elt Ideal .bf16) (X5 : S31x1024.Idx → Elt Ideal .f32)
  (H : Finds A W P t ht X1 X2 X3 X4 X5) (ci : Fin k0_t1_loop.trips)

/-! ## The filter's gradient -/

include H hi in
theorem tap_eq (k : ℕ) (hk : k < 31) (q : Fin 8) (l : Fin 512) (n : ℕ) (hn : n ≤ 32) :
    tapR (hRow (F := Ideal) i X3 X4) (dRow i X1 X2) (k + 2) ci.val n (ix2 q l)
      = ∑ x ∈ Finset.range n, term A P k (col ci l) (t * 256 + (8 * x + q.val)) := by
  induction n with
  | zero => exact zero_pay5 q l
  | succ n ih =>
    rw [Finset.sum_range_succ, ← ih (by omega), term, tapR]
    refine congrArg (_ + ·) (congrArg₂ (· * ·) (drows_eq A W P t ht i hi X1 X2 X3 X4 X5 H ci 8 _ q l (by omega))
      ((hrows_eq A W P t ht i hi X1 X2 X3 X4 X5 H ci 8 _ q l (by omega) (by omega)).trans ?_))
    exact congrArg (fun z => past A z (col ci l)) (show t * 256 + (k + 2 + 8 * n + q.val) - 2 = t * 256 + (8 * n + q.val) + k by omega)

include H hi in
theorem tap_all (k : ℕ) (hk : k < 31) (l : Fin 512) :
    ∑ q, TPR (hRow (F := Ideal) i X3 X4) (dRow i X1 X2) ci.val k (ix2 q l) = ∑ s ∈ Finset.range 256, term A P k (col ci l) (t * 256 + s) := by
  rw [← sum_eights (fun s => term A P k (col ci l) (t * 256 + s)), Finset.sum_range]
  exact Finset.sum_congr rfl fun q _ => tap_eq A W P t ht i hi X1 X2 X3 X4 X5 H ci k hk q l 32 le_rfl

/-- A column is in the first chunk or in the second. -/
theorem chunk_cases (b : Fin 1024) : ∃ (ci : Fin k0_t1_loop.trips) (l : Fin 512), b = col ci l := by
  have hb := b.isLt
  by_cases h : b.val < 512
  · exact ⟨⟨0, by rw [trips1]; omega⟩, ⟨b.val, h⟩, Fin.ext (show b.val = 512 * 0 + b.val by omega)⟩
  · exact ⟨⟨1, by rw [trips1]; omega⟩, ⟨b.val - 512, by omega⟩, Fin.ext (show b.val = 512 * 1 + (b.val - 512) by omega)⟩

include H hi in
theorem outW_eq (X7 : S32x1024.Idx → Elt Ideal .f32) (j : Fin 32) (b : Fin 1024) :
    outW (F := Ideal) i X1 X2 X3 X4 X7 (ix2 j b)
      = (if t = 0 then 0 else X7 (ix2 j b)) + ∑ s ∈ Finset.range 256, (if j.val < 31 then term A P j.val b (t * 256 + s) else 0) := by
  have hb := b.isLt
  have h0 : 0 < k0_t1_loop.trips := by rw [trips1]; omega
  have h1 : 1 < k0_t1_loop.trips := by rw [trips1]; omega
  unfold outW
  rw [hi, trips1, allW, allW, allW, rowsB_eq _ _ (by omega) _ _ _ _ (by omega), rowsB_eq _ _ (by omega) _ _ _ _ (by omega)]
  have e : (if t = 0 then k0_pay2 else X7 : FVec Ideal S32x1024 .f32) (ix2 j b) = if t = 0 then 0 else X7 (ix2 j b) := by
    by_cases h : t = 0
    · rw [if_pos h, if_pos h, zero_pay2]
    · rw [if_neg h, if_neg h]
  rw [e]
  by_cases hj : j.val < 31
  · simp only [if_pos hj]
    by_cases h : b.val < 512
    · rw [dif_neg (show ¬(j.val < 31 ∧ 512 * 1 ≤ b.val ∧ b.val < 512 * 1 + 512) by omega), dif_pos (show j.val < 31 ∧ 512 * 0 ≤ b.val ∧ b.val < 512 * 0 + 512 by omega)]
      refine congrArg (_ + ·) ((tap_all A W P t ht i hi X1 X2 X3 X4 X5 H ⟨0, h0⟩ j.val hj _).trans ?_)
      rw [show col ⟨0, h0⟩ ⟨b.val - 512 * 0, by omega⟩ = b from Fin.ext (show 512 * 0 + (b.val - 512 * 0) = b.val by omega)]
    · rw [dif_pos (show j.val < 31 ∧ 512 * 1 ≤ b.val ∧ b.val < 512 * 1 + 512 by omega), dif_neg (show ¬(j.val < 31 ∧ 512 * 0 ≤ b.val ∧ b.val < 512 * 0 + 512) by omega)]
      refine congrArg (_ + ·) ((tap_all A W P t ht i hi X1 X2 X3 X4 X5 H ⟨1, h1⟩ j.val hj _).trans ?_)
      rw [show col ⟨1, h1⟩ ⟨b.val - 512 * 1, by omega⟩ = b from Fin.ext (show 512 * 1 + (b.val - 512 * 1) = b.val by omega)]
  · simp only [if_neg hj, Finset.sum_const_zero, add_zero]
    rw [dif_neg (fun e => hj e.1), dif_neg (fun e => hj e.1)]

/-! ## The biases' gradients -/

/-- The four rows of a tile that a row of sums takes on. -/
abbrev four (T : ℕ → EReal) (i q : ℕ) : EReal := T (32 * i + q) + T (32 * i + (8 + q)) + T (32 * i + (16 + q)) + T (32 * i + (24 + q))

/-- A tile folded into eight rows, its rows known. -/
theorem fold_four (acc : FVec Ideal S8x512 .f32) (X : FVec Ideal S32x512 .f32) (T : ℕ → EReal) (n : ℕ) (q : Fin 8) (l : Fin 512)
    (h : ∀ r : Fin 32, X (ix2 r l) = T (32 * n + r.val)) : fold4 acc X (ix2 q l) = acc (ix2 q l) + four T n q.val := by
  rw [fold_pay, h, h, h, h]

include H hi in
theorem sums_eq (q : Fin 8) (l : Fin 512) (k : ℕ) (hk : k ≤ 8) :
    (sums (F := Ideal) X3 (DHR X5 (dRow i X1 X2)) (DCR (dRow i X1 X2)) ci k).1 (ix2 q l)
        = ∑ n ∈ Finset.range k, four (fun s => rowA A W P (colA (col ci l)) (t * 256 + s)) n q.val
    ∧ (sums (F := Ideal) X3 (DHR X5 (dRow i X1 X2)) (DCR (dRow i X1 X2)) ci k).2.1 (ix2 q l)
        = ∑ n ∈ Finset.range k, four (fun s => rowA A W P (colG (col ci l)) (t * 256 + s)) n q.val
    ∧ (sums (F := Ideal) X3 (DHR X5 (dRow i X1 X2)) (DCR (dRow i X1 X2)) ci k).2.2 (ix2 q l)
        = ∑ n ∈ Finset.range k, four (fun s => next P (t * 256 + s) (col ci l)) n q.val := by
  induction k with
  | zero => exact ⟨zero_pay5 q l, zero_pay5 q l, zero_pay5 q l⟩
  | succ k ih =>
    have hk' : k < k0_t2_loop.trips := by rw [trips2]; omega
    have hr : ∀ (c : Fin 2048) (r : Fin 32), gradA A W P (srow t ht (tileRow ⟨k, hk'⟩ r)) c = rowA A W P c (t * 256 + (32 * k + r.val)) := fun c r => by
      rw [rowA, dif_pos (by omega)]; rfl
    obtain ⟨i0, i1, i2⟩ := ih (by omega)
    rw [Finset.sum_range_succ, Finset.sum_range_succ, Finset.sum_range_succ, ← i0, ← i1, ← i2, sums_succ _ _ _ ci ⟨k, hk'⟩]
    refine ⟨fold_four _ _ _ k q l fun r => ?_, fold_four _ _ _ k q l fun r => ?_, fold_four _ _ _ k q l fun r => ?_⟩
    · rw [da_eq A W P t ht i hi X1 X2 X3 X4 X5 H, hr]
    · rw [dg_eq A W P t ht i hi X1 X2 X3 X4 X5 H, hr]
    · exact DC_eq A W P t ht i hi X1 X2 X3 X4 X5 H ci ⟨k, hk'⟩ r l

/-- Eight rows of sums add up to the sum over the block. -/
theorem rows_sum (T : ℕ → EReal) (f : Fin 8 → EReal) (h : ∀ q, f q = ∑ n ∈ Finset.range 8, four T n q.val) : ∑ q, f q = ∑ s ∈ Finset.range 256, T s := by
  rw [← Sconv.sum_folds T, Finset.sum_range]
  exact Finset.sum_congr rfl fun q _ => h q

include H hi in
theorem sums_all (l : Fin 512) :
    ∑ q, (Sof (F := Ideal) X3 (DHR X5 (dRow i X1 X2)) (DCR (dRow i X1 X2)) ci).1 (ix2 q l) = ∑ s ∈ Finset.range 256, rowA A W P (colA (col ci l)) (t * 256 + s)
    ∧ ∑ q, (Sof (F := Ideal) X3 (DHR X5 (dRow i X1 X2)) (DCR (dRow i X1 X2)) ci).2.1 (ix2 q l) = ∑ s ∈ Finset.range 256, rowA A W P (colG (col ci l)) (t * 256 + s)
    ∧ ∑ q, (Sof (F := Ideal) X3 (DHR X5 (dRow i X1 X2)) (DCR (dRow i X1 X2)) ci).2.2 (ix2 q l) = ∑ s ∈ Finset.range 256, next P (t * 256 + s) (col ci l) := by
  have h := fun q => sums_eq A W P t ht i hi X1 X2 X3 X4 X5 H ci q l 8 le_rfl
  unfold Sof
  rw [trips2]
  exact ⟨rows_sum _ _ fun q => (h q).1, rows_sum _ _ fun q => (h q).2.1, rows_sum _ _ fun q => (h q).2.2⟩

include H hi in
theorem outB_eq (X8 : S1x1024.Idx → Elt Ideal .f32) (b : Fin 1024) :
    outB (F := Ideal) i X1 X2 X3 X5 X8 (ix2 0 b) = (if t = 0 then 0 else X8 (ix2 0 b)) + ∑ s ∈ Finset.range 256, next P (t * 256 + s) b := by
  have hb := b.isLt
  have h0 : 0 < k0_t1_loop.trips := by rw [trips1]; omega
  have h1 : 1 < k0_t1_loop.trips := by rw [trips1]; omega
  have e : (if t = 0 then k0_pay3 else X8 : FVec Ideal S1x1024 .f32) (ix2 0 b) = if t = 0 then 0 else X8 (ix2 0 b) := by
    by_cases h : t = 0
    · rw [if_pos h, if_pos h, zero_pay3]
    · rw [if_neg h, if_neg h]
  unfold outB
  rw [hi, trips1, allB, allB, allB, dif_pos h0, dif_pos h1, addB_eq, addB_eq, e]
  by_cases h : b.val < 512
  · rw [dif_neg (show ¬(512 * 1 ≤ b.val ∧ b.val < 512 * 1 + 512) by omega), dif_pos (show 512 * 0 ≤ b.val ∧ b.val < 512 * 0 + 512 by omega),
      (sums_all A W P t ht i hi X1 X2 X3 X4 X5 H _ _).2.2, show col ⟨0, h0⟩ ⟨b.val - 512 * 0, by omega⟩ = b from Fin.ext (show 512 * 0 + (b.val - 512 * 0) = b.val by omega)]
  · rw [dif_pos (show 512 * 1 ≤ b.val ∧ b.val < 512 * 1 + 512 by omega), dif_neg (show ¬(512 * 0 ≤ b.val ∧ b.val < 512 * 0 + 512) by omega),
      (sums_all A W P t ht i hi X1 X2 X3 X4 X5 H _ _).2.2, show col ⟨1, h1⟩ ⟨b.val - 512 * 1, by omega⟩ = b from Fin.ext (show 512 * 1 + (b.val - 512 * 1) = b.val by omega)]

include H hi in
theorem outP_eq (X9 : S1x2048.Idx → Elt Ideal .f32) (b : Fin 2048) :
    outP (F := Ideal) i X1 X2 X3 X5 X9 (ix2 0 b) = (if t = 0 then 0 else X9 (ix2 0 b)) + ∑ s ∈ Finset.range 256, rowA A W P b (t * 256 + s) := by
  have h0 : 0 < k0_t1_loop.trips := by rw [trips1]; omega
  have h1 : 1 < k0_t1_loop.trips := by rw [trips1]; omega
  have e : (if t = 0 then k0_pay4 else X9 : FVec Ideal S1x2048 .f32) (ix2 0 b) = if t = 0 then 0 else X9 (ix2 0 b) := by
    by_cases h : t = 0
    · rw [if_pos h, if_pos h, zero_pay4]
    · rw [if_neg h, if_neg h]
  unfold outP
  rw [hi, trips1, allP, allP, allP, dif_pos h0, dif_pos h1, addP_eq, addP_eq, e]
  have hS := sums_all A W P t ht i hi X1 X2 X3 X4 X5 H
  rcases col_cases b with ⟨b, rfl⟩ | ⟨b, rfl⟩
  · have hb := b.isLt
    have hv : (colA b).val = b.val := rfl
    by_cases h : b.val < 512
    · rw [dif_neg (show ¬(512 * 1 + 1024 ≤ (colA b).val ∧ (colA b).val < 512 * 1 + 1024 + 512) by omega), dif_neg (show ¬(512 * 1 ≤ (colA b).val ∧ (colA b).val < 512 * 1 + 512) by omega),
        dif_neg (show ¬(512 * 0 + 1024 ≤ (colA b).val ∧ (colA b).val < 512 * 0 + 1024 + 512) by omega), dif_pos (show 512 * 0 ≤ (colA b).val ∧ (colA b).val < 512 * 0 + 512 by omega),
        (hS _ _).1, show col ⟨0, h0⟩ ⟨(colA b).val - 512 * 0, by omega⟩ = b from Fin.ext (show 512 * 0 + (b.val - 512 * 0) = b.val by omega)]
    · rw [dif_neg (show ¬(512 * 1 + 1024 ≤ (colA b).val ∧ (colA b).val < 512 * 1 + 1024 + 512) by omega), dif_pos (show 512 * 1 ≤ (colA b).val ∧ (colA b).val < 512 * 1 + 512 by omega),
        dif_neg (show ¬(512 * 0 + 1024 ≤ (colA b).val ∧ (colA b).val < 512 * 0 + 1024 + 512) by omega), dif_neg (show ¬(512 * 0 ≤ (colA b).val ∧ (colA b).val < 512 * 0 + 512) by omega),
        (hS _ _).1, show col ⟨1, h1⟩ ⟨(colA b).val - 512 * 1, by omega⟩ = b from Fin.ext (show 512 * 1 + (b.val - 512 * 1) = b.val by omega)]
  · have hb := b.isLt
    have hv : (colG b).val = 1024 + b.val := rfl
    by_cases h : b.val < 512
    · rw [dif_neg (show ¬(512 * 1 + 1024 ≤ (colG b).val ∧ (colG b).val < 512 * 1 + 1024 + 512) by omega), dif_neg (show ¬(512 * 1 ≤ (colG b).val ∧ (colG b).val < 512 * 1 + 512) by omega),
        dif_pos (show 512 * 0 + 1024 ≤ (colG b).val ∧ (colG b).val < 512 * 0 + 1024 + 512 by omega),
        (hS _ _).2.1, show col ⟨0, h0⟩ ⟨(colG b).val - (512 * 0 + 1024), by omega⟩ = b from Fin.ext (show 512 * 0 + (1024 + b.val - (512 * 0 + 1024)) = b.val by omega)]
    · rw [dif_pos (show 512 * 1 + 1024 ≤ (colG b).val ∧ (colG b).val < 512 * 1 + 1024 + 512 by omega),
        dif_neg (show ¬(512 * 0 + 1024 ≤ (colG b).val ∧ (colG b).val < 512 * 0 + 1024 + 512) by omega), dif_neg (show ¬(512 * 0 ≤ (colG b).val ∧ (colG b).val < 512 * 0 + 512) by omega),
        (hS _ _).2.1, show col ⟨1, h1⟩ ⟨(colG b).val - (512 * 1 + 1024), by omega⟩ = b from Fin.ext (show 512 * 1 + (1024 + b.val - (512 * 1 + 1024)) = b.val by omega)]

end trip

end Cert.Proof.Cmid

end
-- ==== Proof.CmidPoint.lean ====
module

public import proofs.«01_k».proof.Proof.CmidBody

/-! The gradient of the middle of the convolution module: the run of its body at one grid point. -/

@[expose] public section

set_option maxRecDepth 8192
set_option maxHeartbeats 2000000

noncomputable section

namespace Cert.Proof.Cmid

open Cert.CmidIdeal Cert.CmidIdeal.Gen Cert.Proof.Planes
open Idealize.ShloMosaic TcCoe Idealize.ShloMosaic.Tactic Idealize.ShloMosaic.Pointwise
open Idealize.SL RA BI BIBase Laws ProofMode Sem

variable {F : FTy → Type} [FloatOps F]

local notation "𝕄" => MT nD τ sig Unit (Elt F) ℕ (UR sig nD τ) ℕ

section Body

variable (c : Dev nD) (i : grid0.Coords) (arg1 : Memref sig .tc .vmem S256x1024 .f32) (harg1 : arg1.IsWhole)
  (arg2 : Memref sig .tc .vmem S32x1024 .f32) (harg2 : arg2.IsWhole) (arg3 : Memref sig .tc .vmem S256x2048 .bf16) (harg3 : arg3.IsWhole)
  (arg4 : Memref sig .tc .vmem S32x2048 .bf16) (harg4 : arg4.IsWhole) (arg5 : Memref sig .tc .vmem S31x1024 .f32) (harg5 : arg5.IsWhole)
  (arg6 : Memref sig .tc .vmem S256x2048 .bf16) (harg6 : arg6.IsWhole) (arg7 : Memref sig .tc .vmem S32x1024 .f32) (harg7 : arg7.IsWhole)
  (arg8 : Memref sig .tc .vmem S1x1024 .f32) (harg8 : arg8.IsWhole) (arg9 : Memref sig .tc .vmem S1x2048 .f32) (harg9 : arg9.IsWhole)
  (arg10 arg11 : Memref sig .tc .vmem S8x288x1024 .f32) (harg10 : arg10.IsWhole) (harg11 : arg11.IsWhole)
  (X1 : S256x1024.Idx → Elt F .f32) (X2 : S32x1024.Idx → Elt F .f32) (X3 : S256x2048.Idx → Elt F .bf16) (X4 : S32x2048.Idx → Elt F .bf16)
  (X5 : S31x1024.Idx → Elt F .f32) (X7 : S32x1024.Idx → Elt F .f32) (X8 : S1x1024.Idx → Elt F .f32) (X9 : S1x2048.Idx → Elt F .f32)

theorem first_read7 : arg7.view.read (Elt F) (View.write (Elt F) (arg7.view.slice (Rect.unit (s := S32x1024) ![0, 0] S32x1024.size inb_S32x1024_S32x1024_0_0))
    (arg7.view.writes (Elt F) arg7.view.junk []) k0_pay2 Finset.univ) = k0_pay2 :=
  View.read_writes_full (Val := Elt F) arg7.view arg7.view.junk inb_S32x1024_S32x1024_0_0 (k0_pay2 (F := F)) []

theorem first_read8 : arg8.view.read (Elt F) (View.write (Elt F) (arg8.view.slice (Rect.unit (s := S1x1024) ![0, 0] S1x1024.size inb_S1x1024_S1x1024_0_0))
    (arg8.view.writes (Elt F) arg8.view.junk []) k0_pay3 Finset.univ) = k0_pay3 :=
  View.read_writes_full (Val := Elt F) arg8.view arg8.view.junk inb_S1x1024_S1x1024_0_0 (k0_pay3 (F := F)) []

theorem first_read9 : arg9.view.read (Elt F) (View.write (Elt F) (arg9.view.slice (Rect.unit (s := S1x2048) ![0, 0] S1x2048.size inb_S1x2048_S1x2048_0_0))
    (arg9.view.writes (Elt F) arg9.view.junk []) k0_pay4 Finset.univ) = k0_pay4 :=
  View.read_writes_full (Val := Elt F) arg9.view arg9.view.junk inb_S1x2048_S1x2048_0_0 (k0_pay4 (F := F)) []

theorem some_owns {s : Shape} {e : EltTy} (a : Memref sig .tc .vmem s e) (f : BufTy.Contents (Elt F) a.view.ty) :
    (iprop(View.loc (c : Thread nD τ) a.view ↦[a.view.set]{fullShare} f) : sProp 𝕄)
      ⊢ iprop(∃ d, ∃ f, ⌜a.view.read (Elt F) f = d⌝ ∗ View.loc (c : Thread nD τ) a.view ↦[a.view.set]{fullShare} f) := by
  iintro H
  iexists (a.view.read (Elt F) f); iexists f; isplitr
  · ipureintro; rfl
  · iexact H

section Read

variable {y10 y11 : S8x288x1024.Idx → Elt F .f32} (hh : Holds (hRow i X3 X4) y10) (hd : Holds (dRow i X1 X2) y11)
include hd

theorem o_read (f6 : BufTy.Contents (Elt F) arg6.view.ty) :
    arg6.view.read (Elt F) (arg6.view.writes (Elt F) f6 (allTiles X3 (DHof X5 y11) (Scf.trips k0_t1_loop.lb k0_t1_loop.ub k0_t1_loop.st))) = outO i X1 X2 X3 X5 := by
  rw [DH_rows X5 hd]
  exact View.read_writes_eq_canon _ _ _ (cover X3 _)
include hh in
theorem w_read {g : S32x1024.Idx → Elt F .f32} (h : g = if (i 0).val = 0 then k0_pay2 else X7) :
    allW (TPof y10 y11) g (Scf.trips k0_t1_loop.lb k0_t1_loop.ub k0_t1_loop.st) = outW i X1 X2 X3 X4 X7 := by
  subst h; exact allW_rows hh hd _ _
theorem b_read {g : S1x1024.Idx → Elt F .f32} (h : g = if (i 0).val = 0 then k0_pay3 else X8) :
    allB (Sof X3 (DHof X5 y11) (DCof y11)) g (Scf.trips k0_t1_loop.lb k0_t1_loop.ub k0_t1_loop.st) = outB i X1 X2 X3 X5 X8 := by
  subst h; rw [DH_rows X5 hd, DC_rows hd]; rfl
theorem p_read {g : S1x2048.Idx → Elt F .f32} (h : g = if (i 0).val = 0 then k0_pay4 else X9) :
    allP (Sof X3 (DHof X5 y11) (DCof y11)) g (Scf.trips k0_t1_loop.lb k0_t1_loop.ub k0_t1_loop.st) = outP i X1 X2 X3 X5 X9 := by
  subst h; rw [DH_rows X5 hd, DC_rows hd]; rfl

end Read

set_option sl_exec.squeezeSlice true in
theorem body_run (E : Set ℕ) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ (∃ d, owns (c : Thread nD τ) arg6 fullShare d) ∗ owns (c : Thread nD τ) arg7 fullShare X7 ∗ owns (c : Thread nD τ) arg8 fullShare X8 ∗ owns (c : Thread nD τ) arg9 fullShare X9 ∗ (∃ d, owns (c : Thread nD τ) arg10 fullShare d) ∗ (∃ d, owns (c : Thread nD τ) arg11 fullShare d)
      ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (outO i X1 X2 X3 X5) ∗ owns (c : Thread nD τ) arg7 fullShare (outW i X1 X2 X3 X4 X7)
          ∗ owns (c : Thread nD τ) arg8 fullShare (outB i X1 X2 X3 X5 X8) ∗ owns (c : Thread nD τ) arg9 fullShare (outP i X1 X2 X3 X5 X9) ∗ (∃ d, owns (c : Thread nD τ) arg10 fullShare d) ∗ (∃ d, owns (c : Thread nD τ) arg11 fullShare d)) -∗ K ⟨⟩))
    ⊢ wp frame (wpE (defs₀ (F := F)) Variants.none c none) E (cc0_c2_mid_bwd (F := F) i arg1 harg1 arg2 harg2 arg3 harg3 arg4 harg4 arg5 harg5 arg6 harg6 arg7 harg7 arg8 harg8 arg9 harg9 arg10 harg10 arg11 harg11) K := by
  simp only [cc0_c2_mid_bwd_eq_skeleton]; unfold cc0_c2_mid_bwd_skel
  simp only [k0_part39_eq_skeleton, k0_part40_eq_skeleton, k0_part41_eq_skeleton, k0_part42_eq_skeleton]
  have hi : (i 0).val < 16 := (i 0).isLt
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%d10, %f10, -, H10⟩, ⟨%d11, %f11, -, H11⟩, Hk⟩
  subst hf1 hf2 hf3 hf4 hf5 hf7 hf8 hf9
  rcases first_or hi with ⟨h0, hc⟩ | ⟨h0, hc⟩
  all_goals
    sl_exec (disch := first | sl_exact hc)
    sl_step
    iapply Hk
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _
      isplitr
      rotate_left
      · iexact H6
      · ipureintro
        refine o_read i arg6 (View.read (Elt F) arg1.view f1) (View.read (Elt F) arg2.view f2) (View.read (Elt F) arg3.view f3) (View.read (Elt F) arg5.view f5) ?_ f6
        exact ((dList_good i (View.read (Elt F) arg1.view f1) (View.read (Elt F) arg2.view f2)).seven arg11.view).holds arg11.view f11
    isplitl [H7]
    · iexists _
      isplitr
      rotate_left
      · iexact H7
      · ipureintro
        refine hL7.trans (w_read i (View.read (Elt F) arg1.view f1) (View.read (Elt F) arg2.view f2) (View.read (Elt F) arg3.view f3) (View.read (Elt F) arg4.view f4) (View.read (Elt F) arg7.view f7) ?_ ?_ ?_)
        · exact ((fill_good (hHead i (View.read (Elt F) arg4.view f4)) (hBody (View.read (Elt F) arg3.view f3))).seven arg10.view).holds arg10.view f10
        · exact ((dList_good i (View.read (Elt F) arg1.view f1) (View.read (Elt F) arg2.view f2)).seven arg11.view).holds arg11.view f11
        · first
          | exact (first_read7 arg7).trans (if_pos h0).symm
          | exact (if_neg h0).symm
    isplitl [H8]
    · iexists _
      isplitr
      rotate_left
      · iexact H8
      · ipureintro
        refine hL9.trans (b_read i (View.read (Elt F) arg1.view f1) (View.read (Elt F) arg2.view f2) (View.read (Elt F) arg3.view f3) (View.read (Elt F) arg5.view f5) (View.read (Elt F) arg8.view f8) ?_ ?_)
        · exact ((dList_good i (View.read (Elt F) arg1.view f1) (View.read (Elt F) arg2.view f2)).seven arg11.view).holds arg11.view f11
        · first
          | exact (first_read8 arg8).trans (if_pos h0).symm
          | exact (if_neg h0).symm
    isplitl [H9]
    · iexists _
      isplitr
      rotate_left
      · iexact H9
      · ipureintro
        refine hL11.trans (p_read i (View.read (Elt F) arg1.view f1) (View.read (Elt F) arg2.view f2) (View.read (Elt F) arg3.view f3) (View.read (Elt F) arg5.view f5) (View.read (Elt F) arg9.view f9) ?_ ?_)
        · exact ((dList_good i (View.read (Elt F) arg1.view f1) (View.read (Elt F) arg2.view f2)).seven arg11.view).holds arg11.view f11
        · first
          | exact (first_read9 arg9).trans (if_pos h0).symm
          | exact (if_neg h0).symm
    isplitl [H10]
    · iapply (some_owns c arg10 _); iexact H10
    iapply (some_owns c arg11 _); iexact H11

end Body

end Cert.Proof.Cmid

end
-- ==== Proof.CmidFrame.lean ====
module

public import proofs.«01_k».proof.Proof.CmidPoint
public import proofs.«01_k».proof.Proof.Gen.CmidIdeal.Frame
public import Idealize.ShloMosaic.Lib.Pipeline.TableIdle
public import Idealize.ShloMosaic.Lib.Claim

/-! The gradient of the middle of the convolution module: what its output blocks hold point by point, and the whole run. -/

@[expose] public section

set_option maxRecDepth 16384
set_option maxHeartbeats 800000

noncomputable section

namespace Cert.Proof.Cmid

open Cert.CmidIdeal Cert.CmidIdeal.Gen
open Idealize.ShloMosaic TcCoe Idealize.ShloMosaic.Tactic
open Idealize.SL RA BI BIBase Laws ProofMode Sem
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The block of the gradient after point `t`. -/
def blockO (c : Dev nD) (t : Fin cfg0.N) : S256x2048.Idx → Elt F .bf16 :=
  outO (grid0.coords t) (iblk m c 0 t) (iblk m c 1 t) (iblk m c 2 t) (iblk m c 4 t)
/-- The filter's gradient after point `t`, `X` standing before it, and after point `n` of the run. -/
def stepW (c : Dev nD) (t : Fin cfg0.N) (X : S32x1024.Idx → Elt F .f32) : S32x1024.Idx → Elt F .f32 :=
  outW (grid0.coords t) (iblk m c 0 t) (iblk m c 1 t) (iblk m c 2 t) (iblk m c 3 t) X
def accW (c : Dev nD) : (n : ℕ) → n < cfg0.N → S32x1024.Idx → Elt F .f32
  | 0, h => stepW m c ⟨0, h⟩ k0_pay2
  | n + 1, h => stepW m c ⟨n + 1, h⟩ (accW c n (Nat.lt_of_succ_lt h))
/-- The sum of the cotangent after point `t`, `X` standing before it, and after point `n` of the run. -/
def stepB (c : Dev nD) (t : Fin cfg0.N) (X : S1x1024.Idx → Elt F .f32) : S1x1024.Idx → Elt F .f32 :=
  outB (grid0.coords t) (iblk m c 0 t) (iblk m c 1 t) (iblk m c 2 t) (iblk m c 4 t) X
def accB (c : Dev nD) : (n : ℕ) → n < cfg0.N → S1x1024.Idx → Elt F .f32
  | 0, h => stepB m c ⟨0, h⟩ k0_pay3
  | n + 1, h => stepB m c ⟨n + 1, h⟩ (accB c n (Nat.lt_of_succ_lt h))
/-- The sum of the gradient's rows after point `t`, `X` standing before it, and after point `n` of the run. -/
def stepP (c : Dev nD) (t : Fin cfg0.N) (X : S1x2048.Idx → Elt F .f32) : S1x2048.Idx → Elt F .f32 :=
  outP (grid0.coords t) (iblk m c 0 t) (iblk m c 1 t) (iblk m c 2 t) (iblk m c 4 t) X
def accP (c : Dev nD) : (n : ℕ) → n < cfg0.N → S1x2048.Idx → Elt F .f32
  | 0, h => stepP m c ⟨0, h⟩ k0_pay4
  | n + 1, h => stepP m c ⟨n + 1, h⟩ (accP c n (Nat.lt_of_succ_lt h))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockO m c t
    | ⟨6, _⟩ => accW m c t.val t.isLt
    | ⟨7, _⟩ => accB m c t.val t.isLt
    | ⟨8, _⟩ => accP m c t.val t.isLt
  Φ _ := Pipeline.ΦA spec0 c
  q w := Pipeline.shareOf spec0 w
  owed _ := 0

variable (c : Dev nD) (t : Fin cfg0.N)

theorem A_eq (c : Dev nD) (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = blockO m c t := by dsimp only [dats]
theorem after0_6 : (dats m 0 c).after 6 t = accW m c t.val t.isLt := by dsimp only [dats]
theorem after0_7 : (dats m 0 c).after 7 t = accB m c t.val t.isLt := by dsimp only [dats]
theorem after0_8 : (dats m 0 c).after 8 t = accP m c t.val t.isLt := by dsimp only [dats]

theorem before0_0 (d) : (dats m 0 c).before 0 t d = iblk m c 0 t := before0_0_of m _ (A_eq m c 0) (after0_0 m c) t d
theorem before0_1 (d) : (dats m 0 c).before 1 t d = iblk m c 1 t := before0_1_of m _ (A_eq m c 1) (after0_1 m c) t d
theorem before0_2 (d) : (dats m 0 c).before 2 t d = iblk m c 2 t := before0_2_of m _ (A_eq m c 2) (after0_2 m c) t d
theorem before0_3 (d) : (dats m 0 c).before 3 t d = iblk m c 3 t := before0_3_of m _ (A_eq m c 3) (after0_3 m c) t d
theorem before0_4 (d) : (dats m 0 c).before 4 t d = iblk m c 4 t := before0_4_of m _ (A_eq m c 4) (after0_4 m c) t d

/-- No window is idle at any point. -/
theorem live (w : Fin cfg0.W) (t : Fin cfg0.N) : cfg0.idle w (grid0.coords t) = false := by
  revert w t; decide +kernel

/-- The accumulated gradients are fresh at the first point only. -/
def freshTab : ℕ → Bool
  | 0 => true
  | n + 1 => (0x8000 : ℕ).testBit n
theorem freshTab_step : ∀ w : Fin cfg0.W, 6 ≤ w.val → ∀ t : Fin cfg0.N,
    freshTab (t.val + 1) = ((cfg0.win w).flush t || (cfg0.idle w (cfg0.grid.coords t) && freshTab t.val)) := by decide +kernel
theorem fresh_eq (w : Fin cfg0.W) (hw : 6 ≤ w.val) (t : Fin cfg0.N) : cfg0.fresh w t.val = freshTab t.val :=
  Pipeline.Cfg.fresh_tab cfg0 w freshTab rfl (freshTab_step w hw) t.val (Nat.le_of_lt t.isLt)
theorem notFresh (w : Fin cfg0.W) (hw : 6 ≤ w.val) (t : Fin cfg0.N) : t.val ≠ 0 → cfg0.fresh w t.val = false := by
  rw [fresh_eq w hw t]; revert t; decide +kernel

/-- The point's first coordinate is its number. -/
theorem point (t : Fin cfg0.N) : ((grid0.coords t) 0).val = t.val := by
  revert t; decide +kernel

theorem before0_6 (h0 : t.val ≠ 0) (d) :
    (dats m 0 c).before 6 t d = accW m c (t.val - 1) (Nat.lt_of_le_of_lt (Nat.sub_le _ _) t.isLt) := by
  rw [Dat.before_out_traj _ 6 rfl (fun _ _ => rfl) (fun t _ hi _ => by rw [live 6 t] at hi; exact absurd hi Bool.false_ne_true) t.val t rfl d,
    if_neg (by rw [notFresh 6 (by decide) t h0]; exact Bool.false_ne_true)]
  dsimp only [dats]
/-- The body's step of the filter's gradient. -/
theorem stepW_eq (c : Dev nD) (t : Fin cfg0.N) (d) :
    outW (grid0.coords t) (iblk m c 0 t) (iblk m c 1 t) (iblk m c 2 t) (iblk m c 3 t) ((dats m 0 c).before 6 t d) = accW m c t.val t.isLt := by
  obtain ⟨n, hn⟩ := t
  cases n with
  | zero =>
    show outW _ _ _ _ _ _ = outW _ _ _ _ _ _
    unfold outW
    rw [if_pos (point _), if_pos (point _)]
  | succ n =>
    rw [before0_6 m c _ (Nat.succ_ne_zero n)]
    rfl
theorem before0_7 (h0 : t.val ≠ 0) (d) :
    (dats m 0 c).before 7 t d = accB m c (t.val - 1) (Nat.lt_of_le_of_lt (Nat.sub_le _ _) t.isLt) := by
  rw [Dat.before_out_traj _ 7 rfl (fun _ _ => rfl) (fun t _ hi _ => by rw [live 7 t] at hi; exact absurd hi Bool.false_ne_true) t.val t rfl d,
    if_neg (by rw [notFresh 7 (by decide) t h0]; exact Bool.false_ne_true)]
  dsimp only [dats]
/-- The body's step of the sum of the cotangent. -/
theorem stepB_eq (c : Dev nD) (t : Fin cfg0.N) (d) :
    outB (grid0.coords t) (iblk m c 0 t) (iblk m c 1 t) (iblk m c 2 t) (iblk m c 4 t) ((dats m 0 c).before 7 t d) = accB m c t.val t.isLt := by
  obtain ⟨n, hn⟩ := t
  cases n with
  | zero =>
    show outB _ _ _ _ _ _ = outB _ _ _ _ _ _
    unfold outB
    rw [if_pos (point _), if_pos (point _)]
  | succ n =>
    rw [before0_7 m c _ (Nat.succ_ne_zero n)]
    rfl
theorem before0_8 (h0 : t.val ≠ 0) (d) :
    (dats m 0 c).before 8 t d = accP m c (t.val - 1) (Nat.lt_of_le_of_lt (Nat.sub_le _ _) t.isLt) := by
  rw [Dat.before_out_traj _ 8 rfl (fun _ _ => rfl) (fun t _ hi _ => by rw [live 8 t] at hi; exact absurd hi Bool.false_ne_true) t.val t rfl d,
    if_neg (by rw [notFresh 8 (by decide) t h0]; exact Bool.false_ne_true)]
  dsimp only [dats]
/-- The body's step of the sum of the gradient's rows. -/
theorem stepP_eq (c : Dev nD) (t : Fin cfg0.N) (d) :
    outP (grid0.coords t) (iblk m c 0 t) (iblk m c 1 t) (iblk m c 2 t) (iblk m c 4 t) ((dats m 0 c).before 8 t d) = accP m c t.val t.isLt := by
  obtain ⟨n, hn⟩ := t
  cases n with
  | zero =>
    show outP _ _ _ _ _ _ = outP _ _ _ _ _ _
    unfold outP
    rw [if_pos (point _), if_pos (point _)]
  | succ n =>
    rw [before0_8 m c _ (Nat.succ_ne_zero n)]
    rfl

/-! ## The body obligation -/

abbrev slot (t : Fin cfg0.N) (w : Fin cfg0.W) := (cfg0.win w).stage (cfg0.slots t w)
/-- What window `w` holds when point `t` begins. -/
def found (c : Dev nD) (t : Fin cfg0.N) (w : Fin cfg0.W) : sProp 𝕄 :=
  iprop(∃ d, owns (c : Thread nD τ) (slot t w) fullShare ((dats m 0 c).before w t d))
abbrev scM0_0 : Memref sig .tc .vmem S8x288x1024 .f32 := Memref.whole cc0_scratch0
abbrev scM0_1 : Memref sig .tc .vmem S8x288x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7 ∗ found m c t 8)

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

theorem leaves (c : Dev nD) (w : Fin cfg0.W) (t : Fin cfg0.N) :
    (dats m 0 c).leavesExact w t = owns (c : Thread nD τ) (slot t w) fullShare ((dats m 0 c).after w t) := by
  unfold Dat.leavesExact; rw [live w t]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 found
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves m c 0 t, leaves m c 1 t, leaves m c 2 t, leaves m c 3 t, leaves m c 4 t, leaves m c 5 t, leaves m c 6 t, leaves m c 7 t, leaves m c 8 t,
    after0_0, after0_1, after0_2, after0_3, after0_4, after0_5, after0_6, after0_7, after0_8]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← stepW_eq m c t d6, ← stepB_eq m c t d7, ← stepP_eq m c t d8]
  iapply (body_run c (grid0.coords t) _ _ _ _ _ _ _ _ _ _ _ _ _ _ _ _ _ _ _ _ _ _ (iblk m c 0 t) (iblk m c 1 t) (iblk m c 2 t) (iblk m c 3 t) (iblk m c 4 t) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run ends with the arguments as they were and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Cmid

end
-- ==== Proof.CmidFinal.lean ====
/- The gradient of the middle of the convolution module: the kernel's four results, whole. -/
module

public import proofs.«01_k».proof.Proof.CmidSum
public import proofs.«01_k».proof.Proof.CmidFrame

@[expose] public section

set_option maxRecDepth 16384
set_option maxHeartbeats 1000000

noncomputable section

namespace Cert.Proof.Cmid

open Cert.CmidIdeal Cert.CmidIdeal.Gen
open Idealize.ShloMosaic TcCoe Idealize.SL.Sem
open Pipeline (Dat)

/-- The windows' blocks: rows of a point, the rows just after it and just before it. -/
theorem idx : ∀ t : Fin cfg0.N, win0_0.index t = ![t.val, 0] ∧ win0_1.index t = ![min ((t.val + 1) * 8) 127, 0] ∧ win0_2.index t = ![t.val, 0]
    ∧ win0_3.index t = ![t.val * 8 - 1, 0] ∧ win0_4.index t = ![0, 0] ∧ win0_5.index t = ![t.val, 0]
    ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)
variable {A : Fin 4096 → Fin 2048 → EReal} {W : Fin 31 → Fin 1024 → EReal} {P : Fin 4096 → Fin 1024 → EReal}
  (hA : ∀ a b, m ((c : Thread nD τ).loc main_arg0) (ix2 a b) = A a b)
  (hW : ∀ a b, m ((c : Thread nD τ).loc main_arg1) (ix2 a b) = W a b)
  (hP : ∀ a b, m ((c : Thread nD τ).loc main_arg2) (ix2 a b) = P a b)

include hA in
theorem entry0 (a : Fin 4096) (b : Fin 2048) : V m c main_v0 (ix2 a b) = A a b := by
  rw [← hA]
  show StableHlo.after hostOps0 (fun b => m (c, b)) (Proc.tc.devRef main_v0) (ix2 a b) = _
  after_results
  rfl

include hA hW hP in
theorem finds (t : Fin cfg0.N) (ht : t.val < 16) :
    Finds A W P t.val ht (iblk m c 0 t) (iblk m c 1 t) (iblk m c 2 t) (iblk m c 3 t) (iblk m c 4 t) where
  h1 r b := by
    rw [← hP]; blk_ext [iblk, V, idx t]
  h2 r b h := by
    rw [← hP]; blk_ext [iblk, V, idx t]
  h3 r k := by
    rw [← entry0 m c hA]; blk_ext [iblk, idx t]
  h4 r k h := by
    rw [← entry0 m c hA]; blk_ext [iblk, idx t]
  h5 j b := by
    rw [← hW]; blk_ext [iblk, V, idx t]

theorem lt16 {k : ℕ} (hk : k < cfg0.N) : k < 16 := lt_of_lt_of_eq hk N_0
theorem last (t : Fin cfg0.N) (h : t.val % 16 = 15) : t.val = 15 := by have := lt16 t.isLt; omega
theorem lt15 : 15 < cfg0.N := by rw [show cfg0.N = 16 from N_0]; omega

include hA hW hP in
theorem final5 : (dats m 0 c).arrAt 5 (cfgs 0).N = fun i => gradA A W P (i 0) (i 1) := by
  refine (dats m 0 c).arrAt_eq_of_covers 5 _ (by decide +kernel) fun t hf y => ?_
  have ht : t.val < 16 := lt16 t.isLt
  blk_simp
  rw [after0_5]
  refine (outO_eq A W P t.val ht _ (point t) _ _ _ _ _ (finds m c hA hW hP t ht) y).trans ?_
  rw [show (win0_5.blk t).view.emb y = ix2 (srow t.val ht (y 0)) (y 1) by blk_ext [idx t, srow]]
  rfl

include hA hW hP in
/-- The gradient of the module's input, as the program returns it. -/
theorem returned : Pipeline.afterTail₀ cfgs (dats m) 0 (V0 m) [hostOps1] c main_v2 = fun i => gradA A W P (i 0) (i 1) := by
  unfold Pipeline.afterTail₀
  show StableHlo.after hostOps1 _ (Proc.tc.devRef main_v2) = _
  after_results
  rw [Pipeline.withArrays_arr_shared spec0 c _ _ (Pipeline.Dat.arrAt_sharedIn (dats m 0 c) (by decide) (V0 m c) (A_eq m c) _) 5]
  exact final5 m c hA hW hP

include hA hW hP in
theorem accW_eq (j : Fin 32) (b : Fin 1024) (n : ℕ) (h : n < cfg0.N) :
    accW m c n h (ix2 j b) = ∑ s ∈ Finset.range (256 * (n + 1)), if j.val < 31 then term A P j.val b s else 0 := by
  have key : ∀ n (h : n < cfg0.N) X, stepW m c ⟨n, h⟩ X (ix2 j b)
      = (if n = 0 then 0 else X (ix2 j b)) + ∑ s ∈ Finset.range 256, if j.val < 31 then term A P j.val b (256 * n + s) else 0 := fun n h X => by
    rw [Nat.mul_comm 256]
    exact outW_eq A W P n (lt16 h) _ (point ⟨n, h⟩) _ _ _ _ _ (finds m c hA hW hP ⟨n, h⟩ (lt16 h)) X j b
  refine acc_sum (fun s => if j.val < 31 then term A P j.val b s else 0) (fun n h => accW m c n h (ix2 j b)) (fun h => ?_) (fun n h => ?_) n h
  · simp only [accW]; rw [key, if_pos rfl, zero_add]; simp only [Nat.mul_zero, Nat.zero_add]
  · simp only [accW]; rw [key, if_neg (by omega)]
include hA hW hP in
theorem accB_eq (b : Fin 1024) (n : ℕ) (h : n < cfg0.N) : accB m c n h (ix2 0 b) = ∑ s ∈ Finset.range (256 * (n + 1)), next P s b := by
  have key : ∀ n (h : n < cfg0.N) X, stepB m c ⟨n, h⟩ X (ix2 0 b)
      = (if n = 0 then 0 else X (ix2 0 b)) + ∑ s ∈ Finset.range 256, next P (256 * n + s) b := fun n h X => by
    rw [Nat.mul_comm 256]
    exact outB_eq A W P n (lt16 h) _ (point ⟨n, h⟩) _ _ _ _ _ (finds m c hA hW hP ⟨n, h⟩ (lt16 h)) X b
  refine acc_sum (fun s => next P s b) (fun n h => accB m c n h (ix2 0 b)) (fun h => ?_) (fun n h => ?_) n h
  · simp only [accB]; rw [key, if_pos rfl, zero_add]; simp only [Nat.mul_zero, Nat.zero_add]
  · simp only [accB]; rw [key, if_neg (by omega)]
include hA hW hP in
theorem accP_eq (b : Fin 2048) (n : ℕ) (h : n < cfg0.N) : accP m c n h (ix2 0 b) = ∑ s ∈ Finset.range (256 * (n + 1)), rowA A W P b s := by
  have key : ∀ n (h : n < cfg0.N) X, stepP m c ⟨n, h⟩ X (ix2 0 b)
      = (if n = 0 then 0 else X (ix2 0 b)) + ∑ s ∈ Finset.range 256, rowA A W P b (256 * n + s) := fun n h X => by
    rw [Nat.mul_comm 256]
    exact outP_eq A W P n (lt16 h) _ (point ⟨n, h⟩) _ _ _ _ _ (finds m c hA hW hP ⟨n, h⟩ (lt16 h)) X b
  refine acc_sum (fun s => rowA A W P b s) (fun n h => accP m c n h (ix2 0 b)) (fun h => ?_) (fun n h => ?_) n h
  · simp only [accP]; rw [key, if_pos rfl, zero_add]; simp only [Nat.mul_zero, Nat.zero_add]
  · simp only [accP]; rw [key, if_neg (by omega)]

include hA hW hP in
/-- The filter's gradient. -/
theorem final6 : (dats m 0 c).arrAt 6 (cfgs 0).N = fun i => gradW A P (i 0) (i 1) := by
  have e : (dats m 0 c).arrAt 6 (cfgs 0).N = accW m c 15 lt15 := by
    refine (dats m 0 c).arrAt_eq_of_covers 6 _ (by decide +kernel) fun t hf y => ?_
    have ht := last t ((flush0_6 t).mp hf)
    blk_simp
    rw [after0_6, show (win0_6.blk t).view.emb y = y by blk_ext [idx t]]
    obtain ⟨n, hn⟩ := t
    obtain rfl : n = 15 := ht
    rfl
  rw [e]
  funext i; idx_vars i
  refine (accW_eq m c hA hW hP i0 i1 15 lt15).trans ?_
  show _ = gradW A P i0 i1
  unfold gradW
  by_cases h : i0.val < 31
  · simp only [if_pos h]
  · simp only [if_neg h, Finset.sum_const_zero]

include hA hW hP in
/-- The two biases' gradients. -/
theorem final7 : (dats m 0 c).arrAt 7 (cfgs 0).N = fun i => gradB P (i 1) := by
  have e : (dats m 0 c).arrAt 7 (cfgs 0).N = accB m c 15 lt15 := by
    refine (dats m 0 c).arrAt_eq_of_covers 7 _ (by decide +kernel) fun t hf y => ?_
    have ht := last t ((flush0_7 t).mp hf)
    blk_simp
    rw [after0_7, show (win0_7.blk t).view.emb y = y by blk_ext [idx t]]
    obtain ⟨n, hn⟩ := t
    obtain rfl : n = 15 := ht
    rfl
  rw [e]
  funext i; idx_vars i
  obtain rfl : i0 = 0 := Subsingleton.elim _ _
  exact accB_eq m c hA hW hP i1 15 lt15
include hA hW hP in
theorem final8 : (dats m 0 c).arrAt 8 (cfgs 0).N = fun i => gradP A W P (i 1) := by
  have e : (dats m 0 c).arrAt 8 (cfgs 0).N = accP m c 15 lt15 := by
    refine (dats m 0 c).arrAt_eq_of_covers 8 _ (by decide +kernel) fun t hf y => ?_
    have ht := last t ((flush0_8 t).mp hf)
    blk_simp
    rw [after0_8, show (win0_8.blk t).view.emb y = y by blk_ext [idx t]]
    obtain ⟨n, hn⟩ := t
    obtain rfl : n = 15 := ht
    rfl
  rw [e]
  funext i; idx_vars i
  obtain rfl : i0 = 0 := Subsingleton.elim _ _
  exact accP_eq m c hA hW hP i1 15 lt15

end Cert.Proof.Cmid

end
-- ==== Proof.CmidRef.lean ====
/- The gradient of the middle of the convolution module: what the reference computes. -/
module

public import proofs.«01_k».proof.Proof.CmidMath
public import proofs.«01_k».proof.Proof.Reals
public import proofs.«01_k».proof.Proof.Gen.CmidRefIdeal.Read
public import Idealize.ShloMosaic.Lib.KernelVsHost

@[expose] public section

set_option maxRecDepth 16384
set_option maxHeartbeats 1000000

noncomputable section

namespace Cert.Proof.CmidR

open Cert.CmidRefIdeal Cert.CmidRefIdeal.Gen Cert.CmidRefIdeal.Read Cert.Proof.Cmid
open Idealize.ShloMosaic TcCoe

variable {A0 : FVec Ideal S4096x2048 .f32} {A1 : FVec Ideal S31x1024 .f32} {A2 : FVec Ideal S4096x1024 .f32}
  {A : Fin 4096 → Fin 2048 → EReal} {W : Fin 31 → Fin 1024 → EReal} {P : Fin 4096 → Fin 1024 → EReal}
  (hA : ∀ a b, A0 (ix2 a b) = A a b) (hW : ∀ a b, A1 (ix2 a b) = W a b) (hP : ∀ a b, A2 (ix2 a b) = P a b)

include hA in
theorem value (a : Fin 4096) (b : Fin 1024) : val_main_v5 (F := Ideal) A0 (ix2 a b) = A a (colA b) := by
  rw [← hA]; pointwise [val_main_v5, val_main_v4, val_main_v3, val_main_v2, val_main_v0, val_main_cst, colA]
include hA in
theorem sigma (a : Fin 4096) (b : Fin 1024) : val_main_v12 (F := Ideal) A0 (ix2 a b) = gate A a b := by
  unfold gate
  rw [← hA]
  pointwise [val_main_v12, val_main_v11, val_main_v10, val_main_v9, val_main_v8, val_main_v7, val_main_v6, val_main_v4, val_main_v3, val_main_v2, val_main_v0,
    val_main_cst, val_main_cst_1, val_main_cst_2, colG]
  rfl

include hA in
/-- The gated value with its thirty rows of zeros. -/
theorem input (a : Fin 4126) (b : Fin 1024) : val_main_v18 (F := Ideal) A0 (ix2 a b) = past A a.val b := by
  have ha := a.isLt
  unfold past Cmid.gated
  by_cases h : 30 ≤ a.val
  · rw [dif_pos ⟨h, by omega⟩]
    pointwise [val_main_v18, val_main_v16, val_main_v17, val_main_cst_4, value hA, sigma hA, h]
    exact dif_neg (by omega)
  · rw [dif_neg (fun e => h e.1)]
    pointwise [val_main_v18, val_main_v16, val_main_v17, val_main_cst_4, value hA, sigma hA, h]
    exact dif_pos (by omega)

/-! ## One tap -/

/-- Row `k` of the filter, as the reference takes it. -/
abbrev row (A1 : FVec Ideal S31x1024 .f32) (k : ℕ) (h : S31x1024.Slices ![k, 0] S1x1024) : FVec Ideal S1x1024 .f32 :=
  broadcastInDim S1x1024 ![1] bcast_S1024_S1x1024_1 (shapeCast S1024 (extractStridedSlice S1x1024 ![k, 0] A1 h) shapeCasts_S1x1024_S1024)
/-- Zero, as the reference writes it. -/
abbrev zero : FVec Ideal S_ .f32 := constant S_ .f32 0x00000000#32

include hW hP in
/-- What a tap adds to the gradient of the gated value. -/
theorem tap_in (k : ℕ) (h : S31x1024.Slices ![k, 0] S1x1024) (hp : S4096x1024.Pads ![k, 0] ![30 - k, 0] ![0, 0] S4126x1024)
    (n : ℕ) (hn : n < 4096) (b : Fin 1024) :
    pad S4126x1024 ![k, 0] ![30 - k, 0] ![0, 0] (mulf (broadcastInDim S4096x1024 ![0, 1] bcast_S1x1024_S4096x1024_0_1 (row A1 k h)) (val_main_v241 (F := Ideal) A2))
      zero hp h_S_ (ix2 ⟨30 + n, by omega⟩ b) = tap W k b * next P (n + (30 - k)) b := by
  have hk : k + 1 ≤ 31 := h.2 0
  have hr : row A1 k h (ix2 0 b) = tap W k b := by
    unfold tap; rw [← hW]; pointwise
    exact congrArg (fun z : Fin 31 => A1 (ix2 z b)) (Fin.ext (show k + 0 = k % 31 by omega))
  unfold next
  by_cases hin : n + (30 - k) < 4096
  · rw [dif_pos hin, ← hP]
    refine (pad_apply_of_inside _ _ _ _ _ _ _ _ (ix2 (⟨n + (30 - k), hin⟩ : Fin 4096) b) (Fin.forall_fin_two.2 ⟨?_, ?_⟩)).trans ?_
    · show 30 + n = k + (n + (30 - k)) * (0 + 1); omega
    · show b.val = 0 + b.val * (0 + 1); omega
    · pointwise [val_main_v241, hr]
  · rw [dif_neg hin, mul_zero]
    refine (pad_apply_of_not_inside _ _ _ _ _ _ _ _ (0 : Fin 2) (fun e => ?_)).trans (by pointwise)
    have e' : (30 + n - k) / (0 + 1) < 4096 := e.2.2
    omega

/-- The sum over the rows of what a tap multiplies, as the reference takes it. -/
abbrev sums (A0 : FVec Ideal S4096x2048 .f32) (A2 : FVec Ideal S4096x1024 .f32) (k : ℕ) (h : S4126x1024.Slices ![k, 0] S4096x1024) : FVec Ideal S1024 .f32 :=
  Host.reduceAdd (shapeCast S1x1024 (Host.reduceAdd (mulf (val_main_v241 (F := Ideal) A2) (extractStridedSlice S4096x1024 ![k, 0] (val_main_v18 (F := Ideal) A0) h))
    zero reducesTo_S4096x1024_S1024_d0 h_S_) shapeCasts_S1024_S1x1024) zero reducesTo_S1x1024_S1024_d0 h_S_

include hA hP in
theorem sums_eq (k : ℕ) (h : S4126x1024.Slices ![k, 0] S4096x1024) (b : Fin 1024) :
    sums A0 A2 k h (ix1 b) = ∑ n ∈ Finset.range 4096, term A P k b n := by
  have hk : k + 4096 ≤ 4126 := h.2 0
  rw [Finset.sum_range]
  pointwise [val_main_v241]
  rw [Finset.univ_unique, Finset.sum_singleton]
  refine Finset.sum_congr rfl fun n _ => ?_
  rw [hP, term, next, dif_pos n.isLt]
  refine congrArg (P n b * ·) ((input hA _ b).trans ?_)
  show past A (k + n.val) b = _
  rw [Nat.add_comm]

include hA hP in
/-- What a tap adds to the gradient of the filter: its own row. -/
theorem tap_row (k : ℕ) (h : S4126x1024.Slices ![k, 0] S4096x1024) (hp : S1x1024.Pads ![k, 0] ![30 - k, 0] ![0, 0] S31x1024)
    (j : Fin 31) (b : Fin 1024) :
    pad S31x1024 ![k, 0] ![30 - k, 0] ![0, 0] (broadcastInDim S1x1024 ![1] bcast_S1024_S1x1024_1 (sums A0 A2 k h)) zero hp h_S_ (ix2 j b)
      = if k = j.val then ∑ n ∈ Finset.range 4096, term A P k b n else 0 := by
  have hk : k + 4096 ≤ 4126 := h.2 0
  have hs := sums_eq hA hP k h b
  generalize sums A0 A2 k h = u at hs ⊢
  by_cases hj : k = j.val
  · rw [if_pos hj, ← hs]
    refine (pad_apply_of_inside _ _ _ _ _ _ _ _ (ix2 (0 : Fin 1) b) (Fin.forall_fin_two.2 ⟨?_, ?_⟩)).trans (by pointwise)
    · show j.val = k + 0 * (0 + 1); omega
    · show b.val = 0 + b.val * (0 + 1); omega
  · rw [if_neg hj]
    refine (pad_apply_of_not_inside _ _ _ _ _ _ _ _ (0 : Fin 2) (fun e => ?_)).trans (by pointwise)
    have e1 : k ≤ j.val := e.1
    have e2 : (j.val - k) / (0 + 1) < 1 := e.2.2
    omega

/-! ## All taps -/

/-- The taps' parts from the last tap to the first. -/
def down (f : ℕ → EReal) (n : ℕ) : ℕ → EReal
  | 0 => f n
  | i + 1 => down f n i + f (n - (i + 1))
theorem down_eq (f : ℕ → EReal) (n i : ℕ) (h : i ≤ n) : down f n i = ∑ k ∈ Finset.range (i + 1), f (n - k) := by
  induction i with
  | zero => rw [Finset.sum_range_one]; rfl
  | succ i ih => rw [Finset.sum_range_succ, ← ih (by omega)]; rfl
theorem down_all (f : ℕ → EReal) : down f 30 30 = ∑ k ∈ Finset.range 31, f k := by
  rw [down_eq f 30 30 le_rfl, ← Finset.sum_range_reflect f 31]

theorem step {x y a b : EReal} (h : x = a) (h' : y = b) : x + y = a + b := by rw [h, h']

include hW hP in
/-- The gradient of the gated value. -/
theorem back_eq (n : ℕ) (hn : n < 4096) (b : Fin 1024) : val_main_v580 (F := Ideal) A1 A2 (ix2 ⟨30 + n, by omega⟩ b) = back W P n b := by
  unfold back
  rw [← down_all]
  iterate 30 refine step ?_ (tap_in hW hP _ _ _ n hn b)
  exact tap_in hW hP 30 _ _ n hn b

include hA hP in
/-- The reference's gradient of the filter. -/
theorem filter_eq (j : Fin 31) (b : Fin 1024) : val_main_v583 (F := Ideal) A0 A2 (ix2 j b) = ∑ n ∈ Finset.range 4096, term A P j.val b n := by
  refine Eq.trans ?_ ((down_all (fun k => if k = j.val then ∑ n ∈ Finset.range 4096, term A P k b n else 0)).trans ?_)
  · iterate 30 refine step ?_ (tap_row hA hP _ _ _ j b)
    exact tap_row hA hP 30 _ _ j b
  · rw [Finset.sum_ite_eq', if_pos (Finset.mem_range.mpr j.isLt)]

/-! ## The results -/

include hA hW hP in
theorem hidden (s : Fin 4096) (b : Fin 1024) : val_main_v585 (F := Ideal) A1 A2 (ix2 s b) = back W P s.val b := by
  rw [← back_eq hW hP s.val s.isLt b]; pointwise [val_main_v585]

include hA hW hP in
theorem input_eq (s : Fin 4096) (k : Fin 2048) : val_main_v589 (F := Ideal) A0 A1 A2 (ix2 s k) = gradA A W P s k := by
  obtain ⟨b, rfl⟩ | ⟨b, rfl⟩ := col_cases k
  · rw [gradA_A]
    pointwise [val_main_v589, val_main_v587, hidden hA hW hP, sigma hA, colA]
  · rw [gradA_G]
    pointwise [val_main_v589, val_main_v588, val_main_v586, val_main_v15, val_main_v14, val_main_v13, val_main_cst_3, hidden hA hW hP, sigma hA, value hA, colG]
    ac_rfl

include hA hW hP in
/-- The reference's gradient of the module's input. -/
theorem resultA : val_main_v589 (F := Ideal) A0 A1 A2 = fun i => gradA A W P (i 0) (i 1) := by
  funext i; idx_vars i; exact input_eq hA hW hP i0 i1

include hA hP in
/-- The reference's gradient of the filter, its row of zeros after it. -/
theorem resultW : val_main_v593 (F := Ideal) A0 A2 = fun i => gradW A P (i 0) (i 1) := by
  funext i; idx_vars i
  show _ = gradW A P i0 i1
  unfold gradW
  by_cases h : i0.val < 31
  · rw [if_pos h, ← filter_eq hA hP ⟨i0.val, h⟩ i1]
    pointwise [val_main_v593, h]
  · rw [if_neg h]
    pointwise [val_main_v593, val_main_call0_v0, val_main_c, h]
    show (((0#32 : BitVec 32).toInt : ℝ) : EReal) = 0
    simp

include hP in
/-- The reference's gradients of the two biases. -/
theorem resultB : val_main_v594 (F := Ideal) A2 = fun i => gradB P (i 1) := by
  funext i; idx_vars i
  show _ = gradB P i1
  obtain rfl : i0 = 0 := Subsingleton.elim _ _
  unfold gradB
  rw [Finset.sum_range]
  pointwise [val_main_v594, val_main_v244, val_main_v243, val_main_v242, val_main_cst_7, val_main_cst_8]
  rw [Finset.univ_unique, Finset.sum_singleton]
  refine Finset.sum_congr rfl fun n _ => ?_
  rw [hP, next, dif_pos n.isLt]
include hA hW hP in
theorem resultP : val_main_v595 (F := Ideal) A0 A1 A2 = fun i => gradP A W P (i 1) := by
  funext i; idx_vars i
  show _ = gradP A W P i1
  obtain rfl : i0 = 0 := Subsingleton.elim _ _
  unfold gradP
  rw [Finset.sum_range]
  pointwise [val_main_v595, val_main_v592, val_main_v591, val_main_v590, val_main_cst_133, val_main_cst_134]
  rw [Finset.univ_unique, Finset.sum_singleton]
  refine Finset.sum_congr rfl fun n _ => ?_
  rw [input_eq hA hW hP, rowA, dif_pos n.isLt]

end Cert.Proof.CmidR

end
-- ==== Proof.CmidClaim.lean ====
/- The gradient of the middle of the convolution module: what the kernel leaves is what the reference computes. -/
module

public import proofs.«01_k».proof.Defs
public import proofs.«01_k».proof.Proof.CmidFinal
public import proofs.«01_k».proof.Proof.CmidRef

@[expose] public section

set_option maxRecDepth 16384
set_option maxHeartbeats 1000000

noncomputable section

namespace Cert.Proof

open Idealize.ShloMosaic TcCoe Idealize.SL.Sem

/-- The gradients of the module's input, of its filter and of its two biases: the kernel's are the reference's. -/
theorem algebraic_cmid : Cert.algebraic_CmidIdeal_CmidRefIdeal := by
  pair_intro
  · run_from Cmid.run_main m g
    exact Cert.CmidIdeal.Gen.W_main_arg0 m _ c
  · run_from Cert.CmidRefIdeal.Value.run m' g'
    · refine (Cert.CmidRefIdeal.Read.val_main_v589_eq _).trans ?_
      simp only [StableHlo.launchContents_devRef, (hagree c).1, (hagree c).2.1, (hagree c).2.2]
      rw [CmidR.resultA (fun _ _ => rfl) (fun _ _ => rfl) (fun _ _ => rfl)]
      exact (Cmid.returned m c (fun _ _ => rfl) (fun _ _ => rfl) (fun _ _ => rfl)).symm
    · refine (Cert.CmidRefIdeal.Read.val_main_v593_eq _).trans ?_
      simp only [StableHlo.launchContents_devRef, (hagree c).1, (hagree c).2.1, (hagree c).2.2]
      rw [CmidR.resultW (fun _ _ => rfl) (fun _ _ => rfl)]
      exact (Cmid.final6 m c (fun _ _ => rfl) (fun _ _ => rfl) (fun _ _ => rfl)).symm
    · refine Eq.trans (b := Cert.CmidRefIdeal.Read.val_main_v594 (F := Ideal) (m ((c : Thread Cert.CmidIdeal.nD Cert.CmidIdeal.τ).loc Cert.CmidIdeal.main_arg2))) rfl ?_
      rw [CmidR.resultB (fun _ _ => rfl)]
      exact (Cmid.final7 m c (fun _ _ => rfl) (fun _ _ => rfl) (fun _ _ => rfl)).symm
    · refine (Cert.CmidRefIdeal.Read.val_main_v595_eq _).trans ?_
      simp only [StableHlo.launchContents_devRef, (hagree c).1, (hagree c).2.1, (hagree c).2.2]
      rw [CmidR.resultP (fun _ _ => rfl) (fun _ _ => rfl) (fun _ _ => rfl)]
      exact (Cmid.final8 m c (fun _ _ => rfl) (fun _ _ => rfl) (fun _ _ => rfl)).symm

end Cert.Proof

end
-- ==== Proof.CmidBits.lean ====
/- The gradient of the middle of the convolution module: the frame of the program as it runs. -/
module

public import proofs.«01_k».proof.Defs
public import proofs.«01_k».proof.Proof.CmidFrame
public import proofs.«01_k».proof.Proof.Gen.Cmid.Skeleton

@[expose] public section

set_option maxRecDepth 16384
set_option maxHeartbeats 1000000

namespace Cert.Proof.Cmid

open Idealize.ShloMosaic TcCoe Idealize.SL.Sem

/-- The two printed bodies are one. -/
theorem defs_eq : @Cert.Cmid.defs Bits _ _ = @Cert.CmidIdeal.defs Bits _ _ := by sl_kernel_rfl

theorem frame_bits : Cert.quiescent_Cmid := fun m ρ _ => by
  rw [defs_eq]
  exact frame_ideal (F := Bits) m ρ

end Cert.Proof.Cmid
-- ==== Proof.CmidfRun.lean ====
module

public import proofs.«01_k».proof.Proof.Planes
public import proofs.«01_k».proof.Proof.Gen.CmidfIdeal.Skeleton
public import proofs.«01_k».proof.Proof.Gen.CmidfIdeal.Launch
public import proofs.«01_k».proof.Proof.Gen.CmidfIdeal.Points

/-! The forward call of the middle of the convolution module: the run of its body at one grid point. -/

@[expose] public section

set_option maxRecDepth 8192
set_option maxHeartbeats 4000000

noncomputable section

namespace Cert.Proof.Cmidf

open Cert.CmidfIdeal Cert.CmidfIdeal.Gen Cert.Proof.Planes
open Idealize.ShloMosaic TcCoe Idealize.ShloMosaic.Tactic Idealize.ShloMosaic.Pointwise
open Idealize.SL RA BI BIBase Laws ProofMode Sem

variable {F : FTy → Type} [FloatOps F]

local notation "𝕄" => MT nD τ sig Unit (Elt F) ℕ (UR sig nD τ) ℕ

/-- Tap `n` takes the rows `n + 2` rows on: thirty rows stand before a block, after two unused ones. -/
abbrev qf (n : ℕ) : ℕ := n + 2

theorem at2 {f : Fin k0_t1_loop.trips → Fin 2 → ℕ} {r : ℕ}
    (h : ∀ k a, f k a = (![r, 512 * (k.val / 8)] : Fin 2 → ℕ) a) (k : Fin k0_t1_loop.trips) : f k = ![r, 512 * (k.val / 8)] := funext (h k)
theorem at3 {f : Fin k0_t1_loop.trips → Fin 3 → ℕ} {p r : ℕ}
    (h : ∀ k a, f k a = (![p, r + 32 * (k.val % 8), 512 * (k.val / 8)] : Fin 3 → ℕ) a) (k : Fin k0_t1_loop.trips) :
    f k = ![p, r + 32 * (k.val % 8), 512 * (k.val / 8)] := funext (h k)

/-! ## The tiles -/

section Tiles

variable (y4 : S1x1024.Idx → Elt F .f32) (D : ℕ → ℕ → FVec F S32x512 .f32) (k : Fin k0_t1_loop.trips)

/-- Where a trip writes, and what: the bias and the sum over the taps. -/
abbrev rT : Rect S256x1024 := Rect.unit (s := S256x1024) (k0_off41 k) S32x512.size (k0_off41_inb k)
def tileV : FVec F S32x512 .f32 :=
  addf (broadcastTo S32x512 (k0_pay2 (View.ld y4 (Rect.unit (s := S1x1024) (k0_off1 k) S1x512.size (k0_off1_inb k)))) broadcasts_S1x512_S32x512)
    (D (k.val / 8) (k.val % 8))
/-- The tiles written before trip `k`, the last first. -/
def tiles : ℕ → List (View.Piece (Elt F) S256x1024 .f32)
  | 0 => []
  | k + 1 => if h : k < k0_t1_loop.trips then ⟨rT ⟨k, h⟩, tileV y4 D ⟨k, h⟩⟩ :: tiles k else tiles k
theorem tiles_succ : tiles y4 D (k.val + 1) = ⟨rT k, tileV y4 D k⟩ :: tiles y4 D k.val := by
  rw [tiles]; exact dif_pos k.isLt

theorem tile_mem (n : ℕ) (h : k.val < n) : (⟨rT k, tileV y4 D k⟩ : View.Piece (Elt F) S256x1024 .f32) ∈ tiles y4 D n := by
  induction n with
  | zero => exact absurd h (Nat.not_lt_zero _)
  | succ n ih =>
    rcases Nat.lt_succ_iff_lt_or_eq.mp h with h' | h'
    · rw [tiles]
      split
      · exact .tail _ (ih h')
      · exact ih h'
    · subst h'
      rw [tiles_succ]
      exact .head _
theorem tile_of_mem (n : ℕ) (p : View.Piece (Elt F) S256x1024 .f32) (hp : p ∈ tiles y4 D n) : ∃ k, p = ⟨rT k, tileV y4 D k⟩ := by
  induction n with
  | zero => exact absurd hp List.not_mem_nil
  | succ n ih =>
    rw [tiles] at hp
    split at hp
    · rcases List.mem_cons.mp hp with e | e
      · exact ⟨_, e⟩
      · exact ih e
    · exact ih hp

theorem off41 (k : Fin k0_t1_loop.trips) (a : Fin 2) : k0_off41 k a = (![32 * (k.val % 8), 512 * (k.val / 8)] : Fin 2 → ℕ) a := by
  revert k a; decide +kernel
theorem trips16 : k0_t1_loop.trips = 16 := by decide +kernel

/-- The tile that writes an element. -/
def tileOf (y : S256x1024.Idx) : Fin k0_t1_loop.trips :=
  ⟨8 * ((y 1).val / 512) + (y 0).val / 32, by
    have h0 : (y 0).val < 256 := (y 0).isLt
    have h1 : (y 1).val < 1024 := (y 1).isLt
    rw [trips16]; omega⟩
theorem tiles_cover (y : S256x1024.Idx) : ∃ p ∈ tiles y4 D k0_t1_loop.trips, y ∈ p.1.set := by
  have h0 : (y 0).val < 256 := (y 0).isLt
  have h1 : (y 1).val < 1024 := (y 1).isLt
  refine ⟨_, tile_mem y4 D (tileOf y) _ (tileOf y).isLt, mem_unit (inb := k0_off41_inb _) fun a => ?_⟩
  rw [off41]
  fin_cases a
  · show 32 * ((8 * ((y 1).val / 512) + (y 0).val / 32) % 8) ≤ (y 0).val ∧ (y 0).val < 32 * ((8 * ((y 1).val / 512) + (y 0).val / 32) % 8) + 32
    omega
  · show 512 * ((8 * ((y 1).val / 512) + (y 0).val / 32) / 8) ≤ (y 1).val ∧ (y 1).val < 512 * ((8 * ((y 1).val / 512) + (y 0).val / 32) / 8) + 512
    omega

end Tiles

/-! ## The loop -/

section Loops

variable (c : Dev nD) (E : Set ℕ) (i : grid0.Coords) (arg1 : Memref sig .tc .vmem S256x2048 .bf16) (harg1 : arg1.IsWhole)
  (arg2 : Memref sig .tc .vmem S32x2048 .bf16) (harg2 : arg2.IsWhole) (arg3 : Memref sig .tc .vmem S31x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S256x1024 .bf16) (harg7 : arg7.IsWhole)
  (arg8 : Memref sig .tc .vmem S256x1024 .f32) (harg8 : arg8.IsWhole) (arg9 : Memref sig .tc .vmem S8x288x1024 .f32) (harg9 : arg9.IsWhole)
  (X3 : BufTy.Contents (Elt F) arg3.view.ty) (X4 : BufTy.Contents (Elt F) arg4.view.ty) (X9 : BufTy.Contents (Elt F) arg9.view.ty)

/-- A trip's sum over the taps, as the buffers give it. -/
def Dof (y3 : S31x1024.Idx → Elt F .f32) (y9 : S8x288x1024.Idx → Elt F .f32) (ci ri : ℕ) : FVec F S32x512 .f32 := conv qf y3 y9 ci ri 30

set_option warn.classDefReducibility false in
/-- Before a trip: the buffers read, and the tiles written so far. -/
@[sl_loop] def convLoop (v55 : FVec F S280x1024 .f32) (G8 : BufTy.Contents (Elt F) arg8.view.ty) :
    LoopInv (M := 𝕄) frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 v55) where
  inv k _ := iprop((arg3.view.loc (c : Thread nD τ) ↦[arg3.view.set]{fullShare} X3) ∗ (arg4.view.loc (c : Thread nD τ) ↦[arg4.view.set]{fullShare} X4)
    ∗ (arg9.view.loc (c : Thread nD τ) ↦[arg9.view.set]{fullShare} X9)
    ∗ (∃ f, (arg8.view.loc (c : Thread nD τ) ↦[arg8.view.set]{fullShare} f)
      ∗ ⌜f = arg8.view.writes (Elt F) G8 (tiles (arg4.view.read (Elt F) X4) (Dof (arg3.view.read (Elt F) X3) (arg9.view.read (Elt F) X9)) k)⌝))
  step k acc := by
    have hk : k.val < 16 := Nat.lt_of_lt_of_le k.isLt k0_t1_abs.2.1
    have hconv :=
      conv_step qf arg9.view X9 arg3.view X3 (k.val / 8) (k.val % 8) 29 (k0_off40_inb k) (k0_off15_inb k 3) (at2 (f := fun k => k0_off40 k) (by decide +kernel) k) (at3 (f := fun k => k0_off15 k 32#32) (by decide +kernel) k) <|
      conv_step qf arg9.view X9 arg3.view X3 (k.val / 8) (k.val % 8) 28 (k0_off39_inb k) (k0_off13_inb k 3) (at2 (f := fun k => k0_off39 k) (by decide +kernel) k) (at3 (f := fun k => k0_off13 k 24#32) (by decide +kernel) k) <|
      conv_step qf arg9.view X9 arg3.view X3 (k.val / 8) (k.val % 8) 27 (k0_off38_inb k) (k0_off11_inb k 3) (at2 (f := fun k => k0_off38 k) (by decide +kernel) k) (at3 (f := fun k => k0_off11 k 24#32) (by decide +kernel) k) <|
      conv_step qf arg9.view X9 arg3.view X3 (k.val / 8) (k.val % 8) 26 (k0_off37_inb k) (k0_off9_inb k 3) (at2 (f := fun k => k0_off37 k) (by decide +kernel) k) (at3 (f := fun k => k0_off9 k 24#32) (by decide +kernel) k) <|
      conv_step qf arg9.view X9 arg3.view X3 (k.val / 8) (k.val % 8) 25 (k0_off36_inb k) (k0_off7_inb k 3) (at2 (f := fun k => k0_off36 k) (by decide +kernel) k) (at3 (f := fun k => k0_off7 k 24#32) (by decide +kernel) k) <|
      conv_step qf arg9.view X9 arg3.view X3 (k.val / 8) (k.val % 8) 24 (k0_off35_inb k) (k0_off5_inb k 3) (at2 (f := fun k => k0_off35 k) (by decide +kernel) k) (at3 (f := fun k => k0_off5 k 24#32) (by decide +kernel) k) <|
      conv_step qf arg9.view X9 arg3.view X3 (k.val / 8) (k.val % 8) 23 (k0_off34_inb k) (k0_off3_inb k 3) (at2 (f := fun k => k0_off34 k) (by decide +kernel) k) (at3 (f := fun k => k0_off3 k 24#32) (by decide +kernel) k) <|
      conv_step qf arg9.view X9 arg3.view X3 (k.val / 8) (k.val % 8) 22 (k0_off33_inb k) (k0_off17_inb k 2) (at2 (f := fun k => k0_off33 k) (by decide +kernel) k) (at3 (f := fun k => k0_off17 k 24#32) (by decide +kernel) k) <|
      conv_step qf arg9.view X9 arg3.view X3 (k.val / 8) (k.val % 8) 21 (k0_off32_inb k) (k0_off15_inb k 2) (at2 (f := fun k => k0_off32 k) (by decide +kernel) k) (at3 (f := fun k => k0_off15 k 24#32) (by decide +kernel) k) <|
      conv_step qf arg9.view X9 arg3.view X3 (k.val / 8) (k.val % 8) 20 (k0_off31_inb k) (k0_off13_inb k 2) (at2 (f := fun k => k0_off31 k) (by decide +kernel) k) (at3 (f := fun k => k0_off13 k 16#32) (by decide +kernel) k) <|
      conv_step qf arg9.view X9 arg3.view X3 (k.val / 8) (k.val % 8) 19 (k0_off30_inb k) (k0_off11_inb k 2) (at2 (f := fun k => k0_off30 k) (by decide +kernel) k) (at3 (f := fun k => k0_off11 k 16#32) (by decide +kernel) k) <|
      conv_step qf arg9.view X9 arg3.view X3 (k.val / 8) (k.val % 8) 18 (k0_off29_inb k) (k0_off9_inb k 2) (at2 (f := fun k => k0_off29 k) (by decide +kernel) k) (at3 (f := fun k => k0_off9 k 16#32) (by decide +kernel) k) <|
      conv_step qf arg9.view X9 arg3.view X3 (k.val / 8) (k.val % 8) 17 (k0_off28_inb k) (k0_off7_inb k 2) (at2 (f := fun k => k0_off28 k) (by decide +kernel) k) (at3 (f := fun k => k0_off7 k 16#32) (by decide +kernel) k) <|
      conv_step qf arg9.view X9 arg3.view X3 (k.val / 8) (k.val % 8) 16 (k0_off27_inb k) (k0_off5_inb k 2) (at2 (f := fun k => k0_off27 k) (by decide +kernel) k) (at3 (f := fun k => k0_off5 k 16#32) (by decide +kernel) k) <|
      conv_step qf arg9.view X9 arg3.view X3 (k.val / 8) (k.val % 8) 15 (k0_off26_inb k) (k0_off3_inb k 2) (at2 (f := fun k => k0_off26 k) (by decide +kernel) k) (at3 (f := fun k => k0_off3 k 16#32) (by decide +kernel) k) <|
      conv_step qf arg9.view X9 arg3.view X3 (k.val / 8) (k.val % 8) 14 (k0_off25_inb k) (k0_off17_inb k 1) (at2 (f := fun k => k0_off25 k) (by decide +kernel) k) (at3 (f := fun k => k0_off17 k 16#32) (by decide +kernel) k) <|
      conv_step qf arg9.view X9 arg3.view X3 (k.val / 8) (k.val % 8) 13 (k0_off24_inb k) (k0_off15_inb k 1) (at2 (f := fun k => k0_off24 k) (by decide +kernel) k) (at3 (f := fun k => k0_off15 k 16#32) (by decide +kernel) k) <|
      conv_step qf arg9.view X9 arg3.view X3 (k.val / 8) (k.val % 8) 12 (k0_off23_inb k) (k0_off13_inb k 1) (at2 (f := fun k => k0_off23 k) (by decide +kernel) k) (at3 (f := fun k => k0_off13 k 8#32) (by decide +kernel) k) <|
      conv_step qf arg9.view X9 arg3.view X3 (k.val / 8) (k.val % 8) 11 (k0_off22_inb k) (k0_off11_inb k 1) (at2 (f := fun k => k0_off22 k) (by decide +kernel) k) (at3 (f := fun k => k0_off11 k 8#32) (by decide +kernel) k) <|
      conv_step qf arg9.view X9 arg3.view X3 (k.val / 8) (k.val % 8) 10 (k0_off21_inb k) (k0_off9_inb k 1) (at2 (f := fun k => k0_off21 k) (by decide +kernel) k) (at3 (f := fun k => k0_off9 k 8#32) (by decide +kernel) k) <|
      conv_step qf arg9.view X9 arg3.view X3 (k.val / 8) (k.val % 8) 9 (k0_off20_inb k) (k0_off7_inb k 1) (at2 (f := fun k => k0_off20 k) (by decide +kernel) k) (at3 (f := fun k => k0_off7 k 8#32) (by decide +kernel) k) <|
      conv_step qf arg9.view X9 arg3.view X3 (k.val / 8) (k.val % 8) 8 (k0_off19_inb k) (k0_off5_inb k 1) (at2 (f := fun k => k0_off19 k) (by decide +kernel) k) (at3 (f := fun k => k0_off5 k 8#32) (by decide +kernel) k) <|
      conv_step qf arg9.view X9 arg3.view X3 (k.val / 8) (k.val % 8) 7 (k0_off18_inb k) (k0_off3_inb k 1) (at2 (f := fun k => k0_off18 k) (by decide +kernel) k) (at3 (f := fun k => k0_off3 k 8#32) (by decide +kernel) k) <|
      conv_step qf arg9.view X9 arg3.view X3 (k.val / 8) (k.val % 8) 6 (k0_off16_inb k) (k0_off17_inb k 0) (at2 (f := fun k => k0_off16 k) (by decide +kernel) k) (at3 (f := fun k => k0_off17 k 8#32) (by decide +kernel) k) <|
      conv_step qf arg9.view X9 arg3.view X3 (k.val / 8) (k.val % 8) 5 (k0_off14_inb k) (k0_off15_inb k 0) (at2 (f := fun k => k0_off14 k) (by decide +kernel) k) (at3 (f := fun k => k0_off15 k 8#32) (by decide +kernel) k) <|
      conv_step qf arg9.view X9 arg3.view X3 (k.val / 8) (k.val % 8) 4 (k0_off12_inb k) (k0_off13_inb k 0) (at2 (f := fun k => k0_off12 k) (by decide +kernel) k) (at3 (f := fun k => k0_off13 k 0#32) (by decide +kernel) k) <|
      conv_step qf arg9.view X9 arg3.view X3 (k.val / 8) (k.val % 8) 3 (k0_off10_inb k) (k0_off11_inb k 0) (at2 (f := fun k => k0_off10 k) (by decide +kernel) k) (at3 (f := fun k => k0_off11 k 0#32) (by decide +kernel) k) <|
      conv_step qf arg9.view X9 arg3.view X3 (k.val / 8) (k.val % 8) 2 (k0_off8_inb k) (k0_off9_inb k 0) (at2 (f := fun k => k0_off8 k) (by decide +kernel) k) (at3 (f := fun k => k0_off9 k 0#32) (by decide +kernel) k) <|
      conv_step qf arg9.view X9 arg3.view X3 (k.val / 8) (k.val % 8) 1 (k0_off6_inb k) (k0_off7_inb k 0) (at2 (f := fun k => k0_off6 k) (by decide +kernel) k) (at3 (f := fun k => k0_off7 k 0#32) (by decide +kernel) k) <|
      conv_step qf arg9.view X9 arg3.view X3 (k.val / 8) (k.val % 8) 0 (k0_off4_inb k) (k0_off5_inb k 0) (at2 (f := fun k => k0_off4 k) (by decide +kernel) k) (at3 (f := fun k => k0_off5 k 0#32) (by decide +kernel) k) <|
      conv_zero qf arg9.view X9 arg3.view X3 (k.val / 8) (k.val % 8) (k0_off2_inb k) (k0_off3_inb k 0) (at2 (f := fun k => k0_off2 k) (by decide +kernel) k) (at3 (f := fun k => k0_off3 k 0#32) (by decide +kernel) k)
    unfold k0_t1_body
    iintro ⟨H3, H4, H9, ⟨%f, H8, %hf⟩⟩
    sl_exec
    sl_step
    isplitl [H3]; · iexact H3
    isplitl [H4]; · iexact H4
    isplitl [H9]; · iexact H9
    iexists _
    isplitl [H8]; · iexact H8
    ipureintro
    rw [tiles_succ, hf]
    exact congrArg (fun b => arg8.view.writes (Elt F) G8 (⟨rT k, b⟩ :: _)) (congrArg (addf _) hconv)

/-! ## The body -/

variable (Y1 : S256x2048.Idx → Elt F .bf16) (Y2 : S32x2048.Idx → Elt F .bf16) (Y3 : S31x1024.Idx → Elt F .f32)
  (Y4 Y5 Y6 : S1x1024.Idx → Elt F .f32)

/-- The gated rows before the block and the block's own. -/
abbrev hHead : FVec F S32x1024 .f32 :=
  k0_pay12 i (View.ld Y2 (Rect.unit (s := S32x2048) ![0, 0] S32x1024.size inb_S32x2048_S32x1024_0_0))
    (View.ld Y2 (Rect.unit (s := S32x2048) ![0, 1024] S32x1024.size inb_S32x2048_S32x1024_0_1024))
abbrev hBody : FVec F S256x1024 .f32 :=
  k0_pay13 (View.ld Y1 (Rect.unit (s := S256x2048) ![0, 0] S256x1024.size inb_S256x2048_S256x1024_0_0))
    (View.ld Y1 (Rect.unit (s := S256x2048) ![0, 1024] S256x1024.size inb_S256x2048_S256x1024_0_1024))
/-- A trip's sum over the taps, by the gated rows. -/
def DR (ci ri : ℕ) : FVec F S32x512 .f32 := convR qf Y3 (row2 (hHead i Y2) (hBody Y1)) ci ri 30
/-- What the body leaves: the convolved rows, and the module's activation of them. -/
def outC : S256x1024.Idx → Elt F .f32 := View.canon (tiles Y4 (DR i Y1 Y2 Y3) k0_t1_loop.trips)
def outS : FVec F S256x1024 .bf16 := k0_pay1 (k0_pay24 (outC i Y1 Y2 Y3 Y4) Y5 Y6) (k0_pay25 (outC i Y1 Y2 Y3 Y4) Y5 Y6)

theorem tiles_congr (y4 : S1x1024.Idx → Elt F .f32) {D D' : ℕ → ℕ → FVec F S32x512 .f32} (h : ∀ ci ri, ri < 8 → D ci ri = D' ci ri) (n : ℕ) :
    tiles y4 D n = tiles y4 D' n := by
  induction n with
  | zero => rfl
  | succ n ih => rw [tiles, tiles, ih]; split <;> [(rw [tileV, tileV, h _ _ (Nat.mod_lt _ (by omega))]); rfl]

theorem c_read {y9 : S8x288x1024.Idx → Elt F .f32} (hh : Holds (row2 (hHead i Y2) (hBody Y1)) y9) (f8 : BufTy.Contents (Elt F) arg8.view.ty) :
    arg8.view.read (Elt F) (arg8.view.writes (Elt F) f8 (tiles Y4 (Dof Y3 y9) (Scf.trips k0_t1_loop.lb k0_t1_loop.ub k0_t1_loop.st))) = outC i Y1 Y2 Y3 Y4 := by
  rw [tiles_congr Y4 (D := Dof Y3 y9) (D' := DR i Y1 Y2 Y3) fun ci ri hr => conv_rows qf Y3 hh ci ri hr 30 fun k hk => Nat.lt_of_le_of_lt (Nat.add_le_add_right hk 2) (by omega)]
  exact View.read_writes_eq_canon _ _ _ (tiles_cover Y4 _)

theorem pay_congr {C C' : FVec F S256x1024 .f32} {D D' E E' : FVec F S1x1024 .f32} (hC : C = C') (hD : D = D') (hE : E = E') :
    k0_pay1 (k0_pay24 C D E) (k0_pay25 C D E) = k0_pay1 (k0_pay24 C' D' E') (k0_pay25 C' D' E') := by subst hC hD hE; rfl

theorem some_owns {s : Shape} {e : EltTy} (a : Memref sig .tc .vmem s e) (f : BufTy.Contents (Elt F) a.view.ty) :
    (iprop(View.loc (c : Thread nD τ) a.view ↦[a.view.set]{fullShare} f) : sProp 𝕄)
      ⊢ iprop(∃ d, ∃ f, ⌜a.view.read (Elt F) f = d⌝ ∗ View.loc (c : Thread nD τ) a.view ↦[a.view.set]{fullShare} f) := by
  iintro H
  iexists (a.view.read (Elt F) f); iexists f; isplitr
  · ipureintro; rfl
  · iexact H

set_option sl_exec.squeezeSlice true in
theorem body_run (K : PUnit → sProp 𝕄) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare (outS i Y1 Y2 Y3 Y4 Y5 Y6) ∗ owns (c : Thread nD τ) arg8 fullShare (outC i Y1 Y2 Y3 Y4) ∗ (∃ d, owns (c : Thread nD τ) arg9 fullShare d)) -∗ K ⟨⟩))
    ⊢ wp frame (wpE (defs₀ (F := F)) Variants.none c none) E (cc0_c2_mid (F := F) i arg1 harg1 arg2 harg2 arg3 harg3 arg4 harg4 arg5 harg5 arg6 harg6 arg7 harg7 arg8 harg8 arg9 harg9) K := by
  simp only [cc0_c2_mid_eq_skeleton]; unfold cc0_c2_mid_skel
  simp only [k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _
    isplitr
    rotate_left
    · iexact H7
    · ipureintro
      refine (View.read_writes_full (Val := Elt F) arg7.view f7 inb_S256x1024_S256x1024_0_0 _ []).trans ?_
      unfold body_run.sl.r_2 body_run.sl.r_3 body_run.sl.v65
      have e5 := View.readAt_full (Val := Elt F) arg5.view f5 inb_S1x1024_S1x1024_0_0
      have e6 := View.readAt_full (Val := Elt F) arg6.view f6 inb_S1x1024_S1x1024_0_0
      have e8 := (View.readAt_full (Val := Elt F) arg8.view _ inb_S256x1024_S256x1024_0_0).trans
        (c_read i arg8 (View.read (Elt F) arg1.view f1) (View.read (Elt F) arg2.view f2) (View.read (Elt F) arg3.view f3) (View.read (Elt F) arg4.view f4)
          (((fill_good (hHead i (View.read (Elt F) arg2.view f2)) (hBody (View.read (Elt F) arg1.view f1))).seven arg9.view).holds arg9.view f9) arg8.view.junk)
      exact pay_congr e8 e5 e6
  isplitl [H8]
  · iexists _
    isplitr
    rotate_left
    · iexact H8
    · ipureintro
      refine c_read i arg8 (View.read (Elt F) arg1.view f1) (View.read (Elt F) arg2.view f2) (View.read (Elt F) arg3.view f3) (View.read (Elt F) arg4.view f4) ?_ f8
      exact ((fill_good (hHead i (View.read (Elt F) arg2.view f2)) (hBody (View.read (Elt F) arg1.view f1))).seven arg9.view).holds arg9.view f9
  iapply (some_owns c arg9 _); iexact H9

end Loops

end Cert.Proof.Cmidf

end
-- ==== Proof.CmidfMath.lean ====
/- The forward call of the middle of the convolution module, as numbers: what both programs compute. -/
module

public import proofs.«01_k».proof.Proof.CmidMath

@[expose] public section

noncomputable section

namespace Cert.Proof.Cmidf

open Idealize.ShloMosaic
open Cert.Proof.Cmid (past tap)

/-- The sum of the terms up to `n`, from the first on. -/
def up (f : ℕ → EReal) : ℕ → EReal
  | 0 => f 0
  | n + 1 => up f n + f (n + 1)
theorem up_eq (f : ℕ → EReal) (n : ℕ) : up f n = ∑ k ∈ Finset.range (n + 1), f k := by
  induction n with
  | zero => rw [Finset.sum_range_one]; rfl
  | succ n ih => rw [Finset.sum_range_succ, ← ih]; rfl

/-- A row's sum over its width of 1024. -/
def mean (x : Fin 1024 → EReal) : EReal := Ideal.div (∑ k, x k) (Ideal.ofBits .f32 1149239296#32)
/-- A row without its mean, over its deviation, scaled and shifted. -/
def normed (x g e : Fin 1024 → EReal) (l : Fin 1024) : EReal :=
  (x l - mean x) * Ideal.rsqrt (mean (fun k => (x k - mean x) * (x k - mean x)) + Ideal.ofBits .f32 925353388#32) * g l + e l
/-- The activation: a value times its logistic. -/
def swish (x : EReal) : EReal := x * Ideal.logistic x

variable (A : Fin 4096 → Fin 2048 → EReal) (W : Fin 31 → Fin 1024 → EReal) (B G E : Fin 1024 → EReal)

/-- The convolved rows: the taps over the gated rows, and the bias. -/
def convolved (s : Fin 4096) (b : Fin 1024) : EReal := up (fun k => tap W k b * past A (s.val + k) b) 30 + B b
/-- The call's first result. -/
def activated (s : Fin 4096) (b : Fin 1024) : EReal := swish (normed (convolved A W B s) G E b)

end Cert.Proof.Cmidf

end
-- ==== Proof.CmidfVal.lean ====
/- The forward call of the middle of the convolution module: what one grid point leaves, as numbers. -/
module

public import proofs.«01_k».proof.Proof.CmidfRun
public import proofs.«01_k».proof.Proof.CmidfMath

@[expose] public section

set_option maxRecDepth 16384
set_option maxHeartbeats 1000000

noncomputable section

namespace Cert.Proof.Cmidf

open Cert.CmidfIdeal Cert.CmidfIdeal.Gen Cert.Proof.Planes
open Cert.Proof.Cmid (colA colG gate gated past tap)
open Idealize.ShloMosaic TcCoe Idealize.SL.Sem

/-! ## The payloads -/

theorem first_pay (t : ℕ) (ht : t < 16) (i : grid0.Coords) (hi : (i 0).val = t) (u v : FVec Ideal S32x1024 .bf16) (r : Fin 32) (b : Fin 1024) :
    k0_pay12 (F := Ideal) i u v (ix2 r b) = if t = 0 then 0 else u (ix2 r b) * Ideal.logistic (v (ix2 r b)) := by
  pointwise [k0_pay12]
  rw [hi]
  have pos : ∀ n : Fin 16, (Scalar.cmpi .sgt (BitVec.ofNat 32 n.val) 0#32 = 1#1) ↔ ¬n.val = 0 := by decide +kernel
  split
  · exact if_neg (fun e => (pos ⟨t, ht⟩).mp e ‹_›)
  · exact if_pos ((pos ⟨t, ht⟩).mpr ‹_›)

theorem rest_pay (u v : FVec Ideal S256x1024 .bf16) (r : Fin 256) (b : Fin 1024) :
    k0_pay13 (F := Ideal) u v (ix2 r b) = u (ix2 r b) * Ideal.logistic (v (ix2 r b)) := by
  pointwise [k0_pay13]

theorem bias_pay (u : FVec Ideal S1x512 .f32) (D : FVec Ideal S32x512 .f32) (r : Fin 32) (l : Fin 512) :
    addf (broadcastTo S32x512 (k0_pay2 u) broadcasts_S1x512_S32x512) D (ix2 r l) = u (ix2 0 l) + D (ix2 r l) := by
  pointwise [k0_pay2]

theorem norm_pay (X : FVec Ideal S256x1024 .f32) (g e : FVec Ideal S1x1024 .f32) (x g' e' : Fin 1024 → EReal) (r : Fin 256) (hx : ∀ l, X (ix2 r l) = x l)
    (hg : ∀ l, g (ix2 0 l) = g' l) (he : ∀ l, e (ix2 0 l) = e' l) (l : Fin 1024) : k0_pay24 (F := Ideal) X g e (ix2 r l) = normed x g' e' l := by
  pointwise [k0_pay24, hx, hg, he]
  rfl

theorem act_pay (L : FVec Ideal S256x1024 .f32) (y : S256x1024.Idx) : k0_pay1 (F := Ideal) L (logistic L) y = swish (L y) := by
  pointwise [k0_pay1]
  rfl

/-! ## The rows before and in a block -/

/-- What a point finds in its blocks. -/
structure Finds (A : Fin 4096 → Fin 2048 → EReal) (W : Fin 31 → Fin 1024 → EReal) (B G E : Fin 1024 → EReal) (t : ℕ) (ht : t < 16)
    (X0 : S256x2048.Idx → Elt Ideal .bf16) (X1 : S32x2048.Idx → Elt Ideal .bf16) (X2 : S31x1024.Idx → Elt Ideal .f32)
    (X3 X4 X5 : S1x1024.Idx → Elt Ideal .f32) : Prop where
  own : ∀ (r : Fin 256) k, X0 (ix2 r k) = A ⟨t * 256 + r.val, by omega⟩ k
  before : ∀ (r : Fin 32) k, (h : t ≠ 0) → X1 (ix2 r k) = A ⟨t * 256 + r.val - 32, by omega⟩ k
  filter : ∀ j b, X2 (ix2 j b) = W j b
  bias : ∀ b, X3 (ix2 0 b) = B b
  scale : ∀ b, X4 (ix2 0 b) = G b
  shift : ∀ b, X5 (ix2 0 b) = E b

/-- A part of a block, at its offsets. -/
theorem part_ld {R N n m : ℕ} {e : EltTy} (D : (⟨2, ![R, N]⟩ : Shape).Idx → Elt Ideal e) (off : Fin 2 → ℕ) (inb) (r : Fin n) (l : Fin m) (r' : Fin R) (k : Fin N)
    (h : off 0 + r.val = r'.val ∧ off 1 + l.val = k.val) :
    View.ld (Val := Elt Ideal) (e' := e) D (Rect.unit (s := ⟨2, ![R, N]⟩) off ![n, m] inb) (ix2 r l) = D (ix2 r' k) :=
  congrArg D (funext (Fin.forall_fin_two.2 ⟨Fin.ext ((congrArg (off 0 + ·) (Nat.one_mul _)).trans h.1), Fin.ext ((congrArg (off 1 + ·) (Nat.one_mul _)).trans h.2)⟩))

/-- Column `l` of a trip's chunk, and row `r` of its tile, of all rows. -/
def colOf (k : Fin k0_t1_loop.trips) (l : Fin 512) : Fin 1024 := ⟨512 * (k.val / 8) + l.val, by have := k.isLt.trans_eq trips16; omega⟩
def rowOf (k : Fin k0_t1_loop.trips) (r : Fin 32) : Fin 256 := ⟨32 * (k.val % 8) + r.val, by omega⟩
/-- Row `r` of point `t`'s block, of all rows. -/
abbrev place (t : ℕ) (ht : t < 16) (r : Fin 256) : Fin 4096 := ⟨t * 256 + r.val, by omega⟩

/-- Where a trip reads the bias. -/
theorem off1 (k : Fin k0_t1_loop.trips) : k0_off1 k = ![0, 512 * (k.val / 8)] := at2 (f := fun k => k0_off1 k) (by decide +kernel) k

section rows

variable (A : Fin 4096 → Fin 2048 → EReal) (W : Fin 31 → Fin 1024 → EReal) (B G E : Fin 1024 → EReal)
  (t : ℕ) (ht : t < 16) (i : grid0.Coords) (hi : (i 0).val = t)
  (X0 : S256x2048.Idx → Elt Ideal .bf16) (X1 : S32x2048.Idx → Elt Ideal .bf16) (X2 : S31x1024.Idx → Elt Ideal .f32) (X3 X4 X5 : S1x1024.Idx → Elt Ideal .f32)
  (H : Finds A W B G E t ht X0 X1 X2 X3 X4 X5)

include H hi in
/-- The buffer's rows are the gated ones, from two rows on. -/
theorem gated_row (n : ℕ) (hn : n < 286) (b : Fin 1024) : row2 (hHead (F := Ideal) i X1) (hBody X0) (2 + n) b = past A (t * 256 + n) b := by
  by_cases h : n < 30
  · refine (row2_head _ _ (2 + n) b (by omega)).trans ((first_pay t ht i hi _ _ ⟨2 + n, by omega⟩ b).trans ?_)
    split
    · rw [past, dif_neg (by omega)]
    · rw [past, dif_pos (by omega), part_ld X1 ![0, 0] _ _ b ⟨2 + n, by omega⟩ (colA b) ⟨Nat.zero_add _, Nat.zero_add _⟩,
        part_ld X1 ![0, 1024] _ _ b ⟨2 + n, by omega⟩ (colG b) ⟨Nat.zero_add _, rfl⟩, H.before _ _ ‹_›, H.before _ _ ‹_›, gated, gate]
      simp only [show t * 256 + (2 + n) - 32 = t * 256 + n - 30 by omega]
  · obtain ⟨r, rfl⟩ : ∃ r, n = 30 + r := ⟨n - 30, by omega⟩
    rw [show 2 + (30 + r) = 32 + r by omega]
    refine (row2_body _ _ ⟨r, by omega⟩ b).trans ((rest_pay _ _ _ b).trans ?_)
    rw [past, dif_pos (by omega), part_ld X0 ![0, 0] _ _ b ⟨r, by omega⟩ (colA b) ⟨Nat.zero_add _, Nat.zero_add _⟩,
      part_ld X0 ![0, 1024] _ _ b ⟨r, by omega⟩ (colG b) ⟨Nat.zero_add _, rfl⟩, H.own, H.own, gated, gate]
    simp only [show t * 256 + (30 + r) - 30 = t * 256 + r by omega]

variable (k : Fin k0_t1_loop.trips) (r : Fin 32) (l : Fin 512)

include H hi in
theorem tap_eq (j : ℕ) (hj : j ≤ 30) :
    mulf (fl (F := Ideal) 32 X2 j (512 * (k.val / 8))) (rowsV (row2 (hHead (F := Ideal) i X1) (hBody X0)) 32 (qf j + 32 * (k.val % 8)) (512 * (k.val / 8))) (ix2 r l)
      = tap W j (colOf k l) * past A ((place t ht (rowOf k r)).val + j) (colOf k l) := by
  have hk := k.isLt.trans_eq trips16
  have hc : (512 * (k.val / 8) + l.val) % 1024 = (colOf k l).val := Nat.mod_eq_of_lt (colOf k l).isLt
  refine congrArg₂ (· * ·) ?_ ?_
  · unfold tap
    rw [← H.filter]
    exact congrArg (fun z : Fin 1024 => X2 (ix2 _ z)) (Fin.ext hc)
  · refine Eq.trans (b := row2 (hHead (F := Ideal) i X1) (hBody X0) (2 + (j + 32 * (k.val % 8) + r.val)) (colOf k l)) ?_
      ((gated_row A W B G E t ht i hi X0 X1 X2 X3 X4 X5 H _ (by omega) _).trans (congrArg (past A · _) ?_))
    · exact congrArg₂ (row2 _ _) (show j + 2 + 32 * (k.val % 8) + r.val = _ by omega) (Fin.ext hc)
    · show t * 256 + (j + 32 * (k.val % 8) + r.val) = t * 256 + (32 * (k.val % 8) + r.val) + j
      omega

include H hi in
theorem taps_eq (n : ℕ) (hn : n ≤ 30) :
    convR qf X2 (row2 (hHead (F := Ideal) i X1) (hBody X0)) (k.val / 8) (k.val % 8) n (ix2 r l)
      = up (fun j => tap W j (colOf k l) * past A ((place t ht (rowOf k r)).val + j) (colOf k l)) n := by
  induction n with
  | zero => exact tap_eq A W B G E t ht i hi X0 X1 X2 X3 X4 X5 H k r l 0 hn
  | succ n ih => exact congrArg₂ (· + ·) (ih (by omega)) (tap_eq A W B G E t ht i hi X0 X1 X2 X3 X4 X5 H k r l (n + 1) hn)

include H hi in
theorem tile_eq : tileV (F := Ideal) X3 (DR i X0 X1 X2) k (ix2 r l) = convolved A W B (place t ht (rowOf k r)) (colOf k l) := by
  unfold tileV convolved
  refine (bias_pay _ _ r l).trans ((congrArg₂ (· + ·) ?_ (taps_eq A W B G E t ht i hi X0 X1 X2 X3 X4 X5 H k r l 30 le_rfl)).trans (add_comm _ _))
  rw [part_ld X3 (k0_off1 k) _ _ l 0 (colOf k l) ⟨by rw [off1]; rfl, by rw [off1]; rfl⟩, H.bias]

/-! ## The blocks -/

/-- The block of the convolved rows, as a function of its place. -/
def blockOf (y : S256x1024.Idx) : Elt Ideal .f32 := convolved A W B (place t ht (y 0)) (y 1)

include H hi in
/-- The convolved rows that a point leaves. -/
theorem outC_eq (y : S256x1024.Idx) : outC (F := Ideal) i X0 X1 X2 X3 y = convolved A W B (place t ht (y 0)) (y 1) := by
  refine View.canon_apply_of_pieces (blockOf A W B t ht) _ (fun p hp x => ?_) y (tiles_cover _ _ y)
  obtain ⟨k, rfl⟩ := tile_of_mem _ _ _ p hp
  refine (congrArg (tileV X3 (DR i X0 X1 X2) k) (eq_ix2 (n0 := 32) (n1 := 512) x)).trans ((tile_eq A W B G E t ht i hi X0 X1 X2 X3 X4 X5 H k (x 0) (x 1)).trans ?_)
  unfold blockOf
  refine congrArg₂ (convolved A W B) (Fin.ext ?_) (Fin.ext ?_)
  · show t * 256 + (32 * (k.val % 8) + (x 0).val) = t * 256 + (k0_off41 k 0 + 1 * (x 0).val)
    rw [off41 k 0]; show _ = t * 256 + (32 * (k.val % 8) + 1 * (x 0).val); omega
  · show 512 * (k.val / 8) + (x 1).val = k0_off41 k 1 + 1 * (x 1).val
    rw [off41 k 1]; show _ = 512 * (k.val / 8) + 1 * (x 1).val; omega

include H hi in
/-- Their activation. -/
theorem outS_eq (y : S256x1024.Idx) : outS (F := Ideal) i X0 X1 X2 X3 X4 X5 y = activated A W B G E (place t ht (y 0)) (y 1) := by
  refine (act_pay _ y).trans (congrArg swish ?_)
  refine (congrArg (k0_pay24 (outC i X0 X1 X2 X3) X4 X5) (eq_ix2 (n0 := 256) (n1 := 1024) y)).trans ?_
  exact norm_pay _ _ _ _ _ _ (y 0) (fun l => outC_eq A W B G E t ht i hi X0 X1 X2 X3 X4 X5 H (ix2 (y 0) l)) H.scale H.shift (y 1)

end rows

end Cert.Proof.Cmidf

end
-- ==== Proof.CmidfFrame.lean ====
module

public import proofs.«01_k».proof.Proof.CmidfRun
public import proofs.«01_k».proof.Proof.Gen.CmidfIdeal.Frame
public import Idealize.ShloMosaic.Lib.Pipeline.TableIdle
public import Idealize.ShloMosaic.Lib.Claim

/-! The forward call of the middle of the convolution module: what its output blocks hold point by point, and the whole run. -/

@[expose] public section

set_option maxRecDepth 16384
set_option maxHeartbeats 800000

noncomputable section

namespace Cert.Proof.Cmidf

open Cert.CmidfIdeal Cert.CmidfIdeal.Gen
open Idealize.ShloMosaic TcCoe Idealize.ShloMosaic.Tactic
open Idealize.SL RA BI BIBase Laws ProofMode Sem
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The convolved rows of point `t`, and their activation. -/
def blockC (c : Dev nD) (t : Fin cfg0.N) : S256x1024.Idx → Elt F .f32 := outC (grid0.coords t) (iblk m c 0 t) (iblk m c 1 t) (iblk m c 2 t) (iblk m c 3 t)
def blockS (c : Dev nD) (t : Fin cfg0.N) : S256x1024.Idx → Elt F .bf16 := outS (grid0.coords t) (iblk m c 0 t) (iblk m c 1 t) (iblk m c 2 t) (iblk m c 3 t) (iblk m c 4 t) (iblk m c 5 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockS m c t
    | ⟨7, _⟩ => blockC m c t
  Φ _ := Pipeline.ΦA spec0 c
  q w := Pipeline.shareOf spec0 w
  owed _ := 0

variable (c : Dev nD) (t : Fin cfg0.N)

theorem A_eq (c : Dev nD) (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = blockS m c t := by dsimp only [dats]
theorem after0_7 : (dats m 0 c).after 7 t = blockC m c t := by dsimp only [dats]

theorem before0_0 (d) : (dats m 0 c).before 0 t d = iblk m c 0 t := before0_0_of m _ (A_eq m c 0) (after0_0 m c) t d
theorem before0_1 (d) : (dats m 0 c).before 1 t d = iblk m c 1 t := before0_1_of m _ (A_eq m c 1) (after0_1 m c) t d
theorem before0_2 (d) : (dats m 0 c).before 2 t d = iblk m c 2 t := before0_2_of m _ (A_eq m c 2) (after0_2 m c) t d
theorem before0_3 (d) : (dats m 0 c).before 3 t d = iblk m c 3 t := before0_3_of m _ (A_eq m c 3) (after0_3 m c) t d
theorem before0_4 (d) : (dats m 0 c).before 4 t d = iblk m c 4 t := before0_4_of m _ (A_eq m c 4) (after0_4 m c) t d
theorem before0_5 (d) : (dats m 0 c).before 5 t d = iblk m c 5 t := before0_5_of m _ (A_eq m c 5) (after0_5 m c) t d

/-- No window is idle at any point. -/
theorem live (w : Fin cfg0.W) (t : Fin cfg0.N) : cfg0.idle w (grid0.coords t) = false := by
  revert w t; decide +kernel
/-- The point's first coordinate is its number. -/
theorem point (t : Fin cfg0.N) : ((grid0.coords t) 0).val = t.val := by
  revert t; decide +kernel

/-! ## The body obligation -/

abbrev slot (t : Fin cfg0.N) (w : Fin cfg0.W) := (cfg0.win w).stage (cfg0.slots t w)
/-- What window `w` holds when point `t` begins. -/
def found (c : Dev nD) (t : Fin cfg0.N) (w : Fin cfg0.W) : sProp 𝕄 :=
  iprop(∃ d, owns (c : Thread nD τ) (slot t w) fullShare ((dats m 0 c).before w t d))
abbrev scM0_0 : Memref sig .tc .vmem S8x288x1024 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7)

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

theorem leaves (c : Dev nD) (w : Fin cfg0.W) (t : Fin cfg0.N) :
    (dats m 0 c).leavesExact w t = owns (c : Thread nD τ) (slot t w) fullShare ((dats m 0 c).after w t) := by
  unfold Dat.leavesExact; rw [live w t]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 found
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves m c 0 t, leaves m c 1 t, leaves m c 2 t, leaves m c 3 t, leaves m c 4 t, leaves m c 5 t, leaves m c 6 t, leaves m c 7 t,
    after0_0, after0_1, after0_2, after0_3, after0_4, after0_5, after0_6, after0_7]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run ends with the arguments as they were and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Cmidf

end
-- ==== Proof.CmidfFinal.lean ====
/- The forward call of the middle of the convolution module: the kernel's two results, whole. -/
module

public import proofs.«01_k».proof.Proof.CmidfVal
public import proofs.«01_k».proof.Proof.CmidfFrame

@[expose] public section

set_option maxRecDepth 16384
set_option maxHeartbeats 1000000

noncomputable section

namespace Cert.Proof.Cmidf

open Cert.CmidfIdeal Cert.CmidfIdeal.Gen
open Idealize.ShloMosaic TcCoe Idealize.SL.Sem
open Pipeline (Dat)

/-- Where the windows' blocks lie. -/
theorem idx : ∀ t : Fin cfg0.N, win0_0.index t = ![t.val, 0] ∧ win0_1.index t = ![t.val * 8 - 1, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

theorem lt16 (t : Fin cfg0.N) : t.val < 16 := lt_of_lt_of_eq t.isLt N_0

variable (m : (ℓ : Loc nD τ sig) → Buf (Elt Ideal) ℓ) (c : Dev nD)
variable {A : Fin 4096 → Fin 2048 → EReal} {W : Fin 31 → Fin 1024 → EReal} {B G E : Fin 1024 → EReal}
  (hA : ∀ a b, m ((c : Thread nD τ).loc main_arg0) (ix2 a b) = A a b)
  (hW : ∀ a b, m ((c : Thread nD τ).loc main_arg1) (ix2 a b) = W a b)
  (hB : ∀ b, m ((c : Thread nD τ).loc main_arg2) (ix1 b) = B b)
  (hG : ∀ b, m ((c : Thread nD τ).loc main_arg3) (ix1 b) = G b)
  (hE : ∀ b, m ((c : Thread nD τ).loc main_arg4) (ix1 b) = E b)

include hA in
theorem entry0 (a : Fin 4096) (b : Fin 2048) : V m c main_v0 (ix2 a b) = A a b := by
  rw [← hA]
  show StableHlo.after hostOps0 (fun b => m (c, b)) (Proc.tc.devRef main_v0) (ix2 a b) = _
  after_results
  rfl
include hB in
theorem entry1 (b : Fin 1024) : V m c main_v1 (ix2 0 b) = B b := by
  rw [← hB]
  show StableHlo.after hostOps0 (fun b => m (c, b)) (Proc.tc.devRef main_v1) (ix2 0 b) = _
  after_results
  pointwise
include hG in
theorem entry2 (b : Fin 1024) : V m c main_v2 (ix2 0 b) = G b := by
  rw [← hG]
  show StableHlo.after hostOps0 (fun b => m (c, b)) (Proc.tc.devRef main_v2) (ix2 0 b) = _
  after_results
  pointwise
include hE in
theorem entry3 (b : Fin 1024) : V m c main_v3 (ix2 0 b) = E b := by
  rw [← hE]
  show StableHlo.after hostOps0 (fun b => m (c, b)) (Proc.tc.devRef main_v3) (ix2 0 b) = _
  after_results
  pointwise

include hA hW hB hG hE in
theorem finds (t : Fin cfg0.N) :
    Finds A W B G E t.val (lt16 t) (iblk m c 0 t) (iblk m c 1 t) (iblk m c 2 t) (iblk m c 3 t) (iblk m c 4 t) (iblk m c 5 t) where
  own r k := by
    rw [← entry0 m c hA]; blk_ext [iblk, idx t]
  before r k h := by
    rw [← entry0 m c hA]; blk_ext [iblk, idx t]
  filter j b := by
    rw [← hW]; blk_ext [iblk, V, idx t]
  bias b := by
    rw [← entry1 m c hB]; blk_ext [iblk, idx t]
  scale b := by
    rw [← entry2 m c hG]; blk_ext [iblk, idx t]
  shift b := by
    rw [← entry3 m c hE]; blk_ext [iblk, idx t]

include hA hW hB hG hE in
theorem final6 : (dats m 0 c).arrAt 6 (cfgs 0).N = fun i => activated A W B G E (i 0) (i 1) := by
  refine (dats m 0 c).arrAt_eq_of_covers 6 _ (by decide +kernel) fun t hf y => ?_
  blk_simp
  rw [after0_6]
  refine (outS_eq A W B G E t.val (lt16 t) _ (point t) _ _ _ _ _ _ (finds m c hA hW hB hG hE t) y).trans ?_
  rw [show (win0_6.blk t).view.emb y = ix2 (place t.val (lt16 t) (y 0)) (y 1) by blk_ext [idx t, place]]
  rfl

include hA hW hB hG hE in
/-- The convolved rows. -/
theorem final7 : (dats m 0 c).arrAt 7 (cfgs 0).N = fun i => convolved A W B (i 0) (i 1) := by
  refine (dats m 0 c).arrAt_eq_of_covers 7 _ (by decide +kernel) fun t hf y => ?_
  blk_simp
  rw [after0_7]
  refine (outC_eq A W B G E t.val (lt16 t) _ (point t) _ _ _ _ _ _ (finds m c hA hW hB hG hE t) y).trans ?_
  rw [show (win0_7.blk t).view.emb y = ix2 (place t.val (lt16 t) (y 0)) (y 1) by blk_ext [idx t, place]]
  rfl

include hA hW hB hG hE in
/-- The activated rows, as the program returns them. -/
theorem returned : Pipeline.afterTail₀ cfgs (dats m) 0 (V0 m) [hostOps1] c main_v5 = fun i => activated A W B G E (i 0) (i 1) := by
  unfold Pipeline.afterTail₀
  show StableHlo.after hostOps1 _ (Proc.tc.devRef main_v5) = _
  after_results
  rw [Pipeline.withArrays_arr_shared spec0 c _ _ (Pipeline.Dat.arrAt_sharedIn (dats m 0 c) (by decide) (V0 m c) (A_eq m c) _) 6]
  exact final6 m c hA hW hB hG hE

end Cert.Proof.Cmidf

end
-- ==== Proof.CmidfRef.lean ====
/- The forward call of the middle of the convolution module: what the reference computes. -/
module

public import proofs.«01_k».proof.Proof.CmidfMath
public import proofs.«01_k».proof.Proof.Reals
public import proofs.«01_k».proof.Proof.Gen.CmidfRefIdeal.Read

@[expose] public section

set_option maxRecDepth 16384
set_option maxHeartbeats 1000000

noncomputable section

namespace Cert.Proof.CmidfR

open Cert.CmidfRefIdeal Cert.CmidfRefIdeal.Gen Cert.CmidfRefIdeal.Read Cert.Proof.Cmidf
open Cert.Proof.Cmid (colA colG gate gated past tap)
open Idealize.ShloMosaic TcCoe

variable {A0 : FVec Ideal S4096x2048 .f32} {A1 : FVec Ideal S31x1024 .f32} {A2 A3 A4 : FVec Ideal S1024 .f32}
  {A : Fin 4096 → Fin 2048 → EReal} {W : Fin 31 → Fin 1024 → EReal} {B G E : Fin 1024 → EReal}
  (hA : ∀ a b, A0 (ix2 a b) = A a b) (hW : ∀ a b, A1 (ix2 a b) = W a b)
  (hB : ∀ b, A2 (ix1 b) = B b) (hG : ∀ b, A3 (ix1 b) = G b) (hE : ∀ b, A4 (ix1 b) = E b)

include hA in
theorem gated_eq (a : Fin 4096) (b : Fin 1024) : val_main_v8 (F := Ideal) A0 (ix2 a b) = gated A a b := by
  unfold gated gate
  rw [← hA, ← hA]
  pointwise [val_main_v8, val_main_v7, val_main_v6, val_main_v5, val_main_v4, val_main_v3, val_main_v2, val_main_v1, val_main_v0, val_main_cst, val_main_cst_0, colA, colG]
  rfl

include hA in
/-- The gated rows with thirty rows of zeros before them. -/
theorem padded (a : Fin 4126) (b : Fin 1024) : val_main_v10 (F := Ideal) A0 (ix2 a b) = past A a.val b := by
  have ha := a.isLt
  unfold past
  split
  · pointwise [val_main_v10, val_main_v9, val_main_cst_1, gated_eq hA, (‹_ ∧ _› : 30 ≤ a.val ∧ _).1]
    exact dif_neg (by omega)
  · have h : ¬30 ≤ a.val := by omega
    pointwise [val_main_v10, val_main_v9, val_main_cst_1, gated_eq hA, h]
    exact dif_pos (by omega)

include hA hW in
/-- One tap's part. -/
theorem tap_part (k : ℕ) (h : S31x1024.Slices ![k, 0] S1x1024) (h' : S4126x1024.Slices ![k, 0] S4096x1024) (a : Fin 4096) (b : Fin 1024) :
    mulf (broadcastInDim S4096x1024 ![0, 1] bcast_S1x1024_S4096x1024_0_1
        (broadcastInDim S1x1024 ![1] bcast_S1024_S1x1024_1 (shapeCast S1024 (extractStridedSlice S1x1024 ![k, 0] A1 h) shapeCasts_S1x1024_S1024)))
      (extractStridedSlice S4096x1024 ![k, 0] (val_main_v10 (F := Ideal) A0) h') (ix2 a b) = tap W k b * past A (a.val + k) b := by
  have hk : k + 1 ≤ 31 := h.2 0
  unfold tap
  rw [← hW, show a.val + k = (⟨k + a.val, by omega⟩ : Fin 4126).val from Nat.add_comm _ _, ← padded hA]
  pointwise
  exact congrArg (fun z : Fin 31 => A1 (ix2 z b) * _) (Fin.ext (show k + 0 = k % 31 by omega))

theorem both {x y a b : EReal} (h : x = a) (h' : y = b) : x + y = a + b := by rw [h, h']

include hA hW in
theorem taps (a : Fin 4096) (b : Fin 1024) :
    val_main_v228 (F := Ideal) A0 A1 (ix2 a b) = up (fun k => tap W k b * past A (a.val + k) b) 30 := by
  iterate 30 refine both ?_ (tap_part hA hW _ _ _ a b)
  refine Eq.trans ?_ (zero_add _)
  exact both (by pointwise [val_main_v17, val_main_cst_2]) (tap_part hA hW 0 _ _ a b)

include hA hW hB in
theorem conv_eq (a : Fin 4096) (b : Fin 1024) : val_main_v231 (F := Ideal) A0 A1 A2 (ix2 a b) = convolved A W B a b := by
  unfold convolved
  rw [← taps hA hW]
  pointwise [val_main_v231, val_main_v230, val_main_v229, hB]

include hA hW hB hG hE in
theorem norm_eq (a : Fin 4096) (b : Fin 1024) : val_main_v253 (F := Ideal) A0 A1 A2 A3 A4 (ix2 a b) = normed (convolved A W B a) G E b := by
  pointwise [val_main_v253, val_main_v252, val_main_v251, val_main_v250, val_main_v249, val_main_v248, val_main_v247, val_main_v246, val_main_v245, val_main_v244,
    val_main_v243, val_main_cst_7, val_main_v242, val_main_v241, val_main_cst_6, val_main_v240, val_main_v239, val_main_cst_5, val_main_v238, val_main_v237,
    val_main_v236, val_main_v235, val_main_v234, val_main_cst_4, val_main_v233, val_main_v232, val_main_cst_3, conv_eq hA hW hB, hG, hE]
  rfl

include hA hW hB in
/-- The reference's convolved rows. -/
theorem resultC : val_main_v231 (F := Ideal) A0 A1 A2 = fun i => convolved A W B (i 0) (i 1) := by
  funext i; idx_vars i; exact conv_eq hA hW hB i0 i1

include hA hW hB hG hE in
/-- The reference's activation of them. -/
theorem resultS : val_main_v254 (F := Ideal) A0 A1 A2 A3 A4 = fun i => activated A W B G E (i 0) (i 1) := by
  funext i; idx_vars i
  show _ = activated A W B G E i0 i1
  unfold activated swish
  rw [← norm_eq hA hW hB hG hE]
  pointwise [val_main_v254, val_main_call0_v5, val_main_call0_v4, val_main_call0_v3, val_main_call0_v2, val_main_call0_v1, val_main_call0_v0, val_main_call0_cst,
    val_main_call0_cst_0]
  rfl

end Cert.Proof.CmidfR

end
-- ==== Proof.CmidfClaim.lean ====
/- The forward call of the middle of the convolution module: what the kernel leaves is what the reference computes. -/
module

public import proofs.«01_k».proof.Defs
public import proofs.«01_k».proof.Proof.CmidfFinal
public import proofs.«01_k».proof.Proof.CmidfRef

@[expose] public section

set_option maxRecDepth 16384
set_option maxHeartbeats 1000000

noncomputable section

namespace Cert.Proof

open Idealize.ShloMosaic TcCoe Idealize.SL.Sem

/-- The activated rows and the convolved ones: the kernel's are the reference's. -/
theorem algebraic_cmidf : Cert.algebraic_CmidfIdeal_CmidfRefIdeal := by
  pair_intro
  · run_from Cmidf.run_main m g
    · exact Cert.CmidfIdeal.Gen.W_main_arg0 m _ c
    · exact Cert.CmidfIdeal.Gen.W_main_arg2 m _ c
    · exact Cert.CmidfIdeal.Gen.W_main_arg3 m _ c
    · exact Cert.CmidfIdeal.Gen.W_main_arg4 m _ c
  · run_from Cert.CmidfRefIdeal.Value.run m' g'
    · refine (Cert.CmidfRefIdeal.Read.val_main_v254_eq _).trans ?_
      simp only [StableHlo.launchContents_devRef, (hagree c).1, (hagree c).2.1, (hagree c).2.2.1, (hagree c).2.2.2.1, (hagree c).2.2.2.2]
      rw [CmidfR.resultS (fun _ _ => rfl) (fun _ _ => rfl) (fun _ => rfl) (fun _ => rfl) (fun _ => rfl)]
      exact (Cmidf.returned m c (fun _ _ => rfl) (fun _ _ => rfl) (fun _ => rfl) (fun _ => rfl) (fun _ => rfl)).symm
    · refine (Cert.CmidfRefIdeal.Read.val_main_v231_eq _).trans ?_
      simp only [StableHlo.launchContents_devRef, (hagree c).1, (hagree c).2.1, (hagree c).2.2.1]
      rw [CmidfR.resultC (fun _ _ => rfl) (fun _ _ => rfl) (fun _ => rfl)]
      exact (Cmidf.final7 m c (fun _ _ => rfl) (fun _ _ => rfl) (fun _ => rfl) (fun _ => rfl) (fun _ => rfl)).symm

end Cert.Proof

end
-- ==== Proof.CmidfBits.lean ====
/- The forward call of the middle of the convolution module: the frame of the program as it runs. -/
module

public import proofs.«01_k».proof.Defs
public import proofs.«01_k».proof.Proof.CmidfFrame
public import proofs.«01_k».proof.Proof.Gen.Cmidf.Skeleton

@[expose] public section

set_option maxRecDepth 16384
set_option maxHeartbeats 1000000

namespace Cert.Proof.Cmidf

open Idealize.ShloMosaic TcCoe Idealize.SL.Sem

/-- The two printed bodies are one. -/
theorem defs_eq : @Cert.Cmidf.defs Bits _ _ = @Cert.CmidfIdeal.defs Bits _ _ := by sl_kernel_rfl

theorem frame_bits : Cert.quiescent_Cmidf := fun m ρ _ => by
  rw [defs_eq]
  exact frame_ideal (F := Bits) m ρ

end Cert.Proof.Cmidf
-- ==== Proof.Col.lean ====
/- A column-sharded projection's forward call: the normed rows and their product. -/
module

public import proofs.«01_k».proof.Proof.Chips
public import proofs.«01_k».proof.Proof.Gen.ColIdeal.Value
public import proofs.«01_k».proof.Proof.Gen.ColRefIdeal.Read
public import Idealize.ShloMosaic.Lib.Pipeline.ValueKit

@[expose] public section

set_option maxRecDepth 16384

noncomputable section

namespace Cert.ColIdeal.Value

open Cert.ColIdeal Cert.ColIdeal.Gen Cert.Chips Cert.Reals
open Idealize.ShloMosaic TcCoe Idealize.SL.Sem
open Pipeline (Dat)

/-- A row over the root of its mean square, times the gain. -/
def unit (x g : Fin 1024 → EReal) (l : Fin 1024) : EReal :=
  x l * Ideal.rsqrt (Ideal.div (∑ k, x k * x k) (Ideal.ofBits .f32 1149239296#32) + Ideal.ofBits .f32 897988541#32) * g l
/-- A column of the product. -/
def dot (x g w : Fin 1024 → EReal) : EReal := ∑ l, unit x g l * w l

section pay

variable {B0 : FVec Ideal S512x1024 .f32} {B1 : FVec Ideal S1x1024 .f32} {B2 : FVec Ideal S1x1024x768 .bf16}
  {x : Fin 512 → Fin 1024 → EReal} {g : Fin 1024 → EReal} {w : Fin 1024 → Fin 768 → EReal}
  (h0 : ∀ r k, B0 (ix2 r k) = x r k) (h1 : ∀ k, B1 (ix2 0 k) = g k) (h2 : ∀ l k, B2 (ix3 0 l k) = w l k)

include h0 h1 in
theorem pay_unit (r : Fin 512) (l : Fin 1024) : k0_pay2 (F := Ideal) B0 B1 (ix2 r l) = unit (x r) g l := by
  pointwise [k0_pay2, h0, h1]
  rfl

include h0 h1 h2 in
theorem pay_dot (r : Fin 512) (k : Fin 768) : k0_pay3 (F := Ideal) B0 B1 B2 (ix2 r k) = dot (x r) g (fun l => w l k) := by
  pointwise [k0_pay3, pay_unit h0 h1, h2]
  rfl

end pay

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

section run

variable (m : (ℓ : Loc nD τ sig) → Buf (Elt Ideal) ℓ) (c : Dev nD)
variable {X : Fin 4096 → Fin 1024 → EReal} {G : Fin 1024 → EReal} {W : Fin 1024 → Fin 3072 → EReal}
  (hX : ∀ a b, m ((c : Thread nD τ).loc main_arg0) (ix2 a b) = X a b)
  (hG : ∀ b, m ((c : Thread nD τ).loc main_arg1) (ix1 b) = G b)
  (hW : ∀ a b, m ((c : Thread nD τ).loc main_arg2) (ix2 a b) = W a b)

include hX in
theorem blk0 (t : Fin cfg0.N) (r : Fin 512) (k : Fin 1024) : iblk m c 0 t (ix2 r k) = X (rowOf N_0 t r) k := by
  rw [← hX]; blk_ext [iblk, V, idx t, rowOf]

include hG in
theorem blk1 (t : Fin cfg0.N) (k : Fin 1024) : iblk m c 1 t (ix2 0 k) = G k := by
  rw [← hG]; blk_point [iblk, V, idx t]

include hW in
theorem blk2 (t : Fin cfg0.N) (j : Fin 4) (l : Fin 1024) (k : Fin 768) : iblk m c 2 t (ix3 j l k) = W l (col rfl j k) := by
  rw [← hW]; blk_point [iblk, V, idx t, col]

include hX hG in
theorem left3 (t : Fin cfg0.N) (r : Fin 512) (b : Fin 1024) :
    out0_3 (F := Ideal) (iblk m c 0 t) (iblk m c 1 t) (iblk m c 2 t) (ix2 r b) = unit (X (rowOf N_0 t r)) G b := by
  frame_out
  exact pay_unit (blk0 m c hX t) (blk1 m c hG t) r b

include hX hG hW in
theorem left4 (t : Fin cfg0.N) (r : Fin 512) (b : Fin 3072) :
    out0_4 (F := Ideal) (iblk m c 0 t) (iblk m c 1 t) (iblk m c 2 t) (ix2 r b) = dot (X (rowOf N_0 t r)) G (fun l => W l b) := by
  have key : ∀ (j : Fin 4) (o : ℕ) (ho : o = j.val) (inb) (x0 : Fin 512) (x1 : Fin 768), r.val = x0.val → b.val = o * 768 + x1.val →
      k0_pay3 (F := Ideal) (iblk m c 0 t) (iblk m c 1 t)
        (View.ld (iblk m c 2 t) (Rect.unit ![o, 0, 0] ![1, 1024, 768] inb)) (ix2 x0 x1) = dot (X (rowOf N_0 t r)) G (fun l => W l b) := by
    intro j o ho inb x0 x1 h0 h1
    obtain rfl : r = x0 := Fin.ext h0
    obtain rfl : b = col rfl j x1 := Fin.ext (h1.trans (by rw [ho]; rfl))
    exact pay_dot (blk0 m c hX t) (blk1 m c hG t) (ldW (blk2 m c hW t) j o ho inb) r x1
  frame_out
  canon_tiles x h
  · idx_vars x
    exact key 3 3 rfl _ x0 x1 (by omega) (by omega)
  · idx_vars x
    exact key 2 2 rfl _ x0 x1 (by omega) (by omega)
  · idx_vars x
    exact key 1 1 rfl _ x0 x1 (by omega) (by omega)
  · idx_vars x
    exact key 0 0 rfl _ x0 x1 (by omega) (by omega)

include hX hG in
/-- The normed rows, whole. -/
theorem final3 : (dats m 0 c).arrAt 3 (cfgs 0).N = fun i => unit (X (i 0)) G (i 1) := by
  refine (dats m 0 c).arrAt_eq_of_covers 3 _ (by decide +kernel) fun t hf y => ?_
  blk_simp
  rw [after0_3, show (win0_3.blk t).view.emb y = ix2 (rowOf N_0 t (y 0)) (y 1) by blk_ext [idx t, rowOf]]
  exact (congrArg _ (eq_ix2 y)).trans (left3 m c hX hG t (y 0) (y 1))

include hX hG hW in
/-- The product, whole. -/
theorem final4 : (dats m 0 c).arrAt 4 (cfgs 0).N = fun i => dot (X (i 0)) G (fun l => W l (i 1)) := by
  refine (dats m 0 c).arrAt_eq_of_covers 4 _ (by decide +kernel) fun t hf y => ?_
  blk_simp
  rw [after0_4, show (win0_4.blk t).view.emb y = ix2 (rowOf N_0 t (y 0)) (y 1) by blk_ext [idx t, rowOf]]
  exact (congrArg _ (eq_ix2 y)).trans (left4 m c hX hG hW t (y 0) (y 1))

end run

end Cert.ColIdeal.Value

namespace Cert.ColRefIdeal.Read

open Cert.ColRefIdeal Cert.ColIdeal.Value
open Idealize.ShloMosaic TcCoe

variable {A0 : FVec Ideal S4096x1024 .f32} {A1 : FVec Ideal S1024 .f32} {A2 : FVec Ideal S1024x3072 .f32}
  {X : Fin 4096 → Fin 1024 → EReal} {G : Fin 1024 → EReal} {W : Fin 1024 → Fin 3072 → EReal}
  (hX : ∀ a b, A0 (ix2 a b) = X a b) (hG : ∀ b, A1 (ix1 b) = G b) (hW : ∀ a b, A2 (ix2 a b) = W a b)

include hX hG in
theorem unit_eq (a : Fin 4096) (b : Fin 1024) : val_main_v12 (F := Ideal) A0 A1 (ix2 a b) = unit (X a) G b := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, hX, hG]
  rfl

include hX hG in
theorem result0 : val_main_v13 (F := Ideal) A0 A1 = fun i => unit (X (i 0)) G (i 1) := by
  funext i; idx_vars i
  show _ = unit (X i0) G i1
  pointwise [val_main_v13, unit_eq hX hG]

include hX hG hW in
theorem result1 : val_main_v15 (F := Ideal) A0 A1 A2 = fun i => dot (X (i 0)) G (fun l => W l (i 1)) := by
  funext i; idx_vars i
  show _ = dot (X i0) G (fun l => W l i1)
  pointwise [val_main_v15, val_main_v14, unit_eq hX hG, hW]
  rfl

end Cert.ColRefIdeal.Read

end
-- ==== Proof.ColClaim.lean ====
/- A column-sharded projection's forward call: what the kernel leaves is what the reference computes. -/
module

public import proofs.«01_k».proof.Defs
public import proofs.«01_k».proof.Proof.Col

@[expose] public section

set_option maxRecDepth 16384

noncomputable section

namespace Cert.Proof

open Idealize.ShloMosaic TcCoe Idealize.SL.Sem

/-- The normed rows and their product: the kernel's are the reference's. -/
theorem algebraic_col : Cert.algebraic_ColIdeal_ColRefIdeal := by
  pair_intro
  · run_from Cert.ColIdeal.Gen.run_main m g
  · run_from Cert.ColRefIdeal.Value.run m' g'
    · refine (Cert.ColRefIdeal.Read.val_main_v13_eq _ _).trans ?_
      rw [Cert.ColRefIdeal.Read.result0 (fun _ _ => rfl) (fun _ => rfl)]
      exact (Cert.ColIdeal.Value.final3 m c (fun _ _ => rfl) (fun _ => rfl)).symm
    · refine (Cert.ColRefIdeal.Read.val_main_v15_eq _ _ _).trans ?_
      rw [Cert.ColRefIdeal.Read.result1 (fun _ _ => rfl) (fun _ => rfl) (fun _ _ => rfl)]
      exact (Cert.ColIdeal.Value.final4 m c (fun _ _ => rfl) (fun _ => rfl) (fun _ _ => rfl)).symm

end Cert.Proof

end
-- ==== Proof.PoolfReal.lean ====
/- Trailing means over the reals: what the forward pass mixes into a token. -/
module

public import proofs.«01_k».proof.Proof.PoolReal

@[expose] public section

noncomputable section

namespace Cert.Reals

/-- A row over the root of its mean square, times the gain. -/
def un (x g : Fin 1024 → ℝ) (l : Fin 1024) : ℝ := x l * rs x * g l

/-- A column with sixteen zeros before its first row. -/
def ex (U : Fin 4096 → ℝ) (n : ℕ) : ℝ := if h : 16 ≤ n ∧ n < 4112 then U ⟨n - 16, by omega⟩ else 0

theorem ex_low (U : Fin 4096 → ℝ) {n : ℕ} (h : n < 16) : ex U n = 0 := dif_neg (by omega)

theorem ex_at (U : Fin 4096 → ℝ) (s : Fin 4096) {n : ℕ} (h : n = 16 + s.val) : ex U n = U s := by
  subst h
  exact (dif_pos (by omega)).trans (congrArg U (Fin.ext (Nat.add_sub_cancel_left _ _)))

/-- The trailing mean of `w` tokens, less the token itself. -/
def pm (w : ℕ) (U : Fin 4096 → ℝ) (t : Fin 4096) : ℝ := (∑ i ∈ Finset.range w, ex U (t.val + (16 - i))) / cnt t w - U t

/-- A trailing sum is the difference of two running sums. -/
theorem trailing (w : ℕ) (hw : w ≤ 16) (U : Fin 4096 → ℝ) (t : Fin 4096) :
    ∑ s ∈ Finset.range (t.val + 1), ex U (16 + s) - ∑ s ∈ Finset.range (t.val + 1 - w), ex U (16 + s)
      = ∑ i ∈ Finset.range w, ex U (t.val + (16 - i)) := by
  induction w with
  | zero => simp
  | succ w ih =>
    rw [Finset.sum_range_succ fun i => ex U (t.val + (16 - i)), ← ih (by omega)]
    by_cases h : w ≤ t.val
    · have e := Finset.sum_range_succ (fun s => ex U (16 + s)) (t.val + 1 - (w + 1))
      rw [show t.val + 1 - (w + 1) + 1 = t.val + 1 - w by omega,
        show 16 + (t.val + 1 - (w + 1)) = t.val + (16 - w) by omega] at e
      rw [e]; ring
    · rw [show t.val + 1 - w = 0 by omega, show t.val + 1 - (w + 1) = 0 by omega, ex_low U (show t.val + (16 - w) < 16 by omega), add_zero]

/-- What is mixed into a token: each group of columns has its own window. -/
def mix (Y : Fin 4096 → Fin 1024 → ℝ) (t : Fin 4096) (l : Fin 1024) : ℝ := pm (win l) (fun s => Y s l) t

/-- The mixed rows through their group's map, scaled, next to the row itself. -/
def res (x s : Fin 1024 → EReal) (u : Fin 1024 → ℝ) (W : Fin 4 → Fin 256 → Fin 256 → EReal) (l : Fin 1024) : EReal :=
  x l + (∑ k, (u (cg (gr l) k) : EReal) * W (gr l) k (gc l)) * s l

end Cert.Reals

end
-- ==== Proof.Poolf.lean ====
/- The pooling mixer's forward call: its rows, block by block. -/
module

public import proofs.«01_k».proof.Proof.PoolfReal
public import proofs.«01_k».proof.Proof.Gen.PoolfIdeal.Value

@[expose] public section

set_option maxRecDepth 16384

noncomputable section

namespace Cert.PoolfIdeal.Value

open Cert.PoolfIdeal Cert.PoolfIdeal.Gen Cert.Reals
open Idealize.ShloMosaic TcCoe Idealize.SL.Sem
open Pipeline (Dat)

/-! ## The normed rows, stored under the sixteen before them and read again -/

/-- What the two stores left, at a row of the block … -/
theorem canon_own {b1} {lo : FVec Ideal S512x1024 .f32} {L} (y : S528x1024.Idx) (r : Fin 512) (l : Fin 1024)
    (h0 : (y 0 : ℕ) = 16 + r.val) (h1 : (y 1 : ℕ) = l.val) :
    View.canon (Val := Elt Ideal) (e := .f32) (⟨Rect.unit (s := S528x1024) ![16, 0] ![512, 1024] b1, lo⟩ :: L) y = lo (ix2 r l) := by
  have e : y = (Rect.unit (s := S528x1024) ![16, 0] ![512, 1024] b1).emb (ix2 r l) := by
    refine funext (Fin.forall_fin_two.2 ⟨Fin.ext ?_, Fin.ext ?_⟩)
    · show (y 0 : ℕ) = 16 + 1 * r.val; omega
    · show (y 1 : ℕ) = 0 + 1 * l.val; omega
  rw [e]; exact View.canon_cons_emb _ _ _ _

/-- … and at one of the rows before it. -/
theorem canon_before {b1 b0} {lo : FVec Ideal S512x1024 .f32} {hi : FVec Ideal S16x1024 .f32} {L} (y : S528x1024.Idx) (r : Fin 16)
    (l : Fin 1024) (h0 : (y 0 : ℕ) = r.val) (h1 : (y 1 : ℕ) = l.val) :
    View.canon (Val := Elt Ideal) (e := .f32) (⟨Rect.unit (s := S528x1024) ![16, 0] ![512, 1024] b1, lo⟩
      :: ⟨Rect.unit (s := S528x1024) ![0, 0] ![16, 1024] b0, hi⟩ :: L) y = hi (ix2 r l) := by
  have e : y = (Rect.unit (s := S528x1024) ![0, 0] ![16, 1024] b0).emb (ix2 r l) := by
    refine funext (Fin.forall_fin_two.2 ⟨Fin.ext ?_, Fin.ext ?_⟩)
    · show (y 0 : ℕ) = 0 + 1 * r.val; omega
    · show (y 1 : ℕ) = 0 + 1 * l.val; omega
  refine (View.canon_cons_of_not_mem _ _ fun h => ?_).trans ?_
  · have : 16 ≤ (y 0 : ℕ) := (Rect.mem_set_unit.1 (show y ∈ (Rect.unit (s := S528x1024) ![16, 0] ![512, 1024] b1).set from h) 0).1
    omega
  · rw [e]; exact View.canon_cons_emb _ _ _ _

/-- Read from row `j` down, at a group's columns. -/
theorem lagged {κ : Kind} {sp : Space} {v : View sig κ sp S528x1024 .f32} {j o : ℕ} {b1 b0 b}
    {lo : FVec Ideal S512x1024 .f32} {hi : FVec Ideal S16x1024 .f32} {L} {e : ℕ → Fin 1024 → ℝ} (g : Fin 4) (ho : o = g.val * 256) (hj : j ≤ 16)
    (h0 : ∀ r l, lo (ix2 r l) = (e (16 + r.val) l : EReal)) (h1 : ∀ r l, hi (ix2 r l) = (e r.val l : EReal))
    (r : Fin 512) (l : Fin 256) :
    (show FVec Ideal S512x256 .f32 from v.readCov (Val := Elt Ideal)
      (⟨Rect.unit ![16, 0] ![512, 1024] b1, lo⟩ :: ⟨Rect.unit ![0, 0] ![16, 1024] b0, hi⟩ :: L)
      (Rect.unit (s := S528x1024) ![j, o] ![512, 256] b).toLoadRect) (ix2 r l) = (e (r.val + j) (cg g l) : EReal) := by
  rw [View.readCov_eq_canon']
  have y0 : (((Rect.unit (s := S528x1024) ![j, o] ![512, 256] b).toLoadRect.idx (ix2 r l)) 0 : ℕ) = r.val + j := by
    show j + 1 * r.val = _; omega
  have y1 : (((Rect.unit (s := S528x1024) ![j, o] ![512, 256] b).toLoadRect.idx (ix2 r l)) 1 : ℕ) = (cg g l).val := by
    show o + 1 * l.val = g.val * 256 + l.val; omega
  by_cases h : r.val + j < 16
  · exact (canon_before _ ⟨r.val + j, h⟩ _ y0 y1).trans (h1 _ _)
  · refine (canon_own _ ⟨r.val + j - 16, by omega⟩ _ (y0.trans ?_) y1).trans ((h0 _ _).trans ?_)
    · show _ = 16 + (r.val + j - 16); omega
    · show (e (16 + (r.val + j - 16)) _ : EReal) = _
      rw [show 16 + (r.val + j - 16) = r.val + j by omega]

/-! ## The payloads -/

section norm

variable {B0 : FVec Ideal S512x1024 .f32} {B1 : FVec Ideal S16x1024 .f32} {B2 : FVec Ideal S1x1024 .f32}
  {x : Fin 512 → Fin 1024 → ℝ} {x' : Fin 16 → Fin 1024 → ℝ} {g : Fin 1024 → ℝ}
  (h0 : ∀ r k, B0 (ix2 r k) = (x r k : EReal)) (h2 : ∀ k, B2 (ix2 0 k) = (g k : EReal))

include h0 h2 in
theorem own (r : Fin 512) (l : Fin 1024) : k0_pay5 (F := Ideal) B0 B2 (ix2 r l) = (un (x r) g l : EReal) := by
  pointwise [k0_pay5, k0_pay3, h0, h2]
  simp only [lit_1024, lit_eps6, ← EReal.coe_mul, ← EReal.coe_add, sum_coe, div_1024, rs_coe, un]

include h2 in
theorem before {n : ℕ} (hn : n < 8) (i : grid0.Coords) (hi : (i 0).val = n) (h1 : 0 < n → ∀ r k, B1 (ix2 r k) = (x' r k : EReal))
    (r : Fin 16) (l : Fin 1024) : k0_pay4 (F := Ideal) i B2 B1 (ix2 r l) = ((if 0 < n then un (x' r) g l else 0 : ℝ) : EReal) := by
  by_cases h : 0 < n
  · rw [if_pos h]
    pointwise [k0_pay4, k0_pay3, h1 h, h2]
    simp only [lit_1024, lit_eps6, ← EReal.coe_mul, ← EReal.coe_add, sum_coe, div_1024, rs_coe, un]
    rw [hi]; interval_cases n <;> rfl
  · obtain rfl : n = 0 := by omega
    rw [if_neg h]
    pointwise [k0_pay4, k0_pay3]
    rw [hi]; rfl

end norm

section sums

variable {n a : ℕ} (hn : n < 8) (ha : a = n)
  {b0 b1 b2 b3 b4 b5 b6 b7 b8 b9 b10 b11 b12 b13 b14 b15 : FVec Ideal S512x256 .f32} {e : ℕ → Fin 256 → ℝ}
  (e0 : ∀ r l, b0 (ix2 r l) = (e (r.val + (16 - 0)) l : EReal))
  (e1 : ∀ r l, b1 (ix2 r l) = (e (r.val + (16 - 1)) l : EReal))
  (e2 : ∀ r l, b2 (ix2 r l) = (e (r.val + (16 - 2)) l : EReal))
  (e3 : ∀ r l, b3 (ix2 r l) = (e (r.val + (16 - 3)) l : EReal))
  (e4 : ∀ r l, b4 (ix2 r l) = (e (r.val + (16 - 4)) l : EReal))
  (e5 : ∀ r l, b5 (ix2 r l) = (e (r.val + (16 - 5)) l : EReal))
  (e6 : ∀ r l, b6 (ix2 r l) = (e (r.val + (16 - 6)) l : EReal))
  (e7 : ∀ r l, b7 (ix2 r l) = (e (r.val + (16 - 7)) l : EReal))
  (e8 : ∀ r l, b8 (ix2 r l) = (e (r.val + (16 - 8)) l : EReal))
  (e9 : ∀ r l, b9 (ix2 r l) = (e (r.val + (16 - 9)) l : EReal))
  (e10 : ∀ r l, b10 (ix2 r l) = (e (r.val + (16 - 10)) l : EReal))
  (e11 : ∀ r l, b11 (ix2 r l) = (e (r.val + (16 - 11)) l : EReal))
  (e12 : ∀ r l, b12 (ix2 r l) = (e (r.val + (16 - 12)) l : EReal))
  (e13 : ∀ r l, b13 (ix2 r l) = (e (r.val + (16 - 13)) l : EReal))
  (e14 : ∀ r l, b14 (ix2 r l) = (e (r.val + (16 - 14)) l : EReal))
  (e15 : ∀ r l, b15 (ix2 r l) = (e (r.val + (16 - 15)) l : EReal))

include hn ha e0 e1 in
theorem mean2 (r : Fin 512) (l : Fin 256) : k0_pay6 (F := Ideal) (BitVec.ofNat 32 a) b0 b1 (ix2 r l)
    = (((∑ i ∈ Finset.range 2, e (r.val + (16 - i)) l) / cnt (n * 512 + r.val) 2 - e (r.val + 16) l : ℝ) : EReal) := by
  pointwise [k0_pay6, e0, e1]
  rw [ha, cnt_block n r 2 hn.le r.isLt (by decide)]
  simp only [← EReal.coe_add, div_coe' _ (cnt_ne _ (show 0 < 2 by decide)), ← EReal.coe_sub, Finset.sum_range_succ, Finset.sum_range_zero,
    zero_add, Nat.sub_zero]

include hn ha e0 e1 e2 e3 in
theorem mean4 (r : Fin 512) (l : Fin 256) : k0_pay9 (F := Ideal) (BitVec.ofNat 32 a) b0 (k0_pay8 b0 b1 b2 b3) 512#32 (ix2 r l)
    = (((∑ i ∈ Finset.range 4, e (r.val + (16 - i)) l) / cnt (n * 512 + r.val) 4 - e (r.val + 16) l : ℝ) : EReal) := by
  pointwise [k0_pay9, k0_pay8, e0, e1, e2, e3]
  rw [ha, cnt_block n r 4 hn.le r.isLt (by decide)]
  simp only [← EReal.coe_add, div_coe' _ (cnt_ne _ (show 0 < 4 by decide)), ← EReal.coe_sub, Finset.sum_range_succ, Finset.sum_range_zero,
    zero_add, Nat.sub_zero]

include hn ha e0 e1 e2 e3 e4 e5 e6 e7 in
theorem mean8 (r : Fin 512) (l : Fin 256) : k0_pay12 (F := Ideal) (BitVec.ofNat 32 a) b0 (k0_pay11 b0 b1 b2 b3 b4) b5 b6 b7 (ix2 r l)
    = (((∑ i ∈ Finset.range 8, e (r.val + (16 - i)) l) / cnt (n * 512 + r.val) 8 - e (r.val + 16) l : ℝ) : EReal) := by
  pointwise [k0_pay12, k0_pay11, e0, e1, e2, e3, e4, e5, e6, e7]
  rw [ha, cnt_block n r 8 hn.le r.isLt (by decide)]
  simp only [← EReal.coe_add, div_coe' _ (cnt_ne _ (show 0 < 8 by decide)), ← EReal.coe_sub, Finset.sum_range_succ, Finset.sum_range_zero,
    zero_add, Nat.sub_zero]

include hn ha e0 e1 e2 e3 e4 e5 e6 e7 e8 e9 e10 e11 e12 e13 e14 e15 in
theorem mean16 (r : Fin 512) (l : Fin 256) : k0_pay1 (F := Ideal) b0 (k0_pay15 (k0_pay14 b0 b1 b2) b3 b4 b5 b6 b7 b8 b9 b10 b11 b12 b13 b14 b15) (k0_pay16 (BitVec.ofNat 32 a)) 16#32 (ix2 r l)
    = (((∑ i ∈ Finset.range 16, e (r.val + (16 - i)) l) / cnt (n * 512 + r.val) 16 - e (r.val + 16) l : ℝ) : EReal) := by
  pointwise [k0_pay1, k0_pay15, k0_pay14, k0_pay16, e0, e1, e2, e3, e4, e5, e6, e7, e8, e9, e10, e11, e12, e13, e14, e15]
  rw [ha, cnt_block n r 16 hn.le r.isLt (by decide)]
  simp only [← EReal.coe_add, div_coe' _ (cnt_ne _ (show 0 < 16 by decide)), ← EReal.coe_sub, Finset.sum_range_succ, Finset.sum_range_zero,
    zero_add, Nat.sub_zero]

end sums

section maps

variable (X : FVec Ideal S512x1024 .f32) (b0 b1 b2 b3 b4 : FVec Ideal S512x256 .f32) (W : FVec Ideal S1x256x256 .bf16)
  (S : FVec Ideal S1x256 .f32) (r : Fin 512) (l : Fin 256)

/-- A row next to a mixed row through its map, scaled. -/
abbrev along (g : Fin 4) (M : FVec Ideal S512x256 .bf16) : EReal :=
  X (ix2 r (cg g l)) + (∑ k, M (ix2 r k) * W (ix3 0 k l)) * S (ix2 0 l)

theorem along0 (q : BitVec 32) : k0_pay7 (F := Ideal) q X b0 b1 W S (ix2 r l) = along X W S r l 0 (k0_pay6 (F := Ideal) q b0 b1) := by
  pointwise [k0_pay7]
  exact congrArg (fun z => X (ix2 r z) + _) (Fin.ext (Nat.zero_add _).symm)

theorem along1 (q d : BitVec 32) : k0_pay10 (F := Ideal) q X b0 b1 d W S (ix2 r l) = along X W S r l 1 (k0_pay9 (F := Ideal) q b0 b1 d) := by
  pointwise [k0_pay10]
  rfl

theorem along2 (q : BitVec 32) : k0_pay13 (F := Ideal) q X b0 b1 b2 b3 b4 W S (ix2 r l) = along X W S r l 2 (k0_pay12 (F := Ideal) q b0 b1 b2 b3 b4) := by
  pointwise [k0_pay13]
  rfl

theorem along3 (q : BitVec 32) (d : IVec S512x1 32) : k0_pay2 (F := Ideal) X b0 b1 d q W S (ix2 r l) = along X W S r l 3 (k0_pay1 (F := Ideal) b0 b1 d q) := by
  pointwise [k0_pay2]
  rfl

/-- A group's map, of the maps stacked. -/
theorem slab {B : FVec Ideal S4x256x256 .bf16} (g : Fin 4) (o : ℕ) (ho : o = g.val) (inb) (k l : Fin 256) :
    (show FVec Ideal S1x256x256 .bf16 from View.ld (Val := Elt Ideal) (e' := .bf16) B (Rect.unit (s := S4x256x256) ![o, 0, 0] ![1, 256, 256] inb))
      (ix3 0 k l) = B (ix3 g k l) := by
  refine congrArg B (funext fun a => Fin.ext ?_)
  match a with
  | 0 => exact ho
  | 1 => exact (Nat.zero_add _).trans (Nat.one_mul _)
  | 2 => exact (Nat.zero_add _).trans (Nat.one_mul _)

end maps

/-! ## The blocks -/

theorem idx : ∀ t : Fin cfg0.N, win0_0.index t = ![t.val, 0] ∧ win0_1.index t = ![t.val * 32 - 1, 0] ∧ win0_2.index t = ![0, 0]
    ∧ win0_3.index t = ![0, 0, 0] ∧ win0_4.index t = ![0, 0] ∧ win0_5.index t = ![t.val, 0] ∧ win0_6.index t = ![t.val, 0] :=
  (by decide +kernel : ∀ t : Fin grid0.N, _)

theorem co : ∀ t : Fin cfg0.N, (grid0.coords t 0).val = t.val := (by decide +kernel : ∀ t : Fin grid0.N, _)

section run

variable (m : (ℓ : Loc nD τ sig) → Buf (Elt Ideal) ℓ) (c : Dev nD)
variable {X : Fin 4096 → Fin 1024 → ℝ} {G : Fin 1024 → ℝ} {W : Fin 4 → Fin 256 → Fin 256 → EReal} {S : Fin 1024 → EReal}
  (hX : ∀ a b, m ((c : Thread nD τ).loc main_arg0) (ix2 a b) = (X a b : EReal))
  (hG : ∀ b, m ((c : Thread nD τ).loc main_arg1) (ix1 b) = (G b : EReal))
  (hW : ∀ g a b, m ((c : Thread nD τ).loc main_arg2) (ix3 g a b) = W g a b)
  (hS : ∀ b, m ((c : Thread nD τ).loc main_arg3) (ix1 b) = S b)

/-- Row `r` of block `t`. -/
abbrev row (t : Fin cfg0.N) (r : Fin 512) : Fin 4096 := rowOf N_0 t r

include hX in
theorem blk0 (t : Fin cfg0.N) (r : Fin 512) (k : Fin 1024) : iblk m c 0 t (ix2 r k) = (X (row t r) k : EReal) := by
  rw [← hX]; blk_ext [iblk, V, idx t, row, rowOf]

include hX in
theorem blk1 (t : Fin cfg0.N) (r : Fin 16) (k : Fin 1024) (h : 0 < t.val) :
    iblk m c 1 t (ix2 r k) = (X ⟨t.val * 512 + r.val - 16, by have := lt_of_lt_of_eq t.isLt N_0; omega⟩ k : EReal) := by
  rw [← hX]; blk_ext [iblk, V, idx t]

include hG in
theorem blk2 (t : Fin cfg0.N) (k : Fin 1024) : iblk m c 2 t (ix2 0 k) = (G k : EReal) := by
  rw [← hG]; blk_point [iblk, V, idx t]

include hW in
theorem blk3 (t : Fin cfg0.N) (g : Fin 4) (a b : Fin 256) : iblk m c 3 t (ix3 g a b) = W g a b := by
  rw [← hW]; blk_point [iblk, V, idx t]

include hS in
theorem blk4 (t : Fin cfg0.N) (k : Fin 1024) : iblk m c 4 t (ix2 0 k) = S k := by
  rw [← hS]; blk_point [iblk, V, idx t]

include hX hG in
theorem own_at (t : Fin cfg0.N) (r : Fin 512) (l : Fin 1024) : k0_pay5 (F := Ideal) (iblk m c 0 t) (iblk m c 2 t) (ix2 r l)
    = (ex (fun a => un (X a) G l) (t.val * 512 + (16 + r.val)) : EReal) := by
  rw [own (blk0 m c hX t) (blk2 m c hG t), ex_at _ (row t r) (show t.val * 512 + (16 + r.val) = 16 + (t.val * 512 + r.val) by omega)]

include hX hG in
theorem before_at (t : Fin cfg0.N) (r : Fin 16) (l : Fin 1024) :
    k0_pay4 (F := Ideal) (grid0.coords t) (iblk m c 2 t) (iblk m c 1 t) (ix2 r l)
      = (ex (fun a => un (X a) G l) (t.val * 512 + r.val) : EReal) := by
  have ht := lt_of_lt_of_eq t.isLt N_0
  rw [before (blk2 m c hG t) ht _ (co t) (x' := fun r k => X ⟨t.val * 512 + r.val - 16, by omega⟩ k) fun h r k => blk1 m c hX t r k h]
  by_cases h : 0 < t.val
  · rw [if_pos h, ex_at _ ⟨t.val * 512 + r.val - 16, by omega⟩ (show t.val * 512 + r.val = 16 + (t.val * 512 + r.val - 16) by omega)]
  · rw [if_neg h, ex_low _ (by omega)]

/-- The rows stored, read from row `j` down at the columns from `o` on. -/
abbrev rd (t : Fin cfg0.N) (j o : ℕ) (b : ∀ a, (![j, o] : Fin 2 → ℕ) a + (![512, 256] : Fin 2 → ℕ) a ≤ S528x1024.size a) : FVec Ideal S512x256 .f32 := (View.whole cc0_scratch0).readCov (Val := Elt Ideal)
  [⟨Rect.unit ![16, 0] ![512, 1024] inb_S528x1024_S512x1024_16_0, k0_pay5 (iblk m c 0 t) (iblk m c 2 t)⟩,
    ⟨Rect.unit ![0, 0] ![16, 1024] inb_S528x1024_S16x1024_0_0, k0_pay4 (grid0.coords t) (iblk m c 2 t) (iblk m c 1 t)⟩]
  (Rect.unit (s := S528x1024) ![j, o] ![512, 256] b).toLoadRect

include hX hG in
theorem rd_at (t : Fin cfg0.N) (g : Fin 4) {j o : ℕ} (ho : o = g.val * 256) (hj : j ≤ 16) (b) (r : Fin 512) (l : Fin 256) :
    rd m c t j o b (ix2 r l) = (ex (fun a => un (X a) G (cg g l)) (t.val * 512 + (r.val + j)) : EReal) :=
  lagged (e := fun s l => ex (fun a => un (X a) G l) (t.val * 512 + s)) g ho hj (own_at m c hX hG t) (before_at m c hX hG t) r l

theorem mix_at (t : Fin cfg0.N) (g : Fin 4) {w : ℕ} (hw : w = 2 ^ (g.val + 1)) (r : Fin 512) (l : Fin 256) {Y : Fin 4096 → Fin 1024 → ℝ}
    {b : EReal} (h : b = (((∑ i ∈ Finset.range w, ex (fun a => Y a (cg g l)) (t.val * 512 + (r.val + (16 - i)))) / cnt (t.val * 512 + r.val) w
      - ex (fun a => Y a (cg g l)) (t.val * 512 + (r.val + 16)) : ℝ) : EReal)) : b = (mix Y (row t r) (cg g l) : EReal) := by
  rw [h, mix, win_cg, ← hw, pm, ex_at _ (row t r) (show t.val * 512 + (r.val + 16) = 16 + (t.val * 512 + r.val) by omega)]
  simp only [← Nat.add_assoc]
  rfl

include hX hG in
theorem mix0 (t : Fin cfg0.N) (r : Fin 512) (l : Fin 256) : k0_pay6 (F := Ideal) (BitVec.ofNat 32 (grid0.coords t 0)) (rd m c t 16 0 inb_S528x1024_S512x256_16_0) (rd m c t 15 0 inb_S528x1024_S512x256_15_0) (ix2 r l)
    = (mix (fun a => un (X a) G) (row t r) (cg 0 l) : EReal) :=
  mix_at t 0 rfl r l (mean2 (e := fun s l => ex (fun a => un (X a) G (cg 0 l)) (t.val * 512 + s)) (lt_of_lt_of_eq t.isLt N_0) (co t)
    (rd_at m c hX hG t 0 rfl (by decide) _) (rd_at m c hX hG t 0 rfl (by decide) _) r l)

include hX hG in
theorem mix1 (t : Fin cfg0.N) (r : Fin 512) (l : Fin 256) : k0_pay9 (F := Ideal) (BitVec.ofNat 32 (grid0.coords t 0)) (rd m c t 16 256 inb_S528x1024_S512x256_16_256)
    (k0_pay8 (rd m c t 16 256 inb_S528x1024_S512x256_16_256) (rd m c t 15 256 inb_S528x1024_S512x256_15_256) (rd m c t 14 256 inb_S528x1024_S512x256_14_256) (rd m c t 13 256 inb_S528x1024_S512x256_13_256)) 512#32 (ix2 r l)
    = (mix (fun a => un (X a) G) (row t r) (cg 1 l) : EReal) :=
  mix_at t 1 rfl r l (mean4 (e := fun s l => ex (fun a => un (X a) G (cg 1 l)) (t.val * 512 + s)) (lt_of_lt_of_eq t.isLt N_0) (co t)
    (rd_at m c hX hG t 1 rfl (by decide) _) (rd_at m c hX hG t 1 rfl (by decide) _) (rd_at m c hX hG t 1 rfl (by decide) _) (rd_at m c hX hG t 1 rfl (by decide) _) r l)

include hX hG in
theorem mix2 (t : Fin cfg0.N) (r : Fin 512) (l : Fin 256) : k0_pay12 (F := Ideal) (BitVec.ofNat 32 (grid0.coords t 0)) (rd m c t 16 512 inb_S528x1024_S512x256_16_512)
    (k0_pay11 (rd m c t 16 512 inb_S528x1024_S512x256_16_512) (rd m c t 15 512 inb_S528x1024_S512x256_15_512) (rd m c t 14 512 inb_S528x1024_S512x256_14_512) (rd m c t 13 512 inb_S528x1024_S512x256_13_512) (rd m c t 12 512 inb_S528x1024_S512x256_12_512))
    (rd m c t 11 512 inb_S528x1024_S512x256_11_512) (rd m c t 10 512 inb_S528x1024_S512x256_10_512) (rd m c t 9 512 inb_S528x1024_S512x256_9_512) (ix2 r l)
    = (mix (fun a => un (X a) G) (row t r) (cg 2 l) : EReal) :=
  mix_at t 2 rfl r l (mean8 (e := fun s l => ex (fun a => un (X a) G (cg 2 l)) (t.val * 512 + s)) (lt_of_lt_of_eq t.isLt N_0) (co t)
    (rd_at m c hX hG t 2 rfl (by decide) _) (rd_at m c hX hG t 2 rfl (by decide) _) (rd_at m c hX hG t 2 rfl (by decide) _) (rd_at m c hX hG t 2 rfl (by decide) _) (rd_at m c hX hG t 2 rfl (by decide) _) (rd_at m c hX hG t 2 rfl (by decide) _) (rd_at m c hX hG t 2 rfl (by decide) _) (rd_at m c hX hG t 2 rfl (by decide) _) r l)

include hX hG in
theorem mix3 (t : Fin cfg0.N) (r : Fin 512) (l : Fin 256) : k0_pay1 (F := Ideal) (rd m c t 16 768 inb_S528x1024_S512x256_16_768)
    (k0_pay15 (k0_pay14 (rd m c t 16 768 inb_S528x1024_S512x256_16_768) (rd m c t 15 768 inb_S528x1024_S512x256_15_768) (rd m c t 14 768 inb_S528x1024_S512x256_14_768))
      (rd m c t 13 768 inb_S528x1024_S512x256_13_768) (rd m c t 12 768 inb_S528x1024_S512x256_12_768) (rd m c t 11 768 inb_S528x1024_S512x256_11_768) (rd m c t 10 768 inb_S528x1024_S512x256_10_768) (rd m c t 9 768 inb_S528x1024_S512x256_9_768) (rd m c t 8 768 inb_S528x1024_S512x256_8_768) (rd m c t 7 768 inb_S528x1024_S512x256_7_768) (rd m c t 6 768 inb_S528x1024_S512x256_6_768) (rd m c t 5 768 inb_S528x1024_S512x256_5_768) (rd m c t 4 768 inb_S528x1024_S512x256_4_768) (rd m c t 3 768 inb_S528x1024_S512x256_3_768) (rd m c t 2 768 inb_S528x1024_S512x256_2_768) (rd m c t 1 768 inb_S528x1024_S512x256_1_768))
    (k0_pay16 (BitVec.ofNat 32 (grid0.coords t 0))) 16#32 (ix2 r l)
    = (mix (fun a => un (X a) G) (row t r) (cg 3 l) : EReal) :=
  mix_at t 3 rfl r l (mean16 (e := fun s l => ex (fun a => un (X a) G (cg 3 l)) (t.val * 512 + s)) (lt_of_lt_of_eq t.isLt N_0) (co t)
    (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) (rd_at m c hX hG t 3 rfl (by decide) _) r l)

include hX hW hS in
theorem res_at (t : Fin cfg0.N) (r : Fin 512) (l : Fin 256) (g : Fin 4) {p o : ℕ} (hp : p = g.val) (ho : o = g.val * 256) (bw bs)
    {M : FVec Ideal S512x256 .bf16} {u : Fin 1024 → ℝ} (hM : ∀ k, M (ix2 r k) = (u (cg g k) : EReal)) :
    along (iblk m c 0 t) (View.ld (iblk m c 3 t) (Rect.unit ![p, 0, 0] ![1, 256, 256] bw)) (View.ld (iblk m c 4 t) (Rect.unit ![0, o] ![1, 256] bs)) r l g M
      = res (fun b => X (row t r) b) S u W (cg g l) := by
  rw [res, gr_cg, gc_cg, ← blk0 m c hX t, ← blk4 m c hS t]
  refine congrArg₂ (· + ·) rfl (congrArg₂ (· * ·) (Finset.sum_congr rfl fun k _ => ?_) (cols g o ho bs 0 l))
  rw [hM, ← blk3 m c hW t]
  exact congrArg _ (slab g p hp bw k l)

include hX hG in
theorem left6 (t : Fin cfg0.N) (r : Fin 512) (l : Fin 1024) :
    (outsAt0 m c t).2 (ix2 r l) = (mix (fun a => un (X a) G) (row t r) l : EReal) := by
  rw [outsAt0]; frame_out
  canon_tiles x h
  all_goals
    idx_vars x
    obtain rfl : r = x0 := Fin.ext h0
  · obtain rfl : l = cg 3 x1 := Fin.ext h1
    exact mix3 m c hX hG t r x1
  · obtain rfl : l = cg 2 x1 := Fin.ext h1
    exact mix2 m c hX hG t r x1
  · obtain rfl : l = cg 1 x1 := Fin.ext h1
    exact mix1 m c hX hG t r x1
  · obtain rfl : l = cg 0 x1 := Fin.ext (h1.trans (Nat.zero_add _).symm)
    exact mix0 m c hX hG t r x1

include hX hG hW hS in
theorem left5 (t : Fin cfg0.N) (r : Fin 512) (l : Fin 1024) :
    (outsAt0 m c t).1 (ix2 r l) = res (fun b => X (row t r) b) S (mix (fun a => un (X a) G) (row t r)) W l := by
  rw [outsAt0]; frame_out
  canon_tiles x h
  all_goals
    idx_vars x
    obtain rfl : r = x0 := Fin.ext h0
  · obtain rfl : l = cg 3 x1 := Fin.ext h1
    exact (along3 _ _ _ _ _ _ _ _ _).trans (res_at m c hX hW hS t r x1 3 rfl rfl _ _ (mix3 m c hX hG t r))
  · obtain rfl : l = cg 2 x1 := Fin.ext h1
    exact (along2 _ _ _ _ _ _ _ _ _ _ _).trans (res_at m c hX hW hS t r x1 2 rfl rfl _ _ (mix2 m c hX hG t r))
  · obtain rfl : l = cg 1 x1 := Fin.ext h1
    exact (along1 _ _ _ _ _ _ _ _ _).trans (res_at m c hX hW hS t r x1 1 rfl rfl _ _ (mix1 m c hX hG t r))
  · obtain rfl : l = cg 0 x1 := Fin.ext (h1.trans (Nat.zero_add _).symm)
    exact (along0 _ _ _ _ _ _ _ _).trans (res_at m c hX hW hS t r x1 0 rfl rfl _ _ (mix0 m c hX hG t r))

include hX hG hW hS in
/-- The rows, with what their mixed rows add, whole. -/
theorem final5 : (dats m 0 c).arrAt 5 (cfgs 0).N
    = fun i => res (fun b => X (i 0) b) S (mix (fun a => un (X a) G) (i 0)) W (i 1) := by
  refine (dats m 0 c).arrAt_eq_of_covers 5 _ (by decide +kernel) fun t hf y => ?_
  blk_simp
  rw [after0_5, show (win0_5.blk t).view.emb y = ix2 (row t (y 0)) (y 1) by blk_ext [idx t, row, rowOf]]
  exact (congrArg _ (eq_ix2 y)).trans (left5 m c hX hG hW hS t (y 0) (y 1))

include hX hG in
/-- The mixed rows, whole. -/
theorem final6 : (dats m 0 c).arrAt 6 (cfgs 0).N = real2 (mix fun a => un (X a) G) := by
  refine (dats m 0 c).arrAt_eq_of_covers 6 _ (by decide +kernel) fun t hf y => ?_
  blk_simp
  rw [after0_6, show (win0_6.blk t).view.emb y = ix2 (row t (y 0)) (y 1) by blk_ext [idx t, row, rowOf]]
  exact (congrArg _ (eq_ix2 y)).trans (left6 m c hX hG t (y 0) (y 1))

end run

end Cert.PoolfIdeal.Value

end
-- ==== Proof.PoolfRef.lean ====
/- The pooling mixer's forward lines: what the reference computes at finite rows and gain. -/
module

public import proofs.«01_k».proof.Proof.PoolfReal
public import proofs.«01_k».proof.Proof.PoolRef
public import proofs.«01_k».proof.Proof.Gen.PoolfRefIdeal.Read

@[expose] public section

set_option maxRecDepth 16384

noncomputable section

namespace Cert.PoolfRefIdeal.Read

open Cert.PoolfRefIdeal Cert.Reals
open Idealize.ShloMosaic TcCoe

/-- The difference of two running sums `w` tokens apart, over the count. -/
theorem mean_ref {w : ℕ} (h0 : 0 < w) (hw : w ≤ 16) (U : Fin 4096 → ℝ) (t : Fin 4096) {a : EReal} {b : ¬t.val < w → EReal}
    (ha : a = ((∑ s ∈ Finset.range (t.val + 1), ex U (16 + s) : ℝ) : EReal))
    (hb : ∀ h, b h = ((∑ s ∈ Finset.range (t.val - w + 1), ex U (16 + s) : ℝ) : EReal)) :
    Ideal.div (a - if h : t.val < w then 0 else b h) (cnt t w : EReal)
      = (((∑ i ∈ Finset.range w, ex U (t.val + (16 - i))) / cnt t w : ℝ) : EReal) := by
  rw [← trailing w hw U t, ha, ← div_coe' _ (cnt_ne _ h0)]
  congr 1
  by_cases h : t.val < w
  · rw [dif_pos h, show t.val + 1 - w = 0 by omega, Finset.sum_range_zero, sub_zero, sub_zero]
  · rw [dif_neg h, hb h, ← EReal.coe_sub, show t.val + 1 - w = t.val - w + 1 by omega]

variable {A0 : FVec Ideal S4096x1024 .f32} {A1 A3 : FVec Ideal S1024 .f32} {A2 : FVec Ideal S4x256x256 .f32}
  {X : Fin 4096 → Fin 1024 → ℝ} {G : Fin 1024 → ℝ} {W : Fin 4 → Fin 256 → Fin 256 → EReal} {S : Fin 1024 → EReal}
  (hX : ∀ a b, A0 (ix2 a b) = (X a b : EReal)) (hG : ∀ b, A1 (ix1 b) = (G b : EReal))
  (hW : ∀ g a b, A2 (ix3 g a b) = W g a b) (hS : ∀ b, A3 (ix1 b) = S b)

include hX hG in
theorem unit_eq (a : Fin 4096) (b : Fin 1024) : val_main_v12 (F := Ideal) A0 A1 (ix2 a b) = (un (X a) G b : EReal) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, hX, hG]
  simp only [lit_1024, lit_eps6, ← EReal.coe_mul, ← EReal.coe_add, sum_coe, div_1024, rs_coe, un]

include hX hG in
theorem groups (a : Fin 4096) (g : Fin 4) (k : Fin 256) : val_main_v13 (F := Ideal) A0 A1 (ix3 a g k) = (un (X a) G (cg g k) : EReal) := by
  rw [val_main_v13_apply, ← unit_eq hX hG]
  refine congrArg _ (funext fun b => Fin.ext ?_)
  match b with
  | ⟨0, _⟩ => show ((a.val * 4 + g.val) * 256 + k.val) / 1024 = a.val; omega
  | ⟨1, _⟩ => show ((a.val * 4 + g.val) * 256 + k.val) % 1024 = g.val * 256 + k.val; omega

include hX hG in
/-- The running sums. -/
theorem sums (t : Fin 4096) (g : Fin 4) (k : Fin 256) : val_main_v14 (F := Ideal) A0 A1 (ix3 t g k)
    = ((∑ s ∈ Finset.range (t.val + 1), ex (fun a => un (X a) G (cg g k)) (16 + s) : ℝ) : EReal) := by
  have z : ∀ j, val_main_call0_call0_v0 (F := Ideal) j = (0 : EReal) := fun j => by
    pointwise [val_main_call0_call0_v0, val_main_call0_call0_cst]
  refine (Cert.PoolRefIdeal.Read.window_sum (N := 4096) (lo := 4095) (P := 0) (x := val_main_v13 (F := Ideal) A0 A1)
    (init := val_main_call0_call0_v0 (F := Ideal))
    (f := fun s g l => if s < 4095 then 0 else ex (fun a => un (X a) G (cg g l)) (16 + (s - 4095)))
    (fun a g l => ?_) (fun s g l h => ?_) z t g k).trans (congrArg _ ?_)
  · rw [if_neg (by omega), ex_at _ a (by omega)]; exact groups hX hG a g l
  · rcases h with h | h
    · exact if_pos h
    · rw [if_neg (by omega)]; exact dif_neg (by omega)
  · rw [show Finset.range 4096 = Finset.range ((4095 - t.val) + (t.val + 1)) from congrArg _ (by omega), Finset.sum_range_add, Finset.sum_eq_zero, zero_add]
    · refine Finset.sum_congr rfl fun s _ => ?_
      rw [if_neg (by omega)]
      exact congrArg _ (by omega)
    · intro s hs
      exact if_pos (by have := Finset.mem_range.1 hs; omega)

theorem cnt2 (s : Fin 4096) (z : Fin 1) : val_main_v26 (F := Ideal) (ix2 s z) = (cnt s 2 : EReal) := by
  pointwise [val_main_v26, val_main_v25, val_main_v24, val_main_v22, val_main_v23, val_main_v15, val_main_v21, val_main_c, val_main_c_3]
  exact cnt_word s 2 (by omega) (by omega)

theorem cnt4 (s : Fin 4096) (z : Fin 1) : val_main_v40 (F := Ideal) (ix2 s z) = (cnt s 4 : EReal) := by
  pointwise [val_main_v40, val_main_v39, val_main_v38, val_main_v36, val_main_v37, val_main_v15, val_main_v35, val_main_c_5, val_main_c_6]
  exact cnt_word s 4 (by omega) (by omega)

theorem cnt8 (s : Fin 4096) (z : Fin 1) : val_main_v54 (F := Ideal) (ix2 s z) = (cnt s 8 : EReal) := by
  pointwise [val_main_v54, val_main_v53, val_main_v52, val_main_v50, val_main_v51, val_main_v15, val_main_v49, val_main_c_8, val_main_c_9]
  exact cnt_word s 8 (by omega) (by omega)

theorem cnt16 (s : Fin 4096) (z : Fin 1) : val_main_v68 (F := Ideal) (ix2 s z) = (cnt s 16 : EReal) := by
  pointwise [val_main_v68, val_main_v67, val_main_v66, val_main_v64, val_main_v65, val_main_v15, val_main_v63, val_main_c_11, val_main_c_12]
  exact cnt_word s 16 (by omega) (by omega)

include hX hG in
theorem mean2 (t : Fin 4096) (k : Fin 256) : val_main_v29 (F := Ideal) A0 A1 (ix2 t k)
    = (((∑ i ∈ Finset.range 2, ex (fun a => un (X a) G (cg 0 k)) (t.val + (16 - i))) / cnt t 2 : ℝ) : EReal) := by
  pointwise [val_main_v29, val_main_v28, cnt2, val_main_v27, val_main_v20, val_main_v19, val_main_v18, val_main_cst_2, val_main_v17, val_main_v16]
  exact mean_ref (by decide) (by decide) _ t (sums hX hG t 0 k) fun h => sums hX hG ⟨t.val - 2, by omega⟩ 0 k

include hX hG in
theorem mean4 (t : Fin 4096) (k : Fin 256) : val_main_v43 (F := Ideal) A0 A1 (ix2 t k)
    = (((∑ i ∈ Finset.range 4, ex (fun a => un (X a) G (cg 1 k)) (t.val + (16 - i))) / cnt t 4 : ℝ) : EReal) := by
  pointwise [val_main_v43, val_main_v42, cnt4, val_main_v41, val_main_v34, val_main_v33, val_main_v32, val_main_cst_4, val_main_v31, val_main_v30]
  exact mean_ref (by decide) (by decide) _ t (sums hX hG t 1 k) fun h => sums hX hG ⟨t.val - 4, by omega⟩ 1 k

include hX hG in
theorem mean8 (t : Fin 4096) (k : Fin 256) : val_main_v57 (F := Ideal) A0 A1 (ix2 t k)
    = (((∑ i ∈ Finset.range 8, ex (fun a => un (X a) G (cg 2 k)) (t.val + (16 - i))) / cnt t 8 : ℝ) : EReal) := by
  pointwise [val_main_v57, val_main_v56, cnt8, val_main_v55, val_main_v48, val_main_v47, val_main_v46, val_main_cst_7, val_main_v45, val_main_v44]
  exact mean_ref (by decide) (by decide) _ t (sums hX hG t 2 k) fun h => sums hX hG ⟨t.val - 8, by omega⟩ 2 k

include hX hG in
theorem mean16 (t : Fin 4096) (k : Fin 256) : val_main_v71 (F := Ideal) A0 A1 (ix2 t k)
    = (((∑ i ∈ Finset.range 16, ex (fun a => un (X a) G (cg 3 k)) (t.val + (16 - i))) / cnt t 16 : ℝ) : EReal) := by
  pointwise [val_main_v71, val_main_v70, cnt16, val_main_v69, val_main_v62, val_main_v61, val_main_v60, val_main_cst_10, val_main_v59, val_main_v58]
  exact mean_ref (by decide) (by decide) _ t (sums hX hG t 3 k) fun h => sums hX hG ⟨t.val - 16, by omega⟩ 3 k

include hX hG in
theorem mixed (t : Fin 4096) (g : Fin 4) (k : Fin 256) :
    val_main_v77 (F := Ideal) A0 A1 (ix3 t g k) = (mix (fun a => un (X a) G) t (cg g k) : EReal) := by
  match g with
  | 0 | 1 | 2 | 3 =>
    pointwise [val_main_v77, val_main_v76, val_main_v75, val_main_v74, val_main_v73, val_main_v72, mean2 hX hG, mean4 hX hG, mean8 hX hG,
      mean16 hX hG, groups hX hG]
    rw [mix, win_cg]
    exact (EReal.coe_sub _ _).symm

include hX hG in
theorem rows (t : Fin 4096) (l : Fin 1024) : val_main_v78 (F := Ideal) A0 A1 (ix2 t l) = (mix (fun a => un (X a) G) t l : EReal) := by
  rw [val_main_v78_apply, ← cg_gr_gc l, ← mixed hX hG, cg_gr_gc]
  refine congrArg _ (funext fun b => Fin.ext ?_)
  match b with
  | ⟨0, _⟩ => show (t.val * 1024 + l.val) / 1024 = t.val; omega
  | ⟨1, _⟩ => show (t.val * 1024 + l.val) / 256 % 4 = l.val / 256; omega
  | ⟨2, _⟩ => show (t.val * 1024 + l.val) % 256 = l.val % 256; omega

include hX hG in
theorem result1 : val_main_v87 (F := Ideal) A0 A1 = real2 (mix fun a => un (X a) G) := by
  funext i; idx_vars i
  show _ = (mix (fun a => un (X a) G) i0 i1 : EReal)
  pointwise [val_main_v87, rows hX hG]

include hX hG in
theorem split (t : Fin 4096) (g : Fin 4) (k : Fin 256) :
    val_main_v79 (F := Ideal) A0 A1 (ix3 t g k) = (mix (fun a => un (X a) G) t (cg g k) : EReal) := by
  rw [val_main_v79_apply, ← rows hX hG]
  refine congrArg _ (funext fun b => Fin.ext ?_)
  match b with
  | ⟨0, _⟩ => show ((t.val * 4 + g.val) * 256 + k.val) / 1024 = t.val; omega
  | ⟨1, _⟩ => show ((t.val * 4 + g.val) * 256 + k.val) % 1024 = g.val * 256 + k.val; omega

include hX hG hW in
theorem mapped (t : Fin 4096) (g : Fin 4) (d : Fin 256) : val_main_v80 (F := Ideal) A0 A1 A2 (ix3 g d t)
    = ∑ k, (mix (fun a => un (X a) G) t (cg g k) : EReal) * W g k d := by
  rw [val_main_v80_apply]
  refine Finset.sum_congr rfl fun k _ => (mul_comm _ _).trans (congrArg₂ (· * ·) ?_ ?_)
  · rw [← split hX hG]
    refine congrArg _ (funext fun b => ?_)
    match b with
    | ⟨0, _⟩ | ⟨1, _⟩ | ⟨2, _⟩ => rfl
  · rw [← hW]
    refine congrArg _ (funext fun b => ?_)
    match b with
    | ⟨0, _⟩ | ⟨1, _⟩ | ⟨2, _⟩ => rfl

include hX hG hW hS in
theorem result0 : val_main_v86 (F := Ideal) A0 A1 A2 A3
    = fun i => res (fun b => X (i 0) b) S (mix (fun a => un (X a) G) (i 0)) W (i 1) := by
  funext i; idx_vars i
  show _ = res _ S (mix (fun a => un (X a) G) i0) W i1
  pointwise [val_main_v86, val_main_v85, val_main_v84, val_main_v83, val_main_v82, val_main_v81, hS, hX]
  exact congrArg (fun z => (X i0 i1 : EReal) + z * S i1) (mapped hX hG hW i0 (gr i1) (gc i1))

end Cert.PoolfRefIdeal.Read

end
-- ==== Proof.PoolfClaim.lean ====
/- The pooling windows' forward pass: what the kernel leaves is what the reference computes. -/
module

public import proofs.«01_k».proof.Defs
public import proofs.«01_k».proof.Proof.Poolf
public import proofs.«01_k».proof.Proof.PoolfRef
public import proofs.«01_k».proof.Proof.Gen.Pre_poolf_finite

@[expose] public section

set_option maxRecDepth 16384
set_option maxHeartbeats 1000000

noncomputable section

namespace Cert.Proof

open Cert.Reals
open Idealize.ShloMosaic TcCoe Idealize.SL.Sem

/-- The rows carried on and the mixed rows: the kernel's are the reference's. -/
theorem algebraic_poolf : Cert.algebraic_PoolfIdeal_PoolfRefIdeal_pre_poolf_finite := by
  pair_intro
  · run_from Cert.PoolfIdeal.Gen.run_main m g
  · run_from Cert.PoolfRefIdeal.Value.run m' g'
    all_goals
      have h := hpre c
      choose X hX using fun a b => real_of_lt (by
        have := congrFun h.1 (ix2 a b)
        pointwise [Cert.Pre_poolf_finite.fn] at this
        exact this)
      choose G hG using fun b => real_of_lt (by
        have := congrFun h.2 (ix1 b)
        pointwise [Cert.Pre_poolf_finite.fn] at this
        exact this)
    · refine (Cert.PoolfRefIdeal.Read.val_main_v86_eq (F := Ideal) m' c).trans ?_
      show Cert.PoolfRefIdeal.Read.val_main_v86 (F := Ideal) (m' ((c : Thread Cert.PoolfRefIdeal.nD Cert.PoolfRefIdeal.τ).loc Cert.PoolfRefIdeal.main_arg0)) (m' ((c : Thread Cert.PoolfRefIdeal.nD Cert.PoolfRefIdeal.τ).loc Cert.PoolfRefIdeal.main_arg1))
        (m' ((c : Thread Cert.PoolfRefIdeal.nD Cert.PoolfRefIdeal.τ).loc Cert.PoolfRefIdeal.main_arg2)) (m' ((c : Thread Cert.PoolfRefIdeal.nD Cert.PoolfRefIdeal.τ).loc Cert.PoolfRefIdeal.main_arg3)) = _
      rw [(hagree c).1, (hagree c).2.1, (hagree c).2.2.1, (hagree c).2.2.2,
        Cert.PoolfRefIdeal.Read.result0 hX hG (fun _ _ _ => rfl) (fun _ => rfl)]
      exact (Cert.PoolfIdeal.Value.final5 m c hX hG (fun _ _ _ => rfl) (fun _ => rfl)).symm
    · refine (Cert.PoolfRefIdeal.Read.val_main_v87_eq (F := Ideal) m' c).trans ?_
      show Cert.PoolfRefIdeal.Read.val_main_v87 (F := Ideal) (m' ((c : Thread Cert.PoolfRefIdeal.nD Cert.PoolfRefIdeal.τ).loc Cert.PoolfRefIdeal.main_arg0)) (m' ((c : Thread Cert.PoolfRefIdeal.nD Cert.PoolfRefIdeal.τ).loc Cert.PoolfRefIdeal.main_arg1)) = _
      rw [(hagree c).1, (hagree c).2.1, Cert.PoolfRefIdeal.Read.result1 hX hG]
      exact (Cert.PoolfIdeal.Value.final6 m c hX hG).symm

end Cert.Proof

end
-- ==== Proof.SconvfRun.lean ====
module

public import proofs.«01_k».proof.Proof.Halo
public import proofs.«01_k».proof.Proof.Gen.SconvfIdeal.Skeleton
public import proofs.«01_k».proof.Proof.Gen.SconvfIdeal.Launch
public import proofs.«01_k».proof.Proof.Gen.SconvfIdeal.Points

/-! The short gated convolution, forward: the run of its body at one grid point. -/

@[expose] public section

set_option maxRecDepth 8192
set_option maxHeartbeats 4000000

noncomputable section

namespace Cert.Proof.Sconvf

open Cert.SconvfIdeal Cert.SconvfIdeal.Gen Cert.Proof.Halo
open Idealize.ShloMosaic TcCoe Idealize.ShloMosaic.Tactic Idealize.ShloMosaic.Pointwise
open Idealize.SL RA BI BIBase Laws ProofMode Sem

variable {F : FTy → Type} [FloatOps F]

/-! ## Pieces laid one after the other -/

section Laid

variable {T : Type} {N : ℕ} (p : Fin N → T)

/-- What was laid before trip `k`, the last first. -/
def laid : ℕ → List T
  | 0 => []
  | k + 1 => if h : k < N then p ⟨k, h⟩ :: laid k else laid k
theorem laid_succ (k : Fin N) : laid p (k.val + 1) = p k :: laid p k.val := by rw [laid]; exact dif_pos k.isLt
theorem laid_mem {k : Fin N} {n : ℕ} (h : k.val < n) : p k ∈ laid p n := by
  induction h with
  | refl => rw [laid_succ]; exact .head _
  | step h ih => rw [laid]; split <;> [exact .tail _ ih; exact ih]
theorem of_mem_laid {n : ℕ} {q : T} (h : q ∈ laid p n) : ∃ k, q = p k := by
  induction n with
  | zero => exact absurd h List.not_mem_nil
  | succ n ih =>
    rw [laid] at h
    split at h
    · exact (List.mem_cons.mp h).elim (fun e => ⟨_, e⟩) ih
    · exact ih h

end Laid

/-! ## A trip -/

/-- Where a trip reads and writes. -/
theorem offs : ∀ k : Fin k0_t1_loop.trips, (∀ a, k0_off1 k a = (![6, 8 + 32 * (k.val % 8), 512 * (k.val / 8)] : Fin 3 → ℕ) a)
    ∧ (∀ a, k0_off2 k a = (![7, 8 + 32 * (k.val % 8), 512 * (k.val / 8)] : Fin 3 → ℕ) a)
    ∧ (∀ a, k0_off3 k a = (![0, 16 + 32 * (k.val % 8), 512 * (k.val / 8)] : Fin 3 → ℕ) a)
    ∧ (∀ a, k0_off4 k a = (![0, 512 * (k.val / 8)] : Fin 2 → ℕ) a) ∧ (∀ a, k0_off5 k a = (![1, 512 * (k.val / 8)] : Fin 2 → ℕ) a)
    ∧ (∀ a, k0_off6 k a = (![2, 512 * (k.val / 8)] : Fin 2 → ℕ) a) ∧ (∀ a, k0_off7 k a = (![32 * (k.val % 8), 512 * (k.val / 8)] : Fin 2 → ℕ) a)
    ∧ (∀ a, k0_off8 k a = (![32 * (k.val % 8), 512 * (k.val / 8)] : Fin 2 → ℕ) a) := by decide +kernel
theorem lt16 (k : Fin k0_t1_loop.trips) : k.val < 16 := k.isLt.trans_eq (by decide +kernel)

section Trip

variable (y1 : S256x3072.Idx → Elt F .bf16) (y3 : S3x1024.Idx → Elt F .f32) (z : S8x272x1024.Idx → Elt F .f32) (k : Fin k0_t1_loop.trips)

/-- The three shifted tiles a trip reads, where it writes, and what. -/
abbrev z0 : Vec F S1x32x512 .f32 := View.ld z (Rect.unit (s := S8x272x1024) (k0_off1 k) S1x32x512.size (k0_off1_inb k))
abbrev z1 : Vec F S1x32x512 .f32 := View.ld z (Rect.unit (s := S8x272x1024) (k0_off2 k) S1x32x512.size (k0_off2_inb k))
abbrev z2 : Vec F S1x32x512 .f32 := View.ld z (Rect.unit (s := S8x272x1024) (k0_off3 k) S1x32x512.size (k0_off3_inb k))
abbrev rT : Rect S256x1024 := Rect.unit (s := S256x1024) (k0_off8 k) S32x512.size (k0_off8_inb k)
def tile : FVec F S32x512 .bf16 :=
  k0_pay3 (k0_pay4 (z0 z k)) (z1 z k) (z2 z k) (View.ld y3 (Rect.unit (s := S3x1024) (k0_off4 k) S1x512.size (k0_off4_inb k)))
    (View.ld y3 (Rect.unit (s := S3x1024) (k0_off5 k) S1x512.size (k0_off5_inb k)))
    (View.ld y3 (Rect.unit (s := S3x1024) (k0_off6 k) S1x512.size (k0_off6_inb k)))
    (View.ld y1 (Rect.unit (s := S256x3072) (k0_off7 k) S32x512.size (k0_off7_inb k)))
abbrev piece : View.Piece (Elt F) S256x1024 .bf16 := ⟨rT k, tile y1 y3 z k⟩

/-- Element `r`, `l` of a shifted tile. -/
theorem z_at (off : Fin 3 → ℕ) (inb) (p s : ℕ) (h : ∀ a, off a = (![p, s + 32 * (k.val % 8), 512 * (k.val / 8)] : Fin 3 → ℕ) a) (hp : p < 8) (hs : s ≤ 16)
    (x : S1x32x512.Idx) : View.ld (Val := Elt F) (e' := .f32) z (Rect.unit (s := S8x272x1024) off S1x32x512.size inb) x
      = z (ix3 ⟨p, hp⟩ ⟨s + 32 * (k.val % 8) + (x 1).val, by have h1 : (x 1).val < 32 := (x 1).isLt; omega⟩
          ⟨512 * (k.val / 8) + (x 2).val, by have h2 : (x 2).val < 512 := (x 2).isLt; have := lt16 k; omega⟩) := by
  have h0 : (x 0).val < 1 := (x 0).isLt
  refine congrArg z (funext fun a => ?_)
  fin_cases a
  · exact Fin.ext ((congrArg (· + 1 * (x 0).val) (h 0)).trans (show p + 1 * (x 0).val = p by omega))
  · exact Fin.ext ((congrArg (· + 1 * (x 1).val) (h 1)).trans (congrArg (s + 32 * (k.val % 8) + ·) (Nat.one_mul _)))
  · exact Fin.ext ((congrArg (· + 1 * (x 2).val) (h 2)).trans (congrArg (512 * (k.val / 8) + ·) (Nat.one_mul _)))

theorem tile_congr {z' : S8x272x1024.Idx → Elt F .f32} (hz : ∀ y, readZ y → z y = z' y) : tile y1 y3 z = tile y1 y3 z' := by
  funext k
  have key : ∀ (off : Fin 3 → ℕ) (inb) (p s : ℕ), (∀ a, off a = (![p, s + 32 * (k.val % 8), 512 * (k.val / 8)] : Fin 3 → ℕ) a) →
      p = 0 ∧ s ≤ 16 ∨ (p = 6 ∨ p = 7) ∧ s ≤ 8 →
      View.ld (Val := Elt F) (e' := .f32) z (Rect.unit (s := S8x272x1024) off S1x32x512.size inb) = View.ld z' (Rect.unit (s := S8x272x1024) off S1x32x512.size inb) :=
    fun off inb p s h hp => funext fun x => by
      have h1 : (x 1).val < 32 := (x 1).isLt
      rw [z_at z k off inb p s h (by omega) (by omega) x, z_at z' k off inb p s h (by omega) (by omega) x]
      exact hz _ (hp.imp (fun h => h.1) fun h => ⟨h.1, show s + 32 * (k.val % 8) + (x 1).val < 264 by omega⟩)
  obtain ⟨h1, h2, h3, -⟩ := offs k
  have e0 : z0 z k = z0 z' k := key _ _ 6 8 h1 (by decide)
  have e1 : z1 z k = z1 z' k := key _ _ 7 8 h2 (by decide)
  have e2 : z2 z k = z2 z' k := key _ _ 0 16 h3 (by decide)
  rw [tile, tile, e0, e1, e2]

/-- The tile that writes an element. -/
theorem tiles_cover (y : S256x1024.Idx) : ∃ p ∈ laid (piece y1 y3 z) k0_t1_loop.trips, y ∈ p.1.set := by
  have h0 : (y 0).val < 256 := (y 0).isLt
  have h1 : (y 1).val < 1024 := (y 1).isLt
  have hk : 8 * ((y 1).val / 512) + (y 0).val / 32 < k0_t1_loop.trips := Nat.lt_of_lt_of_eq (by omega : _ < 16) (by decide +kernel)
  have h8 := (offs ⟨_, hk⟩).2.2.2.2.2.2.2
  refine ⟨_, laid_mem (k := ⟨_, hk⟩) _ hk, mem_unit (inb := k0_off8_inb _) fun a => ?_⟩
  rw [h8]
  fin_cases a
  · show 32 * ((8 * ((y 1).val / 512) + (y 0).val / 32) % 8) ≤ (y 0).val ∧ (y 0).val < 32 * ((8 * ((y 1).val / 512) + (y 0).val / 32) % 8) + 32
    omega
  · show 512 * ((8 * ((y 1).val / 512) + (y 0).val / 32) / 8) ≤ (y 1).val ∧ (y 1).val < 512 * ((8 * ((y 1).val / 512) + (y 0).val / 32) / 8) + 512
    omega

end Trip

/-! ## The loop and the body -/

local notation "𝕄" => MT nD τ sig Unit (Elt F) ℕ (UR sig nD τ) ℕ

variable (c : Dev nD) (E : Set ℕ) (i : grid0.Coords) (arg1 : Memref sig .tc .vmem S256x3072 .bf16) (harg1 : arg1.IsWhole)
  (arg2 : Memref sig .tc .vmem S16x3072 .bf16) (harg2 : arg2.IsWhole) (arg3 : Memref sig .tc .vmem S3x1024 .f32) (harg3 : arg3.IsWhole)
  (arg4 : Memref sig .tc .vmem S256x1024 .bf16) (harg4 : arg4.IsWhole) (arg5 : Memref sig .tc .vmem S8x272x1024 .f32) (harg5 : arg5.IsWhole)

set_option warn.classDefReducibility false in
/-- Before a trip: the buffers read, and the tiles written so far. -/
@[sl_loop] def tileLoop (X1 : BufTy.Contents (Elt F) arg1.view.ty) (X3 : BufTy.Contents (Elt F) arg3.view.ty) (X5 : BufTy.Contents (Elt F) arg5.view.ty)
    (G4 : BufTy.Contents (Elt F) arg4.view.ty) :
    LoopInv (M := 𝕄) frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4 arg5 harg5) where
  inv k _ := iprop((arg1.view.loc (c : Thread nD τ) ↦[arg1.view.set]{fullShare} X1) ∗ (arg3.view.loc (c : Thread nD τ) ↦[arg3.view.set]{fullShare} X3)
    ∗ (arg5.view.loc (c : Thread nD τ) ↦[arg5.view.set]{fullShare} X5)
    ∗ (∃ f, (arg4.view.loc (c : Thread nD τ) ↦[arg4.view.set]{fullShare} f)
      ∗ ⌜f = arg4.view.writes (Elt F) G4 (laid (piece (arg1.view.read (Elt F) X1) (arg3.view.read (Elt F) X3) (arg5.view.read (Elt F) X5)) k)⌝))
  step k acc := by
    unfold k0_t1_body
    simp only [k0_part1_eq_skeleton]
    iintro ⟨H1, H3, H5, ⟨%f, H4, %hf⟩⟩
    sl_exec
    sl_step
    isplitl [H1]; · iexact H1
    isplitl [H3]; · iexact H3
    isplitl [H5]; · iexact H5
    iexists _
    isplitl [H4]; · iexact H4
    ipureintro
    rw [laid_succ, hf]
    rfl

variable (Y1 : S256x3072.Idx → Elt F .bf16) (Y2 : S16x3072.Idx → Elt F .bf16) (Y3 : S3x1024.Idx → Elt F .f32)

/-- The gated rows before the block and the block's own. -/
abbrev gHead : FVec F S16x1024 .f32 :=
  k0_pay5 i (View.ld Y2 (Rect.unit (s := S16x3072) ![0, 1024] S16x1024.size inb_S16x3072_S16x1024_0_1024))
    (View.ld Y2 (Rect.unit (s := S16x3072) ![0, 2048] S16x1024.size inb_S16x3072_S16x1024_0_2048))
abbrev gBody : FVec F S256x1024 .f32 :=
  k0_pay6 (View.ld Y1 (Rect.unit (s := S256x3072) ![0, 1024] S256x1024.size inb_S256x3072_S256x1024_0_1024))
    (View.ld Y1 (Rect.unit (s := S256x3072) ![0, 2048] S256x1024.size inb_S256x3072_S256x1024_0_2048))
/-- What the body leaves. -/
def out : S256x1024.Idx → Elt F .bf16 := View.canon (laid (piece Y1 Y3 (planes (gHead i Y2) (gBody Y1))) k0_t1_loop.trips)

theorem pay1_eq (u : FVec F S1x264x1024 .f32) : k0_pay1 (k0_pay7 u) = u := by
  funext x; idx_vars x; pointwise [k0_pay1, k0_pay7]
theorem pay2_eq (u : FVec F S1x264x1024 .f32) : k0_pay2 u = u := by
  funext x; idx_vars x; pointwise [k0_pay2]

theorem out_read {z : S8x272x1024.Idx → Elt F .f32} (hz : ∀ y, readZ y → z y = planes (gHead i Y2) (gBody Y1) y) (f : BufTy.Contents (Elt F) arg4.view.ty) :
    arg4.view.read (Elt F) (arg4.view.writes (Elt F) f (laid (piece Y1 Y3 z) (Scf.trips k0_t1_loop.lb k0_t1_loop.ub k0_t1_loop.st))) = out i Y1 Y2 Y3 := by
  unfold piece
  rw [tile_congr Y1 Y3 z hz]
  exact View.read_writes_eq_canon _ _ _ (tiles_cover Y1 Y3 _)

theorem some_owns {s : Shape} {e : EltTy} (a : Memref sig .tc .vmem s e) (f : BufTy.Contents (Elt F) a.view.ty) :
    (iprop(View.loc (c : Thread nD τ) a.view ↦[a.view.set]{fullShare} f) : sProp 𝕄)
      ⊢ iprop(∃ d, ∃ f, ⌜a.view.read (Elt F) f = d⌝ ∗ View.loc (c : Thread nD τ) a.view ↦[a.view.set]{fullShare} f) := by
  iintro H
  iexists (a.view.read (Elt F) f); iexists f; isplitr
  · ipureintro; rfl
  · iexact H

set_option sl_exec.squeezeSlice true in
theorem body_run (K : PUnit → sProp 𝕄) :
    iprop(owns (c : Thread nD τ) arg1 fullShare Y1 ∗ owns (c : Thread nD τ) arg2 fullShare Y2 ∗ owns (c : Thread nD τ) arg3 fullShare Y3
      ∗ (∃ d, owns (c : Thread nD τ) arg4 fullShare d) ∗ (∃ d, owns (c : Thread nD τ) arg5 fullShare d)
      ∗ (iprop(owns (c : Thread nD τ) arg1 fullShare Y1 ∗ owns (c : Thread nD τ) arg2 fullShare Y2 ∗ owns (c : Thread nD τ) arg3 fullShare Y3
          ∗ owns (c : Thread nD τ) arg4 fullShare (out i Y1 Y2 Y3) ∗ (∃ d, owns (c : Thread nD τ) arg5 fullShare d)) -∗ K ⟨⟩))
    ⊢ wp frame (wpE (defs₀ (F := F)) Variants.none c none) E (cc0_conv (F := F) i arg1 harg1 arg2 harg2 arg3 harg3 arg4 harg4 arg5 harg5) K := by
  simp only [cc0_conv_eq_skeleton]; unfold cc0_conv_skel
  simp only [k0_part2_eq_skeleton]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _
    isplitr
    rotate_left
    · iexact H4
    · ipureintro
      refine out_read i arg4 (View.read (Elt F) arg1.view f1) (View.read (Elt F) arg2.view f2) (View.read (Elt F) arg3.view f3) (fun y h => ?_) f4
      exact shifts_read (gHead i (View.read (Elt F) arg2.view f2)) (gBody (View.read (Elt F) arg1.view f1)) arg5.view pay1_eq pay2_eq f5 y h _ _
  iapply (some_owns c arg5 _); iexact H5

end Cert.Proof.Sconvf

end
-- ==== Proof.SconvfFrame.lean ====
module

public import proofs.«01_k».proof.Proof.SconvfRun
public import proofs.«01_k».proof.Proof.Gen.SconvfIdeal.Frame
public import Idealize.ShloMosaic.Lib.Pipeline.TableIdle
public import Idealize.ShloMosaic.Lib.Claim

/-! The short gated convolution, forward: the whole run. -/

@[expose] public section

set_option maxRecDepth 16384
set_option maxHeartbeats 1000000

noncomputable section

namespace Cert.Proof.Sconvf

open Cert.SconvfIdeal Cert.SconvfIdeal.Gen
open Idealize.ShloMosaic TcCoe Idealize.ShloMosaic.Tactic
open Idealize.SL RA BI BIBase Laws ProofMode Sem
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves. -/
def block (c : Dev nD) (t : Fin cfg0.N) : S256x1024.Idx → Elt F .bf16 := out (grid0.coords t) (iblk m c 0 t) (iblk m c 1 t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ _ := Pipeline.ΦA spec0 c
  q w := Pipeline.shareOf spec0 w
  owed _ := 0

variable (c : Dev nD) (t : Fin cfg0.N)

theorem A_eq (c : Dev nD) (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = block m c t := by dsimp only [dats]

theorem before0_0 (d) : (dats m 0 c).before 0 t d = iblk m c 0 t := before0_0_of m _ (A_eq m c 0) (after0_0 m c) t d
theorem before0_1 (d) : (dats m 0 c).before 1 t d = iblk m c 1 t := before0_1_of m _ (A_eq m c 1) (after0_1 m c) t d
theorem before0_2 (d) : (dats m 0 c).before 2 t d = iblk m c 2 t := before0_2_of m _ (A_eq m c 2) (after0_2 m c) t d

/-- No window is idle at any point, and a point's first coordinate is its number. -/
theorem live (w : Fin cfg0.W) (t : Fin cfg0.N) : cfg0.idle w (grid0.coords t) = false := by revert w t; decide +kernel
theorem point (t : Fin cfg0.N) : ((grid0.coords t) 0).val = t.val := by revert t; decide +kernel

abbrev slot (t : Fin cfg0.N) (w : Fin cfg0.W) := (cfg0.win w).stage (cfg0.slots t w)
abbrev scM0_0 : Memref sig .tc .vmem S8x272x1024 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

theorem leaves (c : Dev nD) (w : Fin cfg0.W) (t : Fin cfg0.N) :
    (dats m 0 c).leavesExact w t = owns (c : Thread nD τ) (slot t w) fullShare ((dats m 0 c).after w t) := by
  unfold Dat.leavesExact; rw [live w t]

def bodyPre (c : Dev nD) (t : Fin cfg0.N) : sProp 𝕄 :=
  iprop((dats m 0 c).Φ t.castSucc ∗ (dats m 0 c).owesAt () t.castSucc
    ∗ (∃ d, owns (c : Thread nD τ) (slot t 0) fullShare ((dats m 0 c).before 0 t d)) ∗ (∃ d, owns (c : Thread nD τ) (slot t 1) fullShare ((dats m 0 c).before 1 t d))
    ∗ (∃ d, owns (c : Thread nD τ) (slot t 2) fullShare ((dats m 0 c).before 2 t d)) ∗ (∃ d, owns (c : Thread nD τ) (slot t 3) fullShare ((dats m 0 c).before 3 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves m c 0 t, leaves m c 1 t, leaves m c 2 t, leaves m c 3 t, after0_0, after0_1, after0_2, after0_3]
  iintro ⟨⟨HS0, Hg⟩, Ho, ⟨%d0, H0⟩, ⟨%d1, H1⟩, ⟨%d2, H2⟩, ⟨%d3, H3⟩⟩
  iapply (body_run c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]
    · iexact HS0
    · iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run ends with the arguments as they were and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Sconvf

end
-- ==== Proof.SconvfVal.lean ====
module

public import proofs.«01_k».proof.Proof.SconvfFrame
public import proofs.«01_k».proof.Proof.SconvMath

/-! The short gated convolution, forward: what the kernel leaves, as numbers. -/

@[expose] public section

set_option maxRecDepth 16384
set_option maxHeartbeats 1000000

noncomputable section

namespace Cert.Proof.Sconvf

open Cert.SconvfIdeal Cert.SconvfIdeal.Gen Cert.Proof.Halo
open Cert.Proof.Sconv (colB colC colV past conv)
open Idealize.ShloMosaic TcCoe Idealize.SL.Sem
open Pipeline (Dat)

/-! ## The payloads -/

theorem head_pay (i : grid0.Coords) (u v : FVec Ideal S16x1024 .bf16) (r : Fin 16) (b : Fin 1024) :
    k0_pay5 (F := Ideal) i u v (ix2 r b) = if (i 0).val = 0 then 0 else u (ix2 r b) * v (ix2 r b) := by
  have key : ∀ n : Fin 16, (Scalar.cmpi .sgt (BitVec.ofNat 32 n.val) 0#32 = 1#1) ↔ n.val ≠ 0 := by decide +kernel
  pointwise [k0_pay5]
  split
  · exact if_neg (mt (key (i 0)).mp (not_not.mpr ‹_›))
  · exact if_pos ((key (i 0)).mpr ‹_›)

theorem body_pay (u v : FVec Ideal S256x1024 .bf16) (r : Fin 256) (b : Fin 1024) : k0_pay6 (F := Ideal) u v (ix2 r b) = u (ix2 r b) * v (ix2 r b) := by
  pointwise [k0_pay6]

theorem tile_pay (z0 z1 z2 : FVec Ideal S1x32x512 .f32) (w0 w1 w2 : FVec Ideal S1x512 .f32) (g : FVec Ideal S32x512 .bf16) (r : Fin 32) (l : Fin 512) :
    k0_pay3 (F := Ideal) (k0_pay4 z0) z1 z2 w0 w1 w2 g (ix2 r l)
      = g (ix2 r l) * (w0 (ix2 0 l) * z0 (ix3 0 r l) + w1 (ix2 0 l) * z1 (ix3 0 r l) + w2 (ix2 0 l) * z2 (ix3 0 r l)) := by
  pointwise [k0_pay3, k0_pay4]

/-- A part of a block, at its offsets. -/
theorem ld_at {R N n m : ℕ} {e : EltTy} (D : (⟨2, ![R, N]⟩ : Shape).Idx → Elt Ideal e) (off : Fin 2 → ℕ) (inb) (o : Fin 2 → ℕ) (h : ∀ a, off a = o a) (r : Fin n) (l : Fin m)
    (r' : Fin R) (k : Fin N) (hr : o 0 + r.val = r'.val) (hk : o 1 + l.val = k.val) :
    View.ld (Val := Elt Ideal) (e' := e) D (Rect.unit (s := ⟨2, ![R, N]⟩) off ![n, m] inb) (ix2 r l) = D (ix2 r' k) := by
  obtain rfl := funext h
  exact congrArg D (funext (Fin.forall_fin_two.2 ⟨Fin.ext ((congrArg (off 0 + ·) (Nat.one_mul _)).trans hr), Fin.ext ((congrArg (off 1 + ·) (Nat.one_mul _)).trans hk)⟩))

/-! ## One block -/

/-- The gated convolution. -/
def result (A : Fin 4096 → Fin 3072 → EReal) (W : Fin 3 → Fin 1024 → EReal) (s : Fin 4096) (b : Fin 1024) : EReal := A s (colB b) * conv A W s.val b

/-- Row `r` of point `t`'s block, of all rows; row `r` and column `l` of a trip's tile, of the block. -/
abbrev place (t : Fin cfg0.N) (r : Fin 256) : Fin 4096 := ⟨t.val * 256 + r.val, by have := t.isLt.trans_eq N_0; omega⟩
abbrev rowOf (k : Fin k0_t1_loop.trips) (r : Fin 32) : Fin 256 := ⟨32 * (k.val % 8) + r.val, by omega⟩
abbrev colOf (k : Fin k0_t1_loop.trips) (l : Fin 512) : Fin 1024 := ⟨512 * (k.val / 8) + l.val, by have := lt16 k; omega⟩

/-- Where the windows' blocks lie. -/
theorem idx : ∀ t : Fin cfg0.N, win0_0.index t = ![t.val, 0] ∧ win0_1.index t = ![t.val * 16 - 1, 0] ∧ win0_2.index t = ![0, 0] ∧ win0_3.index t = ![t.val, 0] :=
  (by decide +kernel : ∀ t : Fin grid0.N, _)

variable (m : (ℓ : Loc nD τ sig) → Buf (Elt Ideal) ℓ) (c : Dev nD) {A : Fin 4096 → Fin 3072 → EReal} {W : Fin 3 → Fin 1024 → EReal}
  (hA : ∀ a b, m ((c : Thread nD τ).loc main_arg0) (ix2 a b) = A a b) (hW : ∀ a b, m ((c : Thread nD τ).loc main_arg1) (ix2 a b) = W a b) (t : Fin cfg0.N)

include hA in
theorem entry (a : Fin 4096) (b : Fin 3072) : V m c main_v0 (ix2 a b) = A a b := by
  rw [← hA]
  show StableHlo.after hostOps0 (fun b => m (c, b)) (Proc.tc.devRef main_v0) (ix2 a b) = _
  after_results
  rfl
include hA in
theorem own (r : Fin 256) (k : Fin 3072) : iblk m c 0 t (ix2 r k) = A (place t r) k := by
  rw [← entry m c hA]; blk_ext [iblk, idx t]
include hA in
theorem before (r : Fin 16) (k : Fin 3072) (h : t.val ≠ 0) :
    iblk m c 1 t (ix2 r k) = A ⟨t.val * 256 + r.val - 16, by have := t.isLt.trans_eq N_0; omega⟩ k := by
  rw [← entry m c hA]; blk_ext [iblk, idx t]
include hW in
theorem taps (j : Fin 3) (b : Fin 1024) : iblk m c 2 t (ix2 j b) = W j b := by
  rw [← hW]; blk_ext [iblk, V, idx t]

/-- The rows before the block and the block's own, gated. -/
abbrev gate : ℕ → Fin 1024 → EReal := rows (gHead (F := Ideal) (grid0.coords t) (iblk m c 1 t)) (gBody (iblk m c 0 t))
abbrev buffer : S8x272x1024.Idx → EReal := planes (gHead (F := Ideal) (grid0.coords t) (iblk m c 1 t)) (gBody (iblk m c 0 t))

include hA in
theorem gate_eq (n : ℕ) (hn : n < 258) (b : Fin 1024) : gate m c t (14 + n) b = past A (t.val * 256 + n) b := by
  have ht := t.isLt.trans_eq N_0
  have at0 : ∀ x, (![0, x] : Fin 2 → ℕ) 0 = 0 := fun _ => rfl
  by_cases h : n < 2
  · refine (rows_head _ _ (14 + n) b (by omega)).trans ((head_pay _ _ _ ⟨14 + n, by omega⟩ b).trans ?_)
    rw [point t]
    split
    · rw [past, dif_neg (by omega)]
    · rw [past, dif_pos (by omega), ld_at _ _ _ _ (fun _ => rfl) ⟨14 + n, by omega⟩ b ⟨14 + n, by omega⟩ (colC b) (Nat.zero_add _) rfl,
        ld_at _ _ _ _ (fun _ => rfl) ⟨14 + n, by omega⟩ b ⟨14 + n, by omega⟩ (colV b) (Nat.zero_add _) rfl, before m c hA t _ _ ‹_›, before m c hA t _ _ ‹_›]
      simp only [show t.val * 256 + (14 + n) - 16 = t.val * 256 + n - 2 by omega]
  · obtain ⟨r, rfl⟩ : ∃ r, n = 2 + r := ⟨n - 2, by omega⟩
    rw [← Nat.add_assoc]
    refine (rows_body _ _ ⟨r, by omega⟩ b).trans ((body_pay _ _ ⟨r, by omega⟩ b).trans ?_)
    rw [past, dif_pos (by omega), ld_at _ _ _ _ (fun _ => rfl) ⟨r, by omega⟩ b ⟨r, by omega⟩ (colC b) (Nat.zero_add _) rfl,
      ld_at _ _ _ _ (fun _ => rfl) ⟨r, by omega⟩ b ⟨r, by omega⟩ (colV b) (Nat.zero_add _) rfl, own m c hA, own m c hA]
    simp only [show t.val * 256 + (2 + r) - 2 = t.val * 256 + r by omega]

variable (k : Fin k0_t1_loop.trips) (r : Fin 32) (l : Fin 512)

include hA hW in
theorem tile_eq : tile (F := Ideal) (iblk m c 0 t) (iblk m c 2 t) (buffer m c t) k (ix2 r l) = result A W (place t (rowOf k r)) (colOf k l) := by
  obtain ⟨h1, h2, h3, h4, h5, h6, h7, -⟩ := offs k
  have hz : ∀ (p s n : ℕ) (hp : p < 8) (h0 : (if p = 6 then 6 else if p = 7 then 7 else 0) + s = 14 + n) (hn : n < 3) (hs : s ≤ 16),
      buffer m c t (ix3 ⟨p, hp⟩ ⟨s + 32 * (k.val % 8) + r.val, by omega⟩ (colOf k l)) = past A ((place t (rowOf k r)).val + n) (colOf k l) :=
    fun p s n hp h0 hn hs => by
      have e := gate_eq m c hA t (32 * (k.val % 8) + r.val + n) (by omega) (colOf k l)
      refine Eq.trans (congrArg (fun x => gate m c t x (colOf k l)) (?_ : _ = _)) (e.trans (congrArg (fun x => past A x _) ?_))
      · show (if p = 6 then 6 else if p = 7 then 7 else 0) + (s + 32 * (k.val % 8) + r.val) = _; omega
      · show t.val * 256 + (32 * (k.val % 8) + r.val + n) = t.val * 256 + (32 * (k.val % 8) + r.val) + n; omega
  have e0 : z0 (F := Ideal) (buffer m c t) k (ix3 0 r l) = past A ((place t (rowOf k r)).val + 0) (colOf k l) :=
    (z_at (F := Ideal) (buffer m c t) k _ _ 6 8 h1 (by decide) (by decide) _).trans (hz 6 8 0 _ rfl (by decide) (by decide))
  have e1 : z1 (F := Ideal) (buffer m c t) k (ix3 0 r l) = past A ((place t (rowOf k r)).val + 1) (colOf k l) :=
    (z_at (F := Ideal) (buffer m c t) k _ _ 7 8 h2 (by decide) (by decide) _).trans (hz 7 8 1 _ rfl (by decide) (by decide))
  have e2 : z2 (F := Ideal) (buffer m c t) k (ix3 0 r l) = past A ((place t (rowOf k r)).val + 2) (colOf k l) :=
    (z_at (F := Ideal) (buffer m c t) k _ _ 0 16 h3 (by decide) (by decide) _).trans (hz 0 16 2 _ rfl (by decide) (by decide))
  refine (tile_pay _ _ _ _ _ _ _ r l).trans ?_
  rw [ld_at _ _ _ _ h7 r l (rowOf k r) (colB (colOf k l)) rfl rfl, ld_at _ _ _ _ h4 0 l 0 (colOf k l) rfl rfl, ld_at _ _ _ _ h5 0 l 1 (colOf k l) rfl rfl,
    ld_at _ _ _ _ h6 0 l 2 (colOf k l) rfl rfl, own m c hA, taps m c hW, taps m c hW, taps m c hW, e0, e1, e2]
  rfl

/-- The block of the result, as a function of its place. -/
def blockOf (A : Fin 4096 → Fin 3072 → EReal) (W : Fin 3 → Fin 1024 → EReal) (t : Fin cfg0.N) (y : S256x1024.Idx) : Elt Ideal .bf16 := result A W (place t (y 0)) (y 1)

include hA hW in
theorem block_eq (y : S256x1024.Idx) : block m c t y = result A W (place t (y 0)) (y 1) := by
  refine View.canon_apply_of_pieces (blockOf A W t) _ (fun p hp x => ?_) y (tiles_cover _ _ _ y)
  obtain ⟨k, rfl⟩ := of_mem_laid _ hp
  have h8 := (offs k).2.2.2.2.2.2.2
  refine (congrArg (tile _ _ _ k) (eq_ix2 (n0 := 32) (n1 := 512) x)).trans ((tile_eq m c hA hW t k (x 0) (x 1)).trans ?_)
  refine congrArg₂ (result A W) (Fin.ext ?_) (Fin.ext ?_)
  · show t.val * 256 + (32 * (k.val % 8) + (x 0).val) = t.val * 256 + (k0_off8 k 0 + 1 * (x 0).val)
    rw [h8 0, Nat.one_mul]; rfl
  · show 512 * (k.val / 8) + (x 1).val = k0_off8 k 1 + 1 * (x 1).val
    rw [h8 1, Nat.one_mul]; rfl

/-! ## All blocks -/

include hA hW in
theorem final3 : (dats m 0 c).arrAt 3 (cfgs 0).N = fun i => result A W (i 0) (i 1) := by
  refine (dats m 0 c).arrAt_eq_of_covers 3 _ (by decide +kernel) fun t hf y => ?_
  blk_simp
  rw [after0_3]
  refine (block_eq m c hA hW t y).trans ?_
  rw [show (win0_3.blk t).view.emb y = ix2 (place t (y 0)) (y 1) by blk_ext [idx t, place]]
  rfl

include hA hW in
/-- The gated convolution, as the program returns it. -/
theorem returned : Pipeline.afterTail₀ cfgs (dats m) 0 (V0 m) [hostOps1] c main_v2 = fun i => result A W (i 0) (i 1) := by
  unfold Pipeline.afterTail₀
  show StableHlo.after hostOps1 _ (Proc.tc.devRef main_v2) = _
  after_results
  rw [Pipeline.withArrays_arr_shared spec0 c _ _ (Pipeline.Dat.arrAt_sharedIn (dats m 0 c) (by decide) (V0 m c) (A_eq m c) _) 3]
  exact final3 m c hA hW

end Cert.Proof.Sconvf

end
-- ==== Proof.SconvfRef.lean ====
module

public import proofs.«01_k».proof.Proof.SconvfVal
public import proofs.«01_k».proof.Proof.Gen.SconvfRefIdeal.Read

/-! The short gated convolution, forward: what the reference computes. -/

@[expose] public section

set_option maxRecDepth 16384
set_option maxHeartbeats 1000000

noncomputable section

namespace Cert.Proof.SconvfR

open Cert.SconvfRefIdeal Cert.SconvfRefIdeal.Read
open Cert.Proof.Sconv (colB colC colV past conv)
open Cert.Proof.Sconvf (result)
open Idealize.ShloMosaic TcCoe

variable {A0 : FVec Ideal S4096x3072 .f32} {A1 : FVec Ideal S3x1024 .f32} {A : Fin 4096 → Fin 3072 → EReal} {W : Fin 3 → Fin 1024 → EReal}
  (hA : ∀ a b, A0 (ix2 a b) = A a b) (hW : ∀ a b, A1 (ix2 a b) = W a b)

include hA in
/-- The product of the two factors, two rows of zeros before it. -/
theorem padded (n : ℕ) (hn : n < 4098) (b : Fin 1024) : val_main_v5 (F := Ideal) A0 (ix2 ⟨n, hn⟩ b) = past A n b := by
  have e : ∀ a : Fin 4096, val_main_v3 (F := Ideal) A0 (ix2 a b) = A a (colC b) * A a (colV b) := fun a => by
    rw [← hA, ← hA]; pointwise [val_main_v3, val_main_v1, val_main_v2, colC, colV]
  unfold past
  by_cases h : n < 2
  · rw [dif_neg (fun e => absurd e.1 (by omega))]
    pointwise [val_main_v5, val_main_v4, val_main_cst, e]
    exact dif_pos h
  · rw [dif_pos ⟨by omega, by omega⟩]
    pointwise [val_main_v5, val_main_v4, val_main_cst, e]
    exact dif_neg h

include hA hW in
/-- The reference's gated convolution. -/
theorem result_eq : val_main_v28 (F := Ideal) A0 A1 = fun i => result A W (i 0) (i 1) := by
  funext i; idx_vars i
  have s0 : val_main_v8 (F := Ideal) A0 (ix2 i0 i1) = past A i0.val i1 :=
    Eq.trans (by pointwise [val_main_v8]) (padded hA i0.val (by omega) i1)
  have s1 : val_main_v16 (F := Ideal) A0 (ix2 i0 i1) = past A (i0.val + 1) i1 :=
    Eq.trans (by pointwise [val_main_v16, Nat.add_comm 1 i0.val]) (padded hA (i0.val + 1) (by omega) i1)
  have s2 : val_main_v23 (F := Ideal) A0 (ix2 i0 i1) = past A (i0.val + 2) i1 :=
    Eq.trans (by pointwise [val_main_v23, Nat.add_comm 2 i0.val]) (padded hA (i0.val + 2) (by omega) i1)
  show _ = A i0 (colB i1) * conv A W i0.val i1
  rw [← hA]
  pointwise [val_main_v28, val_main_v0, val_main_v27, val_main_v26, val_main_v25, val_main_v24, val_main_v22, val_main_v21, val_main_v20, val_main_v19,
    val_main_v18, val_main_v17, val_main_v15, val_main_v14, val_main_v13, val_main_v12, val_main_cst_0, val_main_v11, val_main_v10, val_main_v9,
    val_main_v7, val_main_v6, s0, s1, s2, hW, colB]
  rfl

end Cert.Proof.SconvfR

end
-- ==== Proof.SconvfClaim.lean ====
/- The short gated convolution, forward: what the kernel leaves is what the reference computes. -/
module

public import proofs.«01_k».proof.Defs
public import proofs.«01_k».proof.Proof.SconvfRef

@[expose] public section

set_option maxRecDepth 16384
set_option maxHeartbeats 1000000

noncomputable section

namespace Cert.Proof

open Idealize.ShloMosaic TcCoe Idealize.SL.Sem

/-- The gated convolution: the kernel's is the reference's. -/
theorem algebraic_sconvf : Cert.algebraic_SconvfIdeal_SconvfRefIdeal := by
  pair_intro
  · run_from Sconvf.run_main m g
    · exact Cert.SconvfIdeal.Gen.W_main_arg0 m _ c
  · run_from Cert.SconvfRefIdeal.Value.run m' g'
    refine (Cert.SconvfRefIdeal.Read.val_main_v28_eq _ _).trans ?_
    rw [SconvfR.result_eq (fun _ _ => rfl) (fun _ _ => rfl)]
    exact (Sconvf.returned m c (fun _ _ => rfl) (fun _ _ => rfl)).symm

end Cert.Proof

end
-- ==== Proof.SconvfBits.lean ====
/- The short gated convolution, forward: the frame of the program as it runs. -/
module

public import proofs.«01_k».proof.Defs
public import proofs.«01_k».proof.Proof.SconvfFrame
public import proofs.«01_k».proof.Proof.Gen.Sconvf.Skeleton

@[expose] public section

set_option maxRecDepth 16384
set_option maxHeartbeats 1000000

namespace Cert.Proof.Sconvf

open Idealize.ShloMosaic TcCoe Idealize.SL.Sem

/-- The two printed bodies are one. -/
theorem defs_eq : @Cert.Sconvf.defs Bits _ _ = @Cert.SconvfIdeal.defs Bits _ _ := by sl_kernel_rfl

theorem frame_bits : Cert.quiescent_Sconvf := fun m ρ _ => by
  rw [defs_eq]
  exact frame_ideal (F := Bits) m ρ

end Cert.Proof.Sconvf
-- ==== Proof.NorminClaim.lean ====
/- A projection's backward product at 3072 columns, fused with its norm's gradient: what the kernel's blocks hold,
   what the reference computes at finite arguments, and that they are one. -/
module

public import proofs.«01_k».proof.Defs
public import proofs.«01_k».proof.Proof.Norm
public import proofs.«01_k».proof.Proof.NormRef
public import proofs.«01_k».proof.Proof.Gen.NorminIdeal.Value
public import proofs.«01_k».proof.Proof.Gen.NorminRefIdeal.Read
public import proofs.«01_k».proof.Proof.Gen.Pre_normin_finite

@[expose] public section

set_option maxRecDepth 16384

noncomputable section

namespace Cert.NorminIdeal.Value

open Cert.NorminIdeal Cert.NorminIdeal.Gen Cert.Reals Cert.Chips Cert.NormIdeal.Value
open Idealize.ShloMosaic TcCoe Idealize.SL.Sem

/-- The backward product, chip by chip. -/
theorem chips {B0 : FVec Ideal S512x3072 .bf16} {B1 : FVec Ideal S4x1024x768 .bf16} {y : Fin 512 → Fin 3072 → ℝ} {w : Fin 1024 → Fin 3072 → ℝ}
    (h0 : ∀ r k, B0 (ix2 r k) = (y r k : EReal)) (h1 : ∀ j l k, B1 (ix3 j l k) = (w l (col rfl j k) : EReal))
    {p0 p1 p2 p3 q0 q1 q2 q3} (r : Fin 512) (l : Fin 1024) :
    k0_pay6 (F := Ideal) (cY 768 .bf16 B0 0 p0) (cW B1 0 q0) (cY 768 .bf16 B0 768 p1) (cW B1 1 q1) (cY 768 .bf16 B0 1536 p2) (cW B1 2 q2)
      (cY 768 .bf16 B0 2304 p3) (cW B1 3 q3) (ix2 r l) = (du (y r) w l : EReal) := by
  have e : 3072 = 4 * 768 := rfl
  rw [← du_chips e]
  pointwise [k0_pay6, ldY e .bf16 h0 0 0 rfl, ldY e .bf16 h0 1 768 rfl, ldY e .bf16 h0 2 1536 rfl, ldY e .bf16 h0 3 2304 rfl, ldW h1 0 0 rfl,
    ldW h1 1 1 rfl, ldW h1 2 2 rfl, ldW h1 3 3 rfl]
  simp only [← EReal.coe_mul, ← EReal.coe_add, sum_coe]

/-! ## The blocks -/

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section run

variable (m : (ℓ : Loc nD τ sig) → Buf (Elt Ideal) ℓ) (c : Dev nD)
variable {H : Fin 4096 → Fin 1024 → EReal} {X : Fin 4096 → Fin 1024 → ℝ} {G : Fin 1024 → ℝ} {W : Fin 1024 → Fin 3072 → ℝ} {Y : Fin 4096 → Fin 3072 → ℝ}
  (hX : ∀ a b, m ((c : Thread nD τ).loc main_arg0) (ix2 a b) = (X a b : EReal))
  (hG : ∀ b, m ((c : Thread nD τ).loc main_arg1) (ix1 b) = (G b : EReal))
  (hH : ∀ a b, m ((c : Thread nD τ).loc main_arg3) (ix2 a b) = H a b)
  (hW : ∀ a b, m ((c : Thread nD τ).loc main_arg2) (ix2 a b) = (W a b : EReal))
  (hY : ∀ a b, m ((c : Thread nD τ).loc main_arg4) (ix2 a b) = (Y a b : EReal))

include hY in
theorem blk0 (t : Fin cfg0.N) (r : Fin 512) (k : Fin 3072) : iblk m c 0 t (ix2 r k) = (Y (rowOf N_0 t r) k : EReal) := by
  rw [← hY]; blk_point [iblk, V, idx t, rowOf]

include hW in
theorem blk1 (t : Fin cfg0.N) (j : Fin 4) (l : Fin 1024) (k : Fin 768) :
    iblk m c 1 t (ix3 j l k) = (W l (col rfl j k) : EReal) := by
  rw [← hW]; blk_point [iblk, V, idx t, col]

include hX in
theorem blk2 (t : Fin cfg0.N) (r : Fin 512) (k : Fin 1024) : iblk m c 2 t (ix2 r k) = (X (rowOf N_0 t r) k : EReal) := by
  rw [← hX]; blk_ext [iblk, V, idx t, rowOf]

include hG in
theorem blk3 (t : Fin cfg0.N) (k : Fin 1024) : iblk m c 3 t (ix2 0 k) = (G k : EReal) := by
  rw [← hG]; blk_point [iblk, V, idx t]

include hH in
theorem blk4 (t : Fin cfg0.N) (r : Fin 512) (k : Fin 1024) : iblk m c 4 t (ix2 r k) = H (rowOf N_0 t r) k := by
  rw [← hH]; blk_ext [iblk, V, idx t, rowOf]

include hX hG hH hW hY in
theorem left5 (t : Fin cfg0.N) (r : Fin 512) (l : Fin 1024) :
    (outsAt0 m c t.val t.isLt).1 (ix2 r l) = H (rowOf N_0 t r) l + (rmsDx (du (Y (rowOf N_0 t r)) W) G (X (rowOf N_0 t r)) l : EReal) := by
  have ht := lt_of_lt_of_eq t.isLt N_0
  rw [← blk4 m c hH t]
  by_cases h : t.val % 8 = 0
  · rw [outsAt0_A m c t h (by omega)]; frame_out
    exact pay4 (blk2 m c hX t) (blk3 m c hG t) (chips (blk0 m c hY t) (blk1 m c hW t)) _ r l
  · rw [outsAt0_B m c t h (by omega)]; frame_out
    exact pay4 (blk2 m c hX t) (blk3 m c hG t) (chips (blk0 m c hY t) (blk1 m c hW t)) _ r l

include hX hG hH hW hY in
/-- The gradient of the input, whole: what came from later layers, and the norm's. -/
theorem final5 : (dats m 0 c).arrAt 5 (cfgs 0).N
    = fun i => H (i 0) (i 1) + real2 (fun a b => rmsDx (du (Y a) W) G (X a) b) i := by
  refine (dats m 0 c).arrAt_eq_of_covers 5 _ (by decide +kernel) fun t hf y => ?_
  blk_simp
  rw [after0_5, show (win0_5.blk t).view.emb y = ix2 (rowOf N_0 t (y 0)) (y 1) by blk_ext [idx t, rowOf]]
  exact (congrArg _ (eq_ix2 y)).trans (left5 m c hX hG hH hW hY t (y 0) (y 1))

include hX hW hY in
/-- The gradient of the gain, summed over the points. -/
theorem final6 : (dats m 0 c).arrAt 6 (cfgs 0).N
    = real2 fun (_ : Fin 1) b => ∑ a, du (Y a) W b * (X a b * rs (X a)) := by
  refine (dats m 0 c).arrAt_eq_of_covers 6 _ (by decide +kernel) fun t hf y => ?_
  blk_simp
  rw [after0_6, show (win0_6.blk t).view.emb y = ix2 0 (y 1) by blk_ext [idx t]]
  refine (congrArg _ (show y = ix2 0 (y 1) by blk_ext)).trans (acc_rows N_0
    (fun n h => (show EReal from (outsAt0 m c n h).2 (ix2 0 (y 1)))) (fun a => du (Y a) W (y 1) * (X a (y 1) * rs (X a)))
    (fun t h => ?_) (fun t h => ?_) t ((flush0_6 t).mp hf)) <;> have ht := lt_of_lt_of_eq t.isLt N_0
  · rw [outsAt0_A m c t h (by omega)]; frame_out
    exact pay3 (blk2 m c hX t) (chips (blk0 m c hY t) (blk1 m c hW t)) (y 1)
  · rw [outsAt0_B m c t h (by omega)]; frame_out
    exact (pay5 _ _ _ _ _ _).trans (congrArg _ (pay3 (blk2 m c hX t) (chips (blk0 m c hY t) (blk1 m c hW t)) (y 1)))

end run

end Cert.NorminIdeal.Value

namespace Cert.NorminRefIdeal.Read

open Cert.NorminRefIdeal Cert.Reals Cert.Chips
open Idealize.ShloMosaic TcCoe

variable {A0 A3 : FVec Ideal S4096x1024 .f32} {A1 : FVec Ideal S1024 .f32} {A2 : FVec Ideal S1024x3072 .f32}
  {A4 : FVec Ideal S4096x3072 .f32}
  {H : Fin 4096 → Fin 1024 → EReal} {X : Fin 4096 → Fin 1024 → ℝ} {G : Fin 1024 → ℝ} {W : Fin 1024 → Fin 3072 → ℝ}
  {Y : Fin 4096 → Fin 3072 → ℝ}
  (hX : ∀ a b, A0 (ix2 a b) = (X a b : EReal)) (hG : ∀ b, A1 (ix1 b) = (G b : EReal)) (hH : ∀ a b, A3 (ix2 a b) = H a b)
  (hW : ∀ a b, A2 (ix2 a b) = (W a b : EReal)) (hY : ∀ a b, A4 (ix2 a b) = (Y a b : EReal))

include hW hY in
/-- The cotangent of the normed row. -/
theorem product : val_main_v17 (F := Ideal) A2 A4 = real2 fun a => du (Y a) W := by
  funext i; idx_vars i
  show _ = ((∑ n, Y i0 n * W i1 n : ℝ) : EReal)
  pointwise [val_main_v17, hW, hY]
  simp only [← EReal.coe_mul, sum_coe]

include hX hG hH hW hY in
/-- The reference's gradient of the input. -/
theorem gradH : val_main_v38 (F := Ideal) A0 A1 A2 A3 A4
    = fun i => H (i 0) (i 1) + real2 (fun a b => rmsDx (du (Y a) W) G (X a) b) i := by
  obtain ⟨W', Y', e, h⟩ := NormRefIdeal.Read.anyH hX hG hH fun a => du (Y a) W
  refine Eq.trans ?_ h
  simp only [val_main_v38, val_main_v37, val_main_v36, val_main_v35, val_main_v34, val_main_v33, val_main_v32, val_main_v30,
    val_main_v29, val_main_v28, val_main_v26, val_main_v25, val_main_v24, val_main_v22, (product hW hY).trans e.symm]
  rfl

include hX hW hY in
/-- The reference's gradient of the gain. -/
theorem gradG : val_main_v39 (F := Ideal) A0 A2 A4
    = real2 fun (_ : Fin 1) b => ∑ a, du (Y a) W b * (X a b * rs (X a)) := by
  obtain ⟨W', Y', e, h⟩ := NormRefIdeal.Read.anyG hX fun a => du (Y a) W
  refine Eq.trans ?_ h
  simp only [val_main_v39, val_main_v23, val_main_v20, val_main_v19, val_main_v18, (product hW hY).trans e.symm]
  rfl

end Cert.NorminRefIdeal.Read

namespace Cert.Proof

open Cert.Reals
open Idealize.ShloMosaic TcCoe Idealize.SL.Sem

/-- The gradient of the input and of the gain: the kernel's are the reference's. -/
theorem algebraic_normin : Cert.algebraic_NorminIdeal_NorminRefIdeal_pre_normin_finite := by
  pair_intro
  · run_from Cert.NorminIdeal.Gen.run_main m g
  · run_from Cert.NorminRefIdeal.Value.run m' g'
    all_goals
      have h := hpre c
      choose X hX using fun a b => real_of_lt (by
        have := congrFun h.1 (ix2 a b)
        pointwise [Cert.Pre_normin_finite.fn] at this
        exact this)
      choose G hG using fun b => real_of_lt (by
        have := congrFun h.2.1 (ix1 b)
        pointwise [Cert.Pre_normin_finite.fn] at this
        exact this)
      choose W hW using fun a b => real_of_lt (by
        have := congrFun h.2.2.1 (ix2 a b)
        pointwise [Cert.Pre_normin_finite.fn] at this
        exact this)
      choose Y hY using fun a b => real_of_lt (by
        have := congrFun h.2.2.2 (ix2 a b)
        pointwise [Cert.Pre_normin_finite.fn] at this
        exact this)
    · refine (Cert.NorminRefIdeal.Read.val_main_v38_eq m' c).trans ?_
      rw [(hagree c).1, (hagree c).2.1, (hagree c).2.2.1, (hagree c).2.2.2.1, (hagree c).2.2.2.2,
        Cert.NorminRefIdeal.Read.gradH hX hG (fun _ _ => rfl) hW hY]
      exact (Cert.NorminIdeal.Value.final5 m c hX hG (fun _ _ => rfl) hW hY).symm
    · refine (Cert.NorminRefIdeal.Read.val_main_v39_eq _ _ _).trans ?_
      rw [Cert.NorminRefIdeal.Read.gradG hX hW hY]
      exact (Cert.NorminIdeal.Value.final6 m c hX hW hY).symm

end Cert.Proof

end
-- ==== Proof.NormpwClaim.lean ====
/- A projection's backward product at 2048 columns, fused with its norm's gradient: what the kernel's blocks hold,
   what the reference computes at finite arguments, and that they are one. -/
module

public import proofs.«01_k».proof.Defs
public import proofs.«01_k».proof.Proof.Norm
public import proofs.«01_k».proof.Proof.NormRef
public import proofs.«01_k».proof.Proof.Gen.NormpwIdeal.Value
public import proofs.«01_k».proof.Proof.Gen.NormpwRefIdeal.Read
public import proofs.«01_k».proof.Proof.Gen.Pre_normpw_finite

@[expose] public section

set_option maxRecDepth 16384

noncomputable section

namespace Cert.NormpwIdeal.Value

open Cert.NormpwIdeal Cert.NormpwIdeal.Gen Cert.Reals Cert.Chips Cert.NormIdeal.Value
open Idealize.ShloMosaic TcCoe Idealize.SL.Sem

/-- The backward product, chip by chip. -/
theorem chips {B0 : FVec Ideal S512x2048 .bf16} {B1 : FVec Ideal S4x1024x512 .bf16} {y : Fin 512 → Fin 2048 → ℝ} {w : Fin 1024 → Fin 2048 → ℝ}
    (h0 : ∀ r k, B0 (ix2 r k) = (y r k : EReal)) (h1 : ∀ j l k, B1 (ix3 j l k) = (w l (col rfl j k) : EReal))
    {p0 p1 p2 p3 q0 q1 q2 q3} (r : Fin 512) (l : Fin 1024) :
    k0_pay6 (F := Ideal) (cY 512 .bf16 B0 0 p0) (cW B1 0 q0) (cY 512 .bf16 B0 512 p1) (cW B1 1 q1) (cY 512 .bf16 B0 1024 p2) (cW B1 2 q2)
      (cY 512 .bf16 B0 1536 p3) (cW B1 3 q3) (ix2 r l) = (du (y r) w l : EReal) := by
  have e : 2048 = 4 * 512 := rfl
  rw [← du_chips e]
  pointwise [k0_pay6, ldY e .bf16 h0 0 0 rfl, ldY e .bf16 h0 1 512 rfl, ldY e .bf16 h0 2 1024 rfl, ldY e .bf16 h0 3 1536 rfl, ldW h1 0 0 rfl,
    ldW h1 1 1 rfl, ldW h1 2 2 rfl, ldW h1 3 3 rfl]
  simp only [← EReal.coe_mul, ← EReal.coe_add, sum_coe]

/-! ## The blocks -/

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section run

variable (m : (ℓ : Loc nD τ sig) → Buf (Elt Ideal) ℓ) (c : Dev nD)
variable {H : Fin 4096 → Fin 1024 → EReal} {X : Fin 4096 → Fin 1024 → ℝ} {G : Fin 1024 → ℝ} {W : Fin 1024 → Fin 2048 → ℝ} {Y : Fin 4096 → Fin 2048 → ℝ}
  (hX : ∀ a b, m ((c : Thread nD τ).loc main_arg0) (ix2 a b) = (X a b : EReal))
  (hG : ∀ b, m ((c : Thread nD τ).loc main_arg1) (ix1 b) = (G b : EReal))
  (hH : ∀ a b, m ((c : Thread nD τ).loc main_arg3) (ix2 a b) = H a b)
  (hW : ∀ a b, m ((c : Thread nD τ).loc main_arg2) (ix2 a b) = (W a b : EReal))
  (hY : ∀ a b, m ((c : Thread nD τ).loc main_arg4) (ix2 a b) = (Y a b : EReal))

include hY in
theorem blk0 (t : Fin cfg0.N) (r : Fin 512) (k : Fin 2048) : iblk m c 0 t (ix2 r k) = (Y (rowOf N_0 t r) k : EReal) := by
  rw [← hY]; blk_point [iblk, V, idx t, rowOf]

include hW in
theorem blk1 (t : Fin cfg0.N) (j : Fin 4) (l : Fin 1024) (k : Fin 512) :
    iblk m c 1 t (ix3 j l k) = (W l (col rfl j k) : EReal) := by
  rw [← hW]; blk_point [iblk, V, idx t, col]

include hX in
theorem blk2 (t : Fin cfg0.N) (r : Fin 512) (k : Fin 1024) : iblk m c 2 t (ix2 r k) = (X (rowOf N_0 t r) k : EReal) := by
  rw [← hX]; blk_ext [iblk, V, idx t, rowOf]

include hG in
theorem blk3 (t : Fin cfg0.N) (k : Fin 1024) : iblk m c 3 t (ix2 0 k) = (G k : EReal) := by
  rw [← hG]; blk_point [iblk, V, idx t]

include hH in
theorem blk4 (t : Fin cfg0.N) (r : Fin 512) (k : Fin 1024) : iblk m c 4 t (ix2 r k) = H (rowOf N_0 t r) k := by
  rw [← hH]; blk_ext [iblk, V, idx t, rowOf]

include hX hG hH hW hY in
theorem left5 (t : Fin cfg0.N) (r : Fin 512) (l : Fin 1024) :
    (outsAt0 m c t.val t.isLt).1 (ix2 r l) = H (rowOf N_0 t r) l + (rmsDx (du (Y (rowOf N_0 t r)) W) G (X (rowOf N_0 t r)) l : EReal) := by
  have ht := lt_of_lt_of_eq t.isLt N_0
  rw [← blk4 m c hH t]
  by_cases h : t.val % 8 = 0
  · rw [outsAt0_A m c t h (by omega)]; frame_out
    exact pay4 (blk2 m c hX t) (blk3 m c hG t) (chips (blk0 m c hY t) (blk1 m c hW t)) _ r l
  · rw [outsAt0_B m c t h (by omega)]; frame_out
    exact pay4 (blk2 m c hX t) (blk3 m c hG t) (chips (blk0 m c hY t) (blk1 m c hW t)) _ r l

include hX hG hH hW hY in
/-- The gradient of the input, whole: what came from later layers, and the norm's. -/
theorem final5 : (dats m 0 c).arrAt 5 (cfgs 0).N
    = fun i => H (i 0) (i 1) + real2 (fun a b => rmsDx (du (Y a) W) G (X a) b) i := by
  refine (dats m 0 c).arrAt_eq_of_covers 5 _ (by decide +kernel) fun t hf y => ?_
  blk_simp
  rw [after0_5, show (win0_5.blk t).view.emb y = ix2 (rowOf N_0 t (y 0)) (y 1) by blk_ext [idx t, rowOf]]
  exact (congrArg _ (eq_ix2 y)).trans (left5 m c hX hG hH hW hY t (y 0) (y 1))

include hX hW hY in
/-- The gradient of the gain, summed over the points. -/
theorem final6 : (dats m 0 c).arrAt 6 (cfgs 0).N
    = real2 fun (_ : Fin 1) b => ∑ a, du (Y a) W b * (X a b * rs (X a)) := by
  refine (dats m 0 c).arrAt_eq_of_covers 6 _ (by decide +kernel) fun t hf y => ?_
  blk_simp
  rw [after0_6, show (win0_6.blk t).view.emb y = ix2 0 (y 1) by blk_ext [idx t]]
  refine (congrArg _ (show y = ix2 0 (y 1) by blk_ext)).trans (acc_rows N_0
    (fun n h => (show EReal from (outsAt0 m c n h).2 (ix2 0 (y 1)))) (fun a => du (Y a) W (y 1) * (X a (y 1) * rs (X a)))
    (fun t h => ?_) (fun t h => ?_) t ((flush0_6 t).mp hf)) <;> have ht := lt_of_lt_of_eq t.isLt N_0
  · rw [outsAt0_A m c t h (by omega)]; frame_out
    exact pay3 (blk2 m c hX t) (chips (blk0 m c hY t) (blk1 m c hW t)) (y 1)
  · rw [outsAt0_B m c t h (by omega)]; frame_out
    exact (pay5 _ _ _ _ _ _).trans (congrArg _ (pay3 (blk2 m c hX t) (chips (blk0 m c hY t) (blk1 m c hW t)) (y 1)))

end run

end Cert.NormpwIdeal.Value

namespace Cert.NormpwRefIdeal.Read

open Cert.NormpwRefIdeal Cert.Reals Cert.Chips
open Idealize.ShloMosaic TcCoe

variable {A0 A3 : FVec Ideal S4096x1024 .f32} {A1 : FVec Ideal S1024 .f32} {A2 : FVec Ideal S1024x2048 .f32}
  {A4 : FVec Ideal S4096x2048 .f32}
  {H : Fin 4096 → Fin 1024 → EReal} {X : Fin 4096 → Fin 1024 → ℝ} {G : Fin 1024 → ℝ} {W : Fin 1024 → Fin 2048 → ℝ}
  {Y : Fin 4096 → Fin 2048 → ℝ}
  (hX : ∀ a b, A0 (ix2 a b) = (X a b : EReal)) (hG : ∀ b, A1 (ix1 b) = (G b : EReal)) (hH : ∀ a b, A3 (ix2 a b) = H a b)
  (hW : ∀ a b, A2 (ix2 a b) = (W a b : EReal)) (hY : ∀ a b, A4 (ix2 a b) = (Y a b : EReal))

include hW hY in
/-- The cotangent of the normed row. -/
theorem product : val_main_v17 (F := Ideal) A2 A4 = real2 fun a => du (Y a) W := by
  funext i; idx_vars i
  show _ = ((∑ n, Y i0 n * W i1 n : ℝ) : EReal)
  pointwise [val_main_v17, hW, hY]
  simp only [← EReal.coe_mul, sum_coe]

include hX hG hH hW hY in
/-- The reference's gradient of the input. -/
theorem gradH : val_main_v38 (F := Ideal) A0 A1 A2 A3 A4
    = fun i => H (i 0) (i 1) + real2 (fun a b => rmsDx (du (Y a) W) G (X a) b) i := by
  obtain ⟨W', Y', e, h⟩ := NormRefIdeal.Read.anyH hX hG hH fun a => du (Y a) W
  refine Eq.trans ?_ h
  simp only [val_main_v38, val_main_v37, val_main_v36, val_main_v35, val_main_v34, val_main_v33, val_main_v32, val_main_v30,
    val_main_v29, val_main_v28, val_main_v26, val_main_v25, val_main_v24, val_main_v22, (product hW hY).trans e.symm]
  rfl

include hX hW hY in
/-- The reference's gradient of the gain. -/
theorem gradG : val_main_v39 (F := Ideal) A0 A2 A4
    = real2 fun (_ : Fin 1) b => ∑ a, du (Y a) W b * (X a b * rs (X a)) := by
  obtain ⟨W', Y', e, h⟩ := NormRefIdeal.Read.anyG hX fun a => du (Y a) W
  refine Eq.trans ?_ h
  simp only [val_main_v39, val_main_v23, val_main_v20, val_main_v19, val_main_v18, (product hW hY).trans e.symm]
  rfl

end Cert.NormpwRefIdeal.Read

namespace Cert.Proof

open Cert.Reals
open Idealize.ShloMosaic TcCoe Idealize.SL.Sem

/-- The gradient of the input and of the gain: the kernel's are the reference's. -/
theorem algebraic_normpw : Cert.algebraic_NormpwIdeal_NormpwRefIdeal_pre_normpw_finite := by
  pair_intro
  · run_from Cert.NormpwIdeal.Gen.run_main m g
  · run_from Cert.NormpwRefIdeal.Value.run m' g'
    all_goals
      have h := hpre c
      choose X hX using fun a b => real_of_lt (by
        have := congrFun h.1 (ix2 a b)
        pointwise [Cert.Pre_normpw_finite.fn] at this
        exact this)
      choose G hG using fun b => real_of_lt (by
        have := congrFun h.2.1 (ix1 b)
        pointwise [Cert.Pre_normpw_finite.fn] at this
        exact this)
      choose W hW using fun a b => real_of_lt (by
        have := congrFun h.2.2.1 (ix2 a b)
        pointwise [Cert.Pre_normpw_finite.fn] at this
        exact this)
      choose Y hY using fun a b => real_of_lt (by
        have := congrFun h.2.2.2 (ix2 a b)
        pointwise [Cert.Pre_normpw_finite.fn] at this
        exact this)
    · refine (Cert.NormpwRefIdeal.Read.val_main_v38_eq m' c).trans ?_
      rw [(hagree c).1, (hagree c).2.1, (hagree c).2.2.1, (hagree c).2.2.2.1, (hagree c).2.2.2.2,
        Cert.NormpwRefIdeal.Read.gradH hX hG (fun _ _ => rfl) hW hY]
      exact (Cert.NormpwIdeal.Value.final5 m c hX hG (fun _ _ => rfl) hW hY).symm
    · refine (Cert.NormpwRefIdeal.Read.val_main_v39_eq _ _ _).trans ?_
      rw [Cert.NormpwRefIdeal.Read.gradG hX hW hY]
      exact (Cert.NormpwIdeal.Value.final6 m c hX hW hY).symm

end Cert.Proof

end
-- ==== Proof.ColbClaim.lean ====
/- A column-sharded projection with a bias, at 2048 columns: the normed rows and their product, that the kernel leaves
   what the reference computes. -/
module

public import proofs.«01_k».proof.Defs
public import proofs.«01_k».proof.Proof.Col
public import proofs.«01_k».proof.Proof.Gen.ColbIdeal.Value
public import proofs.«01_k».proof.Proof.Gen.ColbRefIdeal.Read

@[expose] public section

set_option maxRecDepth 16384

noncomputable section

namespace Cert.ColbIdeal.Value

open Cert.ColbIdeal Cert.ColbIdeal.Gen Cert.Chips Cert.Reals Cert.ColIdeal.Value
open Idealize.ShloMosaic TcCoe Idealize.SL.Sem
open Pipeline (Dat)

theorem pay_bias {B0 : FVec Ideal S512x1024 .f32} {B1 : FVec Ideal S1x1024 .f32} {B2 : FVec Ideal S1x1024x512 .bf16} {B3 : FVec Ideal S1x512 .f32}
    {x : Fin 512 → Fin 1024 → EReal} {g : Fin 1024 → EReal} {w : Fin 1024 → Fin 512 → EReal} {b : Fin 512 → EReal}
    (h0 : ∀ r k, B0 (ix2 r k) = x r k) (h1 : ∀ k, B1 (ix2 0 k) = g k) (h2 : ∀ l k, B2 (ix3 0 l k) = w l k) (h3 : ∀ k, B3 (ix2 0 k) = b k)
    (r k : Fin 512) : k0_pay4 (F := Ideal) B0 B1 B2 B3 (ix2 r k) = dot (x r) g (fun l => w l k) + b k := by
  have h (l : Fin 1024) : k0_pay3 (F := Ideal) B0 B1 (ix2 r l) = unit (x r) g l := pay_unit h0 h1 r l
  pointwise [k0_pay4, h, h2, h3]
  rfl

theorem pay6 (x0 x1 x2 x3) : k0_pay6 (F := Ideal) x0 x1 x2 x3 = k0_pay3 x0 x1 := by
  unfold k0_pay6
  rw [View.ld_unit_lit _ _ (by decide), View.ld_unit_lit _ _ (by decide)]

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)
variable {X : Fin 4096 → Fin 1024 → EReal} {G : Fin 1024 → EReal} {W : Fin 1024 → Fin 2048 → EReal} {P : Fin 2048 → EReal}
  (hX : ∀ a b, m ((c : Thread nD τ).loc main_arg0) (ix2 a b) = X a b)
  (hG : ∀ b, m ((c : Thread nD τ).loc main_arg1) (ix1 b) = G b)
  (hW : ∀ a b, m ((c : Thread nD τ).loc main_arg2) (ix2 a b) = W a b)
  (hP : ∀ b, m ((c : Thread nD τ).loc main_arg3) (ix1 b) = P b)

include hX in
theorem blk0 (t : Fin cfg0.N) (r : Fin 512) (k : Fin 1024) : iblk m c 0 t (ix2 r k) = X (rowOf N_0 t r) k := by
  rw [← hX]; blk_ext [iblk, V, idx t, rowOf]

include hG in
theorem blk1 (t : Fin cfg0.N) (k : Fin 1024) : iblk m c 1 t (ix2 0 k) = G k := by
  rw [← hG]; blk_point [iblk, V, idx t]

include hW in
theorem blk2 (t : Fin cfg0.N) (j : Fin 4) (l : Fin 1024) (k : Fin 512) : iblk m c 2 t (ix3 j l k) = W l (col rfl j k) := by
  rw [← hW]; blk_point [iblk, V, idx t, col]

include hP in
theorem blk3 (t : Fin cfg0.N) (z : Fin 1) (k : Fin 2048) : iblk m c 3 t (ix2 z k) = P k := by
  obtain rfl : z = 0 := Subsingleton.elim _ _
  rw [← hP]; blk_point [iblk, V, idx t]

include hX hG in
/-- The normed rows, whole. -/
theorem final4 : (dats m 0 c).arrAt 4 (cfgs 0).N = fun i => unit (X (i 0)) G (i 1) := by
  refine (dats m 0 c).arrAt_eq_of_covers 4 _ (by decide +kernel) fun t hf y => ?_
  blk_simp
  rw [after0_4, show (win0_4.blk t).view.emb y = ix2 (rowOf N_0 t (y 0)) (y 1) by blk_ext [idx t, rowOf]]
  refine (congrArg _ (eq_ix2 y)).trans ?_
  frame_out
  exact pay_unit (blk0 m c hX t) (blk1 m c hG t) (y 0) (y 1)

include hX hG hW hP in
/-- A chip's columns of a block. -/
theorem chip (t : Fin cfg0.N) (r : Fin 512) (b : Fin 2048) (j : Fin 4) (o p : ℕ) (ho : o = j.val) (hp : p = j.val * 512) (inb inb')
    (x0 x1 : Fin 512) (h0 : r.val = x0.val) (h1 : b.val = p + x1.val) :
    k0_pay4 (F := Ideal) (iblk m c 0 t) (iblk m c 1 t) (cW (iblk m c 2 t) o inb) (cY 512 .f32 (iblk m c 3 t) p inb') (ix2 x0 x1)
      = dot (X (rowOf N_0 t r)) G (fun l => W l b) + P b := by
  obtain rfl : r = x0 := Fin.ext h0
  obtain rfl : b = col (K := 512) rfl j x1 := Fin.ext (h1.trans (by rw [hp]; rfl))
  exact pay_bias (blk0 m c hX t) (blk1 m c hG t) (ldW (blk2 m c hW t) j o ho inb) (ldY rfl .f32 (blk3 m c hP t) j p hp inb' 0) r x1

include hX hG hW hP in
theorem left5 (t : Fin cfg0.N) (r : Fin 512) (b : Fin 2048) :
    out0_5 (F := Ideal) (iblk m c 0 t) (iblk m c 1 t) (iblk m c 2 t) (iblk m c 3 t) (ix2 r b)
      = dot (X (rowOf N_0 t r)) G (fun l => W l b) + P b := by
  have key := chip m c hX hG hW hP t r b
  frame_out
  canon_tiles x h
  · idx_vars x
    rw [pay6]; exact key 3 3 _ rfl rfl _ _ x0 x1 (by omega) (by omega)
  · idx_vars x
    rw [pay6]; exact key 2 2 _ rfl rfl _ _ x0 x1 (by omega) (by omega)
  · idx_vars x
    exact key 1 1 _ rfl rfl _ _ x0 x1 (by omega) (by omega)
  · idx_vars x
    exact key 0 0 _ rfl rfl _ _ x0 x1 (by omega) (by omega)

include hX hG hW hP in
/-- The product and its bias, whole. -/
theorem final5 : (dats m 0 c).arrAt 5 (cfgs 0).N = fun i => dot (X (i 0)) G (fun l => W l (i 1)) + P (i 1) := by
  refine (dats m 0 c).arrAt_eq_of_covers 5 _ (by decide +kernel) fun t hf y => ?_
  blk_simp
  rw [after0_5, show (win0_5.blk t).view.emb y = ix2 (rowOf N_0 t (y 0)) (y 1) by blk_ext [idx t, rowOf]]
  exact (congrArg _ (eq_ix2 y)).trans (left5 m c hX hG hW hP t (y 0) (y 1))

end Cert.ColbIdeal.Value

namespace Cert.ColbRefIdeal.Read

open Cert.ColbRefIdeal Cert.ColIdeal.Value
open Idealize.ShloMosaic TcCoe

theorem result1 {A0 : FVec Ideal S4096x1024 .f32} {A1 : FVec Ideal S1024 .f32} {A2 : FVec Ideal S1024x2048 .f32} {A3 : FVec Ideal S2048 .f32}
    {X : Fin 4096 → Fin 1024 → EReal} {G : Fin 1024 → EReal} {W : Fin 1024 → Fin 2048 → EReal} {P : Fin 2048 → EReal}
    (hX : ∀ a b, A0 (ix2 a b) = X a b) (hG : ∀ b, A1 (ix1 b) = G b) (hW : ∀ a b, A2 (ix2 a b) = W a b) (hP : ∀ b, A3 (ix1 b) = P b) :
    val_main_v18 (F := Ideal) A0 A1 A2 A3 = fun i => dot (X (i 0)) G (fun l => W l (i 1)) + P (i 1) := by
  funext i; idx_vars i
  show _ = dot (X i0) G (fun l => W l i1) + P i1
  have h (a : Fin 4096) (b : Fin 1024) : val_main_v12 (F := Ideal) A0 A1 (ix2 a b) = unit (X a) G b := ColRefIdeal.Read.unit_eq hX hG a b
  pointwise [val_main_v18, val_main_v17, val_main_v16, val_main_v15, val_main_v14, h, hW, hP]
  rfl

end Cert.ColbRefIdeal.Read

namespace Cert.Proof

open Idealize.ShloMosaic TcCoe Idealize.SL.Sem

/-- The normed rows and their product with its bias: the kernel's are the reference's. -/
theorem algebraic_colb : Cert.algebraic_ColbIdeal_ColbRefIdeal := by
  pair_intro
  · run_from Cert.ColbIdeal.Gen.run_main m g
  · run_from Cert.ColbRefIdeal.Value.run m' g'
    · exact (Cert.ColRefIdeal.Read.result0 (fun _ _ => rfl) (fun _ => rfl)).trans
        (Cert.ColbIdeal.Value.final4 m c (fun _ _ => rfl) (fun _ => rfl)).symm
    · refine (Cert.ColbRefIdeal.Read.val_main_v18_eq _ _ _ _).trans ?_
      rw [Cert.ColbRefIdeal.Read.result1 (fun _ _ => rfl) (fun _ => rfl) (fun _ _ => rfl) (fun _ => rfl)]
      exact (Cert.ColbIdeal.Value.final5 m c (fun _ _ => rfl) (fun _ => rfl) (fun _ _ => rfl) (fun _ => rfl)).symm

end Cert.Proof

end
-- ==== Proof.lean ====
/- The claims of the package, put together from the modules under `Proof/`. -/
module

public import proofs.«01_k».proof.Proof.Gen.Loss.Frame
public import proofs.«01_k».proof.Proof.LossClaim
public import proofs.«01_k».proof.Proof.Gen.Norm.Frame
public import proofs.«01_k».proof.Proof.NormClaim
public import proofs.«01_k».proof.Proof.Gen.Gate.Frame
public import proofs.«01_k».proof.Proof.GateClaim
public import proofs.«01_k».proof.Proof.Gen.Cout.Frame
public import proofs.«01_k».proof.Proof.CoutClaim
public import proofs.«01_k».proof.Proof.Gen.Grp.Frame
public import proofs.«01_k».proof.Proof.GrpClaim
public import proofs.«01_k».proof.Proof.Gen.Pool.Frame
public import proofs.«01_k».proof.Proof.PoolClaim
public import proofs.«01_k».proof.Proof.Gen.Sconv.Frame
public import proofs.«01_k».proof.Proof.SconvClaim
public import proofs.«01_k».proof.Proof.SconvBits
public import proofs.«01_k».proof.Proof.Gen.Up.Frame
public import proofs.«01_k».proof.Proof.UpClaim
public import proofs.«01_k».proof.Proof.UpBits
public import proofs.«01_k».proof.Proof.Gen.Cmid.Frame
public import proofs.«01_k».proof.Proof.CmidClaim
public import proofs.«01_k».proof.Proof.CmidBits
public import proofs.«01_k».proof.Proof.Gen.Cmidf.Frame
public import proofs.«01_k».proof.Proof.CmidfClaim
public import proofs.«01_k».proof.Proof.CmidfBits
public import proofs.«01_k».proof.Proof.Gen.Col.Frame
public import proofs.«01_k».proof.Proof.ColClaim
public import proofs.«01_k».proof.Proof.Gen.Poolf.Frame
public import proofs.«01_k».proof.Proof.PoolfClaim
public import proofs.«01_k».proof.Proof.Gen.Sconvf.Frame
public import proofs.«01_k».proof.Proof.SconvfClaim
public import proofs.«01_k».proof.Proof.SconvfBits
public import proofs.«01_k».proof.Proof.Gen.Normin.Frame
public import proofs.«01_k».proof.Proof.NorminClaim
public import proofs.«01_k».proof.Proof.Gen.Normpw.Frame
public import proofs.«01_k».proof.Proof.NormpwClaim
public import proofs.«01_k».proof.Proof.Gen.Colb.Frame
public import proofs.«01_k».proof.Proof.ColbClaim
public import Idealize.ShloMosaic.Adequacy
public import Idealize.ShloMosaic.Init
public import Idealize.ShloMosaic.Lib.Quiescent

@[expose] public section

noncomputable section

namespace Cert.Proof

open Idealize.ShloMosaic Idealize.SL.Sem

/-! Each reference ends, and leaves no semaphore raised: `frame_` and its name. -/

theorem frame_Loss : quiescent_LossRefIdeal := fun m g _ => by
  run_from LossRefIdeal.Value.run m g
  · exact fun _ => ⟨trivial, trivial, trivial⟩
  · exact sem_eq_zero_of_no_sems (by decide) _

theorem frame_Norm : quiescent_NormRefIdeal := fun m g _ => by
  run_from NormRefIdeal.Value.run m g
  · exact fun _ => ⟨trivial, trivial, trivial, trivial, trivial⟩
  · exact sem_eq_zero_of_no_sems (by decide) _

theorem frame_Gate : quiescent_GateRefIdeal := fun m g _ => by
  run_from GateRefIdeal.Value.run m g
  · exact fun _ => ⟨trivial, trivial, trivial⟩
  · exact sem_eq_zero_of_no_sems (by decide) _

theorem frame_Cout : quiescent_CoutRefIdeal := fun m g _ => by
  run_from CoutRefIdeal.Value.run m g
  · exact fun _ => ⟨trivial, trivial, trivial, trivial, trivial⟩
  · exact sem_eq_zero_of_no_sems (by decide) _

theorem frame_Grp : quiescent_GrpRefIdeal := fun m g _ => by
  run_from GrpRefIdeal.Value.run m g
  · exact fun _ => ⟨trivial, trivial, trivial, trivial⟩
  · exact sem_eq_zero_of_no_sems (by decide) _

theorem frame_Pool : quiescent_PoolRefIdeal := fun m g _ => by
  run_from PoolRefIdeal.Value.run m g
  · exact fun _ => ⟨trivial, trivial, trivial, trivial⟩
  · exact sem_eq_zero_of_no_sems (by decide) _

theorem frame_Sconv : quiescent_SconvRefIdeal := fun m g _ => by
  run_from SconvRefIdeal.Value.run m g
  · exact fun _ => ⟨trivial, trivial, trivial⟩
  · exact sem_eq_zero_of_no_sems (by decide) _

theorem frame_Up : quiescent_UpRefIdeal := fun m g _ => by
  run_from UpRefIdeal.Value.run m g
  · exact fun _ => ⟨trivial, trivial, trivial⟩
  · exact sem_eq_zero_of_no_sems (by decide) _

theorem frame_Cmid : quiescent_CmidRefIdeal := fun m g _ => by
  run_from CmidRefIdeal.Value.run m g
  · exact fun _ => ⟨trivial, trivial, trivial⟩
  · exact sem_eq_zero_of_no_sems (by decide) _

theorem frame_Cmidf : quiescent_CmidfRefIdeal := fun m g _ => by
  run_from CmidfRefIdeal.Value.run m g
  · exact fun _ => ⟨trivial, trivial, trivial, trivial, trivial⟩
  · exact sem_eq_zero_of_no_sems (by decide) _

theorem frame_Col : quiescent_ColRefIdeal := fun m g _ => by
  run_from ColRefIdeal.Value.run m g
  · exact fun _ => ⟨trivial, trivial, trivial⟩
  · exact sem_eq_zero_of_no_sems (by decide) _

theorem frame_Poolf : quiescent_PoolfRefIdeal := fun m g _ => by
  run_from PoolfRefIdeal.Value.run m g
  · exact fun _ => ⟨trivial, trivial, trivial, trivial⟩
  · exact sem_eq_zero_of_no_sems (by decide) _

theorem frame_Sconvf : quiescent_SconvfRefIdeal := fun m g _ => by
  run_from SconvfRefIdeal.Value.run m g
  · exact fun _ => ⟨trivial, trivial⟩
  · exact sem_eq_zero_of_no_sems (by decide) _

theorem frame_Normin : quiescent_NorminRefIdeal := fun m g _ => by
  run_from NorminRefIdeal.Value.run m g
  · exact fun _ => ⟨trivial, trivial, trivial, trivial, trivial⟩
  · exact sem_eq_zero_of_no_sems (by decide) _

theorem frame_Normpw : quiescent_NormpwRefIdeal := fun m g _ => by
  run_from NormpwRefIdeal.Value.run m g
  · exact fun _ => ⟨trivial, trivial, trivial, trivial, trivial⟩
  · exact sem_eq_zero_of_no_sems (by decide) _

theorem frame_Colb : quiescent_ColbRefIdeal := fun m g _ => by
  run_from ColbRefIdeal.Value.run m g
  · exact fun _ => ⟨trivial, trivial, trivial, trivial⟩
  · exact sem_eq_zero_of_no_sems (by decide) _

theorem claim : Cert.Claim := ⟨Loss.Gen.facts,
  LossIdeal.Gen.facts,
  LossRefIdeal.Gen.facts,
  Norm.Gen.facts,
  NormIdeal.Gen.facts,
  NormRefIdeal.Gen.facts,
  Gate.Gen.facts,
  GateIdeal.Gen.facts,
  GateRefIdeal.Gen.facts,
  Cout.Gen.facts,
  CoutIdeal.Gen.facts,
  CoutRefIdeal.Gen.facts,
  Grp.Gen.facts,
  GrpIdeal.Gen.facts,
  GrpRefIdeal.Gen.facts,
  Pool.Gen.facts,
  PoolIdeal.Gen.facts,
  PoolRefIdeal.Gen.facts,
  Sconv.Gen.facts,
  SconvIdeal.Gen.facts,
  SconvRefIdeal.Gen.facts,
  Up.Gen.facts,
  UpIdeal.Gen.facts,
  UpRefIdeal.Gen.facts,
  Cmid.Gen.facts,
  CmidIdeal.Gen.facts,
  CmidRefIdeal.Gen.facts,
  Cmidf.Gen.facts,
  CmidfIdeal.Gen.facts,
  CmidfRefIdeal.Gen.facts,
  Col.Gen.facts,
  ColIdeal.Gen.facts,
  ColRefIdeal.Gen.facts,
  Poolf.Gen.facts,
  PoolfIdeal.Gen.facts,
  PoolfRefIdeal.Gen.facts,
  Sconvf.Gen.facts,
  SconvfIdeal.Gen.facts,
  SconvfRefIdeal.Gen.facts,
  Normin.Gen.facts,
  NorminIdeal.Gen.facts,
  NorminRefIdeal.Gen.facts,
  Normpw.Gen.facts,
  NormpwIdeal.Gen.facts,
  NormpwRefIdeal.Gen.facts,
  Colb.Gen.facts,
  ColbIdeal.Gen.facts,
  ColbRefIdeal.Gen.facts,
  Pre_loss_finite.Gen.facts,
  Pre_norm_finite.Gen.facts,
  Pre_gate_finite.Gen.facts,
  Pre_cout_finite.Gen.facts,
  Pre_pool_finite.Gen.facts,
  Pre_up_finite.Gen.facts,
  Pre_poolf_finite.Gen.facts,
  Pre_normin_finite.Gen.facts,
  Pre_normpw_finite.Gen.facts,
  fun m g _ => Loss.Gen.frame m g,
  fun m g _ => LossIdeal.Gen.frame m g,
  fun m g _ => LossIdeal.Gen.frame m g,
  frame_Loss,
  fun m g _ => frame_Loss m g trivial,
  fun m g _ => Norm.Gen.frame m g,
  fun m g _ => NormIdeal.Gen.frame m g,
  fun m g _ => NormIdeal.Gen.frame m g,
  frame_Norm,
  fun m g _ => frame_Norm m g trivial,
  fun m g _ => Gate.Gen.frame m g,
  fun m g _ => GateIdeal.Gen.frame m g,
  fun m g _ => GateIdeal.Gen.frame m g,
  frame_Gate,
  fun m g _ => frame_Gate m g trivial,
  fun m g _ => Cout.Gen.frame m g,
  fun m g _ => CoutIdeal.Gen.frame m g,
  fun m g _ => CoutIdeal.Gen.frame m g,
  frame_Cout,
  fun m g _ => frame_Cout m g trivial,
  fun m g _ => Grp.Gen.frame m g,
  fun m g _ => GrpIdeal.Gen.frame m g,
  frame_Grp,
  fun m g _ => Pool.Gen.frame m g,
  fun m g _ => PoolIdeal.Gen.frame m g,
  fun m g _ => PoolIdeal.Gen.frame m g,
  frame_Pool,
  fun m g _ => frame_Pool m g trivial,
  fun m g _ => Sconv.frame_bits m g trivial,
  fun m g _ => Sconv.frame_ideal (F := Ideal) m g,
  frame_Sconv,
  fun m g _ => Up.frame_bits m g trivial,
  fun m g _ => Up.frame_ideal (F := Ideal) m g,
  fun m g _ => Up.frame_ideal (F := Ideal) m g,
  frame_Up,
  fun m g _ => frame_Up m g trivial,
  fun m g _ => Cmid.frame_bits m g trivial,
  fun m g _ => Cmid.frame_ideal (F := Ideal) m g,
  frame_Cmid,
  fun m g _ => Cmidf.frame_bits m g trivial,
  fun m g _ => Cmidf.frame_ideal (F := Ideal) m g,
  frame_Cmidf,
  fun m g _ => Col.Gen.frame m g,
  fun m g _ => ColIdeal.Gen.frame m g,
  frame_Col,
  fun m g _ => Poolf.Gen.frame m g,
  fun m g _ => PoolfIdeal.Gen.frame m g,
  fun m g _ => PoolfIdeal.Gen.frame m g,
  frame_Poolf,
  fun m g _ => frame_Poolf m g trivial,
  fun m g _ => Sconvf.frame_bits m g trivial,
  fun m g _ => Sconvf.frame_ideal (F := Ideal) m g,
  frame_Sconvf,
  fun m g _ => Normin.Gen.frame m g,
  fun m g _ => NorminIdeal.Gen.frame m g,
  fun m g _ => NorminIdeal.Gen.frame m g,
  frame_Normin,
  fun m g _ => frame_Normin m g trivial,
  fun m g _ => Normpw.Gen.frame m g,
  fun m g _ => NormpwIdeal.Gen.frame m g,
  fun m g _ => NormpwIdeal.Gen.frame m g,
  frame_Normpw,
  fun m g _ => frame_Normpw m g trivial,
  fun m g _ => Colb.Gen.frame m g,
  fun m g _ => ColbIdeal.Gen.frame m g,
  frame_Colb,
  trivial,
  algebraic_loss,
  trivial,
  algebraic_norm,
  trivial,
  algebraic_gate,
  trivial,
  algebraic_cout,
  trivial,
  algebraic_grp,
  trivial,
  algebraic_pool,
  trivial,
  algebraic_sconv,
  trivial,
  algebraic_up,
  trivial,
  algebraic_cmid,
  trivial,
  algebraic_cmidf,
  trivial,
  algebraic_col,
  trivial,
  algebraic_poolf,
  trivial,
  algebraic_sconvf,
  trivial,
  algebraic_normin,
  trivial,
  algebraic_normpw,
  trivial,
  algebraic_colb⟩

end Cert.Proof

end
